-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelInF (m : (ℓ : Loc Cert.KernelInF.nD Cert.KernelInF.τ Cert.KernelInF.sig) → Buf (Elt Bits) ℓ) : Prop :=
  True

def Pre_KernelInFIdeal (m : (ℓ : Loc Cert.KernelInFIdeal.nD Cert.KernelInFIdeal.τ Cert.KernelInFIdeal.sig) → Buf (Elt Ideal) ℓ) : Prop :=
  True

def Pre_ReferenceInFIdeal (m : (ℓ : Loc Cert.ReferenceInFIdeal.nD Cert.ReferenceInFIdeal.τ Cert.ReferenceInFIdeal.sig) → Buf (Elt Ideal) ℓ) : Prop :=
  True

def Pre_KernelInDa (m : (ℓ : Loc Cert.KernelInDa.nD Cert.KernelInDa.τ Cert.KernelInDa.sig) → Buf (Elt Bits) ℓ) : Prop :=
  True

def Pre_KernelInDaIdeal (m : (ℓ : Loc Cert.KernelInDaIdeal.nD Cert.KernelInDaIdeal.τ Cert.KernelInDaIdeal.sig) → Buf (Elt Ideal) ℓ) : Prop :=
  True

def Pre_ReferenceInDaIdeal (m : (ℓ : Loc Cert.ReferenceInDaIdeal.nD Cert.ReferenceInDaIdeal.τ Cert.ReferenceInDaIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelUpF (m : (ℓ : Loc Cert.KernelUpF.nD Cert.KernelUpF.τ Cert.KernelUpF.sig) → Buf (Elt Bits) ℓ) : Prop :=
  True

def Pre_KernelUpFIdeal (m : (ℓ : Loc Cert.KernelUpFIdeal.nD Cert.KernelUpFIdeal.τ Cert.KernelUpFIdeal.sig) → Buf (Elt Ideal) ℓ) : Prop :=
  True

def Pre_ReferenceUpFIdeal (m : (ℓ : Loc Cert.ReferenceUpFIdeal.nD Cert.ReferenceUpFIdeal.τ Cert.ReferenceUpFIdeal.sig) → Buf (Elt Ideal) ℓ) : Prop :=
  True

def Pre_KernelUpDa (m : (ℓ : Loc Cert.KernelUpDa.nD Cert.KernelUpDa.τ Cert.KernelUpDa.sig) → Buf (Elt Bits) ℓ) : Prop :=
  True

def Pre_KernelUpDaIdeal (m : (ℓ : Loc Cert.KernelUpDaIdeal.nD Cert.KernelUpDaIdeal.τ Cert.KernelUpDaIdeal.sig) → Buf (Elt Ideal) ℓ) : Prop :=
  True

def Pre_ReferenceUpDaIdeal (m : (ℓ : Loc Cert.ReferenceUpDaIdeal.nD Cert.ReferenceUpDaIdeal.τ Cert.ReferenceUpDaIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelDownF (m : (ℓ : Loc Cert.KernelDownF.nD Cert.KernelDownF.τ Cert.KernelDownF.sig) → Buf (Elt Bits) ℓ) : Prop :=
  True

def Pre_KernelDownFIdeal (m : (ℓ : Loc Cert.KernelDownFIdeal.nD Cert.KernelDownFIdeal.τ Cert.KernelDownFIdeal.sig) → Buf (Elt Ideal) ℓ) : Prop :=
  True

def Pre_ReferenceDownFIdeal (m : (ℓ : Loc Cert.ReferenceDownFIdeal.nD Cert.ReferenceDownFIdeal.τ Cert.ReferenceDownFIdeal.sig) → Buf (Elt Ideal) ℓ) : Prop :=
  True

def Pre_KernelDownDa (m : (ℓ : Loc Cert.KernelDownDa.nD Cert.KernelDownDa.τ Cert.KernelDownDa.sig) → Buf (Elt Bits) ℓ) : Prop :=
  True

def Pre_KernelDownDaIdeal (m : (ℓ : Loc Cert.KernelDownDaIdeal.nD Cert.KernelDownDaIdeal.τ Cert.KernelDownDaIdeal.sig) → Buf (Elt Ideal) ℓ) : Prop :=
  True

def Pre_ReferenceDownDaIdeal (m : (ℓ : Loc Cert.ReferenceDownDaIdeal.nD Cert.ReferenceDownDaIdeal.τ Cert.ReferenceDownDaIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelOutF (m : (ℓ : Loc Cert.KernelOutF.nD Cert.KernelOutF.τ Cert.KernelOutF.sig) → Buf (Elt Bits) ℓ) : Prop :=
  True

def Pre_KernelOutFIdeal (m : (ℓ : Loc Cert.KernelOutFIdeal.nD Cert.KernelOutFIdeal.τ Cert.KernelOutFIdeal.sig) → Buf (Elt Ideal) ℓ) : Prop :=
  True

def Pre_ReferenceOutFIdeal (m : (ℓ : Loc Cert.ReferenceOutFIdeal.nD Cert.ReferenceOutFIdeal.τ Cert.ReferenceOutFIdeal.sig) → Buf (Elt Ideal) ℓ) : Prop :=
  True

def Pre_KernelOutDa (m : (ℓ : Loc Cert.KernelOutDa.nD Cert.KernelOutDa.τ Cert.KernelOutDa.sig) → Buf (Elt Bits) ℓ) : Prop :=
  True

def Pre_KernelOutDaIdeal (m : (ℓ : Loc Cert.KernelOutDaIdeal.nD Cert.KernelOutDaIdeal.τ Cert.KernelOutDaIdeal.sig) → Buf (Elt Ideal) ℓ) : Prop :=
  True

def Pre_ReferenceOutDaIdeal (m : (ℓ : Loc Cert.ReferenceOutDaIdeal.nD Cert.ReferenceOutDaIdeal.τ Cert.ReferenceOutDaIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelAttnF (m : (ℓ : Loc Cert.KernelAttnF.nD Cert.KernelAttnF.τ Cert.KernelAttnF.sig) → Buf (Elt Bits) ℓ) : Prop :=
  True

def Pre_KernelAttnFIdeal (m : (ℓ : Loc Cert.KernelAttnFIdeal.nD Cert.KernelAttnFIdeal.τ Cert.KernelAttnFIdeal.sig) → Buf (Elt Ideal) ℓ) : Prop :=
  True

def Pre_KernelAttnFIdeal_finite_qk_f [hPre_finite_qk_f : Cert.Pre_finite_qk_f.Facts] (m : (ℓ : Loc Cert.KernelAttnFIdeal.nD Cert.KernelAttnFIdeal.τ Cert.KernelAttnFIdeal.sig) → Buf (Elt Ideal) ℓ) : Prop :=
  ∀ c : Dev Cert.KernelAttnFIdeal.nD,
    (Cert.Pre_finite_qk_f.fn (F := Ideal) (m ((c.tc : Thread Cert.KernelAttnFIdeal.nD Cert.KernelAttnFIdeal.τ).loc Cert.KernelAttnFIdeal.main_arg0)) (m ((c.tc : Thread Cert.KernelAttnFIdeal.nD Cert.KernelAttnFIdeal.τ).loc Cert.KernelAttnFIdeal.main_arg1)) (m ((c.tc : Thread Cert.KernelAttnFIdeal.nD Cert.KernelAttnFIdeal.τ).loc Cert.KernelAttnFIdeal.main_arg2))) = (fun _ => 1#1)

def Pre_ReferenceAttnFIdeal (m : (ℓ : Loc Cert.ReferenceAttnFIdeal.nD Cert.ReferenceAttnFIdeal.τ Cert.ReferenceAttnFIdeal.sig) → Buf (Elt Ideal) ℓ) : Prop :=
  True

def Pre_ReferenceAttnFIdeal_finite_qk_f [hPre_finite_qk_f : Cert.Pre_finite_qk_f.Facts] (m : (ℓ : Loc Cert.ReferenceAttnFIdeal.nD Cert.ReferenceAttnFIdeal.τ Cert.ReferenceAttnFIdeal.sig) → Buf (Elt Ideal) ℓ) : Prop :=
  ∀ c : Dev Cert.ReferenceAttnFIdeal.nD,
    (Cert.Pre_finite_qk_f.fn (F := Ideal) (m ((c.tc : Thread Cert.ReferenceAttnFIdeal.nD Cert.ReferenceAttnFIdeal.τ).loc Cert.ReferenceAttnFIdeal.main_arg0)) (m ((c.tc : Thread Cert.ReferenceAttnFIdeal.nD Cert.ReferenceAttnFIdeal.τ).loc Cert.ReferenceAttnFIdeal.main_arg1)) (m ((c.tc : Thread Cert.ReferenceAttnFIdeal.nD Cert.ReferenceAttnFIdeal.τ).loc Cert.ReferenceAttnFIdeal.main_arg2))) = (fun _ => 1#1)

def Pre_KernelMergeF (m : (ℓ : Loc Cert.KernelMergeF.nD Cert.KernelMergeF.τ Cert.KernelMergeF.sig) → Buf (Elt Bits) ℓ) : Prop :=
  True

def Pre_KernelMergeFIdeal (m : (ℓ : Loc Cert.KernelMergeFIdeal.nD Cert.KernelMergeFIdeal.τ Cert.KernelMergeFIdeal.sig) → Buf (Elt Ideal) ℓ) : Prop :=
  True

def Pre_ReferenceMergeFIdeal (m : (ℓ : Loc Cert.ReferenceMergeFIdeal.nD Cert.ReferenceMergeFIdeal.τ Cert.ReferenceMergeFIdeal.sig) → Buf (Elt Ideal) ℓ) : Prop :=
  True

def Pre_KernelMergeB (m : (ℓ : Loc Cert.KernelMergeB.nD Cert.KernelMergeB.τ Cert.KernelMergeB.sig) → Buf (Elt Bits) ℓ) : Prop :=
  True

def Pre_KernelMergeBIdeal (m : (ℓ : Loc Cert.KernelMergeBIdeal.nD Cert.KernelMergeBIdeal.τ Cert.KernelMergeBIdeal.sig) → Buf (Elt Ideal) ℓ) : Prop :=
  True

def Pre_ReferenceMergeBIdeal (m : (ℓ : Loc Cert.ReferenceMergeBIdeal.nD Cert.ReferenceMergeBIdeal.τ Cert.ReferenceMergeBIdeal.sig) → Buf (Elt Ideal) ℓ) : Prop :=
  True

def Pre_KernelNormF (m : (ℓ : Loc Cert.KernelNormF.nD Cert.KernelNormF.τ Cert.KernelNormF.sig) → Buf (Elt Bits) ℓ) : Prop :=
  True

def Pre_KernelNormFIdeal (m : (ℓ : Loc Cert.KernelNormFIdeal.nD Cert.KernelNormFIdeal.τ Cert.KernelNormFIdeal.sig) → Buf (Elt Ideal) ℓ) : Prop :=
  True

def Pre_ReferenceNormFIdeal (m : (ℓ : Loc Cert.ReferenceNormFIdeal.nD Cert.ReferenceNormFIdeal.τ Cert.ReferenceNormFIdeal.sig) → Buf (Elt Ideal) ℓ) : Prop :=
  True

def Pre_KernelNormB (m : (ℓ : Loc Cert.KernelNormB.nD Cert.KernelNormB.τ Cert.KernelNormB.sig) → Buf (Elt Bits) ℓ) : Prop :=
  True

def Pre_KernelNormBIdeal (m : (ℓ : Loc Cert.KernelNormBIdeal.nD Cert.KernelNormBIdeal.τ Cert.KernelNormBIdeal.sig) → Buf (Elt Ideal) ℓ) : Prop :=
  True

def Pre_ReferenceNormBIdeal (m : (ℓ : Loc Cert.ReferenceNormBIdeal.nD Cert.ReferenceNormBIdeal.τ Cert.ReferenceNormBIdeal.sig) → Buf (Elt Ideal) ℓ) : Prop :=
  True

def Pre_KernelResF (m : (ℓ : Loc Cert.KernelResF.nD Cert.KernelResF.τ Cert.KernelResF.sig) → Buf (Elt Bits) ℓ) : Prop :=
  True

def Pre_KernelResFIdeal (m : (ℓ : Loc Cert.KernelResFIdeal.nD Cert.KernelResFIdeal.τ Cert.KernelResFIdeal.sig) → Buf (Elt Ideal) ℓ) : Prop :=
  True

def Pre_ReferenceResFIdeal (m : (ℓ : Loc Cert.ReferenceResFIdeal.nD Cert.ReferenceResFIdeal.τ Cert.ReferenceResFIdeal.sig) → Buf (Elt Ideal) ℓ) : Prop :=
  True

def Pre_KernelResB (m : (ℓ : Loc Cert.KernelResB.nD Cert.KernelResB.τ Cert.KernelResB.sig) → Buf (Elt Bits) ℓ) : Prop :=
  True

def Pre_KernelResBIdeal (m : (ℓ : Loc Cert.KernelResBIdeal.nD Cert.KernelResBIdeal.τ Cert.KernelResBIdeal.sig) → Buf (Elt Ideal) ℓ) : Prop :=
  True

def Pre_ReferenceResBIdeal (m : (ℓ : Loc Cert.ReferenceResBIdeal.nD Cert.ReferenceResBIdeal.τ Cert.ReferenceResBIdeal.sig) → Buf (Elt Ideal) ℓ) : Prop :=
  True

def Pre_KernelHeadF (m : (ℓ : Loc Cert.KernelHeadF.nD Cert.KernelHeadF.τ Cert.KernelHeadF.sig) → Buf (Elt Bits) ℓ) : Prop :=
  True

def Pre_KernelHeadFIdeal (m : (ℓ : Loc Cert.KernelHeadFIdeal.nD Cert.KernelHeadFIdeal.τ Cert.KernelHeadFIdeal.sig) → Buf (Elt Ideal) ℓ) : Prop :=
  True

def Pre_ReferenceHeadFIdeal (m : (ℓ : Loc Cert.ReferenceHeadFIdeal.nD Cert.ReferenceHeadFIdeal.τ Cert.ReferenceHeadFIdeal.sig) → Buf (Elt Ideal) ℓ) : Prop :=
  True

def Pre_KernelHeadB (m : (ℓ : Loc Cert.KernelHeadB.nD Cert.KernelHeadB.τ Cert.KernelHeadB.sig) → Buf (Elt Bits) ℓ) : Prop :=
  True

def Pre_KernelHeadBIdeal (m : (ℓ : Loc Cert.KernelHeadBIdeal.nD Cert.KernelHeadBIdeal.τ Cert.KernelHeadBIdeal.sig) → Buf (Elt Ideal) ℓ) : Prop :=
  True

def Pre_ReferenceHeadBIdeal (m : (ℓ : Loc Cert.ReferenceHeadBIdeal.nD Cert.ReferenceHeadBIdeal.τ Cert.ReferenceHeadBIdeal.sig) → Buf (Elt Ideal) ℓ) : Prop :=
  True

def Pre_KernelGoutF (m : (ℓ : Loc Cert.KernelGoutF.nD Cert.KernelGoutF.τ Cert.KernelGoutF.sig) → Buf (Elt Bits) ℓ) : Prop :=
  True

def Pre_KernelGoutFIdeal (m : (ℓ : Loc Cert.KernelGoutFIdeal.nD Cert.KernelGoutFIdeal.τ Cert.KernelGoutFIdeal.sig) → Buf (Elt Ideal) ℓ) : Prop :=
  True

def Pre_ReferenceGoutFIdeal (m : (ℓ : Loc Cert.ReferenceGoutFIdeal.nD Cert.ReferenceGoutFIdeal.τ Cert.ReferenceGoutFIdeal.sig) → Buf (Elt Ideal) ℓ) : Prop :=
  True

def Pre_KernelNormcF (m : (ℓ : Loc Cert.KernelNormcF.nD Cert.KernelNormcF.τ Cert.KernelNormcF.sig) → Buf (Elt Bits) ℓ) : Prop :=
  True

def Pre_KernelNormcFIdeal (m : (ℓ : Loc Cert.KernelNormcFIdeal.nD Cert.KernelNormcFIdeal.τ Cert.KernelNormcFIdeal.sig) → Buf (Elt Ideal) ℓ) : Prop :=
  True

def Pre_ReferenceNormcFIdeal (m : (ℓ : Loc Cert.ReferenceNormcFIdeal.nD Cert.ReferenceNormcFIdeal.τ Cert.ReferenceNormcFIdeal.sig) → Buf (Elt Ideal) ℓ) : Prop :=
  True

def Pre_KernelNormcB (m : (ℓ : Loc Cert.KernelNormcB.nD Cert.KernelNormcB.τ Cert.KernelNormcB.sig) → Buf (Elt Bits) ℓ) : Prop :=
  True

def Pre_KernelNormcBIdeal (m : (ℓ : Loc Cert.KernelNormcBIdeal.nD Cert.KernelNormcBIdeal.τ Cert.KernelNormcBIdeal.sig) → Buf (Elt Ideal) ℓ) : Prop :=
  True

def Pre_ReferenceNormcBIdeal (m : (ℓ : Loc Cert.ReferenceNormcBIdeal.nD Cert.ReferenceNormcBIdeal.τ Cert.ReferenceNormcBIdeal.sig) → Buf (Elt Ideal) ℓ) : Prop :=
  True

def Pre_KernelFfnF (m : (ℓ : Loc Cert.KernelFfnF.nD Cert.KernelFfnF.τ Cert.KernelFfnF.sig) → Buf (Elt Bits) ℓ) : Prop :=
  True

def Pre_KernelFfnFIdeal (m : (ℓ : Loc Cert.KernelFfnFIdeal.nD Cert.KernelFfnFIdeal.τ Cert.KernelFfnFIdeal.sig) → Buf (Elt Ideal) ℓ) : Prop :=
  True

def Pre_ReferenceFfnFIdeal (m : (ℓ : Loc Cert.ReferenceFfnFIdeal.nD Cert.ReferenceFfnFIdeal.τ Cert.ReferenceFfnFIdeal.sig) → Buf (Elt Ideal) ℓ) : Prop :=
  True

def Pre_KernelFfnB (m : (ℓ : Loc Cert.KernelFfnB.nD Cert.KernelFfnB.τ Cert.KernelFfnB.sig) → Buf (Elt Bits) ℓ) : Prop :=
  True

def Pre_KernelFfnBIdeal (m : (ℓ : Loc Cert.KernelFfnBIdeal.nD Cert.KernelFfnBIdeal.τ Cert.KernelFfnBIdeal.sig) → Buf (Elt Ideal) ℓ) : Prop :=
  True

def Pre_ReferenceFfnBIdeal (m : (ℓ : Loc Cert.ReferenceFfnBIdeal.nD Cert.ReferenceFfnBIdeal.τ Cert.ReferenceFfnBIdeal.sig) → Buf (Elt Ideal) ℓ) : Prop :=
  True

def Pre_KernelPrepF (m : (ℓ : Loc Cert.KernelPrepF.nD Cert.KernelPrepF.τ Cert.KernelPrepF.sig) → Buf (Elt Bits) ℓ) : Prop :=
  True

def Pre_KernelPrepFIdeal (m : (ℓ : Loc Cert.KernelPrepFIdeal.nD Cert.KernelPrepFIdeal.τ Cert.KernelPrepFIdeal.sig) → Buf (Elt Ideal) ℓ) : Prop :=
  True

def Pre_ReferencePrepFIdeal (m : (ℓ : Loc Cert.ReferencePrepFIdeal.nD Cert.ReferencePrepFIdeal.τ Cert.ReferencePrepFIdeal.sig) → Buf (Elt Ideal) ℓ) : Prop :=
  True

def Pre_KernelQF (m : (ℓ : Loc Cert.KernelQF.nD Cert.KernelQF.τ Cert.KernelQF.sig) → Buf (Elt Bits) ℓ) : Prop :=
  True

def Pre_KernelQFIdeal (m : (ℓ : Loc Cert.KernelQFIdeal.nD Cert.KernelQFIdeal.τ Cert.KernelQFIdeal.sig) → Buf (Elt Ideal) ℓ) : Prop :=
  True

def Pre_ReferenceQFIdeal (m : (ℓ : Loc Cert.ReferenceQFIdeal.nD Cert.ReferenceQFIdeal.τ Cert.ReferenceQFIdeal.sig) → Buf (Elt Ideal) ℓ) : Prop :=
  True

def Pre_KernelKF (m : (ℓ : Loc Cert.KernelKF.nD Cert.KernelKF.τ Cert.KernelKF.sig) → Buf (Elt Bits) ℓ) : Prop :=
  True

def Pre_KernelKFIdeal (m : (ℓ : Loc Cert.KernelKFIdeal.nD Cert.KernelKFIdeal.τ Cert.KernelKFIdeal.sig) → Buf (Elt Ideal) ℓ) : Prop :=
  True

def Pre_ReferenceKFIdeal (m : (ℓ : Loc Cert.ReferenceKFIdeal.nD Cert.ReferenceKFIdeal.τ Cert.ReferenceKFIdeal.sig) → Buf (Elt Ideal) ℓ) : Prop :=
  True

def Pre_KernelInsF (m : (ℓ : Loc Cert.KernelInsF.nD Cert.KernelInsF.τ Cert.KernelInsF.sig) → Buf (Elt Bits) ℓ) : Prop :=
  True

def Pre_KernelInsFIdeal (m : (ℓ : Loc Cert.KernelInsFIdeal.nD Cert.KernelInsFIdeal.τ Cert.KernelInsFIdeal.sig) → Buf (Elt Ideal) ℓ) : Prop :=
  True

def Pre_ReferenceInsFIdeal (m : (ℓ : Loc Cert.ReferenceInsFIdeal.nD Cert.ReferenceInsFIdeal.τ Cert.ReferenceInsFIdeal.sig) → Buf (Elt Ideal) ℓ) : Prop :=
  True

def Pre_KernelInsDa (m : (ℓ : Loc Cert.KernelInsDa.nD Cert.KernelInsDa.τ Cert.KernelInsDa.sig) → Buf (Elt Bits) ℓ) : Prop :=
  True

def Pre_KernelInsDaIdeal (m : (ℓ : Loc Cert.KernelInsDaIdeal.nD Cert.KernelInsDaIdeal.τ Cert.KernelInsDaIdeal.sig) → Buf (Elt Ideal) ℓ) : Prop :=
  True

def Pre_ReferenceInsDaIdeal (m : (ℓ : Loc Cert.ReferenceInsDaIdeal.nD Cert.ReferenceInsDaIdeal.τ Cert.ReferenceInsDaIdeal.sig) → Buf (Elt Ideal) ℓ) : Prop :=
  True

def Pre_KernelInsDw (m : (ℓ : Loc Cert.KernelInsDw.nD Cert.KernelInsDw.τ Cert.KernelInsDw.sig) → Buf (Elt Bits) ℓ) : Prop :=
  True

def Pre_KernelInsDwIdeal (m : (ℓ : Loc Cert.KernelInsDwIdeal.nD Cert.KernelInsDwIdeal.τ Cert.KernelInsDwIdeal.sig) → Buf (Elt Ideal) ℓ) : Prop :=
  True

def Pre_ReferenceInsDwIdeal (m : (ℓ : Loc Cert.ReferenceInsDwIdeal.nD Cert.ReferenceInsDwIdeal.τ Cert.ReferenceInsDwIdeal.sig) → Buf (Elt Ideal) ℓ) : Prop :=
  True

def Pre_KernelModF (m : (ℓ : Loc Cert.KernelModF.nD Cert.KernelModF.τ Cert.KernelModF.sig) → Buf (Elt Bits) ℓ) : Prop :=
  True

def Pre_KernelModFIdeal (m : (ℓ : Loc Cert.KernelModFIdeal.nD Cert.KernelModFIdeal.τ Cert.KernelModFIdeal.sig) → Buf (Elt Ideal) ℓ) : Prop :=
  True

def Pre_ReferenceModFIdeal (m : (ℓ : Loc Cert.ReferenceModFIdeal.nD Cert.ReferenceModFIdeal.τ Cert.ReferenceModFIdeal.sig) → Buf (Elt Ideal) ℓ) : Prop :=
  True

def Pre_KernelModDa (m : (ℓ : Loc Cert.KernelModDa.nD Cert.KernelModDa.τ Cert.KernelModDa.sig) → Buf (Elt Bits) ℓ) : Prop :=
  True

def Pre_KernelModDaIdeal (m : (ℓ : Loc Cert.KernelModDaIdeal.nD Cert.KernelModDaIdeal.τ Cert.KernelModDaIdeal.sig) → Buf (Elt Ideal) ℓ) : Prop :=
  True

def Pre_ReferenceModDaIdeal (m : (ℓ : Loc Cert.ReferenceModDaIdeal.nD Cert.ReferenceModDaIdeal.τ Cert.ReferenceModDaIdeal.sig) → Buf (Elt Ideal) ℓ) : Prop :=
  True

def Pre_KernelModDw (m : (ℓ : Loc Cert.KernelModDw.nD Cert.KernelModDw.τ Cert.KernelModDw.sig) → Buf (Elt Bits) ℓ) : Prop :=
  True

def Pre_KernelModDwIdeal (m : (ℓ : Loc Cert.KernelModDwIdeal.nD Cert.KernelModDwIdeal.τ Cert.KernelModDwIdeal.sig) → Buf (Elt Ideal) ℓ) : Prop :=
  True

def Pre_ReferenceModDwIdeal (m : (ℓ : Loc Cert.ReferenceModDwIdeal.nD Cert.ReferenceModDwIdeal.τ Cert.ReferenceModDwIdeal.sig) → Buf (Elt Ideal) ℓ) : Prop :=
  True

def Pre_KernelAdamMod (m : (ℓ : Loc Cert.KernelAdamMod.nD Cert.KernelAdamMod.τ Cert.KernelAdamMod.sig) → Buf (Elt Bits) ℓ) : Prop :=
  True

def Pre_KernelAdamModIdeal (m : (ℓ : Loc Cert.KernelAdamModIdeal.nD Cert.KernelAdamModIdeal.τ Cert.KernelAdamModIdeal.sig) → Buf (Elt Ideal) ℓ) : Prop :=
  True

def Pre_ReferenceAdamModIdeal (m : (ℓ : Loc Cert.ReferenceAdamModIdeal.nD Cert.ReferenceAdamModIdeal.τ Cert.ReferenceAdamModIdeal.sig) → Buf (Elt Ideal) ℓ) : Prop :=
  True

def Pre_KernelAdamSq (m : (ℓ : Loc Cert.KernelAdamSq.nD Cert.KernelAdamSq.τ Cert.KernelAdamSq.sig) → Buf (Elt Bits) ℓ) : Prop :=
  True

def Pre_KernelAdamSqIdeal (m : (ℓ : Loc Cert.KernelAdamSqIdeal.nD Cert.KernelAdamSqIdeal.τ Cert.KernelAdamSqIdeal.sig) → Buf (Elt Ideal) ℓ) : Prop :=
  True

def Pre_ReferenceAdamSqIdeal (m : (ℓ : Loc Cert.ReferenceAdamSqIdeal.nD Cert.ReferenceAdamSqIdeal.τ Cert.ReferenceAdamSqIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelInF [hKernelInF : Cert.KernelInF.Facts] : Prop :=
  ∀ (m : (ℓ : Loc Cert.KernelInF.nD Cert.KernelInF.τ Cert.KernelInF.sig) → Buf (Elt Bits) ℓ) (g : Dev Cert.KernelInF.nD → PrngReg), Pre_KernelInF m →
    θ_run (Cert.KernelInF.defs (F := Bits)) (onTc (τ := Cert.KernelInF.τ) (Cert.KernelInF.main (F := Bits))) ⟨m, fun _ => 0, g⟩ (fun r => (∀ c : Dev Cert.KernelInF.nD,
      r.2.mem ((c.tc : Thread Cert.KernelInF.nD Cert.KernelInF.τ).loc Cert.KernelInF.main_arg0) = m ((c.tc : Thread Cert.KernelInF.nD Cert.KernelInF.τ).loc Cert.KernelInF.main_arg0)
      ∧ r.2.mem ((c.tc : Thread Cert.KernelInF.nD Cert.KernelInF.τ).loc Cert.KernelInF.main_arg1) = m ((c.tc : Thread Cert.KernelInF.nD Cert.KernelInF.τ).loc Cert.KernelInF.main_arg1))
      ∧ r.2.sem = fun _ => 0)

def quiescent_KernelInFIdeal [hKernelInFIdeal : Cert.KernelInFIdeal.Facts] : Prop :=
  ∀ (m : (ℓ : Loc Cert.KernelInFIdeal.nD Cert.KernelInFIdeal.τ Cert.KernelInFIdeal.sig) → Buf (Elt Ideal) ℓ) (g : Dev Cert.KernelInFIdeal.nD → PrngReg), Pre_KernelInFIdeal m →
    θ_run (Cert.KernelInFIdeal.defs (F := Ideal)) (onTc (τ := Cert.KernelInFIdeal.τ) (Cert.KernelInFIdeal.main (F := Ideal))) ⟨m, fun _ => 0, g⟩ (fun r => (∀ c : Dev Cert.KernelInFIdeal.nD,
      r.2.mem ((c.tc : Thread Cert.KernelInFIdeal.nD Cert.KernelInFIdeal.τ).loc Cert.KernelInFIdeal.main_arg0) = m ((c.tc : Thread Cert.KernelInFIdeal.nD Cert.KernelInFIdeal.τ).loc Cert.KernelInFIdeal.main_arg0)
      ∧ r.2.mem ((c.tc : Thread Cert.KernelInFIdeal.nD Cert.KernelInFIdeal.τ).loc Cert.KernelInFIdeal.main_arg1) = m ((c.tc : Thread Cert.KernelInFIdeal.nD Cert.KernelInFIdeal.τ).loc Cert.KernelInFIdeal.main_arg1))
      ∧ r.2.sem = fun _ => 0)

def quiescent_ReferenceInFIdeal [hReferenceInFIdeal : Cert.ReferenceInFIdeal.Facts] : Prop :=
  ∀ (m : (ℓ : Loc Cert.ReferenceInFIdeal.nD Cert.ReferenceInFIdeal.τ Cert.ReferenceInFIdeal.sig) → Buf (Elt Ideal) ℓ) (g : Dev Cert.ReferenceInFIdeal.nD → PrngReg), Pre_ReferenceInFIdeal m →
    θ_run (Cert.ReferenceInFIdeal.defs (F := Ideal)) (onTc (τ := Cert.ReferenceInFIdeal.τ) (Cert.ReferenceInFIdeal.main (F := Ideal))) ⟨m, fun _ => 0, g⟩ (fun r => (∀ c : Dev Cert.ReferenceInFIdeal.nD,
      r.2.mem ((c.tc : Thread Cert.ReferenceInFIdeal.nD Cert.ReferenceInFIdeal.τ).loc Cert.ReferenceInFIdeal.main_arg0) = m ((c.tc : Thread Cert.ReferenceInFIdeal.nD Cert.ReferenceInFIdeal.τ).loc Cert.ReferenceInFIdeal.main_arg0)
      ∧ r.2.mem ((c.tc : Thread Cert.ReferenceInFIdeal.nD Cert.ReferenceInFIdeal.τ).loc Cert.ReferenceInFIdeal.main_arg1) = m ((c.tc : Thread Cert.ReferenceInFIdeal.nD Cert.ReferenceInFIdeal.τ).loc Cert.ReferenceInFIdeal.main_arg1))
      ∧ r.2.sem = fun _ => 0)

def quiescent_KernelInDa [hKernelInDa : Cert.KernelInDa.Facts] : Prop :=
  ∀ (m : (ℓ : Loc Cert.KernelInDa.nD Cert.KernelInDa.τ Cert.KernelInDa.sig) → Buf (Elt Bits) ℓ) (g : Dev Cert.KernelInDa.nD → PrngReg), Pre_KernelInDa m →
    θ_run (Cert.KernelInDa.defs (F := Bits)) (onTc (τ := Cert.KernelInDa.τ) (Cert.KernelInDa.main (F := Bits))) ⟨m, fun _ => 0, g⟩ (fun r => (∀ c : Dev Cert.KernelInDa.nD,
      r.2.mem ((c.tc : Thread Cert.KernelInDa.nD Cert.KernelInDa.τ).loc Cert.KernelInDa.main_arg0) = m ((c.tc : Thread Cert.KernelInDa.nD Cert.KernelInDa.τ).loc Cert.KernelInDa.main_arg0)
      ∧ r.2.mem ((c.tc : Thread Cert.KernelInDa.nD Cert.KernelInDa.τ).loc Cert.KernelInDa.main_arg1) = m ((c.tc : Thread Cert.KernelInDa.nD Cert.KernelInDa.τ).loc Cert.KernelInDa.main_arg1))
      ∧ r.2.sem = fun _ => 0)

def quiescent_KernelInDaIdeal [hKernelInDaIdeal : Cert.KernelInDaIdeal.Facts] : Prop :=
  ∀ (m : (ℓ : Loc Cert.KernelInDaIdeal.nD Cert.KernelInDaIdeal.τ Cert.KernelInDaIdeal.sig) → Buf (Elt Ideal) ℓ) (g : Dev Cert.KernelInDaIdeal.nD → PrngReg), Pre_KernelInDaIdeal m →
    θ_run (Cert.KernelInDaIdeal.defs (F := Ideal)) (onTc (τ := Cert.KernelInDaIdeal.τ) (Cert.KernelInDaIdeal.main (F := Ideal))) ⟨m, fun _ => 0, g⟩ (fun r => (∀ c : Dev Cert.KernelInDaIdeal.nD,
      r.2.mem ((c.tc : Thread Cert.KernelInDaIdeal.nD Cert.KernelInDaIdeal.τ).loc Cert.KernelInDaIdeal.main_arg0) = m ((c.tc : Thread Cert.KernelInDaIdeal.nD Cert.KernelInDaIdeal.τ).loc Cert.KernelInDaIdeal.main_arg0)
      ∧ r.2.mem ((c.tc : Thread Cert.KernelInDaIdeal.nD Cert.KernelInDaIdeal.τ).loc Cert.KernelInDaIdeal.main_arg1) = m ((c.tc : Thread Cert.KernelInDaIdeal.nD Cert.KernelInDaIdeal.τ).loc Cert.KernelInDaIdeal.main_arg1))
      ∧ r.2.sem = fun _ => 0)

def quiescent_ReferenceInDaIdeal [hReferenceInDaIdeal : Cert.ReferenceInDaIdeal.Facts] : Prop :=
  ∀ (m : (ℓ : Loc Cert.ReferenceInDaIdeal.nD Cert.ReferenceInDaIdeal.τ Cert.ReferenceInDaIdeal.sig) → Buf (Elt Ideal) ℓ) (g : Dev Cert.ReferenceInDaIdeal.nD → PrngReg), Pre_ReferenceInDaIdeal m →
    θ_run (Cert.ReferenceInDaIdeal.defs (F := Ideal)) (onTc (τ := Cert.ReferenceInDaIdeal.τ) (Cert.ReferenceInDaIdeal.main (F := Ideal))) ⟨m, fun _ => 0, g⟩ (fun r => (∀ c : Dev Cert.ReferenceInDaIdeal.nD,
      r.2.mem ((c.tc : Thread Cert.ReferenceInDaIdeal.nD Cert.ReferenceInDaIdeal.τ).loc Cert.ReferenceInDaIdeal.main_arg0) = m ((c.tc : Thread Cert.ReferenceInDaIdeal.nD Cert.ReferenceInDaIdeal.τ).loc Cert.ReferenceInDaIdeal.main_arg0)
      ∧ r.2.mem ((c.tc : Thread Cert.ReferenceInDaIdeal.nD Cert.ReferenceInDaIdeal.τ).loc Cert.ReferenceInDaIdeal.main_arg1) = m ((c.tc : Thread Cert.ReferenceInDaIdeal.nD Cert.ReferenceInDaIdeal.τ).loc Cert.ReferenceInDaIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelUpF [hKernelUpF : Cert.KernelUpF.Facts] : Prop :=
  ∀ (m : (ℓ : Loc Cert.KernelUpF.nD Cert.KernelUpF.τ Cert.KernelUpF.sig) → Buf (Elt Bits) ℓ) (g : Dev Cert.KernelUpF.nD → PrngReg), Pre_KernelUpF m →
    θ_run (Cert.KernelUpF.defs (F := Bits)) (onTc (τ := Cert.KernelUpF.τ) (Cert.KernelUpF.main (F := Bits))) ⟨m, fun _ => 0, g⟩ (fun r => (∀ c : Dev Cert.KernelUpF.nD,
      r.2.mem ((c.tc : Thread Cert.KernelUpF.nD Cert.KernelUpF.τ).loc Cert.KernelUpF.main_arg0) = m ((c.tc : Thread Cert.KernelUpF.nD Cert.KernelUpF.τ).loc Cert.KernelUpF.main_arg0)
      ∧ r.2.mem ((c.tc : Thread Cert.KernelUpF.nD Cert.KernelUpF.τ).loc Cert.KernelUpF.main_arg1) = m ((c.tc : Thread Cert.KernelUpF.nD Cert.KernelUpF.τ).loc Cert.KernelUpF.main_arg1))
      ∧ r.2.sem = fun _ => 0)

def quiescent_KernelUpFIdeal [hKernelUpFIdeal : Cert.KernelUpFIdeal.Facts] : Prop :=
  ∀ (m : (ℓ : Loc Cert.KernelUpFIdeal.nD Cert.KernelUpFIdeal.τ Cert.KernelUpFIdeal.sig) → Buf (Elt Ideal) ℓ) (g : Dev Cert.KernelUpFIdeal.nD → PrngReg), Pre_KernelUpFIdeal m →
    θ_run (Cert.KernelUpFIdeal.defs (F := Ideal)) (onTc (τ := Cert.KernelUpFIdeal.τ) (Cert.KernelUpFIdeal.main (F := Ideal))) ⟨m, fun _ => 0, g⟩ (fun r => (∀ c : Dev Cert.KernelUpFIdeal.nD,
      r.2.mem ((c.tc : Thread Cert.KernelUpFIdeal.nD Cert.KernelUpFIdeal.τ).loc Cert.KernelUpFIdeal.main_arg0) = m ((c.tc : Thread Cert.KernelUpFIdeal.nD Cert.KernelUpFIdeal.τ).loc Cert.KernelUpFIdeal.main_arg0)
      ∧ r.2.mem ((c.tc : Thread Cert.KernelUpFIdeal.nD Cert.KernelUpFIdeal.τ).loc Cert.KernelUpFIdeal.main_arg1) = m ((c.tc : Thread Cert.KernelUpFIdeal.nD Cert.KernelUpFIdeal.τ).loc Cert.KernelUpFIdeal.main_arg1))
      ∧ r.2.sem = fun _ => 0)

def quiescent_ReferenceUpFIdeal [hReferenceUpFIdeal : Cert.ReferenceUpFIdeal.Facts] : Prop :=
  ∀ (m : (ℓ : Loc Cert.ReferenceUpFIdeal.nD Cert.ReferenceUpFIdeal.τ Cert.ReferenceUpFIdeal.sig) → Buf (Elt Ideal) ℓ) (g : Dev Cert.ReferenceUpFIdeal.nD → PrngReg), Pre_ReferenceUpFIdeal m →
    θ_run (Cert.ReferenceUpFIdeal.defs (F := Ideal)) (onTc (τ := Cert.ReferenceUpFIdeal.τ) (Cert.ReferenceUpFIdeal.main (F := Ideal))) ⟨m, fun _ => 0, g⟩ (fun r => (∀ c : Dev Cert.ReferenceUpFIdeal.nD,
      r.2.mem ((c.tc : Thread Cert.ReferenceUpFIdeal.nD Cert.ReferenceUpFIdeal.τ).loc Cert.ReferenceUpFIdeal.main_arg0) = m ((c.tc : Thread Cert.ReferenceUpFIdeal.nD Cert.ReferenceUpFIdeal.τ).loc Cert.ReferenceUpFIdeal.main_arg0)
      ∧ r.2.mem ((c.tc : Thread Cert.ReferenceUpFIdeal.nD Cert.ReferenceUpFIdeal.τ).loc Cert.ReferenceUpFIdeal.main_arg1) = m ((c.tc : Thread Cert.ReferenceUpFIdeal.nD Cert.ReferenceUpFIdeal.τ).loc Cert.ReferenceUpFIdeal.main_arg1))
      ∧ r.2.sem = fun _ => 0)

def quiescent_KernelUpDa [hKernelUpDa : Cert.KernelUpDa.Facts] : Prop :=
  ∀ (m : (ℓ : Loc Cert.KernelUpDa.nD Cert.KernelUpDa.τ Cert.KernelUpDa.sig) → Buf (Elt Bits) ℓ) (g : Dev Cert.KernelUpDa.nD → PrngReg), Pre_KernelUpDa m →
    θ_run (Cert.KernelUpDa.defs (F := Bits)) (onTc (τ := Cert.KernelUpDa.τ) (Cert.KernelUpDa.main (F := Bits))) ⟨m, fun _ => 0, g⟩ (fun r => (∀ c : Dev Cert.KernelUpDa.nD,
      r.2.mem ((c.tc : Thread Cert.KernelUpDa.nD Cert.KernelUpDa.τ).loc Cert.KernelUpDa.main_arg0) = m ((c.tc : Thread Cert.KernelUpDa.nD Cert.KernelUpDa.τ).loc Cert.KernelUpDa.main_arg0)
      ∧ r.2.mem ((c.tc : Thread Cert.KernelUpDa.nD Cert.KernelUpDa.τ).loc Cert.KernelUpDa.main_arg1) = m ((c.tc : Thread Cert.KernelUpDa.nD Cert.KernelUpDa.τ).loc Cert.KernelUpDa.main_arg1))
      ∧ r.2.sem = fun _ => 0)

def quiescent_KernelUpDaIdeal [hKernelUpDaIdeal : Cert.KernelUpDaIdeal.Facts] : Prop :=
  ∀ (m : (ℓ : Loc Cert.KernelUpDaIdeal.nD Cert.KernelUpDaIdeal.τ Cert.KernelUpDaIdeal.sig) → Buf (Elt Ideal) ℓ) (g : Dev Cert.KernelUpDaIdeal.nD → PrngReg), Pre_KernelUpDaIdeal m →
    θ_run (Cert.KernelUpDaIdeal.defs (F := Ideal)) (onTc (τ := Cert.KernelUpDaIdeal.τ) (Cert.KernelUpDaIdeal.main (F := Ideal))) ⟨m, fun _ => 0, g⟩ (fun r => (∀ c : Dev Cert.KernelUpDaIdeal.nD,
      r.2.mem ((c.tc : Thread Cert.KernelUpDaIdeal.nD Cert.KernelUpDaIdeal.τ).loc Cert.KernelUpDaIdeal.main_arg0) = m ((c.tc : Thread Cert.KernelUpDaIdeal.nD Cert.KernelUpDaIdeal.τ).loc Cert.KernelUpDaIdeal.main_arg0)
      ∧ r.2.mem ((c.tc : Thread Cert.KernelUpDaIdeal.nD Cert.KernelUpDaIdeal.τ).loc Cert.KernelUpDaIdeal.main_arg1) = m ((c.tc : Thread Cert.KernelUpDaIdeal.nD Cert.KernelUpDaIdeal.τ).loc Cert.KernelUpDaIdeal.main_arg1))
      ∧ r.2.sem = fun _ => 0)

def quiescent_ReferenceUpDaIdeal [hReferenceUpDaIdeal : Cert.ReferenceUpDaIdeal.Facts] : Prop :=
  ∀ (m : (ℓ : Loc Cert.ReferenceUpDaIdeal.nD Cert.ReferenceUpDaIdeal.τ Cert.ReferenceUpDaIdeal.sig) → Buf (Elt Ideal) ℓ) (g : Dev Cert.ReferenceUpDaIdeal.nD → PrngReg), Pre_ReferenceUpDaIdeal m →
    θ_run (Cert.ReferenceUpDaIdeal.defs (F := Ideal)) (onTc (τ := Cert.ReferenceUpDaIdeal.τ) (Cert.ReferenceUpDaIdeal.main (F := Ideal))) ⟨m, fun _ => 0, g⟩ (fun r => (∀ c : Dev Cert.ReferenceUpDaIdeal.nD,
      r.2.mem ((c.tc : Thread Cert.ReferenceUpDaIdeal.nD Cert.ReferenceUpDaIdeal.τ).loc Cert.ReferenceUpDaIdeal.main_arg0) = m ((c.tc : Thread Cert.ReferenceUpDaIdeal.nD Cert.ReferenceUpDaIdeal.τ).loc Cert.ReferenceUpDaIdeal.main_arg0)
      ∧ r.2.mem ((c.tc : Thread Cert.ReferenceUpDaIdeal.nD Cert.ReferenceUpDaIdeal.τ).loc Cert.ReferenceUpDaIdeal.main_arg1) = m ((c.tc : Thread Cert.ReferenceUpDaIdeal.nD Cert.ReferenceUpDaIdeal.τ).loc Cert.ReferenceUpDaIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelDownF [hKernelDownF : Cert.KernelDownF.Facts] : Prop :=
  ∀ (m : (ℓ : Loc Cert.KernelDownF.nD Cert.KernelDownF.τ Cert.KernelDownF.sig) → Buf (Elt Bits) ℓ) (g : Dev Cert.KernelDownF.nD → PrngReg), Pre_KernelDownF m →
    θ_run (Cert.KernelDownF.defs (F := Bits)) (onTc (τ := Cert.KernelDownF.τ) (Cert.KernelDownF.main (F := Bits))) ⟨m, fun _ => 0, g⟩ (fun r => (∀ c : Dev Cert.KernelDownF.nD,
      r.2.mem ((c.tc : Thread Cert.KernelDownF.nD Cert.KernelDownF.τ).loc Cert.KernelDownF.main_arg0) = m ((c.tc : Thread Cert.KernelDownF.nD Cert.KernelDownF.τ).loc Cert.KernelDownF.main_arg0)
      ∧ r.2.mem ((c.tc : Thread Cert.KernelDownF.nD Cert.KernelDownF.τ).loc Cert.KernelDownF.main_arg1) = m ((c.tc : Thread Cert.KernelDownF.nD Cert.KernelDownF.τ).loc Cert.KernelDownF.main_arg1))
      ∧ r.2.sem = fun _ => 0)

def quiescent_KernelDownFIdeal [hKernelDownFIdeal : Cert.KernelDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg), Pre_KernelDownFIdeal m →
    θ_run (Cert.KernelDownFIdeal.defs (F := Ideal)) (onTc (τ := Cert.KernelDownFIdeal.τ) (Cert.KernelDownFIdeal.main (F := Ideal))) ⟨m, fun _ => 0, g⟩ (fun r => (∀ c : Dev Cert.KernelDownFIdeal.nD,
      r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
      ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1))
      ∧ r.2.sem = fun _ => 0)

def quiescent_ReferenceDownFIdeal [hReferenceDownFIdeal : Cert.ReferenceDownFIdeal.Facts] : Prop :=
  ∀ (m : (ℓ : Loc Cert.ReferenceDownFIdeal.nD Cert.ReferenceDownFIdeal.τ Cert.ReferenceDownFIdeal.sig) → Buf (Elt Ideal) ℓ) (g : Dev Cert.ReferenceDownFIdeal.nD → PrngReg), Pre_ReferenceDownFIdeal m →
    θ_run (Cert.ReferenceDownFIdeal.defs (F := Ideal)) (onTc (τ := Cert.ReferenceDownFIdeal.τ) (Cert.ReferenceDownFIdeal.main (F := Ideal))) ⟨m, fun _ => 0, g⟩ (fun r => (∀ c : Dev Cert.ReferenceDownFIdeal.nD,
      r.2.mem ((c.tc : Thread Cert.ReferenceDownFIdeal.nD Cert.ReferenceDownFIdeal.τ).loc Cert.ReferenceDownFIdeal.main_arg0) = m ((c.tc : Thread Cert.ReferenceDownFIdeal.nD Cert.ReferenceDownFIdeal.τ).loc Cert.ReferenceDownFIdeal.main_arg0)
      ∧ r.2.mem ((c.tc : Thread Cert.ReferenceDownFIdeal.nD Cert.ReferenceDownFIdeal.τ).loc Cert.ReferenceDownFIdeal.main_arg1) = m ((c.tc : Thread Cert.ReferenceDownFIdeal.nD Cert.ReferenceDownFIdeal.τ).loc Cert.ReferenceDownFIdeal.main_arg1))
      ∧ r.2.sem = fun _ => 0)

def quiescent_KernelDownDa [hKernelDownDa : Cert.KernelDownDa.Facts] : Prop :=
  ∀ (m : (ℓ : Loc Cert.KernelDownDa.nD Cert.KernelDownDa.τ Cert.KernelDownDa.sig) → Buf (Elt Bits) ℓ) (g : Dev Cert.KernelDownDa.nD → PrngReg), Pre_KernelDownDa m →
    θ_run (Cert.KernelDownDa.defs (F := Bits)) (onTc (τ := Cert.KernelDownDa.τ) (Cert.KernelDownDa.main (F := Bits))) ⟨m, fun _ => 0, g⟩ (fun r => (∀ c : Dev Cert.KernelDownDa.nD,
      r.2.mem ((c.tc : Thread Cert.KernelDownDa.nD Cert.KernelDownDa.τ).loc Cert.KernelDownDa.main_arg0) = m ((c.tc : Thread Cert.KernelDownDa.nD Cert.KernelDownDa.τ).loc Cert.KernelDownDa.main_arg0)
      ∧ r.2.mem ((c.tc : Thread Cert.KernelDownDa.nD Cert.KernelDownDa.τ).loc Cert.KernelDownDa.main_arg1) = m ((c.tc : Thread Cert.KernelDownDa.nD Cert.KernelDownDa.τ).loc Cert.KernelDownDa.main_arg1))
      ∧ r.2.sem = fun _ => 0)

def quiescent_KernelDownDaIdeal [hKernelDownDaIdeal : Cert.KernelDownDaIdeal.Facts] : Prop :=
  ∀ (m : (ℓ : Loc Cert.KernelDownDaIdeal.nD Cert.KernelDownDaIdeal.τ Cert.KernelDownDaIdeal.sig) → Buf (Elt Ideal) ℓ) (g : Dev Cert.KernelDownDaIdeal.nD → PrngReg), Pre_KernelDownDaIdeal m →
    θ_run (Cert.KernelDownDaIdeal.defs (F := Ideal)) (onTc (τ := Cert.KernelDownDaIdeal.τ) (Cert.KernelDownDaIdeal.main (F := Ideal))) ⟨m, fun _ => 0, g⟩ (fun r => (∀ c : Dev Cert.KernelDownDaIdeal.nD,
      r.2.mem ((c.tc : Thread Cert.KernelDownDaIdeal.nD Cert.KernelDownDaIdeal.τ).loc Cert.KernelDownDaIdeal.main_arg0) = m ((c.tc : Thread Cert.KernelDownDaIdeal.nD Cert.KernelDownDaIdeal.τ).loc Cert.KernelDownDaIdeal.main_arg0)
      ∧ r.2.mem ((c.tc : Thread Cert.KernelDownDaIdeal.nD Cert.KernelDownDaIdeal.τ).loc Cert.KernelDownDaIdeal.main_arg1) = m ((c.tc : Thread Cert.KernelDownDaIdeal.nD Cert.KernelDownDaIdeal.τ).loc Cert.KernelDownDaIdeal.main_arg1))
      ∧ r.2.sem = fun _ => 0)

def quiescent_ReferenceDownDaIdeal [hReferenceDownDaIdeal : Cert.ReferenceDownDaIdeal.Facts] : Prop :=
  ∀ (m : (ℓ : Loc Cert.ReferenceDownDaIdeal.nD Cert.ReferenceDownDaIdeal.τ Cert.ReferenceDownDaIdeal.sig) → Buf (Elt Ideal) ℓ) (g : Dev Cert.ReferenceDownDaIdeal.nD → PrngReg), Pre_ReferenceDownDaIdeal m →
    θ_run (Cert.ReferenceDownDaIdeal.defs (F := Ideal)) (onTc (τ := Cert.ReferenceDownDaIdeal.τ) (Cert.ReferenceDownDaIdeal.main (F := Ideal))) ⟨m, fun _ => 0, g⟩ (fun r => (∀ c : Dev Cert.ReferenceDownDaIdeal.nD,
      r.2.mem ((c.tc : Thread Cert.ReferenceDownDaIdeal.nD Cert.ReferenceDownDaIdeal.τ).loc Cert.ReferenceDownDaIdeal.main_arg0) = m ((c.tc : Thread Cert.ReferenceDownDaIdeal.nD Cert.ReferenceDownDaIdeal.τ).loc Cert.ReferenceDownDaIdeal.main_arg0)
      ∧ r.2.mem ((c.tc : Thread Cert.ReferenceDownDaIdeal.nD Cert.ReferenceDownDaIdeal.τ).loc Cert.ReferenceDownDaIdeal.main_arg1) = m ((c.tc : Thread Cert.ReferenceDownDaIdeal.nD Cert.ReferenceDownDaIdeal.τ).loc Cert.ReferenceDownDaIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelOutF [hKernelOutF : Cert.KernelOutF.Facts] : Prop :=
  ∀ (m : (ℓ : Loc Cert.KernelOutF.nD Cert.KernelOutF.τ Cert.KernelOutF.sig) → Buf (Elt Bits) ℓ) (g : Dev Cert.KernelOutF.nD → PrngReg), Pre_KernelOutF m →
    θ_run (Cert.KernelOutF.defs (F := Bits)) (onTc (τ := Cert.KernelOutF.τ) (Cert.KernelOutF.main (F := Bits))) ⟨m, fun _ => 0, g⟩ (fun r => (∀ c : Dev Cert.KernelOutF.nD,
      r.2.mem ((c.tc : Thread Cert.KernelOutF.nD Cert.KernelOutF.τ).loc Cert.KernelOutF.main_arg0) = m ((c.tc : Thread Cert.KernelOutF.nD Cert.KernelOutF.τ).loc Cert.KernelOutF.main_arg0)
      ∧ r.2.mem ((c.tc : Thread Cert.KernelOutF.nD Cert.KernelOutF.τ).loc Cert.KernelOutF.main_arg1) = m ((c.tc : Thread Cert.KernelOutF.nD Cert.KernelOutF.τ).loc Cert.KernelOutF.main_arg1))
      ∧ r.2.sem = fun _ => 0)

def quiescent_KernelOutFIdeal [hKernelOutFIdeal : Cert.KernelOutFIdeal.Facts] : Prop :=
  ∀ (m : (ℓ : Loc Cert.KernelOutFIdeal.nD Cert.KernelOutFIdeal.τ Cert.KernelOutFIdeal.sig) → Buf (Elt Ideal) ℓ) (g : Dev Cert.KernelOutFIdeal.nD → PrngReg), Pre_KernelOutFIdeal m →
    θ_run (Cert.KernelOutFIdeal.defs (F := Ideal)) (onTc (τ := Cert.KernelOutFIdeal.τ) (Cert.KernelOutFIdeal.main (F := Ideal))) ⟨m, fun _ => 0, g⟩ (fun r => (∀ c : Dev Cert.KernelOutFIdeal.nD,
      r.2.mem ((c.tc : Thread Cert.KernelOutFIdeal.nD Cert.KernelOutFIdeal.τ).loc Cert.KernelOutFIdeal.main_arg0) = m ((c.tc : Thread Cert.KernelOutFIdeal.nD Cert.KernelOutFIdeal.τ).loc Cert.KernelOutFIdeal.main_arg0)
      ∧ r.2.mem ((c.tc : Thread Cert.KernelOutFIdeal.nD Cert.KernelOutFIdeal.τ).loc Cert.KernelOutFIdeal.main_arg1) = m ((c.tc : Thread Cert.KernelOutFIdeal.nD Cert.KernelOutFIdeal.τ).loc Cert.KernelOutFIdeal.main_arg1))
      ∧ r.2.sem = fun _ => 0)

def quiescent_ReferenceOutFIdeal [hReferenceOutFIdeal : Cert.ReferenceOutFIdeal.Facts] : Prop :=
  ∀ (m : (ℓ : Loc Cert.ReferenceOutFIdeal.nD Cert.ReferenceOutFIdeal.τ Cert.ReferenceOutFIdeal.sig) → Buf (Elt Ideal) ℓ) (g : Dev Cert.ReferenceOutFIdeal.nD → PrngReg), Pre_ReferenceOutFIdeal m →
    θ_run (Cert.ReferenceOutFIdeal.defs (F := Ideal)) (onTc (τ := Cert.ReferenceOutFIdeal.τ) (Cert.ReferenceOutFIdeal.main (F := Ideal))) ⟨m, fun _ => 0, g⟩ (fun r => (∀ c : Dev Cert.ReferenceOutFIdeal.nD,
      r.2.mem ((c.tc : Thread Cert.ReferenceOutFIdeal.nD Cert.ReferenceOutFIdeal.τ).loc Cert.ReferenceOutFIdeal.main_arg0) = m ((c.tc : Thread Cert.ReferenceOutFIdeal.nD Cert.ReferenceOutFIdeal.τ).loc Cert.ReferenceOutFIdeal.main_arg0)
      ∧ r.2.mem ((c.tc : Thread Cert.ReferenceOutFIdeal.nD Cert.ReferenceOutFIdeal.τ).loc Cert.ReferenceOutFIdeal.main_arg1) = m ((c.tc : Thread Cert.ReferenceOutFIdeal.nD Cert.ReferenceOutFIdeal.τ).loc Cert.ReferenceOutFIdeal.main_arg1))
      ∧ r.2.sem = fun _ => 0)

def quiescent_KernelOutDa [hKernelOutDa : Cert.KernelOutDa.Facts] : Prop :=
  ∀ (m : (ℓ : Loc Cert.KernelOutDa.nD Cert.KernelOutDa.τ Cert.KernelOutDa.sig) → Buf (Elt Bits) ℓ) (g : Dev Cert.KernelOutDa.nD → PrngReg), Pre_KernelOutDa m →
    θ_run (Cert.KernelOutDa.defs (F := Bits)) (onTc (τ := Cert.KernelOutDa.τ) (Cert.KernelOutDa.main (F := Bits))) ⟨m, fun _ => 0, g⟩ (fun r => (∀ c : Dev Cert.KernelOutDa.nD,
      r.2.mem ((c.tc : Thread Cert.KernelOutDa.nD Cert.KernelOutDa.τ).loc Cert.KernelOutDa.main_arg0) = m ((c.tc : Thread Cert.KernelOutDa.nD Cert.KernelOutDa.τ).loc Cert.KernelOutDa.main_arg0)
      ∧ r.2.mem ((c.tc : Thread Cert.KernelOutDa.nD Cert.KernelOutDa.τ).loc Cert.KernelOutDa.main_arg1) = m ((c.tc : Thread Cert.KernelOutDa.nD Cert.KernelOutDa.τ).loc Cert.KernelOutDa.main_arg1))
      ∧ r.2.sem = fun _ => 0)

def quiescent_KernelOutDaIdeal [hKernelOutDaIdeal : Cert.KernelOutDaIdeal.Facts] : Prop :=
  ∀ (m : (ℓ : Loc Cert.KernelOutDaIdeal.nD Cert.KernelOutDaIdeal.τ Cert.KernelOutDaIdeal.sig) → Buf (Elt Ideal) ℓ) (g : Dev Cert.KernelOutDaIdeal.nD → PrngReg), Pre_KernelOutDaIdeal m →
    θ_run (Cert.KernelOutDaIdeal.defs (F := Ideal)) (onTc (τ := Cert.KernelOutDaIdeal.τ) (Cert.KernelOutDaIdeal.main (F := Ideal))) ⟨m, fun _ => 0, g⟩ (fun r => (∀ c : Dev Cert.KernelOutDaIdeal.nD,
      r.2.mem ((c.tc : Thread Cert.KernelOutDaIdeal.nD Cert.KernelOutDaIdeal.τ).loc Cert.KernelOutDaIdeal.main_arg0) = m ((c.tc : Thread Cert.KernelOutDaIdeal.nD Cert.KernelOutDaIdeal.τ).loc Cert.KernelOutDaIdeal.main_arg0)
      ∧ r.2.mem ((c.tc : Thread Cert.KernelOutDaIdeal.nD Cert.KernelOutDaIdeal.τ).loc Cert.KernelOutDaIdeal.main_arg1) = m ((c.tc : Thread Cert.KernelOutDaIdeal.nD Cert.KernelOutDaIdeal.τ).loc Cert.KernelOutDaIdeal.main_arg1))
      ∧ r.2.sem = fun _ => 0)

def quiescent_ReferenceOutDaIdeal [hReferenceOutDaIdeal : Cert.ReferenceOutDaIdeal.Facts] : Prop :=
  ∀ (m : (ℓ : Loc Cert.ReferenceOutDaIdeal.nD Cert.ReferenceOutDaIdeal.τ Cert.ReferenceOutDaIdeal.sig) → Buf (Elt Ideal) ℓ) (g : Dev Cert.ReferenceOutDaIdeal.nD → PrngReg), Pre_ReferenceOutDaIdeal m →
    θ_run (Cert.ReferenceOutDaIdeal.defs (F := Ideal)) (onTc (τ := Cert.ReferenceOutDaIdeal.τ) (Cert.ReferenceOutDaIdeal.main (F := Ideal))) ⟨m, fun _ => 0, g⟩ (fun r => (∀ c : Dev Cert.ReferenceOutDaIdeal.nD,
      r.2.mem ((c.tc : Thread Cert.ReferenceOutDaIdeal.nD Cert.ReferenceOutDaIdeal.τ).loc Cert.ReferenceOutDaIdeal.main_arg0) = m ((c.tc : Thread Cert.ReferenceOutDaIdeal.nD Cert.ReferenceOutDaIdeal.τ).loc Cert.ReferenceOutDaIdeal.main_arg0)
      ∧ r.2.mem ((c.tc : Thread Cert.ReferenceOutDaIdeal.nD Cert.ReferenceOutDaIdeal.τ).loc Cert.ReferenceOutDaIdeal.main_arg1) = m ((c.tc : Thread Cert.ReferenceOutDaIdeal.nD Cert.ReferenceOutDaIdeal.τ).loc Cert.ReferenceOutDaIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelAttnF [hKernelAttnF : Cert.KernelAttnF.Facts] : Prop :=
  ∀ (m : (ℓ : Loc Cert.KernelAttnF.nD Cert.KernelAttnF.τ Cert.KernelAttnF.sig) → Buf (Elt Bits) ℓ) (g : Dev Cert.KernelAttnF.nD → PrngReg), Pre_KernelAttnF m →
    θ_run (Cert.KernelAttnF.defs (F := Bits)) (onTc (τ := Cert.KernelAttnF.τ) (Cert.KernelAttnF.main (F := Bits))) ⟨m, fun _ => 0, g⟩ (fun r => (∀ c : Dev Cert.KernelAttnF.nD,
      r.2.mem ((c.tc : Thread Cert.KernelAttnF.nD Cert.KernelAttnF.τ).loc Cert.KernelAttnF.main_arg0) = m ((c.tc : Thread Cert.KernelAttnF.nD Cert.KernelAttnF.τ).loc Cert.KernelAttnF.main_arg0)
      ∧ r.2.mem ((c.tc : Thread Cert.KernelAttnF.nD Cert.KernelAttnF.τ).loc Cert.KernelAttnF.main_arg1) = m ((c.tc : Thread Cert.KernelAttnF.nD Cert.KernelAttnF.τ).loc Cert.KernelAttnF.main_arg1)
      ∧ r.2.mem ((c.tc : Thread Cert.KernelAttnF.nD Cert.KernelAttnF.τ).loc Cert.KernelAttnF.main_arg2) = m ((c.tc : Thread Cert.KernelAttnF.nD Cert.KernelAttnF.τ).loc Cert.KernelAttnF.main_arg2))
      ∧ r.2.sem = fun _ => 0)

def quiescent_KernelAttnFIdeal [hKernelAttnFIdeal : Cert.KernelAttnFIdeal.Facts] : Prop :=
  ∀ (m : (ℓ : Loc Cert.KernelAttnFIdeal.nD Cert.KernelAttnFIdeal.τ Cert.KernelAttnFIdeal.sig) → Buf (Elt Ideal) ℓ) (g : Dev Cert.KernelAttnFIdeal.nD → PrngReg), Pre_KernelAttnFIdeal m →
    θ_run (Cert.KernelAttnFIdeal.defs (F := Ideal)) (onTc (τ := Cert.KernelAttnFIdeal.τ) (Cert.KernelAttnFIdeal.main (F := Ideal))) ⟨m, fun _ => 0, g⟩ (fun r => (∀ c : Dev Cert.KernelAttnFIdeal.nD,
      r.2.mem ((c.tc : Thread Cert.KernelAttnFIdeal.nD Cert.KernelAttnFIdeal.τ).loc Cert.KernelAttnFIdeal.main_arg0) = m ((c.tc : Thread Cert.KernelAttnFIdeal.nD Cert.KernelAttnFIdeal.τ).loc Cert.KernelAttnFIdeal.main_arg0)
      ∧ r.2.mem ((c.tc : Thread Cert.KernelAttnFIdeal.nD Cert.KernelAttnFIdeal.τ).loc Cert.KernelAttnFIdeal.main_arg1) = m ((c.tc : Thread Cert.KernelAttnFIdeal.nD Cert.KernelAttnFIdeal.τ).loc Cert.KernelAttnFIdeal.main_arg1)
      ∧ r.2.mem ((c.tc : Thread Cert.KernelAttnFIdeal.nD Cert.KernelAttnFIdeal.τ).loc Cert.KernelAttnFIdeal.main_arg2) = m ((c.tc : Thread Cert.KernelAttnFIdeal.nD Cert.KernelAttnFIdeal.τ).loc Cert.KernelAttnFIdeal.main_arg2))
      ∧ r.2.sem = fun _ => 0)

def quiescent_KernelAttnFIdeal_pre_finite_qk_f [hKernelAttnFIdeal : Cert.KernelAttnFIdeal.Facts] [hPre_finite_qk_f : Cert.Pre_finite_qk_f.Facts] : Prop :=
  ∀ (m : (ℓ : Loc Cert.KernelAttnFIdeal.nD Cert.KernelAttnFIdeal.τ Cert.KernelAttnFIdeal.sig) → Buf (Elt Ideal) ℓ) (g : Dev Cert.KernelAttnFIdeal.nD → PrngReg), Pre_KernelAttnFIdeal_finite_qk_f m →
    θ_run (Cert.KernelAttnFIdeal.defs (F := Ideal)) (onTc (τ := Cert.KernelAttnFIdeal.τ) (Cert.KernelAttnFIdeal.main (F := Ideal))) ⟨m, fun _ => 0, g⟩ (fun r => (∀ c : Dev Cert.KernelAttnFIdeal.nD,
      r.2.mem ((c.tc : Thread Cert.KernelAttnFIdeal.nD Cert.KernelAttnFIdeal.τ).loc Cert.KernelAttnFIdeal.main_arg0) = m ((c.tc : Thread Cert.KernelAttnFIdeal.nD Cert.KernelAttnFIdeal.τ).loc Cert.KernelAttnFIdeal.main_arg0)
      ∧ r.2.mem ((c.tc : Thread Cert.KernelAttnFIdeal.nD Cert.KernelAttnFIdeal.τ).loc Cert.KernelAttnFIdeal.main_arg1) = m ((c.tc : Thread Cert.KernelAttnFIdeal.nD Cert.KernelAttnFIdeal.τ).loc Cert.KernelAttnFIdeal.main_arg1)
      ∧ r.2.mem ((c.tc : Thread Cert.KernelAttnFIdeal.nD Cert.KernelAttnFIdeal.τ).loc Cert.KernelAttnFIdeal.main_arg2) = m ((c.tc : Thread Cert.KernelAttnFIdeal.nD Cert.KernelAttnFIdeal.τ).loc Cert.KernelAttnFIdeal.main_arg2))
      ∧ r.2.sem = fun _ => 0)

def quiescent_ReferenceAttnFIdeal [hReferenceAttnFIdeal : Cert.ReferenceAttnFIdeal.Facts] : Prop :=
  ∀ (m : (ℓ : Loc Cert.ReferenceAttnFIdeal.nD Cert.ReferenceAttnFIdeal.τ Cert.ReferenceAttnFIdeal.sig) → Buf (Elt Ideal) ℓ) (g : Dev Cert.ReferenceAttnFIdeal.nD → PrngReg), Pre_ReferenceAttnFIdeal m →
    θ_run (Cert.ReferenceAttnFIdeal.defs (F := Ideal)) (onTc (τ := Cert.ReferenceAttnFIdeal.τ) (Cert.ReferenceAttnFIdeal.main (F := Ideal))) ⟨m, fun _ => 0, g⟩ (fun r => (∀ c : Dev Cert.ReferenceAttnFIdeal.nD,
      r.2.mem ((c.tc : Thread Cert.ReferenceAttnFIdeal.nD Cert.ReferenceAttnFIdeal.τ).loc Cert.ReferenceAttnFIdeal.main_arg0) = m ((c.tc : Thread Cert.ReferenceAttnFIdeal.nD Cert.ReferenceAttnFIdeal.τ).loc Cert.ReferenceAttnFIdeal.main_arg0)
      ∧ r.2.mem ((c.tc : Thread Cert.ReferenceAttnFIdeal.nD Cert.ReferenceAttnFIdeal.τ).loc Cert.ReferenceAttnFIdeal.main_arg1) = m ((c.tc : Thread Cert.ReferenceAttnFIdeal.nD Cert.ReferenceAttnFIdeal.τ).loc Cert.ReferenceAttnFIdeal.main_arg1)
      ∧ r.2.mem ((c.tc : Thread Cert.ReferenceAttnFIdeal.nD Cert.ReferenceAttnFIdeal.τ).loc Cert.ReferenceAttnFIdeal.main_arg2) = m ((c.tc : Thread Cert.ReferenceAttnFIdeal.nD Cert.ReferenceAttnFIdeal.τ).loc Cert.ReferenceAttnFIdeal.main_arg2))
      ∧ r.2.sem = fun _ => 0)

def quiescent_ReferenceAttnFIdeal_pre_finite_qk_f [hReferenceAttnFIdeal : Cert.ReferenceAttnFIdeal.Facts] [hPre_finite_qk_f : Cert.Pre_finite_qk_f.Facts] : Prop :=
  ∀ (m : (ℓ : Loc Cert.ReferenceAttnFIdeal.nD Cert.ReferenceAttnFIdeal.τ Cert.ReferenceAttnFIdeal.sig) → Buf (Elt Ideal) ℓ) (g : Dev Cert.ReferenceAttnFIdeal.nD → PrngReg), Pre_ReferenceAttnFIdeal_finite_qk_f m →
    θ_run (Cert.ReferenceAttnFIdeal.defs (F := Ideal)) (onTc (τ := Cert.ReferenceAttnFIdeal.τ) (Cert.ReferenceAttnFIdeal.main (F := Ideal))) ⟨m, fun _ => 0, g⟩ (fun r => (∀ c : Dev Cert.ReferenceAttnFIdeal.nD,
      r.2.mem ((c.tc : Thread Cert.ReferenceAttnFIdeal.nD Cert.ReferenceAttnFIdeal.τ).loc Cert.ReferenceAttnFIdeal.main_arg0) = m ((c.tc : Thread Cert.ReferenceAttnFIdeal.nD Cert.ReferenceAttnFIdeal.τ).loc Cert.ReferenceAttnFIdeal.main_arg0)
      ∧ r.2.mem ((c.tc : Thread Cert.ReferenceAttnFIdeal.nD Cert.ReferenceAttnFIdeal.τ).loc Cert.ReferenceAttnFIdeal.main_arg1) = m ((c.tc : Thread Cert.ReferenceAttnFIdeal.nD Cert.ReferenceAttnFIdeal.τ).loc Cert.ReferenceAttnFIdeal.main_arg1)
      ∧ r.2.mem ((c.tc : Thread Cert.ReferenceAttnFIdeal.nD Cert.ReferenceAttnFIdeal.τ).loc Cert.ReferenceAttnFIdeal.main_arg2) = m ((c.tc : Thread Cert.ReferenceAttnFIdeal.nD Cert.ReferenceAttnFIdeal.τ).loc Cert.ReferenceAttnFIdeal.main_arg2))
      ∧ r.2.sem = fun _ => 0)

def quiescent_KernelMergeF [hKernelMergeF : Cert.KernelMergeF.Facts] : Prop :=
  ∀ (m : (ℓ : Loc Cert.KernelMergeF.nD Cert.KernelMergeF.τ Cert.KernelMergeF.sig) → Buf (Elt Bits) ℓ) (g : Dev Cert.KernelMergeF.nD → PrngReg), Pre_KernelMergeF m →
    θ_run (Cert.KernelMergeF.defs (F := Bits)) (onTc (τ := Cert.KernelMergeF.τ) (Cert.KernelMergeF.main (F := Bits))) ⟨m, fun _ => 0, g⟩ (fun r => (∀ c : Dev Cert.KernelMergeF.nD,
      r.2.mem ((c.tc : Thread Cert.KernelMergeF.nD Cert.KernelMergeF.τ).loc Cert.KernelMergeF.main_arg0) = m ((c.tc : Thread Cert.KernelMergeF.nD Cert.KernelMergeF.τ).loc Cert.KernelMergeF.main_arg0)
      ∧ r.2.mem ((c.tc : Thread Cert.KernelMergeF.nD Cert.KernelMergeF.τ).loc Cert.KernelMergeF.main_arg1) = m ((c.tc : Thread Cert.KernelMergeF.nD Cert.KernelMergeF.τ).loc Cert.KernelMergeF.main_arg1)
      ∧ r.2.mem ((c.tc : Thread Cert.KernelMergeF.nD Cert.KernelMergeF.τ).loc Cert.KernelMergeF.main_arg2) = m ((c.tc : Thread Cert.KernelMergeF.nD Cert.KernelMergeF.τ).loc Cert.KernelMergeF.main_arg2))
      ∧ r.2.sem = fun _ => 0)

def quiescent_KernelMergeFIdeal [hKernelMergeFIdeal : Cert.KernelMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg), Pre_KernelMergeFIdeal m →
    θ_run (Cert.KernelMergeFIdeal.defs (F := Ideal)) (onTc (τ := Cert.KernelMergeFIdeal.τ) (Cert.KernelMergeFIdeal.main (F := Ideal))) ⟨m, fun _ => 0, g⟩ (fun r => (∀ c : Dev Cert.KernelMergeFIdeal.nD,
      r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
      ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
      ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2))
      ∧ r.2.sem = fun _ => 0)

def quiescent_ReferenceMergeFIdeal [hReferenceMergeFIdeal : Cert.ReferenceMergeFIdeal.Facts] : Prop :=
  ∀ (m : (ℓ : Loc Cert.ReferenceMergeFIdeal.nD Cert.ReferenceMergeFIdeal.τ Cert.ReferenceMergeFIdeal.sig) → Buf (Elt Ideal) ℓ) (g : Dev Cert.ReferenceMergeFIdeal.nD → PrngReg), Pre_ReferenceMergeFIdeal m →
    θ_run (Cert.ReferenceMergeFIdeal.defs (F := Ideal)) (onTc (τ := Cert.ReferenceMergeFIdeal.τ) (Cert.ReferenceMergeFIdeal.main (F := Ideal))) ⟨m, fun _ => 0, g⟩ (fun r => (∀ c : Dev Cert.ReferenceMergeFIdeal.nD,
      r.2.mem ((c.tc : Thread Cert.ReferenceMergeFIdeal.nD Cert.ReferenceMergeFIdeal.τ).loc Cert.ReferenceMergeFIdeal.main_arg0) = m ((c.tc : Thread Cert.ReferenceMergeFIdeal.nD Cert.ReferenceMergeFIdeal.τ).loc Cert.ReferenceMergeFIdeal.main_arg0)
      ∧ r.2.mem ((c.tc : Thread Cert.ReferenceMergeFIdeal.nD Cert.ReferenceMergeFIdeal.τ).loc Cert.ReferenceMergeFIdeal.main_arg1) = m ((c.tc : Thread Cert.ReferenceMergeFIdeal.nD Cert.ReferenceMergeFIdeal.τ).loc Cert.ReferenceMergeFIdeal.main_arg1)
      ∧ r.2.mem ((c.tc : Thread Cert.ReferenceMergeFIdeal.nD Cert.ReferenceMergeFIdeal.τ).loc Cert.ReferenceMergeFIdeal.main_arg2) = m ((c.tc : Thread Cert.ReferenceMergeFIdeal.nD Cert.ReferenceMergeFIdeal.τ).loc Cert.ReferenceMergeFIdeal.main_arg2))
      ∧ r.2.sem = fun _ => 0)

def quiescent_KernelMergeB [hKernelMergeB : Cert.KernelMergeB.Facts] : Prop :=
  ∀ (m : (ℓ : Loc Cert.KernelMergeB.nD Cert.KernelMergeB.τ Cert.KernelMergeB.sig) → Buf (Elt Bits) ℓ) (g : Dev Cert.KernelMergeB.nD → PrngReg), Pre_KernelMergeB m →
    θ_run (Cert.KernelMergeB.defs (F := Bits)) (onTc (τ := Cert.KernelMergeB.τ) (Cert.KernelMergeB.main (F := Bits))) ⟨m, fun _ => 0, g⟩ (fun r => (∀ c : Dev Cert.KernelMergeB.nD,
      r.2.mem ((c.tc : Thread Cert.KernelMergeB.nD Cert.KernelMergeB.τ).loc Cert.KernelMergeB.main_arg0) = m ((c.tc : Thread Cert.KernelMergeB.nD Cert.KernelMergeB.τ).loc Cert.KernelMergeB.main_arg0)
      ∧ r.2.mem ((c.tc : Thread Cert.KernelMergeB.nD Cert.KernelMergeB.τ).loc Cert.KernelMergeB.main_arg1) = m ((c.tc : Thread Cert.KernelMergeB.nD Cert.KernelMergeB.τ).loc Cert.KernelMergeB.main_arg1)
      ∧ r.2.mem ((c.tc : Thread Cert.KernelMergeB.nD Cert.KernelMergeB.τ).loc Cert.KernelMergeB.main_arg2) = m ((c.tc : Thread Cert.KernelMergeB.nD Cert.KernelMergeB.τ).loc Cert.KernelMergeB.main_arg2)
      ∧ r.2.mem ((c.tc : Thread Cert.KernelMergeB.nD Cert.KernelMergeB.τ).loc Cert.KernelMergeB.main_arg3) = m ((c.tc : Thread Cert.KernelMergeB.nD Cert.KernelMergeB.τ).loc Cert.KernelMergeB.main_arg3))
      ∧ r.2.sem = fun _ => 0)

def quiescent_KernelMergeBIdeal [hKernelMergeBIdeal : Cert.KernelMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg), Pre_KernelMergeBIdeal m →
    θ_run (Cert.KernelMergeBIdeal.defs (F := Ideal)) (onTc (τ := Cert.KernelMergeBIdeal.τ) (Cert.KernelMergeBIdeal.main (F := Ideal))) ⟨m, fun _ => 0, g⟩ (fun r => (∀ c : Dev Cert.KernelMergeBIdeal.nD,
      r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
      ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
      ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
      ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3))
      ∧ r.2.sem = fun _ => 0)

def quiescent_ReferenceMergeBIdeal [hReferenceMergeBIdeal : Cert.ReferenceMergeBIdeal.Facts] : Prop :=
  ∀ (m : (ℓ : Loc Cert.ReferenceMergeBIdeal.nD Cert.ReferenceMergeBIdeal.τ Cert.ReferenceMergeBIdeal.sig) → Buf (Elt Ideal) ℓ) (g : Dev Cert.ReferenceMergeBIdeal.nD → PrngReg), Pre_ReferenceMergeBIdeal m →
    θ_run (Cert.ReferenceMergeBIdeal.defs (F := Ideal)) (onTc (τ := Cert.ReferenceMergeBIdeal.τ) (Cert.ReferenceMergeBIdeal.main (F := Ideal))) ⟨m, fun _ => 0, g⟩ (fun r => (∀ c : Dev Cert.ReferenceMergeBIdeal.nD,
      r.2.mem ((c.tc : Thread Cert.ReferenceMergeBIdeal.nD Cert.ReferenceMergeBIdeal.τ).loc Cert.ReferenceMergeBIdeal.main_arg0) = m ((c.tc : Thread Cert.ReferenceMergeBIdeal.nD Cert.ReferenceMergeBIdeal.τ).loc Cert.ReferenceMergeBIdeal.main_arg0)
      ∧ r.2.mem ((c.tc : Thread Cert.ReferenceMergeBIdeal.nD Cert.ReferenceMergeBIdeal.τ).loc Cert.ReferenceMergeBIdeal.main_arg1) = m ((c.tc : Thread Cert.ReferenceMergeBIdeal.nD Cert.ReferenceMergeBIdeal.τ).loc Cert.ReferenceMergeBIdeal.main_arg1)
      ∧ r.2.mem ((c.tc : Thread Cert.ReferenceMergeBIdeal.nD Cert.ReferenceMergeBIdeal.τ).loc Cert.ReferenceMergeBIdeal.main_arg2) = m ((c.tc : Thread Cert.ReferenceMergeBIdeal.nD Cert.ReferenceMergeBIdeal.τ).loc Cert.ReferenceMergeBIdeal.main_arg2)
      ∧ r.2.mem ((c.tc : Thread Cert.ReferenceMergeBIdeal.nD Cert.ReferenceMergeBIdeal.τ).loc Cert.ReferenceMergeBIdeal.main_arg3) = m ((c.tc : Thread Cert.ReferenceMergeBIdeal.nD Cert.ReferenceMergeBIdeal.τ).loc Cert.ReferenceMergeBIdeal.main_arg3))
      ∧ r.2.sem = fun _ => 0)

def quiescent_KernelNormF [hKernelNormF : Cert.KernelNormF.Facts] : Prop :=
  ∀ (m : (ℓ : Loc Cert.KernelNormF.nD Cert.KernelNormF.τ Cert.KernelNormF.sig) → Buf (Elt Bits) ℓ) (g : Dev Cert.KernelNormF.nD → PrngReg), Pre_KernelNormF m →
    θ_run (Cert.KernelNormF.defs (F := Bits)) (onTc (τ := Cert.KernelNormF.τ) (Cert.KernelNormF.main (F := Bits))) ⟨m, fun _ => 0, g⟩ (fun r => (∀ c : Dev Cert.KernelNormF.nD,
      r.2.mem ((c.tc : Thread Cert.KernelNormF.nD Cert.KernelNormF.τ).loc Cert.KernelNormF.main_arg0) = m ((c.tc : Thread Cert.KernelNormF.nD Cert.KernelNormF.τ).loc Cert.KernelNormF.main_arg0)
      ∧ r.2.mem ((c.tc : Thread Cert.KernelNormF.nD Cert.KernelNormF.τ).loc Cert.KernelNormF.main_arg1) = m ((c.tc : Thread Cert.KernelNormF.nD Cert.KernelNormF.τ).loc Cert.KernelNormF.main_arg1)
      ∧ r.2.mem ((c.tc : Thread Cert.KernelNormF.nD Cert.KernelNormF.τ).loc Cert.KernelNormF.main_arg2) = m ((c.tc : Thread Cert.KernelNormF.nD Cert.KernelNormF.τ).loc Cert.KernelNormF.main_arg2))
      ∧ r.2.sem = fun _ => 0)

def quiescent_KernelNormFIdeal [hKernelNormFIdeal : Cert.KernelNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg), Pre_KernelNormFIdeal m →
    θ_run (Cert.KernelNormFIdeal.defs (F := Ideal)) (onTc (τ := Cert.KernelNormFIdeal.τ) (Cert.KernelNormFIdeal.main (F := Ideal))) ⟨m, fun _ => 0, g⟩ (fun r => (∀ c : Dev Cert.KernelNormFIdeal.nD,
      r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
      ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
      ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2))
      ∧ r.2.sem = fun _ => 0)

def quiescent_ReferenceNormFIdeal [hReferenceNormFIdeal : Cert.ReferenceNormFIdeal.Facts] : Prop :=
  ∀ (m : (ℓ : Loc Cert.ReferenceNormFIdeal.nD Cert.ReferenceNormFIdeal.τ Cert.ReferenceNormFIdeal.sig) → Buf (Elt Ideal) ℓ) (g : Dev Cert.ReferenceNormFIdeal.nD → PrngReg), Pre_ReferenceNormFIdeal m →
    θ_run (Cert.ReferenceNormFIdeal.defs (F := Ideal)) (onTc (τ := Cert.ReferenceNormFIdeal.τ) (Cert.ReferenceNormFIdeal.main (F := Ideal))) ⟨m, fun _ => 0, g⟩ (fun r => (∀ c : Dev Cert.ReferenceNormFIdeal.nD,
      r.2.mem ((c.tc : Thread Cert.ReferenceNormFIdeal.nD Cert.ReferenceNormFIdeal.τ).loc Cert.ReferenceNormFIdeal.main_arg0) = m ((c.tc : Thread Cert.ReferenceNormFIdeal.nD Cert.ReferenceNormFIdeal.τ).loc Cert.ReferenceNormFIdeal.main_arg0)
      ∧ r.2.mem ((c.tc : Thread Cert.ReferenceNormFIdeal.nD Cert.ReferenceNormFIdeal.τ).loc Cert.ReferenceNormFIdeal.main_arg1) = m ((c.tc : Thread Cert.ReferenceNormFIdeal.nD Cert.ReferenceNormFIdeal.τ).loc Cert.ReferenceNormFIdeal.main_arg1)
      ∧ r.2.mem ((c.tc : Thread Cert.ReferenceNormFIdeal.nD Cert.ReferenceNormFIdeal.τ).loc Cert.ReferenceNormFIdeal.main_arg2) = m ((c.tc : Thread Cert.ReferenceNormFIdeal.nD Cert.ReferenceNormFIdeal.τ).loc Cert.ReferenceNormFIdeal.main_arg2))
      ∧ r.2.sem = fun _ => 0)

def quiescent_KernelNormB [hKernelNormB : Cert.KernelNormB.Facts] : Prop :=
  ∀ (m : (ℓ : Loc Cert.KernelNormB.nD Cert.KernelNormB.τ Cert.KernelNormB.sig) → Buf (Elt Bits) ℓ) (g : Dev Cert.KernelNormB.nD → PrngReg), Pre_KernelNormB m →
    θ_run (Cert.KernelNormB.defs (F := Bits)) (onTc (τ := Cert.KernelNormB.τ) (Cert.KernelNormB.main (F := Bits))) ⟨m, fun _ => 0, g⟩ (fun r => (∀ c : Dev Cert.KernelNormB.nD,
      r.2.mem ((c.tc : Thread Cert.KernelNormB.nD Cert.KernelNormB.τ).loc Cert.KernelNormB.main_arg0) = m ((c.tc : Thread Cert.KernelNormB.nD Cert.KernelNormB.τ).loc Cert.KernelNormB.main_arg0)
      ∧ r.2.mem ((c.tc : Thread Cert.KernelNormB.nD Cert.KernelNormB.τ).loc Cert.KernelNormB.main_arg1) = m ((c.tc : Thread Cert.KernelNormB.nD Cert.KernelNormB.τ).loc Cert.KernelNormB.main_arg1)
      ∧ r.2.mem ((c.tc : Thread Cert.KernelNormB.nD Cert.KernelNormB.τ).loc Cert.KernelNormB.main_arg2) = m ((c.tc : Thread Cert.KernelNormB.nD Cert.KernelNormB.τ).loc Cert.KernelNormB.main_arg2)
      ∧ r.2.mem ((c.tc : Thread Cert.KernelNormB.nD Cert.KernelNormB.τ).loc Cert.KernelNormB.main_arg3) = m ((c.tc : Thread Cert.KernelNormB.nD Cert.KernelNormB.τ).loc Cert.KernelNormB.main_arg3))
      ∧ r.2.sem = fun _ => 0)

def quiescent_KernelNormBIdeal [hKernelNormBIdeal : Cert.KernelNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg), Pre_KernelNormBIdeal m →
    θ_run (Cert.KernelNormBIdeal.defs (F := Ideal)) (onTc (τ := Cert.KernelNormBIdeal.τ) (Cert.KernelNormBIdeal.main (F := Ideal))) ⟨m, fun _ => 0, g⟩ (fun r => (∀ c : Dev Cert.KernelNormBIdeal.nD,
      r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
      ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
      ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
      ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3))
      ∧ r.2.sem = fun _ => 0)

def quiescent_ReferenceNormBIdeal [hReferenceNormBIdeal : Cert.ReferenceNormBIdeal.Facts] : Prop :=
  ∀ (m : (ℓ : Loc Cert.ReferenceNormBIdeal.nD Cert.ReferenceNormBIdeal.τ Cert.ReferenceNormBIdeal.sig) → Buf (Elt Ideal) ℓ) (g : Dev Cert.ReferenceNormBIdeal.nD → PrngReg), Pre_ReferenceNormBIdeal m →
    θ_run (Cert.ReferenceNormBIdeal.defs (F := Ideal)) (onTc (τ := Cert.ReferenceNormBIdeal.τ) (Cert.ReferenceNormBIdeal.main (F := Ideal))) ⟨m, fun _ => 0, g⟩ (fun r => (∀ c : Dev Cert.ReferenceNormBIdeal.nD,
      r.2.mem ((c.tc : Thread Cert.ReferenceNormBIdeal.nD Cert.ReferenceNormBIdeal.τ).loc Cert.ReferenceNormBIdeal.main_arg0) = m ((c.tc : Thread Cert.ReferenceNormBIdeal.nD Cert.ReferenceNormBIdeal.τ).loc Cert.ReferenceNormBIdeal.main_arg0)
      ∧ r.2.mem ((c.tc : Thread Cert.ReferenceNormBIdeal.nD Cert.ReferenceNormBIdeal.τ).loc Cert.ReferenceNormBIdeal.main_arg1) = m ((c.tc : Thread Cert.ReferenceNormBIdeal.nD Cert.ReferenceNormBIdeal.τ).loc Cert.ReferenceNormBIdeal.main_arg1)
      ∧ r.2.mem ((c.tc : Thread Cert.ReferenceNormBIdeal.nD Cert.ReferenceNormBIdeal.τ).loc Cert.ReferenceNormBIdeal.main_arg2) = m ((c.tc : Thread Cert.ReferenceNormBIdeal.nD Cert.ReferenceNormBIdeal.τ).loc Cert.ReferenceNormBIdeal.main_arg2)
      ∧ r.2.mem ((c.tc : Thread Cert.ReferenceNormBIdeal.nD Cert.ReferenceNormBIdeal.τ).loc Cert.ReferenceNormBIdeal.main_arg3) = m ((c.tc : Thread Cert.ReferenceNormBIdeal.nD Cert.ReferenceNormBIdeal.τ).loc Cert.ReferenceNormBIdeal.main_arg3))
      ∧ r.2.sem = fun _ => 0)

def quiescent_KernelResF [hKernelResF : Cert.KernelResF.Facts] : Prop :=
  ∀ (m : (ℓ : Loc Cert.KernelResF.nD Cert.KernelResF.τ Cert.KernelResF.sig) → Buf (Elt Bits) ℓ) (g : Dev Cert.KernelResF.nD → PrngReg), Pre_KernelResF m →
    θ_run (Cert.KernelResF.defs (F := Bits)) (onTc (τ := Cert.KernelResF.τ) (Cert.KernelResF.main (F := Bits))) ⟨m, fun _ => 0, g⟩ (fun r => (∀ c : Dev Cert.KernelResF.nD,
      r.2.mem ((c.tc : Thread Cert.KernelResF.nD Cert.KernelResF.τ).loc Cert.KernelResF.main_arg0) = m ((c.tc : Thread Cert.KernelResF.nD Cert.KernelResF.τ).loc Cert.KernelResF.main_arg0)
      ∧ r.2.mem ((c.tc : Thread Cert.KernelResF.nD Cert.KernelResF.τ).loc Cert.KernelResF.main_arg1) = m ((c.tc : Thread Cert.KernelResF.nD Cert.KernelResF.τ).loc Cert.KernelResF.main_arg1)
      ∧ r.2.mem ((c.tc : Thread Cert.KernelResF.nD Cert.KernelResF.τ).loc Cert.KernelResF.main_arg2) = m ((c.tc : Thread Cert.KernelResF.nD Cert.KernelResF.τ).loc Cert.KernelResF.main_arg2)
      ∧ r.2.mem ((c.tc : Thread Cert.KernelResF.nD Cert.KernelResF.τ).loc Cert.KernelResF.main_arg3) = m ((c.tc : Thread Cert.KernelResF.nD Cert.KernelResF.τ).loc Cert.KernelResF.main_arg3)
      ∧ r.2.mem ((c.tc : Thread Cert.KernelResF.nD Cert.KernelResF.τ).loc Cert.KernelResF.main_arg4) = m ((c.tc : Thread Cert.KernelResF.nD Cert.KernelResF.τ).loc Cert.KernelResF.main_arg4))
      ∧ r.2.sem = fun _ => 0)

def quiescent_KernelResFIdeal [hKernelResFIdeal : Cert.KernelResFIdeal.Facts] : Prop :=
  ∀ (m : (ℓ : Loc Cert.KernelResFIdeal.nD Cert.KernelResFIdeal.τ Cert.KernelResFIdeal.sig) → Buf (Elt Ideal) ℓ) (g : Dev Cert.KernelResFIdeal.nD → PrngReg), Pre_KernelResFIdeal m →
    θ_run (Cert.KernelResFIdeal.defs (F := Ideal)) (onTc (τ := Cert.KernelResFIdeal.τ) (Cert.KernelResFIdeal.main (F := Ideal))) ⟨m, fun _ => 0, g⟩ (fun r => (∀ c : Dev Cert.KernelResFIdeal.nD,
      r.2.mem ((c.tc : Thread Cert.KernelResFIdeal.nD Cert.KernelResFIdeal.τ).loc Cert.KernelResFIdeal.main_arg0) = m ((c.tc : Thread Cert.KernelResFIdeal.nD Cert.KernelResFIdeal.τ).loc Cert.KernelResFIdeal.main_arg0)
      ∧ r.2.mem ((c.tc : Thread Cert.KernelResFIdeal.nD Cert.KernelResFIdeal.τ).loc Cert.KernelResFIdeal.main_arg1) = m ((c.tc : Thread Cert.KernelResFIdeal.nD Cert.KernelResFIdeal.τ).loc Cert.KernelResFIdeal.main_arg1)
      ∧ r.2.mem ((c.tc : Thread Cert.KernelResFIdeal.nD Cert.KernelResFIdeal.τ).loc Cert.KernelResFIdeal.main_arg2) = m ((c.tc : Thread Cert.KernelResFIdeal.nD Cert.KernelResFIdeal.τ).loc Cert.KernelResFIdeal.main_arg2)
      ∧ r.2.mem ((c.tc : Thread Cert.KernelResFIdeal.nD Cert.KernelResFIdeal.τ).loc Cert.KernelResFIdeal.main_arg3) = m ((c.tc : Thread Cert.KernelResFIdeal.nD Cert.KernelResFIdeal.τ).loc Cert.KernelResFIdeal.main_arg3)
      ∧ r.2.mem ((c.tc : Thread Cert.KernelResFIdeal.nD Cert.KernelResFIdeal.τ).loc Cert.KernelResFIdeal.main_arg4) = m ((c.tc : Thread Cert.KernelResFIdeal.nD Cert.KernelResFIdeal.τ).loc Cert.KernelResFIdeal.main_arg4))
      ∧ r.2.sem = fun _ => 0)

def quiescent_ReferenceResFIdeal [hReferenceResFIdeal : Cert.ReferenceResFIdeal.Facts] : Prop :=
  ∀ (m : (ℓ : Loc Cert.ReferenceResFIdeal.nD Cert.ReferenceResFIdeal.τ Cert.ReferenceResFIdeal.sig) → Buf (Elt Ideal) ℓ) (g : Dev Cert.ReferenceResFIdeal.nD → PrngReg), Pre_ReferenceResFIdeal m →
    θ_run (Cert.ReferenceResFIdeal.defs (F := Ideal)) (onTc (τ := Cert.ReferenceResFIdeal.τ) (Cert.ReferenceResFIdeal.main (F := Ideal))) ⟨m, fun _ => 0, g⟩ (fun r => (∀ c : Dev Cert.ReferenceResFIdeal.nD,
      r.2.mem ((c.tc : Thread Cert.ReferenceResFIdeal.nD Cert.ReferenceResFIdeal.τ).loc Cert.ReferenceResFIdeal.main_arg0) = m ((c.tc : Thread Cert.ReferenceResFIdeal.nD Cert.ReferenceResFIdeal.τ).loc Cert.ReferenceResFIdeal.main_arg0)
      ∧ r.2.mem ((c.tc : Thread Cert.ReferenceResFIdeal.nD Cert.ReferenceResFIdeal.τ).loc Cert.ReferenceResFIdeal.main_arg1) = m ((c.tc : Thread Cert.ReferenceResFIdeal.nD Cert.ReferenceResFIdeal.τ).loc Cert.ReferenceResFIdeal.main_arg1)
      ∧ r.2.mem ((c.tc : Thread Cert.ReferenceResFIdeal.nD Cert.ReferenceResFIdeal.τ).loc Cert.ReferenceResFIdeal.main_arg2) = m ((c.tc : Thread Cert.ReferenceResFIdeal.nD Cert.ReferenceResFIdeal.τ).loc Cert.ReferenceResFIdeal.main_arg2)
      ∧ r.2.mem ((c.tc : Thread Cert.ReferenceResFIdeal.nD Cert.ReferenceResFIdeal.τ).loc Cert.ReferenceResFIdeal.main_arg3) = m ((c.tc : Thread Cert.ReferenceResFIdeal.nD Cert.ReferenceResFIdeal.τ).loc Cert.ReferenceResFIdeal.main_arg3)
      ∧ r.2.mem ((c.tc : Thread Cert.ReferenceResFIdeal.nD Cert.ReferenceResFIdeal.τ).loc Cert.ReferenceResFIdeal.main_arg4) = m ((c.tc : Thread Cert.ReferenceResFIdeal.nD Cert.ReferenceResFIdeal.τ).loc Cert.ReferenceResFIdeal.main_arg4))
      ∧ r.2.sem = fun _ => 0)

def quiescent_KernelResB [hKernelResB : Cert.KernelResB.Facts] : Prop :=
  ∀ (m : (ℓ : Loc Cert.KernelResB.nD Cert.KernelResB.τ Cert.KernelResB.sig) → Buf (Elt Bits) ℓ) (g : Dev Cert.KernelResB.nD → PrngReg), Pre_KernelResB m →
    θ_run (Cert.KernelResB.defs (F := Bits)) (onTc (τ := Cert.KernelResB.τ) (Cert.KernelResB.main (F := Bits))) ⟨m, fun _ => 0, g⟩ (fun r => (∀ c : Dev Cert.KernelResB.nD,
      r.2.mem ((c.tc : Thread Cert.KernelResB.nD Cert.KernelResB.τ).loc Cert.KernelResB.main_arg0) = m ((c.tc : Thread Cert.KernelResB.nD Cert.KernelResB.τ).loc Cert.KernelResB.main_arg0)
      ∧ r.2.mem ((c.tc : Thread Cert.KernelResB.nD Cert.KernelResB.τ).loc Cert.KernelResB.main_arg1) = m ((c.tc : Thread Cert.KernelResB.nD Cert.KernelResB.τ).loc Cert.KernelResB.main_arg1)
      ∧ r.2.mem ((c.tc : Thread Cert.KernelResB.nD Cert.KernelResB.τ).loc Cert.KernelResB.main_arg2) = m ((c.tc : Thread Cert.KernelResB.nD Cert.KernelResB.τ).loc Cert.KernelResB.main_arg2)
      ∧ r.2.mem ((c.tc : Thread Cert.KernelResB.nD Cert.KernelResB.τ).loc Cert.KernelResB.main_arg3) = m ((c.tc : Thread Cert.KernelResB.nD Cert.KernelResB.τ).loc Cert.KernelResB.main_arg3)
      ∧ r.2.mem ((c.tc : Thread Cert.KernelResB.nD Cert.KernelResB.τ).loc Cert.KernelResB.main_arg4) = m ((c.tc : Thread Cert.KernelResB.nD Cert.KernelResB.τ).loc Cert.KernelResB.main_arg4)
      ∧ r.2.mem ((c.tc : Thread Cert.KernelResB.nD Cert.KernelResB.τ).loc Cert.KernelResB.main_arg5) = m ((c.tc : Thread Cert.KernelResB.nD Cert.KernelResB.τ).loc Cert.KernelResB.main_arg5)
      ∧ r.2.mem ((c.tc : Thread Cert.KernelResB.nD Cert.KernelResB.τ).loc Cert.KernelResB.main_arg6) = m ((c.tc : Thread Cert.KernelResB.nD Cert.KernelResB.τ).loc Cert.KernelResB.main_arg6))
      ∧ r.2.sem = fun _ => 0)

def quiescent_KernelResBIdeal [hKernelResBIdeal : Cert.KernelResBIdeal.Facts] : Prop :=
  ∀ (m : (ℓ : Loc Cert.KernelResBIdeal.nD Cert.KernelResBIdeal.τ Cert.KernelResBIdeal.sig) → Buf (Elt Ideal) ℓ) (g : Dev Cert.KernelResBIdeal.nD → PrngReg), Pre_KernelResBIdeal m →
    θ_run (Cert.KernelResBIdeal.defs (F := Ideal)) (onTc (τ := Cert.KernelResBIdeal.τ) (Cert.KernelResBIdeal.main (F := Ideal))) ⟨m, fun _ => 0, g⟩ (fun r => (∀ c : Dev Cert.KernelResBIdeal.nD,
      r.2.mem ((c.tc : Thread Cert.KernelResBIdeal.nD Cert.KernelResBIdeal.τ).loc Cert.KernelResBIdeal.main_arg0) = m ((c.tc : Thread Cert.KernelResBIdeal.nD Cert.KernelResBIdeal.τ).loc Cert.KernelResBIdeal.main_arg0)
      ∧ r.2.mem ((c.tc : Thread Cert.KernelResBIdeal.nD Cert.KernelResBIdeal.τ).loc Cert.KernelResBIdeal.main_arg1) = m ((c.tc : Thread Cert.KernelResBIdeal.nD Cert.KernelResBIdeal.τ).loc Cert.KernelResBIdeal.main_arg1)
      ∧ r.2.mem ((c.tc : Thread Cert.KernelResBIdeal.nD Cert.KernelResBIdeal.τ).loc Cert.KernelResBIdeal.main_arg2) = m ((c.tc : Thread Cert.KernelResBIdeal.nD Cert.KernelResBIdeal.τ).loc Cert.KernelResBIdeal.main_arg2)
      ∧ r.2.mem ((c.tc : Thread Cert.KernelResBIdeal.nD Cert.KernelResBIdeal.τ).loc Cert.KernelResBIdeal.main_arg3) = m ((c.tc : Thread Cert.KernelResBIdeal.nD Cert.KernelResBIdeal.τ).loc Cert.KernelResBIdeal.main_arg3)
      ∧ r.2.mem ((c.tc : Thread Cert.KernelResBIdeal.nD Cert.KernelResBIdeal.τ).loc Cert.KernelResBIdeal.main_arg4) = m ((c.tc : Thread Cert.KernelResBIdeal.nD Cert.KernelResBIdeal.τ).loc Cert.KernelResBIdeal.main_arg4)
      ∧ r.2.mem ((c.tc : Thread Cert.KernelResBIdeal.nD Cert.KernelResBIdeal.τ).loc Cert.KernelResBIdeal.main_arg5) = m ((c.tc : Thread Cert.KernelResBIdeal.nD Cert.KernelResBIdeal.τ).loc Cert.KernelResBIdeal.main_arg5)
      ∧ r.2.mem ((c.tc : Thread Cert.KernelResBIdeal.nD Cert.KernelResBIdeal.τ).loc Cert.KernelResBIdeal.main_arg6) = m ((c.tc : Thread Cert.KernelResBIdeal.nD Cert.KernelResBIdeal.τ).loc Cert.KernelResBIdeal.main_arg6))
      ∧ r.2.sem = fun _ => 0)

def quiescent_ReferenceResBIdeal [hReferenceResBIdeal : Cert.ReferenceResBIdeal.Facts] : Prop :=
  ∀ (m : (ℓ : Loc Cert.ReferenceResBIdeal.nD Cert.ReferenceResBIdeal.τ Cert.ReferenceResBIdeal.sig) → Buf (Elt Ideal) ℓ) (g : Dev Cert.ReferenceResBIdeal.nD → PrngReg), Pre_ReferenceResBIdeal m →
    θ_run (Cert.ReferenceResBIdeal.defs (F := Ideal)) (onTc (τ := Cert.ReferenceResBIdeal.τ) (Cert.ReferenceResBIdeal.main (F := Ideal))) ⟨m, fun _ => 0, g⟩ (fun r => (∀ c : Dev Cert.ReferenceResBIdeal.nD,
      r.2.mem ((c.tc : Thread Cert.ReferenceResBIdeal.nD Cert.ReferenceResBIdeal.τ).loc Cert.ReferenceResBIdeal.main_arg0) = m ((c.tc : Thread Cert.ReferenceResBIdeal.nD Cert.ReferenceResBIdeal.τ).loc Cert.ReferenceResBIdeal.main_arg0)
      ∧ r.2.mem ((c.tc : Thread Cert.ReferenceResBIdeal.nD Cert.ReferenceResBIdeal.τ).loc Cert.ReferenceResBIdeal.main_arg1) = m ((c.tc : Thread Cert.ReferenceResBIdeal.nD Cert.ReferenceResBIdeal.τ).loc Cert.ReferenceResBIdeal.main_arg1)
      ∧ r.2.mem ((c.tc : Thread Cert.ReferenceResBIdeal.nD Cert.ReferenceResBIdeal.τ).loc Cert.ReferenceResBIdeal.main_arg2) = m ((c.tc : Thread Cert.ReferenceResBIdeal.nD Cert.ReferenceResBIdeal.τ).loc Cert.ReferenceResBIdeal.main_arg2)
      ∧ r.2.mem ((c.tc : Thread Cert.ReferenceResBIdeal.nD Cert.ReferenceResBIdeal.τ).loc Cert.ReferenceResBIdeal.main_arg3) = m ((c.tc : Thread Cert.ReferenceResBIdeal.nD Cert.ReferenceResBIdeal.τ).loc Cert.ReferenceResBIdeal.main_arg3)
      ∧ r.2.mem ((c.tc : Thread Cert.ReferenceResBIdeal.nD Cert.ReferenceResBIdeal.τ).loc Cert.ReferenceResBIdeal.main_arg4) = m ((c.tc : Thread Cert.ReferenceResBIdeal.nD Cert.ReferenceResBIdeal.τ).loc Cert.ReferenceResBIdeal.main_arg4)
      ∧ r.2.mem ((c.tc : Thread Cert.ReferenceResBIdeal.nD Cert.ReferenceResBIdeal.τ).loc Cert.ReferenceResBIdeal.main_arg5) = m ((c.tc : Thread Cert.ReferenceResBIdeal.nD Cert.ReferenceResBIdeal.τ).loc Cert.ReferenceResBIdeal.main_arg5)
      ∧ r.2.mem ((c.tc : Thread Cert.ReferenceResBIdeal.nD Cert.ReferenceResBIdeal.τ).loc Cert.ReferenceResBIdeal.main_arg6) = m ((c.tc : Thread Cert.ReferenceResBIdeal.nD Cert.ReferenceResBIdeal.τ).loc Cert.ReferenceResBIdeal.main_arg6))
      ∧ r.2.sem = fun _ => 0)

def quiescent_KernelHeadF [hKernelHeadF : Cert.KernelHeadF.Facts] : Prop :=
  ∀ (m : (ℓ : Loc Cert.KernelHeadF.nD Cert.KernelHeadF.τ Cert.KernelHeadF.sig) → Buf (Elt Bits) ℓ) (g : Dev Cert.KernelHeadF.nD → PrngReg), Pre_KernelHeadF m →
    θ_run (Cert.KernelHeadF.defs (F := Bits)) (onTc (τ := Cert.KernelHeadF.τ) (Cert.KernelHeadF.main (F := Bits))) ⟨m, fun _ => 0, g⟩ (fun r => (∀ c : Dev Cert.KernelHeadF.nD,
      r.2.mem ((c.tc : Thread Cert.KernelHeadF.nD Cert.KernelHeadF.τ).loc Cert.KernelHeadF.main_arg0) = m ((c.tc : Thread Cert.KernelHeadF.nD Cert.KernelHeadF.τ).loc Cert.KernelHeadF.main_arg0)
      ∧ r.2.mem ((c.tc : Thread Cert.KernelHeadF.nD Cert.KernelHeadF.τ).loc Cert.KernelHeadF.main_arg1) = m ((c.tc : Thread Cert.KernelHeadF.nD Cert.KernelHeadF.τ).loc Cert.KernelHeadF.main_arg1)
      ∧ r.2.mem ((c.tc : Thread Cert.KernelHeadF.nD Cert.KernelHeadF.τ).loc Cert.KernelHeadF.main_arg2) = m ((c.tc : Thread Cert.KernelHeadF.nD Cert.KernelHeadF.τ).loc Cert.KernelHeadF.main_arg2)
      ∧ r.2.mem ((c.tc : Thread Cert.KernelHeadF.nD Cert.KernelHeadF.τ).loc Cert.KernelHeadF.main_arg3) = m ((c.tc : Thread Cert.KernelHeadF.nD Cert.KernelHeadF.τ).loc Cert.KernelHeadF.main_arg3)
      ∧ r.2.mem ((c.tc : Thread Cert.KernelHeadF.nD Cert.KernelHeadF.τ).loc Cert.KernelHeadF.main_arg4) = m ((c.tc : Thread Cert.KernelHeadF.nD Cert.KernelHeadF.τ).loc Cert.KernelHeadF.main_arg4))
      ∧ r.2.sem = fun _ => 0)

def quiescent_KernelHeadFIdeal [hKernelHeadFIdeal : Cert.KernelHeadFIdeal.Facts] : Prop :=
  ∀ (m : (ℓ : Loc Cert.KernelHeadFIdeal.nD Cert.KernelHeadFIdeal.τ Cert.KernelHeadFIdeal.sig) → Buf (Elt Ideal) ℓ) (g : Dev Cert.KernelHeadFIdeal.nD → PrngReg), Pre_KernelHeadFIdeal m →
    θ_run (Cert.KernelHeadFIdeal.defs (F := Ideal)) (onTc (τ := Cert.KernelHeadFIdeal.τ) (Cert.KernelHeadFIdeal.main (F := Ideal))) ⟨m, fun _ => 0, g⟩ (fun r => (∀ c : Dev Cert.KernelHeadFIdeal.nD,
      r.2.mem ((c.tc : Thread Cert.KernelHeadFIdeal.nD Cert.KernelHeadFIdeal.τ).loc Cert.KernelHeadFIdeal.main_arg0) = m ((c.tc : Thread Cert.KernelHeadFIdeal.nD Cert.KernelHeadFIdeal.τ).loc Cert.KernelHeadFIdeal.main_arg0)
      ∧ r.2.mem ((c.tc : Thread Cert.KernelHeadFIdeal.nD Cert.KernelHeadFIdeal.τ).loc Cert.KernelHeadFIdeal.main_arg1) = m ((c.tc : Thread Cert.KernelHeadFIdeal.nD Cert.KernelHeadFIdeal.τ).loc Cert.KernelHeadFIdeal.main_arg1)
      ∧ r.2.mem ((c.tc : Thread Cert.KernelHeadFIdeal.nD Cert.KernelHeadFIdeal.τ).loc Cert.KernelHeadFIdeal.main_arg2) = m ((c.tc : Thread Cert.KernelHeadFIdeal.nD Cert.KernelHeadFIdeal.τ).loc Cert.KernelHeadFIdeal.main_arg2)
      ∧ r.2.mem ((c.tc : Thread Cert.KernelHeadFIdeal.nD Cert.KernelHeadFIdeal.τ).loc Cert.KernelHeadFIdeal.main_arg3) = m ((c.tc : Thread Cert.KernelHeadFIdeal.nD Cert.KernelHeadFIdeal.τ).loc Cert.KernelHeadFIdeal.main_arg3)
      ∧ r.2.mem ((c.tc : Thread Cert.KernelHeadFIdeal.nD Cert.KernelHeadFIdeal.τ).loc Cert.KernelHeadFIdeal.main_arg4) = m ((c.tc : Thread Cert.KernelHeadFIdeal.nD Cert.KernelHeadFIdeal.τ).loc Cert.KernelHeadFIdeal.main_arg4))
      ∧ r.2.sem = fun _ => 0)

def quiescent_ReferenceHeadFIdeal [hReferenceHeadFIdeal : Cert.ReferenceHeadFIdeal.Facts] : Prop :=
  ∀ (m : (ℓ : Loc Cert.ReferenceHeadFIdeal.nD Cert.ReferenceHeadFIdeal.τ Cert.ReferenceHeadFIdeal.sig) → Buf (Elt Ideal) ℓ) (g : Dev Cert.ReferenceHeadFIdeal.nD → PrngReg), Pre_ReferenceHeadFIdeal m →
    θ_run (Cert.ReferenceHeadFIdeal.defs (F := Ideal)) (onTc (τ := Cert.ReferenceHeadFIdeal.τ) (Cert.ReferenceHeadFIdeal.main (F := Ideal))) ⟨m, fun _ => 0, g⟩ (fun r => (∀ c : Dev Cert.ReferenceHeadFIdeal.nD,
      r.2.mem ((c.tc : Thread Cert.ReferenceHeadFIdeal.nD Cert.ReferenceHeadFIdeal.τ).loc Cert.ReferenceHeadFIdeal.main_arg0) = m ((c.tc : Thread Cert.ReferenceHeadFIdeal.nD Cert.ReferenceHeadFIdeal.τ).loc Cert.ReferenceHeadFIdeal.main_arg0)
      ∧ r.2.mem ((c.tc : Thread Cert.ReferenceHeadFIdeal.nD Cert.ReferenceHeadFIdeal.τ).loc Cert.ReferenceHeadFIdeal.main_arg1) = m ((c.tc : Thread Cert.ReferenceHeadFIdeal.nD Cert.ReferenceHeadFIdeal.τ).loc Cert.ReferenceHeadFIdeal.main_arg1)
      ∧ r.2.mem ((c.tc : Thread Cert.ReferenceHeadFIdeal.nD Cert.ReferenceHeadFIdeal.τ).loc Cert.ReferenceHeadFIdeal.main_arg2) = m ((c.tc : Thread Cert.ReferenceHeadFIdeal.nD Cert.ReferenceHeadFIdeal.τ).loc Cert.ReferenceHeadFIdeal.main_arg2)
      ∧ r.2.mem ((c.tc : Thread Cert.ReferenceHeadFIdeal.nD Cert.ReferenceHeadFIdeal.τ).loc Cert.ReferenceHeadFIdeal.main_arg3) = m ((c.tc : Thread Cert.ReferenceHeadFIdeal.nD Cert.ReferenceHeadFIdeal.τ).loc Cert.ReferenceHeadFIdeal.main_arg3)
      ∧ r.2.mem ((c.tc : Thread Cert.ReferenceHeadFIdeal.nD Cert.ReferenceHeadFIdeal.τ).loc Cert.ReferenceHeadFIdeal.main_arg4) = m ((c.tc : Thread Cert.ReferenceHeadFIdeal.nD Cert.ReferenceHeadFIdeal.τ).loc Cert.ReferenceHeadFIdeal.main_arg4))
      ∧ r.2.sem = fun _ => 0)

def quiescent_KernelHeadB [hKernelHeadB : Cert.KernelHeadB.Facts] : Prop :=
  ∀ (m : (ℓ : Loc Cert.KernelHeadB.nD Cert.KernelHeadB.τ Cert.KernelHeadB.sig) → Buf (Elt Bits) ℓ) (g : Dev Cert.KernelHeadB.nD → PrngReg), Pre_KernelHeadB m →
    θ_run (Cert.KernelHeadB.defs (F := Bits)) (onTc (τ := Cert.KernelHeadB.τ) (Cert.KernelHeadB.main (F := Bits))) ⟨m, fun _ => 0, g⟩ (fun r => (∀ c : Dev Cert.KernelHeadB.nD,
      r.2.mem ((c.tc : Thread Cert.KernelHeadB.nD Cert.KernelHeadB.τ).loc Cert.KernelHeadB.main_arg0) = m ((c.tc : Thread Cert.KernelHeadB.nD Cert.KernelHeadB.τ).loc Cert.KernelHeadB.main_arg0)
      ∧ r.2.mem ((c.tc : Thread Cert.KernelHeadB.nD Cert.KernelHeadB.τ).loc Cert.KernelHeadB.main_arg1) = m ((c.tc : Thread Cert.KernelHeadB.nD Cert.KernelHeadB.τ).loc Cert.KernelHeadB.main_arg1)
      ∧ r.2.mem ((c.tc : Thread Cert.KernelHeadB.nD Cert.KernelHeadB.τ).loc Cert.KernelHeadB.main_arg2) = m ((c.tc : Thread Cert.KernelHeadB.nD Cert.KernelHeadB.τ).loc Cert.KernelHeadB.main_arg2)
      ∧ r.2.mem ((c.tc : Thread Cert.KernelHeadB.nD Cert.KernelHeadB.τ).loc Cert.KernelHeadB.main_arg3) = m ((c.tc : Thread Cert.KernelHeadB.nD Cert.KernelHeadB.τ).loc Cert.KernelHeadB.main_arg3)
      ∧ r.2.mem ((c.tc : Thread Cert.KernelHeadB.nD Cert.KernelHeadB.τ).loc Cert.KernelHeadB.main_arg4) = m ((c.tc : Thread Cert.KernelHeadB.nD Cert.KernelHeadB.τ).loc Cert.KernelHeadB.main_arg4))
      ∧ r.2.sem = fun _ => 0)

def quiescent_KernelHeadBIdeal [hKernelHeadBIdeal : Cert.KernelHeadBIdeal.Facts] : Prop :=
  ∀ (m : (ℓ : Loc Cert.KernelHeadBIdeal.nD Cert.KernelHeadBIdeal.τ Cert.KernelHeadBIdeal.sig) → Buf (Elt Ideal) ℓ) (g : Dev Cert.KernelHeadBIdeal.nD → PrngReg), Pre_KernelHeadBIdeal m →
    θ_run (Cert.KernelHeadBIdeal.defs (F := Ideal)) (onTc (τ := Cert.KernelHeadBIdeal.τ) (Cert.KernelHeadBIdeal.main (F := Ideal))) ⟨m, fun _ => 0, g⟩ (fun r => (∀ c : Dev Cert.KernelHeadBIdeal.nD,
      r.2.mem ((c.tc : Thread Cert.KernelHeadBIdeal.nD Cert.KernelHeadBIdeal.τ).loc Cert.KernelHeadBIdeal.main_arg0) = m ((c.tc : Thread Cert.KernelHeadBIdeal.nD Cert.KernelHeadBIdeal.τ).loc Cert.KernelHeadBIdeal.main_arg0)
      ∧ r.2.mem ((c.tc : Thread Cert.KernelHeadBIdeal.nD Cert.KernelHeadBIdeal.τ).loc Cert.KernelHeadBIdeal.main_arg1) = m ((c.tc : Thread Cert.KernelHeadBIdeal.nD Cert.KernelHeadBIdeal.τ).loc Cert.KernelHeadBIdeal.main_arg1)
      ∧ r.2.mem ((c.tc : Thread Cert.KernelHeadBIdeal.nD Cert.KernelHeadBIdeal.τ).loc Cert.KernelHeadBIdeal.main_arg2) = m ((c.tc : Thread Cert.KernelHeadBIdeal.nD Cert.KernelHeadBIdeal.τ).loc Cert.KernelHeadBIdeal.main_arg2)
      ∧ r.2.mem ((c.tc : Thread Cert.KernelHeadBIdeal.nD Cert.KernelHeadBIdeal.τ).loc Cert.KernelHeadBIdeal.main_arg3) = m ((c.tc : Thread Cert.KernelHeadBIdeal.nD Cert.KernelHeadBIdeal.τ).loc Cert.KernelHeadBIdeal.main_arg3)
      ∧ r.2.mem ((c.tc : Thread Cert.KernelHeadBIdeal.nD Cert.KernelHeadBIdeal.τ).loc Cert.KernelHeadBIdeal.main_arg4) = m ((c.tc : Thread Cert.KernelHeadBIdeal.nD Cert.KernelHeadBIdeal.τ).loc Cert.KernelHeadBIdeal.main_arg4))
      ∧ r.2.sem = fun _ => 0)

def quiescent_ReferenceHeadBIdeal [hReferenceHeadBIdeal : Cert.ReferenceHeadBIdeal.Facts] : Prop :=
  ∀ (m : (ℓ : Loc Cert.ReferenceHeadBIdeal.nD Cert.ReferenceHeadBIdeal.τ Cert.ReferenceHeadBIdeal.sig) → Buf (Elt Ideal) ℓ) (g : Dev Cert.ReferenceHeadBIdeal.nD → PrngReg), Pre_ReferenceHeadBIdeal m →
    θ_run (Cert.ReferenceHeadBIdeal.defs (F := Ideal)) (onTc (τ := Cert.ReferenceHeadBIdeal.τ) (Cert.ReferenceHeadBIdeal.main (F := Ideal))) ⟨m, fun _ => 0, g⟩ (fun r => (∀ c : Dev Cert.ReferenceHeadBIdeal.nD,
      r.2.mem ((c.tc : Thread Cert.ReferenceHeadBIdeal.nD Cert.ReferenceHeadBIdeal.τ).loc Cert.ReferenceHeadBIdeal.main_arg0) = m ((c.tc : Thread Cert.ReferenceHeadBIdeal.nD Cert.ReferenceHeadBIdeal.τ).loc Cert.ReferenceHeadBIdeal.main_arg0)
      ∧ r.2.mem ((c.tc : Thread Cert.ReferenceHeadBIdeal.nD Cert.ReferenceHeadBIdeal.τ).loc Cert.ReferenceHeadBIdeal.main_arg1) = m ((c.tc : Thread Cert.ReferenceHeadBIdeal.nD Cert.ReferenceHeadBIdeal.τ).loc Cert.ReferenceHeadBIdeal.main_arg1)
      ∧ r.2.mem ((c.tc : Thread Cert.ReferenceHeadBIdeal.nD Cert.ReferenceHeadBIdeal.τ).loc Cert.ReferenceHeadBIdeal.main_arg2) = m ((c.tc : Thread Cert.ReferenceHeadBIdeal.nD Cert.ReferenceHeadBIdeal.τ).loc Cert.ReferenceHeadBIdeal.main_arg2)
      ∧ r.2.mem ((c.tc : Thread Cert.ReferenceHeadBIdeal.nD Cert.ReferenceHeadBIdeal.τ).loc Cert.ReferenceHeadBIdeal.main_arg3) = m ((c.tc : Thread Cert.ReferenceHeadBIdeal.nD Cert.ReferenceHeadBIdeal.τ).loc Cert.ReferenceHeadBIdeal.main_arg3)
      ∧ r.2.mem ((c.tc : Thread Cert.ReferenceHeadBIdeal.nD Cert.ReferenceHeadBIdeal.τ).loc Cert.ReferenceHeadBIdeal.main_arg4) = m ((c.tc : Thread Cert.ReferenceHeadBIdeal.nD Cert.ReferenceHeadBIdeal.τ).loc Cert.ReferenceHeadBIdeal.main_arg4))
      ∧ r.2.sem = fun _ => 0)

def quiescent_KernelGoutF [hKernelGoutF : Cert.KernelGoutF.Facts] : Prop :=
  ∀ (m : (ℓ : Loc Cert.KernelGoutF.nD Cert.KernelGoutF.τ Cert.KernelGoutF.sig) → Buf (Elt Bits) ℓ) (g : Dev Cert.KernelGoutF.nD → PrngReg), Pre_KernelGoutF m →
    θ_run (Cert.KernelGoutF.defs (F := Bits)) (onTc (τ := Cert.KernelGoutF.τ) (Cert.KernelGoutF.main (F := Bits))) ⟨m, fun _ => 0, g⟩ (fun r => (∀ c : Dev Cert.KernelGoutF.nD,
      r.2.mem ((c.tc : Thread Cert.KernelGoutF.nD Cert.KernelGoutF.τ).loc Cert.KernelGoutF.main_arg0) = m ((c.tc : Thread Cert.KernelGoutF.nD Cert.KernelGoutF.τ).loc Cert.KernelGoutF.main_arg0)
      ∧ r.2.mem ((c.tc : Thread Cert.KernelGoutF.nD Cert.KernelGoutF.τ).loc Cert.KernelGoutF.main_arg1) = m ((c.tc : Thread Cert.KernelGoutF.nD Cert.KernelGoutF.τ).loc Cert.KernelGoutF.main_arg1)
      ∧ r.2.mem ((c.tc : Thread Cert.KernelGoutF.nD Cert.KernelGoutF.τ).loc Cert.KernelGoutF.main_arg2) = m ((c.tc : Thread Cert.KernelGoutF.nD Cert.KernelGoutF.τ).loc Cert.KernelGoutF.main_arg2))
      ∧ r.2.sem = fun _ => 0)

def quiescent_KernelGoutFIdeal [hKernelGoutFIdeal : Cert.KernelGoutFIdeal.Facts] : Prop :=
  ∀ (m : (ℓ : Loc Cert.KernelGoutFIdeal.nD Cert.KernelGoutFIdeal.τ Cert.KernelGoutFIdeal.sig) → Buf (Elt Ideal) ℓ) (g : Dev Cert.KernelGoutFIdeal.nD → PrngReg), Pre_KernelGoutFIdeal m →
    θ_run (Cert.KernelGoutFIdeal.defs (F := Ideal)) (onTc (τ := Cert.KernelGoutFIdeal.τ) (Cert.KernelGoutFIdeal.main (F := Ideal))) ⟨m, fun _ => 0, g⟩ (fun r => (∀ c : Dev Cert.KernelGoutFIdeal.nD,
      r.2.mem ((c.tc : Thread Cert.KernelGoutFIdeal.nD Cert.KernelGoutFIdeal.τ).loc Cert.KernelGoutFIdeal.main_arg0) = m ((c.tc : Thread Cert.KernelGoutFIdeal.nD Cert.KernelGoutFIdeal.τ).loc Cert.KernelGoutFIdeal.main_arg0)
      ∧ r.2.mem ((c.tc : Thread Cert.KernelGoutFIdeal.nD Cert.KernelGoutFIdeal.τ).loc Cert.KernelGoutFIdeal.main_arg1) = m ((c.tc : Thread Cert.KernelGoutFIdeal.nD Cert.KernelGoutFIdeal.τ).loc Cert.KernelGoutFIdeal.main_arg1)
      ∧ r.2.mem ((c.tc : Thread Cert.KernelGoutFIdeal.nD Cert.KernelGoutFIdeal.τ).loc Cert.KernelGoutFIdeal.main_arg2) = m ((c.tc : Thread Cert.KernelGoutFIdeal.nD Cert.KernelGoutFIdeal.τ).loc Cert.KernelGoutFIdeal.main_arg2))
      ∧ r.2.sem = fun _ => 0)

def quiescent_ReferenceGoutFIdeal [hReferenceGoutFIdeal : Cert.ReferenceGoutFIdeal.Facts] : Prop :=
  ∀ (m : (ℓ : Loc Cert.ReferenceGoutFIdeal.nD Cert.ReferenceGoutFIdeal.τ Cert.ReferenceGoutFIdeal.sig) → Buf (Elt Ideal) ℓ) (g : Dev Cert.ReferenceGoutFIdeal.nD → PrngReg), Pre_ReferenceGoutFIdeal m →
    θ_run (Cert.ReferenceGoutFIdeal.defs (F := Ideal)) (onTc (τ := Cert.ReferenceGoutFIdeal.τ) (Cert.ReferenceGoutFIdeal.main (F := Ideal))) ⟨m, fun _ => 0, g⟩ (fun r => (∀ c : Dev Cert.ReferenceGoutFIdeal.nD,
      r.2.mem ((c.tc : Thread Cert.ReferenceGoutFIdeal.nD Cert.ReferenceGoutFIdeal.τ).loc Cert.ReferenceGoutFIdeal.main_arg0) = m ((c.tc : Thread Cert.ReferenceGoutFIdeal.nD Cert.ReferenceGoutFIdeal.τ).loc Cert.ReferenceGoutFIdeal.main_arg0)
      ∧ r.2.mem ((c.tc : Thread Cert.ReferenceGoutFIdeal.nD Cert.ReferenceGoutFIdeal.τ).loc Cert.ReferenceGoutFIdeal.main_arg1) = m ((c.tc : Thread Cert.ReferenceGoutFIdeal.nD Cert.ReferenceGoutFIdeal.τ).loc Cert.ReferenceGoutFIdeal.main_arg1)
      ∧ r.2.mem ((c.tc : Thread Cert.ReferenceGoutFIdeal.nD Cert.ReferenceGoutFIdeal.τ).loc Cert.ReferenceGoutFIdeal.main_arg2) = m ((c.tc : Thread Cert.ReferenceGoutFIdeal.nD Cert.ReferenceGoutFIdeal.τ).loc Cert.ReferenceGoutFIdeal.main_arg2))
      ∧ r.2.sem = fun _ => 0)

def quiescent_KernelNormcF [hKernelNormcF : Cert.KernelNormcF.Facts] : Prop :=
  ∀ (m : (ℓ : Loc Cert.KernelNormcF.nD Cert.KernelNormcF.τ Cert.KernelNormcF.sig) → Buf (Elt Bits) ℓ) (g : Dev Cert.KernelNormcF.nD → PrngReg), Pre_KernelNormcF m →
    θ_run (Cert.KernelNormcF.defs (F := Bits)) (onTc (τ := Cert.KernelNormcF.τ) (Cert.KernelNormcF.main (F := Bits))) ⟨m, fun _ => 0, g⟩ (fun r => (∀ c : Dev Cert.KernelNormcF.nD,
      r.2.mem ((c.tc : Thread Cert.KernelNormcF.nD Cert.KernelNormcF.τ).loc Cert.KernelNormcF.main_arg0) = m ((c.tc : Thread Cert.KernelNormcF.nD Cert.KernelNormcF.τ).loc Cert.KernelNormcF.main_arg0)
      ∧ r.2.mem ((c.tc : Thread Cert.KernelNormcF.nD Cert.KernelNormcF.τ).loc Cert.KernelNormcF.main_arg1) = m ((c.tc : Thread Cert.KernelNormcF.nD Cert.KernelNormcF.τ).loc Cert.KernelNormcF.main_arg1)
      ∧ r.2.mem ((c.tc : Thread Cert.KernelNormcF.nD Cert.KernelNormcF.τ).loc Cert.KernelNormcF.main_arg2) = m ((c.tc : Thread Cert.KernelNormcF.nD Cert.KernelNormcF.τ).loc Cert.KernelNormcF.main_arg2))
      ∧ r.2.sem = fun _ => 0)

def quiescent_KernelNormcFIdeal [hKernelNormcFIdeal : Cert.KernelNormcFIdeal.Facts] : Prop :=
  ∀ (m : (ℓ : Loc Cert.KernelNormcFIdeal.nD Cert.KernelNormcFIdeal.τ Cert.KernelNormcFIdeal.sig) → Buf (Elt Ideal) ℓ) (g : Dev Cert.KernelNormcFIdeal.nD → PrngReg), Pre_KernelNormcFIdeal m →
    θ_run (Cert.KernelNormcFIdeal.defs (F := Ideal)) (onTc (τ := Cert.KernelNormcFIdeal.τ) (Cert.KernelNormcFIdeal.main (F := Ideal))) ⟨m, fun _ => 0, g⟩ (fun r => (∀ c : Dev Cert.KernelNormcFIdeal.nD,
      r.2.mem ((c.tc : Thread Cert.KernelNormcFIdeal.nD Cert.KernelNormcFIdeal.τ).loc Cert.KernelNormcFIdeal.main_arg0) = m ((c.tc : Thread Cert.KernelNormcFIdeal.nD Cert.KernelNormcFIdeal.τ).loc Cert.KernelNormcFIdeal.main_arg0)
      ∧ r.2.mem ((c.tc : Thread Cert.KernelNormcFIdeal.nD Cert.KernelNormcFIdeal.τ).loc Cert.KernelNormcFIdeal.main_arg1) = m ((c.tc : Thread Cert.KernelNormcFIdeal.nD Cert.KernelNormcFIdeal.τ).loc Cert.KernelNormcFIdeal.main_arg1)
      ∧ r.2.mem ((c.tc : Thread Cert.KernelNormcFIdeal.nD Cert.KernelNormcFIdeal.τ).loc Cert.KernelNormcFIdeal.main_arg2) = m ((c.tc : Thread Cert.KernelNormcFIdeal.nD Cert.KernelNormcFIdeal.τ).loc Cert.KernelNormcFIdeal.main_arg2))
      ∧ r.2.sem = fun _ => 0)

def quiescent_ReferenceNormcFIdeal [hReferenceNormcFIdeal : Cert.ReferenceNormcFIdeal.Facts] : Prop :=
  ∀ (m : (ℓ : Loc Cert.ReferenceNormcFIdeal.nD Cert.ReferenceNormcFIdeal.τ Cert.ReferenceNormcFIdeal.sig) → Buf (Elt Ideal) ℓ) (g : Dev Cert.ReferenceNormcFIdeal.nD → PrngReg), Pre_ReferenceNormcFIdeal m →
    θ_run (Cert.ReferenceNormcFIdeal.defs (F := Ideal)) (onTc (τ := Cert.ReferenceNormcFIdeal.τ) (Cert.ReferenceNormcFIdeal.main (F := Ideal))) ⟨m, fun _ => 0, g⟩ (fun r => (∀ c : Dev Cert.ReferenceNormcFIdeal.nD,
      r.2.mem ((c.tc : Thread Cert.ReferenceNormcFIdeal.nD Cert.ReferenceNormcFIdeal.τ).loc Cert.ReferenceNormcFIdeal.main_arg0) = m ((c.tc : Thread Cert.ReferenceNormcFIdeal.nD Cert.ReferenceNormcFIdeal.τ).loc Cert.ReferenceNormcFIdeal.main_arg0)
      ∧ r.2.mem ((c.tc : Thread Cert.ReferenceNormcFIdeal.nD Cert.ReferenceNormcFIdeal.τ).loc Cert.ReferenceNormcFIdeal.main_arg1) = m ((c.tc : Thread Cert.ReferenceNormcFIdeal.nD Cert.ReferenceNormcFIdeal.τ).loc Cert.ReferenceNormcFIdeal.main_arg1)
      ∧ r.2.mem ((c.tc : Thread Cert.ReferenceNormcFIdeal.nD Cert.ReferenceNormcFIdeal.τ).loc Cert.ReferenceNormcFIdeal.main_arg2) = m ((c.tc : Thread Cert.ReferenceNormcFIdeal.nD Cert.ReferenceNormcFIdeal.τ).loc Cert.ReferenceNormcFIdeal.main_arg2))
      ∧ r.2.sem = fun _ => 0)

def quiescent_KernelNormcB [hKernelNormcB : Cert.KernelNormcB.Facts] : Prop :=
  ∀ (m : (ℓ : Loc Cert.KernelNormcB.nD Cert.KernelNormcB.τ Cert.KernelNormcB.sig) → Buf (Elt Bits) ℓ) (g : Dev Cert.KernelNormcB.nD → PrngReg), Pre_KernelNormcB m →
    θ_run (Cert.KernelNormcB.defs (F := Bits)) (onTc (τ := Cert.KernelNormcB.τ) (Cert.KernelNormcB.main (F := Bits))) ⟨m, fun _ => 0, g⟩ (fun r => (∀ c : Dev Cert.KernelNormcB.nD,
      r.2.mem ((c.tc : Thread Cert.KernelNormcB.nD Cert.KernelNormcB.τ).loc Cert.KernelNormcB.main_arg0) = m ((c.tc : Thread Cert.KernelNormcB.nD Cert.KernelNormcB.τ).loc Cert.KernelNormcB.main_arg0)
      ∧ r.2.mem ((c.tc : Thread Cert.KernelNormcB.nD Cert.KernelNormcB.τ).loc Cert.KernelNormcB.main_arg1) = m ((c.tc : Thread Cert.KernelNormcB.nD Cert.KernelNormcB.τ).loc Cert.KernelNormcB.main_arg1)
      ∧ r.2.mem ((c.tc : Thread Cert.KernelNormcB.nD Cert.KernelNormcB.τ).loc Cert.KernelNormcB.main_arg2) = m ((c.tc : Thread Cert.KernelNormcB.nD Cert.KernelNormcB.τ).loc Cert.KernelNormcB.main_arg2)
      ∧ r.2.mem ((c.tc : Thread Cert.KernelNormcB.nD Cert.KernelNormcB.τ).loc Cert.KernelNormcB.main_arg3) = m ((c.tc : Thread Cert.KernelNormcB.nD Cert.KernelNormcB.τ).loc Cert.KernelNormcB.main_arg3))
      ∧ r.2.sem = fun _ => 0)

def quiescent_KernelNormcBIdeal [hKernelNormcBIdeal : Cert.KernelNormcBIdeal.Facts] : Prop :=
  ∀ (m : (ℓ : Loc Cert.KernelNormcBIdeal.nD Cert.KernelNormcBIdeal.τ Cert.KernelNormcBIdeal.sig) → Buf (Elt Ideal) ℓ) (g : Dev Cert.KernelNormcBIdeal.nD → PrngReg), Pre_KernelNormcBIdeal m →
    θ_run (Cert.KernelNormcBIdeal.defs (F := Ideal)) (onTc (τ := Cert.KernelNormcBIdeal.τ) (Cert.KernelNormcBIdeal.main (F := Ideal))) ⟨m, fun _ => 0, g⟩ (fun r => (∀ c : Dev Cert.KernelNormcBIdeal.nD,
      r.2.mem ((c.tc : Thread Cert.KernelNormcBIdeal.nD Cert.KernelNormcBIdeal.τ).loc Cert.KernelNormcBIdeal.main_arg0) = m ((c.tc : Thread Cert.KernelNormcBIdeal.nD Cert.KernelNormcBIdeal.τ).loc Cert.KernelNormcBIdeal.main_arg0)
      ∧ r.2.mem ((c.tc : Thread Cert.KernelNormcBIdeal.nD Cert.KernelNormcBIdeal.τ).loc Cert.KernelNormcBIdeal.main_arg1) = m ((c.tc : Thread Cert.KernelNormcBIdeal.nD Cert.KernelNormcBIdeal.τ).loc Cert.KernelNormcBIdeal.main_arg1)
      ∧ r.2.mem ((c.tc : Thread Cert.KernelNormcBIdeal.nD Cert.KernelNormcBIdeal.τ).loc Cert.KernelNormcBIdeal.main_arg2) = m ((c.tc : Thread Cert.KernelNormcBIdeal.nD Cert.KernelNormcBIdeal.τ).loc Cert.KernelNormcBIdeal.main_arg2)
      ∧ r.2.mem ((c.tc : Thread Cert.KernelNormcBIdeal.nD Cert.KernelNormcBIdeal.τ).loc Cert.KernelNormcBIdeal.main_arg3) = m ((c.tc : Thread Cert.KernelNormcBIdeal.nD Cert.KernelNormcBIdeal.τ).loc Cert.KernelNormcBIdeal.main_arg3))
      ∧ r.2.sem = fun _ => 0)

def quiescent_ReferenceNormcBIdeal [hReferenceNormcBIdeal : Cert.ReferenceNormcBIdeal.Facts] : Prop :=
  ∀ (m : (ℓ : Loc Cert.ReferenceNormcBIdeal.nD Cert.ReferenceNormcBIdeal.τ Cert.ReferenceNormcBIdeal.sig) → Buf (Elt Ideal) ℓ) (g : Dev Cert.ReferenceNormcBIdeal.nD → PrngReg), Pre_ReferenceNormcBIdeal m →
    θ_run (Cert.ReferenceNormcBIdeal.defs (F := Ideal)) (onTc (τ := Cert.ReferenceNormcBIdeal.τ) (Cert.ReferenceNormcBIdeal.main (F := Ideal))) ⟨m, fun _ => 0, g⟩ (fun r => (∀ c : Dev Cert.ReferenceNormcBIdeal.nD,
      r.2.mem ((c.tc : Thread Cert.ReferenceNormcBIdeal.nD Cert.ReferenceNormcBIdeal.τ).loc Cert.ReferenceNormcBIdeal.main_arg0) = m ((c.tc : Thread Cert.ReferenceNormcBIdeal.nD Cert.ReferenceNormcBIdeal.τ).loc Cert.ReferenceNormcBIdeal.main_arg0)
      ∧ r.2.mem ((c.tc : Thread Cert.ReferenceNormcBIdeal.nD Cert.ReferenceNormcBIdeal.τ).loc Cert.ReferenceNormcBIdeal.main_arg1) = m ((c.tc : Thread Cert.ReferenceNormcBIdeal.nD Cert.ReferenceNormcBIdeal.τ).loc Cert.ReferenceNormcBIdeal.main_arg1)
      ∧ r.2.mem ((c.tc : Thread Cert.ReferenceNormcBIdeal.nD Cert.ReferenceNormcBIdeal.τ).loc Cert.ReferenceNormcBIdeal.main_arg2) = m ((c.tc : Thread Cert.ReferenceNormcBIdeal.nD Cert.ReferenceNormcBIdeal.τ).loc Cert.ReferenceNormcBIdeal.main_arg2)
      ∧ r.2.mem ((c.tc : Thread Cert.ReferenceNormcBIdeal.nD Cert.ReferenceNormcBIdeal.τ).loc Cert.ReferenceNormcBIdeal.main_arg3) = m ((c.tc : Thread Cert.ReferenceNormcBIdeal.nD Cert.ReferenceNormcBIdeal.τ).loc Cert.ReferenceNormcBIdeal.main_arg3))
      ∧ r.2.sem = fun _ => 0)

def quiescent_KernelFfnF [hKernelFfnF : Cert.KernelFfnF.Facts] : Prop :=
  ∀ (m : (ℓ : Loc Cert.KernelFfnF.nD Cert.KernelFfnF.τ Cert.KernelFfnF.sig) → Buf (Elt Bits) ℓ) (g : Dev Cert.KernelFfnF.nD → PrngReg), Pre_KernelFfnF m →
    θ_run (Cert.KernelFfnF.defs (F := Bits)) (onTc (τ := Cert.KernelFfnF.τ) (Cert.KernelFfnF.main (F := Bits))) ⟨m, fun _ => 0, g⟩ (fun r => (∀ c : Dev Cert.KernelFfnF.nD,
      r.2.mem ((c.tc : Thread Cert.KernelFfnF.nD Cert.KernelFfnF.τ).loc Cert.KernelFfnF.main_arg0) = m ((c.tc : Thread Cert.KernelFfnF.nD Cert.KernelFfnF.τ).loc Cert.KernelFfnF.main_arg0)
      ∧ r.2.mem ((c.tc : Thread Cert.KernelFfnF.nD Cert.KernelFfnF.τ).loc Cert.KernelFfnF.main_arg1) = m ((c.tc : Thread Cert.KernelFfnF.nD Cert.KernelFfnF.τ).loc Cert.KernelFfnF.main_arg1)
      ∧ r.2.mem ((c.tc : Thread Cert.KernelFfnF.nD Cert.KernelFfnF.τ).loc Cert.KernelFfnF.main_arg2) = m ((c.tc : Thread Cert.KernelFfnF.nD Cert.KernelFfnF.τ).loc Cert.KernelFfnF.main_arg2))
      ∧ r.2.sem = fun _ => 0)

def quiescent_KernelFfnFIdeal [hKernelFfnFIdeal : Cert.KernelFfnFIdeal.Facts] : Prop :=
  ∀ (m : (ℓ : Loc Cert.KernelFfnFIdeal.nD Cert.KernelFfnFIdeal.τ Cert.KernelFfnFIdeal.sig) → Buf (Elt Ideal) ℓ) (g : Dev Cert.KernelFfnFIdeal.nD → PrngReg), Pre_KernelFfnFIdeal m →
    θ_run (Cert.KernelFfnFIdeal.defs (F := Ideal)) (onTc (τ := Cert.KernelFfnFIdeal.τ) (Cert.KernelFfnFIdeal.main (F := Ideal))) ⟨m, fun _ => 0, g⟩ (fun r => (∀ c : Dev Cert.KernelFfnFIdeal.nD,
      r.2.mem ((c.tc : Thread Cert.KernelFfnFIdeal.nD Cert.KernelFfnFIdeal.τ).loc Cert.KernelFfnFIdeal.main_arg0) = m ((c.tc : Thread Cert.KernelFfnFIdeal.nD Cert.KernelFfnFIdeal.τ).loc Cert.KernelFfnFIdeal.main_arg0)
      ∧ r.2.mem ((c.tc : Thread Cert.KernelFfnFIdeal.nD Cert.KernelFfnFIdeal.τ).loc Cert.KernelFfnFIdeal.main_arg1) = m ((c.tc : Thread Cert.KernelFfnFIdeal.nD Cert.KernelFfnFIdeal.τ).loc Cert.KernelFfnFIdeal.main_arg1)
      ∧ r.2.mem ((c.tc : Thread Cert.KernelFfnFIdeal.nD Cert.KernelFfnFIdeal.τ).loc Cert.KernelFfnFIdeal.main_arg2) = m ((c.tc : Thread Cert.KernelFfnFIdeal.nD Cert.KernelFfnFIdeal.τ).loc Cert.KernelFfnFIdeal.main_arg2))
      ∧ r.2.sem = fun _ => 0)

def quiescent_ReferenceFfnFIdeal [hReferenceFfnFIdeal : Cert.ReferenceFfnFIdeal.Facts] : Prop :=
  ∀ (m : (ℓ : Loc Cert.ReferenceFfnFIdeal.nD Cert.ReferenceFfnFIdeal.τ Cert.ReferenceFfnFIdeal.sig) → Buf (Elt Ideal) ℓ) (g : Dev Cert.ReferenceFfnFIdeal.nD → PrngReg), Pre_ReferenceFfnFIdeal m →
    θ_run (Cert.ReferenceFfnFIdeal.defs (F := Ideal)) (onTc (τ := Cert.ReferenceFfnFIdeal.τ) (Cert.ReferenceFfnFIdeal.main (F := Ideal))) ⟨m, fun _ => 0, g⟩ (fun r => (∀ c : Dev Cert.ReferenceFfnFIdeal.nD,
      r.2.mem ((c.tc : Thread Cert.ReferenceFfnFIdeal.nD Cert.ReferenceFfnFIdeal.τ).loc Cert.ReferenceFfnFIdeal.main_arg0) = m ((c.tc : Thread Cert.ReferenceFfnFIdeal.nD Cert.ReferenceFfnFIdeal.τ).loc Cert.ReferenceFfnFIdeal.main_arg0)
      ∧ r.2.mem ((c.tc : Thread Cert.ReferenceFfnFIdeal.nD Cert.ReferenceFfnFIdeal.τ).loc Cert.ReferenceFfnFIdeal.main_arg1) = m ((c.tc : Thread Cert.ReferenceFfnFIdeal.nD Cert.ReferenceFfnFIdeal.τ).loc Cert.ReferenceFfnFIdeal.main_arg1)
      ∧ r.2.mem ((c.tc : Thread Cert.ReferenceFfnFIdeal.nD Cert.ReferenceFfnFIdeal.τ).loc Cert.ReferenceFfnFIdeal.main_arg2) = m ((c.tc : Thread Cert.ReferenceFfnFIdeal.nD Cert.ReferenceFfnFIdeal.τ).loc Cert.ReferenceFfnFIdeal.main_arg2))
      ∧ r.2.sem = fun _ => 0)

def quiescent_KernelFfnB [hKernelFfnB : Cert.KernelFfnB.Facts] : Prop :=
  ∀ (m : (ℓ : Loc Cert.KernelFfnB.nD Cert.KernelFfnB.τ Cert.KernelFfnB.sig) → Buf (Elt Bits) ℓ) (g : Dev Cert.KernelFfnB.nD → PrngReg), Pre_KernelFfnB m →
    θ_run (Cert.KernelFfnB.defs (F := Bits)) (onTc (τ := Cert.KernelFfnB.τ) (Cert.KernelFfnB.main (F := Bits))) ⟨m, fun _ => 0, g⟩ (fun r => (∀ c : Dev Cert.KernelFfnB.nD,
      r.2.mem ((c.tc : Thread Cert.KernelFfnB.nD Cert.KernelFfnB.τ).loc Cert.KernelFfnB.main_arg0) = m ((c.tc : Thread Cert.KernelFfnB.nD Cert.KernelFfnB.τ).loc Cert.KernelFfnB.main_arg0)
      ∧ r.2.mem ((c.tc : Thread Cert.KernelFfnB.nD Cert.KernelFfnB.τ).loc Cert.KernelFfnB.main_arg1) = m ((c.tc : Thread Cert.KernelFfnB.nD Cert.KernelFfnB.τ).loc Cert.KernelFfnB.main_arg1)
      ∧ r.2.mem ((c.tc : Thread Cert.KernelFfnB.nD Cert.KernelFfnB.τ).loc Cert.KernelFfnB.main_arg2) = m ((c.tc : Thread Cert.KernelFfnB.nD Cert.KernelFfnB.τ).loc Cert.KernelFfnB.main_arg2)
      ∧ r.2.mem ((c.tc : Thread Cert.KernelFfnB.nD Cert.KernelFfnB.τ).loc Cert.KernelFfnB.main_arg3) = m ((c.tc : Thread Cert.KernelFfnB.nD Cert.KernelFfnB.τ).loc Cert.KernelFfnB.main_arg3))
      ∧ r.2.sem = fun _ => 0)

def quiescent_KernelFfnBIdeal [hKernelFfnBIdeal : Cert.KernelFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg), Pre_KernelFfnBIdeal m →
    θ_run (Cert.KernelFfnBIdeal.defs (F := Ideal)) (onTc (τ := Cert.KernelFfnBIdeal.τ) (Cert.KernelFfnBIdeal.main (F := Ideal))) ⟨m, fun _ => 0, g⟩ (fun r => (∀ c : Dev Cert.KernelFfnBIdeal.nD,
      r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
      ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
      ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
      ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ r.2.sem = fun _ => 0)

def quiescent_ReferenceFfnBIdeal [hReferenceFfnBIdeal : Cert.ReferenceFfnBIdeal.Facts] : Prop :=
  ∀ (m : (ℓ : Loc Cert.ReferenceFfnBIdeal.nD Cert.ReferenceFfnBIdeal.τ Cert.ReferenceFfnBIdeal.sig) → Buf (Elt Ideal) ℓ) (g : Dev Cert.ReferenceFfnBIdeal.nD → PrngReg), Pre_ReferenceFfnBIdeal m →
    θ_run (Cert.ReferenceFfnBIdeal.defs (F := Ideal)) (onTc (τ := Cert.ReferenceFfnBIdeal.τ) (Cert.ReferenceFfnBIdeal.main (F := Ideal))) ⟨m, fun _ => 0, g⟩ (fun r => (∀ c : Dev Cert.ReferenceFfnBIdeal.nD,
      r.2.mem ((c.tc : Thread Cert.ReferenceFfnBIdeal.nD Cert.ReferenceFfnBIdeal.τ).loc Cert.ReferenceFfnBIdeal.main_arg0) = m ((c.tc : Thread Cert.ReferenceFfnBIdeal.nD Cert.ReferenceFfnBIdeal.τ).loc Cert.ReferenceFfnBIdeal.main_arg0)
      ∧ r.2.mem ((c.tc : Thread Cert.ReferenceFfnBIdeal.nD Cert.ReferenceFfnBIdeal.τ).loc Cert.ReferenceFfnBIdeal.main_arg1) = m ((c.tc : Thread Cert.ReferenceFfnBIdeal.nD Cert.ReferenceFfnBIdeal.τ).loc Cert.ReferenceFfnBIdeal.main_arg1)
      ∧ r.2.mem ((c.tc : Thread Cert.ReferenceFfnBIdeal.nD Cert.ReferenceFfnBIdeal.τ).loc Cert.ReferenceFfnBIdeal.main_arg2) = m ((c.tc : Thread Cert.ReferenceFfnBIdeal.nD Cert.ReferenceFfnBIdeal.τ).loc Cert.ReferenceFfnBIdeal.main_arg2)
      ∧ r.2.mem ((c.tc : Thread Cert.ReferenceFfnBIdeal.nD Cert.ReferenceFfnBIdeal.τ).loc Cert.ReferenceFfnBIdeal.main_arg3) = m ((c.tc : Thread Cert.ReferenceFfnBIdeal.nD Cert.ReferenceFfnBIdeal.τ).loc Cert.ReferenceFfnBIdeal.main_arg3))
      ∧ r.2.sem = fun _ => 0)

def quiescent_KernelPrepF [hKernelPrepF : Cert.KernelPrepF.Facts] : Prop :=
  ∀ (m : (ℓ : Loc Cert.KernelPrepF.nD Cert.KernelPrepF.τ Cert.KernelPrepF.sig) → Buf (Elt Bits) ℓ) (g : Dev Cert.KernelPrepF.nD → PrngReg), Pre_KernelPrepF m →
    θ_run (Cert.KernelPrepF.defs (F := Bits)) (onTc (τ := Cert.KernelPrepF.τ) (Cert.KernelPrepF.main (F := Bits))) ⟨m, fun _ => 0, g⟩ (fun r => (∀ c : Dev Cert.KernelPrepF.nD,
      r.2.mem ((c.tc : Thread Cert.KernelPrepF.nD Cert.KernelPrepF.τ).loc Cert.KernelPrepF.main_arg0) = m ((c.tc : Thread Cert.KernelPrepF.nD Cert.KernelPrepF.τ).loc Cert.KernelPrepF.main_arg0)
      ∧ r.2.mem ((c.tc : Thread Cert.KernelPrepF.nD Cert.KernelPrepF.τ).loc Cert.KernelPrepF.main_arg1) = m ((c.tc : Thread Cert.KernelPrepF.nD Cert.KernelPrepF.τ).loc Cert.KernelPrepF.main_arg1))
      ∧ r.2.sem = fun _ => 0)

def quiescent_KernelPrepFIdeal [hKernelPrepFIdeal : Cert.KernelPrepFIdeal.Facts] : Prop :=
  ∀ (m : (ℓ : Loc Cert.KernelPrepFIdeal.nD Cert.KernelPrepFIdeal.τ Cert.KernelPrepFIdeal.sig) → Buf (Elt Ideal) ℓ) (g : Dev Cert.KernelPrepFIdeal.nD → PrngReg), Pre_KernelPrepFIdeal m →
    θ_run (Cert.KernelPrepFIdeal.defs (F := Ideal)) (onTc (τ := Cert.KernelPrepFIdeal.τ) (Cert.KernelPrepFIdeal.main (F := Ideal))) ⟨m, fun _ => 0, g⟩ (fun r => (∀ c : Dev Cert.KernelPrepFIdeal.nD,
      r.2.mem ((c.tc : Thread Cert.KernelPrepFIdeal.nD Cert.KernelPrepFIdeal.τ).loc Cert.KernelPrepFIdeal.main_arg0) = m ((c.tc : Thread Cert.KernelPrepFIdeal.nD Cert.KernelPrepFIdeal.τ).loc Cert.KernelPrepFIdeal.main_arg0)
      ∧ r.2.mem ((c.tc : Thread Cert.KernelPrepFIdeal.nD Cert.KernelPrepFIdeal.τ).loc Cert.KernelPrepFIdeal.main_arg1) = m ((c.tc : Thread Cert.KernelPrepFIdeal.nD Cert.KernelPrepFIdeal.τ).loc Cert.KernelPrepFIdeal.main_arg1))
      ∧ r.2.sem = fun _ => 0)

def quiescent_ReferencePrepFIdeal [hReferencePrepFIdeal : Cert.ReferencePrepFIdeal.Facts] : Prop :=
  ∀ (m : (ℓ : Loc Cert.ReferencePrepFIdeal.nD Cert.ReferencePrepFIdeal.τ Cert.ReferencePrepFIdeal.sig) → Buf (Elt Ideal) ℓ) (g : Dev Cert.ReferencePrepFIdeal.nD → PrngReg), Pre_ReferencePrepFIdeal m →
    θ_run (Cert.ReferencePrepFIdeal.defs (F := Ideal)) (onTc (τ := Cert.ReferencePrepFIdeal.τ) (Cert.ReferencePrepFIdeal.main (F := Ideal))) ⟨m, fun _ => 0, g⟩ (fun r => (∀ c : Dev Cert.ReferencePrepFIdeal.nD,
      r.2.mem ((c.tc : Thread Cert.ReferencePrepFIdeal.nD Cert.ReferencePrepFIdeal.τ).loc Cert.ReferencePrepFIdeal.main_arg0) = m ((c.tc : Thread Cert.ReferencePrepFIdeal.nD Cert.ReferencePrepFIdeal.τ).loc Cert.ReferencePrepFIdeal.main_arg0)
      ∧ r.2.mem ((c.tc : Thread Cert.ReferencePrepFIdeal.nD Cert.ReferencePrepFIdeal.τ).loc Cert.ReferencePrepFIdeal.main_arg1) = m ((c.tc : Thread Cert.ReferencePrepFIdeal.nD Cert.ReferencePrepFIdeal.τ).loc Cert.ReferencePrepFIdeal.main_arg1))
      ∧ r.2.sem = fun _ => 0)

def quiescent_KernelQF [hKernelQF : Cert.KernelQF.Facts] : Prop :=
  ∀ (m : (ℓ : Loc Cert.KernelQF.nD Cert.KernelQF.τ Cert.KernelQF.sig) → Buf (Elt Bits) ℓ) (g : Dev Cert.KernelQF.nD → PrngReg), Pre_KernelQF m →
    θ_run (Cert.KernelQF.defs (F := Bits)) (onTc (τ := Cert.KernelQF.τ) (Cert.KernelQF.main (F := Bits))) ⟨m, fun _ => 0, g⟩ (fun r => (∀ c : Dev Cert.KernelQF.nD,
      r.2.mem ((c.tc : Thread Cert.KernelQF.nD Cert.KernelQF.τ).loc Cert.KernelQF.main_arg0) = m ((c.tc : Thread Cert.KernelQF.nD Cert.KernelQF.τ).loc Cert.KernelQF.main_arg0)
      ∧ r.2.mem ((c.tc : Thread Cert.KernelQF.nD Cert.KernelQF.τ).loc Cert.KernelQF.main_arg1) = m ((c.tc : Thread Cert.KernelQF.nD Cert.KernelQF.τ).loc Cert.KernelQF.main_arg1)
      ∧ r.2.mem ((c.tc : Thread Cert.KernelQF.nD Cert.KernelQF.τ).loc Cert.KernelQF.main_arg2) = m ((c.tc : Thread Cert.KernelQF.nD Cert.KernelQF.τ).loc Cert.KernelQF.main_arg2)
      ∧ r.2.mem ((c.tc : Thread Cert.KernelQF.nD Cert.KernelQF.τ).loc Cert.KernelQF.main_arg3) = m ((c.tc : Thread Cert.KernelQF.nD Cert.KernelQF.τ).loc Cert.KernelQF.main_arg3))
      ∧ r.2.sem = fun _ => 0)

def quiescent_KernelQFIdeal [hKernelQFIdeal : Cert.KernelQFIdeal.Facts] : Prop :=
  ∀ (m : (ℓ : Loc Cert.KernelQFIdeal.nD Cert.KernelQFIdeal.τ Cert.KernelQFIdeal.sig) → Buf (Elt Ideal) ℓ) (g : Dev Cert.KernelQFIdeal.nD → PrngReg), Pre_KernelQFIdeal m →
    θ_run (Cert.KernelQFIdeal.defs (F := Ideal)) (onTc (τ := Cert.KernelQFIdeal.τ) (Cert.KernelQFIdeal.main (F := Ideal))) ⟨m, fun _ => 0, g⟩ (fun r => (∀ c : Dev Cert.KernelQFIdeal.nD,
      r.2.mem ((c.tc : Thread Cert.KernelQFIdeal.nD Cert.KernelQFIdeal.τ).loc Cert.KernelQFIdeal.main_arg0) = m ((c.tc : Thread Cert.KernelQFIdeal.nD Cert.KernelQFIdeal.τ).loc Cert.KernelQFIdeal.main_arg0)
      ∧ r.2.mem ((c.tc : Thread Cert.KernelQFIdeal.nD Cert.KernelQFIdeal.τ).loc Cert.KernelQFIdeal.main_arg1) = m ((c.tc : Thread Cert.KernelQFIdeal.nD Cert.KernelQFIdeal.τ).loc Cert.KernelQFIdeal.main_arg1)
      ∧ r.2.mem ((c.tc : Thread Cert.KernelQFIdeal.nD Cert.KernelQFIdeal.τ).loc Cert.KernelQFIdeal.main_arg2) = m ((c.tc : Thread Cert.KernelQFIdeal.nD Cert.KernelQFIdeal.τ).loc Cert.KernelQFIdeal.main_arg2)
      ∧ r.2.mem ((c.tc : Thread Cert.KernelQFIdeal.nD Cert.KernelQFIdeal.τ).loc Cert.KernelQFIdeal.main_arg3) = m ((c.tc : Thread Cert.KernelQFIdeal.nD Cert.KernelQFIdeal.τ).loc Cert.KernelQFIdeal.main_arg3))
      ∧ r.2.sem = fun _ => 0)

def quiescent_ReferenceQFIdeal [hReferenceQFIdeal : Cert.ReferenceQFIdeal.Facts] : Prop :=
  ∀ (m : (ℓ : Loc Cert.ReferenceQFIdeal.nD Cert.ReferenceQFIdeal.τ Cert.ReferenceQFIdeal.sig) → Buf (Elt Ideal) ℓ) (g : Dev Cert.ReferenceQFIdeal.nD → PrngReg), Pre_ReferenceQFIdeal m →
    θ_run (Cert.ReferenceQFIdeal.defs (F := Ideal)) (onTc (τ := Cert.ReferenceQFIdeal.τ) (Cert.ReferenceQFIdeal.main (F := Ideal))) ⟨m, fun _ => 0, g⟩ (fun r => (∀ c : Dev Cert.ReferenceQFIdeal.nD,
      r.2.mem ((c.tc : Thread Cert.ReferenceQFIdeal.nD Cert.ReferenceQFIdeal.τ).loc Cert.ReferenceQFIdeal.main_arg0) = m ((c.tc : Thread Cert.ReferenceQFIdeal.nD Cert.ReferenceQFIdeal.τ).loc Cert.ReferenceQFIdeal.main_arg0)
      ∧ r.2.mem ((c.tc : Thread Cert.ReferenceQFIdeal.nD Cert.ReferenceQFIdeal.τ).loc Cert.ReferenceQFIdeal.main_arg1) = m ((c.tc : Thread Cert.ReferenceQFIdeal.nD Cert.ReferenceQFIdeal.τ).loc Cert.ReferenceQFIdeal.main_arg1)
      ∧ r.2.mem ((c.tc : Thread Cert.ReferenceQFIdeal.nD Cert.ReferenceQFIdeal.τ).loc Cert.ReferenceQFIdeal.main_arg2) = m ((c.tc : Thread Cert.ReferenceQFIdeal.nD Cert.ReferenceQFIdeal.τ).loc Cert.ReferenceQFIdeal.main_arg2)
      ∧ r.2.mem ((c.tc : Thread Cert.ReferenceQFIdeal.nD Cert.ReferenceQFIdeal.τ).loc Cert.ReferenceQFIdeal.main_arg3) = m ((c.tc : Thread Cert.ReferenceQFIdeal.nD Cert.ReferenceQFIdeal.τ).loc Cert.ReferenceQFIdeal.main_arg3))
      ∧ r.2.sem = fun _ => 0)

def quiescent_KernelKF [hKernelKF : Cert.KernelKF.Facts] : Prop :=
  ∀ (m : (ℓ : Loc Cert.KernelKF.nD Cert.KernelKF.τ Cert.KernelKF.sig) → Buf (Elt Bits) ℓ) (g : Dev Cert.KernelKF.nD → PrngReg), Pre_KernelKF m →
    θ_run (Cert.KernelKF.defs (F := Bits)) (onTc (τ := Cert.KernelKF.τ) (Cert.KernelKF.main (F := Bits))) ⟨m, fun _ => 0, g⟩ (fun r => (∀ c : Dev Cert.KernelKF.nD,
      r.2.mem ((c.tc : Thread Cert.KernelKF.nD Cert.KernelKF.τ).loc Cert.KernelKF.main_arg0) = m ((c.tc : Thread Cert.KernelKF.nD Cert.KernelKF.τ).loc Cert.KernelKF.main_arg0)
      ∧ r.2.mem ((c.tc : Thread Cert.KernelKF.nD Cert.KernelKF.τ).loc Cert.KernelKF.main_arg1) = m ((c.tc : Thread Cert.KernelKF.nD Cert.KernelKF.τ).loc Cert.KernelKF.main_arg1)
      ∧ r.2.mem ((c.tc : Thread Cert.KernelKF.nD Cert.KernelKF.τ).loc Cert.KernelKF.main_arg2) = m ((c.tc : Thread Cert.KernelKF.nD Cert.KernelKF.τ).loc Cert.KernelKF.main_arg2)
      ∧ r.2.mem ((c.tc : Thread Cert.KernelKF.nD Cert.KernelKF.τ).loc Cert.KernelKF.main_arg3) = m ((c.tc : Thread Cert.KernelKF.nD Cert.KernelKF.τ).loc Cert.KernelKF.main_arg3))
      ∧ r.2.sem = fun _ => 0)

def quiescent_KernelKFIdeal [hKernelKFIdeal : Cert.KernelKFIdeal.Facts] : Prop :=
  ∀ (m : (ℓ : Loc Cert.KernelKFIdeal.nD Cert.KernelKFIdeal.τ Cert.KernelKFIdeal.sig) → Buf (Elt Ideal) ℓ) (g : Dev Cert.KernelKFIdeal.nD → PrngReg), Pre_KernelKFIdeal m →
    θ_run (Cert.KernelKFIdeal.defs (F := Ideal)) (onTc (τ := Cert.KernelKFIdeal.τ) (Cert.KernelKFIdeal.main (F := Ideal))) ⟨m, fun _ => 0, g⟩ (fun r => (∀ c : Dev Cert.KernelKFIdeal.nD,
      r.2.mem ((c.tc : Thread Cert.KernelKFIdeal.nD Cert.KernelKFIdeal.τ).loc Cert.KernelKFIdeal.main_arg0) = m ((c.tc : Thread Cert.KernelKFIdeal.nD Cert.KernelKFIdeal.τ).loc Cert.KernelKFIdeal.main_arg0)
      ∧ r.2.mem ((c.tc : Thread Cert.KernelKFIdeal.nD Cert.KernelKFIdeal.τ).loc Cert.KernelKFIdeal.main_arg1) = m ((c.tc : Thread Cert.KernelKFIdeal.nD Cert.KernelKFIdeal.τ).loc Cert.KernelKFIdeal.main_arg1)
      ∧ r.2.mem ((c.tc : Thread Cert.KernelKFIdeal.nD Cert.KernelKFIdeal.τ).loc Cert.KernelKFIdeal.main_arg2) = m ((c.tc : Thread Cert.KernelKFIdeal.nD Cert.KernelKFIdeal.τ).loc Cert.KernelKFIdeal.main_arg2)
      ∧ r.2.mem ((c.tc : Thread Cert.KernelKFIdeal.nD Cert.KernelKFIdeal.τ).loc Cert.KernelKFIdeal.main_arg3) = m ((c.tc : Thread Cert.KernelKFIdeal.nD Cert.KernelKFIdeal.τ).loc Cert.KernelKFIdeal.main_arg3))
      ∧ r.2.sem = fun _ => 0)

def quiescent_ReferenceKFIdeal [hReferenceKFIdeal : Cert.ReferenceKFIdeal.Facts] : Prop :=
  ∀ (m : (ℓ : Loc Cert.ReferenceKFIdeal.nD Cert.ReferenceKFIdeal.τ Cert.ReferenceKFIdeal.sig) → Buf (Elt Ideal) ℓ) (g : Dev Cert.ReferenceKFIdeal.nD → PrngReg), Pre_ReferenceKFIdeal m →
    θ_run (Cert.ReferenceKFIdeal.defs (F := Ideal)) (onTc (τ := Cert.ReferenceKFIdeal.τ) (Cert.ReferenceKFIdeal.main (F := Ideal))) ⟨m, fun _ => 0, g⟩ (fun r => (∀ c : Dev Cert.ReferenceKFIdeal.nD,
      r.2.mem ((c.tc : Thread Cert.ReferenceKFIdeal.nD Cert.ReferenceKFIdeal.τ).loc Cert.ReferenceKFIdeal.main_arg0) = m ((c.tc : Thread Cert.ReferenceKFIdeal.nD Cert.ReferenceKFIdeal.τ).loc Cert.ReferenceKFIdeal.main_arg0)
      ∧ r.2.mem ((c.tc : Thread Cert.ReferenceKFIdeal.nD Cert.ReferenceKFIdeal.τ).loc Cert.ReferenceKFIdeal.main_arg1) = m ((c.tc : Thread Cert.ReferenceKFIdeal.nD Cert.ReferenceKFIdeal.τ).loc Cert.ReferenceKFIdeal.main_arg1)
      ∧ r.2.mem ((c.tc : Thread Cert.ReferenceKFIdeal.nD Cert.ReferenceKFIdeal.τ).loc Cert.ReferenceKFIdeal.main_arg2) = m ((c.tc : Thread Cert.ReferenceKFIdeal.nD Cert.ReferenceKFIdeal.τ).loc Cert.ReferenceKFIdeal.main_arg2)
      ∧ r.2.mem ((c.tc : Thread Cert.ReferenceKFIdeal.nD Cert.ReferenceKFIdeal.τ).loc Cert.ReferenceKFIdeal.main_arg3) = m ((c.tc : Thread Cert.ReferenceKFIdeal.nD Cert.ReferenceKFIdeal.τ).loc Cert.ReferenceKFIdeal.main_arg3))
      ∧ r.2.sem = fun _ => 0)

def quiescent_KernelInsF [hKernelInsF : Cert.KernelInsF.Facts] : Prop :=
  ∀ (m : (ℓ : Loc Cert.KernelInsF.nD Cert.KernelInsF.τ Cert.KernelInsF.sig) → Buf (Elt Bits) ℓ) (g : Dev Cert.KernelInsF.nD → PrngReg), Pre_KernelInsF m →
    θ_run (Cert.KernelInsF.defs (F := Bits)) (onTc (τ := Cert.KernelInsF.τ) (Cert.KernelInsF.main (F := Bits))) ⟨m, fun _ => 0, g⟩ (fun r => (∀ c : Dev Cert.KernelInsF.nD,
      r.2.mem ((c.tc : Thread Cert.KernelInsF.nD Cert.KernelInsF.τ).loc Cert.KernelInsF.main_arg0) = m ((c.tc : Thread Cert.KernelInsF.nD Cert.KernelInsF.τ).loc Cert.KernelInsF.main_arg0)
      ∧ r.2.mem ((c.tc : Thread Cert.KernelInsF.nD Cert.KernelInsF.τ).loc Cert.KernelInsF.main_arg1) = m ((c.tc : Thread Cert.KernelInsF.nD Cert.KernelInsF.τ).loc Cert.KernelInsF.main_arg1))
      ∧ r.2.sem = fun _ => 0)

def quiescent_KernelInsFIdeal [hKernelInsFIdeal : Cert.KernelInsFIdeal.Facts] : Prop :=
  ∀ (m : (ℓ : Loc Cert.KernelInsFIdeal.nD Cert.KernelInsFIdeal.τ Cert.KernelInsFIdeal.sig) → Buf (Elt Ideal) ℓ) (g : Dev Cert.KernelInsFIdeal.nD → PrngReg), Pre_KernelInsFIdeal m →
    θ_run (Cert.KernelInsFIdeal.defs (F := Ideal)) (onTc (τ := Cert.KernelInsFIdeal.τ) (Cert.KernelInsFIdeal.main (F := Ideal))) ⟨m, fun _ => 0, g⟩ (fun r => (∀ c : Dev Cert.KernelInsFIdeal.nD,
      r.2.mem ((c.tc : Thread Cert.KernelInsFIdeal.nD Cert.KernelInsFIdeal.τ).loc Cert.KernelInsFIdeal.main_arg0) = m ((c.tc : Thread Cert.KernelInsFIdeal.nD Cert.KernelInsFIdeal.τ).loc Cert.KernelInsFIdeal.main_arg0)
      ∧ r.2.mem ((c.tc : Thread Cert.KernelInsFIdeal.nD Cert.KernelInsFIdeal.τ).loc Cert.KernelInsFIdeal.main_arg1) = m ((c.tc : Thread Cert.KernelInsFIdeal.nD Cert.KernelInsFIdeal.τ).loc Cert.KernelInsFIdeal.main_arg1))
      ∧ r.2.sem = fun _ => 0)

def quiescent_ReferenceInsFIdeal [hReferenceInsFIdeal : Cert.ReferenceInsFIdeal.Facts] : Prop :=
  ∀ (m : (ℓ : Loc Cert.ReferenceInsFIdeal.nD Cert.ReferenceInsFIdeal.τ Cert.ReferenceInsFIdeal.sig) → Buf (Elt Ideal) ℓ) (g : Dev Cert.ReferenceInsFIdeal.nD → PrngReg), Pre_ReferenceInsFIdeal m →
    θ_run (Cert.ReferenceInsFIdeal.defs (F := Ideal)) (onTc (τ := Cert.ReferenceInsFIdeal.τ) (Cert.ReferenceInsFIdeal.main (F := Ideal))) ⟨m, fun _ => 0, g⟩ (fun r => (∀ c : Dev Cert.ReferenceInsFIdeal.nD,
      r.2.mem ((c.tc : Thread Cert.ReferenceInsFIdeal.nD Cert.ReferenceInsFIdeal.τ).loc Cert.ReferenceInsFIdeal.main_arg0) = m ((c.tc : Thread Cert.ReferenceInsFIdeal.nD Cert.ReferenceInsFIdeal.τ).loc Cert.ReferenceInsFIdeal.main_arg0)
      ∧ r.2.mem ((c.tc : Thread Cert.ReferenceInsFIdeal.nD Cert.ReferenceInsFIdeal.τ).loc Cert.ReferenceInsFIdeal.main_arg1) = m ((c.tc : Thread Cert.ReferenceInsFIdeal.nD Cert.ReferenceInsFIdeal.τ).loc Cert.ReferenceInsFIdeal.main_arg1))
      ∧ r.2.sem = fun _ => 0)

def quiescent_KernelInsDa [hKernelInsDa : Cert.KernelInsDa.Facts] : Prop :=
  ∀ (m : (ℓ : Loc Cert.KernelInsDa.nD Cert.KernelInsDa.τ Cert.KernelInsDa.sig) → Buf (Elt Bits) ℓ) (g : Dev Cert.KernelInsDa.nD → PrngReg), Pre_KernelInsDa m →
    θ_run (Cert.KernelInsDa.defs (F := Bits)) (onTc (τ := Cert.KernelInsDa.τ) (Cert.KernelInsDa.main (F := Bits))) ⟨m, fun _ => 0, g⟩ (fun r => (∀ c : Dev Cert.KernelInsDa.nD,
      r.2.mem ((c.tc : Thread Cert.KernelInsDa.nD Cert.KernelInsDa.τ).loc Cert.KernelInsDa.main_arg0) = m ((c.tc : Thread Cert.KernelInsDa.nD Cert.KernelInsDa.τ).loc Cert.KernelInsDa.main_arg0)
      ∧ r.2.mem ((c.tc : Thread Cert.KernelInsDa.nD Cert.KernelInsDa.τ).loc Cert.KernelInsDa.main_arg1) = m ((c.tc : Thread Cert.KernelInsDa.nD Cert.KernelInsDa.τ).loc Cert.KernelInsDa.main_arg1))
      ∧ r.2.sem = fun _ => 0)

def quiescent_KernelInsDaIdeal [hKernelInsDaIdeal : Cert.KernelInsDaIdeal.Facts] : Prop :=
  ∀ (m : (ℓ : Loc Cert.KernelInsDaIdeal.nD Cert.KernelInsDaIdeal.τ Cert.KernelInsDaIdeal.sig) → Buf (Elt Ideal) ℓ) (g : Dev Cert.KernelInsDaIdeal.nD → PrngReg), Pre_KernelInsDaIdeal m →
    θ_run (Cert.KernelInsDaIdeal.defs (F := Ideal)) (onTc (τ := Cert.KernelInsDaIdeal.τ) (Cert.KernelInsDaIdeal.main (F := Ideal))) ⟨m, fun _ => 0, g⟩ (fun r => (∀ c : Dev Cert.KernelInsDaIdeal.nD,
      r.2.mem ((c.tc : Thread Cert.KernelInsDaIdeal.nD Cert.KernelInsDaIdeal.τ).loc Cert.KernelInsDaIdeal.main_arg0) = m ((c.tc : Thread Cert.KernelInsDaIdeal.nD Cert.KernelInsDaIdeal.τ).loc Cert.KernelInsDaIdeal.main_arg0)
      ∧ r.2.mem ((c.tc : Thread Cert.KernelInsDaIdeal.nD Cert.KernelInsDaIdeal.τ).loc Cert.KernelInsDaIdeal.main_arg1) = m ((c.tc : Thread Cert.KernelInsDaIdeal.nD Cert.KernelInsDaIdeal.τ).loc Cert.KernelInsDaIdeal.main_arg1))
      ∧ r.2.sem = fun _ => 0)

def quiescent_ReferenceInsDaIdeal [hReferenceInsDaIdeal : Cert.ReferenceInsDaIdeal.Facts] : Prop :=
  ∀ (m : (ℓ : Loc Cert.ReferenceInsDaIdeal.nD Cert.ReferenceInsDaIdeal.τ Cert.ReferenceInsDaIdeal.sig) → Buf (Elt Ideal) ℓ) (g : Dev Cert.ReferenceInsDaIdeal.nD → PrngReg), Pre_ReferenceInsDaIdeal m →
    θ_run (Cert.ReferenceInsDaIdeal.defs (F := Ideal)) (onTc (τ := Cert.ReferenceInsDaIdeal.τ) (Cert.ReferenceInsDaIdeal.main (F := Ideal))) ⟨m, fun _ => 0, g⟩ (fun r => (∀ c : Dev Cert.ReferenceInsDaIdeal.nD,
      r.2.mem ((c.tc : Thread Cert.ReferenceInsDaIdeal.nD Cert.ReferenceInsDaIdeal.τ).loc Cert.ReferenceInsDaIdeal.main_arg0) = m ((c.tc : Thread Cert.ReferenceInsDaIdeal.nD Cert.ReferenceInsDaIdeal.τ).loc Cert.ReferenceInsDaIdeal.main_arg0)
      ∧ r.2.mem ((c.tc : Thread Cert.ReferenceInsDaIdeal.nD Cert.ReferenceInsDaIdeal.τ).loc Cert.ReferenceInsDaIdeal.main_arg1) = m ((c.tc : Thread Cert.ReferenceInsDaIdeal.nD Cert.ReferenceInsDaIdeal.τ).loc Cert.ReferenceInsDaIdeal.main_arg1))
      ∧ r.2.sem = fun _ => 0)

def quiescent_KernelInsDw [hKernelInsDw : Cert.KernelInsDw.Facts] : Prop :=
  ∀ (m : (ℓ : Loc Cert.KernelInsDw.nD Cert.KernelInsDw.τ Cert.KernelInsDw.sig) → Buf (Elt Bits) ℓ) (g : Dev Cert.KernelInsDw.nD → PrngReg), Pre_KernelInsDw m →
    θ_run (Cert.KernelInsDw.defs (F := Bits)) (onTc (τ := Cert.KernelInsDw.τ) (Cert.KernelInsDw.main (F := Bits))) ⟨m, fun _ => 0, g⟩ (fun r => (∀ c : Dev Cert.KernelInsDw.nD,
      r.2.mem ((c.tc : Thread Cert.KernelInsDw.nD Cert.KernelInsDw.τ).loc Cert.KernelInsDw.main_arg0) = m ((c.tc : Thread Cert.KernelInsDw.nD Cert.KernelInsDw.τ).loc Cert.KernelInsDw.main_arg0)
      ∧ r.2.mem ((c.tc : Thread Cert.KernelInsDw.nD Cert.KernelInsDw.τ).loc Cert.KernelInsDw.main_arg1) = m ((c.tc : Thread Cert.KernelInsDw.nD Cert.KernelInsDw.τ).loc Cert.KernelInsDw.main_arg1))
      ∧ r.2.sem = fun _ => 0)

def quiescent_KernelInsDwIdeal [hKernelInsDwIdeal : Cert.KernelInsDwIdeal.Facts] : Prop :=
  ∀ (m : (ℓ : Loc Cert.KernelInsDwIdeal.nD Cert.KernelInsDwIdeal.τ Cert.KernelInsDwIdeal.sig) → Buf (Elt Ideal) ℓ) (g : Dev Cert.KernelInsDwIdeal.nD → PrngReg), Pre_KernelInsDwIdeal m →
    θ_run (Cert.KernelInsDwIdeal.defs (F := Ideal)) (onTc (τ := Cert.KernelInsDwIdeal.τ) (Cert.KernelInsDwIdeal.main (F := Ideal))) ⟨m, fun _ => 0, g⟩ (fun r => (∀ c : Dev Cert.KernelInsDwIdeal.nD,
      r.2.mem ((c.tc : Thread Cert.KernelInsDwIdeal.nD Cert.KernelInsDwIdeal.τ).loc Cert.KernelInsDwIdeal.main_arg0) = m ((c.tc : Thread Cert.KernelInsDwIdeal.nD Cert.KernelInsDwIdeal.τ).loc Cert.KernelInsDwIdeal.main_arg0)
      ∧ r.2.mem ((c.tc : Thread Cert.KernelInsDwIdeal.nD Cert.KernelInsDwIdeal.τ).loc Cert.KernelInsDwIdeal.main_arg1) = m ((c.tc : Thread Cert.KernelInsDwIdeal.nD Cert.KernelInsDwIdeal.τ).loc Cert.KernelInsDwIdeal.main_arg1))
      ∧ r.2.sem = fun _ => 0)

def quiescent_ReferenceInsDwIdeal [hReferenceInsDwIdeal : Cert.ReferenceInsDwIdeal.Facts] : Prop :=
  ∀ (m : (ℓ : Loc Cert.ReferenceInsDwIdeal.nD Cert.ReferenceInsDwIdeal.τ Cert.ReferenceInsDwIdeal.sig) → Buf (Elt Ideal) ℓ) (g : Dev Cert.ReferenceInsDwIdeal.nD → PrngReg), Pre_ReferenceInsDwIdeal m →
    θ_run (Cert.ReferenceInsDwIdeal.defs (F := Ideal)) (onTc (τ := Cert.ReferenceInsDwIdeal.τ) (Cert.ReferenceInsDwIdeal.main (F := Ideal))) ⟨m, fun _ => 0, g⟩ (fun r => (∀ c : Dev Cert.ReferenceInsDwIdeal.nD,
      r.2.mem ((c.tc : Thread Cert.ReferenceInsDwIdeal.nD Cert.ReferenceInsDwIdeal.τ).loc Cert.ReferenceInsDwIdeal.main_arg0) = m ((c.tc : Thread Cert.ReferenceInsDwIdeal.nD Cert.ReferenceInsDwIdeal.τ).loc Cert.ReferenceInsDwIdeal.main_arg0)
      ∧ r.2.mem ((c.tc : Thread Cert.ReferenceInsDwIdeal.nD Cert.ReferenceInsDwIdeal.τ).loc Cert.ReferenceInsDwIdeal.main_arg1) = m ((c.tc : Thread Cert.ReferenceInsDwIdeal.nD Cert.ReferenceInsDwIdeal.τ).loc Cert.ReferenceInsDwIdeal.main_arg1))
      ∧ r.2.sem = fun _ => 0)

def quiescent_KernelModF [hKernelModF : Cert.KernelModF.Facts] : Prop :=
  ∀ (m : (ℓ : Loc Cert.KernelModF.nD Cert.KernelModF.τ Cert.KernelModF.sig) → Buf (Elt Bits) ℓ) (g : Dev Cert.KernelModF.nD → PrngReg), Pre_KernelModF m →
    θ_run (Cert.KernelModF.defs (F := Bits)) (onTc (τ := Cert.KernelModF.τ) (Cert.KernelModF.main (F := Bits))) ⟨m, fun _ => 0, g⟩ (fun r => (∀ c : Dev Cert.KernelModF.nD,
      r.2.mem ((c.tc : Thread Cert.KernelModF.nD Cert.KernelModF.τ).loc Cert.KernelModF.main_arg0) = m ((c.tc : Thread Cert.KernelModF.nD Cert.KernelModF.τ).loc Cert.KernelModF.main_arg0)
      ∧ r.2.mem ((c.tc : Thread Cert.KernelModF.nD Cert.KernelModF.τ).loc Cert.KernelModF.main_arg1) = m ((c.tc : Thread Cert.KernelModF.nD Cert.KernelModF.τ).loc Cert.KernelModF.main_arg1))
      ∧ r.2.sem = fun _ => 0)

def quiescent_KernelModFIdeal [hKernelModFIdeal : Cert.KernelModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg), Pre_KernelModFIdeal m →
    θ_run (Cert.KernelModFIdeal.defs (F := Ideal)) (onTc (τ := Cert.KernelModFIdeal.τ) (Cert.KernelModFIdeal.main (F := Ideal))) ⟨m, fun _ => 0, g⟩ (fun r => (∀ c : Dev Cert.KernelModFIdeal.nD,
      r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
      ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1))
      ∧ r.2.sem = fun _ => 0)

def quiescent_ReferenceModFIdeal [hReferenceModFIdeal : Cert.ReferenceModFIdeal.Facts] : Prop :=
  ∀ (m : (ℓ : Loc Cert.ReferenceModFIdeal.nD Cert.ReferenceModFIdeal.τ Cert.ReferenceModFIdeal.sig) → Buf (Elt Ideal) ℓ) (g : Dev Cert.ReferenceModFIdeal.nD → PrngReg), Pre_ReferenceModFIdeal m →
    θ_run (Cert.ReferenceModFIdeal.defs (F := Ideal)) (onTc (τ := Cert.ReferenceModFIdeal.τ) (Cert.ReferenceModFIdeal.main (F := Ideal))) ⟨m, fun _ => 0, g⟩ (fun r => (∀ c : Dev Cert.ReferenceModFIdeal.nD,
      r.2.mem ((c.tc : Thread Cert.ReferenceModFIdeal.nD Cert.ReferenceModFIdeal.τ).loc Cert.ReferenceModFIdeal.main_arg0) = m ((c.tc : Thread Cert.ReferenceModFIdeal.nD Cert.ReferenceModFIdeal.τ).loc Cert.ReferenceModFIdeal.main_arg0)
      ∧ r.2.mem ((c.tc : Thread Cert.ReferenceModFIdeal.nD Cert.ReferenceModFIdeal.τ).loc Cert.ReferenceModFIdeal.main_arg1) = m ((c.tc : Thread Cert.ReferenceModFIdeal.nD Cert.ReferenceModFIdeal.τ).loc Cert.ReferenceModFIdeal.main_arg1))
      ∧ r.2.sem = fun _ => 0)

def quiescent_KernelModDa [hKernelModDa : Cert.KernelModDa.Facts] : Prop :=
  ∀ (m : (ℓ : Loc Cert.KernelModDa.nD Cert.KernelModDa.τ Cert.KernelModDa.sig) → Buf (Elt Bits) ℓ) (g : Dev Cert.KernelModDa.nD → PrngReg), Pre_KernelModDa m →
    θ_run (Cert.KernelModDa.defs (F := Bits)) (onTc (τ := Cert.KernelModDa.τ) (Cert.KernelModDa.main (F := Bits))) ⟨m, fun _ => 0, g⟩ (fun r => (∀ c : Dev Cert.KernelModDa.nD,
      r.2.mem ((c.tc : Thread Cert.KernelModDa.nD Cert.KernelModDa.τ).loc Cert.KernelModDa.main_arg0) = m ((c.tc : Thread Cert.KernelModDa.nD Cert.KernelModDa.τ).loc Cert.KernelModDa.main_arg0)
      ∧ r.2.mem ((c.tc : Thread Cert.KernelModDa.nD Cert.KernelModDa.τ).loc Cert.KernelModDa.main_arg1) = m ((c.tc : Thread Cert.KernelModDa.nD Cert.KernelModDa.τ).loc Cert.KernelModDa.main_arg1))
      ∧ r.2.sem = fun _ => 0)

def quiescent_KernelModDaIdeal [hKernelModDaIdeal : Cert.KernelModDaIdeal.Facts] : Prop :=
  ∀ (m : (ℓ : Loc Cert.KernelModDaIdeal.nD Cert.KernelModDaIdeal.τ Cert.KernelModDaIdeal.sig) → Buf (Elt Ideal) ℓ) (g : Dev Cert.KernelModDaIdeal.nD → PrngReg), Pre_KernelModDaIdeal m →
    θ_run (Cert.KernelModDaIdeal.defs (F := Ideal)) (onTc (τ := Cert.KernelModDaIdeal.τ) (Cert.KernelModDaIdeal.main (F := Ideal))) ⟨m, fun _ => 0, g⟩ (fun r => (∀ c : Dev Cert.KernelModDaIdeal.nD,
      r.2.mem ((c.tc : Thread Cert.KernelModDaIdeal.nD Cert.KernelModDaIdeal.τ).loc Cert.KernelModDaIdeal.main_arg0) = m ((c.tc : Thread Cert.KernelModDaIdeal.nD Cert.KernelModDaIdeal.τ).loc Cert.KernelModDaIdeal.main_arg0)
      ∧ r.2.mem ((c.tc : Thread Cert.KernelModDaIdeal.nD Cert.KernelModDaIdeal.τ).loc Cert.KernelModDaIdeal.main_arg1) = m ((c.tc : Thread Cert.KernelModDaIdeal.nD Cert.KernelModDaIdeal.τ).loc Cert.KernelModDaIdeal.main_arg1))
      ∧ r.2.sem = fun _ => 0)

def quiescent_ReferenceModDaIdeal [hReferenceModDaIdeal : Cert.ReferenceModDaIdeal.Facts] : Prop :=
  ∀ (m : (ℓ : Loc Cert.ReferenceModDaIdeal.nD Cert.ReferenceModDaIdeal.τ Cert.ReferenceModDaIdeal.sig) → Buf (Elt Ideal) ℓ) (g : Dev Cert.ReferenceModDaIdeal.nD → PrngReg), Pre_ReferenceModDaIdeal m →
    θ_run (Cert.ReferenceModDaIdeal.defs (F := Ideal)) (onTc (τ := Cert.ReferenceModDaIdeal.τ) (Cert.ReferenceModDaIdeal.main (F := Ideal))) ⟨m, fun _ => 0, g⟩ (fun r => (∀ c : Dev Cert.ReferenceModDaIdeal.nD,
      r.2.mem ((c.tc : Thread Cert.ReferenceModDaIdeal.nD Cert.ReferenceModDaIdeal.τ).loc Cert.ReferenceModDaIdeal.main_arg0) = m ((c.tc : Thread Cert.ReferenceModDaIdeal.nD Cert.ReferenceModDaIdeal.τ).loc Cert.ReferenceModDaIdeal.main_arg0)
      ∧ r.2.mem ((c.tc : Thread Cert.ReferenceModDaIdeal.nD Cert.ReferenceModDaIdeal.τ).loc Cert.ReferenceModDaIdeal.main_arg1) = m ((c.tc : Thread Cert.ReferenceModDaIdeal.nD Cert.ReferenceModDaIdeal.τ).loc Cert.ReferenceModDaIdeal.main_arg1))
      ∧ r.2.sem = fun _ => 0)

def quiescent_KernelModDw [hKernelModDw : Cert.KernelModDw.Facts] : Prop :=
  ∀ (m : (ℓ : Loc Cert.KernelModDw.nD Cert.KernelModDw.τ Cert.KernelModDw.sig) → Buf (Elt Bits) ℓ) (g : Dev Cert.KernelModDw.nD → PrngReg), Pre_KernelModDw m →
    θ_run (Cert.KernelModDw.defs (F := Bits)) (onTc (τ := Cert.KernelModDw.τ) (Cert.KernelModDw.main (F := Bits))) ⟨m, fun _ => 0, g⟩ (fun r => (∀ c : Dev Cert.KernelModDw.nD,
      r.2.mem ((c.tc : Thread Cert.KernelModDw.nD Cert.KernelModDw.τ).loc Cert.KernelModDw.main_arg0) = m ((c.tc : Thread Cert.KernelModDw.nD Cert.KernelModDw.τ).loc Cert.KernelModDw.main_arg0)
      ∧ r.2.mem ((c.tc : Thread Cert.KernelModDw.nD Cert.KernelModDw.τ).loc Cert.KernelModDw.main_arg1) = m ((c.tc : Thread Cert.KernelModDw.nD Cert.KernelModDw.τ).loc Cert.KernelModDw.main_arg1))
      ∧ r.2.sem = fun _ => 0)

def quiescent_KernelModDwIdeal [hKernelModDwIdeal : Cert.KernelModDwIdeal.Facts] : Prop :=
  ∀ (m : (ℓ : Loc Cert.KernelModDwIdeal.nD Cert.KernelModDwIdeal.τ Cert.KernelModDwIdeal.sig) → Buf (Elt Ideal) ℓ) (g : Dev Cert.KernelModDwIdeal.nD → PrngReg), Pre_KernelModDwIdeal m →
    θ_run (Cert.KernelModDwIdeal.defs (F := Ideal)) (onTc (τ := Cert.KernelModDwIdeal.τ) (Cert.KernelModDwIdeal.main (F := Ideal))) ⟨m, fun _ => 0, g⟩ (fun r => (∀ c : Dev Cert.KernelModDwIdeal.nD,
      r.2.mem ((c.tc : Thread Cert.KernelModDwIdeal.nD Cert.KernelModDwIdeal.τ).loc Cert.KernelModDwIdeal.main_arg0) = m ((c.tc : Thread Cert.KernelModDwIdeal.nD Cert.KernelModDwIdeal.τ).loc Cert.KernelModDwIdeal.main_arg0)
      ∧ r.2.mem ((c.tc : Thread Cert.KernelModDwIdeal.nD Cert.KernelModDwIdeal.τ).loc Cert.KernelModDwIdeal.main_arg1) = m ((c.tc : Thread Cert.KernelModDwIdeal.nD Cert.KernelModDwIdeal.τ).loc Cert.KernelModDwIdeal.main_arg1))
      ∧ r.2.sem = fun _ => 0)

def quiescent_ReferenceModDwIdeal [hReferenceModDwIdeal : Cert.ReferenceModDwIdeal.Facts] : Prop :=
  ∀ (m : (ℓ : Loc Cert.ReferenceModDwIdeal.nD Cert.ReferenceModDwIdeal.τ Cert.ReferenceModDwIdeal.sig) → Buf (Elt Ideal) ℓ) (g : Dev Cert.ReferenceModDwIdeal.nD → PrngReg), Pre_ReferenceModDwIdeal m →
    θ_run (Cert.ReferenceModDwIdeal.defs (F := Ideal)) (onTc (τ := Cert.ReferenceModDwIdeal.τ) (Cert.ReferenceModDwIdeal.main (F := Ideal))) ⟨m, fun _ => 0, g⟩ (fun r => (∀ c : Dev Cert.ReferenceModDwIdeal.nD,
      r.2.mem ((c.tc : Thread Cert.ReferenceModDwIdeal.nD Cert.ReferenceModDwIdeal.τ).loc Cert.ReferenceModDwIdeal.main_arg0) = m ((c.tc : Thread Cert.ReferenceModDwIdeal.nD Cert.ReferenceModDwIdeal.τ).loc Cert.ReferenceModDwIdeal.main_arg0)
      ∧ r.2.mem ((c.tc : Thread Cert.ReferenceModDwIdeal.nD Cert.ReferenceModDwIdeal.τ).loc Cert.ReferenceModDwIdeal.main_arg1) = m ((c.tc : Thread Cert.ReferenceModDwIdeal.nD Cert.ReferenceModDwIdeal.τ).loc Cert.ReferenceModDwIdeal.main_arg1))
      ∧ r.2.sem = fun _ => 0)

def quiescent_KernelAdamMod [hKernelAdamMod : Cert.KernelAdamMod.Facts] : Prop :=
  ∀ (m : (ℓ : Loc Cert.KernelAdamMod.nD Cert.KernelAdamMod.τ Cert.KernelAdamMod.sig) → Buf (Elt Bits) ℓ) (g : Dev Cert.KernelAdamMod.nD → PrngReg), Pre_KernelAdamMod m →
    θ_run (Cert.KernelAdamMod.defs (F := Bits)) (onTc (τ := Cert.KernelAdamMod.τ) (Cert.KernelAdamMod.main (F := Bits))) ⟨m, fun _ => 0, g⟩ (fun r => (∀ c : Dev Cert.KernelAdamMod.nD,
      r.2.mem ((c.tc : Thread Cert.KernelAdamMod.nD Cert.KernelAdamMod.τ).loc Cert.KernelAdamMod.main_arg0) = m ((c.tc : Thread Cert.KernelAdamMod.nD Cert.KernelAdamMod.τ).loc Cert.KernelAdamMod.main_arg0)
      ∧ r.2.mem ((c.tc : Thread Cert.KernelAdamMod.nD Cert.KernelAdamMod.τ).loc Cert.KernelAdamMod.main_arg1) = m ((c.tc : Thread Cert.KernelAdamMod.nD Cert.KernelAdamMod.τ).loc Cert.KernelAdamMod.main_arg1)
      ∧ r.2.mem ((c.tc : Thread Cert.KernelAdamMod.nD Cert.KernelAdamMod.τ).loc Cert.KernelAdamMod.main_arg2) = m ((c.tc : Thread Cert.KernelAdamMod.nD Cert.KernelAdamMod.τ).loc Cert.KernelAdamMod.main_arg2)
      ∧ r.2.mem ((c.tc : Thread Cert.KernelAdamMod.nD Cert.KernelAdamMod.τ).loc Cert.KernelAdamMod.main_arg3) = m ((c.tc : Thread Cert.KernelAdamMod.nD Cert.KernelAdamMod.τ).loc Cert.KernelAdamMod.main_arg3))
      ∧ r.2.sem = fun _ => 0)

def quiescent_KernelAdamModIdeal [hKernelAdamModIdeal : Cert.KernelAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg), Pre_KernelAdamModIdeal m →
    θ_run (Cert.KernelAdamModIdeal.defs (F := Ideal)) (onTc (τ := Cert.KernelAdamModIdeal.τ) (Cert.KernelAdamModIdeal.main (F := Ideal))) ⟨m, fun _ => 0, g⟩ (fun r => (∀ c : Dev Cert.KernelAdamModIdeal.nD,
      r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
      ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
      ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
      ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ r.2.sem = fun _ => 0)

def quiescent_ReferenceAdamModIdeal [hReferenceAdamModIdeal : Cert.ReferenceAdamModIdeal.Facts] : Prop :=
  ∀ (m : (ℓ : Loc Cert.ReferenceAdamModIdeal.nD Cert.ReferenceAdamModIdeal.τ Cert.ReferenceAdamModIdeal.sig) → Buf (Elt Ideal) ℓ) (g : Dev Cert.ReferenceAdamModIdeal.nD → PrngReg), Pre_ReferenceAdamModIdeal m →
    θ_run (Cert.ReferenceAdamModIdeal.defs (F := Ideal)) (onTc (τ := Cert.ReferenceAdamModIdeal.τ) (Cert.ReferenceAdamModIdeal.main (F := Ideal))) ⟨m, fun _ => 0, g⟩ (fun r => (∀ c : Dev Cert.ReferenceAdamModIdeal.nD,
      r.2.mem ((c.tc : Thread Cert.ReferenceAdamModIdeal.nD Cert.ReferenceAdamModIdeal.τ).loc Cert.ReferenceAdamModIdeal.main_arg0) = m ((c.tc : Thread Cert.ReferenceAdamModIdeal.nD Cert.ReferenceAdamModIdeal.τ).loc Cert.ReferenceAdamModIdeal.main_arg0)
      ∧ r.2.mem ((c.tc : Thread Cert.ReferenceAdamModIdeal.nD Cert.ReferenceAdamModIdeal.τ).loc Cert.ReferenceAdamModIdeal.main_arg1) = m ((c.tc : Thread Cert.ReferenceAdamModIdeal.nD Cert.ReferenceAdamModIdeal.τ).loc Cert.ReferenceAdamModIdeal.main_arg1)
      ∧ r.2.mem ((c.tc : Thread Cert.ReferenceAdamModIdeal.nD Cert.ReferenceAdamModIdeal.τ).loc Cert.ReferenceAdamModIdeal.main_arg2) = m ((c.tc : Thread Cert.ReferenceAdamModIdeal.nD Cert.ReferenceAdamModIdeal.τ).loc Cert.ReferenceAdamModIdeal.main_arg2)
      ∧ r.2.mem ((c.tc : Thread Cert.ReferenceAdamModIdeal.nD Cert.ReferenceAdamModIdeal.τ).loc Cert.ReferenceAdamModIdeal.main_arg3) = m ((c.tc : Thread Cert.ReferenceAdamModIdeal.nD Cert.ReferenceAdamModIdeal.τ).loc Cert.ReferenceAdamModIdeal.main_arg3))
      ∧ r.2.sem = fun _ => 0)

def quiescent_KernelAdamSq [hKernelAdamSq : Cert.KernelAdamSq.Facts] : Prop :=
  ∀ (m : (ℓ : Loc Cert.KernelAdamSq.nD Cert.KernelAdamSq.τ Cert.KernelAdamSq.sig) → Buf (Elt Bits) ℓ) (g : Dev Cert.KernelAdamSq.nD → PrngReg), Pre_KernelAdamSq m →
    θ_run (Cert.KernelAdamSq.defs (F := Bits)) (onTc (τ := Cert.KernelAdamSq.τ) (Cert.KernelAdamSq.main (F := Bits))) ⟨m, fun _ => 0, g⟩ (fun r => (∀ c : Dev Cert.KernelAdamSq.nD,
      r.2.mem ((c.tc : Thread Cert.KernelAdamSq.nD Cert.KernelAdamSq.τ).loc Cert.KernelAdamSq.main_arg0) = m ((c.tc : Thread Cert.KernelAdamSq.nD Cert.KernelAdamSq.τ).loc Cert.KernelAdamSq.main_arg0)
      ∧ r.2.mem ((c.tc : Thread Cert.KernelAdamSq.nD Cert.KernelAdamSq.τ).loc Cert.KernelAdamSq.main_arg1) = m ((c.tc : Thread Cert.KernelAdamSq.nD Cert.KernelAdamSq.τ).loc Cert.KernelAdamSq.main_arg1)
      ∧ r.2.mem ((c.tc : Thread Cert.KernelAdamSq.nD Cert.KernelAdamSq.τ).loc Cert.KernelAdamSq.main_arg2) = m ((c.tc : Thread Cert.KernelAdamSq.nD Cert.KernelAdamSq.τ).loc Cert.KernelAdamSq.main_arg2)
      ∧ r.2.mem ((c.tc : Thread Cert.KernelAdamSq.nD Cert.KernelAdamSq.τ).loc Cert.KernelAdamSq.main_arg3) = m ((c.tc : Thread Cert.KernelAdamSq.nD Cert.KernelAdamSq.τ).loc Cert.KernelAdamSq.main_arg3))
      ∧ r.2.sem = fun _ => 0)

def quiescent_KernelAdamSqIdeal [hKernelAdamSqIdeal : Cert.KernelAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg), Pre_KernelAdamSqIdeal m →
    θ_run (Cert.KernelAdamSqIdeal.defs (F := Ideal)) (onTc (τ := Cert.KernelAdamSqIdeal.τ) (Cert.KernelAdamSqIdeal.main (F := Ideal))) ⟨m, fun _ => 0, g⟩ (fun r => (∀ c : Dev Cert.KernelAdamSqIdeal.nD,
      r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
      ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
      ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
      ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ r.2.sem = fun _ => 0)

def quiescent_ReferenceAdamSqIdeal [hReferenceAdamSqIdeal : Cert.ReferenceAdamSqIdeal.Facts] : Prop :=
  ∀ (m : (ℓ : Loc Cert.ReferenceAdamSqIdeal.nD Cert.ReferenceAdamSqIdeal.τ Cert.ReferenceAdamSqIdeal.sig) → Buf (Elt Ideal) ℓ) (g : Dev Cert.ReferenceAdamSqIdeal.nD → PrngReg), Pre_ReferenceAdamSqIdeal m →
    θ_run (Cert.ReferenceAdamSqIdeal.defs (F := Ideal)) (onTc (τ := Cert.ReferenceAdamSqIdeal.τ) (Cert.ReferenceAdamSqIdeal.main (F := Ideal))) ⟨m, fun _ => 0, g⟩ (fun r => (∀ c : Dev Cert.ReferenceAdamSqIdeal.nD,
      r.2.mem ((c.tc : Thread Cert.ReferenceAdamSqIdeal.nD Cert.ReferenceAdamSqIdeal.τ).loc Cert.ReferenceAdamSqIdeal.main_arg0) = m ((c.tc : Thread Cert.ReferenceAdamSqIdeal.nD Cert.ReferenceAdamSqIdeal.τ).loc Cert.ReferenceAdamSqIdeal.main_arg0)
      ∧ r.2.mem ((c.tc : Thread Cert.ReferenceAdamSqIdeal.nD Cert.ReferenceAdamSqIdeal.τ).loc Cert.ReferenceAdamSqIdeal.main_arg1) = m ((c.tc : Thread Cert.ReferenceAdamSqIdeal.nD Cert.ReferenceAdamSqIdeal.τ).loc Cert.ReferenceAdamSqIdeal.main_arg1)
      ∧ r.2.mem ((c.tc : Thread Cert.ReferenceAdamSqIdeal.nD Cert.ReferenceAdamSqIdeal.τ).loc Cert.ReferenceAdamSqIdeal.main_arg2) = m ((c.tc : Thread Cert.ReferenceAdamSqIdeal.nD Cert.ReferenceAdamSqIdeal.τ).loc Cert.ReferenceAdamSqIdeal.main_arg2)
      ∧ r.2.mem ((c.tc : Thread Cert.ReferenceAdamSqIdeal.nD Cert.ReferenceAdamSqIdeal.τ).loc Cert.ReferenceAdamSqIdeal.main_arg3) = m ((c.tc : Thread Cert.ReferenceAdamSqIdeal.nD Cert.ReferenceAdamSqIdeal.τ).loc Cert.ReferenceAdamSqIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelInF_KernelInFIdeal : Prop :=
  True

def algebraic_KernelInFIdeal_ReferenceInFIdeal [hKernelInFIdeal : Cert.KernelInFIdeal.Facts] [hReferenceInFIdeal : Cert.ReferenceInFIdeal.Facts] : Prop :=
  ∀ (m : (ℓ : Loc Cert.KernelInFIdeal.nD Cert.KernelInFIdeal.τ Cert.KernelInFIdeal.sig) → Buf (Elt Ideal) ℓ) (g : Dev Cert.KernelInFIdeal.nD → PrngReg)
    (m' : (ℓ : Loc Cert.ReferenceInFIdeal.nD Cert.ReferenceInFIdeal.τ Cert.ReferenceInFIdeal.sig) → Buf (Elt Ideal) ℓ) (g' : Dev Cert.ReferenceInFIdeal.nD → PrngReg), Pre_KernelInFIdeal m →
    (∀ c : Dev Cert.KernelInFIdeal.nD,
      m' ((c.tc : Thread Cert.ReferenceInFIdeal.nD Cert.ReferenceInFIdeal.τ).loc Cert.ReferenceInFIdeal.main_arg0) = m ((c.tc : Thread Cert.KernelInFIdeal.nD Cert.KernelInFIdeal.τ).loc Cert.KernelInFIdeal.main_arg0)
      ∧ m' ((c.tc : Thread Cert.ReferenceInFIdeal.nD Cert.ReferenceInFIdeal.τ).loc Cert.ReferenceInFIdeal.main_arg1) = m ((c.tc : Thread Cert.KernelInFIdeal.nD Cert.KernelInFIdeal.τ).loc Cert.KernelInFIdeal.main_arg1)) →
    ∃ (v0 : (c : Dev Cert.KernelInFIdeal.nD) → Buf (Elt Ideal) ((c.tc : Thread Cert.KernelInFIdeal.nD Cert.KernelInFIdeal.τ).loc Cert.KernelInFIdeal.main_v2)),
      θ_run (Cert.KernelInFIdeal.defs (F := Ideal)) (onTc (τ := Cert.KernelInFIdeal.τ) (Cert.KernelInFIdeal.main (F := Ideal))) ⟨m, fun _ => 0, g⟩ (fun r => ∀ c : Dev Cert.KernelInFIdeal.nD,
          r.2.mem ((c.tc : Thread Cert.KernelInFIdeal.nD Cert.KernelInFIdeal.τ).loc Cert.KernelInFIdeal.main_v2) = v0 c
          ∧ r.2.mem ((c.tc : Thread Cert.KernelInFIdeal.nD Cert.KernelInFIdeal.τ).loc Cert.KernelInFIdeal.main_arg0) = m ((c.tc : Thread Cert.KernelInFIdeal.nD Cert.KernelInFIdeal.τ).loc Cert.KernelInFIdeal.main_arg0)
          ∧ r.2.mem ((c.tc : Thread Cert.KernelInFIdeal.nD Cert.KernelInFIdeal.τ).loc Cert.KernelInFIdeal.main_arg1) = m ((c.tc : Thread Cert.KernelInFIdeal.nD Cert.KernelInFIdeal.τ).loc Cert.KernelInFIdeal.main_arg1))
      ∧ θ_run (Cert.ReferenceInFIdeal.defs (F := Ideal)) (onTc (τ := Cert.ReferenceInFIdeal.τ) (Cert.ReferenceInFIdeal.main (F := Ideal))) ⟨m', fun _ => 0, g'⟩ (fun r => ∀ c : Dev Cert.ReferenceInFIdeal.nD,
          r.2.mem ((c.tc : Thread Cert.ReferenceInFIdeal.nD Cert.ReferenceInFIdeal.τ).loc Cert.ReferenceInFIdeal.main_v0) = v0 c
          ∧ r.2.mem ((c.tc : Thread Cert.ReferenceInFIdeal.nD Cert.ReferenceInFIdeal.τ).loc Cert.ReferenceInFIdeal.main_arg0) = m' ((c.tc : Thread Cert.ReferenceInFIdeal.nD Cert.ReferenceInFIdeal.τ).loc Cert.ReferenceInFIdeal.main_arg0)
          ∧ r.2.mem ((c.tc : Thread Cert.ReferenceInFIdeal.nD Cert.ReferenceInFIdeal.τ).loc Cert.ReferenceInFIdeal.main_arg1) = m' ((c.tc : Thread Cert.ReferenceInFIdeal.nD Cert.ReferenceInFIdeal.τ).loc Cert.ReferenceInFIdeal.main_arg1))

def preserves_KernelInDa_KernelInDaIdeal : Prop :=
  True

def algebraic_KernelInDaIdeal_ReferenceInDaIdeal [hKernelInDaIdeal : Cert.KernelInDaIdeal.Facts] [hReferenceInDaIdeal : Cert.ReferenceInDaIdeal.Facts] : Prop :=
  ∀ (m : (ℓ : Loc Cert.KernelInDaIdeal.nD Cert.KernelInDaIdeal.τ Cert.KernelInDaIdeal.sig) → Buf (Elt Ideal) ℓ) (g : Dev Cert.KernelInDaIdeal.nD → PrngReg)
    (m' : (ℓ : Loc Cert.ReferenceInDaIdeal.nD Cert.ReferenceInDaIdeal.τ Cert.ReferenceInDaIdeal.sig) → Buf (Elt Ideal) ℓ) (g' : Dev Cert.ReferenceInDaIdeal.nD → PrngReg), Pre_KernelInDaIdeal m →
    (∀ c : Dev Cert.KernelInDaIdeal.nD,
      m' ((c.tc : Thread Cert.ReferenceInDaIdeal.nD Cert.ReferenceInDaIdeal.τ).loc Cert.ReferenceInDaIdeal.main_arg0) = m ((c.tc : Thread Cert.KernelInDaIdeal.nD Cert.KernelInDaIdeal.τ).loc Cert.KernelInDaIdeal.main_arg0)
      ∧ m' ((c.tc : Thread Cert.ReferenceInDaIdeal.nD Cert.ReferenceInDaIdeal.τ).loc Cert.ReferenceInDaIdeal.main_arg1) = m ((c.tc : Thread Cert.KernelInDaIdeal.nD Cert.KernelInDaIdeal.τ).loc Cert.KernelInDaIdeal.main_arg1)) →
    ∃ (v0 : (c : Dev Cert.KernelInDaIdeal.nD) → Buf (Elt Ideal) ((c.tc : Thread Cert.KernelInDaIdeal.nD Cert.KernelInDaIdeal.τ).loc Cert.KernelInDaIdeal.main_v2)),
      θ_run (Cert.KernelInDaIdeal.defs (F := Ideal)) (onTc (τ := Cert.KernelInDaIdeal.τ) (Cert.KernelInDaIdeal.main (F := Ideal))) ⟨m, fun _ => 0, g⟩ (fun r => ∀ c : Dev Cert.KernelInDaIdeal.nD,
          r.2.mem ((c.tc : Thread Cert.KernelInDaIdeal.nD Cert.KernelInDaIdeal.τ).loc Cert.KernelInDaIdeal.main_v2) = v0 c
          ∧ r.2.mem ((c.tc : Thread Cert.KernelInDaIdeal.nD Cert.KernelInDaIdeal.τ).loc Cert.KernelInDaIdeal.main_arg0) = m ((c.tc : Thread Cert.KernelInDaIdeal.nD Cert.KernelInDaIdeal.τ).loc Cert.KernelInDaIdeal.main_arg0)
          ∧ r.2.mem ((c.tc : Thread Cert.KernelInDaIdeal.nD Cert.KernelInDaIdeal.τ).loc Cert.KernelInDaIdeal.main_arg1) = m ((c.tc : Thread Cert.KernelInDaIdeal.nD Cert.KernelInDaIdeal.τ).loc Cert.KernelInDaIdeal.main_arg1))
      ∧ θ_run (Cert.ReferenceInDaIdeal.defs (F := Ideal)) (onTc (τ := Cert.ReferenceInDaIdeal.τ) (Cert.ReferenceInDaIdeal.main (F := Ideal))) ⟨m', fun _ => 0, g'⟩ (fun r => ∀ c : Dev Cert.ReferenceInDaIdeal.nD,
          r.2.mem ((c.tc : Thread Cert.ReferenceInDaIdeal.nD Cert.ReferenceInDaIdeal.τ).loc Cert.ReferenceInDaIdeal.main_v2) = v0 c
          ∧ r.2.mem ((c.tc : Thread Cert.ReferenceInDaIdeal.nD Cert.ReferenceInDaIdeal.τ).loc Cert.ReferenceInDaIdeal.main_arg0) = m' ((c.tc : Thread Cert.ReferenceInDaIdeal.nD Cert.ReferenceInDaIdeal.τ).loc Cert.ReferenceInDaIdeal.main_arg0)
          ∧ r.2.mem ((c.tc : Thread Cert.ReferenceInDaIdeal.nD Cert.ReferenceInDaIdeal.τ).loc Cert.ReferenceInDaIdeal.main_arg1) = m' ((c.tc : Thread Cert.ReferenceInDaIdeal.nD Cert.ReferenceInDaIdeal.τ).loc Cert.ReferenceInDaIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v4) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelUpF_KernelUpFIdeal : Prop :=
  True

def algebraic_KernelUpFIdeal_ReferenceUpFIdeal [hKernelUpFIdeal : Cert.KernelUpFIdeal.Facts] [hReferenceUpFIdeal : Cert.ReferenceUpFIdeal.Facts] : Prop :=
  ∀ (m : (ℓ : Loc Cert.KernelUpFIdeal.nD Cert.KernelUpFIdeal.τ Cert.KernelUpFIdeal.sig) → Buf (Elt Ideal) ℓ) (g : Dev Cert.KernelUpFIdeal.nD → PrngReg)
    (m' : (ℓ : Loc Cert.ReferenceUpFIdeal.nD Cert.ReferenceUpFIdeal.τ Cert.ReferenceUpFIdeal.sig) → Buf (Elt Ideal) ℓ) (g' : Dev Cert.ReferenceUpFIdeal.nD → PrngReg), Pre_KernelUpFIdeal m →
    (∀ c : Dev Cert.KernelUpFIdeal.nD,
      m' ((c.tc : Thread Cert.ReferenceUpFIdeal.nD Cert.ReferenceUpFIdeal.τ).loc Cert.ReferenceUpFIdeal.main_arg0) = m ((c.tc : Thread Cert.KernelUpFIdeal.nD Cert.KernelUpFIdeal.τ).loc Cert.KernelUpFIdeal.main_arg0)
      ∧ m' ((c.tc : Thread Cert.ReferenceUpFIdeal.nD Cert.ReferenceUpFIdeal.τ).loc Cert.ReferenceUpFIdeal.main_arg1) = m ((c.tc : Thread Cert.KernelUpFIdeal.nD Cert.KernelUpFIdeal.τ).loc Cert.KernelUpFIdeal.main_arg1)) →
    ∃ (v0 : (c : Dev Cert.KernelUpFIdeal.nD) → Buf (Elt Ideal) ((c.tc : Thread Cert.KernelUpFIdeal.nD Cert.KernelUpFIdeal.τ).loc Cert.KernelUpFIdeal.main_v3)),
      θ_run (Cert.KernelUpFIdeal.defs (F := Ideal)) (onTc (τ := Cert.KernelUpFIdeal.τ) (Cert.KernelUpFIdeal.main (F := Ideal))) ⟨m, fun _ => 0, g⟩ (fun r => ∀ c : Dev Cert.KernelUpFIdeal.nD,
          r.2.mem ((c.tc : Thread Cert.KernelUpFIdeal.nD Cert.KernelUpFIdeal.τ).loc Cert.KernelUpFIdeal.main_v3) = v0 c
          ∧ r.2.mem ((c.tc : Thread Cert.KernelUpFIdeal.nD Cert.KernelUpFIdeal.τ).loc Cert.KernelUpFIdeal.main_arg0) = m ((c.tc : Thread Cert.KernelUpFIdeal.nD Cert.KernelUpFIdeal.τ).loc Cert.KernelUpFIdeal.main_arg0)
          ∧ r.2.mem ((c.tc : Thread Cert.KernelUpFIdeal.nD Cert.KernelUpFIdeal.τ).loc Cert.KernelUpFIdeal.main_arg1) = m ((c.tc : Thread Cert.KernelUpFIdeal.nD Cert.KernelUpFIdeal.τ).loc Cert.KernelUpFIdeal.main_arg1))
      ∧ θ_run (Cert.ReferenceUpFIdeal.defs (F := Ideal)) (onTc (τ := Cert.ReferenceUpFIdeal.τ) (Cert.ReferenceUpFIdeal.main (F := Ideal))) ⟨m', fun _ => 0, g'⟩ (fun r => ∀ c : Dev Cert.ReferenceUpFIdeal.nD,
          r.2.mem ((c.tc : Thread Cert.ReferenceUpFIdeal.nD Cert.ReferenceUpFIdeal.τ).loc Cert.ReferenceUpFIdeal.main_v0) = v0 c
          ∧ r.2.mem ((c.tc : Thread Cert.ReferenceUpFIdeal.nD Cert.ReferenceUpFIdeal.τ).loc Cert.ReferenceUpFIdeal.main_arg0) = m' ((c.tc : Thread Cert.ReferenceUpFIdeal.nD Cert.ReferenceUpFIdeal.τ).loc Cert.ReferenceUpFIdeal.main_arg0)
          ∧ r.2.mem ((c.tc : Thread Cert.ReferenceUpFIdeal.nD Cert.ReferenceUpFIdeal.τ).loc Cert.ReferenceUpFIdeal.main_arg1) = m' ((c.tc : Thread Cert.ReferenceUpFIdeal.nD Cert.ReferenceUpFIdeal.τ).loc Cert.ReferenceUpFIdeal.main_arg1))

def preserves_KernelUpDa_KernelUpDaIdeal : Prop :=
  True

def algebraic_KernelUpDaIdeal_ReferenceUpDaIdeal [hKernelUpDaIdeal : Cert.KernelUpDaIdeal.Facts] [hReferenceUpDaIdeal : Cert.ReferenceUpDaIdeal.Facts] : Prop :=
  ∀ (m : (ℓ : Loc Cert.KernelUpDaIdeal.nD Cert.KernelUpDaIdeal.τ Cert.KernelUpDaIdeal.sig) → Buf (Elt Ideal) ℓ) (g : Dev Cert.KernelUpDaIdeal.nD → PrngReg)
    (m' : (ℓ : Loc Cert.ReferenceUpDaIdeal.nD Cert.ReferenceUpDaIdeal.τ Cert.ReferenceUpDaIdeal.sig) → Buf (Elt Ideal) ℓ) (g' : Dev Cert.ReferenceUpDaIdeal.nD → PrngReg), Pre_KernelUpDaIdeal m →
    (∀ c : Dev Cert.KernelUpDaIdeal.nD,
      m' ((c.tc : Thread Cert.ReferenceUpDaIdeal.nD Cert.ReferenceUpDaIdeal.τ).loc Cert.ReferenceUpDaIdeal.main_arg0) = m ((c.tc : Thread Cert.KernelUpDaIdeal.nD Cert.KernelUpDaIdeal.τ).loc Cert.KernelUpDaIdeal.main_arg0)
      ∧ m' ((c.tc : Thread Cert.ReferenceUpDaIdeal.nD Cert.ReferenceUpDaIdeal.τ).loc Cert.ReferenceUpDaIdeal.main_arg1) = m ((c.tc : Thread Cert.KernelUpDaIdeal.nD Cert.KernelUpDaIdeal.τ).loc Cert.KernelUpDaIdeal.main_arg1)) →
    ∃ (v0 : (c : Dev Cert.KernelUpDaIdeal.nD) → Buf (Elt Ideal) ((c.tc : Thread Cert.KernelUpDaIdeal.nD Cert.KernelUpDaIdeal.τ).loc Cert.KernelUpDaIdeal.main_v3)),
      θ_run (Cert.KernelUpDaIdeal.defs (F := Ideal)) (onTc (τ := Cert.KernelUpDaIdeal.τ) (Cert.KernelUpDaIdeal.main (F := Ideal))) ⟨m, fun _ => 0, g⟩ (fun r => ∀ c : Dev Cert.KernelUpDaIdeal.nD,
          r.2.mem ((c.tc : Thread Cert.KernelUpDaIdeal.nD Cert.KernelUpDaIdeal.τ).loc Cert.KernelUpDaIdeal.main_v3) = v0 c
          ∧ r.2.mem ((c.tc : Thread Cert.KernelUpDaIdeal.nD Cert.KernelUpDaIdeal.τ).loc Cert.KernelUpDaIdeal.main_arg0) = m ((c.tc : Thread Cert.KernelUpDaIdeal.nD Cert.KernelUpDaIdeal.τ).loc Cert.KernelUpDaIdeal.main_arg0)
          ∧ r.2.mem ((c.tc : Thread Cert.KernelUpDaIdeal.nD Cert.KernelUpDaIdeal.τ).loc Cert.KernelUpDaIdeal.main_arg1) = m ((c.tc : Thread Cert.KernelUpDaIdeal.nD Cert.KernelUpDaIdeal.τ).loc Cert.KernelUpDaIdeal.main_arg1))
      ∧ θ_run (Cert.ReferenceUpDaIdeal.defs (F := Ideal)) (onTc (τ := Cert.ReferenceUpDaIdeal.τ) (Cert.ReferenceUpDaIdeal.main (F := Ideal))) ⟨m', fun _ => 0, g'⟩ (fun r => ∀ c : Dev Cert.ReferenceUpDaIdeal.nD,
          r.2.mem ((c.tc : Thread Cert.ReferenceUpDaIdeal.nD Cert.ReferenceUpDaIdeal.τ).loc Cert.ReferenceUpDaIdeal.main_v2) = v0 c
          ∧ r.2.mem ((c.tc : Thread Cert.ReferenceUpDaIdeal.nD Cert.ReferenceUpDaIdeal.τ).loc Cert.ReferenceUpDaIdeal.main_arg0) = m' ((c.tc : Thread Cert.ReferenceUpDaIdeal.nD Cert.ReferenceUpDaIdeal.τ).loc Cert.ReferenceUpDaIdeal.main_arg0)
          ∧ r.2.mem ((c.tc : Thread Cert.ReferenceUpDaIdeal.nD Cert.ReferenceUpDaIdeal.τ).loc Cert.ReferenceUpDaIdeal.main_arg1) = m' ((c.tc : Thread Cert.ReferenceUpDaIdeal.nD Cert.ReferenceUpDaIdeal.τ).loc Cert.ReferenceUpDaIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v5) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelDownF_KernelDownFIdeal : Prop :=
  True

def algebraic_KernelDownFIdeal_ReferenceDownFIdeal [hKernelDownFIdeal : Cert.KernelDownFIdeal.Facts] [hReferenceDownFIdeal : Cert.ReferenceDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg)
    (m' : (ℓ : Loc Cert.ReferenceDownFIdeal.nD Cert.ReferenceDownFIdeal.τ Cert.ReferenceDownFIdeal.sig) → Buf (Elt Ideal) ℓ) (g' : Dev Cert.ReferenceDownFIdeal.nD → PrngReg), Pre_KernelDownFIdeal m →
    (∀ c : Dev Cert.KernelDownFIdeal.nD,
      m' ((c.tc : Thread Cert.ReferenceDownFIdeal.nD Cert.ReferenceDownFIdeal.τ).loc Cert.ReferenceDownFIdeal.main_arg0) = m ((c.tc : Thread Cert.KernelDownFIdeal.nD Cert.KernelDownFIdeal.τ).loc Cert.KernelDownFIdeal.main_arg0)
      ∧ m' ((c.tc : Thread Cert.ReferenceDownFIdeal.nD Cert.ReferenceDownFIdeal.τ).loc Cert.ReferenceDownFIdeal.main_arg1) = m ((c.tc : Thread Cert.KernelDownFIdeal.nD Cert.KernelDownFIdeal.τ).loc Cert.KernelDownFIdeal.main_arg1)) →
    ∃ (v0 : (c : Dev Cert.KernelDownFIdeal.nD) → Buf (Elt Ideal) ((c.tc : Thread Cert.KernelDownFIdeal.nD Cert.KernelDownFIdeal.τ).loc Cert.KernelDownFIdeal.main_v1)),
      θ_run (Cert.KernelDownFIdeal.defs (F := Ideal)) (onTc (τ := Cert.KernelDownFIdeal.τ) (Cert.KernelDownFIdeal.main (F := Ideal))) ⟨m, fun _ => 0, g⟩ (fun r => ∀ c : Dev Cert.KernelDownFIdeal.nD,
          r.2.mem ((c.tc : Thread Cert.KernelDownFIdeal.nD Cert.KernelDownFIdeal.τ).loc Cert.KernelDownFIdeal.main_v1) = v0 c
          ∧ r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
          ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1))
      ∧ θ_run (Cert.ReferenceDownFIdeal.defs (F := Ideal)) (onTc (τ := Cert.ReferenceDownFIdeal.τ) (Cert.ReferenceDownFIdeal.main (F := Ideal))) ⟨m', fun _ => 0, g'⟩ (fun r => ∀ c : Dev Cert.ReferenceDownFIdeal.nD,
          r.2.mem ((c.tc : Thread Cert.ReferenceDownFIdeal.nD Cert.ReferenceDownFIdeal.τ).loc Cert.ReferenceDownFIdeal.main_v0) = v0 c
          ∧ r.2.mem ((c.tc : Thread Cert.ReferenceDownFIdeal.nD Cert.ReferenceDownFIdeal.τ).loc Cert.ReferenceDownFIdeal.main_arg0) = m' ((c.tc : Thread Cert.ReferenceDownFIdeal.nD Cert.ReferenceDownFIdeal.τ).loc Cert.ReferenceDownFIdeal.main_arg0)
          ∧ r.2.mem ((c.tc : Thread Cert.ReferenceDownFIdeal.nD Cert.ReferenceDownFIdeal.τ).loc Cert.ReferenceDownFIdeal.main_arg1) = m' ((c.tc : Thread Cert.ReferenceDownFIdeal.nD Cert.ReferenceDownFIdeal.τ).loc Cert.ReferenceDownFIdeal.main_arg1))

def preserves_KernelDownDa_KernelDownDaIdeal : Prop :=
  True

def algebraic_KernelDownDaIdeal_ReferenceDownDaIdeal [hKernelDownDaIdeal : Cert.KernelDownDaIdeal.Facts] [hReferenceDownDaIdeal : Cert.ReferenceDownDaIdeal.Facts] : Prop :=
  ∀ (m : (ℓ : Loc Cert.KernelDownDaIdeal.nD Cert.KernelDownDaIdeal.τ Cert.KernelDownDaIdeal.sig) → Buf (Elt Ideal) ℓ) (g : Dev Cert.KernelDownDaIdeal.nD → PrngReg)
    (m' : (ℓ : Loc Cert.ReferenceDownDaIdeal.nD Cert.ReferenceDownDaIdeal.τ Cert.ReferenceDownDaIdeal.sig) → Buf (Elt Ideal) ℓ) (g' : Dev Cert.ReferenceDownDaIdeal.nD → PrngReg), Pre_KernelDownDaIdeal m →
    (∀ c : Dev Cert.KernelDownDaIdeal.nD,
      m' ((c.tc : Thread Cert.ReferenceDownDaIdeal.nD Cert.ReferenceDownDaIdeal.τ).loc Cert.ReferenceDownDaIdeal.main_arg0) = m ((c.tc : Thread Cert.KernelDownDaIdeal.nD Cert.KernelDownDaIdeal.τ).loc Cert.KernelDownDaIdeal.main_arg0)
      ∧ m' ((c.tc : Thread Cert.ReferenceDownDaIdeal.nD Cert.ReferenceDownDaIdeal.τ).loc Cert.ReferenceDownDaIdeal.main_arg1) = m ((c.tc : Thread Cert.KernelDownDaIdeal.nD Cert.KernelDownDaIdeal.τ).loc Cert.KernelDownDaIdeal.main_arg1)) →
    ∃ (v0 : (c : Dev Cert.KernelDownDaIdeal.nD) → Buf (Elt Ideal) ((c.tc : Thread Cert.KernelDownDaIdeal.nD Cert.KernelDownDaIdeal.τ).loc Cert.KernelDownDaIdeal.main_v1)),
      θ_run (Cert.KernelDownDaIdeal.defs (F := Ideal)) (onTc (τ := Cert.KernelDownDaIdeal.τ) (Cert.KernelDownDaIdeal.main (F := Ideal))) ⟨m, fun _ => 0, g⟩ (fun r => ∀ c : Dev Cert.KernelDownDaIdeal.nD,
          r.2.mem ((c.tc : Thread Cert.KernelDownDaIdeal.nD Cert.KernelDownDaIdeal.τ).loc Cert.KernelDownDaIdeal.main_v1) = v0 c
          ∧ r.2.mem ((c.tc : Thread Cert.KernelDownDaIdeal.nD Cert.KernelDownDaIdeal.τ).loc Cert.KernelDownDaIdeal.main_arg0) = m ((c.tc : Thread Cert.KernelDownDaIdeal.nD Cert.KernelDownDaIdeal.τ).loc Cert.KernelDownDaIdeal.main_arg0)
          ∧ r.2.mem ((c.tc : Thread Cert.KernelDownDaIdeal.nD Cert.KernelDownDaIdeal.τ).loc Cert.KernelDownDaIdeal.main_arg1) = m ((c.tc : Thread Cert.KernelDownDaIdeal.nD Cert.KernelDownDaIdeal.τ).loc Cert.KernelDownDaIdeal.main_arg1))
      ∧ θ_run (Cert.ReferenceDownDaIdeal.defs (F := Ideal)) (onTc (τ := Cert.ReferenceDownDaIdeal.τ) (Cert.ReferenceDownDaIdeal.main (F := Ideal))) ⟨m', fun _ => 0, g'⟩ (fun r => ∀ c : Dev Cert.ReferenceDownDaIdeal.nD,
          r.2.mem ((c.tc : Thread Cert.ReferenceDownDaIdeal.nD Cert.ReferenceDownDaIdeal.τ).loc Cert.ReferenceDownDaIdeal.main_v2) = v0 c
          ∧ r.2.mem ((c.tc : Thread Cert.ReferenceDownDaIdeal.nD Cert.ReferenceDownDaIdeal.τ).loc Cert.ReferenceDownDaIdeal.main_arg0) = m' ((c.tc : Thread Cert.ReferenceDownDaIdeal.nD Cert.ReferenceDownDaIdeal.τ).loc Cert.ReferenceDownDaIdeal.main_arg0)
          ∧ r.2.mem ((c.tc : Thread Cert.ReferenceDownDaIdeal.nD Cert.ReferenceDownDaIdeal.τ).loc Cert.ReferenceDownDaIdeal.main_arg1) = m' ((c.tc : Thread Cert.ReferenceDownDaIdeal.nD Cert.ReferenceDownDaIdeal.τ).loc Cert.ReferenceDownDaIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v3) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelOutF_KernelOutFIdeal : Prop :=
  True

def algebraic_KernelOutFIdeal_ReferenceOutFIdeal [hKernelOutFIdeal : Cert.KernelOutFIdeal.Facts] [hReferenceOutFIdeal : Cert.ReferenceOutFIdeal.Facts] : Prop :=
  ∀ (m : (ℓ : Loc Cert.KernelOutFIdeal.nD Cert.KernelOutFIdeal.τ Cert.KernelOutFIdeal.sig) → Buf (Elt Ideal) ℓ) (g : Dev Cert.KernelOutFIdeal.nD → PrngReg)
    (m' : (ℓ : Loc Cert.ReferenceOutFIdeal.nD Cert.ReferenceOutFIdeal.τ Cert.ReferenceOutFIdeal.sig) → Buf (Elt Ideal) ℓ) (g' : Dev Cert.ReferenceOutFIdeal.nD → PrngReg), Pre_KernelOutFIdeal m →
    (∀ c : Dev Cert.KernelOutFIdeal.nD,
      m' ((c.tc : Thread Cert.ReferenceOutFIdeal.nD Cert.ReferenceOutFIdeal.τ).loc Cert.ReferenceOutFIdeal.main_arg0) = m ((c.tc : Thread Cert.KernelOutFIdeal.nD Cert.KernelOutFIdeal.τ).loc Cert.KernelOutFIdeal.main_arg0)
      ∧ m' ((c.tc : Thread Cert.ReferenceOutFIdeal.nD Cert.ReferenceOutFIdeal.τ).loc Cert.ReferenceOutFIdeal.main_arg1) = m ((c.tc : Thread Cert.KernelOutFIdeal.nD Cert.KernelOutFIdeal.τ).loc Cert.KernelOutFIdeal.main_arg1)) →
    ∃ (v0 : (c : Dev Cert.KernelOutFIdeal.nD) → Buf (Elt Ideal) ((c.tc : Thread Cert.KernelOutFIdeal.nD Cert.KernelOutFIdeal.τ).loc Cert.KernelOutFIdeal.main_v1)),
      θ_run (Cert.KernelOutFIdeal.defs (F := Ideal)) (onTc (τ := Cert.KernelOutFIdeal.τ) (Cert.KernelOutFIdeal.main (F := Ideal))) ⟨m, fun _ => 0, g⟩ (fun r => ∀ c : Dev Cert.KernelOutFIdeal.nD,
          r.2.mem ((c.tc : Thread Cert.KernelOutFIdeal.nD Cert.KernelOutFIdeal.τ).loc Cert.KernelOutFIdeal.main_v1) = v0 c
          ∧ r.2.mem ((c.tc : Thread Cert.KernelOutFIdeal.nD Cert.KernelOutFIdeal.τ).loc Cert.KernelOutFIdeal.main_arg0) = m ((c.tc : Thread Cert.KernelOutFIdeal.nD Cert.KernelOutFIdeal.τ).loc Cert.KernelOutFIdeal.main_arg0)
          ∧ r.2.mem ((c.tc : Thread Cert.KernelOutFIdeal.nD Cert.KernelOutFIdeal.τ).loc Cert.KernelOutFIdeal.main_arg1) = m ((c.tc : Thread Cert.KernelOutFIdeal.nD Cert.KernelOutFIdeal.τ).loc Cert.KernelOutFIdeal.main_arg1))
      ∧ θ_run (Cert.ReferenceOutFIdeal.defs (F := Ideal)) (onTc (τ := Cert.ReferenceOutFIdeal.τ) (Cert.ReferenceOutFIdeal.main (F := Ideal))) ⟨m', fun _ => 0, g'⟩ (fun r => ∀ c : Dev Cert.ReferenceOutFIdeal.nD,
          r.2.mem ((c.tc : Thread Cert.ReferenceOutFIdeal.nD Cert.ReferenceOutFIdeal.τ).loc Cert.ReferenceOutFIdeal.main_v0) = v0 c
          ∧ r.2.mem ((c.tc : Thread Cert.ReferenceOutFIdeal.nD Cert.ReferenceOutFIdeal.τ).loc Cert.ReferenceOutFIdeal.main_arg0) = m' ((c.tc : Thread Cert.ReferenceOutFIdeal.nD Cert.ReferenceOutFIdeal.τ).loc Cert.ReferenceOutFIdeal.main_arg0)
          ∧ r.2.mem ((c.tc : Thread Cert.ReferenceOutFIdeal.nD Cert.ReferenceOutFIdeal.τ).loc Cert.ReferenceOutFIdeal.main_arg1) = m' ((c.tc : Thread Cert.ReferenceOutFIdeal.nD Cert.ReferenceOutFIdeal.τ).loc Cert.ReferenceOutFIdeal.main_arg1))

def preserves_KernelOutDa_KernelOutDaIdeal : Prop :=
  True

def algebraic_KernelOutDaIdeal_ReferenceOutDaIdeal [hKernelOutDaIdeal : Cert.KernelOutDaIdeal.Facts] [hReferenceOutDaIdeal : Cert.ReferenceOutDaIdeal.Facts] : Prop :=
  ∀ (m : (ℓ : Loc Cert.KernelOutDaIdeal.nD Cert.KernelOutDaIdeal.τ Cert.KernelOutDaIdeal.sig) → Buf (Elt Ideal) ℓ) (g : Dev Cert.KernelOutDaIdeal.nD → PrngReg)
    (m' : (ℓ : Loc Cert.ReferenceOutDaIdeal.nD Cert.ReferenceOutDaIdeal.τ Cert.ReferenceOutDaIdeal.sig) → Buf (Elt Ideal) ℓ) (g' : Dev Cert.ReferenceOutDaIdeal.nD → PrngReg), Pre_KernelOutDaIdeal m →
    (∀ c : Dev Cert.KernelOutDaIdeal.nD,
      m' ((c.tc : Thread Cert.ReferenceOutDaIdeal.nD Cert.ReferenceOutDaIdeal.τ).loc Cert.ReferenceOutDaIdeal.main_arg0) = m ((c.tc : Thread Cert.KernelOutDaIdeal.nD Cert.KernelOutDaIdeal.τ).loc Cert.KernelOutDaIdeal.main_arg0)
      ∧ m' ((c.tc : Thread Cert.ReferenceOutDaIdeal.nD Cert.ReferenceOutDaIdeal.τ).loc Cert.ReferenceOutDaIdeal.main_arg1) = m ((c.tc : Thread Cert.KernelOutDaIdeal.nD Cert.KernelOutDaIdeal.τ).loc Cert.KernelOutDaIdeal.main_arg1)) →
    ∃ (v0 : (c : Dev Cert.KernelOutDaIdeal.nD) → Buf (Elt Ideal) ((c.tc : Thread Cert.KernelOutDaIdeal.nD Cert.KernelOutDaIdeal.τ).loc Cert.KernelOutDaIdeal.main_v1)),
      θ_run (Cert.KernelOutDaIdeal.defs (F := Ideal)) (onTc (τ := Cert.KernelOutDaIdeal.τ) (Cert.KernelOutDaIdeal.main (F := Ideal))) ⟨m, fun _ => 0, g⟩ (fun r => ∀ c : Dev Cert.KernelOutDaIdeal.nD,
          r.2.mem ((c.tc : Thread Cert.KernelOutDaIdeal.nD Cert.KernelOutDaIdeal.τ).loc Cert.KernelOutDaIdeal.main_v1) = v0 c
          ∧ r.2.mem ((c.tc : Thread Cert.KernelOutDaIdeal.nD Cert.KernelOutDaIdeal.τ).loc Cert.KernelOutDaIdeal.main_arg0) = m ((c.tc : Thread Cert.KernelOutDaIdeal.nD Cert.KernelOutDaIdeal.τ).loc Cert.KernelOutDaIdeal.main_arg0)
          ∧ r.2.mem ((c.tc : Thread Cert.KernelOutDaIdeal.nD Cert.KernelOutDaIdeal.τ).loc Cert.KernelOutDaIdeal.main_arg1) = m ((c.tc : Thread Cert.KernelOutDaIdeal.nD Cert.KernelOutDaIdeal.τ).loc Cert.KernelOutDaIdeal.main_arg1))
      ∧ θ_run (Cert.ReferenceOutDaIdeal.defs (F := Ideal)) (onTc (τ := Cert.ReferenceOutDaIdeal.τ) (Cert.ReferenceOutDaIdeal.main (F := Ideal))) ⟨m', fun _ => 0, g'⟩ (fun r => ∀ c : Dev Cert.ReferenceOutDaIdeal.nD,
          r.2.mem ((c.tc : Thread Cert.ReferenceOutDaIdeal.nD Cert.ReferenceOutDaIdeal.τ).loc Cert.ReferenceOutDaIdeal.main_v2) = v0 c
          ∧ r.2.mem ((c.tc : Thread Cert.ReferenceOutDaIdeal.nD Cert.ReferenceOutDaIdeal.τ).loc Cert.ReferenceOutDaIdeal.main_arg0) = m' ((c.tc : Thread Cert.ReferenceOutDaIdeal.nD Cert.ReferenceOutDaIdeal.τ).loc Cert.ReferenceOutDaIdeal.main_arg0)
          ∧ r.2.mem ((c.tc : Thread Cert.ReferenceOutDaIdeal.nD Cert.ReferenceOutDaIdeal.τ).loc Cert.ReferenceOutDaIdeal.main_arg1) = m' ((c.tc : Thread Cert.ReferenceOutDaIdeal.nD Cert.ReferenceOutDaIdeal.τ).loc Cert.ReferenceOutDaIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelAttnF_KernelAttnFIdeal : Prop :=
  True

def algebraic_KernelAttnFIdeal_ReferenceAttnFIdeal_pre_finite_qk_f [hKernelAttnFIdeal : Cert.KernelAttnFIdeal.Facts] [hReferenceAttnFIdeal : Cert.ReferenceAttnFIdeal.Facts] [hPre_finite_qk_f : Cert.Pre_finite_qk_f.Facts] : Prop :=
  ∀ (m : (ℓ : Loc Cert.KernelAttnFIdeal.nD Cert.KernelAttnFIdeal.τ Cert.KernelAttnFIdeal.sig) → Buf (Elt Ideal) ℓ) (g : Dev Cert.KernelAttnFIdeal.nD → PrngReg)
    (m' : (ℓ : Loc Cert.ReferenceAttnFIdeal.nD Cert.ReferenceAttnFIdeal.τ Cert.ReferenceAttnFIdeal.sig) → Buf (Elt Ideal) ℓ) (g' : Dev Cert.ReferenceAttnFIdeal.nD → PrngReg), Pre_KernelAttnFIdeal_finite_qk_f m →
    (∀ c : Dev Cert.KernelAttnFIdeal.nD,
      m' ((c.tc : Thread Cert.ReferenceAttnFIdeal.nD Cert.ReferenceAttnFIdeal.τ).loc Cert.ReferenceAttnFIdeal.main_arg0) = m ((c.tc : Thread Cert.KernelAttnFIdeal.nD Cert.KernelAttnFIdeal.τ).loc Cert.KernelAttnFIdeal.main_arg0)
      ∧ m' ((c.tc : Thread Cert.ReferenceAttnFIdeal.nD Cert.ReferenceAttnFIdeal.τ).loc Cert.ReferenceAttnFIdeal.main_arg1) = m ((c.tc : Thread Cert.KernelAttnFIdeal.nD Cert.KernelAttnFIdeal.τ).loc Cert.KernelAttnFIdeal.main_arg1)
      ∧ m' ((c.tc : Thread Cert.ReferenceAttnFIdeal.nD Cert.ReferenceAttnFIdeal.τ).loc Cert.ReferenceAttnFIdeal.main_arg2) = m ((c.tc : Thread Cert.KernelAttnFIdeal.nD Cert.KernelAttnFIdeal.τ).loc Cert.KernelAttnFIdeal.main_arg2)) →
    ∃ (v0 : (c : Dev Cert.KernelAttnFIdeal.nD) → Buf (Elt Ideal) ((c.tc : Thread Cert.KernelAttnFIdeal.nD Cert.KernelAttnFIdeal.τ).loc Cert.KernelAttnFIdeal.main_v0)),
      θ_run (Cert.KernelAttnFIdeal.defs (F := Ideal)) (onTc (τ := Cert.KernelAttnFIdeal.τ) (Cert.KernelAttnFIdeal.main (F := Ideal))) ⟨m, fun _ => 0, g⟩ (fun r => ∀ c : Dev Cert.KernelAttnFIdeal.nD,
          r.2.mem ((c.tc : Thread Cert.KernelAttnFIdeal.nD Cert.KernelAttnFIdeal.τ).loc Cert.KernelAttnFIdeal.main_v0) = v0 c
          ∧ r.2.mem ((c.tc : Thread Cert.KernelAttnFIdeal.nD Cert.KernelAttnFIdeal.τ).loc Cert.KernelAttnFIdeal.main_arg0) = m ((c.tc : Thread Cert.KernelAttnFIdeal.nD Cert.KernelAttnFIdeal.τ).loc Cert.KernelAttnFIdeal.main_arg0)
          ∧ r.2.mem ((c.tc : Thread Cert.KernelAttnFIdeal.nD Cert.KernelAttnFIdeal.τ).loc Cert.KernelAttnFIdeal.main_arg1) = m ((c.tc : Thread Cert.KernelAttnFIdeal.nD Cert.KernelAttnFIdeal.τ).loc Cert.KernelAttnFIdeal.main_arg1)
          ∧ r.2.mem ((c.tc : Thread Cert.KernelAttnFIdeal.nD Cert.KernelAttnFIdeal.τ).loc Cert.KernelAttnFIdeal.main_arg2) = m ((c.tc : Thread Cert.KernelAttnFIdeal.nD Cert.KernelAttnFIdeal.τ).loc Cert.KernelAttnFIdeal.main_arg2))
      ∧ θ_run (Cert.ReferenceAttnFIdeal.defs (F := Ideal)) (onTc (τ := Cert.ReferenceAttnFIdeal.τ) (Cert.ReferenceAttnFIdeal.main (F := Ideal))) ⟨m', fun _ => 0, g'⟩ (fun r => ∀ c : Dev Cert.ReferenceAttnFIdeal.nD,
          r.2.mem ((c.tc : Thread Cert.ReferenceAttnFIdeal.nD Cert.ReferenceAttnFIdeal.τ).loc Cert.ReferenceAttnFIdeal.main_v20) = v0 c
          ∧ r.2.mem ((c.tc : Thread Cert.ReferenceAttnFIdeal.nD Cert.ReferenceAttnFIdeal.τ).loc Cert.ReferenceAttnFIdeal.main_arg0) = m' ((c.tc : Thread Cert.ReferenceAttnFIdeal.nD Cert.ReferenceAttnFIdeal.τ).loc Cert.ReferenceAttnFIdeal.main_arg0)
          ∧ r.2.mem ((c.tc : Thread Cert.ReferenceAttnFIdeal.nD Cert.ReferenceAttnFIdeal.τ).loc Cert.ReferenceAttnFIdeal.main_arg1) = m' ((c.tc : Thread Cert.ReferenceAttnFIdeal.nD Cert.ReferenceAttnFIdeal.τ).loc Cert.ReferenceAttnFIdeal.main_arg1)
          ∧ r.2.mem ((c.tc : Thread Cert.ReferenceAttnFIdeal.nD Cert.ReferenceAttnFIdeal.τ).loc Cert.ReferenceAttnFIdeal.main_arg2) = m' ((c.tc : Thread Cert.ReferenceAttnFIdeal.nD Cert.ReferenceAttnFIdeal.τ).loc Cert.ReferenceAttnFIdeal.main_arg2))

def preserves_KernelMergeF_KernelMergeFIdeal : Prop :=
  True

def algebraic_KernelMergeFIdeal_ReferenceMergeFIdeal [hKernelMergeFIdeal : Cert.KernelMergeFIdeal.Facts] [hReferenceMergeFIdeal : Cert.ReferenceMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg)
    (m' : (ℓ : Loc Cert.ReferenceMergeFIdeal.nD Cert.ReferenceMergeFIdeal.τ Cert.ReferenceMergeFIdeal.sig) → Buf (Elt Ideal) ℓ) (g' : Dev Cert.ReferenceMergeFIdeal.nD → PrngReg), Pre_KernelMergeFIdeal m →
    (∀ c : Dev Cert.KernelMergeFIdeal.nD,
      m' ((c.tc : Thread Cert.ReferenceMergeFIdeal.nD Cert.ReferenceMergeFIdeal.τ).loc Cert.ReferenceMergeFIdeal.main_arg0) = m ((c.tc : Thread Cert.KernelMergeFIdeal.nD Cert.KernelMergeFIdeal.τ).loc Cert.KernelMergeFIdeal.main_arg0)
      ∧ m' ((c.tc : Thread Cert.ReferenceMergeFIdeal.nD Cert.ReferenceMergeFIdeal.τ).loc Cert.ReferenceMergeFIdeal.main_arg1) = m ((c.tc : Thread Cert.KernelMergeFIdeal.nD Cert.KernelMergeFIdeal.τ).loc Cert.KernelMergeFIdeal.main_arg1)
      ∧ m' ((c.tc : Thread Cert.ReferenceMergeFIdeal.nD Cert.ReferenceMergeFIdeal.τ).loc Cert.ReferenceMergeFIdeal.main_arg2) = m ((c.tc : Thread Cert.KernelMergeFIdeal.nD Cert.KernelMergeFIdeal.τ).loc Cert.KernelMergeFIdeal.main_arg2)) →
    ∃ (v0 : (c : Dev Cert.KernelMergeFIdeal.nD) → Buf (Elt Ideal) ((c.tc : Thread Cert.KernelMergeFIdeal.nD Cert.KernelMergeFIdeal.τ).loc Cert.KernelMergeFIdeal.main_v0)),
      θ_run (Cert.KernelMergeFIdeal.defs (F := Ideal)) (onTc (τ := Cert.KernelMergeFIdeal.τ) (Cert.KernelMergeFIdeal.main (F := Ideal))) ⟨m, fun _ => 0, g⟩ (fun r => ∀ c : Dev Cert.KernelMergeFIdeal.nD,
          r.2.mem ((c.tc : Thread Cert.KernelMergeFIdeal.nD Cert.KernelMergeFIdeal.τ).loc Cert.KernelMergeFIdeal.main_v0) = v0 c
          ∧ r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
          ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
          ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2))
      ∧ θ_run (Cert.ReferenceMergeFIdeal.defs (F := Ideal)) (onTc (τ := Cert.ReferenceMergeFIdeal.τ) (Cert.ReferenceMergeFIdeal.main (F := Ideal))) ⟨m', fun _ => 0, g'⟩ (fun r => ∀ c : Dev Cert.ReferenceMergeFIdeal.nD,
          r.2.mem ((c.tc : Thread Cert.ReferenceMergeFIdeal.nD Cert.ReferenceMergeFIdeal.τ).loc Cert.ReferenceMergeFIdeal.main_v16) = v0 c
          ∧ r.2.mem ((c.tc : Thread Cert.ReferenceMergeFIdeal.nD Cert.ReferenceMergeFIdeal.τ).loc Cert.ReferenceMergeFIdeal.main_arg0) = m' ((c.tc : Thread Cert.ReferenceMergeFIdeal.nD Cert.ReferenceMergeFIdeal.τ).loc Cert.ReferenceMergeFIdeal.main_arg0)
          ∧ r.2.mem ((c.tc : Thread Cert.ReferenceMergeFIdeal.nD Cert.ReferenceMergeFIdeal.τ).loc Cert.ReferenceMergeFIdeal.main_arg1) = m' ((c.tc : Thread Cert.ReferenceMergeFIdeal.nD Cert.ReferenceMergeFIdeal.τ).loc Cert.ReferenceMergeFIdeal.main_arg1)
          ∧ r.2.mem ((c.tc : Thread Cert.ReferenceMergeFIdeal.nD Cert.ReferenceMergeFIdeal.τ).loc Cert.ReferenceMergeFIdeal.main_arg2) = m' ((c.tc : Thread Cert.ReferenceMergeFIdeal.nD Cert.ReferenceMergeFIdeal.τ).loc Cert.ReferenceMergeFIdeal.main_arg2))

def preserves_KernelMergeB_KernelMergeBIdeal : Prop :=
  True

def algebraic_KernelMergeBIdeal_ReferenceMergeBIdeal [hKernelMergeBIdeal : Cert.KernelMergeBIdeal.Facts] [hReferenceMergeBIdeal : Cert.ReferenceMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg)
    (m' : (ℓ : Loc Cert.ReferenceMergeBIdeal.nD Cert.ReferenceMergeBIdeal.τ Cert.ReferenceMergeBIdeal.sig) → Buf (Elt Ideal) ℓ) (g' : Dev Cert.ReferenceMergeBIdeal.nD → PrngReg), Pre_KernelMergeBIdeal m →
    (∀ c : Dev Cert.KernelMergeBIdeal.nD,
      m' ((c.tc : Thread Cert.ReferenceMergeBIdeal.nD Cert.ReferenceMergeBIdeal.τ).loc Cert.ReferenceMergeBIdeal.main_arg0) = m ((c.tc : Thread Cert.KernelMergeBIdeal.nD Cert.KernelMergeBIdeal.τ).loc Cert.KernelMergeBIdeal.main_arg0)
      ∧ m' ((c.tc : Thread Cert.ReferenceMergeBIdeal.nD Cert.ReferenceMergeBIdeal.τ).loc Cert.ReferenceMergeBIdeal.main_arg1) = m ((c.tc : Thread Cert.KernelMergeBIdeal.nD Cert.KernelMergeBIdeal.τ).loc Cert.KernelMergeBIdeal.main_arg1)
      ∧ m' ((c.tc : Thread Cert.ReferenceMergeBIdeal.nD Cert.ReferenceMergeBIdeal.τ).loc Cert.ReferenceMergeBIdeal.main_arg2) = m ((c.tc : Thread Cert.KernelMergeBIdeal.nD Cert.KernelMergeBIdeal.τ).loc Cert.KernelMergeBIdeal.main_arg2)
      ∧ m' ((c.tc : Thread Cert.ReferenceMergeBIdeal.nD Cert.ReferenceMergeBIdeal.τ).loc Cert.ReferenceMergeBIdeal.main_arg3) = m ((c.tc : Thread Cert.KernelMergeBIdeal.nD Cert.KernelMergeBIdeal.τ).loc Cert.KernelMergeBIdeal.main_arg3)) →
    ∃ (v0 : (c : Dev Cert.KernelMergeBIdeal.nD) → Buf (Elt Ideal) ((c.tc : Thread Cert.KernelMergeBIdeal.nD Cert.KernelMergeBIdeal.τ).loc Cert.KernelMergeBIdeal.main_v0_0)) (v1 : (c : Dev Cert.KernelMergeBIdeal.nD) → Buf (Elt Ideal) ((c.tc : Thread Cert.KernelMergeBIdeal.nD Cert.KernelMergeBIdeal.τ).loc Cert.KernelMergeBIdeal.main_v0_1)) (v2 : (c : Dev Cert.KernelMergeBIdeal.nD) → Buf (Elt Ideal) ((c.tc : Thread Cert.KernelMergeBIdeal.nD Cert.KernelMergeBIdeal.τ).loc Cert.KernelMergeBIdeal.main_v0_2)),
      θ_run (Cert.KernelMergeBIdeal.defs (F := Ideal)) (onTc (τ := Cert.KernelMergeBIdeal.τ) (Cert.KernelMergeBIdeal.main (F := Ideal))) ⟨m, fun _ => 0, g⟩ (fun r => ∀ c : Dev Cert.KernelMergeBIdeal.nD,
          r.2.mem ((c.tc : Thread Cert.KernelMergeBIdeal.nD Cert.KernelMergeBIdeal.τ).loc Cert.KernelMergeBIdeal.main_v0_0) = v0 c
          ∧ r.2.mem ((c.tc : Thread Cert.KernelMergeBIdeal.nD Cert.KernelMergeBIdeal.τ).loc Cert.KernelMergeBIdeal.main_v0_1) = v1 c
          ∧ r.2.mem ((c.tc : Thread Cert.KernelMergeBIdeal.nD Cert.KernelMergeBIdeal.τ).loc Cert.KernelMergeBIdeal.main_v0_2) = v2 c
          ∧ r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
          ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
          ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
          ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3))
      ∧ θ_run (Cert.ReferenceMergeBIdeal.defs (F := Ideal)) (onTc (τ := Cert.ReferenceMergeBIdeal.τ) (Cert.ReferenceMergeBIdeal.main (F := Ideal))) ⟨m', fun _ => 0, g'⟩ (fun r => ∀ c : Dev Cert.ReferenceMergeBIdeal.nD,
          r.2.mem ((c.tc : Thread Cert.ReferenceMergeBIdeal.nD Cert.ReferenceMergeBIdeal.τ).loc Cert.ReferenceMergeBIdeal.main_v28) = v0 c
          ∧ r.2.mem ((c.tc : Thread Cert.ReferenceMergeBIdeal.nD Cert.ReferenceMergeBIdeal.τ).loc Cert.ReferenceMergeBIdeal.main_v25) = v1 c
          ∧ r.2.mem ((c.tc : Thread Cert.ReferenceMergeBIdeal.nD Cert.ReferenceMergeBIdeal.τ).loc Cert.ReferenceMergeBIdeal.main_v31) = v2 c
          ∧ r.2.mem ((c.tc : Thread Cert.ReferenceMergeBIdeal.nD Cert.ReferenceMergeBIdeal.τ).loc Cert.ReferenceMergeBIdeal.main_arg0) = m' ((c.tc : Thread Cert.ReferenceMergeBIdeal.nD Cert.ReferenceMergeBIdeal.τ).loc Cert.ReferenceMergeBIdeal.main_arg0)
          ∧ r.2.mem ((c.tc : Thread Cert.ReferenceMergeBIdeal.nD Cert.ReferenceMergeBIdeal.τ).loc Cert.ReferenceMergeBIdeal.main_arg1) = m' ((c.tc : Thread Cert.ReferenceMergeBIdeal.nD Cert.ReferenceMergeBIdeal.τ).loc Cert.ReferenceMergeBIdeal.main_arg1)
          ∧ r.2.mem ((c.tc : Thread Cert.ReferenceMergeBIdeal.nD Cert.ReferenceMergeBIdeal.τ).loc Cert.ReferenceMergeBIdeal.main_arg2) = m' ((c.tc : Thread Cert.ReferenceMergeBIdeal.nD Cert.ReferenceMergeBIdeal.τ).loc Cert.ReferenceMergeBIdeal.main_arg2)
          ∧ r.2.mem ((c.tc : Thread Cert.ReferenceMergeBIdeal.nD Cert.ReferenceMergeBIdeal.τ).loc Cert.ReferenceMergeBIdeal.main_arg3) = m' ((c.tc : Thread Cert.ReferenceMergeBIdeal.nD Cert.ReferenceMergeBIdeal.τ).loc Cert.ReferenceMergeBIdeal.main_arg3))

def preserves_KernelNormF_KernelNormFIdeal : Prop :=
  True

def algebraic_KernelNormFIdeal_ReferenceNormFIdeal [hKernelNormFIdeal : Cert.KernelNormFIdeal.Facts] [hReferenceNormFIdeal : Cert.ReferenceNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg)
    (m' : (ℓ : Loc Cert.ReferenceNormFIdeal.nD Cert.ReferenceNormFIdeal.τ Cert.ReferenceNormFIdeal.sig) → Buf (Elt Ideal) ℓ) (g' : Dev Cert.ReferenceNormFIdeal.nD → PrngReg), Pre_KernelNormFIdeal m →
    (∀ c : Dev Cert.KernelNormFIdeal.nD,
      m' ((c.tc : Thread Cert.ReferenceNormFIdeal.nD Cert.ReferenceNormFIdeal.τ).loc Cert.ReferenceNormFIdeal.main_arg0) = m ((c.tc : Thread Cert.KernelNormFIdeal.nD Cert.KernelNormFIdeal.τ).loc Cert.KernelNormFIdeal.main_arg0)
      ∧ m' ((c.tc : Thread Cert.ReferenceNormFIdeal.nD Cert.ReferenceNormFIdeal.τ).loc Cert.ReferenceNormFIdeal.main_arg1) = m ((c.tc : Thread Cert.KernelNormFIdeal.nD Cert.KernelNormFIdeal.τ).loc Cert.KernelNormFIdeal.main_arg1)
      ∧ m' ((c.tc : Thread Cert.ReferenceNormFIdeal.nD Cert.ReferenceNormFIdeal.τ).loc Cert.ReferenceNormFIdeal.main_arg2) = m ((c.tc : Thread Cert.KernelNormFIdeal.nD Cert.KernelNormFIdeal.τ).loc Cert.KernelNormFIdeal.main_arg2)) →
    ∃ (v0 : (c : Dev Cert.KernelNormFIdeal.nD) → Buf (Elt Ideal) ((c.tc : Thread Cert.KernelNormFIdeal.nD Cert.KernelNormFIdeal.τ).loc Cert.KernelNormFIdeal.main_v0)),
      θ_run (Cert.KernelNormFIdeal.defs (F := Ideal)) (onTc (τ := Cert.KernelNormFIdeal.τ) (Cert.KernelNormFIdeal.main (F := Ideal))) ⟨m, fun _ => 0, g⟩ (fun r => ∀ c : Dev Cert.KernelNormFIdeal.nD,
          r.2.mem ((c.tc : Thread Cert.KernelNormFIdeal.nD Cert.KernelNormFIdeal.τ).loc Cert.KernelNormFIdeal.main_v0) = v0 c
          ∧ r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
          ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
          ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2))
      ∧ θ_run (Cert.ReferenceNormFIdeal.defs (F := Ideal)) (onTc (τ := Cert.ReferenceNormFIdeal.τ) (Cert.ReferenceNormFIdeal.main (F := Ideal))) ⟨m', fun _ => 0, g'⟩ (fun r => ∀ c : Dev Cert.ReferenceNormFIdeal.nD,
          r.2.mem ((c.tc : Thread Cert.ReferenceNormFIdeal.nD Cert.ReferenceNormFIdeal.τ).loc Cert.ReferenceNormFIdeal.main_v15) = v0 c
          ∧ r.2.mem ((c.tc : Thread Cert.ReferenceNormFIdeal.nD Cert.ReferenceNormFIdeal.τ).loc Cert.ReferenceNormFIdeal.main_arg0) = m' ((c.tc : Thread Cert.ReferenceNormFIdeal.nD Cert.ReferenceNormFIdeal.τ).loc Cert.ReferenceNormFIdeal.main_arg0)
          ∧ r.2.mem ((c.tc : Thread Cert.ReferenceNormFIdeal.nD Cert.ReferenceNormFIdeal.τ).loc Cert.ReferenceNormFIdeal.main_arg1) = m' ((c.tc : Thread Cert.ReferenceNormFIdeal.nD Cert.ReferenceNormFIdeal.τ).loc Cert.ReferenceNormFIdeal.main_arg1)
          ∧ r.2.mem ((c.tc : Thread Cert.ReferenceNormFIdeal.nD Cert.ReferenceNormFIdeal.τ).loc Cert.ReferenceNormFIdeal.main_arg2) = m' ((c.tc : Thread Cert.ReferenceNormFIdeal.nD Cert.ReferenceNormFIdeal.τ).loc Cert.ReferenceNormFIdeal.main_arg2))

def preserves_KernelNormB_KernelNormBIdeal : Prop :=
  True

def algebraic_KernelNormBIdeal_ReferenceNormBIdeal [hKernelNormBIdeal : Cert.KernelNormBIdeal.Facts] [hReferenceNormBIdeal : Cert.ReferenceNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg)
    (m' : (ℓ : Loc Cert.ReferenceNormBIdeal.nD Cert.ReferenceNormBIdeal.τ Cert.ReferenceNormBIdeal.sig) → Buf (Elt Ideal) ℓ) (g' : Dev Cert.ReferenceNormBIdeal.nD → PrngReg), Pre_KernelNormBIdeal m →
    (∀ c : Dev Cert.KernelNormBIdeal.nD,
      m' ((c.tc : Thread Cert.ReferenceNormBIdeal.nD Cert.ReferenceNormBIdeal.τ).loc Cert.ReferenceNormBIdeal.main_arg0) = m ((c.tc : Thread Cert.KernelNormBIdeal.nD Cert.KernelNormBIdeal.τ).loc Cert.KernelNormBIdeal.main_arg0)
      ∧ m' ((c.tc : Thread Cert.ReferenceNormBIdeal.nD Cert.ReferenceNormBIdeal.τ).loc Cert.ReferenceNormBIdeal.main_arg1) = m ((c.tc : Thread Cert.KernelNormBIdeal.nD Cert.KernelNormBIdeal.τ).loc Cert.KernelNormBIdeal.main_arg1)
      ∧ m' ((c.tc : Thread Cert.ReferenceNormBIdeal.nD Cert.ReferenceNormBIdeal.τ).loc Cert.ReferenceNormBIdeal.main_arg2) = m ((c.tc : Thread Cert.KernelNormBIdeal.nD Cert.KernelNormBIdeal.τ).loc Cert.KernelNormBIdeal.main_arg2)
      ∧ m' ((c.tc : Thread Cert.ReferenceNormBIdeal.nD Cert.ReferenceNormBIdeal.τ).loc Cert.ReferenceNormBIdeal.main_arg3) = m ((c.tc : Thread Cert.KernelNormBIdeal.nD Cert.KernelNormBIdeal.τ).loc Cert.KernelNormBIdeal.main_arg3)) →
    ∃ (v0 : (c : Dev Cert.KernelNormBIdeal.nD) → Buf (Elt Ideal) ((c.tc : Thread Cert.KernelNormBIdeal.nD Cert.KernelNormBIdeal.τ).loc Cert.KernelNormBIdeal.main_v0_0)) (v1 : (c : Dev Cert.KernelNormBIdeal.nD) → Buf (Elt Ideal) ((c.tc : Thread Cert.KernelNormBIdeal.nD Cert.KernelNormBIdeal.τ).loc Cert.KernelNormBIdeal.main_v0_1)) (v2 : (c : Dev Cert.KernelNormBIdeal.nD) → Buf (Elt Ideal) ((c.tc : Thread Cert.KernelNormBIdeal.nD Cert.KernelNormBIdeal.τ).loc Cert.KernelNormBIdeal.main_v0_2)),
      θ_run (Cert.KernelNormBIdeal.defs (F := Ideal)) (onTc (τ := Cert.KernelNormBIdeal.τ) (Cert.KernelNormBIdeal.main (F := Ideal))) ⟨m, fun _ => 0, g⟩ (fun r => ∀ c : Dev Cert.KernelNormBIdeal.nD,
          r.2.mem ((c.tc : Thread Cert.KernelNormBIdeal.nD Cert.KernelNormBIdeal.τ).loc Cert.KernelNormBIdeal.main_v0_0) = v0 c
          ∧ r.2.mem ((c.tc : Thread Cert.KernelNormBIdeal.nD Cert.KernelNormBIdeal.τ).loc Cert.KernelNormBIdeal.main_v0_1) = v1 c
          ∧ r.2.mem ((c.tc : Thread Cert.KernelNormBIdeal.nD Cert.KernelNormBIdeal.τ).loc Cert.KernelNormBIdeal.main_v0_2) = v2 c
          ∧ r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
          ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
          ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
          ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3))
      ∧ θ_run (Cert.ReferenceNormBIdeal.defs (F := Ideal)) (onTc (τ := Cert.ReferenceNormBIdeal.τ) (Cert.ReferenceNormBIdeal.main (F := Ideal))) ⟨m', fun _ => 0, g'⟩ (fun r => ∀ c : Dev Cert.ReferenceNormBIdeal.nD,
          r.2.mem ((c.tc : Thread Cert.ReferenceNormBIdeal.nD Cert.ReferenceNormBIdeal.τ).loc Cert.ReferenceNormBIdeal.main_v40) = v0 c
          ∧ r.2.mem ((c.tc : Thread Cert.ReferenceNormBIdeal.nD Cert.ReferenceNormBIdeal.τ).loc Cert.ReferenceNormBIdeal.main_v21) = v1 c
          ∧ r.2.mem ((c.tc : Thread Cert.ReferenceNormBIdeal.nD Cert.ReferenceNormBIdeal.τ).loc Cert.ReferenceNormBIdeal.main_v24) = v2 c
          ∧ r.2.mem ((c.tc : Thread Cert.ReferenceNormBIdeal.nD Cert.ReferenceNormBIdeal.τ).loc Cert.ReferenceNormBIdeal.main_arg0) = m' ((c.tc : Thread Cert.ReferenceNormBIdeal.nD Cert.ReferenceNormBIdeal.τ).loc Cert.ReferenceNormBIdeal.main_arg0)
          ∧ r.2.mem ((c.tc : Thread Cert.ReferenceNormBIdeal.nD Cert.ReferenceNormBIdeal.τ).loc Cert.ReferenceNormBIdeal.main_arg1) = m' ((c.tc : Thread Cert.ReferenceNormBIdeal.nD Cert.ReferenceNormBIdeal.τ).loc Cert.ReferenceNormBIdeal.main_arg1)
          ∧ r.2.mem ((c.tc : Thread Cert.ReferenceNormBIdeal.nD Cert.ReferenceNormBIdeal.τ).loc Cert.ReferenceNormBIdeal.main_arg2) = m' ((c.tc : Thread Cert.ReferenceNormBIdeal.nD Cert.ReferenceNormBIdeal.τ).loc Cert.ReferenceNormBIdeal.main_arg2)
          ∧ r.2.mem ((c.tc : Thread Cert.ReferenceNormBIdeal.nD Cert.ReferenceNormBIdeal.τ).loc Cert.ReferenceNormBIdeal.main_arg3) = m' ((c.tc : Thread Cert.ReferenceNormBIdeal.nD Cert.ReferenceNormBIdeal.τ).loc Cert.ReferenceNormBIdeal.main_arg3))

def preserves_KernelResF_KernelResFIdeal : Prop :=
  True

def algebraic_KernelResFIdeal_ReferenceResFIdeal [hKernelResFIdeal : Cert.KernelResFIdeal.Facts] [hReferenceResFIdeal : Cert.ReferenceResFIdeal.Facts] : Prop :=
  ∀ (m : (ℓ : Loc Cert.KernelResFIdeal.nD Cert.KernelResFIdeal.τ Cert.KernelResFIdeal.sig) → Buf (Elt Ideal) ℓ) (g : Dev Cert.KernelResFIdeal.nD → PrngReg)
    (m' : (ℓ : Loc Cert.ReferenceResFIdeal.nD Cert.ReferenceResFIdeal.τ Cert.ReferenceResFIdeal.sig) → Buf (Elt Ideal) ℓ) (g' : Dev Cert.ReferenceResFIdeal.nD → PrngReg), Pre_KernelResFIdeal m →
    (∀ c : Dev Cert.KernelResFIdeal.nD,
      m' ((c.tc : Thread Cert.ReferenceResFIdeal.nD Cert.ReferenceResFIdeal.τ).loc Cert.ReferenceResFIdeal.main_arg0) = m ((c.tc : Thread Cert.KernelResFIdeal.nD Cert.KernelResFIdeal.τ).loc Cert.KernelResFIdeal.main_arg0)
      ∧ m' ((c.tc : Thread Cert.ReferenceResFIdeal.nD Cert.ReferenceResFIdeal.τ).loc Cert.ReferenceResFIdeal.main_arg1) = m ((c.tc : Thread Cert.KernelResFIdeal.nD Cert.KernelResFIdeal.τ).loc Cert.KernelResFIdeal.main_arg1)
      ∧ m' ((c.tc : Thread Cert.ReferenceResFIdeal.nD Cert.ReferenceResFIdeal.τ).loc Cert.ReferenceResFIdeal.main_arg2) = m ((c.tc : Thread Cert.KernelResFIdeal.nD Cert.KernelResFIdeal.τ).loc Cert.KernelResFIdeal.main_arg2)
      ∧ m' ((c.tc : Thread Cert.ReferenceResFIdeal.nD Cert.ReferenceResFIdeal.τ).loc Cert.ReferenceResFIdeal.main_arg3) = m ((c.tc : Thread Cert.KernelResFIdeal.nD Cert.KernelResFIdeal.τ).loc Cert.KernelResFIdeal.main_arg3)
      ∧ m' ((c.tc : Thread Cert.ReferenceResFIdeal.nD Cert.ReferenceResFIdeal.τ).loc Cert.ReferenceResFIdeal.main_arg4) = m ((c.tc : Thread Cert.KernelResFIdeal.nD Cert.KernelResFIdeal.τ).loc Cert.KernelResFIdeal.main_arg4)) →
    ∃ (v0 : (c : Dev Cert.KernelResFIdeal.nD) → Buf (Elt Ideal) ((c.tc : Thread Cert.KernelResFIdeal.nD Cert.KernelResFIdeal.τ).loc Cert.KernelResFIdeal.main_v0_0)) (v1 : (c : Dev Cert.KernelResFIdeal.nD) → Buf (Elt Ideal) ((c.tc : Thread Cert.KernelResFIdeal.nD Cert.KernelResFIdeal.τ).loc Cert.KernelResFIdeal.main_v0_1)),
      θ_run (Cert.KernelResFIdeal.defs (F := Ideal)) (onTc (τ := Cert.KernelResFIdeal.τ) (Cert.KernelResFIdeal.main (F := Ideal))) ⟨m, fun _ => 0, g⟩ (fun r => ∀ c : Dev Cert.KernelResFIdeal.nD,
          r.2.mem ((c.tc : Thread Cert.KernelResFIdeal.nD Cert.KernelResFIdeal.τ).loc Cert.KernelResFIdeal.main_v0_0) = v0 c
          ∧ r.2.mem ((c.tc : Thread Cert.KernelResFIdeal.nD Cert.KernelResFIdeal.τ).loc Cert.KernelResFIdeal.main_v0_1) = v1 c
          ∧ r.2.mem ((c.tc : Thread Cert.KernelResFIdeal.nD Cert.KernelResFIdeal.τ).loc Cert.KernelResFIdeal.main_arg0) = m ((c.tc : Thread Cert.KernelResFIdeal.nD Cert.KernelResFIdeal.τ).loc Cert.KernelResFIdeal.main_arg0)
          ∧ r.2.mem ((c.tc : Thread Cert.KernelResFIdeal.nD Cert.KernelResFIdeal.τ).loc Cert.KernelResFIdeal.main_arg1) = m ((c.tc : Thread Cert.KernelResFIdeal.nD Cert.KernelResFIdeal.τ).loc Cert.KernelResFIdeal.main_arg1)
          ∧ r.2.mem ((c.tc : Thread Cert.KernelResFIdeal.nD Cert.KernelResFIdeal.τ).loc Cert.KernelResFIdeal.main_arg2) = m ((c.tc : Thread Cert.KernelResFIdeal.nD Cert.KernelResFIdeal.τ).loc Cert.KernelResFIdeal.main_arg2)
          ∧ r.2.mem ((c.tc : Thread Cert.KernelResFIdeal.nD Cert.KernelResFIdeal.τ).loc Cert.KernelResFIdeal.main_arg3) = m ((c.tc : Thread Cert.KernelResFIdeal.nD Cert.KernelResFIdeal.τ).loc Cert.KernelResFIdeal.main_arg3)
          ∧ r.2.mem ((c.tc : Thread Cert.KernelResFIdeal.nD Cert.KernelResFIdeal.τ).loc Cert.KernelResFIdeal.main_arg4) = m ((c.tc : Thread Cert.KernelResFIdeal.nD Cert.KernelResFIdeal.τ).loc Cert.KernelResFIdeal.main_arg4))
      ∧ θ_run (Cert.ReferenceResFIdeal.defs (F := Ideal)) (onTc (τ := Cert.ReferenceResFIdeal.τ) (Cert.ReferenceResFIdeal.main (F := Ideal))) ⟨m', fun _ => 0, g'⟩ (fun r => ∀ c : Dev Cert.ReferenceResFIdeal.nD,
          r.2.mem ((c.tc : Thread Cert.ReferenceResFIdeal.nD Cert.ReferenceResFIdeal.τ).loc Cert.ReferenceResFIdeal.main_v2) = v0 c
          ∧ r.2.mem ((c.tc : Thread Cert.ReferenceResFIdeal.nD Cert.ReferenceResFIdeal.τ).loc Cert.ReferenceResFIdeal.main_v18) = v1 c
          ∧ r.2.mem ((c.tc : Thread Cert.ReferenceResFIdeal.nD Cert.ReferenceResFIdeal.τ).loc Cert.ReferenceResFIdeal.main_arg0) = m' ((c.tc : Thread Cert.ReferenceResFIdeal.nD Cert.ReferenceResFIdeal.τ).loc Cert.ReferenceResFIdeal.main_arg0)
          ∧ r.2.mem ((c.tc : Thread Cert.ReferenceResFIdeal.nD Cert.ReferenceResFIdeal.τ).loc Cert.ReferenceResFIdeal.main_arg1) = m' ((c.tc : Thread Cert.ReferenceResFIdeal.nD Cert.ReferenceResFIdeal.τ).loc Cert.ReferenceResFIdeal.main_arg1)
          ∧ r.2.mem ((c.tc : Thread Cert.ReferenceResFIdeal.nD Cert.ReferenceResFIdeal.τ).loc Cert.ReferenceResFIdeal.main_arg2) = m' ((c.tc : Thread Cert.ReferenceResFIdeal.nD Cert.ReferenceResFIdeal.τ).loc Cert.ReferenceResFIdeal.main_arg2)
          ∧ r.2.mem ((c.tc : Thread Cert.ReferenceResFIdeal.nD Cert.ReferenceResFIdeal.τ).loc Cert.ReferenceResFIdeal.main_arg3) = m' ((c.tc : Thread Cert.ReferenceResFIdeal.nD Cert.ReferenceResFIdeal.τ).loc Cert.ReferenceResFIdeal.main_arg3)
          ∧ r.2.mem ((c.tc : Thread Cert.ReferenceResFIdeal.nD Cert.ReferenceResFIdeal.τ).loc Cert.ReferenceResFIdeal.main_arg4) = m' ((c.tc : Thread Cert.ReferenceResFIdeal.nD Cert.ReferenceResFIdeal.τ).loc Cert.ReferenceResFIdeal.main_arg4))

def preserves_KernelResB_KernelResBIdeal : Prop :=
  True

def algebraic_KernelResBIdeal_ReferenceResBIdeal [hKernelResBIdeal : Cert.KernelResBIdeal.Facts] [hReferenceResBIdeal : Cert.ReferenceResBIdeal.Facts] : Prop :=
  ∀ (m : (ℓ : Loc Cert.KernelResBIdeal.nD Cert.KernelResBIdeal.τ Cert.KernelResBIdeal.sig) → Buf (Elt Ideal) ℓ) (g : Dev Cert.KernelResBIdeal.nD → PrngReg)
    (m' : (ℓ : Loc Cert.ReferenceResBIdeal.nD Cert.ReferenceResBIdeal.τ Cert.ReferenceResBIdeal.sig) → Buf (Elt Ideal) ℓ) (g' : Dev Cert.ReferenceResBIdeal.nD → PrngReg), Pre_KernelResBIdeal m →
    (∀ c : Dev Cert.KernelResBIdeal.nD,
      m' ((c.tc : Thread Cert.ReferenceResBIdeal.nD Cert.ReferenceResBIdeal.τ).loc Cert.ReferenceResBIdeal.main_arg0) = m ((c.tc : Thread Cert.KernelResBIdeal.nD Cert.KernelResBIdeal.τ).loc Cert.KernelResBIdeal.main_arg0)
      ∧ m' ((c.tc : Thread Cert.ReferenceResBIdeal.nD Cert.ReferenceResBIdeal.τ).loc Cert.ReferenceResBIdeal.main_arg1) = m ((c.tc : Thread Cert.KernelResBIdeal.nD Cert.KernelResBIdeal.τ).loc Cert.KernelResBIdeal.main_arg1)
      ∧ m' ((c.tc : Thread Cert.ReferenceResBIdeal.nD Cert.ReferenceResBIdeal.τ).loc Cert.ReferenceResBIdeal.main_arg2) = m ((c.tc : Thread Cert.KernelResBIdeal.nD Cert.KernelResBIdeal.τ).loc Cert.KernelResBIdeal.main_arg2)
      ∧ m' ((c.tc : Thread Cert.ReferenceResBIdeal.nD Cert.ReferenceResBIdeal.τ).loc Cert.ReferenceResBIdeal.main_arg3) = m ((c.tc : Thread Cert.KernelResBIdeal.nD Cert.KernelResBIdeal.τ).loc Cert.KernelResBIdeal.main_arg3)
      ∧ m' ((c.tc : Thread Cert.ReferenceResBIdeal.nD Cert.ReferenceResBIdeal.τ).loc Cert.ReferenceResBIdeal.main_arg4) = m ((c.tc : Thread Cert.KernelResBIdeal.nD Cert.KernelResBIdeal.τ).loc Cert.KernelResBIdeal.main_arg4)
      ∧ m' ((c.tc : Thread Cert.ReferenceResBIdeal.nD Cert.ReferenceResBIdeal.τ).loc Cert.ReferenceResBIdeal.main_arg5) = m ((c.tc : Thread Cert.KernelResBIdeal.nD Cert.KernelResBIdeal.τ).loc Cert.KernelResBIdeal.main_arg5)
      ∧ m' ((c.tc : Thread Cert.ReferenceResBIdeal.nD Cert.ReferenceResBIdeal.τ).loc Cert.ReferenceResBIdeal.main_arg6) = m ((c.tc : Thread Cert.KernelResBIdeal.nD Cert.KernelResBIdeal.τ).loc Cert.KernelResBIdeal.main_arg6)) →
    ∃ (v0 : (c : Dev Cert.KernelResBIdeal.nD) → Buf (Elt Ideal) ((c.tc : Thread Cert.KernelResBIdeal.nD Cert.KernelResBIdeal.τ).loc Cert.KernelResBIdeal.main_v0_0)) (v1 : (c : Dev Cert.KernelResBIdeal.nD) → Buf (Elt Ideal) ((c.tc : Thread Cert.KernelResBIdeal.nD Cert.KernelResBIdeal.τ).loc Cert.KernelResBIdeal.main_v0_1)) (v2 : (c : Dev Cert.KernelResBIdeal.nD) → Buf (Elt Ideal) ((c.tc : Thread Cert.KernelResBIdeal.nD Cert.KernelResBIdeal.τ).loc Cert.KernelResBIdeal.main_v0_2)) (v3 : (c : Dev Cert.KernelResBIdeal.nD) → Buf (Elt Ideal) ((c.tc : Thread Cert.KernelResBIdeal.nD Cert.KernelResBIdeal.τ).loc Cert.KernelResBIdeal.main_v0_3)) (v4 : (c : Dev Cert.KernelResBIdeal.nD) → Buf (Elt Ideal) ((c.tc : Thread Cert.KernelResBIdeal.nD Cert.KernelResBIdeal.τ).loc Cert.KernelResBIdeal.main_v0_4)),
      θ_run (Cert.KernelResBIdeal.defs (F := Ideal)) (onTc (τ := Cert.KernelResBIdeal.τ) (Cert.KernelResBIdeal.main (F := Ideal))) ⟨m, fun _ => 0, g⟩ (fun r => ∀ c : Dev Cert.KernelResBIdeal.nD,
          r.2.mem ((c.tc : Thread Cert.KernelResBIdeal.nD Cert.KernelResBIdeal.τ).loc Cert.KernelResBIdeal.main_v0_0) = v0 c
          ∧ r.2.mem ((c.tc : Thread Cert.KernelResBIdeal.nD Cert.KernelResBIdeal.τ).loc Cert.KernelResBIdeal.main_v0_1) = v1 c
          ∧ r.2.mem ((c.tc : Thread Cert.KernelResBIdeal.nD Cert.KernelResBIdeal.τ).loc Cert.KernelResBIdeal.main_v0_2) = v2 c
          ∧ r.2.mem ((c.tc : Thread Cert.KernelResBIdeal.nD Cert.KernelResBIdeal.τ).loc Cert.KernelResBIdeal.main_v0_3) = v3 c
          ∧ r.2.mem ((c.tc : Thread Cert.KernelResBIdeal.nD Cert.KernelResBIdeal.τ).loc Cert.KernelResBIdeal.main_v0_4) = v4 c
          ∧ r.2.mem ((c.tc : Thread Cert.KernelResBIdeal.nD Cert.KernelResBIdeal.τ).loc Cert.KernelResBIdeal.main_arg0) = m ((c.tc : Thread Cert.KernelResBIdeal.nD Cert.KernelResBIdeal.τ).loc Cert.KernelResBIdeal.main_arg0)
          ∧ r.2.mem ((c.tc : Thread Cert.KernelResBIdeal.nD Cert.KernelResBIdeal.τ).loc Cert.KernelResBIdeal.main_arg1) = m ((c.tc : Thread Cert.KernelResBIdeal.nD Cert.KernelResBIdeal.τ).loc Cert.KernelResBIdeal.main_arg1)
          ∧ r.2.mem ((c.tc : Thread Cert.KernelResBIdeal.nD Cert.KernelResBIdeal.τ).loc Cert.KernelResBIdeal.main_arg2) = m ((c.tc : Thread Cert.KernelResBIdeal.nD Cert.KernelResBIdeal.τ).loc Cert.KernelResBIdeal.main_arg2)
          ∧ r.2.mem ((c.tc : Thread Cert.KernelResBIdeal.nD Cert.KernelResBIdeal.τ).loc Cert.KernelResBIdeal.main_arg3) = m ((c.tc : Thread Cert.KernelResBIdeal.nD Cert.KernelResBIdeal.τ).loc Cert.KernelResBIdeal.main_arg3)
          ∧ r.2.mem ((c.tc : Thread Cert.KernelResBIdeal.nD Cert.KernelResBIdeal.τ).loc Cert.KernelResBIdeal.main_arg4) = m ((c.tc : Thread Cert.KernelResBIdeal.nD Cert.KernelResBIdeal.τ).loc Cert.KernelResBIdeal.main_arg4)
          ∧ r.2.mem ((c.tc : Thread Cert.KernelResBIdeal.nD Cert.KernelResBIdeal.τ).loc Cert.KernelResBIdeal.main_arg5) = m ((c.tc : Thread Cert.KernelResBIdeal.nD Cert.KernelResBIdeal.τ).loc Cert.KernelResBIdeal.main_arg5)
          ∧ r.2.mem ((c.tc : Thread Cert.KernelResBIdeal.nD Cert.KernelResBIdeal.τ).loc Cert.KernelResBIdeal.main_arg6) = m ((c.tc : Thread Cert.KernelResBIdeal.nD Cert.KernelResBIdeal.τ).loc Cert.KernelResBIdeal.main_arg6))
      ∧ θ_run (Cert.ReferenceResBIdeal.defs (F := Ideal)) (onTc (τ := Cert.ReferenceResBIdeal.τ) (Cert.ReferenceResBIdeal.main (F := Ideal))) ⟨m', fun _ => 0, g'⟩ (fun r => ∀ c : Dev Cert.ReferenceResBIdeal.nD,
          r.2.mem ((c.tc : Thread Cert.ReferenceResBIdeal.nD Cert.ReferenceResBIdeal.τ).loc Cert.ReferenceResBIdeal.main_v44) = v0 c
          ∧ r.2.mem ((c.tc : Thread Cert.ReferenceResBIdeal.nD Cert.ReferenceResBIdeal.τ).loc Cert.ReferenceResBIdeal.main_v47) = v1 c
          ∧ r.2.mem ((c.tc : Thread Cert.ReferenceResBIdeal.nD Cert.ReferenceResBIdeal.τ).loc Cert.ReferenceResBIdeal.main_v50) = v2 c
          ∧ r.2.mem ((c.tc : Thread Cert.ReferenceResBIdeal.nD Cert.ReferenceResBIdeal.τ).loc Cert.ReferenceResBIdeal.main_v24) = v3 c
          ∧ r.2.mem ((c.tc : Thread Cert.ReferenceResBIdeal.nD Cert.ReferenceResBIdeal.τ).loc Cert.ReferenceResBIdeal.main_v27) = v4 c
          ∧ r.2.mem ((c.tc : Thread Cert.ReferenceResBIdeal.nD Cert.ReferenceResBIdeal.τ).loc Cert.ReferenceResBIdeal.main_arg0) = m' ((c.tc : Thread Cert.ReferenceResBIdeal.nD Cert.ReferenceResBIdeal.τ).loc Cert.ReferenceResBIdeal.main_arg0)
          ∧ r.2.mem ((c.tc : Thread Cert.ReferenceResBIdeal.nD Cert.ReferenceResBIdeal.τ).loc Cert.ReferenceResBIdeal.main_arg1) = m' ((c.tc : Thread Cert.ReferenceResBIdeal.nD Cert.ReferenceResBIdeal.τ).loc Cert.ReferenceResBIdeal.main_arg1)
          ∧ r.2.mem ((c.tc : Thread Cert.ReferenceResBIdeal.nD Cert.ReferenceResBIdeal.τ).loc Cert.ReferenceResBIdeal.main_arg2) = m' ((c.tc : Thread Cert.ReferenceResBIdeal.nD Cert.ReferenceResBIdeal.τ).loc Cert.ReferenceResBIdeal.main_arg2)
          ∧ r.2.mem ((c.tc : Thread Cert.ReferenceResBIdeal.nD Cert.ReferenceResBIdeal.τ).loc Cert.ReferenceResBIdeal.main_arg3) = m' ((c.tc : Thread Cert.ReferenceResBIdeal.nD Cert.ReferenceResBIdeal.τ).loc Cert.ReferenceResBIdeal.main_arg3)
          ∧ r.2.mem ((c.tc : Thread Cert.ReferenceResBIdeal.nD Cert.ReferenceResBIdeal.τ).loc Cert.ReferenceResBIdeal.main_arg4) = m' ((c.tc : Thread Cert.ReferenceResBIdeal.nD Cert.ReferenceResBIdeal.τ).loc Cert.ReferenceResBIdeal.main_arg4)
          ∧ r.2.mem ((c.tc : Thread Cert.ReferenceResBIdeal.nD Cert.ReferenceResBIdeal.τ).loc Cert.ReferenceResBIdeal.main_arg5) = m' ((c.tc : Thread Cert.ReferenceResBIdeal.nD Cert.ReferenceResBIdeal.τ).loc Cert.ReferenceResBIdeal.main_arg5)
          ∧ r.2.mem ((c.tc : Thread Cert.ReferenceResBIdeal.nD Cert.ReferenceResBIdeal.τ).loc Cert.ReferenceResBIdeal.main_arg6) = m' ((c.tc : Thread Cert.ReferenceResBIdeal.nD Cert.ReferenceResBIdeal.τ).loc Cert.ReferenceResBIdeal.main_arg6))

def preserves_KernelHeadF_KernelHeadFIdeal : Prop :=
  True

def algebraic_KernelHeadFIdeal_ReferenceHeadFIdeal [hKernelHeadFIdeal : Cert.KernelHeadFIdeal.Facts] [hReferenceHeadFIdeal : Cert.ReferenceHeadFIdeal.Facts] : Prop :=
  ∀ (m : (ℓ : Loc Cert.KernelHeadFIdeal.nD Cert.KernelHeadFIdeal.τ Cert.KernelHeadFIdeal.sig) → Buf (Elt Ideal) ℓ) (g : Dev Cert.KernelHeadFIdeal.nD → PrngReg)
    (m' : (ℓ : Loc Cert.ReferenceHeadFIdeal.nD Cert.ReferenceHeadFIdeal.τ Cert.ReferenceHeadFIdeal.sig) → Buf (Elt Ideal) ℓ) (g' : Dev Cert.ReferenceHeadFIdeal.nD → PrngReg), Pre_KernelHeadFIdeal m →
    (∀ c : Dev Cert.KernelHeadFIdeal.nD,
      m' ((c.tc : Thread Cert.ReferenceHeadFIdeal.nD Cert.ReferenceHeadFIdeal.τ).loc Cert.ReferenceHeadFIdeal.main_arg0) = m ((c.tc : Thread Cert.KernelHeadFIdeal.nD Cert.KernelHeadFIdeal.τ).loc Cert.KernelHeadFIdeal.main_arg0)
      ∧ m' ((c.tc : Thread Cert.ReferenceHeadFIdeal.nD Cert.ReferenceHeadFIdeal.τ).loc Cert.ReferenceHeadFIdeal.main_arg1) = m ((c.tc : Thread Cert.KernelHeadFIdeal.nD Cert.KernelHeadFIdeal.τ).loc Cert.KernelHeadFIdeal.main_arg1)
      ∧ m' ((c.tc : Thread Cert.ReferenceHeadFIdeal.nD Cert.ReferenceHeadFIdeal.τ).loc Cert.ReferenceHeadFIdeal.main_arg2) = m ((c.tc : Thread Cert.KernelHeadFIdeal.nD Cert.KernelHeadFIdeal.τ).loc Cert.KernelHeadFIdeal.main_arg2)
      ∧ m' ((c.tc : Thread Cert.ReferenceHeadFIdeal.nD Cert.ReferenceHeadFIdeal.τ).loc Cert.ReferenceHeadFIdeal.main_arg3) = m ((c.tc : Thread Cert.KernelHeadFIdeal.nD Cert.KernelHeadFIdeal.τ).loc Cert.KernelHeadFIdeal.main_arg3)
      ∧ m' ((c.tc : Thread Cert.ReferenceHeadFIdeal.nD Cert.ReferenceHeadFIdeal.τ).loc Cert.ReferenceHeadFIdeal.main_arg4) = m ((c.tc : Thread Cert.KernelHeadFIdeal.nD Cert.KernelHeadFIdeal.τ).loc Cert.KernelHeadFIdeal.main_arg4)) →
    ∃ (v0 : (c : Dev Cert.KernelHeadFIdeal.nD) → Buf (Elt Ideal) ((c.tc : Thread Cert.KernelHeadFIdeal.nD Cert.KernelHeadFIdeal.τ).loc Cert.KernelHeadFIdeal.main_v0)),
      θ_run (Cert.KernelHeadFIdeal.defs (F := Ideal)) (onTc (τ := Cert.KernelHeadFIdeal.τ) (Cert.KernelHeadFIdeal.main (F := Ideal))) ⟨m, fun _ => 0, g⟩ (fun r => ∀ c : Dev Cert.KernelHeadFIdeal.nD,
          r.2.mem ((c.tc : Thread Cert.KernelHeadFIdeal.nD Cert.KernelHeadFIdeal.τ).loc Cert.KernelHeadFIdeal.main_v0) = v0 c
          ∧ r.2.mem ((c.tc : Thread Cert.KernelHeadFIdeal.nD Cert.KernelHeadFIdeal.τ).loc Cert.KernelHeadFIdeal.main_arg0) = m ((c.tc : Thread Cert.KernelHeadFIdeal.nD Cert.KernelHeadFIdeal.τ).loc Cert.KernelHeadFIdeal.main_arg0)
          ∧ r.2.mem ((c.tc : Thread Cert.KernelHeadFIdeal.nD Cert.KernelHeadFIdeal.τ).loc Cert.KernelHeadFIdeal.main_arg1) = m ((c.tc : Thread Cert.KernelHeadFIdeal.nD Cert.KernelHeadFIdeal.τ).loc Cert.KernelHeadFIdeal.main_arg1)
          ∧ r.2.mem ((c.tc : Thread Cert.KernelHeadFIdeal.nD Cert.KernelHeadFIdeal.τ).loc Cert.KernelHeadFIdeal.main_arg2) = m ((c.tc : Thread Cert.KernelHeadFIdeal.nD Cert.KernelHeadFIdeal.τ).loc Cert.KernelHeadFIdeal.main_arg2)
          ∧ r.2.mem ((c.tc : Thread Cert.KernelHeadFIdeal.nD Cert.KernelHeadFIdeal.τ).loc Cert.KernelHeadFIdeal.main_arg3) = m ((c.tc : Thread Cert.KernelHeadFIdeal.nD Cert.KernelHeadFIdeal.τ).loc Cert.KernelHeadFIdeal.main_arg3)
          ∧ r.2.mem ((c.tc : Thread Cert.KernelHeadFIdeal.nD Cert.KernelHeadFIdeal.τ).loc Cert.KernelHeadFIdeal.main_arg4) = m ((c.tc : Thread Cert.KernelHeadFIdeal.nD Cert.KernelHeadFIdeal.τ).loc Cert.KernelHeadFIdeal.main_arg4))
      ∧ θ_run (Cert.ReferenceHeadFIdeal.defs (F := Ideal)) (onTc (τ := Cert.ReferenceHeadFIdeal.τ) (Cert.ReferenceHeadFIdeal.main (F := Ideal))) ⟨m', fun _ => 0, g'⟩ (fun r => ∀ c : Dev Cert.ReferenceHeadFIdeal.nD,
          r.2.mem ((c.tc : Thread Cert.ReferenceHeadFIdeal.nD Cert.ReferenceHeadFIdeal.τ).loc Cert.ReferenceHeadFIdeal.main_v23) = v0 c
          ∧ r.2.mem ((c.tc : Thread Cert.ReferenceHeadFIdeal.nD Cert.ReferenceHeadFIdeal.τ).loc Cert.ReferenceHeadFIdeal.main_arg0) = m' ((c.tc : Thread Cert.ReferenceHeadFIdeal.nD Cert.ReferenceHeadFIdeal.τ).loc Cert.ReferenceHeadFIdeal.main_arg0)
          ∧ r.2.mem ((c.tc : Thread Cert.ReferenceHeadFIdeal.nD Cert.ReferenceHeadFIdeal.τ).loc Cert.ReferenceHeadFIdeal.main_arg1) = m' ((c.tc : Thread Cert.ReferenceHeadFIdeal.nD Cert.ReferenceHeadFIdeal.τ).loc Cert.ReferenceHeadFIdeal.main_arg1)
          ∧ r.2.mem ((c.tc : Thread Cert.ReferenceHeadFIdeal.nD Cert.ReferenceHeadFIdeal.τ).loc Cert.ReferenceHeadFIdeal.main_arg2) = m' ((c.tc : Thread Cert.ReferenceHeadFIdeal.nD Cert.ReferenceHeadFIdeal.τ).loc Cert.ReferenceHeadFIdeal.main_arg2)
          ∧ r.2.mem ((c.tc : Thread Cert.ReferenceHeadFIdeal.nD Cert.ReferenceHeadFIdeal.τ).loc Cert.ReferenceHeadFIdeal.main_arg3) = m' ((c.tc : Thread Cert.ReferenceHeadFIdeal.nD Cert.ReferenceHeadFIdeal.τ).loc Cert.ReferenceHeadFIdeal.main_arg3)
          ∧ r.2.mem ((c.tc : Thread Cert.ReferenceHeadFIdeal.nD Cert.ReferenceHeadFIdeal.τ).loc Cert.ReferenceHeadFIdeal.main_arg4) = m' ((c.tc : Thread Cert.ReferenceHeadFIdeal.nD Cert.ReferenceHeadFIdeal.τ).loc Cert.ReferenceHeadFIdeal.main_arg4))

def preserves_KernelHeadB_KernelHeadBIdeal : Prop :=
  True

def algebraic_KernelHeadBIdeal_ReferenceHeadBIdeal [hKernelHeadBIdeal : Cert.KernelHeadBIdeal.Facts] [hReferenceHeadBIdeal : Cert.ReferenceHeadBIdeal.Facts] : Prop :=
  ∀ (m : (ℓ : Loc Cert.KernelHeadBIdeal.nD Cert.KernelHeadBIdeal.τ Cert.KernelHeadBIdeal.sig) → Buf (Elt Ideal) ℓ) (g : Dev Cert.KernelHeadBIdeal.nD → PrngReg)
    (m' : (ℓ : Loc Cert.ReferenceHeadBIdeal.nD Cert.ReferenceHeadBIdeal.τ Cert.ReferenceHeadBIdeal.sig) → Buf (Elt Ideal) ℓ) (g' : Dev Cert.ReferenceHeadBIdeal.nD → PrngReg), Pre_KernelHeadBIdeal m →
    (∀ c : Dev Cert.KernelHeadBIdeal.nD,
      m' ((c.tc : Thread Cert.ReferenceHeadBIdeal.nD Cert.ReferenceHeadBIdeal.τ).loc Cert.ReferenceHeadBIdeal.main_arg0) = m ((c.tc : Thread Cert.KernelHeadBIdeal.nD Cert.KernelHeadBIdeal.τ).loc Cert.KernelHeadBIdeal.main_arg0)
      ∧ m' ((c.tc : Thread Cert.ReferenceHeadBIdeal.nD Cert.ReferenceHeadBIdeal.τ).loc Cert.ReferenceHeadBIdeal.main_arg1) = m ((c.tc : Thread Cert.KernelHeadBIdeal.nD Cert.KernelHeadBIdeal.τ).loc Cert.KernelHeadBIdeal.main_arg1)
      ∧ m' ((c.tc : Thread Cert.ReferenceHeadBIdeal.nD Cert.ReferenceHeadBIdeal.τ).loc Cert.ReferenceHeadBIdeal.main_arg2) = m ((c.tc : Thread Cert.KernelHeadBIdeal.nD Cert.KernelHeadBIdeal.τ).loc Cert.KernelHeadBIdeal.main_arg2)
      ∧ m' ((c.tc : Thread Cert.ReferenceHeadBIdeal.nD Cert.ReferenceHeadBIdeal.τ).loc Cert.ReferenceHeadBIdeal.main_arg3) = m ((c.tc : Thread Cert.KernelHeadBIdeal.nD Cert.KernelHeadBIdeal.τ).loc Cert.KernelHeadBIdeal.main_arg3)
      ∧ m' ((c.tc : Thread Cert.ReferenceHeadBIdeal.nD Cert.ReferenceHeadBIdeal.τ).loc Cert.ReferenceHeadBIdeal.main_arg4) = m ((c.tc : Thread Cert.KernelHeadBIdeal.nD Cert.KernelHeadBIdeal.τ).loc Cert.KernelHeadBIdeal.main_arg4)) →
    ∃ (v0 : (c : Dev Cert.KernelHeadBIdeal.nD) → Buf (Elt Ideal) ((c.tc : Thread Cert.KernelHeadBIdeal.nD Cert.KernelHeadBIdeal.τ).loc Cert.KernelHeadBIdeal.main_v7_0)) (v1 : (c : Dev Cert.KernelHeadBIdeal.nD) → Buf (Elt Ideal) ((c.tc : Thread Cert.KernelHeadBIdeal.nD Cert.KernelHeadBIdeal.τ).loc Cert.KernelHeadBIdeal.main_v7_1)) (v2 : (c : Dev Cert.KernelHeadBIdeal.nD) → Buf (Elt Ideal) ((c.tc : Thread Cert.KernelHeadBIdeal.nD Cert.KernelHeadBIdeal.τ).loc Cert.KernelHeadBIdeal.main_v7_2)) (v3 : (c : Dev Cert.KernelHeadBIdeal.nD) → Buf (Elt Ideal) ((c.tc : Thread Cert.KernelHeadBIdeal.nD Cert.KernelHeadBIdeal.τ).loc Cert.KernelHeadBIdeal.main_v7_3)),
      θ_run (Cert.KernelHeadBIdeal.defs (F := Ideal)) (onTc (τ := Cert.KernelHeadBIdeal.τ) (Cert.KernelHeadBIdeal.main (F := Ideal))) ⟨m, fun _ => 0, g⟩ (fun r => ∀ c : Dev Cert.KernelHeadBIdeal.nD,
          r.2.mem ((c.tc : Thread Cert.KernelHeadBIdeal.nD Cert.KernelHeadBIdeal.τ).loc Cert.KernelHeadBIdeal.main_v7_0) = v0 c
          ∧ r.2.mem ((c.tc : Thread Cert.KernelHeadBIdeal.nD Cert.KernelHeadBIdeal.τ).loc Cert.KernelHeadBIdeal.main_v7_1) = v1 c
          ∧ r.2.mem ((c.tc : Thread Cert.KernelHeadBIdeal.nD Cert.KernelHeadBIdeal.τ).loc Cert.KernelHeadBIdeal.main_v7_2) = v2 c
          ∧ r.2.mem ((c.tc : Thread Cert.KernelHeadBIdeal.nD Cert.KernelHeadBIdeal.τ).loc Cert.KernelHeadBIdeal.main_v7_3) = v3 c
          ∧ r.2.mem ((c.tc : Thread Cert.KernelHeadBIdeal.nD Cert.KernelHeadBIdeal.τ).loc Cert.KernelHeadBIdeal.main_arg0) = m ((c.tc : Thread Cert.KernelHeadBIdeal.nD Cert.KernelHeadBIdeal.τ).loc Cert.KernelHeadBIdeal.main_arg0)
          ∧ r.2.mem ((c.tc : Thread Cert.KernelHeadBIdeal.nD Cert.KernelHeadBIdeal.τ).loc Cert.KernelHeadBIdeal.main_arg1) = m ((c.tc : Thread Cert.KernelHeadBIdeal.nD Cert.KernelHeadBIdeal.τ).loc Cert.KernelHeadBIdeal.main_arg1)
          ∧ r.2.mem ((c.tc : Thread Cert.KernelHeadBIdeal.nD Cert.KernelHeadBIdeal.τ).loc Cert.KernelHeadBIdeal.main_arg2) = m ((c.tc : Thread Cert.KernelHeadBIdeal.nD Cert.KernelHeadBIdeal.τ).loc Cert.KernelHeadBIdeal.main_arg2)
          ∧ r.2.mem ((c.tc : Thread Cert.KernelHeadBIdeal.nD Cert.KernelHeadBIdeal.τ).loc Cert.KernelHeadBIdeal.main_arg3) = m ((c.tc : Thread Cert.KernelHeadBIdeal.nD Cert.KernelHeadBIdeal.τ).loc Cert.KernelHeadBIdeal.main_arg3)
          ∧ r.2.mem ((c.tc : Thread Cert.KernelHeadBIdeal.nD Cert.KernelHeadBIdeal.τ).loc Cert.KernelHeadBIdeal.main_arg4) = m ((c.tc : Thread Cert.KernelHeadBIdeal.nD Cert.KernelHeadBIdeal.τ).loc Cert.KernelHeadBIdeal.main_arg4))
      ∧ θ_run (Cert.ReferenceHeadBIdeal.defs (F := Ideal)) (onTc (τ := Cert.ReferenceHeadBIdeal.τ) (Cert.ReferenceHeadBIdeal.main (F := Ideal))) ⟨m', fun _ => 0, g'⟩ (fun r => ∀ c : Dev Cert.ReferenceHeadBIdeal.nD,
          r.2.mem ((c.tc : Thread Cert.ReferenceHeadBIdeal.nD Cert.ReferenceHeadBIdeal.τ).loc Cert.ReferenceHeadBIdeal.main_v51) = v0 c
          ∧ r.2.mem ((c.tc : Thread Cert.ReferenceHeadBIdeal.nD Cert.ReferenceHeadBIdeal.τ).loc Cert.ReferenceHeadBIdeal.main_v53) = v1 c
          ∧ r.2.mem ((c.tc : Thread Cert.ReferenceHeadBIdeal.nD Cert.ReferenceHeadBIdeal.τ).loc Cert.ReferenceHeadBIdeal.main_v56) = v2 c
          ∧ r.2.mem ((c.tc : Thread Cert.ReferenceHeadBIdeal.nD Cert.ReferenceHeadBIdeal.τ).loc Cert.ReferenceHeadBIdeal.main_v35) = v3 c
          ∧ r.2.mem ((c.tc : Thread Cert.ReferenceHeadBIdeal.nD Cert.ReferenceHeadBIdeal.τ).loc Cert.ReferenceHeadBIdeal.main_arg0) = m' ((c.tc : Thread Cert.ReferenceHeadBIdeal.nD Cert.ReferenceHeadBIdeal.τ).loc Cert.ReferenceHeadBIdeal.main_arg0)
          ∧ r.2.mem ((c.tc : Thread Cert.ReferenceHeadBIdeal.nD Cert.ReferenceHeadBIdeal.τ).loc Cert.ReferenceHeadBIdeal.main_arg1) = m' ((c.tc : Thread Cert.ReferenceHeadBIdeal.nD Cert.ReferenceHeadBIdeal.τ).loc Cert.ReferenceHeadBIdeal.main_arg1)
          ∧ r.2.mem ((c.tc : Thread Cert.ReferenceHeadBIdeal.nD Cert.ReferenceHeadBIdeal.τ).loc Cert.ReferenceHeadBIdeal.main_arg2) = m' ((c.tc : Thread Cert.ReferenceHeadBIdeal.nD Cert.ReferenceHeadBIdeal.τ).loc Cert.ReferenceHeadBIdeal.main_arg2)
          ∧ r.2.mem ((c.tc : Thread Cert.ReferenceHeadBIdeal.nD Cert.ReferenceHeadBIdeal.τ).loc Cert.ReferenceHeadBIdeal.main_arg3) = m' ((c.tc : Thread Cert.ReferenceHeadBIdeal.nD Cert.ReferenceHeadBIdeal.τ).loc Cert.ReferenceHeadBIdeal.main_arg3)
          ∧ r.2.mem ((c.tc : Thread Cert.ReferenceHeadBIdeal.nD Cert.ReferenceHeadBIdeal.τ).loc Cert.ReferenceHeadBIdeal.main_arg4) = m' ((c.tc : Thread Cert.ReferenceHeadBIdeal.nD Cert.ReferenceHeadBIdeal.τ).loc Cert.ReferenceHeadBIdeal.main_arg4))

def preserves_KernelGoutF_KernelGoutFIdeal : Prop :=
  True

def algebraic_KernelGoutFIdeal_ReferenceGoutFIdeal [hKernelGoutFIdeal : Cert.KernelGoutFIdeal.Facts] [hReferenceGoutFIdeal : Cert.ReferenceGoutFIdeal.Facts] : Prop :=
  ∀ (m : (ℓ : Loc Cert.KernelGoutFIdeal.nD Cert.KernelGoutFIdeal.τ Cert.KernelGoutFIdeal.sig) → Buf (Elt Ideal) ℓ) (g : Dev Cert.KernelGoutFIdeal.nD → PrngReg)
    (m' : (ℓ : Loc Cert.ReferenceGoutFIdeal.nD Cert.ReferenceGoutFIdeal.τ Cert.ReferenceGoutFIdeal.sig) → Buf (Elt Ideal) ℓ) (g' : Dev Cert.ReferenceGoutFIdeal.nD → PrngReg), Pre_KernelGoutFIdeal m →
    (∀ c : Dev Cert.KernelGoutFIdeal.nD,
      m' ((c.tc : Thread Cert.ReferenceGoutFIdeal.nD Cert.ReferenceGoutFIdeal.τ).loc Cert.ReferenceGoutFIdeal.main_arg0) = m ((c.tc : Thread Cert.KernelGoutFIdeal.nD Cert.KernelGoutFIdeal.τ).loc Cert.KernelGoutFIdeal.main_arg0)
      ∧ m' ((c.tc : Thread Cert.ReferenceGoutFIdeal.nD Cert.ReferenceGoutFIdeal.τ).loc Cert.ReferenceGoutFIdeal.main_arg1) = m ((c.tc : Thread Cert.KernelGoutFIdeal.nD Cert.KernelGoutFIdeal.τ).loc Cert.KernelGoutFIdeal.main_arg1)
      ∧ m' ((c.tc : Thread Cert.ReferenceGoutFIdeal.nD Cert.ReferenceGoutFIdeal.τ).loc Cert.ReferenceGoutFIdeal.main_arg2) = m ((c.tc : Thread Cert.KernelGoutFIdeal.nD Cert.KernelGoutFIdeal.τ).loc Cert.KernelGoutFIdeal.main_arg2)) →
    ∃ (v0 : (c : Dev Cert.KernelGoutFIdeal.nD) → Buf (Elt Ideal) ((c.tc : Thread Cert.KernelGoutFIdeal.nD Cert.KernelGoutFIdeal.τ).loc Cert.KernelGoutFIdeal.main_v0)),
      θ_run (Cert.KernelGoutFIdeal.defs (F := Ideal)) (onTc (τ := Cert.KernelGoutFIdeal.τ) (Cert.KernelGoutFIdeal.main (F := Ideal))) ⟨m, fun _ => 0, g⟩ (fun r => ∀ c : Dev Cert.KernelGoutFIdeal.nD,
          r.2.mem ((c.tc : Thread Cert.KernelGoutFIdeal.nD Cert.KernelGoutFIdeal.τ).loc Cert.KernelGoutFIdeal.main_v0) = v0 c
          ∧ r.2.mem ((c.tc : Thread Cert.KernelGoutFIdeal.nD Cert.KernelGoutFIdeal.τ).loc Cert.KernelGoutFIdeal.main_arg0) = m ((c.tc : Thread Cert.KernelGoutFIdeal.nD Cert.KernelGoutFIdeal.τ).loc Cert.KernelGoutFIdeal.main_arg0)
          ∧ r.2.mem ((c.tc : Thread Cert.KernelGoutFIdeal.nD Cert.KernelGoutFIdeal.τ).loc Cert.KernelGoutFIdeal.main_arg1) = m ((c.tc : Thread Cert.KernelGoutFIdeal.nD Cert.KernelGoutFIdeal.τ).loc Cert.KernelGoutFIdeal.main_arg1)
          ∧ r.2.mem ((c.tc : Thread Cert.KernelGoutFIdeal.nD Cert.KernelGoutFIdeal.τ).loc Cert.KernelGoutFIdeal.main_arg2) = m ((c.tc : Thread Cert.KernelGoutFIdeal.nD Cert.KernelGoutFIdeal.τ).loc Cert.KernelGoutFIdeal.main_arg2))
      ∧ θ_run (Cert.ReferenceGoutFIdeal.defs (F := Ideal)) (onTc (τ := Cert.ReferenceGoutFIdeal.τ) (Cert.ReferenceGoutFIdeal.main (F := Ideal))) ⟨m', fun _ => 0, g'⟩ (fun r => ∀ c : Dev Cert.ReferenceGoutFIdeal.nD,
          r.2.mem ((c.tc : Thread Cert.ReferenceGoutFIdeal.nD Cert.ReferenceGoutFIdeal.τ).loc Cert.ReferenceGoutFIdeal.main_v17) = v0 c
          ∧ r.2.mem ((c.tc : Thread Cert.ReferenceGoutFIdeal.nD Cert.ReferenceGoutFIdeal.τ).loc Cert.ReferenceGoutFIdeal.main_arg0) = m' ((c.tc : Thread Cert.ReferenceGoutFIdeal.nD Cert.ReferenceGoutFIdeal.τ).loc Cert.ReferenceGoutFIdeal.main_arg0)
          ∧ r.2.mem ((c.tc : Thread Cert.ReferenceGoutFIdeal.nD Cert.ReferenceGoutFIdeal.τ).loc Cert.ReferenceGoutFIdeal.main_arg1) = m' ((c.tc : Thread Cert.ReferenceGoutFIdeal.nD Cert.ReferenceGoutFIdeal.τ).loc Cert.ReferenceGoutFIdeal.main_arg1)
          ∧ r.2.mem ((c.tc : Thread Cert.ReferenceGoutFIdeal.nD Cert.ReferenceGoutFIdeal.τ).loc Cert.ReferenceGoutFIdeal.main_arg2) = m' ((c.tc : Thread Cert.ReferenceGoutFIdeal.nD Cert.ReferenceGoutFIdeal.τ).loc Cert.ReferenceGoutFIdeal.main_arg2))

def preserves_KernelNormcF_KernelNormcFIdeal : Prop :=
  True

def algebraic_KernelNormcFIdeal_ReferenceNormcFIdeal [hKernelNormcFIdeal : Cert.KernelNormcFIdeal.Facts] [hReferenceNormcFIdeal : Cert.ReferenceNormcFIdeal.Facts] : Prop :=
  ∀ (m : (ℓ : Loc Cert.KernelNormcFIdeal.nD Cert.KernelNormcFIdeal.τ Cert.KernelNormcFIdeal.sig) → Buf (Elt Ideal) ℓ) (g : Dev Cert.KernelNormcFIdeal.nD → PrngReg)
    (m' : (ℓ : Loc Cert.ReferenceNormcFIdeal.nD Cert.ReferenceNormcFIdeal.τ Cert.ReferenceNormcFIdeal.sig) → Buf (Elt Ideal) ℓ) (g' : Dev Cert.ReferenceNormcFIdeal.nD → PrngReg), Pre_KernelNormcFIdeal m →
    (∀ c : Dev Cert.KernelNormcFIdeal.nD,
      m' ((c.tc : Thread Cert.ReferenceNormcFIdeal.nD Cert.ReferenceNormcFIdeal.τ).loc Cert.ReferenceNormcFIdeal.main_arg0) = m ((c.tc : Thread Cert.KernelNormcFIdeal.nD Cert.KernelNormcFIdeal.τ).loc Cert.KernelNormcFIdeal.main_arg0)
      ∧ m' ((c.tc : Thread Cert.ReferenceNormcFIdeal.nD Cert.ReferenceNormcFIdeal.τ).loc Cert.ReferenceNormcFIdeal.main_arg1) = m ((c.tc : Thread Cert.KernelNormcFIdeal.nD Cert.KernelNormcFIdeal.τ).loc Cert.KernelNormcFIdeal.main_arg1)
      ∧ m' ((c.tc : Thread Cert.ReferenceNormcFIdeal.nD Cert.ReferenceNormcFIdeal.τ).loc Cert.ReferenceNormcFIdeal.main_arg2) = m ((c.tc : Thread Cert.KernelNormcFIdeal.nD Cert.KernelNormcFIdeal.τ).loc Cert.KernelNormcFIdeal.main_arg2)) →
    ∃ (v0 : (c : Dev Cert.KernelNormcFIdeal.nD) → Buf (Elt Ideal) ((c.tc : Thread Cert.KernelNormcFIdeal.nD Cert.KernelNormcFIdeal.τ).loc Cert.KernelNormcFIdeal.main_v0)),
      θ_run (Cert.KernelNormcFIdeal.defs (F := Ideal)) (onTc (τ := Cert.KernelNormcFIdeal.τ) (Cert.KernelNormcFIdeal.main (F := Ideal))) ⟨m, fun _ => 0, g⟩ (fun r => ∀ c : Dev Cert.KernelNormcFIdeal.nD,
          r.2.mem ((c.tc : Thread Cert.KernelNormcFIdeal.nD Cert.KernelNormcFIdeal.τ).loc Cert.KernelNormcFIdeal.main_v0) = v0 c
          ∧ r.2.mem ((c.tc : Thread Cert.KernelNormcFIdeal.nD Cert.KernelNormcFIdeal.τ).loc Cert.KernelNormcFIdeal.main_arg0) = m ((c.tc : Thread Cert.KernelNormcFIdeal.nD Cert.KernelNormcFIdeal.τ).loc Cert.KernelNormcFIdeal.main_arg0)
          ∧ r.2.mem ((c.tc : Thread Cert.KernelNormcFIdeal.nD Cert.KernelNormcFIdeal.τ).loc Cert.KernelNormcFIdeal.main_arg1) = m ((c.tc : Thread Cert.KernelNormcFIdeal.nD Cert.KernelNormcFIdeal.τ).loc Cert.KernelNormcFIdeal.main_arg1)
          ∧ r.2.mem ((c.tc : Thread Cert.KernelNormcFIdeal.nD Cert.KernelNormcFIdeal.τ).loc Cert.KernelNormcFIdeal.main_arg2) = m ((c.tc : Thread Cert.KernelNormcFIdeal.nD Cert.KernelNormcFIdeal.τ).loc Cert.KernelNormcFIdeal.main_arg2))
      ∧ θ_run (Cert.ReferenceNormcFIdeal.defs (F := Ideal)) (onTc (τ := Cert.ReferenceNormcFIdeal.τ) (Cert.ReferenceNormcFIdeal.main (F := Ideal))) ⟨m', fun _ => 0, g'⟩ (fun r => ∀ c : Dev Cert.ReferenceNormcFIdeal.nD,
          r.2.mem ((c.tc : Thread Cert.ReferenceNormcFIdeal.nD Cert.ReferenceNormcFIdeal.τ).loc Cert.ReferenceNormcFIdeal.main_v15) = v0 c
          ∧ r.2.mem ((c.tc : Thread Cert.ReferenceNormcFIdeal.nD Cert.ReferenceNormcFIdeal.τ).loc Cert.ReferenceNormcFIdeal.main_arg0) = m' ((c.tc : Thread Cert.ReferenceNormcFIdeal.nD Cert.ReferenceNormcFIdeal.τ).loc Cert.ReferenceNormcFIdeal.main_arg0)
          ∧ r.2.mem ((c.tc : Thread Cert.ReferenceNormcFIdeal.nD Cert.ReferenceNormcFIdeal.τ).loc Cert.ReferenceNormcFIdeal.main_arg1) = m' ((c.tc : Thread Cert.ReferenceNormcFIdeal.nD Cert.ReferenceNormcFIdeal.τ).loc Cert.ReferenceNormcFIdeal.main_arg1)
          ∧ r.2.mem ((c.tc : Thread Cert.ReferenceNormcFIdeal.nD Cert.ReferenceNormcFIdeal.τ).loc Cert.ReferenceNormcFIdeal.main_arg2) = m' ((c.tc : Thread Cert.ReferenceNormcFIdeal.nD Cert.ReferenceNormcFIdeal.τ).loc Cert.ReferenceNormcFIdeal.main_arg2))

def preserves_KernelNormcB_KernelNormcBIdeal : Prop :=
  True

def algebraic_KernelNormcBIdeal_ReferenceNormcBIdeal [hKernelNormcBIdeal : Cert.KernelNormcBIdeal.Facts] [hReferenceNormcBIdeal : Cert.ReferenceNormcBIdeal.Facts] : Prop :=
  ∀ (m : (ℓ : Loc Cert.KernelNormcBIdeal.nD Cert.KernelNormcBIdeal.τ Cert.KernelNormcBIdeal.sig) → Buf (Elt Ideal) ℓ) (g : Dev Cert.KernelNormcBIdeal.nD → PrngReg)
    (m' : (ℓ : Loc Cert.ReferenceNormcBIdeal.nD Cert.ReferenceNormcBIdeal.τ Cert.ReferenceNormcBIdeal.sig) → Buf (Elt Ideal) ℓ) (g' : Dev Cert.ReferenceNormcBIdeal.nD → PrngReg), Pre_KernelNormcBIdeal m →
    (∀ c : Dev Cert.KernelNormcBIdeal.nD,
      m' ((c.tc : Thread Cert.ReferenceNormcBIdeal.nD Cert.ReferenceNormcBIdeal.τ).loc Cert.ReferenceNormcBIdeal.main_arg0) = m ((c.tc : Thread Cert.KernelNormcBIdeal.nD Cert.KernelNormcBIdeal.τ).loc Cert.KernelNormcBIdeal.main_arg0)
      ∧ m' ((c.tc : Thread Cert.ReferenceNormcBIdeal.nD Cert.ReferenceNormcBIdeal.τ).loc Cert.ReferenceNormcBIdeal.main_arg1) = m ((c.tc : Thread Cert.KernelNormcBIdeal.nD Cert.KernelNormcBIdeal.τ).loc Cert.KernelNormcBIdeal.main_arg1)
      ∧ m' ((c.tc : Thread Cert.ReferenceNormcBIdeal.nD Cert.ReferenceNormcBIdeal.τ).loc Cert.ReferenceNormcBIdeal.main_arg2) = m ((c.tc : Thread Cert.KernelNormcBIdeal.nD Cert.KernelNormcBIdeal.τ).loc Cert.KernelNormcBIdeal.main_arg2)
      ∧ m' ((c.tc : Thread Cert.ReferenceNormcBIdeal.nD Cert.ReferenceNormcBIdeal.τ).loc Cert.ReferenceNormcBIdeal.main_arg3) = m ((c.tc : Thread Cert.KernelNormcBIdeal.nD Cert.KernelNormcBIdeal.τ).loc Cert.KernelNormcBIdeal.main_arg3)) →
    ∃ (v0 : (c : Dev Cert.KernelNormcBIdeal.nD) → Buf (Elt Ideal) ((c.tc : Thread Cert.KernelNormcBIdeal.nD Cert.KernelNormcBIdeal.τ).loc Cert.KernelNormcBIdeal.main_v0_0)) (v1 : (c : Dev Cert.KernelNormcBIdeal.nD) → Buf (Elt Ideal) ((c.tc : Thread Cert.KernelNormcBIdeal.nD Cert.KernelNormcBIdeal.τ).loc Cert.KernelNormcBIdeal.main_v0_1)) (v2 : (c : Dev Cert.KernelNormcBIdeal.nD) → Buf (Elt Ideal) ((c.tc : Thread Cert.KernelNormcBIdeal.nD Cert.KernelNormcBIdeal.τ).loc Cert.KernelNormcBIdeal.main_v0_2)),
      θ_run (Cert.KernelNormcBIdeal.defs (F := Ideal)) (onTc (τ := Cert.KernelNormcBIdeal.τ) (Cert.KernelNormcBIdeal.main (F := Ideal))) ⟨m, fun _ => 0, g⟩ (fun r => ∀ c : Dev Cert.KernelNormcBIdeal.nD,
          r.2.mem ((c.tc : Thread Cert.KernelNormcBIdeal.nD Cert.KernelNormcBIdeal.τ).loc Cert.KernelNormcBIdeal.main_v0_0) = v0 c
          ∧ r.2.mem ((c.tc : Thread Cert.KernelNormcBIdeal.nD Cert.KernelNormcBIdeal.τ).loc Cert.KernelNormcBIdeal.main_v0_1) = v1 c
          ∧ r.2.mem ((c.tc : Thread Cert.KernelNormcBIdeal.nD Cert.KernelNormcBIdeal.τ).loc Cert.KernelNormcBIdeal.main_v0_2) = v2 c
          ∧ r.2.mem ((c.tc : Thread Cert.KernelNormcBIdeal.nD Cert.KernelNormcBIdeal.τ).loc Cert.KernelNormcBIdeal.main_arg0) = m ((c.tc : Thread Cert.KernelNormcBIdeal.nD Cert.KernelNormcBIdeal.τ).loc Cert.KernelNormcBIdeal.main_arg0)
          ∧ r.2.mem ((c.tc : Thread Cert.KernelNormcBIdeal.nD Cert.KernelNormcBIdeal.τ).loc Cert.KernelNormcBIdeal.main_arg1) = m ((c.tc : Thread Cert.KernelNormcBIdeal.nD Cert.KernelNormcBIdeal.τ).loc Cert.KernelNormcBIdeal.main_arg1)
          ∧ r.2.mem ((c.tc : Thread Cert.KernelNormcBIdeal.nD Cert.KernelNormcBIdeal.τ).loc Cert.KernelNormcBIdeal.main_arg2) = m ((c.tc : Thread Cert.KernelNormcBIdeal.nD Cert.KernelNormcBIdeal.τ).loc Cert.KernelNormcBIdeal.main_arg2)
          ∧ r.2.mem ((c.tc : Thread Cert.KernelNormcBIdeal.nD Cert.KernelNormcBIdeal.τ).loc Cert.KernelNormcBIdeal.main_arg3) = m ((c.tc : Thread Cert.KernelNormcBIdeal.nD Cert.KernelNormcBIdeal.τ).loc Cert.KernelNormcBIdeal.main_arg3))
      ∧ θ_run (Cert.ReferenceNormcBIdeal.defs (F := Ideal)) (onTc (τ := Cert.ReferenceNormcBIdeal.τ) (Cert.ReferenceNormcBIdeal.main (F := Ideal))) ⟨m', fun _ => 0, g'⟩ (fun r => ∀ c : Dev Cert.ReferenceNormcBIdeal.nD,
          r.2.mem ((c.tc : Thread Cert.ReferenceNormcBIdeal.nD Cert.ReferenceNormcBIdeal.τ).loc Cert.ReferenceNormcBIdeal.main_v40) = v0 c
          ∧ r.2.mem ((c.tc : Thread Cert.ReferenceNormcBIdeal.nD Cert.ReferenceNormcBIdeal.τ).loc Cert.ReferenceNormcBIdeal.main_v21) = v1 c
          ∧ r.2.mem ((c.tc : Thread Cert.ReferenceNormcBIdeal.nD Cert.ReferenceNormcBIdeal.τ).loc Cert.ReferenceNormcBIdeal.main_v24) = v2 c
          ∧ r.2.mem ((c.tc : Thread Cert.ReferenceNormcBIdeal.nD Cert.ReferenceNormcBIdeal.τ).loc Cert.ReferenceNormcBIdeal.main_arg0) = m' ((c.tc : Thread Cert.ReferenceNormcBIdeal.nD Cert.ReferenceNormcBIdeal.τ).loc Cert.ReferenceNormcBIdeal.main_arg0)
          ∧ r.2.mem ((c.tc : Thread Cert.ReferenceNormcBIdeal.nD Cert.ReferenceNormcBIdeal.τ).loc Cert.ReferenceNormcBIdeal.main_arg1) = m' ((c.tc : Thread Cert.ReferenceNormcBIdeal.nD Cert.ReferenceNormcBIdeal.τ).loc Cert.ReferenceNormcBIdeal.main_arg1)
          ∧ r.2.mem ((c.tc : Thread Cert.ReferenceNormcBIdeal.nD Cert.ReferenceNormcBIdeal.τ).loc Cert.ReferenceNormcBIdeal.main_arg2) = m' ((c.tc : Thread Cert.ReferenceNormcBIdeal.nD Cert.ReferenceNormcBIdeal.τ).loc Cert.ReferenceNormcBIdeal.main_arg2)
          ∧ r.2.mem ((c.tc : Thread Cert.ReferenceNormcBIdeal.nD Cert.ReferenceNormcBIdeal.τ).loc Cert.ReferenceNormcBIdeal.main_arg3) = m' ((c.tc : Thread Cert.ReferenceNormcBIdeal.nD Cert.ReferenceNormcBIdeal.τ).loc Cert.ReferenceNormcBIdeal.main_arg3))

def preserves_KernelFfnF_KernelFfnFIdeal : Prop :=
  True

def algebraic_KernelFfnFIdeal_ReferenceFfnFIdeal [hKernelFfnFIdeal : Cert.KernelFfnFIdeal.Facts] [hReferenceFfnFIdeal : Cert.ReferenceFfnFIdeal.Facts] : Prop :=
  ∀ (m : (ℓ : Loc Cert.KernelFfnFIdeal.nD Cert.KernelFfnFIdeal.τ Cert.KernelFfnFIdeal.sig) → Buf (Elt Ideal) ℓ) (g : Dev Cert.KernelFfnFIdeal.nD → PrngReg)
    (m' : (ℓ : Loc Cert.ReferenceFfnFIdeal.nD Cert.ReferenceFfnFIdeal.τ Cert.ReferenceFfnFIdeal.sig) → Buf (Elt Ideal) ℓ) (g' : Dev Cert.ReferenceFfnFIdeal.nD → PrngReg), Pre_KernelFfnFIdeal m →
    (∀ c : Dev Cert.KernelFfnFIdeal.nD,
      m' ((c.tc : Thread Cert.ReferenceFfnFIdeal.nD Cert.ReferenceFfnFIdeal.τ).loc Cert.ReferenceFfnFIdeal.main_arg0) = m ((c.tc : Thread Cert.KernelFfnFIdeal.nD Cert.KernelFfnFIdeal.τ).loc Cert.KernelFfnFIdeal.main_arg0)
      ∧ m' ((c.tc : Thread Cert.ReferenceFfnFIdeal.nD Cert.ReferenceFfnFIdeal.τ).loc Cert.ReferenceFfnFIdeal.main_arg1) = m ((c.tc : Thread Cert.KernelFfnFIdeal.nD Cert.KernelFfnFIdeal.τ).loc Cert.KernelFfnFIdeal.main_arg1)
      ∧ m' ((c.tc : Thread Cert.ReferenceFfnFIdeal.nD Cert.ReferenceFfnFIdeal.τ).loc Cert.ReferenceFfnFIdeal.main_arg2) = m ((c.tc : Thread Cert.KernelFfnFIdeal.nD Cert.KernelFfnFIdeal.τ).loc Cert.KernelFfnFIdeal.main_arg2)) →
    ∃ (v0 : (c : Dev Cert.KernelFfnFIdeal.nD) → Buf (Elt Ideal) ((c.tc : Thread Cert.KernelFfnFIdeal.nD Cert.KernelFfnFIdeal.τ).loc Cert.KernelFfnFIdeal.main_v3)),
      θ_run (Cert.KernelFfnFIdeal.defs (F := Ideal)) (onTc (τ := Cert.KernelFfnFIdeal.τ) (Cert.KernelFfnFIdeal.main (F := Ideal))) ⟨m, fun _ => 0, g⟩ (fun r => ∀ c : Dev Cert.KernelFfnFIdeal.nD,
          r.2.mem ((c.tc : Thread Cert.KernelFfnFIdeal.nD Cert.KernelFfnFIdeal.τ).loc Cert.KernelFfnFIdeal.main_v3) = v0 c
          ∧ r.2.mem ((c.tc : Thread Cert.KernelFfnFIdeal.nD Cert.KernelFfnFIdeal.τ).loc Cert.KernelFfnFIdeal.main_arg0) = m ((c.tc : Thread Cert.KernelFfnFIdeal.nD Cert.KernelFfnFIdeal.τ).loc Cert.KernelFfnFIdeal.main_arg0)
          ∧ r.2.mem ((c.tc : Thread Cert.KernelFfnFIdeal.nD Cert.KernelFfnFIdeal.τ).loc Cert.KernelFfnFIdeal.main_arg1) = m ((c.tc : Thread Cert.KernelFfnFIdeal.nD Cert.KernelFfnFIdeal.τ).loc Cert.KernelFfnFIdeal.main_arg1)
          ∧ r.2.mem ((c.tc : Thread Cert.KernelFfnFIdeal.nD Cert.KernelFfnFIdeal.τ).loc Cert.KernelFfnFIdeal.main_arg2) = m ((c.tc : Thread Cert.KernelFfnFIdeal.nD Cert.KernelFfnFIdeal.τ).loc Cert.KernelFfnFIdeal.main_arg2))
      ∧ θ_run (Cert.ReferenceFfnFIdeal.defs (F := Ideal)) (onTc (τ := Cert.ReferenceFfnFIdeal.τ) (Cert.ReferenceFfnFIdeal.main (F := Ideal))) ⟨m', fun _ => 0, g'⟩ (fun r => ∀ c : Dev Cert.ReferenceFfnFIdeal.nD,
          r.2.mem ((c.tc : Thread Cert.ReferenceFfnFIdeal.nD Cert.ReferenceFfnFIdeal.τ).loc Cert.ReferenceFfnFIdeal.main_v27) = v0 c
          ∧ r.2.mem ((c.tc : Thread Cert.ReferenceFfnFIdeal.nD Cert.ReferenceFfnFIdeal.τ).loc Cert.ReferenceFfnFIdeal.main_arg0) = m' ((c.tc : Thread Cert.ReferenceFfnFIdeal.nD Cert.ReferenceFfnFIdeal.τ).loc Cert.ReferenceFfnFIdeal.main_arg0)
          ∧ r.2.mem ((c.tc : Thread Cert.ReferenceFfnFIdeal.nD Cert.ReferenceFfnFIdeal.τ).loc Cert.ReferenceFfnFIdeal.main_arg1) = m' ((c.tc : Thread Cert.ReferenceFfnFIdeal.nD Cert.ReferenceFfnFIdeal.τ).loc Cert.ReferenceFfnFIdeal.main_arg1)
          ∧ r.2.mem ((c.tc : Thread Cert.ReferenceFfnFIdeal.nD Cert.ReferenceFfnFIdeal.τ).loc Cert.ReferenceFfnFIdeal.main_arg2) = m' ((c.tc : Thread Cert.ReferenceFfnFIdeal.nD Cert.ReferenceFfnFIdeal.τ).loc Cert.ReferenceFfnFIdeal.main_arg2))

def preserves_KernelFfnB_KernelFfnBIdeal : Prop :=
  True

def algebraic_KernelFfnBIdeal_ReferenceFfnBIdeal [hKernelFfnBIdeal : Cert.KernelFfnBIdeal.Facts] [hReferenceFfnBIdeal : Cert.ReferenceFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg)
    (m' : (ℓ : Loc Cert.ReferenceFfnBIdeal.nD Cert.ReferenceFfnBIdeal.τ Cert.ReferenceFfnBIdeal.sig) → Buf (Elt Ideal) ℓ) (g' : Dev Cert.ReferenceFfnBIdeal.nD → PrngReg), Pre_KernelFfnBIdeal m →
    (∀ c : Dev Cert.KernelFfnBIdeal.nD,
      m' ((c.tc : Thread Cert.ReferenceFfnBIdeal.nD Cert.ReferenceFfnBIdeal.τ).loc Cert.ReferenceFfnBIdeal.main_arg0) = m ((c.tc : Thread Cert.KernelFfnBIdeal.nD Cert.KernelFfnBIdeal.τ).loc Cert.KernelFfnBIdeal.main_arg0)
      ∧ m' ((c.tc : Thread Cert.ReferenceFfnBIdeal.nD Cert.ReferenceFfnBIdeal.τ).loc Cert.ReferenceFfnBIdeal.main_arg1) = m ((c.tc : Thread Cert.KernelFfnBIdeal.nD Cert.KernelFfnBIdeal.τ).loc Cert.KernelFfnBIdeal.main_arg1)
      ∧ m' ((c.tc : Thread Cert.ReferenceFfnBIdeal.nD Cert.ReferenceFfnBIdeal.τ).loc Cert.ReferenceFfnBIdeal.main_arg2) = m ((c.tc : Thread Cert.KernelFfnBIdeal.nD Cert.KernelFfnBIdeal.τ).loc Cert.KernelFfnBIdeal.main_arg2)
      ∧ m' ((c.tc : Thread Cert.ReferenceFfnBIdeal.nD Cert.ReferenceFfnBIdeal.τ).loc Cert.ReferenceFfnBIdeal.main_arg3) = m ((c.tc : Thread Cert.KernelFfnBIdeal.nD Cert.KernelFfnBIdeal.τ).loc Cert.KernelFfnBIdeal.main_arg3)) →
    ∃ (v0 : (c : Dev Cert.KernelFfnBIdeal.nD) → Buf (Elt Ideal) ((c.tc : Thread Cert.KernelFfnBIdeal.nD Cert.KernelFfnBIdeal.τ).loc Cert.KernelFfnBIdeal.main_v3_0)) (v1 : (c : Dev Cert.KernelFfnBIdeal.nD) → Buf (Elt Ideal) ((c.tc : Thread Cert.KernelFfnBIdeal.nD Cert.KernelFfnBIdeal.τ).loc Cert.KernelFfnBIdeal.main_v3_1)) (v2 : (c : Dev Cert.KernelFfnBIdeal.nD) → Buf (Elt Ideal) ((c.tc : Thread Cert.KernelFfnBIdeal.nD Cert.KernelFfnBIdeal.τ).loc Cert.KernelFfnBIdeal.main_v3_2)) (v3 : (c : Dev Cert.KernelFfnBIdeal.nD) → Buf (Elt Ideal) ((c.tc : Thread Cert.KernelFfnBIdeal.nD Cert.KernelFfnBIdeal.τ).loc Cert.KernelFfnBIdeal.main_v3_3)) (v4 : (c : Dev Cert.KernelFfnBIdeal.nD) → Buf (Elt Ideal) ((c.tc : Thread Cert.KernelFfnBIdeal.nD Cert.KernelFfnBIdeal.τ).loc Cert.KernelFfnBIdeal.main_v3_4)) (v5 : (c : Dev Cert.KernelFfnBIdeal.nD) → Buf (Elt Ideal) ((c.tc : Thread Cert.KernelFfnBIdeal.nD Cert.KernelFfnBIdeal.τ).loc Cert.KernelFfnBIdeal.main_v3_5)) (v6 : (c : Dev Cert.KernelFfnBIdeal.nD) → Buf (Elt Ideal) ((c.tc : Thread Cert.KernelFfnBIdeal.nD Cert.KernelFfnBIdeal.τ).loc Cert.KernelFfnBIdeal.main_v3_6)) (v7 : (c : Dev Cert.KernelFfnBIdeal.nD) → Buf (Elt Ideal) ((c.tc : Thread Cert.KernelFfnBIdeal.nD Cert.KernelFfnBIdeal.τ).loc Cert.KernelFfnBIdeal.main_v3_7)) (v8 : (c : Dev Cert.KernelFfnBIdeal.nD) → Buf (Elt Ideal) ((c.tc : Thread Cert.KernelFfnBIdeal.nD Cert.KernelFfnBIdeal.τ).loc Cert.KernelFfnBIdeal.main_v3_8)) (v9 : (c : Dev Cert.KernelFfnBIdeal.nD) → Buf (Elt Ideal) ((c.tc : Thread Cert.KernelFfnBIdeal.nD Cert.KernelFfnBIdeal.τ).loc Cert.KernelFfnBIdeal.main_v3_9)),
      θ_run (Cert.KernelFfnBIdeal.defs (F := Ideal)) (onTc (τ := Cert.KernelFfnBIdeal.τ) (Cert.KernelFfnBIdeal.main (F := Ideal))) ⟨m, fun _ => 0, g⟩ (fun r => ∀ c : Dev Cert.KernelFfnBIdeal.nD,
          r.2.mem ((c.tc : Thread Cert.KernelFfnBIdeal.nD Cert.KernelFfnBIdeal.τ).loc Cert.KernelFfnBIdeal.main_v3_0) = v0 c
          ∧ r.2.mem ((c.tc : Thread Cert.KernelFfnBIdeal.nD Cert.KernelFfnBIdeal.τ).loc Cert.KernelFfnBIdeal.main_v3_1) = v1 c
          ∧ r.2.mem ((c.tc : Thread Cert.KernelFfnBIdeal.nD Cert.KernelFfnBIdeal.τ).loc Cert.KernelFfnBIdeal.main_v3_2) = v2 c
          ∧ r.2.mem ((c.tc : Thread Cert.KernelFfnBIdeal.nD Cert.KernelFfnBIdeal.τ).loc Cert.KernelFfnBIdeal.main_v3_3) = v3 c
          ∧ r.2.mem ((c.tc : Thread Cert.KernelFfnBIdeal.nD Cert.KernelFfnBIdeal.τ).loc Cert.KernelFfnBIdeal.main_v3_4) = v4 c
          ∧ r.2.mem ((c.tc : Thread Cert.KernelFfnBIdeal.nD Cert.KernelFfnBIdeal.τ).loc Cert.KernelFfnBIdeal.main_v3_5) = v5 c
          ∧ r.2.mem ((c.tc : Thread Cert.KernelFfnBIdeal.nD Cert.KernelFfnBIdeal.τ).loc Cert.KernelFfnBIdeal.main_v3_6) = v6 c
          ∧ r.2.mem ((c.tc : Thread Cert.KernelFfnBIdeal.nD Cert.KernelFfnBIdeal.τ).loc Cert.KernelFfnBIdeal.main_v3_7) = v7 c
          ∧ r.2.mem ((c.tc : Thread Cert.KernelFfnBIdeal.nD Cert.KernelFfnBIdeal.τ).loc Cert.KernelFfnBIdeal.main_v3_8) = v8 c
          ∧ r.2.mem ((c.tc : Thread Cert.KernelFfnBIdeal.nD Cert.KernelFfnBIdeal.τ).loc Cert.KernelFfnBIdeal.main_v3_9) = v9 c
          ∧ r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
          ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
          ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
          ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ θ_run (Cert.ReferenceFfnBIdeal.defs (F := Ideal)) (onTc (τ := Cert.ReferenceFfnBIdeal.τ) (Cert.ReferenceFfnBIdeal.main (F := Ideal))) ⟨m', fun _ => 0, g'⟩ (fun r => ∀ c : Dev Cert.ReferenceFfnBIdeal.nD,
          r.2.mem ((c.tc : Thread Cert.ReferenceFfnBIdeal.nD Cert.ReferenceFfnBIdeal.τ).loc Cert.ReferenceFfnBIdeal.main_v73) = v0 c
          ∧ r.2.mem ((c.tc : Thread Cert.ReferenceFfnBIdeal.nD Cert.ReferenceFfnBIdeal.τ).loc Cert.ReferenceFfnBIdeal.main_v74) = v1 c
          ∧ r.2.mem ((c.tc : Thread Cert.ReferenceFfnBIdeal.nD Cert.ReferenceFfnBIdeal.τ).loc Cert.ReferenceFfnBIdeal.main_v75) = v2 c
          ∧ r.2.mem ((c.tc : Thread Cert.ReferenceFfnBIdeal.nD Cert.ReferenceFfnBIdeal.τ).loc Cert.ReferenceFfnBIdeal.main_v76) = v3 c
          ∧ r.2.mem ((c.tc : Thread Cert.ReferenceFfnBIdeal.nD Cert.ReferenceFfnBIdeal.τ).loc Cert.ReferenceFfnBIdeal.main_v77) = v4 c
          ∧ r.2.mem ((c.tc : Thread Cert.ReferenceFfnBIdeal.nD Cert.ReferenceFfnBIdeal.τ).loc Cert.ReferenceFfnBIdeal.main_v78) = v5 c
          ∧ r.2.mem ((c.tc : Thread Cert.ReferenceFfnBIdeal.nD Cert.ReferenceFfnBIdeal.τ).loc Cert.ReferenceFfnBIdeal.main_v79) = v6 c
          ∧ r.2.mem ((c.tc : Thread Cert.ReferenceFfnBIdeal.nD Cert.ReferenceFfnBIdeal.τ).loc Cert.ReferenceFfnBIdeal.main_v80) = v7 c
          ∧ r.2.mem ((c.tc : Thread Cert.ReferenceFfnBIdeal.nD Cert.ReferenceFfnBIdeal.τ).loc Cert.ReferenceFfnBIdeal.main_v81) = v8 c
          ∧ r.2.mem ((c.tc : Thread Cert.ReferenceFfnBIdeal.nD Cert.ReferenceFfnBIdeal.τ).loc Cert.ReferenceFfnBIdeal.main_v82) = v9 c
          ∧ r.2.mem ((c.tc : Thread Cert.ReferenceFfnBIdeal.nD Cert.ReferenceFfnBIdeal.τ).loc Cert.ReferenceFfnBIdeal.main_arg0) = m' ((c.tc : Thread Cert.ReferenceFfnBIdeal.nD Cert.ReferenceFfnBIdeal.τ).loc Cert.ReferenceFfnBIdeal.main_arg0)
          ∧ r.2.mem ((c.tc : Thread Cert.ReferenceFfnBIdeal.nD Cert.ReferenceFfnBIdeal.τ).loc Cert.ReferenceFfnBIdeal.main_arg1) = m' ((c.tc : Thread Cert.ReferenceFfnBIdeal.nD Cert.ReferenceFfnBIdeal.τ).loc Cert.ReferenceFfnBIdeal.main_arg1)
          ∧ r.2.mem ((c.tc : Thread Cert.ReferenceFfnBIdeal.nD Cert.ReferenceFfnBIdeal.τ).loc Cert.ReferenceFfnBIdeal.main_arg2) = m' ((c.tc : Thread Cert.ReferenceFfnBIdeal.nD Cert.ReferenceFfnBIdeal.τ).loc Cert.ReferenceFfnBIdeal.main_arg2)
          ∧ r.2.mem ((c.tc : Thread Cert.ReferenceFfnBIdeal.nD Cert.ReferenceFfnBIdeal.τ).loc Cert.ReferenceFfnBIdeal.main_arg3) = m' ((c.tc : Thread Cert.ReferenceFfnBIdeal.nD Cert.ReferenceFfnBIdeal.τ).loc Cert.ReferenceFfnBIdeal.main_arg3))

def preserves_KernelPrepF_KernelPrepFIdeal : Prop :=
  True

def algebraic_KernelPrepFIdeal_ReferencePrepFIdeal [hKernelPrepFIdeal : Cert.KernelPrepFIdeal.Facts] [hReferencePrepFIdeal : Cert.ReferencePrepFIdeal.Facts] : Prop :=
  ∀ (m : (ℓ : Loc Cert.KernelPrepFIdeal.nD Cert.KernelPrepFIdeal.τ Cert.KernelPrepFIdeal.sig) → Buf (Elt Ideal) ℓ) (g : Dev Cert.KernelPrepFIdeal.nD → PrngReg)
    (m' : (ℓ : Loc Cert.ReferencePrepFIdeal.nD Cert.ReferencePrepFIdeal.τ Cert.ReferencePrepFIdeal.sig) → Buf (Elt Ideal) ℓ) (g' : Dev Cert.ReferencePrepFIdeal.nD → PrngReg), Pre_KernelPrepFIdeal m →
    (∀ c : Dev Cert.KernelPrepFIdeal.nD,
      m' ((c.tc : Thread Cert.ReferencePrepFIdeal.nD Cert.ReferencePrepFIdeal.τ).loc Cert.ReferencePrepFIdeal.main_arg0) = m ((c.tc : Thread Cert.KernelPrepFIdeal.nD Cert.KernelPrepFIdeal.τ).loc Cert.KernelPrepFIdeal.main_arg0)
      ∧ m' ((c.tc : Thread Cert.ReferencePrepFIdeal.nD Cert.ReferencePrepFIdeal.τ).loc Cert.ReferencePrepFIdeal.main_arg1) = m ((c.tc : Thread Cert.KernelPrepFIdeal.nD Cert.KernelPrepFIdeal.τ).loc Cert.KernelPrepFIdeal.main_arg1)) →
    ∃ (v0 : (c : Dev Cert.KernelPrepFIdeal.nD) → Buf (Elt Ideal) ((c.tc : Thread Cert.KernelPrepFIdeal.nD Cert.KernelPrepFIdeal.τ).loc Cert.KernelPrepFIdeal.main_v8)),
      θ_run (Cert.KernelPrepFIdeal.defs (F := Ideal)) (onTc (τ := Cert.KernelPrepFIdeal.τ) (Cert.KernelPrepFIdeal.main (F := Ideal))) ⟨m, fun _ => 0, g⟩ (fun r => ∀ c : Dev Cert.KernelPrepFIdeal.nD,
          r.2.mem ((c.tc : Thread Cert.KernelPrepFIdeal.nD Cert.KernelPrepFIdeal.τ).loc Cert.KernelPrepFIdeal.main_v8) = v0 c
          ∧ r.2.mem ((c.tc : Thread Cert.KernelPrepFIdeal.nD Cert.KernelPrepFIdeal.τ).loc Cert.KernelPrepFIdeal.main_arg0) = m ((c.tc : Thread Cert.KernelPrepFIdeal.nD Cert.KernelPrepFIdeal.τ).loc Cert.KernelPrepFIdeal.main_arg0)
          ∧ r.2.mem ((c.tc : Thread Cert.KernelPrepFIdeal.nD Cert.KernelPrepFIdeal.τ).loc Cert.KernelPrepFIdeal.main_arg1) = m ((c.tc : Thread Cert.KernelPrepFIdeal.nD Cert.KernelPrepFIdeal.τ).loc Cert.KernelPrepFIdeal.main_arg1))
      ∧ θ_run (Cert.ReferencePrepFIdeal.defs (F := Ideal)) (onTc (τ := Cert.ReferencePrepFIdeal.τ) (Cert.ReferencePrepFIdeal.main (F := Ideal))) ⟨m', fun _ => 0, g'⟩ (fun r => ∀ c : Dev Cert.ReferencePrepFIdeal.nD,
          r.2.mem ((c.tc : Thread Cert.ReferencePrepFIdeal.nD Cert.ReferencePrepFIdeal.τ).loc Cert.ReferencePrepFIdeal.main_v100) = v0 c
          ∧ r.2.mem ((c.tc : Thread Cert.ReferencePrepFIdeal.nD Cert.ReferencePrepFIdeal.τ).loc Cert.ReferencePrepFIdeal.main_arg0) = m' ((c.tc : Thread Cert.ReferencePrepFIdeal.nD Cert.ReferencePrepFIdeal.τ).loc Cert.ReferencePrepFIdeal.main_arg0)
          ∧ r.2.mem ((c.tc : Thread Cert.ReferencePrepFIdeal.nD Cert.ReferencePrepFIdeal.τ).loc Cert.ReferencePrepFIdeal.main_arg1) = m' ((c.tc : Thread Cert.ReferencePrepFIdeal.nD Cert.ReferencePrepFIdeal.τ).loc Cert.ReferencePrepFIdeal.main_arg1))

def preserves_KernelQF_KernelQFIdeal : Prop :=
  True

def algebraic_KernelQFIdeal_ReferenceQFIdeal [hKernelQFIdeal : Cert.KernelQFIdeal.Facts] [hReferenceQFIdeal : Cert.ReferenceQFIdeal.Facts] : Prop :=
  ∀ (m : (ℓ : Loc Cert.KernelQFIdeal.nD Cert.KernelQFIdeal.τ Cert.KernelQFIdeal.sig) → Buf (Elt Ideal) ℓ) (g : Dev Cert.KernelQFIdeal.nD → PrngReg)
    (m' : (ℓ : Loc Cert.ReferenceQFIdeal.nD Cert.ReferenceQFIdeal.τ Cert.ReferenceQFIdeal.sig) → Buf (Elt Ideal) ℓ) (g' : Dev Cert.ReferenceQFIdeal.nD → PrngReg), Pre_KernelQFIdeal m →
    (∀ c : Dev Cert.KernelQFIdeal.nD,
      m' ((c.tc : Thread Cert.ReferenceQFIdeal.nD Cert.ReferenceQFIdeal.τ).loc Cert.ReferenceQFIdeal.main_arg0) = m ((c.tc : Thread Cert.KernelQFIdeal.nD Cert.KernelQFIdeal.τ).loc Cert.KernelQFIdeal.main_arg0)
      ∧ m' ((c.tc : Thread Cert.ReferenceQFIdeal.nD Cert.ReferenceQFIdeal.τ).loc Cert.ReferenceQFIdeal.main_arg1) = m ((c.tc : Thread Cert.KernelQFIdeal.nD Cert.KernelQFIdeal.τ).loc Cert.KernelQFIdeal.main_arg1)
      ∧ m' ((c.tc : Thread Cert.ReferenceQFIdeal.nD Cert.ReferenceQFIdeal.τ).loc Cert.ReferenceQFIdeal.main_arg2) = m ((c.tc : Thread Cert.KernelQFIdeal.nD Cert.KernelQFIdeal.τ).loc Cert.KernelQFIdeal.main_arg2)
      ∧ m' ((c.tc : Thread Cert.ReferenceQFIdeal.nD Cert.ReferenceQFIdeal.τ).loc Cert.ReferenceQFIdeal.main_arg3) = m ((c.tc : Thread Cert.KernelQFIdeal.nD Cert.KernelQFIdeal.τ).loc Cert.KernelQFIdeal.main_arg3)) →
    ∃ (v0 : (c : Dev Cert.KernelQFIdeal.nD) → Buf (Elt Ideal) ((c.tc : Thread Cert.KernelQFIdeal.nD Cert.KernelQFIdeal.τ).loc Cert.KernelQFIdeal.main_v18)),
      θ_run (Cert.KernelQFIdeal.defs (F := Ideal)) (onTc (τ := Cert.KernelQFIdeal.τ) (Cert.KernelQFIdeal.main (F := Ideal))) ⟨m, fun _ => 0, g⟩ (fun r => ∀ c : Dev Cert.KernelQFIdeal.nD,
          r.2.mem ((c.tc : Thread Cert.KernelQFIdeal.nD Cert.KernelQFIdeal.τ).loc Cert.KernelQFIdeal.main_v18) = v0 c
          ∧ r.2.mem ((c.tc : Thread Cert.KernelQFIdeal.nD Cert.KernelQFIdeal.τ).loc Cert.KernelQFIdeal.main_arg0) = m ((c.tc : Thread Cert.KernelQFIdeal.nD Cert.KernelQFIdeal.τ).loc Cert.KernelQFIdeal.main_arg0)
          ∧ r.2.mem ((c.tc : Thread Cert.KernelQFIdeal.nD Cert.KernelQFIdeal.τ).loc Cert.KernelQFIdeal.main_arg1) = m ((c.tc : Thread Cert.KernelQFIdeal.nD Cert.KernelQFIdeal.τ).loc Cert.KernelQFIdeal.main_arg1)
          ∧ r.2.mem ((c.tc : Thread Cert.KernelQFIdeal.nD Cert.KernelQFIdeal.τ).loc Cert.KernelQFIdeal.main_arg2) = m ((c.tc : Thread Cert.KernelQFIdeal.nD Cert.KernelQFIdeal.τ).loc Cert.KernelQFIdeal.main_arg2)
          ∧ r.2.mem ((c.tc : Thread Cert.KernelQFIdeal.nD Cert.KernelQFIdeal.τ).loc Cert.KernelQFIdeal.main_arg3) = m ((c.tc : Thread Cert.KernelQFIdeal.nD Cert.KernelQFIdeal.τ).loc Cert.KernelQFIdeal.main_arg3))
      ∧ θ_run (Cert.ReferenceQFIdeal.defs (F := Ideal)) (onTc (τ := Cert.ReferenceQFIdeal.τ) (Cert.ReferenceQFIdeal.main (F := Ideal))) ⟨m', fun _ => 0, g'⟩ (fun r => ∀ c : Dev Cert.ReferenceQFIdeal.nD,
          r.2.mem ((c.tc : Thread Cert.ReferenceQFIdeal.nD Cert.ReferenceQFIdeal.τ).loc Cert.ReferenceQFIdeal.main_v35) = v0 c
          ∧ r.2.mem ((c.tc : Thread Cert.ReferenceQFIdeal.nD Cert.ReferenceQFIdeal.τ).loc Cert.ReferenceQFIdeal.main_arg0) = m' ((c.tc : Thread Cert.ReferenceQFIdeal.nD Cert.ReferenceQFIdeal.τ).loc Cert.ReferenceQFIdeal.main_arg0)
          ∧ r.2.mem ((c.tc : Thread Cert.ReferenceQFIdeal.nD Cert.ReferenceQFIdeal.τ).loc Cert.ReferenceQFIdeal.main_arg1) = m' ((c.tc : Thread Cert.ReferenceQFIdeal.nD Cert.ReferenceQFIdeal.τ).loc Cert.ReferenceQFIdeal.main_arg1)
          ∧ r.2.mem ((c.tc : Thread Cert.ReferenceQFIdeal.nD Cert.ReferenceQFIdeal.τ).loc Cert.ReferenceQFIdeal.main_arg2) = m' ((c.tc : Thread Cert.ReferenceQFIdeal.nD Cert.ReferenceQFIdeal.τ).loc Cert.ReferenceQFIdeal.main_arg2)
          ∧ r.2.mem ((c.tc : Thread Cert.ReferenceQFIdeal.nD Cert.ReferenceQFIdeal.τ).loc Cert.ReferenceQFIdeal.main_arg3) = m' ((c.tc : Thread Cert.ReferenceQFIdeal.nD Cert.ReferenceQFIdeal.τ).loc Cert.ReferenceQFIdeal.main_arg3))

def preserves_KernelKF_KernelKFIdeal : Prop :=
  True

def algebraic_KernelKFIdeal_ReferenceKFIdeal [hKernelKFIdeal : Cert.KernelKFIdeal.Facts] [hReferenceKFIdeal : Cert.ReferenceKFIdeal.Facts] : Prop :=
  ∀ (m : (ℓ : Loc Cert.KernelKFIdeal.nD Cert.KernelKFIdeal.τ Cert.KernelKFIdeal.sig) → Buf (Elt Ideal) ℓ) (g : Dev Cert.KernelKFIdeal.nD → PrngReg)
    (m' : (ℓ : Loc Cert.ReferenceKFIdeal.nD Cert.ReferenceKFIdeal.τ Cert.ReferenceKFIdeal.sig) → Buf (Elt Ideal) ℓ) (g' : Dev Cert.ReferenceKFIdeal.nD → PrngReg), Pre_KernelKFIdeal m →
    (∀ c : Dev Cert.KernelKFIdeal.nD,
      m' ((c.tc : Thread Cert.ReferenceKFIdeal.nD Cert.ReferenceKFIdeal.τ).loc Cert.ReferenceKFIdeal.main_arg0) = m ((c.tc : Thread Cert.KernelKFIdeal.nD Cert.KernelKFIdeal.τ).loc Cert.KernelKFIdeal.main_arg0)
      ∧ m' ((c.tc : Thread Cert.ReferenceKFIdeal.nD Cert.ReferenceKFIdeal.τ).loc Cert.ReferenceKFIdeal.main_arg1) = m ((c.tc : Thread Cert.KernelKFIdeal.nD Cert.KernelKFIdeal.τ).loc Cert.KernelKFIdeal.main_arg1)
      ∧ m' ((c.tc : Thread Cert.ReferenceKFIdeal.nD Cert.ReferenceKFIdeal.τ).loc Cert.ReferenceKFIdeal.main_arg2) = m ((c.tc : Thread Cert.KernelKFIdeal.nD Cert.KernelKFIdeal.τ).loc Cert.KernelKFIdeal.main_arg2)
      ∧ m' ((c.tc : Thread Cert.ReferenceKFIdeal.nD Cert.ReferenceKFIdeal.τ).loc Cert.ReferenceKFIdeal.main_arg3) = m ((c.tc : Thread Cert.KernelKFIdeal.nD Cert.KernelKFIdeal.τ).loc Cert.KernelKFIdeal.main_arg3)) →
    ∃ (v0 : (c : Dev Cert.KernelKFIdeal.nD) → Buf (Elt Ideal) ((c.tc : Thread Cert.KernelKFIdeal.nD Cert.KernelKFIdeal.τ).loc Cert.KernelKFIdeal.main_v22)),
      θ_run (Cert.KernelKFIdeal.defs (F := Ideal)) (onTc (τ := Cert.KernelKFIdeal.τ) (Cert.KernelKFIdeal.main (F := Ideal))) ⟨m, fun _ => 0, g⟩ (fun r => ∀ c : Dev Cert.KernelKFIdeal.nD,
          r.2.mem ((c.tc : Thread Cert.KernelKFIdeal.nD Cert.KernelKFIdeal.τ).loc Cert.KernelKFIdeal.main_v22) = v0 c
          ∧ r.2.mem ((c.tc : Thread Cert.KernelKFIdeal.nD Cert.KernelKFIdeal.τ).loc Cert.KernelKFIdeal.main_arg0) = m ((c.tc : Thread Cert.KernelKFIdeal.nD Cert.KernelKFIdeal.τ).loc Cert.KernelKFIdeal.main_arg0)
          ∧ r.2.mem ((c.tc : Thread Cert.KernelKFIdeal.nD Cert.KernelKFIdeal.τ).loc Cert.KernelKFIdeal.main_arg1) = m ((c.tc : Thread Cert.KernelKFIdeal.nD Cert.KernelKFIdeal.τ).loc Cert.KernelKFIdeal.main_arg1)
          ∧ r.2.mem ((c.tc : Thread Cert.KernelKFIdeal.nD Cert.KernelKFIdeal.τ).loc Cert.KernelKFIdeal.main_arg2) = m ((c.tc : Thread Cert.KernelKFIdeal.nD Cert.KernelKFIdeal.τ).loc Cert.KernelKFIdeal.main_arg2)
          ∧ r.2.mem ((c.tc : Thread Cert.KernelKFIdeal.nD Cert.KernelKFIdeal.τ).loc Cert.KernelKFIdeal.main_arg3) = m ((c.tc : Thread Cert.KernelKFIdeal.nD Cert.KernelKFIdeal.τ).loc Cert.KernelKFIdeal.main_arg3))
      ∧ θ_run (Cert.ReferenceKFIdeal.defs (F := Ideal)) (onTc (τ := Cert.ReferenceKFIdeal.τ) (Cert.ReferenceKFIdeal.main (F := Ideal))) ⟨m', fun _ => 0, g'⟩ (fun r => ∀ c : Dev Cert.ReferenceKFIdeal.nD,
          r.2.mem ((c.tc : Thread Cert.ReferenceKFIdeal.nD Cert.ReferenceKFIdeal.τ).loc Cert.ReferenceKFIdeal.main_v52) = v0 c
          ∧ r.2.mem ((c.tc : Thread Cert.ReferenceKFIdeal.nD Cert.ReferenceKFIdeal.τ).loc Cert.ReferenceKFIdeal.main_arg0) = m' ((c.tc : Thread Cert.ReferenceKFIdeal.nD Cert.ReferenceKFIdeal.τ).loc Cert.ReferenceKFIdeal.main_arg0)
          ∧ r.2.mem ((c.tc : Thread Cert.ReferenceKFIdeal.nD Cert.ReferenceKFIdeal.τ).loc Cert.ReferenceKFIdeal.main_arg1) = m' ((c.tc : Thread Cert.ReferenceKFIdeal.nD Cert.ReferenceKFIdeal.τ).loc Cert.ReferenceKFIdeal.main_arg1)
          ∧ r.2.mem ((c.tc : Thread Cert.ReferenceKFIdeal.nD Cert.ReferenceKFIdeal.τ).loc Cert.ReferenceKFIdeal.main_arg2) = m' ((c.tc : Thread Cert.ReferenceKFIdeal.nD Cert.ReferenceKFIdeal.τ).loc Cert.ReferenceKFIdeal.main_arg2)
          ∧ r.2.mem ((c.tc : Thread Cert.ReferenceKFIdeal.nD Cert.ReferenceKFIdeal.τ).loc Cert.ReferenceKFIdeal.main_arg3) = m' ((c.tc : Thread Cert.ReferenceKFIdeal.nD Cert.ReferenceKFIdeal.τ).loc Cert.ReferenceKFIdeal.main_arg3))

def preserves_KernelInsF_KernelInsFIdeal : Prop :=
  True

def algebraic_KernelInsFIdeal_ReferenceInsFIdeal [hKernelInsFIdeal : Cert.KernelInsFIdeal.Facts] [hReferenceInsFIdeal : Cert.ReferenceInsFIdeal.Facts] : Prop :=
  ∀ (m : (ℓ : Loc Cert.KernelInsFIdeal.nD Cert.KernelInsFIdeal.τ Cert.KernelInsFIdeal.sig) → Buf (Elt Ideal) ℓ) (g : Dev Cert.KernelInsFIdeal.nD → PrngReg)
    (m' : (ℓ : Loc Cert.ReferenceInsFIdeal.nD Cert.ReferenceInsFIdeal.τ Cert.ReferenceInsFIdeal.sig) → Buf (Elt Ideal) ℓ) (g' : Dev Cert.ReferenceInsFIdeal.nD → PrngReg), Pre_KernelInsFIdeal m →
    (∀ c : Dev Cert.KernelInsFIdeal.nD,
      m' ((c.tc : Thread Cert.ReferenceInsFIdeal.nD Cert.ReferenceInsFIdeal.τ).loc Cert.ReferenceInsFIdeal.main_arg0) = m ((c.tc : Thread Cert.KernelInsFIdeal.nD Cert.KernelInsFIdeal.τ).loc Cert.KernelInsFIdeal.main_arg0)
      ∧ m' ((c.tc : Thread Cert.ReferenceInsFIdeal.nD Cert.ReferenceInsFIdeal.τ).loc Cert.ReferenceInsFIdeal.main_arg1) = m ((c.tc : Thread Cert.KernelInsFIdeal.nD Cert.KernelInsFIdeal.τ).loc Cert.KernelInsFIdeal.main_arg1)) →
    ∃ (v0 : (c : Dev Cert.KernelInsFIdeal.nD) → Buf (Elt Ideal) ((c.tc : Thread Cert.KernelInsFIdeal.nD Cert.KernelInsFIdeal.τ).loc Cert.KernelInsFIdeal.main_v2)),
      θ_run (Cert.KernelInsFIdeal.defs (F := Ideal)) (onTc (τ := Cert.KernelInsFIdeal.τ) (Cert.KernelInsFIdeal.main (F := Ideal))) ⟨m, fun _ => 0, g⟩ (fun r => ∀ c : Dev Cert.KernelInsFIdeal.nD,
          r.2.mem ((c.tc : Thread Cert.KernelInsFIdeal.nD Cert.KernelInsFIdeal.τ).loc Cert.KernelInsFIdeal.main_v2) = v0 c
          ∧ r.2.mem ((c.tc : Thread Cert.KernelInsFIdeal.nD Cert.KernelInsFIdeal.τ).loc Cert.KernelInsFIdeal.main_arg0) = m ((c.tc : Thread Cert.KernelInsFIdeal.nD Cert.KernelInsFIdeal.τ).loc Cert.KernelInsFIdeal.main_arg0)
          ∧ r.2.mem ((c.tc : Thread Cert.KernelInsFIdeal.nD Cert.KernelInsFIdeal.τ).loc Cert.KernelInsFIdeal.main_arg1) = m ((c.tc : Thread Cert.KernelInsFIdeal.nD Cert.KernelInsFIdeal.τ).loc Cert.KernelInsFIdeal.main_arg1))
      ∧ θ_run (Cert.ReferenceInsFIdeal.defs (F := Ideal)) (onTc (τ := Cert.ReferenceInsFIdeal.τ) (Cert.ReferenceInsFIdeal.main (F := Ideal))) ⟨m', fun _ => 0, g'⟩ (fun r => ∀ c : Dev Cert.ReferenceInsFIdeal.nD,
          r.2.mem ((c.tc : Thread Cert.ReferenceInsFIdeal.nD Cert.ReferenceInsFIdeal.τ).loc Cert.ReferenceInsFIdeal.main_v0) = v0 c
          ∧ r.2.mem ((c.tc : Thread Cert.ReferenceInsFIdeal.nD Cert.ReferenceInsFIdeal.τ).loc Cert.ReferenceInsFIdeal.main_arg0) = m' ((c.tc : Thread Cert.ReferenceInsFIdeal.nD Cert.ReferenceInsFIdeal.τ).loc Cert.ReferenceInsFIdeal.main_arg0)
          ∧ r.2.mem ((c.tc : Thread Cert.ReferenceInsFIdeal.nD Cert.ReferenceInsFIdeal.τ).loc Cert.ReferenceInsFIdeal.main_arg1) = m' ((c.tc : Thread Cert.ReferenceInsFIdeal.nD Cert.ReferenceInsFIdeal.τ).loc Cert.ReferenceInsFIdeal.main_arg1))

def preserves_KernelInsDa_KernelInsDaIdeal : Prop :=
  True

def algebraic_KernelInsDaIdeal_ReferenceInsDaIdeal [hKernelInsDaIdeal : Cert.KernelInsDaIdeal.Facts] [hReferenceInsDaIdeal : Cert.ReferenceInsDaIdeal.Facts] : Prop :=
  ∀ (m : (ℓ : Loc Cert.KernelInsDaIdeal.nD Cert.KernelInsDaIdeal.τ Cert.KernelInsDaIdeal.sig) → Buf (Elt Ideal) ℓ) (g : Dev Cert.KernelInsDaIdeal.nD → PrngReg)
    (m' : (ℓ : Loc Cert.ReferenceInsDaIdeal.nD Cert.ReferenceInsDaIdeal.τ Cert.ReferenceInsDaIdeal.sig) → Buf (Elt Ideal) ℓ) (g' : Dev Cert.ReferenceInsDaIdeal.nD → PrngReg), Pre_KernelInsDaIdeal m →
    (∀ c : Dev Cert.KernelInsDaIdeal.nD,
      m' ((c.tc : Thread Cert.ReferenceInsDaIdeal.nD Cert.ReferenceInsDaIdeal.τ).loc Cert.ReferenceInsDaIdeal.main_arg0) = m ((c.tc : Thread Cert.KernelInsDaIdeal.nD Cert.KernelInsDaIdeal.τ).loc Cert.KernelInsDaIdeal.main_arg0)
      ∧ m' ((c.tc : Thread Cert.ReferenceInsDaIdeal.nD Cert.ReferenceInsDaIdeal.τ).loc Cert.ReferenceInsDaIdeal.main_arg1) = m ((c.tc : Thread Cert.KernelInsDaIdeal.nD Cert.KernelInsDaIdeal.τ).loc Cert.KernelInsDaIdeal.main_arg1)) →
    ∃ (v0 : (c : Dev Cert.KernelInsDaIdeal.nD) → Buf (Elt Ideal) ((c.tc : Thread Cert.KernelInsDaIdeal.nD Cert.KernelInsDaIdeal.τ).loc Cert.KernelInsDaIdeal.main_v2)),
      θ_run (Cert.KernelInsDaIdeal.defs (F := Ideal)) (onTc (τ := Cert.KernelInsDaIdeal.τ) (Cert.KernelInsDaIdeal.main (F := Ideal))) ⟨m, fun _ => 0, g⟩ (fun r => ∀ c : Dev Cert.KernelInsDaIdeal.nD,
          r.2.mem ((c.tc : Thread Cert.KernelInsDaIdeal.nD Cert.KernelInsDaIdeal.τ).loc Cert.KernelInsDaIdeal.main_v2) = v0 c
          ∧ r.2.mem ((c.tc : Thread Cert.KernelInsDaIdeal.nD Cert.KernelInsDaIdeal.τ).loc Cert.KernelInsDaIdeal.main_arg0) = m ((c.tc : Thread Cert.KernelInsDaIdeal.nD Cert.KernelInsDaIdeal.τ).loc Cert.KernelInsDaIdeal.main_arg0)
          ∧ r.2.mem ((c.tc : Thread Cert.KernelInsDaIdeal.nD Cert.KernelInsDaIdeal.τ).loc Cert.KernelInsDaIdeal.main_arg1) = m ((c.tc : Thread Cert.KernelInsDaIdeal.nD Cert.KernelInsDaIdeal.τ).loc Cert.KernelInsDaIdeal.main_arg1))
      ∧ θ_run (Cert.ReferenceInsDaIdeal.defs (F := Ideal)) (onTc (τ := Cert.ReferenceInsDaIdeal.τ) (Cert.ReferenceInsDaIdeal.main (F := Ideal))) ⟨m', fun _ => 0, g'⟩ (fun r => ∀ c : Dev Cert.ReferenceInsDaIdeal.nD,
          r.2.mem ((c.tc : Thread Cert.ReferenceInsDaIdeal.nD Cert.ReferenceInsDaIdeal.τ).loc Cert.ReferenceInsDaIdeal.main_v2) = v0 c
          ∧ r.2.mem ((c.tc : Thread Cert.ReferenceInsDaIdeal.nD Cert.ReferenceInsDaIdeal.τ).loc Cert.ReferenceInsDaIdeal.main_arg0) = m' ((c.tc : Thread Cert.ReferenceInsDaIdeal.nD Cert.ReferenceInsDaIdeal.τ).loc Cert.ReferenceInsDaIdeal.main_arg0)
          ∧ r.2.mem ((c.tc : Thread Cert.ReferenceInsDaIdeal.nD Cert.ReferenceInsDaIdeal.τ).loc Cert.ReferenceInsDaIdeal.main_arg1) = m' ((c.tc : Thread Cert.ReferenceInsDaIdeal.nD Cert.ReferenceInsDaIdeal.τ).loc Cert.ReferenceInsDaIdeal.main_arg1))

def preserves_KernelInsDw_KernelInsDwIdeal : Prop :=
  True

def algebraic_KernelInsDwIdeal_ReferenceInsDwIdeal [hKernelInsDwIdeal : Cert.KernelInsDwIdeal.Facts] [hReferenceInsDwIdeal : Cert.ReferenceInsDwIdeal.Facts] : Prop :=
  ∀ (m : (ℓ : Loc Cert.KernelInsDwIdeal.nD Cert.KernelInsDwIdeal.τ Cert.KernelInsDwIdeal.sig) → Buf (Elt Ideal) ℓ) (g : Dev Cert.KernelInsDwIdeal.nD → PrngReg)
    (m' : (ℓ : Loc Cert.ReferenceInsDwIdeal.nD Cert.ReferenceInsDwIdeal.τ Cert.ReferenceInsDwIdeal.sig) → Buf (Elt Ideal) ℓ) (g' : Dev Cert.ReferenceInsDwIdeal.nD → PrngReg), Pre_KernelInsDwIdeal m →
    (∀ c : Dev Cert.KernelInsDwIdeal.nD,
      m' ((c.tc : Thread Cert.ReferenceInsDwIdeal.nD Cert.ReferenceInsDwIdeal.τ).loc Cert.ReferenceInsDwIdeal.main_arg0) = m ((c.tc : Thread Cert.KernelInsDwIdeal.nD Cert.KernelInsDwIdeal.τ).loc Cert.KernelInsDwIdeal.main_arg0)
      ∧ m' ((c.tc : Thread Cert.ReferenceInsDwIdeal.nD Cert.ReferenceInsDwIdeal.τ).loc Cert.ReferenceInsDwIdeal.main_arg1) = m ((c.tc : Thread Cert.KernelInsDwIdeal.nD Cert.KernelInsDwIdeal.τ).loc Cert.KernelInsDwIdeal.main_arg1)) →
    ∃ (v0 : (c : Dev Cert.KernelInsDwIdeal.nD) → Buf (Elt Ideal) ((c.tc : Thread Cert.KernelInsDwIdeal.nD Cert.KernelInsDwIdeal.τ).loc Cert.KernelInsDwIdeal.main_v0)),
      θ_run (Cert.KernelInsDwIdeal.defs (F := Ideal)) (onTc (τ := Cert.KernelInsDwIdeal.τ) (Cert.KernelInsDwIdeal.main (F := Ideal))) ⟨m, fun _ => 0, g⟩ (fun r => ∀ c : Dev Cert.KernelInsDwIdeal.nD,
          r.2.mem ((c.tc : Thread Cert.KernelInsDwIdeal.nD Cert.KernelInsDwIdeal.τ).loc Cert.KernelInsDwIdeal.main_v0) = v0 c
          ∧ r.2.mem ((c.tc : Thread Cert.KernelInsDwIdeal.nD Cert.KernelInsDwIdeal.τ).loc Cert.KernelInsDwIdeal.main_arg0) = m ((c.tc : Thread Cert.KernelInsDwIdeal.nD Cert.KernelInsDwIdeal.τ).loc Cert.KernelInsDwIdeal.main_arg0)
          ∧ r.2.mem ((c.tc : Thread Cert.KernelInsDwIdeal.nD Cert.KernelInsDwIdeal.τ).loc Cert.KernelInsDwIdeal.main_arg1) = m ((c.tc : Thread Cert.KernelInsDwIdeal.nD Cert.KernelInsDwIdeal.τ).loc Cert.KernelInsDwIdeal.main_arg1))
      ∧ θ_run (Cert.ReferenceInsDwIdeal.defs (F := Ideal)) (onTc (τ := Cert.ReferenceInsDwIdeal.τ) (Cert.ReferenceInsDwIdeal.main (F := Ideal))) ⟨m', fun _ => 0, g'⟩ (fun r => ∀ c : Dev Cert.ReferenceInsDwIdeal.nD,
          r.2.mem ((c.tc : Thread Cert.ReferenceInsDwIdeal.nD Cert.ReferenceInsDwIdeal.τ).loc Cert.ReferenceInsDwIdeal.main_v4) = v0 c
          ∧ r.2.mem ((c.tc : Thread Cert.ReferenceInsDwIdeal.nD Cert.ReferenceInsDwIdeal.τ).loc Cert.ReferenceInsDwIdeal.main_arg0) = m' ((c.tc : Thread Cert.ReferenceInsDwIdeal.nD Cert.ReferenceInsDwIdeal.τ).loc Cert.ReferenceInsDwIdeal.main_arg0)
          ∧ r.2.mem ((c.tc : Thread Cert.ReferenceInsDwIdeal.nD Cert.ReferenceInsDwIdeal.τ).loc Cert.ReferenceInsDwIdeal.main_arg1) = m' ((c.tc : Thread Cert.ReferenceInsDwIdeal.nD Cert.ReferenceInsDwIdeal.τ).loc Cert.ReferenceInsDwIdeal.main_arg1))

def preserves_KernelModF_KernelModFIdeal : Prop :=
  True

def algebraic_KernelModFIdeal_ReferenceModFIdeal [hKernelModFIdeal : Cert.KernelModFIdeal.Facts] [hReferenceModFIdeal : Cert.ReferenceModFIdeal.Facts] : Prop :=
  ∀ (m : (ℓ : Loc Cert.KernelModFIdeal.nD Cert.KernelModFIdeal.τ Cert.KernelModFIdeal.sig) → Buf (Elt Ideal) ℓ) (g : Dev Cert.KernelModFIdeal.nD → PrngReg)
    (m' : (ℓ : Loc Cert.ReferenceModFIdeal.nD Cert.ReferenceModFIdeal.τ Cert.ReferenceModFIdeal.sig) → Buf (Elt Ideal) ℓ) (g' : Dev Cert.ReferenceModFIdeal.nD → PrngReg), Pre_KernelModFIdeal m →
    (∀ c : Dev Cert.KernelModFIdeal.nD,
      m' ((c.tc : Thread Cert.ReferenceModFIdeal.nD Cert.ReferenceModFIdeal.τ).loc Cert.ReferenceModFIdeal.main_arg0) = m ((c.tc : Thread Cert.KernelModFIdeal.nD Cert.KernelModFIdeal.τ).loc Cert.KernelModFIdeal.main_arg0)
      ∧ m' ((c.tc : Thread Cert.ReferenceModFIdeal.nD Cert.ReferenceModFIdeal.τ).loc Cert.ReferenceModFIdeal.main_arg1) = m ((c.tc : Thread Cert.KernelModFIdeal.nD Cert.KernelModFIdeal.τ).loc Cert.KernelModFIdeal.main_arg1)) →
    ∃ (v0 : (c : Dev Cert.KernelModFIdeal.nD) → Buf (Elt Ideal) ((c.tc : Thread Cert.KernelModFIdeal.nD Cert.KernelModFIdeal.τ).loc Cert.KernelModFIdeal.main_v3)),
      θ_run (Cert.KernelModFIdeal.defs (F := Ideal)) (onTc (τ := Cert.KernelModFIdeal.τ) (Cert.KernelModFIdeal.main (F := Ideal))) ⟨m, fun _ => 0, g⟩ (fun r => ∀ c : Dev Cert.KernelModFIdeal.nD,
          r.2.mem ((c.tc : Thread Cert.KernelModFIdeal.nD Cert.KernelModFIdeal.τ).loc Cert.KernelModFIdeal.main_v3) = v0 c
          ∧ r.2.mem ((c.tc : Thread Cert.KernelModFIdeal.nD Cert.KernelModFIdeal.τ).loc Cert.KernelModFIdeal.main_arg0) = m ((c.tc : Thread Cert.KernelModFIdeal.nD Cert.KernelModFIdeal.τ).loc Cert.KernelModFIdeal.main_arg0)
          ∧ r.2.mem ((c.tc : Thread Cert.KernelModFIdeal.nD Cert.KernelModFIdeal.τ).loc Cert.KernelModFIdeal.main_arg1) = m ((c.tc : Thread Cert.KernelModFIdeal.nD Cert.KernelModFIdeal.τ).loc Cert.KernelModFIdeal.main_arg1))
      ∧ θ_run (Cert.ReferenceModFIdeal.defs (F := Ideal)) (onTc (τ := Cert.ReferenceModFIdeal.τ) (Cert.ReferenceModFIdeal.main (F := Ideal))) ⟨m', fun _ => 0, g'⟩ (fun r => ∀ c : Dev Cert.ReferenceModFIdeal.nD,
          r.2.mem ((c.tc : Thread Cert.ReferenceModFIdeal.nD Cert.ReferenceModFIdeal.τ).loc Cert.ReferenceModFIdeal.main_v0) = v0 c
          ∧ r.2.mem ((c.tc : Thread Cert.ReferenceModFIdeal.nD Cert.ReferenceModFIdeal.τ).loc Cert.ReferenceModFIdeal.main_arg0) = m' ((c.tc : Thread Cert.ReferenceModFIdeal.nD Cert.ReferenceModFIdeal.τ).loc Cert.ReferenceModFIdeal.main_arg0)
          ∧ r.2.mem ((c.tc : Thread Cert.ReferenceModFIdeal.nD Cert.ReferenceModFIdeal.τ).loc Cert.ReferenceModFIdeal.main_arg1) = m' ((c.tc : Thread Cert.ReferenceModFIdeal.nD Cert.ReferenceModFIdeal.τ).loc Cert.ReferenceModFIdeal.main_arg1))

def preserves_KernelModDa_KernelModDaIdeal : Prop :=
  True

def algebraic_KernelModDaIdeal_ReferenceModDaIdeal [hKernelModDaIdeal : Cert.KernelModDaIdeal.Facts] [hReferenceModDaIdeal : Cert.ReferenceModDaIdeal.Facts] : Prop :=
  ∀ (m : (ℓ : Loc Cert.KernelModDaIdeal.nD Cert.KernelModDaIdeal.τ Cert.KernelModDaIdeal.sig) → Buf (Elt Ideal) ℓ) (g : Dev Cert.KernelModDaIdeal.nD → PrngReg)
    (m' : (ℓ : Loc Cert.ReferenceModDaIdeal.nD Cert.ReferenceModDaIdeal.τ Cert.ReferenceModDaIdeal.sig) → Buf (Elt Ideal) ℓ) (g' : Dev Cert.ReferenceModDaIdeal.nD → PrngReg), Pre_KernelModDaIdeal m →
    (∀ c : Dev Cert.KernelModDaIdeal.nD,
      m' ((c.tc : Thread Cert.ReferenceModDaIdeal.nD Cert.ReferenceModDaIdeal.τ).loc Cert.ReferenceModDaIdeal.main_arg0) = m ((c.tc : Thread Cert.KernelModDaIdeal.nD Cert.KernelModDaIdeal.τ).loc Cert.KernelModDaIdeal.main_arg0)
      ∧ m' ((c.tc : Thread Cert.ReferenceModDaIdeal.nD Cert.ReferenceModDaIdeal.τ).loc Cert.ReferenceModDaIdeal.main_arg1) = m ((c.tc : Thread Cert.KernelModDaIdeal.nD Cert.KernelModDaIdeal.τ).loc Cert.KernelModDaIdeal.main_arg1)) →
    ∃ (v0 : (c : Dev Cert.KernelModDaIdeal.nD) → Buf (Elt Ideal) ((c.tc : Thread Cert.KernelModDaIdeal.nD Cert.KernelModDaIdeal.τ).loc Cert.KernelModDaIdeal.main_v3)),
      θ_run (Cert.KernelModDaIdeal.defs (F := Ideal)) (onTc (τ := Cert.KernelModDaIdeal.τ) (Cert.KernelModDaIdeal.main (F := Ideal))) ⟨m, fun _ => 0, g⟩ (fun r => ∀ c : Dev Cert.KernelModDaIdeal.nD,
          r.2.mem ((c.tc : Thread Cert.KernelModDaIdeal.nD Cert.KernelModDaIdeal.τ).loc Cert.KernelModDaIdeal.main_v3) = v0 c
          ∧ r.2.mem ((c.tc : Thread Cert.KernelModDaIdeal.nD Cert.KernelModDaIdeal.τ).loc Cert.KernelModDaIdeal.main_arg0) = m ((c.tc : Thread Cert.KernelModDaIdeal.nD Cert.KernelModDaIdeal.τ).loc Cert.KernelModDaIdeal.main_arg0)
          ∧ r.2.mem ((c.tc : Thread Cert.KernelModDaIdeal.nD Cert.KernelModDaIdeal.τ).loc Cert.KernelModDaIdeal.main_arg1) = m ((c.tc : Thread Cert.KernelModDaIdeal.nD Cert.KernelModDaIdeal.τ).loc Cert.KernelModDaIdeal.main_arg1))
      ∧ θ_run (Cert.ReferenceModDaIdeal.defs (F := Ideal)) (onTc (τ := Cert.ReferenceModDaIdeal.τ) (Cert.ReferenceModDaIdeal.main (F := Ideal))) ⟨m', fun _ => 0, g'⟩ (fun r => ∀ c : Dev Cert.ReferenceModDaIdeal.nD,
          r.2.mem ((c.tc : Thread Cert.ReferenceModDaIdeal.nD Cert.ReferenceModDaIdeal.τ).loc Cert.ReferenceModDaIdeal.main_v2) = v0 c
          ∧ r.2.mem ((c.tc : Thread Cert.ReferenceModDaIdeal.nD Cert.ReferenceModDaIdeal.τ).loc Cert.ReferenceModDaIdeal.main_arg0) = m' ((c.tc : Thread Cert.ReferenceModDaIdeal.nD Cert.ReferenceModDaIdeal.τ).loc Cert.ReferenceModDaIdeal.main_arg0)
          ∧ r.2.mem ((c.tc : Thread Cert.ReferenceModDaIdeal.nD Cert.ReferenceModDaIdeal.τ).loc Cert.ReferenceModDaIdeal.main_arg1) = m' ((c.tc : Thread Cert.ReferenceModDaIdeal.nD Cert.ReferenceModDaIdeal.τ).loc Cert.ReferenceModDaIdeal.main_arg1))

def preserves_KernelModDw_KernelModDwIdeal : Prop :=
  True

def algebraic_KernelModDwIdeal_ReferenceModDwIdeal [hKernelModDwIdeal : Cert.KernelModDwIdeal.Facts] [hReferenceModDwIdeal : Cert.ReferenceModDwIdeal.Facts] : Prop :=
  ∀ (m : (ℓ : Loc Cert.KernelModDwIdeal.nD Cert.KernelModDwIdeal.τ Cert.KernelModDwIdeal.sig) → Buf (Elt Ideal) ℓ) (g : Dev Cert.KernelModDwIdeal.nD → PrngReg)
    (m' : (ℓ : Loc Cert.ReferenceModDwIdeal.nD Cert.ReferenceModDwIdeal.τ Cert.ReferenceModDwIdeal.sig) → Buf (Elt Ideal) ℓ) (g' : Dev Cert.ReferenceModDwIdeal.nD → PrngReg), Pre_KernelModDwIdeal m →
    (∀ c : Dev Cert.KernelModDwIdeal.nD,
      m' ((c.tc : Thread Cert.ReferenceModDwIdeal.nD Cert.ReferenceModDwIdeal.τ).loc Cert.ReferenceModDwIdeal.main_arg0) = m ((c.tc : Thread Cert.KernelModDwIdeal.nD Cert.KernelModDwIdeal.τ).loc Cert.KernelModDwIdeal.main_arg0)
      ∧ m' ((c.tc : Thread Cert.ReferenceModDwIdeal.nD Cert.ReferenceModDwIdeal.τ).loc Cert.ReferenceModDwIdeal.main_arg1) = m ((c.tc : Thread Cert.KernelModDwIdeal.nD Cert.KernelModDwIdeal.τ).loc Cert.KernelModDwIdeal.main_arg1)) →
    ∃ (v0 : (c : Dev Cert.KernelModDwIdeal.nD) → Buf (Elt Ideal) ((c.tc : Thread Cert.KernelModDwIdeal.nD Cert.KernelModDwIdeal.τ).loc Cert.KernelModDwIdeal.main_v3)),
      θ_run (Cert.KernelModDwIdeal.defs (F := Ideal)) (onTc (τ := Cert.KernelModDwIdeal.τ) (Cert.KernelModDwIdeal.main (F := Ideal))) ⟨m, fun _ => 0, g⟩ (fun r => ∀ c : Dev Cert.KernelModDwIdeal.nD,
          r.2.mem ((c.tc : Thread Cert.KernelModDwIdeal.nD Cert.KernelModDwIdeal.τ).loc Cert.KernelModDwIdeal.main_v3) = v0 c
          ∧ r.2.mem ((c.tc : Thread Cert.KernelModDwIdeal.nD Cert.KernelModDwIdeal.τ).loc Cert.KernelModDwIdeal.main_arg0) = m ((c.tc : Thread Cert.KernelModDwIdeal.nD Cert.KernelModDwIdeal.τ).loc Cert.KernelModDwIdeal.main_arg0)
          ∧ r.2.mem ((c.tc : Thread Cert.KernelModDwIdeal.nD Cert.KernelModDwIdeal.τ).loc Cert.KernelModDwIdeal.main_arg1) = m ((c.tc : Thread Cert.KernelModDwIdeal.nD Cert.KernelModDwIdeal.τ).loc Cert.KernelModDwIdeal.main_arg1))
      ∧ θ_run (Cert.ReferenceModDwIdeal.defs (F := Ideal)) (onTc (τ := Cert.ReferenceModDwIdeal.τ) (Cert.ReferenceModDwIdeal.main (F := Ideal))) ⟨m', fun _ => 0, g'⟩ (fun r => ∀ c : Dev Cert.ReferenceModDwIdeal.nD,
          r.2.mem ((c.tc : Thread Cert.ReferenceModDwIdeal.nD Cert.ReferenceModDwIdeal.τ).loc Cert.ReferenceModDwIdeal.main_v5) = v0 c
          ∧ r.2.mem ((c.tc : Thread Cert.ReferenceModDwIdeal.nD Cert.ReferenceModDwIdeal.τ).loc Cert.ReferenceModDwIdeal.main_arg0) = m' ((c.tc : Thread Cert.ReferenceModDwIdeal.nD Cert.ReferenceModDwIdeal.τ).loc Cert.ReferenceModDwIdeal.main_arg0)
          ∧ r.2.mem ((c.tc : Thread Cert.ReferenceModDwIdeal.nD Cert.ReferenceModDwIdeal.τ).loc Cert.ReferenceModDwIdeal.main_arg1) = m' ((c.tc : Thread Cert.ReferenceModDwIdeal.nD Cert.ReferenceModDwIdeal.τ).loc Cert.ReferenceModDwIdeal.main_arg1))

def preserves_KernelAdamMod_KernelAdamModIdeal : Prop :=
  True

def algebraic_KernelAdamModIdeal_ReferenceAdamModIdeal [hKernelAdamModIdeal : Cert.KernelAdamModIdeal.Facts] [hReferenceAdamModIdeal : Cert.ReferenceAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg)
    (m' : (ℓ : Loc Cert.ReferenceAdamModIdeal.nD Cert.ReferenceAdamModIdeal.τ Cert.ReferenceAdamModIdeal.sig) → Buf (Elt Ideal) ℓ) (g' : Dev Cert.ReferenceAdamModIdeal.nD → PrngReg), Pre_KernelAdamModIdeal m →
    (∀ c : Dev Cert.KernelAdamModIdeal.nD,
      m' ((c.tc : Thread Cert.ReferenceAdamModIdeal.nD Cert.ReferenceAdamModIdeal.τ).loc Cert.ReferenceAdamModIdeal.main_arg0) = m ((c.tc : Thread Cert.KernelAdamModIdeal.nD Cert.KernelAdamModIdeal.τ).loc Cert.KernelAdamModIdeal.main_arg0)
      ∧ m' ((c.tc : Thread Cert.ReferenceAdamModIdeal.nD Cert.ReferenceAdamModIdeal.τ).loc Cert.ReferenceAdamModIdeal.main_arg1) = m ((c.tc : Thread Cert.KernelAdamModIdeal.nD Cert.KernelAdamModIdeal.τ).loc Cert.KernelAdamModIdeal.main_arg1)
      ∧ m' ((c.tc : Thread Cert.ReferenceAdamModIdeal.nD Cert.ReferenceAdamModIdeal.τ).loc Cert.ReferenceAdamModIdeal.main_arg2) = m ((c.tc : Thread Cert.KernelAdamModIdeal.nD Cert.KernelAdamModIdeal.τ).loc Cert.KernelAdamModIdeal.main_arg2)
      ∧ m' ((c.tc : Thread Cert.ReferenceAdamModIdeal.nD Cert.ReferenceAdamModIdeal.τ).loc Cert.ReferenceAdamModIdeal.main_arg3) = m ((c.tc : Thread Cert.KernelAdamModIdeal.nD Cert.KernelAdamModIdeal.τ).loc Cert.KernelAdamModIdeal.main_arg3)) →
    ∃ (v0 : (c : Dev Cert.KernelAdamModIdeal.nD) → Buf (Elt Ideal) ((c.tc : Thread Cert.KernelAdamModIdeal.nD Cert.KernelAdamModIdeal.τ).loc Cert.KernelAdamModIdeal.main_v0_0)) (v1 : (c : Dev Cert.KernelAdamModIdeal.nD) → Buf (Elt Ideal) ((c.tc : Thread Cert.KernelAdamModIdeal.nD Cert.KernelAdamModIdeal.τ).loc Cert.KernelAdamModIdeal.main_v0_1)) (v2 : (c : Dev Cert.KernelAdamModIdeal.nD) → Buf (Elt Ideal) ((c.tc : Thread Cert.KernelAdamModIdeal.nD Cert.KernelAdamModIdeal.τ).loc Cert.KernelAdamModIdeal.main_v0_2)) (v3 : (c : Dev Cert.KernelAdamModIdeal.nD) → Buf (Elt Ideal) ((c.tc : Thread Cert.KernelAdamModIdeal.nD Cert.KernelAdamModIdeal.τ).loc Cert.KernelAdamModIdeal.main_v0_3)),
      θ_run (Cert.KernelAdamModIdeal.defs (F := Ideal)) (onTc (τ := Cert.KernelAdamModIdeal.τ) (Cert.KernelAdamModIdeal.main (F := Ideal))) ⟨m, fun _ => 0, g⟩ (fun r => ∀ c : Dev Cert.KernelAdamModIdeal.nD,
          r.2.mem ((c.tc : Thread Cert.KernelAdamModIdeal.nD Cert.KernelAdamModIdeal.τ).loc Cert.KernelAdamModIdeal.main_v0_0) = v0 c
          ∧ r.2.mem ((c.tc : Thread Cert.KernelAdamModIdeal.nD Cert.KernelAdamModIdeal.τ).loc Cert.KernelAdamModIdeal.main_v0_1) = v1 c
          ∧ r.2.mem ((c.tc : Thread Cert.KernelAdamModIdeal.nD Cert.KernelAdamModIdeal.τ).loc Cert.KernelAdamModIdeal.main_v0_2) = v2 c
          ∧ r.2.mem ((c.tc : Thread Cert.KernelAdamModIdeal.nD Cert.KernelAdamModIdeal.τ).loc Cert.KernelAdamModIdeal.main_v0_3) = v3 c
          ∧ r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
          ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
          ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
          ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ θ_run (Cert.ReferenceAdamModIdeal.defs (F := Ideal)) (onTc (τ := Cert.ReferenceAdamModIdeal.τ) (Cert.ReferenceAdamModIdeal.main (F := Ideal))) ⟨m', fun _ => 0, g'⟩ (fun r => ∀ c : Dev Cert.ReferenceAdamModIdeal.nD,
          r.2.mem ((c.tc : Thread Cert.ReferenceAdamModIdeal.nD Cert.ReferenceAdamModIdeal.τ).loc Cert.ReferenceAdamModIdeal.main_arg1) = v0 c
          ∧ r.2.mem ((c.tc : Thread Cert.ReferenceAdamModIdeal.nD Cert.ReferenceAdamModIdeal.τ).loc Cert.ReferenceAdamModIdeal.main_v23) = v1 c
          ∧ r.2.mem ((c.tc : Thread Cert.ReferenceAdamModIdeal.nD Cert.ReferenceAdamModIdeal.τ).loc Cert.ReferenceAdamModIdeal.main_v4) = v2 c
          ∧ r.2.mem ((c.tc : Thread Cert.ReferenceAdamModIdeal.nD Cert.ReferenceAdamModIdeal.τ).loc Cert.ReferenceAdamModIdeal.main_v10) = v3 c
          ∧ r.2.mem ((c.tc : Thread Cert.ReferenceAdamModIdeal.nD Cert.ReferenceAdamModIdeal.τ).loc Cert.ReferenceAdamModIdeal.main_arg0) = m' ((c.tc : Thread Cert.ReferenceAdamModIdeal.nD Cert.ReferenceAdamModIdeal.τ).loc Cert.ReferenceAdamModIdeal.main_arg0)
          ∧ r.2.mem ((c.tc : Thread Cert.ReferenceAdamModIdeal.nD Cert.ReferenceAdamModIdeal.τ).loc Cert.ReferenceAdamModIdeal.main_arg1) = m' ((c.tc : Thread Cert.ReferenceAdamModIdeal.nD Cert.ReferenceAdamModIdeal.τ).loc Cert.ReferenceAdamModIdeal.main_arg1)
          ∧ r.2.mem ((c.tc : Thread Cert.ReferenceAdamModIdeal.nD Cert.ReferenceAdamModIdeal.τ).loc Cert.ReferenceAdamModIdeal.main_arg2) = m' ((c.tc : Thread Cert.ReferenceAdamModIdeal.nD Cert.ReferenceAdamModIdeal.τ).loc Cert.ReferenceAdamModIdeal.main_arg2)
          ∧ r.2.mem ((c.tc : Thread Cert.ReferenceAdamModIdeal.nD Cert.ReferenceAdamModIdeal.τ).loc Cert.ReferenceAdamModIdeal.main_arg3) = m' ((c.tc : Thread Cert.ReferenceAdamModIdeal.nD Cert.ReferenceAdamModIdeal.τ).loc Cert.ReferenceAdamModIdeal.main_arg3))

def preserves_KernelAdamSq_KernelAdamSqIdeal : Prop :=
  True

def algebraic_KernelAdamSqIdeal_ReferenceAdamSqIdeal [hKernelAdamSqIdeal : Cert.KernelAdamSqIdeal.Facts] [hReferenceAdamSqIdeal : Cert.ReferenceAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg)
    (m' : (ℓ : Loc Cert.ReferenceAdamSqIdeal.nD Cert.ReferenceAdamSqIdeal.τ Cert.ReferenceAdamSqIdeal.sig) → Buf (Elt Ideal) ℓ) (g' : Dev Cert.ReferenceAdamSqIdeal.nD → PrngReg), Pre_KernelAdamSqIdeal m →
    (∀ c : Dev Cert.KernelAdamSqIdeal.nD,
      m' ((c.tc : Thread Cert.ReferenceAdamSqIdeal.nD Cert.ReferenceAdamSqIdeal.τ).loc Cert.ReferenceAdamSqIdeal.main_arg0) = m ((c.tc : Thread Cert.KernelAdamSqIdeal.nD Cert.KernelAdamSqIdeal.τ).loc Cert.KernelAdamSqIdeal.main_arg0)
      ∧ m' ((c.tc : Thread Cert.ReferenceAdamSqIdeal.nD Cert.ReferenceAdamSqIdeal.τ).loc Cert.ReferenceAdamSqIdeal.main_arg1) = m ((c.tc : Thread Cert.KernelAdamSqIdeal.nD Cert.KernelAdamSqIdeal.τ).loc Cert.KernelAdamSqIdeal.main_arg1)
      ∧ m' ((c.tc : Thread Cert.ReferenceAdamSqIdeal.nD Cert.ReferenceAdamSqIdeal.τ).loc Cert.ReferenceAdamSqIdeal.main_arg2) = m ((c.tc : Thread Cert.KernelAdamSqIdeal.nD Cert.KernelAdamSqIdeal.τ).loc Cert.KernelAdamSqIdeal.main_arg2)
      ∧ m' ((c.tc : Thread Cert.ReferenceAdamSqIdeal.nD Cert.ReferenceAdamSqIdeal.τ).loc Cert.ReferenceAdamSqIdeal.main_arg3) = m ((c.tc : Thread Cert.KernelAdamSqIdeal.nD Cert.KernelAdamSqIdeal.τ).loc Cert.KernelAdamSqIdeal.main_arg3)) →
    ∃ (v0 : (c : Dev Cert.KernelAdamSqIdeal.nD) → Buf (Elt Ideal) ((c.tc : Thread Cert.KernelAdamSqIdeal.nD Cert.KernelAdamSqIdeal.τ).loc Cert.KernelAdamSqIdeal.main_v0_0)) (v1 : (c : Dev Cert.KernelAdamSqIdeal.nD) → Buf (Elt Ideal) ((c.tc : Thread Cert.KernelAdamSqIdeal.nD Cert.KernelAdamSqIdeal.τ).loc Cert.KernelAdamSqIdeal.main_v0_1)) (v2 : (c : Dev Cert.KernelAdamSqIdeal.nD) → Buf (Elt Ideal) ((c.tc : Thread Cert.KernelAdamSqIdeal.nD Cert.KernelAdamSqIdeal.τ).loc Cert.KernelAdamSqIdeal.main_v0_2)) (v3 : (c : Dev Cert.KernelAdamSqIdeal.nD) → Buf (Elt Ideal) ((c.tc : Thread Cert.KernelAdamSqIdeal.nD Cert.KernelAdamSqIdeal.τ).loc Cert.KernelAdamSqIdeal.main_v0_3)),
      θ_run (Cert.KernelAdamSqIdeal.defs (F := Ideal)) (onTc (τ := Cert.KernelAdamSqIdeal.τ) (Cert.KernelAdamSqIdeal.main (F := Ideal))) ⟨m, fun _ => 0, g⟩ (fun r => ∀ c : Dev Cert.KernelAdamSqIdeal.nD,
          r.2.mem ((c.tc : Thread Cert.KernelAdamSqIdeal.nD Cert.KernelAdamSqIdeal.τ).loc Cert.KernelAdamSqIdeal.main_v0_0) = v0 c
          ∧ r.2.mem ((c.tc : Thread Cert.KernelAdamSqIdeal.nD Cert.KernelAdamSqIdeal.τ).loc Cert.KernelAdamSqIdeal.main_v0_1) = v1 c
          ∧ r.2.mem ((c.tc : Thread Cert.KernelAdamSqIdeal.nD Cert.KernelAdamSqIdeal.τ).loc Cert.KernelAdamSqIdeal.main_v0_2) = v2 c
          ∧ r.2.mem ((c.tc : Thread Cert.KernelAdamSqIdeal.nD Cert.KernelAdamSqIdeal.τ).loc Cert.KernelAdamSqIdeal.main_v0_3) = v3 c
          ∧ r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
          ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
          ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
          ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ θ_run (Cert.ReferenceAdamSqIdeal.defs (F := Ideal)) (onTc (τ := Cert.ReferenceAdamSqIdeal.τ) (Cert.ReferenceAdamSqIdeal.main (F := Ideal))) ⟨m', fun _ => 0, g'⟩ (fun r => ∀ c : Dev Cert.ReferenceAdamSqIdeal.nD,
          r.2.mem ((c.tc : Thread Cert.ReferenceAdamSqIdeal.nD Cert.ReferenceAdamSqIdeal.τ).loc Cert.ReferenceAdamSqIdeal.main_arg1) = v0 c
          ∧ r.2.mem ((c.tc : Thread Cert.ReferenceAdamSqIdeal.nD Cert.ReferenceAdamSqIdeal.τ).loc Cert.ReferenceAdamSqIdeal.main_v23) = v1 c
          ∧ r.2.mem ((c.tc : Thread Cert.ReferenceAdamSqIdeal.nD Cert.ReferenceAdamSqIdeal.τ).loc Cert.ReferenceAdamSqIdeal.main_v4) = v2 c
          ∧ r.2.mem ((c.tc : Thread Cert.ReferenceAdamSqIdeal.nD Cert.ReferenceAdamSqIdeal.τ).loc Cert.ReferenceAdamSqIdeal.main_v10) = v3 c
          ∧ r.2.mem ((c.tc : Thread Cert.ReferenceAdamSqIdeal.nD Cert.ReferenceAdamSqIdeal.τ).loc Cert.ReferenceAdamSqIdeal.main_arg0) = m' ((c.tc : Thread Cert.ReferenceAdamSqIdeal.nD Cert.ReferenceAdamSqIdeal.τ).loc Cert.ReferenceAdamSqIdeal.main_arg0)
          ∧ r.2.mem ((c.tc : Thread Cert.ReferenceAdamSqIdeal.nD Cert.ReferenceAdamSqIdeal.τ).loc Cert.ReferenceAdamSqIdeal.main_arg1) = m' ((c.tc : Thread Cert.ReferenceAdamSqIdeal.nD Cert.ReferenceAdamSqIdeal.τ).loc Cert.ReferenceAdamSqIdeal.main_arg1)
          ∧ r.2.mem ((c.tc : Thread Cert.ReferenceAdamSqIdeal.nD Cert.ReferenceAdamSqIdeal.τ).loc Cert.ReferenceAdamSqIdeal.main_arg2) = m' ((c.tc : Thread Cert.ReferenceAdamSqIdeal.nD Cert.ReferenceAdamSqIdeal.τ).loc Cert.ReferenceAdamSqIdeal.main_arg2)
          ∧ r.2.mem ((c.tc : Thread Cert.ReferenceAdamSqIdeal.nD Cert.ReferenceAdamSqIdeal.τ).loc Cert.ReferenceAdamSqIdeal.main_arg3) = m' ((c.tc : Thread Cert.ReferenceAdamSqIdeal.nD Cert.ReferenceAdamSqIdeal.τ).loc Cert.ReferenceAdamSqIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_arg1) = v0 c
          ∧ r.2.mem ((c.tc : Thread Cert.ReferenceAdamUpIdeal.nD Cert.ReferenceAdamUpIdeal.τ).loc Cert.ReferenceAdamUpIdeal.main_v23) = v1 c
          ∧ r.2.mem ((c.tc : Thread Cert.ReferenceAdamUpIdeal.nD Cert.ReferenceAdamUpIdeal.τ).loc Cert.ReferenceAdamUpIdeal.main_v4) = v2 c
          ∧ r.2.mem ((c.tc : Thread Cert.ReferenceAdamUpIdeal.nD Cert.ReferenceAdamUpIdeal.τ).loc Cert.ReferenceAdamUpIdeal.main_v10) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_arg1) = v0 c
          ∧ r.2.mem ((c.tc : Thread Cert.ReferenceAdamDownIdeal.nD Cert.ReferenceAdamDownIdeal.τ).loc Cert.ReferenceAdamDownIdeal.main_v23) = v1 c
          ∧ r.2.mem ((c.tc : Thread Cert.ReferenceAdamDownIdeal.nD Cert.ReferenceAdamDownIdeal.τ).loc Cert.ReferenceAdamDownIdeal.main_v4) = v2 c
          ∧ r.2.mem ((c.tc : Thread Cert.ReferenceAdamDownIdeal.nD Cert.ReferenceAdamDownIdeal.τ).loc Cert.ReferenceAdamDownIdeal.main_v10) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_arg1) = v0 c
          ∧ r.2.mem ((c.tc : Thread Cert.ReferenceAdamSmallIdeal.nD Cert.ReferenceAdamSmallIdeal.τ).loc Cert.ReferenceAdamSmallIdeal.main_v23) = v1 c
          ∧ r.2.mem ((c.tc : Thread Cert.ReferenceAdamSmallIdeal.nD Cert.ReferenceAdamSmallIdeal.τ).loc Cert.ReferenceAdamSmallIdeal.main_v4) = v2 c
          ∧ r.2.mem ((c.tc : Thread Cert.ReferenceAdamSmallIdeal.nD Cert.ReferenceAdamSmallIdeal.τ).loc Cert.ReferenceAdamSmallIdeal.main_v10) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v3_0)) (v1 : (c : Dev Cert.KernelAdamInIdeal.nD) → Buf (Elt Ideal) ((c.tc : Thread Cert.KernelAdamInIdeal.nD Cert.KernelAdamInIdeal.τ).loc Cert.KernelAdamInIdeal.main_v3_1)) (v2 : (c : Dev Cert.KernelAdamInIdeal.nD) → Buf (Elt Ideal) ((c.tc : Thread Cert.KernelAdamInIdeal.nD Cert.KernelAdamInIdeal.τ).loc Cert.KernelAdamInIdeal.main_v3_2)) (v3 : (c : Dev Cert.KernelAdamInIdeal.nD) → Buf (Elt Ideal) ((c.tc : Thread Cert.KernelAdamInIdeal.nD Cert.KernelAdamInIdeal.τ).loc Cert.KernelAdamInIdeal.main_v3_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v3_0) = v0 c
          ∧ r.2.mem ((c.tc : Thread Cert.KernelAdamInIdeal.nD Cert.KernelAdamInIdeal.τ).loc Cert.KernelAdamInIdeal.main_v3_1) = v1 c
          ∧ r.2.mem ((c.tc : Thread Cert.KernelAdamInIdeal.nD Cert.KernelAdamInIdeal.τ).loc Cert.KernelAdamInIdeal.main_v3_2) = v2 c
          ∧ r.2.mem ((c.tc : Thread Cert.KernelAdamInIdeal.nD Cert.KernelAdamInIdeal.τ).loc Cert.KernelAdamInIdeal.main_v3_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v25) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v27) = v2 c
          ∧ r.2.mem ((c.tc : Thread Cert.ReferenceAdamInIdeal.nD Cert.ReferenceAdamInIdeal.τ).loc Cert.ReferenceAdamInIdeal.main_v28) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def Claim : Prop :=
  ∃ (hKernel : Cert.Kernel.Facts) (hKernelIdeal : Cert.KernelIdeal.Facts) (hReferenceIdeal : Cert.ReferenceIdeal.Facts) (hKernelInF : Cert.KernelInF.Facts) (hKernelInFIdeal : Cert.KernelInFIdeal.Facts) (hReferenceInFIdeal : Cert.ReferenceInFIdeal.Facts) (hKernelInDa : Cert.KernelInDa.Facts) (hKernelInDaIdeal : Cert.KernelInDaIdeal.Facts) (hReferenceInDaIdeal : Cert.ReferenceInDaIdeal.Facts) (hKernelInDw : Cert.KernelInDw.Facts) (hKernelInDwIdeal : Cert.KernelInDwIdeal.Facts) (hReferenceInDwIdeal : Cert.ReferenceInDwIdeal.Facts) (hKernelUpF : Cert.KernelUpF.Facts) (hKernelUpFIdeal : Cert.KernelUpFIdeal.Facts) (hReferenceUpFIdeal : Cert.ReferenceUpFIdeal.Facts) (hKernelUpDa : Cert.KernelUpDa.Facts) (hKernelUpDaIdeal : Cert.KernelUpDaIdeal.Facts) (hReferenceUpDaIdeal : Cert.ReferenceUpDaIdeal.Facts) (hKernelUpDw : Cert.KernelUpDw.Facts) (hKernelUpDwIdeal : Cert.KernelUpDwIdeal.Facts) (hReferenceUpDwIdeal : Cert.ReferenceUpDwIdeal.Facts) (hKernelDownF : Cert.KernelDownF.Facts) (hKernelDownFIdeal : Cert.KernelDownFIdeal.Facts) (hReferenceDownFIdeal : Cert.ReferenceDownFIdeal.Facts) (hKernelDownDa : Cert.KernelDownDa.Facts) (hKernelDownDaIdeal : Cert.KernelDownDaIdeal.Facts) (hReferenceDownDaIdeal : Cert.ReferenceDownDaIdeal.Facts) (hKernelDownDw : Cert.KernelDownDw.Facts) (hKernelDownDwIdeal : Cert.KernelDownDwIdeal.Facts) (hReferenceDownDwIdeal : Cert.ReferenceDownDwIdeal.Facts) (hKernelOutF : Cert.KernelOutF.Facts) (hKernelOutFIdeal : Cert.KernelOutFIdeal.Facts) (hReferenceOutFIdeal : Cert.ReferenceOutFIdeal.Facts) (hKernelOutDa : Cert.KernelOutDa.Facts) (hKernelOutDaIdeal : Cert.KernelOutDaIdeal.Facts) (hReferenceOutDaIdeal : Cert.ReferenceOutDaIdeal.Facts) (hKernelOutDw : Cert.KernelOutDw.Facts) (hKernelOutDwIdeal : Cert.KernelOutDwIdeal.Facts) (hReferenceOutDwIdeal : Cert.ReferenceOutDwIdeal.Facts) (hKernelAttnF : Cert.KernelAttnF.Facts) (hKernelAttnFIdeal : Cert.KernelAttnFIdeal.Facts) (hReferenceAttnFIdeal : Cert.ReferenceAttnFIdeal.Facts) (hKernelMergeF : Cert.KernelMergeF.Facts) (hKernelMergeFIdeal : Cert.KernelMergeFIdeal.Facts) (hReferenceMergeFIdeal : Cert.ReferenceMergeFIdeal.Facts) (hKernelMergeB : Cert.KernelMergeB.Facts) (hKernelMergeBIdeal : Cert.KernelMergeBIdeal.Facts) (hReferenceMergeBIdeal : Cert.ReferenceMergeBIdeal.Facts) (hKernelNormF : Cert.KernelNormF.Facts) (hKernelNormFIdeal : Cert.KernelNormFIdeal.Facts) (hReferenceNormFIdeal : Cert.ReferenceNormFIdeal.Facts) (hKernelNormB : Cert.KernelNormB.Facts) (hKernelNormBIdeal : Cert.KernelNormBIdeal.Facts) (hReferenceNormBIdeal : Cert.ReferenceNormBIdeal.Facts) (hKernelResF : Cert.KernelResF.Facts) (hKernelResFIdeal : Cert.KernelResFIdeal.Facts) (hReferenceResFIdeal : Cert.ReferenceResFIdeal.Facts) (hKernelResB : Cert.KernelResB.Facts) (hKernelResBIdeal : Cert.KernelResBIdeal.Facts) (hReferenceResBIdeal : Cert.ReferenceResBIdeal.Facts) (hKernelHeadF : Cert.KernelHeadF.Facts) (hKernelHeadFIdeal : Cert.KernelHeadFIdeal.Facts) (hReferenceHeadFIdeal : Cert.ReferenceHeadFIdeal.Facts) (hKernelHeadB : Cert.KernelHeadB.Facts) (hKernelHeadBIdeal : Cert.KernelHeadBIdeal.Facts) (hReferenceHeadBIdeal : Cert.ReferenceHeadBIdeal.Facts) (hKernelGoutF : Cert.KernelGoutF.Facts) (hKernelGoutFIdeal : Cert.KernelGoutFIdeal.Facts) (hReferenceGoutFIdeal : Cert.ReferenceGoutFIdeal.Facts) (hKernelNormcF : Cert.KernelNormcF.Facts) (hKernelNormcFIdeal : Cert.KernelNormcFIdeal.Facts) (hReferenceNormcFIdeal : Cert.ReferenceNormcFIdeal.Facts) (hKernelNormcB : Cert.KernelNormcB.Facts) (hKernelNormcBIdeal : Cert.KernelNormcBIdeal.Facts) (hReferenceNormcBIdeal : Cert.ReferenceNormcBIdeal.Facts) (hKernelFfnF : Cert.KernelFfnF.Facts) (hKernelFfnFIdeal : Cert.KernelFfnFIdeal.Facts) (hReferenceFfnFIdeal : Cert.ReferenceFfnFIdeal.Facts) (hKernelFfnB : Cert.KernelFfnB.Facts) (hKernelFfnBIdeal : Cert.KernelFfnBIdeal.Facts) (hReferenceFfnBIdeal : Cert.ReferenceFfnBIdeal.Facts) (hKernelPrepF : Cert.KernelPrepF.Facts) (hKernelPrepFIdeal : Cert.KernelPrepFIdeal.Facts) (hReferencePrepFIdeal : Cert.ReferencePrepFIdeal.Facts) (hKernelQF : Cert.KernelQF.Facts) (hKernelQFIdeal : Cert.KernelQFIdeal.Facts) (hReferenceQFIdeal : Cert.ReferenceQFIdeal.Facts) (hKernelKF : Cert.KernelKF.Facts) (hKernelKFIdeal : Cert.KernelKFIdeal.Facts) (hReferenceKFIdeal : Cert.ReferenceKFIdeal.Facts) (hKernelInsF : Cert.KernelInsF.Facts) (hKernelInsFIdeal : Cert.KernelInsFIdeal.Facts) (hReferenceInsFIdeal : Cert.ReferenceInsFIdeal.Facts) (hKernelInsDa : Cert.KernelInsDa.Facts) (hKernelInsDaIdeal : Cert.KernelInsDaIdeal.Facts) (hReferenceInsDaIdeal : Cert.ReferenceInsDaIdeal.Facts) (hKernelInsDw : Cert.KernelInsDw.Facts) (hKernelInsDwIdeal : Cert.KernelInsDwIdeal.Facts) (hReferenceInsDwIdeal : Cert.ReferenceInsDwIdeal.Facts) (hKernelModF : Cert.KernelModF.Facts) (hKernelModFIdeal : Cert.KernelModFIdeal.Facts) (hReferenceModFIdeal : Cert.ReferenceModFIdeal.Facts) (hKernelModDa : Cert.KernelModDa.Facts) (hKernelModDaIdeal : Cert.KernelModDaIdeal.Facts) (hReferenceModDaIdeal : Cert.ReferenceModDaIdeal.Facts) (hKernelModDw : Cert.KernelModDw.Facts) (hKernelModDwIdeal : Cert.KernelModDwIdeal.Facts) (hReferenceModDwIdeal : Cert.ReferenceModDwIdeal.Facts) (hKernelAdamMod : Cert.KernelAdamMod.Facts) (hKernelAdamModIdeal : Cert.KernelAdamModIdeal.Facts) (hReferenceAdamModIdeal : Cert.ReferenceAdamModIdeal.Facts) (hKernelAdamSq : Cert.KernelAdamSq.Facts) (hKernelAdamSqIdeal : Cert.KernelAdamSqIdeal.Facts) (hReferenceAdamSqIdeal : Cert.ReferenceAdamSqIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamSmall : Cert.KernelAdamSmall.Facts) (hKernelAdamSmallIdeal : Cert.KernelAdamSmallIdeal.Facts) (hReferenceAdamSmallIdeal : Cert.ReferenceAdamSmallIdeal.Facts) (hKernelAdamIn : Cert.KernelAdamIn.Facts) (hKernelAdamInIdeal : Cert.KernelAdamInIdeal.Facts) (hReferenceAdamInIdeal : Cert.ReferenceAdamInIdeal.Facts) (hPre_finite_qk : Cert.Pre_finite_qk.Facts) (hPre_finite_qk_f : Cert.Pre_finite_qk_f.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelInF (hKernelInF := hKernelInF)
    ∧ quiescent_KernelInFIdeal (hKernelInFIdeal := hKernelInFIdeal)
    ∧ quiescent_ReferenceInFIdeal (hReferenceInFIdeal := hReferenceInFIdeal)
    ∧ quiescent_KernelInDa (hKernelInDa := hKernelInDa)
    ∧ quiescent_KernelInDaIdeal (hKernelInDaIdeal := hKernelInDaIdeal)
    ∧ quiescent_ReferenceInDaIdeal (hReferenceInDaIdeal := hReferenceInDaIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelUpF (hKernelUpF := hKernelUpF)
    ∧ quiescent_KernelUpFIdeal (hKernelUpFIdeal := hKernelUpFIdeal)
    ∧ quiescent_ReferenceUpFIdeal (hReferenceUpFIdeal := hReferenceUpFIdeal)
    ∧ quiescent_KernelUpDa (hKernelUpDa := hKernelUpDa)
    ∧ quiescent_KernelUpDaIdeal (hKernelUpDaIdeal := hKernelUpDaIdeal)
    ∧ quiescent_ReferenceUpDaIdeal (hReferenceUpDaIdeal := hReferenceUpDaIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelDownF (hKernelDownF := hKernelDownF)
    ∧ quiescent_KernelDownFIdeal (hKernelDownFIdeal := hKernelDownFIdeal)
    ∧ quiescent_ReferenceDownFIdeal (hReferenceDownFIdeal := hReferenceDownFIdeal)
    ∧ quiescent_KernelDownDa (hKernelDownDa := hKernelDownDa)
    ∧ quiescent_KernelDownDaIdeal (hKernelDownDaIdeal := hKernelDownDaIdeal)
    ∧ quiescent_ReferenceDownDaIdeal (hReferenceDownDaIdeal := hReferenceDownDaIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelOutF (hKernelOutF := hKernelOutF)
    ∧ quiescent_KernelOutFIdeal (hKernelOutFIdeal := hKernelOutFIdeal)
    ∧ quiescent_ReferenceOutFIdeal (hReferenceOutFIdeal := hReferenceOutFIdeal)
    ∧ quiescent_KernelOutDa (hKernelOutDa := hKernelOutDa)
    ∧ quiescent_KernelOutDaIdeal (hKernelOutDaIdeal := hKernelOutDaIdeal)
    ∧ quiescent_ReferenceOutDaIdeal (hReferenceOutDaIdeal := hReferenceOutDaIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelAttnF (hKernelAttnF := hKernelAttnF)
    ∧ quiescent_KernelAttnFIdeal (hKernelAttnFIdeal := hKernelAttnFIdeal)
    ∧ quiescent_KernelAttnFIdeal_pre_finite_qk_f (hKernelAttnFIdeal := hKernelAttnFIdeal) (hPre_finite_qk_f := hPre_finite_qk_f)
    ∧ quiescent_ReferenceAttnFIdeal (hReferenceAttnFIdeal := hReferenceAttnFIdeal)
    ∧ quiescent_ReferenceAttnFIdeal_pre_finite_qk_f (hReferenceAttnFIdeal := hReferenceAttnFIdeal) (hPre_finite_qk_f := hPre_finite_qk_f)
    ∧ quiescent_KernelMergeF (hKernelMergeF := hKernelMergeF)
    ∧ quiescent_KernelMergeFIdeal (hKernelMergeFIdeal := hKernelMergeFIdeal)
    ∧ quiescent_ReferenceMergeFIdeal (hReferenceMergeFIdeal := hReferenceMergeFIdeal)
    ∧ quiescent_KernelMergeB (hKernelMergeB := hKernelMergeB)
    ∧ quiescent_KernelMergeBIdeal (hKernelMergeBIdeal := hKernelMergeBIdeal)
    ∧ quiescent_ReferenceMergeBIdeal (hReferenceMergeBIdeal := hReferenceMergeBIdeal)
    ∧ quiescent_KernelNormF (hKernelNormF := hKernelNormF)
    ∧ quiescent_KernelNormFIdeal (hKernelNormFIdeal := hKernelNormFIdeal)
    ∧ quiescent_ReferenceNormFIdeal (hReferenceNormFIdeal := hReferenceNormFIdeal)
    ∧ quiescent_KernelNormB (hKernelNormB := hKernelNormB)
    ∧ quiescent_KernelNormBIdeal (hKernelNormBIdeal := hKernelNormBIdeal)
    ∧ quiescent_ReferenceNormBIdeal (hReferenceNormBIdeal := hReferenceNormBIdeal)
    ∧ quiescent_KernelResF (hKernelResF := hKernelResF)
    ∧ quiescent_KernelResFIdeal (hKernelResFIdeal := hKernelResFIdeal)
    ∧ quiescent_ReferenceResFIdeal (hReferenceResFIdeal := hReferenceResFIdeal)
    ∧ quiescent_KernelResB (hKernelResB := hKernelResB)
    ∧ quiescent_KernelResBIdeal (hKernelResBIdeal := hKernelResBIdeal)
    ∧ quiescent_ReferenceResBIdeal (hReferenceResBIdeal := hReferenceResBIdeal)
    ∧ quiescent_KernelHeadF (hKernelHeadF := hKernelHeadF)
    ∧ quiescent_KernelHeadFIdeal (hKernelHeadFIdeal := hKernelHeadFIdeal)
    ∧ quiescent_ReferenceHeadFIdeal (hReferenceHeadFIdeal := hReferenceHeadFIdeal)
    ∧ quiescent_KernelHeadB (hKernelHeadB := hKernelHeadB)
    ∧ quiescent_KernelHeadBIdeal (hKernelHeadBIdeal := hKernelHeadBIdeal)
    ∧ quiescent_ReferenceHeadBIdeal (hReferenceHeadBIdeal := hReferenceHeadBIdeal)
    ∧ quiescent_KernelGoutF (hKernelGoutF := hKernelGoutF)
    ∧ quiescent_KernelGoutFIdeal (hKernelGoutFIdeal := hKernelGoutFIdeal)
    ∧ quiescent_ReferenceGoutFIdeal (hReferenceGoutFIdeal := hReferenceGoutFIdeal)
    ∧ quiescent_KernelNormcF (hKernelNormcF := hKernelNormcF)
    ∧ quiescent_KernelNormcFIdeal (hKernelNormcFIdeal := hKernelNormcFIdeal)
    ∧ quiescent_ReferenceNormcFIdeal (hReferenceNormcFIdeal := hReferenceNormcFIdeal)
    ∧ quiescent_KernelNormcB (hKernelNormcB := hKernelNormcB)
    ∧ quiescent_KernelNormcBIdeal (hKernelNormcBIdeal := hKernelNormcBIdeal)
    ∧ quiescent_ReferenceNormcBIdeal (hReferenceNormcBIdeal := hReferenceNormcBIdeal)
    ∧ quiescent_KernelFfnF (hKernelFfnF := hKernelFfnF)
    ∧ quiescent_KernelFfnFIdeal (hKernelFfnFIdeal := hKernelFfnFIdeal)
    ∧ quiescent_ReferenceFfnFIdeal (hReferenceFfnFIdeal := hReferenceFfnFIdeal)
    ∧ quiescent_KernelFfnB (hKernelFfnB := hKernelFfnB)
    ∧ quiescent_KernelFfnBIdeal (hKernelFfnBIdeal := hKernelFfnBIdeal)
    ∧ quiescent_ReferenceFfnBIdeal (hReferenceFfnBIdeal := hReferenceFfnBIdeal)
    ∧ quiescent_KernelPrepF (hKernelPrepF := hKernelPrepF)
    ∧ quiescent_KernelPrepFIdeal (hKernelPrepFIdeal := hKernelPrepFIdeal)
    ∧ quiescent_ReferencePrepFIdeal (hReferencePrepFIdeal := hReferencePrepFIdeal)
    ∧ quiescent_KernelQF (hKernelQF := hKernelQF)
    ∧ quiescent_KernelQFIdeal (hKernelQFIdeal := hKernelQFIdeal)
    ∧ quiescent_ReferenceQFIdeal (hReferenceQFIdeal := hReferenceQFIdeal)
    ∧ quiescent_KernelKF (hKernelKF := hKernelKF)
    ∧ quiescent_KernelKFIdeal (hKernelKFIdeal := hKernelKFIdeal)
    ∧ quiescent_ReferenceKFIdeal (hReferenceKFIdeal := hReferenceKFIdeal)
    ∧ quiescent_KernelInsF (hKernelInsF := hKernelInsF)
    ∧ quiescent_KernelInsFIdeal (hKernelInsFIdeal := hKernelInsFIdeal)
    ∧ quiescent_ReferenceInsFIdeal (hReferenceInsFIdeal := hReferenceInsFIdeal)
    ∧ quiescent_KernelInsDa (hKernelInsDa := hKernelInsDa)
    ∧ quiescent_KernelInsDaIdeal (hKernelInsDaIdeal := hKernelInsDaIdeal)
    ∧ quiescent_ReferenceInsDaIdeal (hReferenceInsDaIdeal := hReferenceInsDaIdeal)
    ∧ quiescent_KernelInsDw (hKernelInsDw := hKernelInsDw)
    ∧ quiescent_KernelInsDwIdeal (hKernelInsDwIdeal := hKernelInsDwIdeal)
    ∧ quiescent_ReferenceInsDwIdeal (hReferenceInsDwIdeal := hReferenceInsDwIdeal)
    ∧ quiescent_KernelModF (hKernelModF := hKernelModF)
    ∧ quiescent_KernelModFIdeal (hKernelModFIdeal := hKernelModFIdeal)
    ∧ quiescent_ReferenceModFIdeal (hReferenceModFIdeal := hReferenceModFIdeal)
    ∧ quiescent_KernelModDa (hKernelModDa := hKernelModDa)
    ∧ quiescent_KernelModDaIdeal (hKernelModDaIdeal := hKernelModDaIdeal)
    ∧ quiescent_ReferenceModDaIdeal (hReferenceModDaIdeal := hReferenceModDaIdeal)
    ∧ quiescent_KernelModDw (hKernelModDw := hKernelModDw)
    ∧ quiescent_KernelModDwIdeal (hKernelModDwIdeal := hKernelModDwIdeal)
    ∧ quiescent_ReferenceModDwIdeal (hReferenceModDwIdeal := hReferenceModDwIdeal)
    ∧ quiescent_KernelAdamMod (hKernelAdamMod := hKernelAdamMod)
    ∧ quiescent_KernelAdamModIdeal (hKernelAdamModIdeal := hKernelAdamModIdeal)
    ∧ quiescent_ReferenceAdamModIdeal (hReferenceAdamModIdeal := hReferenceAdamModIdeal)
    ∧ quiescent_KernelAdamSq (hKernelAdamSq := hKernelAdamSq)
    ∧ quiescent_KernelAdamSqIdeal (hKernelAdamSqIdeal := hKernelAdamSqIdeal)
    ∧ quiescent_ReferenceAdamSqIdeal (hReferenceAdamSqIdeal := hReferenceAdamSqIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelInF_KernelInFIdeal
    ∧ algebraic_KernelInFIdeal_ReferenceInFIdeal (hKernelInFIdeal := hKernelInFIdeal) (hReferenceInFIdeal := hReferenceInFIdeal)
    ∧ preserves_KernelInDa_KernelInDaIdeal
    ∧ algebraic_KernelInDaIdeal_ReferenceInDaIdeal (hKernelInDaIdeal := hKernelInDaIdeal) (hReferenceInDaIdeal := hReferenceInDaIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelUpF_KernelUpFIdeal
    ∧ algebraic_KernelUpFIdeal_ReferenceUpFIdeal (hKernelUpFIdeal := hKernelUpFIdeal) (hReferenceUpFIdeal := hReferenceUpFIdeal)
    ∧ preserves_KernelUpDa_KernelUpDaIdeal
    ∧ algebraic_KernelUpDaIdeal_ReferenceUpDaIdeal (hKernelUpDaIdeal := hKernelUpDaIdeal) (hReferenceUpDaIdeal := hReferenceUpDaIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelDownF_KernelDownFIdeal
    ∧ algebraic_KernelDownFIdeal_ReferenceDownFIdeal (hKernelDownFIdeal := hKernelDownFIdeal) (hReferenceDownFIdeal := hReferenceDownFIdeal)
    ∧ preserves_KernelDownDa_KernelDownDaIdeal
    ∧ algebraic_KernelDownDaIdeal_ReferenceDownDaIdeal (hKernelDownDaIdeal := hKernelDownDaIdeal) (hReferenceDownDaIdeal := hReferenceDownDaIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelOutF_KernelOutFIdeal
    ∧ algebraic_KernelOutFIdeal_ReferenceOutFIdeal (hKernelOutFIdeal := hKernelOutFIdeal) (hReferenceOutFIdeal := hReferenceOutFIdeal)
    ∧ preserves_KernelOutDa_KernelOutDaIdeal
    ∧ algebraic_KernelOutDaIdeal_ReferenceOutDaIdeal (hKernelOutDaIdeal := hKernelOutDaIdeal) (hReferenceOutDaIdeal := hReferenceOutDaIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelAttnF_KernelAttnFIdeal
    ∧ algebraic_KernelAttnFIdeal_ReferenceAttnFIdeal_pre_finite_qk_f (hKernelAttnFIdeal := hKernelAttnFIdeal) (hReferenceAttnFIdeal := hReferenceAttnFIdeal) (hPre_finite_qk_f := hPre_finite_qk_f)
    ∧ preserves_KernelMergeF_KernelMergeFIdeal
    ∧ algebraic_KernelMergeFIdeal_ReferenceMergeFIdeal (hKernelMergeFIdeal := hKernelMergeFIdeal) (hReferenceMergeFIdeal := hReferenceMergeFIdeal)
    ∧ preserves_KernelMergeB_KernelMergeBIdeal
    ∧ algebraic_KernelMergeBIdeal_ReferenceMergeBIdeal (hKernelMergeBIdeal := hKernelMergeBIdeal) (hReferenceMergeBIdeal := hReferenceMergeBIdeal)
    ∧ preserves_KernelNormF_KernelNormFIdeal
    ∧ algebraic_KernelNormFIdeal_ReferenceNormFIdeal (hKernelNormFIdeal := hKernelNormFIdeal) (hReferenceNormFIdeal := hReferenceNormFIdeal)
    ∧ preserves_KernelNormB_KernelNormBIdeal
    ∧ algebraic_KernelNormBIdeal_ReferenceNormBIdeal (hKernelNormBIdeal := hKernelNormBIdeal) (hReferenceNormBIdeal := hReferenceNormBIdeal)
    ∧ preserves_KernelResF_KernelResFIdeal
    ∧ algebraic_KernelResFIdeal_ReferenceResFIdeal (hKernelResFIdeal := hKernelResFIdeal) (hReferenceResFIdeal := hReferenceResFIdeal)
    ∧ preserves_KernelResB_KernelResBIdeal
    ∧ algebraic_KernelResBIdeal_ReferenceResBIdeal (hKernelResBIdeal := hKernelResBIdeal) (hReferenceResBIdeal := hReferenceResBIdeal)
    ∧ preserves_KernelHeadF_KernelHeadFIdeal
    ∧ algebraic_KernelHeadFIdeal_ReferenceHeadFIdeal (hKernelHeadFIdeal := hKernelHeadFIdeal) (hReferenceHeadFIdeal := hReferenceHeadFIdeal)
    ∧ preserves_KernelHeadB_KernelHeadBIdeal
    ∧ algebraic_KernelHeadBIdeal_ReferenceHeadBIdeal (hKernelHeadBIdeal := hKernelHeadBIdeal) (hReferenceHeadBIdeal := hReferenceHeadBIdeal)
    ∧ preserves_KernelGoutF_KernelGoutFIdeal
    ∧ algebraic_KernelGoutFIdeal_ReferenceGoutFIdeal (hKernelGoutFIdeal := hKernelGoutFIdeal) (hReferenceGoutFIdeal := hReferenceGoutFIdeal)
    ∧ preserves_KernelNormcF_KernelNormcFIdeal
    ∧ algebraic_KernelNormcFIdeal_ReferenceNormcFIdeal (hKernelNormcFIdeal := hKernelNormcFIdeal) (hReferenceNormcFIdeal := hReferenceNormcFIdeal)
    ∧ preserves_KernelNormcB_KernelNormcBIdeal
    ∧ algebraic_KernelNormcBIdeal_ReferenceNormcBIdeal (hKernelNormcBIdeal := hKernelNormcBIdeal) (hReferenceNormcBIdeal := hReferenceNormcBIdeal)
    ∧ preserves_KernelFfnF_KernelFfnFIdeal
    ∧ algebraic_KernelFfnFIdeal_ReferenceFfnFIdeal (hKernelFfnFIdeal := hKernelFfnFIdeal) (hReferenceFfnFIdeal := hReferenceFfnFIdeal)
    ∧ preserves_KernelFfnB_KernelFfnBIdeal
    ∧ algebraic_KernelFfnBIdeal_ReferenceFfnBIdeal (hKernelFfnBIdeal := hKernelFfnBIdeal) (hReferenceFfnBIdeal := hReferenceFfnBIdeal)
    ∧ preserves_KernelPrepF_KernelPrepFIdeal
    ∧ algebraic_KernelPrepFIdeal_ReferencePrepFIdeal (hKernelPrepFIdeal := hKernelPrepFIdeal) (hReferencePrepFIdeal := hReferencePrepFIdeal)
    ∧ preserves_KernelQF_KernelQFIdeal
    ∧ algebraic_KernelQFIdeal_ReferenceQFIdeal (hKernelQFIdeal := hKernelQFIdeal) (hReferenceQFIdeal := hReferenceQFIdeal)
    ∧ preserves_KernelKF_KernelKFIdeal
    ∧ algebraic_KernelKFIdeal_ReferenceKFIdeal (hKernelKFIdeal := hKernelKFIdeal) (hReferenceKFIdeal := hReferenceKFIdeal)
    ∧ preserves_KernelInsF_KernelInsFIdeal
    ∧ algebraic_KernelInsFIdeal_ReferenceInsFIdeal (hKernelInsFIdeal := hKernelInsFIdeal) (hReferenceInsFIdeal := hReferenceInsFIdeal)
    ∧ preserves_KernelInsDa_KernelInsDaIdeal
    ∧ algebraic_KernelInsDaIdeal_ReferenceInsDaIdeal (hKernelInsDaIdeal := hKernelInsDaIdeal) (hReferenceInsDaIdeal := hReferenceInsDaIdeal)
    ∧ preserves_KernelInsDw_KernelInsDwIdeal
    ∧ algebraic_KernelInsDwIdeal_ReferenceInsDwIdeal (hKernelInsDwIdeal := hKernelInsDwIdeal) (hReferenceInsDwIdeal := hReferenceInsDwIdeal)
    ∧ preserves_KernelModF_KernelModFIdeal
    ∧ algebraic_KernelModFIdeal_ReferenceModFIdeal (hKernelModFIdeal := hKernelModFIdeal) (hReferenceModFIdeal := hReferenceModFIdeal)
    ∧ preserves_KernelModDa_KernelModDaIdeal
    ∧ algebraic_KernelModDaIdeal_ReferenceModDaIdeal (hKernelModDaIdeal := hKernelModDaIdeal) (hReferenceModDaIdeal := hReferenceModDaIdeal)
    ∧ preserves_KernelModDw_KernelModDwIdeal
    ∧ algebraic_KernelModDwIdeal_ReferenceModDwIdeal (hKernelModDwIdeal := hKernelModDwIdeal) (hReferenceModDwIdeal := hReferenceModDwIdeal)
    ∧ preserves_KernelAdamMod_KernelAdamModIdeal
    ∧ algebraic_KernelAdamModIdeal_ReferenceAdamModIdeal (hKernelAdamModIdeal := hKernelAdamModIdeal) (hReferenceAdamModIdeal := hReferenceAdamModIdeal)
    ∧ preserves_KernelAdamSq_KernelAdamSqIdeal
    ∧ algebraic_KernelAdamSqIdeal_ReferenceAdamSqIdeal (hKernelAdamSqIdeal := hKernelAdamSqIdeal) (hReferenceAdamSqIdeal := hReferenceAdamSqIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
-- ==== Pre_finite_qk.lean ====
abbrev S2048x1024 : Shape := ⟨2, ![2048, 1024]⟩
abbrev S2304x256 : Shape := ⟨2, ![2304, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2304x256 : S_.BroadcastsInDim S2304x256 (![] : Fin 0 → Fin S2304x256.rank)
  reducesTo_S2304x256_S_d0_1 : S2304x256.ReducesTo [0, 1] S_

variable [Facts]

def fn {F : FTy → Type} [FloatOps F] (main_arg0 : FVec F S2048x1024 .f32) (main_arg1 : FVec F S2304x256 .f32) (main_arg2 : FVec F S2304x256 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2304x256 .f32 := Host.absf main_arg1
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  let main_c_1 : IVec S_ 1 := constantI S_ 1 1#1
  let main_v7 : IVec S_ 1 := (fun x v => Host.reduce IntOp.andi x v reducesTo_S2304x256_S_d0_1 h_S_) main_v6 main_c_1
  let main_v8 : IVec S_ 1 := andi main_v3 main_v7
  main_v8
-- ==== Pre_finite_qk_f.lean ====
abbrev S2048x1024 : Shape := ⟨2, ![2048, 1024]⟩
abbrev S2304x256 : Shape := ⟨2, ![2304, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2304x256 : S_.BroadcastsInDim S2304x256 (![] : Fin 0 → Fin S2304x256.rank)
  reducesTo_S2304x256_S_d0_1 : S2304x256.ReducesTo [0, 1] S_

variable [Facts]

def fn {F : FTy → Type} [FloatOps F] (main_arg0 : FVec F S2048x1024 .f32) (main_arg1 : FVec F S2304x256 .f32) (main_arg2 : FVec F S2304x256 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2304x256 .f32 := Host.absf main_arg1
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  let main_c_1 : IVec S_ 1 := constantI S_ 1 1#1
  let main_v7 : IVec S_ 1 := (fun x v => Host.reduce IntOp.andi x v reducesTo_S2304x256_S_d0_1 h_S_) main_v6 main_c_1
  let main_v8 : IVec S_ 1 := andi main_v3 main_v7
  main_v8
-- ==== Kernel.lean ====
abbrev S2048x1024 : Shape := ⟨2, ![2048, 1024]⟩
abbrev S2304x256 : Shape := ⟨2, ![2304, 256]⟩
abbrev S256x128 : Shape := ⟨2, ![256, 128]⟩
abbrev S2304x128 : Shape := ⟨2, ![2304, 128]⟩
abbrev S128x128 : Shape := ⟨2, ![128, 128]⟩
abbrev S128x2304 : Shape := ⟨2, ![128, 2304]⟩
abbrev S128 : Shape := ⟨1, ![128]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .hbm, ⟨4, _⟩ => ⟨S2048x1024, .f32⟩
  | .hbm, ⟨5, _⟩ => ⟨S2304x256, .f32⟩
  | .hbm, ⟨6, _⟩ => ⟨S2304x256, .f32⟩
  | .local _ .vmem, ⟨0, _⟩ => ⟨S256x128, .f32⟩
  | .local _ .vmem, ⟨1, _⟩ => ⟨S256x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S2048x1024 : Shape := ⟨2, ![2048, 1024]⟩
abbrev S2304x256 : Shape := ⟨2, ![2304, 256]⟩
abbrev S2048x2x4x128 : Shape := ⟨4, ![2048, 2, 4, 128]⟩
abbrev S2304x2x128 : Shape := ⟨3, ![2304, 2, 128]⟩
abbrev S2x2304x2048x4 : Shape := ⟨4, ![2, 2304, 2048, 4]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S2x128x2304 : Shape := ⟨3, ![2, 128, 2304]⟩
abbrev S2x2048x4x128 : Shape := ⟨4, ![2, 2048, 4, 128]⟩
abbrev S2x2304x128 : Shape := ⟨3, ![2, 2304, 128]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .hbm, ⟨4, _⟩ => ⟨S2048x2x4x128, .f32⟩
  | .hbm, ⟨5, _⟩ => ⟨S2304x2x128, .f32⟩
  | .hbm, ⟨6, _⟩ => ⟨S2304x2x128, .f32⟩
  | .hbm, ⟨7, _⟩ => ⟨S2x2304x2048x4, .f32⟩
  | .hbm, ⟨8, _⟩ => ⟨S2x4x2048x2304, .f32⟩
  | .hbm, ⟨9, _⟩ => ⟨S_, .f32⟩
  | .hbm, ⟨10, _⟩ => ⟨S2x4x2048x2304, .f32⟩
  | .hbm, ⟨11, _⟩ => ⟨S2x4x2048x2304, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x2304, .f32⟩
  | .hbm, ⟨16, _⟩ => ⟨S2x4x2048x2304, .i1⟩
  | .hbm, ⟨17, _⟩ => ⟨S2x4x2048x2304, .f32⟩
  | .hbm, ⟨18, _⟩ => ⟨S_, .f32⟩
  | .hbm, ⟨19, _⟩ => ⟨S2x4x2048, .f32⟩
  | .hbm, ⟨20, _⟩ => ⟨S_, .f32⟩
  | .hbm, ⟨21, _⟩ => ⟨S2x4x2048, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .i1⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x2304, .f32⟩
  | .hbm, ⟨39, _⟩ => ⟨S2x4x2048x2304, .f32⟩
  | .hbm, ⟨40, _⟩ => ⟨S2x4x2048x2304, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x2304, .f32⟩
  | .hbm, ⟨45, _⟩ => ⟨S2x4x2048x2304, .f32⟩
  | .hbm, ⟨46, _⟩ => ⟨S2x4x2048x1, .f32⟩
  | .hbm, ⟨47, _⟩ => ⟨S_, .f32⟩
  | .hbm, ⟨48, _⟩ => ⟨S2x4x2048x1, .f32⟩
  | .hbm, ⟨49, _⟩ => ⟨S2x4x2048x1, .f32⟩
  | .hbm, ⟨50, _⟩ => ⟨S2x128x4x2048, .f32⟩
  | .hbm, ⟨51, _⟩ => ⟨S2048x2x4x128, .f32⟩
  | .hbm, ⟨52, _⟩ => ⟨S2048x1024, .f32⟩
  | .hbm, ⟨53, _⟩ => ⟨S2048x2x4x128, .f32⟩
  | .hbm, ⟨54, _⟩ => ⟨S2x128x4x2048, .f32⟩
  | .hbm, ⟨55, _⟩ => ⟨S2x4x2048x2304, .f32⟩
  | .hbm, ⟨56, _⟩ => ⟨S2x128x2304, .f32⟩
  | .hbm, ⟨57, _⟩ => ⟨S2304x2x128, .f32⟩
  | .hbm, ⟨58, _⟩ => ⟨S2x4x2048x2304, .f32⟩
  | .hbm, ⟨59, _⟩ => ⟨S2x4x2048x2304, .f32⟩
  | .hbm, ⟨60, _⟩ => ⟨S2x4x2048x2304, .f32⟩
  | .hbm, ⟨61, _⟩ => ⟨S_, .f32⟩
  | .hbm, ⟨62, _⟩ => ⟨S2x4x2048, .f32⟩
  | .hbm, ⟨63, _⟩ => ⟨S2x4x2048x1, .f32⟩
  | .hbm, ⟨64, _⟩ => ⟨S2x4x2048x1, .f32⟩
  | .hbm, ⟨65, _⟩ => ⟨S2x4x2048x2304, .f32⟩
  | .hbm, ⟨66, _⟩ => ⟨S2x4x2048x2304, .f32⟩
  | .hbm, ⟨67, _⟩ => ⟨S_, .f32⟩
  | .hbm, ⟨68, _⟩ => ⟨S2x4x2048, .f32⟩
  | .hbm, ⟨69, _⟩ => ⟨S2x4x2048x2304, .f32⟩
  | .hbm, ⟨70, _⟩ => ⟨S2x4x2048x2304, .f32⟩
  | .hbm, ⟨71, _⟩ => ⟨S2x4x2048x2304, .f32⟩
  | .hbm, ⟨72, _⟩ => ⟨S_, .f32⟩
  | .hbm, ⟨73, _⟩ => ⟨S2x4x2048x2304, .f32⟩
  | .hbm, ⟨74, _⟩ => ⟨S2x4x2048x2304, .f32⟩
  | .hbm, ⟨75, _⟩ => ⟨S2x2304x2048x4, .f32⟩
  | .hbm, ⟨76, _⟩ => ⟨S2x2048x4x128, .f32⟩
  | .hbm, ⟨77, _⟩ => ⟨S2048x2x4x128, .f32⟩
  | .hbm, ⟨78, _⟩ => ⟨S2x2304x128, .f32⟩
  | .hbm, ⟨79, _⟩ => ⟨S2304x2x128, .f32⟩
  | .hbm, ⟨80, _⟩ => ⟨S2304x256, .f32⟩
  | .hbm, ⟨81, _⟩ => ⟨S2304x256, .f32⟩
  | .hbm, ⟨82, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== KernelInF.lean ====
abbrev S2304x1024 : Shape := ⟨2, ![2304, 1024]⟩
abbrev S1024x7680 : Shape := ⟨2, ![1024, 7680]⟩
abbrev S7680x1024 : Shape := ⟨2, ![7680, 1024]⟩
abbrev S2304x7680 : Shape := ⟨2, ![2304, 7680]⟩
abbrev S512x1024 : Shape := ⟨2, ![512, 1024]⟩
abbrev S2304x512 : Shape := ⟨2, ![2304, 512]⟩

abbrev nBuf : Space → Nat
  | .hbm => 5
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S1024x7680, .bf16⟩
  | .hbm, ⟨3, _⟩ => ⟨S7680x1024, .bf16⟩
  | .hbm, ⟨4, _⟩ => ⟨S2304x7680, .f32⟩
  | .local _ .vmem, ⟨0, _⟩ => ⟨S2304x1024, .f32⟩
  | .local _ .vmem, ⟨1, _⟩ => ⟨S512x1024, .bf16⟩
  | .local _ .vmem, ⟨2, _⟩ => ⟨S512x1024, .bf16⟩
  | .local _ .vmem, ⟨3, _⟩ => ⟨S2304x512, .f32⟩
  | .local _ .vmem, ⟨4, _⟩ => ⟨S2304x512, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInFIdeal.lean ====
abbrev S2304x1024 : Shape := ⟨2, ![2304, 1024]⟩
abbrev S1024x7680 : Shape := ⟨2, ![1024, 7680]⟩
abbrev S2304x7680 : Shape := ⟨2, ![2304, 7680]⟩

abbrev nBuf : Space → Nat
  | .hbm => 3
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelInDa.lean ====
abbrev S2304x7680 : Shape := ⟨2, ![2304, 7680]⟩
abbrev S1024x7680 : Shape := ⟨2, ![1024, 7680]⟩
abbrev S7680x1024 : Shape := ⟨2, ![7680, 1024]⟩
abbrev S2304x1024 : Shape := ⟨2, ![2304, 1024]⟩
abbrev S768x2560 : Shape := ⟨2, ![768, 2560]⟩
abbrev S2560x1024 : Shape := ⟨2, ![2560, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2304x7680, .f32⟩
  | .hbm, ⟨1, _⟩ => ⟨S1024x7680, .f32⟩
  | .hbm, ⟨2, _⟩ => ⟨S1024x7680, .bf16⟩
  | .hbm, ⟨3, _⟩ => ⟨S7680x1024, .bf16⟩
  | .hbm, ⟨4, _⟩ => ⟨S2304x1024, .f32⟩
  | .local _ .vmem, ⟨0, _⟩ => ⟨S768x2560, .f32⟩
  | .local _ .vmem, ⟨1, _⟩ => ⟨S768x2560, .f32⟩
  | .local _ .vmem, ⟨2, _⟩ => ⟨S2560x1024, .bf16⟩
  | .local _ .vmem, ⟨3, _⟩ => ⟨S2560x1024, .bf16⟩
  | .local _ .vmem, ⟨4, _⟩ => ⟨S768x1024, .f32⟩
  | .local _ .vmem, ⟨5, _⟩ => ⟨S768x1024, .f32⟩
  | _, _ => ⟨S2304x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDaIdeal.lean ====
abbrev S2304x7680 : Shape := ⟨2, ![2304, 7680]⟩
abbrev S1024x7680 : Shape := ⟨2, ![1024, 7680]⟩
abbrev S_ : Shape := ⟨0, ![]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x7680, .f32⟩
  | .hbm, ⟨1, _⟩ => ⟨S1024x7680, .f32⟩
  | .hbm, ⟨2, _⟩ => ⟨S_, .f32⟩
  | .hbm, ⟨3, _⟩ => ⟨S2304x1024, .f32⟩
  | .hbm, ⟨4, _⟩ => ⟨S2304x7680, .f32⟩
  | .hbm, ⟨5, _⟩ => ⟨S2304x1024, .f32⟩
  | _, _ => ⟨S2304x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelInDw.lean ====
abbrev S2304x1024 : Shape := ⟨2, ![2304, 1024]⟩
abbrev S2304x7680 : Shape := ⟨2, ![2304, 7680]⟩
abbrev S7680x1024 : Shape := ⟨2, ![7680, 1024]⟩
abbrev S2304x512 : Shape := ⟨2, ![2304, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S2304x7680, .f32⟩
  | .hbm, ⟨2, _⟩ => ⟨S7680x1024, .f32⟩
  | .local _ .vmem, ⟨0, _⟩ => ⟨S2304x512, .f32⟩
  | .local _ .vmem, ⟨1, _⟩ => ⟨S2304x512, .f32⟩
  | .local _ .vmem, ⟨2, _⟩ => ⟨S2304x1024, .f32⟩
  | .local _ .vmem, ⟨3, _⟩ => ⟨S512x1024, .f32⟩
  | .local _ .vmem, ⟨4, _⟩ => ⟨S512x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S2304x1024 : Shape := ⟨2, ![2304, 1024]⟩
abbrev S2304x7680 : Shape := ⟨2, ![2304, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x7680, .f32⟩
  | .hbm, ⟨2, _⟩ => ⟨S_, .f32⟩
  | .hbm, ⟨3, _⟩ => ⟨S1024x7680, .f32⟩
  | .hbm, ⟨4, _⟩ => ⟨S2304x7680, .f32⟩
  | .hbm, ⟨5, _⟩ => ⟨S7680x1024, .f32⟩
  | .hbm, ⟨6, _⟩ => ⟨S1024x7680, .f32⟩
  | .hbm, ⟨7, _⟩ => ⟨S7680x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpF.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S2048x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpFIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUpDa.lean ====
abbrev S2048x5632 : Shape := ⟨2, ![2048, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S2048x1024, .f32⟩
  | .local _ .vmem, ⟨0, _⟩ => ⟨S1024x1408, .f32⟩
  | .local _ .vmem, ⟨1, _⟩ => ⟨S1024x1408, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDaIdeal.lean ====
abbrev S2048x5632 : Shape := ⟨2, ![2048, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S_, .f32⟩
  | .hbm, ⟨3, _⟩ => ⟨S2048x1024, .f32⟩
  | .hbm, ⟨4, _⟩ => ⟨S2048x5632, .f32⟩
  | .hbm, ⟨5, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUpDw.lean ====
abbrev S2048x1024 : Shape := ⟨2, ![2048, 1024]⟩
abbrev S2048x5632 : Shape := ⟨2, ![2048, 5632]⟩
abbrev S4x1024x1408 : Shape := ⟨3, ![4, 1024, 1408]⟩
abbrev S2048x256 : Shape := ⟨2, ![2048, 256]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S4x1024x1408, .f32⟩
  | .local _ .vmem, ⟨0, _⟩ => ⟨S2048x256, .f32⟩
  | .local _ .vmem, ⟨1, _⟩ => ⟨S2048x256, .f32⟩
  | .local _ .vmem, ⟨2, _⟩ => ⟨S2048x1408, .f32⟩
  | .local _ .vmem, ⟨3, _⟩ => ⟨S2048x1408, .f32⟩
  | .local _ .vmem, ⟨4, _⟩ => ⟨S1x256x1408, .f32⟩
  | .local _ .vmem, ⟨5, _⟩ => ⟨S1x256x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownF.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2816x1024, .bf16⟩
  | .hbm, ⟨3, _⟩ => ⟨S2048x1024, .f32⟩
  | .local _ .vmem, ⟨0, _⟩ => ⟨S512x2816, .f32⟩
  | .local _ .vmem, ⟨1, _⟩ => ⟨S512x2816, .f32⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownFIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelDownDa.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2816x1024, .bf16⟩
  | .hbm, ⟨3, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDaIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDownDw.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2816x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .f32⟩
  | .local _ .vmem, ⟨3, _⟩ => ⟨S256x1024, .f32⟩
  | .local _ .vmem, ⟨4, _⟩ => ⟨S256x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutF.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S2048x1024, .f32⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutFIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOutDa.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDaIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S2048x1024, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAttnF.lean ====
abbrev S2048x1024 : Shape := ⟨2, ![2048, 1024]⟩
abbrev S2304x256 : Shape := ⟨2, ![2304, 256]⟩
abbrev S256x128 : Shape := ⟨2, ![256, 128]⟩
abbrev S2304x128 : Shape := ⟨2, ![2304, 128]⟩
abbrev S128x128 : Shape := ⟨2, ![128, 128]⟩
abbrev S128x2304 : Shape := ⟨2, ![128, 2304]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .local _ .vmem, ⟨0, _⟩ => ⟨S256x128, .f32⟩
  | .local _ .vmem, ⟨1, _⟩ => ⟨S256x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S256x128, .f32⟩
  | .local _ .vmem, ⟨7, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAttnFIdeal.lean ====
abbrev S2048x1024 : Shape := ⟨2, ![2048, 1024]⟩
abbrev S2304x256 : Shape := ⟨2, ![2304, 256]⟩
abbrev S2048x2x4x128 : Shape := ⟨4, ![2048, 2, 4, 128]⟩
abbrev S2304x2x128 : Shape := ⟨3, ![2304, 2, 128]⟩
abbrev S2x2304x2048x4 : Shape := ⟨4, ![2, 2304, 2048, 4]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x2x4x128, .f32⟩
  | .hbm, ⟨4, _⟩ => ⟨S2304x2x128, .f32⟩
  | .hbm, ⟨5, _⟩ => ⟨S2304x2x128, .f32⟩
  | .hbm, ⟨6, _⟩ => ⟨S2x2304x2048x4, .f32⟩
  | .hbm, ⟨7, _⟩ => ⟨S2x4x2048x2304, .f32⟩
  | .hbm, ⟨8, _⟩ => ⟨S_, .f32⟩
  | .hbm, ⟨9, _⟩ => ⟨S2x4x2048x2304, .f32⟩
  | .hbm, ⟨10, _⟩ => ⟨S2x4x2048x2304, .f32⟩
  | .hbm, ⟨11, _⟩ => ⟨S_, .f32⟩
  | .hbm, ⟨12, _⟩ => ⟨S2x4x2048, .f32⟩
  | .hbm, ⟨13, _⟩ => ⟨S_, .f32⟩
  | .hbm, ⟨14, _⟩ => ⟨S2x4x2048, .f32⟩
  | .hbm, ⟨15, _⟩ => ⟨S2x4x2048, .f32⟩
  | .hbm, ⟨16, _⟩ => ⟨S2x4x2048x1, .f32⟩
  | .hbm, ⟨17, _⟩ => ⟨S2x4x2048x2304, .f32⟩
  | .hbm, ⟨18, _⟩ => ⟨S2x4x2048x2304, .f32⟩
  | .hbm, ⟨19, _⟩ => ⟨S2x4x2048x2304, .f32⟩
  | .hbm, ⟨20, _⟩ => ⟨S_, .f32⟩
  | .hbm, ⟨21, _⟩ => ⟨S2x4x2048, .f32⟩
  | .hbm, ⟨22, _⟩ => ⟨S2x4x2048x1, .f32⟩
  | .hbm, ⟨23, _⟩ => ⟨S2x4x2048x2304, .f32⟩
  | .hbm, ⟨24, _⟩ => ⟨S2x4x2048x2304, .f32⟩
  | .hbm, ⟨25, _⟩ => ⟨S2x128x4x2048, .f32⟩
  | .hbm, ⟨26, _⟩ => ⟨S2048x2x4x128, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelMergeF.lean ====
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMergeFIdeal.lean ====
abbrev S2048x1024 : Shape := ⟨2, ![2048, 1024]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelMergeB.lean ====
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMergeBIdeal.lean ====
abbrev S2048x1024 : Shape := ⟨2, ![2048, 1024]⟩
abbrev S2048x2048 : Shape := ⟨2, ![2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== KernelNormF.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelNormFIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormFIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelNormB.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelNormBIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelResF.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceResFIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelResB.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceResBIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== KernelHeadF.lean ====
abbrev S2048x1024 : Shape := ⟨2, ![2048, 1024]⟩
abbrev S1x1024 : Shape := ⟨2, ![1, 1024]⟩
abbrev S2048x128 : Shape := ⟨2, ![2048, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceHeadFIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== KernelHeadB.lean ====
abbrev S2048x1024 : Shape := ⟨2, ![2048, 1024]⟩
abbrev S1x1024 : Shape := ⟨2, ![1, 1024]⟩
abbrev S_ : Shape := ⟨0, ![]⟩
abbrev S2048x128 : Shape := ⟨2, ![2048, 128]⟩
abbrev S2048x1 : Shape := ⟨2, ![2048, 1]⟩
abbrev S2048 : Shape := ⟨1, ![2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048x128, .f32⟩
  | .hbm, ⟨7, _⟩ => ⟨S2048x1, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x128, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceHeadBIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== KernelGoutF.lean ====
abbrev S2048x1024 : Shape := ⟨2, ![2048, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGoutFIdeal.lean ====
abbrev S2048x1024 : Shape := ⟨2, ![2048, 1024]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x8x128, .f32⟩
  | .hbm, ⟨4, _⟩ => ⟨S2048x8x128, .f32⟩
  | .hbm, ⟨5, _⟩ => ⟨S_, .f32⟩
  | .hbm, ⟨6, _⟩ => ⟨S2048x8, .f32⟩
  | .hbm, ⟨7, _⟩ => ⟨S2048x8x1, .f32⟩
  | .hbm, ⟨8, _⟩ => ⟨S_, .f32⟩
  | .hbm, ⟨9, _⟩ => ⟨S2048x8x1, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S2048x8x1, .f32⟩
  | .hbm, ⟨15, _⟩ => ⟨S2048x8x128, .f32⟩
  | .hbm, ⟨16, _⟩ => ⟨S2048x8x128, .f32⟩
  | .hbm, ⟨17, _⟩ => ⟨S1x1x128, .f32⟩
  | .hbm, ⟨18, _⟩ => ⟨S2048x8x128, .f32⟩
  | .hbm, ⟨19, _⟩ => ⟨S2048x8x128, .f32⟩
  | .hbm, ⟨20, _⟩ => ⟨S2048x8x128, .f32⟩
  | .hbm, ⟨21, _⟩ => ⟨S2048x8x128, .f32⟩
  | .hbm, ⟨22, _⟩ => ⟨S2048x8x128, .f32⟩
  | .hbm, ⟨23, _⟩ => ⟨S_, .f32⟩
  | .hbm, ⟨24, _⟩ => ⟨S2048x8x128, .f32⟩
  | .hbm, ⟨25, _⟩ => ⟨S2048x8x128, .f32⟩
  | .hbm, ⟨26, _⟩ => ⟨S_, .f32⟩
  | .hbm, ⟨27, _⟩ => ⟨S2048x8x128, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== KernelNormcF.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ReferenceNormcFIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelNormcB.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormcBIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelFfnF.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S2048x128 : Shape := ⟨2, ![2048, 128]⟩
abbrev S1x128 : Shape := ⟨2, ![1, 128]⟩

abbrev nBuf : Space → Nat
  | .hbm => 7
  | .vmem => 22
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S2048x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFfnFIdeal.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩
abbrev S2050x5632 : Shape := ⟨2, ![2050, 5632]⟩
abbrev S5632 : Shape := ⟨1, ![5632]⟩
abbrev S2048x2816 : Shape := ⟨2, ![2048, 2816]⟩

abbrev nBuf : Space → Nat
  | .hbm => 40
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S1x5632, .f32⟩
  | .hbm, ⟨5, _⟩ => ⟨S2050x5632, .f32⟩
  | .hbm, ⟨6, _⟩ => ⟨S2048x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== KernelFfnB.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S1x2816 : Shape := ⟨2, ![1, 2816]⟩
abbrev S2048x128 : Shape := ⟨2, ![2048, 128]⟩
abbrev S1x128 : Shape := ⟨2, ![1, 128]⟩
abbrev S128 : Shape := ⟨1, ![128]⟩

abbrev nBuf : Space → Nat
  | .hbm => 17
  | .vmem => 42
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S2048x2816, .f32⟩
  | .hbm, ⟨8, _⟩ => ⟨S2048x2816, .f32⟩
  | .hbm, ⟨9, _⟩ => ⟨S1x2816, .f32⟩
  | .hbm, ⟨10, _⟩ => ⟨S1x2816, .f32⟩
  | .hbm, ⟨11, _⟩ => ⟨S1x2816, .f32⟩
  | .hbm, ⟨12, _⟩ => ⟨S1x2816, .f32⟩
  | .hbm, ⟨13, _⟩ => ⟨S1x2816, .f32⟩
  | .hbm, ⟨14, _⟩ => ⟨S1x2816, .f32⟩
  | .hbm, ⟨15, _⟩ => ⟨S1x2816, .f32⟩
  | .hbm, ⟨16, _⟩ => ⟨S1x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v3_8 : Ref sig .tc := ⟨.hbm, 15, rfl⟩
abbrev main_v3_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceFfnBIdeal.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S_ : Shape := ⟨0, ![]⟩
abbrev S2050x5632 : Shape := ⟨2, ![2050, 5632]⟩
abbrev S5632 : Shape := ⟨1, ![5632]⟩
abbrev S1x2816 : Shape := ⟨2, ![1, 2816]⟩

abbrev nBuf : Space → Nat
  | .hbm => 118
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S_, .f32⟩
  | .hbm, ⟨5, _⟩ => ⟨S1x5632, .f32⟩
  | .hbm, ⟨6, _⟩ => ⟨S2050x5632, .f32⟩
  | .hbm, ⟨7, _⟩ => ⟨S_, .f32⟩
  | .hbm, ⟨8, _⟩ => ⟨S1x5632, .f32⟩
  | .hbm, ⟨9, _⟩ => ⟨S_, .f32⟩
  | .hbm, ⟨10, _⟩ => ⟨S1x5632, .f32⟩
  | .hbm, ⟨11, _⟩ => ⟨S2048x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S2048x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S2048x5632, .f32⟩
  | .hbm, ⟨64, _⟩ => ⟨S2048x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S_, .f32⟩
  | .hbm, ⟨71, _⟩ => ⟨S2050x5632, .f32⟩
  | .hbm, ⟨72, _⟩ => ⟨S2048x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S2048x5632, .f32⟩
  | .hbm, ⟨77, _⟩ => ⟨S2048x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S_, .f32⟩
  | .hbm, ⟨85, _⟩ => ⟨S2050x5632, .f32⟩
  | .hbm, ⟨86, _⟩ => ⟨S2050x5632, .f32⟩
  | .hbm, ⟨87, _⟩ => ⟨S2048x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S2048x5632, .f32⟩
  | .hbm, ⟨92, _⟩ => ⟨S2048x5632, .f32⟩
  | .hbm, ⟨93, _⟩ => ⟨S_, .f32⟩
  | .hbm, ⟨94, _⟩ => ⟨S5632, .f32⟩
  | .hbm, ⟨95, _⟩ => ⟨S1x5632, .f32⟩
  | .hbm, ⟨96, _⟩ => ⟨S_, .f32⟩
  | .hbm, ⟨97, _⟩ => ⟨S3x5632, .f32⟩
  | .hbm, ⟨98, _⟩ => ⟨S3x5632, .f32⟩
  | .hbm, ⟨99, _⟩ => ⟨S_, .f32⟩
  | .hbm, ⟨100, _⟩ => ⟨S2050x5632, .f32⟩
  | .hbm, ⟨101, _⟩ => ⟨S2050x5632, .f32⟩
  | .hbm, ⟨102, _⟩ => ⟨S1x5632, .f32⟩
  | .hbm, ⟨103, _⟩ => ⟨S2048x5632, .f32⟩
  | .hbm, ⟨104, _⟩ => ⟨S1x5632, .f32⟩
  | .hbm, ⟨105, _⟩ => ⟨S1x5632, .f32⟩
  | .hbm, ⟨106, _⟩ => ⟨S1x5632, .f32⟩
  | .hbm, ⟨107, _⟩ => ⟨S1x5632, .f32⟩
  | .hbm, ⟨108, _⟩ => ⟨S2048x2816, .f32⟩
  | .hbm, ⟨109, _⟩ => ⟨S2048x2816, .f32⟩
  | .hbm, ⟨110, _⟩ => ⟨S1x2816, .f32⟩
  | .hbm, ⟨111, _⟩ => ⟨S1x2816, .f32⟩
  | .hbm, ⟨112, _⟩ => ⟨S1x2816, .f32⟩
  | .hbm, ⟨113, _⟩ => ⟨S1x2816, .f32⟩
  | .hbm, ⟨114, _⟩ => ⟨S1x2816, .f32⟩
  | .hbm, ⟨115, _⟩ => ⟨S1x2816, .f32⟩
  | .hbm, ⟨116, _⟩ => ⟨S1x2816, .f32⟩
  | .hbm, ⟨117, _⟩ => ⟨S1x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]
-- ==== KernelPrepF.lean ====
abbrev S2304x3072 : Shape := ⟨2, ![2304, 3072]⟩
abbrev S3x3072 : Shape := ⟨2, ![3, 3072]⟩
abbrev S_ : Shape := ⟨0, ![]⟩
abbrev S1x1024 : Shape := ⟨2, ![1, 1024]⟩
abbrev S1x3072 : Shape := ⟨2, ![1, 3072]⟩
abbrev S2304x128 : Shape := ⟨2, ![2304, 128]⟩
abbrev S1x128 : Shape := ⟨2, ![1, 128]⟩
abbrev S2304 : Shape := ⟨1, ![2304]⟩
abbrev S2304x1 : Shape := ⟨2, ![2304, 1]⟩

abbrev nBuf : Space → Nat
  | .hbm => 14
  | .vmem => 14
  | .smem => 0
  | _ => 0

abbrev bufTy : (tb : Table) → Fin (tcTables nBuf tb) → BufTy
  | .hbm, ⟨0, _⟩ => ⟨S2304x3072, .f32⟩
  | .hbm, ⟨1, _⟩ => ⟨S3x3072, .f32⟩
  | .hbm, ⟨2, _⟩ => ⟨S_, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x3072, .f32⟩
  | .hbm, ⟨7, _⟩ => ⟨S_, .f32⟩
  | .hbm, ⟨8, _⟩ => ⟨S1x1024, .f32⟩
  | .hbm, ⟨9, _⟩ => ⟨S1x3072, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S2304x3072, .f32⟩
  | .local _ .vmem, ⟨0, _⟩ => ⟨S2304x128, .f32⟩
  | .local _ .vmem, ⟨1, _⟩ => ⟨S2304x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2304x128, .f32⟩
  | .local _ .vmem, ⟨13, _⟩ => ⟨S2304x128, .f32⟩
  | _, _ => ⟨S2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePrepFIdeal.lean ====
abbrev S2304x3072 : Shape := ⟨2, ![2304, 3072]⟩
abbrev S3x3072 : Shape := ⟨2, ![3, 3072]⟩
abbrev S256x3072 : Shape := ⟨2, ![256, 3072]⟩
abbrev S_ : Shape := ⟨0, ![]⟩
abbrev S1x3072 : Shape := ⟨2, ![1, 3072]⟩
abbrev S258x3072 : Shape := ⟨2, ![258, 3072]⟩
abbrev S3072 : Shape := ⟨1, ![3072]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩
abbrev S2048x3072 : Shape := ⟨2, ![2048, 3072]⟩
abbrev S2050x3072 : Shape := ⟨2, ![2050, 3072]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩

abbrev nBuf : Space → Nat
  | .hbm => 131
  | .vmem => 0
  | .smem => 0
  | _ => 0

abbrev hbmTy0_0 (i : Nat) : BufTy := match i % 128 with
  | 0 => ⟨S2304x3072, .f32⟩
  | 1 => ⟨S3x3072, .f32⟩
  | 2 => ⟨S256x3072, .f32⟩
  | 3 => ⟨S_, .f32⟩
  | 4 => ⟨S1x3072, .f32⟩
  | 5 => ⟨S258x3072, .f32⟩
  | 6 => ⟨S256x3072, .f32⟩
  | 7 => ⟨S1x3072, .f32⟩
  | 8 => ⟨S3072, .f32⟩
  | 9 => ⟨S1x3072, .f32⟩
  | 10 => ⟨S256x3072, .f32⟩
  | 11 => ⟨S256x3072, .f32⟩
  | 12 => ⟨S256x3072, .f32⟩
  | 13 => ⟨S1x3072, .f32⟩
  | 14 => ⟨S3072, .f32⟩
  | 15 => ⟨S1x3072, .f32⟩
  | 16 => ⟨S256x3072, .f32⟩
  | 17 => ⟨S256x3072, .f32⟩
  | 18 => ⟨S256x3072, .f32⟩
  | 19 => ⟨S256x3072, .f32⟩
  | 20 => ⟨S1x3072, .f32⟩
  | 21 => ⟨S3072, .f32⟩
  | 22 => ⟨S1x3072, .f32⟩
  | 23 => ⟨S256x3072, .f32⟩
  | 24 => ⟨S256x3072, .f32⟩
  | 25 => ⟨S256x3072, .f32⟩
  | 26 => ⟨S256x3072, .f32⟩
  | 27 => ⟨S256x3072, .f32⟩
  | 28 => ⟨S_, .f32⟩
  | 29 => ⟨S256x3072, .f32⟩
  | 30 => ⟨S256x3072, .f32⟩
  | 31 => ⟨S_, .f32⟩
  | 32 => ⟨S256x3072, .f32⟩
  | 33 => ⟨S256x3072, .f32⟩
  | 34 => ⟨S256x3072, .f32⟩
  | 35 => ⟨S256x1024, .f32⟩
  | 36 => ⟨S256x1024, .f32⟩
  | 37 => ⟨S256x1024, .f32⟩
  | 38 => ⟨S256x8x128, .f32⟩
  | 39 => ⟨S256x8x128, .f32⟩
  | 40 => ⟨S_, .f32⟩
  | 41 => ⟨S256x8, .f32⟩
  | 42 => ⟨S256x8x1, .f32⟩
  | 43 => ⟨S_, .f32⟩
  | 44 => ⟨S256x8x1, .f32⟩
  | 45 => ⟨S256x8x1, .f32⟩
  | 46 => ⟨S256x8x1, .f32⟩
  | 47 => ⟨S256x8x128, .f32⟩
  | 48 => ⟨S256x8x128, .f32⟩
  | 49 => ⟨S_, .f32⟩
  | 50 => ⟨S256x8x128, .f32⟩
  | 51 => ⟨S256x8x128, .f32⟩
  | 52 => ⟨S256x8x128, .f32⟩
  | 53 => ⟨S256x8x128, .f32⟩
  | 54 => ⟨S_, .f32⟩
  | 55 => ⟨S256x8, .f32⟩
  | 56 => ⟨S256x8x1, .f32⟩
  | 57 => ⟨S_, .f32⟩
  | 58 => ⟨S256x8x1, .f32⟩
  | 59 => ⟨S256x8x1, .f32⟩
  | 60 => ⟨S256x8x1, .f32⟩
  | 61 => ⟨S256x8x128, .f32⟩
  | 62 => ⟨S256x8x128, .f32⟩
  | 63 => ⟨S256x1024, .f32⟩
  | 64 => ⟨S256x1024, .f32⟩
  | 65 => ⟨S256x3072, .f32⟩
  | 66 => ⟨S2048x3072, .f32⟩
  | 67 => ⟨S_, .f32⟩
  | 68 => ⟨S1x3072, .f32⟩
  | 69 => ⟨S2050x3072, .f32⟩
  | 70 => ⟨S2048x3072, .f32⟩
  | 71 => ⟨S1x3072, .f32⟩
  | 72 => ⟨S3072, .f32⟩
  | 73 => ⟨S1x3072, .f32⟩
  | 74 => ⟨S2048x3072, .f32⟩
  | 75 => ⟨S2048x3072, .f32⟩
  | 76 => ⟨S2048x3072, .f32⟩
  | 77 => ⟨S1x3072, .f32⟩
  | 78 => ⟨S3072, .f32⟩
  | 79 => ⟨S1x3072, .f32⟩
  | 80 => ⟨S2048x3072, .f32⟩
  | 81 => ⟨S2048x3072, .f32⟩
  | 82 => ⟨S2048x3072, .f32⟩
  | 83 => ⟨S2048x3072, .f32⟩
  | 84 => ⟨S1x3072, .f32⟩
  | 85 => ⟨S3072, .f32⟩
  | 86 => ⟨S1x3072, .f32⟩
  | 87 => ⟨S2048x3072, .f32⟩
  | 88 => ⟨S2048x3072, .f32⟩
  | 89 => ⟨S2048x3072, .f32⟩
  | 90 => ⟨S2048x3072, .f32⟩
  | 91 => ⟨S2048x3072, .f32⟩
  | 92 => ⟨S_, .f32⟩
  | 93 => ⟨S2048x3072, .f32⟩
  | 94 => ⟨S2048x3072, .f32⟩
  | 95 => ⟨S_, .f32⟩
  | 96 => ⟨S2048x3072, .f32⟩
  | 97 => ⟨S2048x3072, .f32⟩
  | 98 => ⟨S2048x3072, .f32⟩
  | 99 => ⟨S2048x1024, .f32⟩
  | 100 => ⟨S2048x1024, .f32⟩
  | 101 => ⟨S2048x1024, .f32⟩
  | 102 => ⟨S2048x8x128, .f32⟩
  | 103 => ⟨S2048x8x128, .f32⟩
  | 104 => ⟨S_, .f32⟩
  | 105 => ⟨S2048x8, .f32⟩
  | 106 => ⟨S2048x8x1, .f32⟩
  | 107 => ⟨S_, .f32⟩
  | 108 => ⟨S2048x8x1, .f32⟩
  | 109 => ⟨S2048x8x1, .f32⟩
  | 110 => ⟨S2048x8x1, .f32⟩
  | 111 => ⟨S2048x8x128, .f32⟩
  | 112 => ⟨S2048x8x128, .f32⟩
  | 113 => ⟨S_, .f32⟩
  | 114 => ⟨S2048x8x128, .f32⟩
  | 115 => ⟨S2048x8x128, .f32⟩
  | 116 => ⟨S2048x8x128, .f32⟩
  | 117 => ⟨S2048x8x128, .f32⟩
  | 118 => ⟨S_, .f32⟩
  | 119 => ⟨S2048x8, .f32⟩
  | 120 => ⟨S2048x8x1, .f32⟩
  | 121 => ⟨S_, .f32⟩
  | 122 => ⟨S2048x8x1, .f32⟩
  | 123 => ⟨S2048x8x1, .f32⟩
  | 124 => ⟨S2048x8x1, .f32⟩
  | 125 => ⟨S2048x8x128, .f32⟩
  | 126 => ⟨S2048x8x128, .f32⟩
  | 127 => ⟨S2048x1024, .f32⟩
  | _ => ⟨S2304x3072, .f32⟩

abbrev hbmTy0_1 (i : Nat) : BufTy := match i % 128 with
  | 0 => ⟨S2048x1024, .f32⟩
  | 1 => ⟨S2048x3072, .f32⟩
  | 2 => ⟨S2304x3072, .f32⟩
  | _ => ⟨S2304x3072, .f32⟩

abbrev hbmTy (i : Nat) : BufTy := match i / 128 with
  | 0 => hbmTy0_0 i
  | 1 => hbmTy0_1 i
  | _ => ⟨S2304x3072, .f32⟩

abbrev bufTy : (tb : Table) → Fin (tcTables nBuf tb) → BufTy
  | .hbm, ⟨i, _⟩ => hbmTy i
  | _, _ => ⟨S2304x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_6 : Ref sig .tc := ⟨.hbm, 104, rfl⟩
abbrev main_v79 : Ref sig .tc := ⟨.hbm, 105, rfl⟩
abbrev main_v80 : Ref sig .tc := ⟨.hbm, 106, rfl⟩
abbrev main_cst_7 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_8 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_9 : Ref sig .tc := ⟨.hbm, 118, rfl⟩
abbrev main_v90 : Ref sig .tc := ⟨.hbm, 119, rfl⟩
abbrev main_v91 : Ref sig .tc := ⟨.hbm, 120, rfl⟩
abbrev main_cst_10 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]
-- ==== KernelQF.lean ====
abbrev S2048x1024 : Shape := ⟨2, ![2048, 1024]⟩
abbrev S1x128 : Shape := ⟨2, ![1, 128]⟩
abbrev S2048x2x32 : Shape := ⟨3, ![2048, 2, 32]⟩
abbrev S2048x1x32 : Shape := ⟨3, ![2048, 1, 32]⟩
abbrev S2048x32 : Shape := ⟨2, ![2048, 32]⟩
abbrev S2048x128 : Shape := ⟨2, ![2048, 128]⟩
abbrev S128x128 : Shape := ⟨2, ![128, 128]⟩
abbrev S_ : Shape := ⟨0, ![]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 24
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x128, .f32⟩
  | .hbm, ⟨2, _⟩ => ⟨S2048x2x32, .f32⟩
  | .hbm, ⟨3, _⟩ => ⟨S2048x2x32, .f32⟩
  | .hbm, ⟨4, _⟩ => ⟨S2048x1x32, .f32⟩
  | .hbm, ⟨5, _⟩ => ⟨S2048x32, .f32⟩
  | .hbm, ⟨6, _⟩ => ⟨S2048x1x32, .f32⟩
  | .hbm, ⟨7, _⟩ => ⟨S2048x32, .f32⟩
  | .hbm, ⟨8, _⟩ => ⟨S2048x1x32, .f32⟩
  | .hbm, ⟨9, _⟩ => ⟨S2048x32, .f32⟩
  | .hbm, ⟨10, _⟩ => ⟨S2048x1x32, .f32⟩
  | .hbm, ⟨11, _⟩ => ⟨S2048x32, .f32⟩
  | .hbm, ⟨12, _⟩ => ⟨S2048x128, .f32⟩
  | .hbm, ⟨13, _⟩ => ⟨S2048x32, .f32⟩
  | .hbm, ⟨14, _⟩ => ⟨S2048x32, .f32⟩
  | .hbm, ⟨15, _⟩ => ⟨S2048x128, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x1024, .f32⟩
  | .local _ .vmem, ⟨9, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceQFIdeal.lean ====
abbrev S2048x1024 : Shape := ⟨2, ![2048, 1024]⟩
abbrev S1x128 : Shape := ⟨2, ![1, 128]⟩
abbrev S2048x2x32 : Shape := ⟨3, ![2048, 2, 32]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2048x8x2x2x32 : Shape := ⟨5, ![2048, 8, 2, 2, 32]⟩
abbrev S2048x8x2x1x32 : Shape := ⟨5, ![2048, 8, 2, 1, 32]⟩
abbrev S2048x8x2x32 : Shape := ⟨4, ![2048, 8, 2, 32]⟩
abbrev S2048x1x2x32 : Shape := ⟨4, ![2048, 1, 2, 32]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x128, .f32⟩
  | .hbm, ⟨2, _⟩ => ⟨S2048x2x32, .f32⟩
  | .hbm, ⟨3, _⟩ => ⟨S2048x2x32, .f32⟩
  | .hbm, ⟨4, _⟩ => ⟨S2048x8x128, .f32⟩
  | .hbm, ⟨5, _⟩ => ⟨S2048x8x128, .f32⟩
  | .hbm, ⟨6, _⟩ => ⟨S_, .f32⟩
  | .hbm, ⟨7, _⟩ => ⟨S2048x8, .f32⟩
  | .hbm, ⟨8, _⟩ => ⟨S2048x8x1, .f32⟩
  | .hbm, ⟨9, _⟩ => ⟨S_, .f32⟩
  | .hbm, ⟨10, _⟩ => ⟨S2048x8x1, .f32⟩
  | .hbm, ⟨11, _⟩ => ⟨S2048x8x1, .f32⟩
  | .hbm, ⟨12, _⟩ => ⟨S_, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S2048x8x128, .f32⟩
  | .hbm, ⟨17, _⟩ => ⟨S2048x8x128, .f32⟩
  | .hbm, ⟨18, _⟩ => ⟨S1x1x128, .f32⟩
  | .hbm, ⟨19, _⟩ => ⟨S2048x8x128, .f32⟩
  | .hbm, ⟨20, _⟩ => ⟨S2048x8x128, .f32⟩
  | .hbm, ⟨21, _⟩ => ⟨S2048x8x2x2x32, .f32⟩
  | .hbm, ⟨22, _⟩ => ⟨S2048x8x2x1x32, .f32⟩
  | .hbm, ⟨23, _⟩ => ⟨S2048x8x2x32, .f32⟩
  | .hbm, ⟨24, _⟩ => ⟨S2048x8x2x1x32, .f32⟩
  | .hbm, ⟨25, _⟩ => ⟨S2048x8x2x32, .f32⟩
  | .hbm, ⟨26, _⟩ => ⟨S2048x1x2x32, .f32⟩
  | .hbm, ⟨27, _⟩ => ⟨S2048x1x2x32, .f32⟩
  | .hbm, ⟨28, _⟩ => ⟨S2048x8x2x32, .f32⟩
  | .hbm, ⟨29, _⟩ => ⟨S2048x8x2x32, .f32⟩
  | .hbm, ⟨30, _⟩ => ⟨S2048x8x2x32, .f32⟩
  | .hbm, ⟨31, _⟩ => ⟨S2048x8x2x32, .f32⟩
  | .hbm, ⟨32, _⟩ => ⟨S2048x8x2x32, .f32⟩
  | .hbm, ⟨33, _⟩ => ⟨S2048x8x2x32, .f32⟩
  | .hbm, ⟨34, _⟩ => ⟨S2048x8x2x32, .f32⟩
  | .hbm, ⟨35, _⟩ => ⟨S2048x8x2x32, .f32⟩
  | .hbm, ⟨36, _⟩ => ⟨S2048x8x2x32, .f32⟩
  | .hbm, ⟨37, _⟩ => ⟨S2048x8x2x32, .f32⟩
  | .hbm, ⟨38, _⟩ => ⟨S2048x8x2x1x32, .f32⟩
  | .hbm, ⟨39, _⟩ => ⟨S2048x8x2x1x32, .f32⟩
  | .hbm, ⟨40, _⟩ => ⟨S2048x8x2x2x32, .f32⟩
  | .hbm, ⟨41, _⟩ => ⟨S2048x8x128, .f32⟩
  | .hbm, ⟨42, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== KernelKF.lean ====
abbrev S2304x256 : Shape := ⟨2, ![2304, 256]⟩
abbrev S1x128 : Shape := ⟨2, ![1, 128]⟩
abbrev S2048x2x32 : Shape := ⟨3, ![2048, 2, 32]⟩
abbrev S2048x1x32 : Shape := ⟨3, ![2048, 1, 32]⟩
abbrev S2048x32 : Shape := ⟨2, ![2048, 32]⟩
abbrev S2048x128 : Shape := ⟨2, ![2048, 128]⟩
abbrev S_ : Shape := ⟨0, ![]⟩
abbrev S256x128 : Shape := ⟨2, ![256, 128]⟩
abbrev S2304x128 : Shape := ⟨2, ![2304, 128]⟩
abbrev S128x128 : Shape := ⟨2, ![128, 128]⟩
abbrev S256x256 : Shape := ⟨2, ![256, 256]⟩
abbrev S256 : Shape := ⟨1, ![256]⟩
abbrev S256x1 : Shape := ⟨2, ![256, 1]⟩

abbrev nBuf : Space → Nat
  | .hbm => 30
  | .vmem => 10
  | .smem => 0
  | _ => 0

abbrev bufTy : (tb : Table) → Fin (tcTables nBuf tb) → BufTy
  | .hbm, ⟨0, _⟩ => ⟨S2304x256, .f32⟩
  | .hbm, ⟨1, _⟩ => ⟨S1x128, .f32⟩
  | .hbm, ⟨2, _⟩ => ⟨S2048x2x32, .f32⟩
  | .hbm, ⟨3, _⟩ => ⟨S2048x2x32, .f32⟩
  | .hbm, ⟨4, _⟩ => ⟨S2048x1x32, .f32⟩
  | .hbm, ⟨5, _⟩ => ⟨S2048x32, .f32⟩
  | .hbm, ⟨6, _⟩ => ⟨S2048x1x32, .f32⟩
  | .hbm, ⟨7, _⟩ => ⟨S2048x32, .f32⟩
  | .hbm, ⟨8, _⟩ => ⟨S2048x1x32, .f32⟩
  | .hbm, ⟨9, _⟩ => ⟨S2048x32, .f32⟩
  | .hbm, ⟨10, _⟩ => ⟨S2048x1x32, .f32⟩
  | .hbm, ⟨11, _⟩ => ⟨S2048x32, .f32⟩
  | .hbm, ⟨12, _⟩ => ⟨S2048x128, .f32⟩
  | .hbm, ⟨13, _⟩ => ⟨S2048x32, .f32⟩
  | .hbm, ⟨14, _⟩ => ⟨S2048x32, .f32⟩
  | .hbm, ⟨15, _⟩ => ⟨S2048x128, .f32⟩
  | .hbm, ⟨16, _⟩ => ⟨S_, .f32⟩
  | .hbm, ⟨17, _⟩ => ⟨S256x128, .f32⟩
  | .hbm, ⟨18, _⟩ => ⟨S2304x128, .f32⟩
  | .hbm, ⟨19, _⟩ => ⟨S_, .f32⟩
  | .hbm, ⟨20, _⟩ => ⟨S256x128, .f32⟩
  | .hbm, ⟨21, _⟩ => ⟨S2304x128, .f32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S2304x256, .f32⟩
  | .local _ .vmem, ⟨0, _⟩ => ⟨S256x256, .f32⟩
  | .local _ .vmem, ⟨1, _⟩ => ⟨S256x256, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x256, .f32⟩
  | .local _ .vmem, ⟨9, _⟩ => ⟨S256x256, .f32⟩
  | _, _ => ⟨S2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceKFIdeal.lean ====
abbrev S2304x256 : Shape := ⟨2, ![2304, 256]⟩
abbrev S1x128 : Shape := ⟨2, ![1, 128]⟩
abbrev S2048x2x32 : Shape := ⟨3, ![2048, 2, 32]⟩
abbrev S256x256 : Shape := ⟨2, ![256, 256]⟩
abbrev S256x2x128 : Shape := ⟨3, ![256, 2, 128]⟩
abbrev S_ : Shape := ⟨0, ![]⟩
abbrev S256x2 : Shape := ⟨2, ![256, 2]⟩
abbrev S256x2x1 : Shape := ⟨3, ![256, 2, 1]⟩
abbrev S1x1x128 : Shape := ⟨3, ![1, 1, 128]⟩
abbrev S2048x256 : Shape := ⟨2, ![2048, 256]⟩
abbrev S2048x2x128 : Shape := ⟨3, ![2048, 2, 128]⟩
abbrev S2048x2 : Shape := ⟨2, ![2048, 2]⟩
abbrev S2048x2x1 : Shape := ⟨3, ![2048, 2, 1]⟩
abbrev S2048x2x2x2x32 : Shape := ⟨5, ![2048, 2, 2, 2, 32]⟩
abbrev S2048x2x2x1x32 : Shape := ⟨5, ![2048, 2, 2, 1, 32]⟩
abbrev S2048x2x2x32 : Shape := ⟨4, ![2048, 2, 2, 32]⟩
abbrev S2048x1x2x32 : Shape := ⟨4, ![2048, 1, 2, 32]⟩
abbrev S2304x2x128 : Shape := ⟨3, ![2304, 2, 128]⟩

abbrev nBuf : Space → Nat
  | .hbm => 63
  | .vmem => 0
  | .smem => 0
  | _ => 0

abbrev bufTy : (tb : Table) → Fin (tcTables nBuf tb) → BufTy
  | .hbm, ⟨0, _⟩ => ⟨S2304x256, .f32⟩
  | .hbm, ⟨1, _⟩ => ⟨S1x128, .f32⟩
  | .hbm, ⟨2, _⟩ => ⟨S2048x2x32, .f32⟩
  | .hbm, ⟨3, _⟩ => ⟨S2048x2x32, .f32⟩
  | .hbm, ⟨4, _⟩ => ⟨S256x256, .f32⟩
  | .hbm, ⟨5, _⟩ => ⟨S256x2x128, .f32⟩
  | .hbm, ⟨6, _⟩ => ⟨S256x2x128, .f32⟩
  | .hbm, ⟨7, _⟩ => ⟨S_, .f32⟩
  | .hbm, ⟨8, _⟩ => ⟨S256x2, .f32⟩
  | .hbm, ⟨9, _⟩ => ⟨S256x2x1, .f32⟩
  | .hbm, ⟨10, _⟩ => ⟨S_, .f32⟩
  | .hbm, ⟨11, _⟩ => ⟨S256x2x1, .f32⟩
  | .hbm, ⟨12, _⟩ => ⟨S256x2x1, .f32⟩
  | .hbm, ⟨13, _⟩ => ⟨S_, .f32⟩
  | .hbm, ⟨14, _⟩ => ⟨S256x2x1, .f32⟩
  | .hbm, ⟨15, _⟩ => ⟨S256x2x1, .f32⟩
  | .hbm, ⟨16, _⟩ => ⟨S256x2x1, .f32⟩
  | .hbm, ⟨17, _⟩ => ⟨S256x2x128, .f32⟩
  | .hbm, ⟨18, _⟩ => ⟨S256x2x128, .f32⟩
  | .hbm, ⟨19, _⟩ => ⟨S1x1x128, .f32⟩
  | .hbm, ⟨20, _⟩ => ⟨S256x2x128, .f32⟩
  | .hbm, ⟨21, _⟩ => ⟨S256x2x128, .f32⟩
  | .hbm, ⟨22, _⟩ => ⟨S2048x256, .f32⟩
  | .hbm, ⟨23, _⟩ => ⟨S2048x2x128, .f32⟩
  | .hbm, ⟨24, _⟩ => ⟨S2048x2x128, .f32⟩
  | .hbm, ⟨25, _⟩ => ⟨S_, .f32⟩
  | .hbm, ⟨26, _⟩ => ⟨S2048x2, .f32⟩
  | .hbm, ⟨27, _⟩ => ⟨S2048x2x1, .f32⟩
  | .hbm, ⟨28, _⟩ => ⟨S_, .f32⟩
  | .hbm, ⟨29, _⟩ => ⟨S2048x2x1, .f32⟩
  | .hbm, ⟨30, _⟩ => ⟨S2048x2x1, .f32⟩
  | .hbm, ⟨31, _⟩ => ⟨S_, .f32⟩
  | .hbm, ⟨32, _⟩ => ⟨S2048x2x1, .f32⟩
  | .hbm, ⟨33, _⟩ => ⟨S2048x2x1, .f32⟩
  | .hbm, ⟨34, _⟩ => ⟨S2048x2x1, .f32⟩
  | .hbm, ⟨35, _⟩ => ⟨S2048x2x128, .f32⟩
  | .hbm, ⟨36, _⟩ => ⟨S2048x2x128, .f32⟩
  | .hbm, ⟨37, _⟩ => ⟨S1x1x128, .f32⟩
  | .hbm, ⟨38, _⟩ => ⟨S2048x2x128, .f32⟩
  | .hbm, ⟨39, _⟩ => ⟨S2048x2x128, .f32⟩
  | .hbm, ⟨40, _⟩ => ⟨S2048x2x2x2x32, .f32⟩
  | .hbm, ⟨41, _⟩ => ⟨S2048x2x2x1x32, .f32⟩
  | .hbm, ⟨42, _⟩ => ⟨S2048x2x2x32, .f32⟩
  | .hbm, ⟨43, _⟩ => ⟨S2048x2x2x1x32, .f32⟩
  | .hbm, ⟨44, _⟩ => ⟨S2048x2x2x32, .f32⟩
  | .hbm, ⟨45, _⟩ => ⟨S2048x1x2x32, .f32⟩
  | .hbm, ⟨46, _⟩ => ⟨S2048x1x2x32, .f32⟩
  | .hbm, ⟨47, _⟩ => ⟨S2048x2x2x32, .f32⟩
  | .hbm, ⟨48, _⟩ => ⟨S2048x2x2x32, .f32⟩
  | .hbm, ⟨49, _⟩ => ⟨S2048x2x2x32, .f32⟩
  | .hbm, ⟨50, _⟩ => ⟨S2048x2x2x32, .f32⟩
  | .hbm, ⟨51, _⟩ => ⟨S2048x2x2x32, .f32⟩
  | .hbm, ⟨52, _⟩ => ⟨S2048x2x2x32, .f32⟩
  | .hbm, ⟨53, _⟩ => ⟨S2048x2x2x32, .f32⟩
  | .hbm, ⟨54, _⟩ => ⟨S2048x2x2x32, .f32⟩
  | .hbm, ⟨55, _⟩ => ⟨S2048x2x2x32, .f32⟩
  | .hbm, ⟨56, _⟩ => ⟨S2048x2x2x32, .f32⟩
  | .hbm, ⟨57, _⟩ => ⟨S2048x2x2x1x32, .f32⟩
  | .hbm, ⟨58, _⟩ => ⟨S2048x2x2x1x32, .f32⟩
  | .hbm, ⟨59, _⟩ => ⟨S2048x2x2x2x32, .f32⟩
  | .hbm, ⟨60, _⟩ => ⟨S2048x2x128, .f32⟩
  | .hbm, ⟨61, _⟩ => ⟨S2304x2x128, .f32⟩
  | .hbm, ⟨62, _⟩ => ⟨S2304x256, .f32⟩
  | _, _ => ⟨S2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== KernelInsF.lean ====
abbrev S2304x1024 : Shape := ⟨2, ![2304, 1024]⟩
abbrev S1024x32 : Shape := ⟨2, ![1024, 32]⟩
abbrev S32x1024 : Shape := ⟨2, ![32, 1024]⟩
abbrev S2304x32 : Shape := ⟨2, ![2304, 32]⟩

abbrev nBuf : Space → Nat
  | .hbm => 5
  | .vmem => 3
  | .smem => 0
  | _ => 0

abbrev bufTy : (tb : Table) → Fin (tcTables nBuf tb) → BufTy
  | .hbm, ⟨0, _⟩ => ⟨S2304x1024, .f32⟩
  | .hbm, ⟨1, _⟩ => ⟨S1024x32, .f32⟩
  | .hbm, ⟨2, _⟩ => ⟨S1024x32, .bf16⟩
  | .hbm, ⟨3, _⟩ => ⟨S32x1024, .bf16⟩
  | .hbm, ⟨4, _⟩ => ⟨S2304x32, .f32⟩
  | .local _ .vmem, ⟨0, _⟩ => ⟨S2304x1024, .f32⟩
  | .local _ .vmem, ⟨1, _⟩ => ⟨S32x1024, .bf16⟩
  | .local _ .vmem, ⟨2, _⟩ => ⟨S2304x32, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2304x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceInsFIdeal.lean ====
abbrev S2304x1024 : Shape := ⟨2, ![2304, 1024]⟩
abbrev S1024x32 : Shape := ⟨2, ![1024, 32]⟩
abbrev S2304x32 : Shape := ⟨2, ![2304, 32]⟩

abbrev nBuf : Space → Nat
  | .hbm => 3
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x32, .f32⟩
  | .hbm, ⟨2, _⟩ => ⟨S2304x32, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelInsDa.lean ====
abbrev S2304x32 : Shape := ⟨2, ![2304, 32]⟩
abbrev S1024x32 : Shape := ⟨2, ![1024, 32]⟩
abbrev S32x1024 : Shape := ⟨2, ![32, 1024]⟩
abbrev S2304x1024 : Shape := ⟨2, ![2304, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2304x32, .f32⟩
  | .hbm, ⟨1, _⟩ => ⟨S1024x32, .f32⟩
  | .hbm, ⟨2, _⟩ => ⟨S1024x32, .bf16⟩
  | .hbm, ⟨3, _⟩ => ⟨S32x1024, .bf16⟩
  | .hbm, ⟨4, _⟩ => ⟨S2304x1024, .f32⟩
  | .local _ .vmem, ⟨0, _⟩ => ⟨S2304x32, .f32⟩
  | .local _ .vmem, ⟨1, _⟩ => ⟨S32x1024, .bf16⟩
  | .local _ .vmem, ⟨2, _⟩ => ⟨S2304x1024, .f32⟩
  | _, _ => ⟨S2304x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceInsDaIdeal.lean ====
abbrev S2304x32 : Shape := ⟨2, ![2304, 32]⟩
abbrev S1024x32 : Shape := ⟨2, ![1024, 32]⟩
abbrev S_ : Shape := ⟨0, ![]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x32, .f32⟩
  | .hbm, ⟨1, _⟩ => ⟨S1024x32, .f32⟩
  | .hbm, ⟨2, _⟩ => ⟨S_, .f32⟩
  | .hbm, ⟨3, _⟩ => ⟨S2304x1024, .f32⟩
  | .hbm, ⟨4, _⟩ => ⟨S2304x32, .f32⟩
  | .hbm, ⟨5, _⟩ => ⟨S2304x1024, .f32⟩
  | _, _ => ⟨S2304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelInsDw.lean ====
abbrev S2304x1024 : Shape := ⟨2, ![2304, 1024]⟩
abbrev S2304x32 : Shape := ⟨2, ![2304, 32]⟩
abbrev S32x1024 : Shape := ⟨2, ![32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2304x1024, .f32⟩
  | .hbm, ⟨1, _⟩ => ⟨S2304x32, .f32⟩
  | .hbm, ⟨2, _⟩ => ⟨S32x1024, .f32⟩
  | .local _ .vmem, ⟨0, _⟩ => ⟨S2304x32, .f32⟩
  | .local _ .vmem, ⟨1, _⟩ => ⟨S2304x1024, .f32⟩
  | .local _ .vmem, ⟨2, _⟩ => ⟨S32x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceInsDwIdeal.lean ====
abbrev S2304x1024 : Shape := ⟨2, ![2304, 1024]⟩
abbrev S2304x32 : Shape := ⟨2, ![2304, 32]⟩
abbrev S_ : Shape := ⟨0, ![]⟩
abbrev S1024x32 : Shape := ⟨2, ![1024, 32]⟩
abbrev S32x1024 : Shape := ⟨2, ![32, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x32, .f32⟩
  | .hbm, ⟨2, _⟩ => ⟨S_, .f32⟩
  | .hbm, ⟨3, _⟩ => ⟨S1024x32, .f32⟩
  | .hbm, ⟨4, _⟩ => ⟨S2304x32, .f32⟩
  | .hbm, ⟨5, _⟩ => ⟨S32x1024, .f32⟩
  | .hbm, ⟨6, _⟩ => ⟨S1024x32, .f32⟩
  | .hbm, ⟨7, _⟩ => ⟨S32x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelModF.lean ====
abbrev S16x1024 : Shape := ⟨2, ![16, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S16x6144 : Shape := ⟨2, ![16, 6144]⟩
abbrev S1x1024x1536 : Shape := ⟨3, ![1, 1024, 1536]⟩
abbrev S16x1536 : Shape := ⟨2, ![16, 1536]⟩
abbrev S1024x1536 : Shape := ⟨2, ![1024, 1536]⟩

abbrev nBuf : Space → Nat
  | .hbm => 6
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S1024x6144, .bf16⟩
  | .hbm, ⟨3, _⟩ => ⟨S1024x4x1536, .bf16⟩
  | .hbm, ⟨4, _⟩ => ⟨S4x1024x1536, .bf16⟩
  | .hbm, ⟨5, _⟩ => ⟨S16x6144, .f32⟩
  | .local _ .vmem, ⟨0, _⟩ => ⟨S16x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S16x1536, .f32⟩
  | .local _ .vmem, ⟨4, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceModFIdeal.lean ====
abbrev S16x1024 : Shape := ⟨2, ![16, 1024]⟩
abbrev S1024x6144 : Shape := ⟨2, ![1024, 6144]⟩
abbrev S16x6144 : Shape := ⟨2, ![16, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelModDa.lean ====
abbrev S16x6144 : Shape := ⟨2, ![16, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S16x1024 : Shape := ⟨2, ![16, 1024]⟩
abbrev S16x768 : Shape := ⟨2, ![16, 768]⟩
abbrev S1x1024x768 : Shape := ⟨3, ![1, 1024, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S16x6144, .f32⟩
  | .hbm, ⟨1, _⟩ => ⟨S1024x6144, .f32⟩
  | .hbm, ⟨2, _⟩ => ⟨S1024x6144, .bf16⟩
  | .hbm, ⟨3, _⟩ => ⟨S1024x4x1536, .bf16⟩
  | .hbm, ⟨4, _⟩ => ⟨S4x1024x1536, .bf16⟩
  | .hbm, ⟨5, _⟩ => ⟨S16x1024, .f32⟩
  | .local _ .vmem, ⟨0, _⟩ => ⟨S16x768, .f32⟩
  | .local _ .vmem, ⟨1, _⟩ => ⟨S16x768, .f32⟩
  | .local _ .vmem, ⟨2, _⟩ => ⟨S1x1024x768, .bf16⟩
  | .local _ .vmem, ⟨3, _⟩ => ⟨S1x1024x768, .bf16⟩
  | .local _ .vmem, ⟨4, _⟩ => ⟨S16x1024, .f32⟩
  | _, _ => ⟨S16x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceModDaIdeal.lean ====
abbrev S16x6144 : Shape := ⟨2, ![16, 6144]⟩
abbrev S1024x6144 : Shape := ⟨2, ![1024, 6144]⟩
abbrev S_ : Shape := ⟨0, ![]⟩
abbrev S16x1024 : Shape := ⟨2, ![16, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x6144, .f32⟩
  | .hbm, ⟨1, _⟩ => ⟨S1024x6144, .f32⟩
  | .hbm, ⟨2, _⟩ => ⟨S_, .f32⟩
  | .hbm, ⟨3, _⟩ => ⟨S16x1024, .f32⟩
  | .hbm, ⟨4, _⟩ => ⟨S16x6144, .f32⟩
  | .hbm, ⟨5, _⟩ => ⟨S16x1024, .f32⟩
  | _, _ => ⟨S16x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelModDw.lean ====
abbrev S16x1024 : Shape := ⟨2, ![16, 1024]⟩
abbrev S16x6144 : Shape := ⟨2, ![16, 6144]⟩
abbrev S1024x16 : Shape := ⟨2, ![1024, 16]⟩
abbrev S_ : Shape := ⟨0, ![]⟩
abbrev S1024x128 : Shape := ⟨2, ![1024, 128]⟩
abbrev S128x6144 : Shape := ⟨2, ![128, 6144]⟩
abbrev S4x1024x1536 : Shape := ⟨3, ![4, 1024, 1536]⟩
abbrev S128x1536 : Shape := ⟨2, ![128, 1536]⟩
abbrev S1x1024x1536 : Shape := ⟨3, ![1, 1024, 1536]⟩
abbrev S1024x1536 : Shape := ⟨2, ![1024, 1536]⟩

abbrev nBuf : Space → Nat
  | .hbm => 8
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S1024x16, .f32⟩
  | .hbm, ⟨3, _⟩ => ⟨S_, .f32⟩
  | .hbm, ⟨4, _⟩ => ⟨S1024x128, .f32⟩
  | .hbm, ⟨5, _⟩ => ⟨S_, .f32⟩
  | .hbm, ⟨6, _⟩ => ⟨S128x6144, .f32⟩
  | .hbm, ⟨7, _⟩ => ⟨S4x1024x1536, .f32⟩
  | .local _ .vmem, ⟨0, _⟩ => ⟨S1024x128, .f32⟩
  | .local _ .vmem, ⟨1, _⟩ => ⟨S128x1536, .f32⟩
  | .local _ .vmem, ⟨2, _⟩ => ⟨S128x1536, .f32⟩
  | .local _ .vmem, ⟨3, _⟩ => ⟨S1x1024x1536, .f32⟩
  | .local _ .vmem, ⟨4, _⟩ => ⟨S1x1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceModDwIdeal.lean ====
abbrev S16x1024 : Shape := ⟨2, ![16, 1024]⟩
abbrev S16x6144 : Shape := ⟨2, ![16, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S_, .f32⟩
  | .hbm, ⟨3, _⟩ => ⟨S1024x6144, .f32⟩
  | .hbm, ⟨4, _⟩ => ⟨S16x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdamMod.lean ====
abbrev S1024x1536 : Shape := ⟨2, ![1024, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamModIdeal.lean ====
abbrev S1024x1536 : Shape := ⟨2, ![1024, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamModIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSq.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelAdamSqIdeal.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSqIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUp.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamUpIdeal.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamUpIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamDown.lean ====
abbrev S704x1024 : Shape := ⟨2, ![704, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamDownIdeal.lean ====
abbrev S704x1024 : Shape := ⟨2, ![704, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamDownIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S168x128 : Shape := ⟨2, ![168, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamSmallIdeal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S1024x1928 : Shape := ⟨2, ![1024, 1928]⟩
abbrev S1928x1024 : Shape := ⟨2, ![1928, 1024]⟩
abbrev S1928x256 : Shape := ⟨2, ![1928, 256]⟩

abbrev nBuf : Space → Nat
  | .hbm => 11
  | .vmem => 16
  | .smem => 0
  | _ => 0

abbrev bufTy : (tb : Table) → Fin (tcTables nBuf tb) → BufTy
  | .hbm, ⟨0, _⟩ => ⟨S1024x1928, .f32⟩
  | .hbm, ⟨1, _⟩ => ⟨S1928x1024, .f32⟩
  | .hbm, ⟨2, _⟩ => ⟨S1024x1928, .f32⟩
  | .hbm, ⟨3, _⟩ => ⟨S1024x1928, .f32⟩
  | .hbm, ⟨4, _⟩ => ⟨S1928x1024, .f32⟩
  | .hbm, ⟨5, _⟩ => ⟨S1928x1024, .f32⟩
  | .hbm, ⟨6, _⟩ => ⟨S1928x1024, .f32⟩
  | .hbm, ⟨7, _⟩ => ⟨S1928x1024, .f32⟩
  | .hbm, ⟨8, _⟩ => ⟨S1928x1024, .f32⟩
  | .hbm, ⟨9, _⟩ => ⟨S1928x1024, .f32⟩
  | .hbm, ⟨10, _⟩ => ⟨S1928x1024, .f32⟩
  | .local _ .vmem, ⟨0, _⟩ => ⟨S1928x256, .f32⟩
  | .local _ .vmem, ⟨1, _⟩ => ⟨S1928x256, .f32⟩
  | .local _ .vmem, ⟨2, _⟩ => ⟨S1928x256, .f32⟩
  | .local _ .vmem, ⟨3, _⟩ => ⟨S1928x256, .f32⟩
  | .local _ .vmem, ⟨4, _⟩ => ⟨S1928x256, .f32⟩
  | .local _ .vmem, ⟨5, _⟩ => ⟨S1928x256, .f32⟩
  | .local _ .vmem, ⟨6, _⟩ => ⟨S1928x256, .f32⟩
  | .local _ .vmem, ⟨7, _⟩ => ⟨S1928x256, .f32⟩
  | .local _ .vmem, ⟨8, _⟩ => ⟨S1928x256, .f32⟩
  | .local _ .vmem, ⟨9, _⟩ => ⟨S1928x256, .f32⟩
  | .local _ .vmem, ⟨10, _⟩ => ⟨S1928x256, .f32⟩
  | .local _ .vmem, ⟨11, _⟩ => ⟨S1928x256, .f32⟩
  | .local _ .vmem, ⟨12, _⟩ => ⟨S1928x256, .f32⟩
  | .local _ .vmem, ⟨13, _⟩ => ⟨S1928x256, .f32⟩
  | .local _ .vmem, ⟨14, _⟩ => ⟨S1928x256, .f32⟩
  | .local _ .vmem, ⟨15, _⟩ => ⟨S1928x256, .f32⟩
  | _, _ => ⟨S1024x1928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1928x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1928x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1928x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1928x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1928x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1928x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1928x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1928x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S1024x1928 : Shape := ⟨2, ![1024, 1928]⟩
abbrev S1928x1024 : Shape := ⟨2, ![1928, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x1928, .f32⟩
  | .hbm, ⟨1, _⟩ => ⟨S1928x1024, .f32⟩
  | .hbm, ⟨2, _⟩ => ⟨S1024x1928, .f32⟩
  | .hbm, ⟨3, _⟩ => ⟨S1024x1928, .f32⟩
  | .hbm, ⟨4, _⟩ => ⟨S1024x1928, .f32⟩
  | .hbm, ⟨5, _⟩ => ⟨S_, .f32⟩
  | .hbm, ⟨6, _⟩ => ⟨S1024x1928, .f32⟩
  | .hbm, ⟨7, _⟩ => ⟨S1024x1928, .f32⟩
  | .hbm, ⟨8, _⟩ => ⟨S_, .f32⟩
  | .hbm, ⟨9, _⟩ => ⟨S1024x1928, .f32⟩
  | .hbm, ⟨10, _⟩ => ⟨S1024x1928, .f32⟩
  | .hbm, ⟨11, _⟩ => ⟨S1024x1928, .f32⟩
  | .hbm, ⟨12, _⟩ => ⟨S_, .f32⟩
  | .hbm, ⟨13, _⟩ => ⟨S1024x1928, .f32⟩
  | .hbm, ⟨14, _⟩ => ⟨S1024x1928, .f32⟩
  | .hbm, ⟨15, _⟩ => ⟨S1024x1928, .f32⟩
  | .hbm, ⟨16, _⟩ => ⟨S_, .f32⟩
  | .hbm, ⟨17, _⟩ => ⟨S1024x1928, .f32⟩
  | .hbm, ⟨18, _⟩ => ⟨S1024x1928, .f32⟩
  | .hbm, ⟨19, _⟩ => ⟨S1024x1928, .f32⟩
  | .hbm, ⟨20, _⟩ => ⟨S_, .f32⟩
  | .hbm, ⟨21, _⟩ => ⟨S1024x1928, .f32⟩
  | .hbm, ⟨22, _⟩ => ⟨S1024x1928, .f32⟩
  | .hbm, ⟨23, _⟩ => ⟨S_, .f32⟩
  | .hbm, ⟨24, _⟩ => ⟨S1024x1928, .f32⟩
  | .hbm, ⟨25, _⟩ => ⟨S1024x1928, .f32⟩
  | .hbm, ⟨26, _⟩ => ⟨S1024x1928, .f32⟩
  | .hbm, ⟨27, _⟩ => ⟨S_, .f32⟩
  | .hbm, ⟨28, _⟩ => ⟨S1024x1928, .f32⟩
  | .hbm, ⟨29, _⟩ => ⟨S1024x1928, .f32⟩
  | .hbm, ⟨30, _⟩ => ⟨S1024x1928, .f32⟩
  | .hbm, ⟨31, _⟩ => ⟨S_, .f32⟩
  | .hbm, ⟨32, _⟩ => ⟨S1024x1928, .f32⟩
  | .hbm, ⟨33, _⟩ => ⟨S1024x1928, .f32⟩
  | .hbm, ⟨34, _⟩ => ⟨S1024x1928, .f32⟩
  | .hbm, ⟨35, _⟩ => ⟨S_, .f32⟩
  | .hbm, ⟨36, _⟩ => ⟨S1024x1928, .f32⟩
  | .hbm, ⟨37, _⟩ => ⟨S1024x1928, .f32⟩
  | .hbm, ⟨38, _⟩ => ⟨S1928x1024, .f32⟩
  | .hbm, ⟨39, _⟩ => ⟨S1928x1024, .f32⟩
  | .hbm, ⟨40, _⟩ => ⟨S1928x1024, .f32⟩
  | .hbm, ⟨41, _⟩ => ⟨S1928x1024, .f32⟩
  | _, _ => ⟨S1024x1928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Rows.lean ====
/- One row of an attention's backward pass over the extended reals: the row's scores, its softmax, and the gradient
   of its scores, as the kernel spells it and as the derivative of the reference spells it. -/
module

public import Idealize.ShloMosaic.PureOps.Ideal
public import Idealize.ShloMosaic.Lib.IdealHost

@[expose] public section

noncomputable section

namespace Cert.Rows

open Idealize.ShloMosaic

/-- The scale both programs multiply a score by. -/
def sc : EReal := Ideal.ofBits .f32 0x3DB504F3#32

theorem sc_real : ∃ r : ℝ, sc = (r : EReal) := by
  unfold sc Ideal.ofBits Ideal.ieee
  exact ⟨_, by simp [-EReal.coe_mul]; rfl⟩

/-- A finite extended real is a real. -/
theorem real_of_abs_lt {x : EReal} (h : max x (-x) < ⊤) : ∃ r : ℝ, x = (r : EReal) := by
  induction x using EReal.rec with
  | bot => simp at h
  | top => simp at h
  | coe r => exact ⟨r, rfl⟩

section

variable {T D : ℕ}

/-- The score of a row of queries against key `j`. -/
def score (q : Fin D → EReal) (k : Fin T → Fin D → EReal) (j : Fin T) : EReal := (∑ d, q d * k j d) * sc

/-- The largest entry of a row, and minus infinity of an empty one. -/
def top (s : Fin T → EReal) : EReal := Finset.fold max ⊥ s Finset.univ

/-- The exponential of an entry less the row's largest. -/
def ex (s : Fin T → EReal) (j : Fin T) : EReal := Ideal.exp (s j - top s)

/-- The softmax, by the reciprocal of the row's sum. -/
def prob (s : Fin T → EReal) (j : Fin T) : EReal := ex s j * Ideal.div 1 (∑ i, ex s i)

/-- The gradient of the scores, from the softmax `p` and the gradient `dp` of the softmax. -/
def grad (p dp : Fin T → EReal) (j : Fin T) : EReal := p j * (dp j - ∑ i, p i * dp i) * sc

/-- The gradient of the scores of one row, from the row's queries, the keys, the values and the row's cotangent. -/
def gscore (q : Fin D → EReal) (k v : Fin T → Fin D → EReal) (o : Fin D → EReal) (j : Fin T) : EReal :=
  grad (prob (score q k)) (fun i => ∑ d, o d * v i d) j

theorem fold_max_real : ∀ (l : Finset (Fin T)) (s : Fin T → ℝ), l.Nonempty →
    ∃ r : ℝ, Finset.fold max (⊥ : EReal) (fun j => (s j : EReal)) l = (r : EReal) := by
  intro l s hl
  induction l using Finset.induction_on with
  | empty => exact absurd hl (by simp)
  | insert a l ha ih =>
    rw [Finset.fold_insert ha]
    rcases l.eq_empty_or_nonempty with rfl | hl'
    · exact ⟨s a, by simp⟩
    · obtain ⟨r, hr⟩ := ih hl'
      exact ⟨max (s a) r, by rw [hr]; exact (EReal.coe_strictMono.monotone.map_max).symm⟩

/-- Sums of products of reals are reals. -/
theorem sum_mul_real {ι : Type} (l : Finset ι) (a b : ι → EReal) (ha : ∀ i, ∃ r : ℝ, a i = (r : EReal))
    (hb : ∀ i, ∃ r : ℝ, b i = (r : EReal)) : ∃ r : ℝ, ∑ i ∈ l, a i * b i = (r : EReal) := by
  choose a' ha' using ha
  choose b' hb' using hb
  refine ⟨∑ i ∈ l, a' i * b' i, ?_⟩
  classical
  induction l using Finset.induction_on with
  | empty => simp
  | insert i l hi ih => rw [Finset.sum_insert hi, Finset.sum_insert hi, EReal.coe_add, ← ih, ha', hb', EReal.coe_mul]

theorem sum_coe {ι : Type} (l : Finset ι) (a : ι → ℝ) : ∑ i ∈ l, (a i : EReal) = ((∑ i ∈ l, a i : ℝ) : EReal) := by
  classical
  induction l using Finset.induction_on with
  | empty => simp
  | insert i l hi ih => rw [Finset.sum_insert hi, Finset.sum_insert hi, EReal.coe_add, ← ih]

/-- A nonnegative real multiplies into a sum of extended reals. -/
theorem mul_sum_coe {ι : Type} (l : Finset ι) (c : ℝ) (hc : 0 ≤ c) (f : ι → EReal) :
    (c : EReal) * ∑ i ∈ l, f i = ∑ i ∈ l, (c : EReal) * f i := by
  classical
  induction l using Finset.induction_on with
  | empty => simp
  | insert i l hi ih =>
    rw [Finset.sum_insert hi, Finset.sum_insert hi, ← ih]
    exact EReal.left_distrib_of_nonneg_of_ne_top (EReal.coe_nonneg.2 hc) (EReal.coe_ne_top c) _ _

theorem score_real {q : Fin D → EReal} {k : Fin T → Fin D → EReal} (hq : ∀ d, ∃ r : ℝ, q d = (r : EReal))
    (hk : ∀ j d, ∃ r : ℝ, k j d = (r : EReal)) (j : Fin T) : ∃ r : ℝ, score q k j = (r : EReal) := by
  obtain ⟨a, ha⟩ := sum_mul_real Finset.univ q (k j) hq (hk j)
  obtain ⟨b, hb⟩ := sc_real
  exact ⟨a * b, by unfold score; rw [ha, hb, EReal.coe_mul]⟩

/-- On real scores the exponentials of a row are positive reals. -/
theorem ex_real [NeZero T] {s : Fin T → EReal} (hs : ∀ j, ∃ r : ℝ, s j = (r : EReal)) :
    ∃ e : Fin T → ℝ, (∀ j, 0 < e j) ∧ ∀ j, ex s j = (e j : EReal) := by
  choose s' hs' using hs
  obtain rfl : s = fun j => (s' j : EReal) := funext hs'
  obtain ⟨M, hM⟩ := fold_max_real Finset.univ s' ⟨0, Finset.mem_univ _⟩
  refine ⟨fun j => Real.exp (s' j - M), fun j => Real.exp_pos _, fun j => ?_⟩
  unfold ex top
  rw [hM, ← EReal.coe_sub]
  rfl

theorem div_coe {x : EReal} {z : ℝ} (hz : 0 < z) : Ideal.div x (z : EReal) = x * ((z⁻¹ : ℝ) : EReal) := by
  unfold Ideal.div
  rw [if_neg (by exact_mod_cast hz.ne')]
  norm_cast

/-- The softmax by a quotient is the softmax by a product with the reciprocal. -/
theorem prob_eq [NeZero T] {s : Fin T → EReal} (hs : ∀ j, ∃ r : ℝ, s j = (r : EReal)) (j : Fin T) :
    Ideal.div (ex s j) (∑ i, ex s i) = prob s j := by
  obtain ⟨e, he, hes⟩ := ex_real hs
  unfold prob
  simp only [hes, sum_coe]
  have hz : 0 < ∑ i, e i := Finset.sum_pos (fun i _ => he i) ⟨0, Finset.mem_univ _⟩
  rw [div_coe hz, div_coe hz, one_mul]

/-- The derivative of a quotient, term by term, is the gradient of the softmax. -/
theorem grad_eq [NeZero T] {s : Fin T → EReal} (hs : ∀ j, ∃ r : ℝ, s j = (r : EReal)) (dp : Fin T → EReal) (j : Fin T) :
    (Ideal.div (dp j) (∑ i, ex s i)
        + -(∑ i, dp i * Ideal.div 1 ((∑ i, ex s i) * ∑ i, ex s i) * ex s i)) * ex s j * sc
      = grad (prob s) dp j := by
  obtain ⟨e, he, hes⟩ := ex_real hs
  unfold grad prob
  simp only [hes, sum_coe]
  have hz : 0 < ∑ i, e i := Finset.sum_pos (fun i _ => he i) ⟨0, Finset.mem_univ _⟩
  generalize (∑ i, e i) = z at hz
  rw [← EReal.coe_mul, div_coe hz, div_coe hz, div_coe (mul_pos hz hz), one_mul, one_mul, mul_inv, EReal.coe_mul]
  have hc : (0 : ℝ) ≤ z⁻¹ := (inv_pos.2 hz).le
  generalize z⁻¹ = c at hc
  have h1 : (∑ i, dp i * ((c : EReal) * (c : EReal)) * (e i : EReal)) = (c : EReal) * ∑ i, (e i : EReal) * (c : EReal) * dp i := by
    rw [mul_sum_coe _ c hc]
    exact Finset.sum_congr rfl fun i _ => by ac_rfl
  rw [h1, mul_comm (dp j), ← mul_neg]
  rw [← EReal.left_distrib_of_nonneg_of_ne_top (EReal.coe_nonneg.2 hc) (EReal.coe_ne_top c), ← sub_eq_add_neg]
  ac_rfl

end

end Cert.Rows

end
-- ==== Proof.Body.lean ====
/- What the kernel's body computes, entry by entry: the softmax and the gradient of the scores of each of its rows,
   and from them the block of the queries' gradient and the terms added to the keys' and the values' gradients. -/
module

public import proofs.«01_k».proof.Proof.Gen.KernelIdeal.Value
public import Idealize.ShloMosaic.Lib.Pipeline.ValueKit
public import Idealize.ShloMosaic.Lib.Pointwise
public import proofs.«01_k».proof.Proof.Rows

@[expose] public section

set_option maxRecDepth 16384

noncomputable section

namespace Cert.KernelIdeal.Body

open Cert.KernelIdeal Cert.KernelIdeal.Gen Cert.Rows Idealize.ShloMosaic Idealize.ShloMosaic.TcCoe Idealize.SL.Sem

/-- Half a block of queries or of cotangents. -/
abbrev Half := FVec Ideal S128x128 .f32
/-- A head's keys or values. -/
abbrev Head := FVec Ideal S2304x128 .f32

/-- A matrix by its rows. -/
def rows {n : ℕ} (x : FVec Ideal ⟨2, ![n, 128]⟩ .f32) (r : Fin n) (d : Fin 128) : EReal := x (ix2 r d)

/-- The gradient of the scores of row `r` of a block. -/
def gb {n : ℕ} (q : FVec Ideal ⟨2, ![n, 128]⟩ .f32) (k v : Head) (o : FVec Ideal ⟨2, ![n, 128]⟩ .f32) (r : Fin n)
    (j : Fin 2304) : EReal := gscore (rows q r) (rows k) (rows v) (rows o r) j

/-- The softmax of the scores of row `r` of a block. -/
def pb {n : ℕ} (q : FVec Ideal ⟨2, ![n, 128]⟩ .f32) (k : Head) (r : Fin n) (j : Fin 2304) : EReal :=
  prob (score (rows q r) (rows k)) j

variable (q o : Half) (k v : Head)

theorem ninf : Ideal.ofBits .f32 0xFF800000#32 = ⊥ := by
  simp [Ideal.ofBits, Ideal.ieee]

theorem pay11_eq (r : Fin 128) (j : Fin 2304) : k0_pay11 (F := Ideal) k q (ix2 r j) = ex (score (rows q r) (rows k)) j := by
  pointwise [k0_pay11, k0_pay7, k0_pay5]
  rw [ninf]
  rfl

theorem pay12_eq (r : Fin 128) (j : Fin 2304) : k0_pay12 (F := Ideal) k q (ix2 r j) = ex (score (rows q r) (rows k)) j := by
  pointwise [k0_pay12, k0_pay8, k0_pay5]
  rw [ninf]
  rfl

theorem pay14_eq (r : Fin 128) (j : Fin 2304) : k0_pay14 (F := Ideal) (k0_pay11 (F := Ideal) k q) (k0_pay13 (F := Ideal) k q) (ix2 r j) = pb q k r j := by
  pointwise [k0_pay14, k0_pay13]
  simp only [pay11_eq]
  rfl

theorem pay15_eq (r : Fin 128) (j : Fin 2304) : k0_pay15 (F := Ideal) (k0_pay12 (F := Ideal) k q) (ix2 r j) = pb q k r j := by
  pointwise [k0_pay15]
  simp only [pay12_eq]
  rfl

theorem pay16_eq (r : Fin 128) (j : Fin 2304) :
    k0_pay16 (F := Ideal) (k0_pay6 (F := Ideal) v) (k0_pay9 (F := Ideal) o) (k0_pay11 (F := Ideal) k q) (k0_pay13 (F := Ideal) k q) (ix2 r j) = gb q k v o r j := by
  pointwise [k0_pay16, k0_pay6, k0_pay9]
  simp only [pay14_eq]
  rfl

theorem pay17_eq (r : Fin 128) (j : Fin 2304) :
    k0_pay17 (F := Ideal) (k0_pay6 (F := Ideal) v) (k0_pay10 (F := Ideal) o) (k0_pay12 (F := Ideal) k q) (ix2 r j) = gb q k v o r j := by
  pointwise [k0_pay17, k0_pay6, k0_pay10]
  simp only [pay15_eq]
  rfl

theorem pay18_eq (y : S128x128.Idx) :
    k0_pay18 (F := Ideal) (k0_pay5 (F := Ideal) k) (k0_pay6 (F := Ideal) v) (k0_pay9 (F := Ideal) o) (k0_pay11 (F := Ideal) k q) (k0_pay13 (F := Ideal) k q) y
      = ∑ j : Fin 2304, gb q k v o (y 0) j * k (ix2 j (y 1)) := by
  pointwise [k0_pay18, k0_pay5]
  exact Finset.sum_congr rfl fun j _ => congrArg (· * _) (pay16_eq q o k v (y 0) j)

theorem pay19_eq (y : S128x128.Idx) :
    k0_pay19 (F := Ideal) (k0_pay5 (F := Ideal) k) (k0_pay6 (F := Ideal) v) (k0_pay10 (F := Ideal) o) (k0_pay12 (F := Ideal) k q) y
      = ∑ j : Fin 2304, gb q k v o (y 0) j * k (ix2 j (y 1)) := by
  pointwise [k0_pay19, k0_pay5]
  exact Finset.sum_congr rfl fun j _ => congrArg (· * _) (pay17_eq q o k v (y 0) j)

theorem pay21_eq (y : S2304x128.Idx) :
    k0_pay21 (F := Ideal) (k0_pay6 (F := Ideal) v) (k0_pay7 (F := Ideal) q) (k0_pay9 (F := Ideal) o) (k0_pay11 (F := Ideal) k q) (k0_pay13 (F := Ideal) k q) y
      = ∑ r : Fin 128, gb q k v o r (y 0) * q (ix2 r (y 1)) := by
  pointwise [k0_pay21, k0_pay7]
  exact Finset.sum_congr rfl fun r _ => congrArg (· * _) (pay16_eq q o k v r (y 0))

theorem pay22_eq (y : S2304x128.Idx) :
    k0_pay22 (F := Ideal) (k0_pay6 (F := Ideal) v) (k0_pay8 (F := Ideal) q) (k0_pay10 (F := Ideal) o) (k0_pay12 (F := Ideal) k q) y
      = ∑ r : Fin 128, gb q k v o r (y 0) * q (ix2 r (y 1)) := by
  pointwise [k0_pay22, k0_pay8]
  exact Finset.sum_congr rfl fun r _ => congrArg (· * _) (pay17_eq q o k v r (y 0))

/-- The keys' gradient gains the terms of the block's two halves. -/
theorem pay1_eq (acc : Head) (q' o' : Half) (y : S2304x128.Idx) :
    k0_pay1 (F := Ideal) (k0_pay20 (F := Ideal) acc) (k0_pay21 (F := Ideal) (k0_pay6 (F := Ideal) v) (k0_pay7 (F := Ideal) q) (k0_pay9 (F := Ideal) o) (k0_pay11 (F := Ideal) k q) (k0_pay13 (F := Ideal) k q))
      (k0_pay22 (F := Ideal) (k0_pay6 (F := Ideal) v) (k0_pay8 (F := Ideal) q') (k0_pay10 (F := Ideal) o') (k0_pay12 (F := Ideal) k q')) y
      = acc y + (∑ r : Fin 128, gb q k v o r (y 0) * q (ix2 r (y 1))
        + ∑ r : Fin 128, gb q' k v o' r (y 0) * q' (ix2 r (y 1))) := by
  rw [← pay21_eq, ← pay22_eq]
  generalize k0_pay21 (F := Ideal) (k0_pay6 (F := Ideal) v) (k0_pay7 (F := Ideal) q) (k0_pay9 (F := Ideal) o) (k0_pay11 (F := Ideal) k q) (k0_pay13 (F := Ideal) k q) = a
  generalize k0_pay22 (F := Ideal) (k0_pay6 (F := Ideal) v) (k0_pay8 (F := Ideal) q') (k0_pay10 (F := Ideal) o') (k0_pay12 (F := Ideal) k q') = b
  pointwise [k0_pay1, k0_pay20]

/-- The values' gradient gains the terms of the block's two halves. -/
theorem pay2_eq (acc : Head) (q' o' : Half) (y : S2304x128.Idx) :
    k0_pay2 (F := Ideal) (k0_pay9 (F := Ideal) o) (k0_pay10 (F := Ideal) o') (k0_pay14 (F := Ideal) (k0_pay11 (F := Ideal) k q) (k0_pay13 (F := Ideal) k q)) (k0_pay15 (F := Ideal) (k0_pay12 (F := Ideal) k q')) acc y
      = acc y + (∑ r : Fin 128, pb q k r (y 0) * o (ix2 r (y 1))
        + ∑ r : Fin 128, pb q' k r (y 0) * o' (ix2 r (y 1))) := by
  have h : ∀ a b : FVec Ideal S128x2304 .f32, k0_pay2 (F := Ideal) (k0_pay9 (F := Ideal) o) (k0_pay10 (F := Ideal) o') a b acc y
      = acc y + (∑ r : Fin 128, a (ix2 r (y 0)) * o (ix2 r (y 1)) + ∑ r : Fin 128, b (ix2 r (y 0)) * o' (ix2 r (y 1))) := by
    intro a b
    pointwise [k0_pay2, k0_pay9, k0_pay10]
  refine (h _ _).trans (congrArg (acc y + ·) (congrArg₂ (· + ·) ?_ ?_))
  · exact Finset.sum_congr rfl fun r _ => congrArg (· * _) (pay14_eq q k r (y 0))
  · exact Finset.sum_congr rfl fun r _ => congrArg (· * _) (pay15_eq q' k r (y 0))

theorem pay3_eq (y : S2304x128.Idx) : k0_pay3 (F := Ideal) y = 0 := by pointwise [k0_pay3]

theorem pay4_eq (y : S2304x128.Idx) : k0_pay4 (F := Ideal) y = 0 := by pointwise [k0_pay4]

end Cert.KernelIdeal.Body
-- ==== Proof.Model.lean ====
/- The three gradients of the attention as sums over its softmax rows, head by head: four query heads share each of
   the two key heads. -/
module

public import proofs.«01_k».proof.Proof.Rows
public import Idealize.ShloMosaic.Lib.Pointwise

@[expose] public section

noncomputable section

namespace Cert.Rows

open Idealize.ShloMosaic Idealize.SL.Sem

/-- The queries, their cotangent, and the gradient of the queries. -/
abbrev Wide := (⟨⟨2, ![2048, 1024]⟩, .f32⟩ : BufTy).Contents (Elt Ideal)
/-- The keys and the values, and their gradients. -/
abbrev Tall := (⟨⟨2, ![2304, 256]⟩, .f32⟩ : BufTy).Contents (Elt Ideal)

/-- Row `r` of query head `g` of group `h`. -/
def qrow (Q : Wide) (h : Fin 2) (g : Fin 4) (r : Fin 2048) (d : Fin 128) : EReal :=
  Q (ix2 r ⟨h.val * 512 + g.val * 128 + d.val, by omega⟩)

/-- Row `j` of key head `h`. -/
def krow (K : Tall) (h : Fin 2) (j : Fin 2304) (d : Fin 128) : EReal := K (ix2 j ⟨h.val * 128 + d.val, by omega⟩)

/-- The gradient of the score of query row `r`, head `g`, against key `j`, in group `h`. -/
def gs (Q : Wide) (K V : Tall) (O : Wide) (h : Fin 2) (g : Fin 4) (r : Fin 2048) (j : Fin 2304) : EReal :=
  gscore (qrow Q h g r) (krow K h) (krow V h) (qrow O h g r) j

/-- The softmax of the scores of query row `r`, head `g`, in group `h`. -/
def pr (Q : Wide) (K : Tall) (h : Fin 2) (g : Fin 4) (r : Fin 2048) (j : Fin 2304) : EReal :=
  prob (score (qrow Q h g r) (krow K h)) j

/-- The gradient of the queries. -/
def dq (Q : Wide) (K V : Tall) (O : Wide) : Wide := fun i =>
  ∑ j : Fin 2304, gs Q K V O ⟨(i 1).val / 512, by have := (i 1).isLt; change _ < 1024 at this; omega⟩
    ⟨(i 1).val / 128 % 4, by omega⟩ (i 0) j
      * krow K ⟨(i 1).val / 512, by have := (i 1).isLt; change _ < 1024 at this; omega⟩ j ⟨(i 1).val % 128, by omega⟩

/-- The gradient of the keys. -/
def dk (Q : Wide) (K V : Tall) (O : Wide) : Tall := fun i =>
  ∑ g : Fin 4, ∑ r : Fin 2048,
    gs Q K V O ⟨(i 1).val / 128, by have := (i 1).isLt; change _ < 256 at this; omega⟩ g r (i 0)
      * qrow Q ⟨(i 1).val / 128, by have := (i 1).isLt; change _ < 256 at this; omega⟩ g r ⟨(i 1).val % 128, by omega⟩

/-- The gradient of the values. -/
def dv (Q : Wide) (K : Tall) (O : Wide) : Tall := fun i =>
  ∑ g : Fin 4, ∑ r : Fin 2048,
    pr Q K ⟨(i 1).val / 128, by have := (i 1).isLt; change _ < 256 at this; omega⟩ g r (i 0)
      * qrow O ⟨(i 1).val / 128, by have := (i 1).isLt; change _ < 256 at this; omega⟩ g r ⟨(i 1).val % 128, by omega⟩

/-- The gradients at an entry whose row and head column are given. -/
theorem dq_at (Q : Wide) (K V : Tall) (O : Wide) (i : Shape.Idx ⟨2, ![2048, 1024]⟩) (h : Fin 2) (g : Fin 4) (r : Fin 2048)
    (d : Fin 128) (e0 : (i 0).val = r.val) (e1 : (i 1).val = h.val * 512 + g.val * 128 + d.val) :
    dq Q K V O i = ∑ j : Fin 2304, gs Q K V O h g r j * krow K h j d := by
  unfold dq
  have a0 : i 0 = r := Fin.ext e0
  have a1 : (⟨(i 1).val / 512, by have := (i 1).isLt; change _ < 1024 at this; omega⟩ : Fin 2) = h :=
    Fin.ext (by show (i 1).val / 512 = h.val; omega)
  have a2 : (⟨(i 1).val / 128 % 4, by omega⟩ : Fin 4) = g := Fin.ext (by show (i 1).val / 128 % 4 = g.val; omega)
  have a3 : (⟨(i 1).val % 128, by omega⟩ : Fin 128) = d := Fin.ext (by show (i 1).val % 128 = d.val; omega)
  rw [a0, a1, a2, a3]

theorem dk_at (Q : Wide) (K V : Tall) (O : Wide) (i : Shape.Idx ⟨2, ![2304, 256]⟩) (h : Fin 2) (j : Fin 2304) (d : Fin 128)
    (e0 : (i 0).val = j.val) (e1 : (i 1).val = h.val * 128 + d.val) :
    dk Q K V O i = ∑ g : Fin 4, ∑ r : Fin 2048, gs Q K V O h g r j * qrow Q h g r d := by
  unfold dk
  have a0 : i 0 = j := Fin.ext e0
  have a1 : (⟨(i 1).val / 128, by have := (i 1).isLt; change _ < 256 at this; omega⟩ : Fin 2) = h :=
    Fin.ext (by show (i 1).val / 128 = h.val; omega)
  have a3 : (⟨(i 1).val % 128, by omega⟩ : Fin 128) = d := Fin.ext (by show (i 1).val % 128 = d.val; omega)
  rw [a0, a1, a3]

theorem dv_at (Q : Wide) (K : Tall) (O : Wide) (i : Shape.Idx ⟨2, ![2304, 256]⟩) (h : Fin 2) (j : Fin 2304) (d : Fin 128)
    (e0 : (i 0).val = j.val) (e1 : (i 1).val = h.val * 128 + d.val) :
    dv Q K O i = ∑ g : Fin 4, ∑ r : Fin 2048, pr Q K h g r j * qrow O h g r d := by
  unfold dv
  have a0 : i 0 = j := Fin.ext e0
  have a1 : (⟨(i 1).val / 128, by have := (i 1).isLt; change _ < 256 at this; omega⟩ : Fin 2) = h :=
    Fin.ext (by show (i 1).val / 128 = h.val; omega)
  have a3 : (⟨(i 1).val % 128, by omega⟩ : Fin 128) = d := Fin.ext (by show (i 1).val % 128 = d.val; omega)
  rw [a0, a1, a3]

/-- The attention's result: the softmax rows times the values. -/
def attend (Q : Wide) (K V : Tall) : Wide := fun i =>
  ∑ j : Fin 2304, pr Q K ⟨(i 1).val / 512, by have := (i 1).isLt; change _ < 1024 at this; omega⟩
    ⟨(i 1).val / 128 % 4, by omega⟩ (i 0) j
      * krow V ⟨(i 1).val / 512, by have := (i 1).isLt; change _ < 1024 at this; omega⟩ j ⟨(i 1).val % 128, by omega⟩

theorem attend_at (Q : Wide) (K V : Tall) (i : Shape.Idx ⟨2, ![2048, 1024]⟩) (h : Fin 2) (g : Fin 4) (r : Fin 2048)
    (d : Fin 128) (e0 : (i 0).val = r.val) (e1 : (i 1).val = h.val * 512 + g.val * 128 + d.val) :
    attend Q K V i = ∑ j : Fin 2304, pr Q K h g r j * krow V h j d := by
  unfold attend
  have a0 : i 0 = r := Fin.ext e0
  have a1 : (⟨(i 1).val / 512, by have := (i 1).isLt; change _ < 1024 at this; omega⟩ : Fin 2) = h :=
    Fin.ext (by show (i 1).val / 512 = h.val; omega)
  have a2 : (⟨(i 1).val / 128 % 4, by omega⟩ : Fin 4) = g := Fin.ext (by show (i 1).val / 128 % 4 = g.val; omega)
  have a3 : (⟨(i 1).val % 128, by omega⟩ : Fin 128) = d := Fin.ext (by show (i 1).val % 128 = d.val; omega)
  rw [a0, a1, a2, a3]

end Cert.Rows
-- ==== Proof.Arrays.lean ====
/- The kernel's three result arrays, assembled from its grid points: the queries' gradient block by block, the keys'
   and the values' gradients as sums over the four query heads and the eight row blocks that share a key head. -/
module

public import proofs.«01_k».proof.Proof.Body
public import proofs.«01_k».proof.Proof.Model

@[expose] public section

set_option maxRecDepth 16384

noncomputable section

namespace Cert.KernelIdeal.Arrays

open Cert.KernelIdeal Cert.KernelIdeal.Gen Cert.KernelIdeal.Body Cert.Rows Idealize.ShloMosaic
open Idealize.ShloMosaic.TcCoe Idealize.SL.Sem

variable (m : (ℓ : Loc nD τ sig) → Buf (Elt Ideal) ℓ) (c : Dev nD)

/-- The four arguments on device `c`. -/
abbrev argQ : Wide := m ((c.tc : Thread nD τ).loc main_arg0)
abbrev argK : Tall := m ((c.tc : Thread nD τ).loc main_arg1)
abbrev argV : Tall := m ((c.tc : Thread nD τ).loc main_arg2)
abbrev argO : Wide := m ((c.tc : Thread nD τ).loc main_arg3)

/-- The blocks of the four arguments at a point. -/
abbrev blkQ (t : Fin cfg0.N) : FVec Ideal S256x128 .f32 := iblk m c 0 t
abbrev blkK (t : Fin cfg0.N) : Head := iblk m c 1 t
abbrev blkV (t : Fin cfg0.N) : Head := iblk m c 2 t
abbrev blkO (t : Fin cfg0.N) : FVec Ideal S256x128 .f32 := iblk m c 3 t

/-- The two halves of a block. -/
abbrev half0 (x : Vec Ideal S256x128 .f32) : Vec Ideal S128x128 .f32 := View.ld x (Rect.unit ![0, 0] ![128, 128] inb_S256x128_S128x128_0_0)
abbrev half1 (x : Vec Ideal S256x128 .f32) : Vec Ideal S128x128 .f32 := View.ld x (Rect.unit ![128, 0] ![128, 128] inb_S256x128_S128x128_128_0)

theorem idx : ∀ t : Fin cfg0.N, win0_0.index t = ![t.val % 8, t.val / 8] ∧ win0_1.index t = ![0, t.val / 32]
    ∧ win0_2.index t = ![0, t.val / 32] ∧ win0_3.index t = ![t.val % 8, t.val / 8] ∧ win0_4.index t = ![t.val % 8, t.val / 8]
    ∧ win0_5.index t = ![0, t.val / 32] ∧ win0_6.index t = ![0, t.val / 32] :=
  (by decide +kernel : ∀ t : Fin grid0.N, _)

theorem lt64 (t : Fin cfg0.N) : t.val < 64 := lt_of_lt_of_eq t.isLt N_0

/-- A point's key head, its query head within the group, and the array's row of the block's row `r`. -/
def kh (t : Fin cfg0.N) : Fin 2 := ⟨t.val / 32, by have := lt64 t; omega⟩
def hg (t : Fin cfg0.N) : Fin 4 := ⟨t.val / 8 % 4, by omega⟩
def row (t : Fin cfg0.N) (r : Fin 256) : Fin 2048 := ⟨t.val % 8 * 256 + r.val, by omega⟩

theorem rowsQ (t : Fin cfg0.N) (r : Fin 256) : rows (blkQ m c t) r = qrow (argQ m c) (kh t) (hg t) (row t r) := by
  funext d
  have := lt64 t
  unfold rows qrow kh hg row
  blk_point [iblk, V, idx t]

theorem rowsO (t : Fin cfg0.N) (r : Fin 256) : rows (blkO m c t) r = qrow (argO m c) (kh t) (hg t) (row t r) := by
  funext d
  have := lt64 t
  unfold rows qrow kh hg row
  blk_point [iblk, V, idx t]

theorem rowsK (t : Fin cfg0.N) : rows (blkK m c t) = krow (argK m c) (kh t) := by
  funext j d
  have := lt64 t
  unfold rows krow kh
  blk_point [iblk, V, idx t]

theorem rowsV (t : Fin cfg0.N) : rows (blkV m c t) = krow (argV m c) (kh t) := by
  funext j d
  have := lt64 t
  unfold rows krow kh
  blk_point [iblk, V, idx t]

/-- The gradient of the scores at a point's block row. -/
def gp (t : Fin cfg0.N) (r : Fin 256) (j : Fin 2304) : EReal :=
  gs (argQ m c) (argK m c) (argV m c) (argO m c) (kh t) (hg t) (row t r) j

theorem gb_eq (t : Fin cfg0.N) (r : Fin 256) (j : Fin 2304) :
    gb (blkQ m c t) (blkK m c t) (blkV m c t) (blkO m c t) r j = gp m c t r j := by
  unfold gb gp gs
  rw [rowsQ, rowsK, rowsV, rowsO]

theorem pb_eq (t : Fin cfg0.N) (r : Fin 256) (j : Fin 2304) :
    pb (blkQ m c t) (blkK m c t) r j = pr (argQ m c) (argK m c) (kh t) (hg t) (row t r) j := by
  unfold pb pr
  rw [rowsQ, rowsK]

theorem rows_half0 (x : Vec Ideal S256x128 .f32) (r : Fin 128) : rows (half0 x) r = rows x ⟨r.val, by omega⟩ := by
  funext d
  unfold rows
  exact View.ld_unit_apply_of x _ _ _ _ _ fun a => match a with
    | ⟨0, _⟩ => (Nat.zero_add _).symm
    | ⟨1, _⟩ => (Nat.zero_add _).symm

theorem rows_half1 (x : Vec Ideal S256x128 .f32) (r : Fin 128) : rows (half1 x) r = rows x ⟨128 + r.val, by omega⟩ := by
  funext d
  unfold rows
  exact View.ld_unit_apply_of x _ _ _ _ _ fun a => match a with
    | ⟨0, _⟩ => rfl
    | ⟨1, _⟩ => (Nat.zero_add _).symm

/-- A block's rows are those of its two halves. -/
theorem sum_halves (f : Fin 256 → EReal) :
    ∑ r : Fin 256, f r = ∑ r : Fin 128, f ⟨r.val, by omega⟩ + ∑ r : Fin 128, f ⟨128 + r.val, by omega⟩ :=
  Fin.sum_univ_add (a := 128) (b := 128) f

/-- The term a point adds to the keys' gradient. -/
def termK (t : Fin cfg0.N) (j : Fin 2304) (d : Fin 128) : EReal :=
  ∑ r : Fin 256, gp m c t r j * qrow (argQ m c) (kh t) (hg t) (row t r) d

/-- The term a point adds to the values' gradient. -/
def termV (t : Fin cfg0.N) (j : Fin 2304) (d : Fin 128) : EReal :=
  ∑ r : Fin 256, pr (argQ m c) (argK m c) (kh t) (hg t) (row t r) j * qrow (argO m c) (kh t) (hg t) (row t r) d

theorem gb_half0 (t : Fin cfg0.N) (r : Fin 128) (j : Fin 2304) :
    gb (half0 (blkQ m c t)) (blkK m c t) (blkV m c t) (half0 (blkO m c t)) r j = gp m c t ⟨r.val, by omega⟩ j := by
  rw [← gb_eq]
  unfold gb
  rw [rows_half0, rows_half0]

theorem gb_half1 (t : Fin cfg0.N) (r : Fin 128) (j : Fin 2304) :
    gb (half1 (blkQ m c t)) (blkK m c t) (blkV m c t) (half1 (blkO m c t)) r j = gp m c t ⟨128 + r.val, by omega⟩ j := by
  rw [← gb_eq]
  unfold gb
  rw [rows_half1, rows_half1]

theorem termK_eq (t : Fin cfg0.N) (j : Fin 2304) (d : Fin 128) :
    ∑ r : Fin 128, gb (half0 (blkQ m c t)) (blkK m c t) (blkV m c t) (half0 (blkO m c t)) r j * rows (half0 (blkQ m c t)) r d
      + ∑ r : Fin 128, gb (half1 (blkQ m c t)) (blkK m c t) (blkV m c t) (half1 (blkO m c t)) r j
        * rows (half1 (blkQ m c t)) r d = termK m c t j d := by
  unfold termK
  rw [sum_halves]
  simp only [gb_half0, gb_half1, rows_half0, rows_half1, rowsQ]

theorem termV_eq (t : Fin cfg0.N) (j : Fin 2304) (d : Fin 128) :
    ∑ r : Fin 128, pb (half0 (blkQ m c t)) (blkK m c t) r j * rows (half0 (blkO m c t)) r d
      + ∑ r : Fin 128, pb (half1 (blkQ m c t)) (blkK m c t) r j * rows (half1 (blkO m c t)) r d = termV m c t j d := by
  unfold termV pb pr
  rw [sum_halves]
  simp only [rows_half0, rows_half1, rowsQ, rowsK, rowsO]

/-- The run of points that writes a key head's block is the four query heads by the eight row blocks. -/
theorem points_eq (F : Fin 2 → Fin 4 → Fin 2048 → EReal) (t : Fin cfg0.N) (h : ∀ s : Fin 32, 32 * (t.val / 32) + s.val < cfg0.N) :
    ∑ s : Fin 32, ∑ r : Fin 256, F (kh ⟨32 * (t.val / 32) + s.val, h s⟩) (hg ⟨32 * (t.val / 32) + s.val, h s⟩)
      (row ⟨32 * (t.val / 32) + s.val, h s⟩ r) = ∑ g : Fin 4, ∑ r : Fin 2048, F (kh t) g r := by
  refine Fin.sum_points_lanes_congr 8 fun s r ha hl => ?_
  have e1 : kh ⟨32 * (t.val / 32) + s.val, h s⟩ = kh t :=
    Fin.ext (by show (32 * (t.val / 32) + s.val) / 32 = t.val / 32; omega)
  have e2 : hg ⟨32 * (t.val / 32) + s.val, h s⟩ = ⟨s.val / 8, ha⟩ :=
    Fin.ext (by show (32 * (t.val / 32) + s.val) / 8 % 4 = s.val / 8; omega)
  have e3 : row ⟨32 * (t.val / 32) + s.val, h s⟩ r = ⟨s.val % 8 * 256 + r.val, hl⟩ :=
    Fin.ext (by show (32 * (t.val / 32) + s.val) % 8 * 256 + r.val = s.val % 8 * 256 + r.val; omega)
  rw [e1, e2, e3]

theorem finalK : (dats m 0 c).arrAt 5 cfg0.N = dk (argQ m c) (argK m c) (argV m c) (argO m c) := by
  refine (dats m 0 c).arrAt_eq_of_covers 5 _ (by decide +kernel) fun t hf y => ?_
  blk_simp
  rw [after0_5, Pipeline.eq_sum_fin_of_reset_step_apply_of_flush (fun n h => (outsAt0 m c n h).2.1) 32 (fun _ => 0)
    (fun t y => termK m c t (y 0) (y 1))
    (fun t h j => by
      rw [outsAt0_A m c t h]
      frame_out
      refine (pay1_eq (half0 (blkQ m c t)) (half0 (blkO m c t)) (blkK m c t) (blkV m c t) _ (half1 (blkQ m c t))
        (half1 (blkO m c t)) j).trans ?_
      rw [pay3_eq]
      exact congrArg (0 + ·) (termK_eq m c t (j 0) (j 1)))
    (fun t h j => by
      rw [outsAt0_B m c t h]
      frame_out
      refine (pay1_eq (half0 (blkQ m c t)) (half0 (blkO m c t)) (blkK m c t) (blkV m c t) _ (half1 (blkQ m c t))
        (half1 (blkO m c t)) j).trans ?_
      exact congrArg (_ + ·) (termK_eq m c t (j 0) (j 1)))
    t ((flush0_5 t).mp hf) y, zero_add]
  refine (points_eq (fun h g r => gs (argQ m c) (argK m c) (argV m c) (argO m c) h g r (y 0) * qrow (argQ m c) h g r (y 1)) t _).trans ?_
  exact (dk_at _ _ _ _ _ (kh t) (y 0) (y 1) (by blk_simp [idx t]) (by blk_simp [idx t, kh])).symm

theorem finalV : (dats m 0 c).arrAt 6 cfg0.N = dv (argQ m c) (argK m c) (argO m c) := by
  refine (dats m 0 c).arrAt_eq_of_covers 6 _ (by decide +kernel) fun t hf y => ?_
  blk_simp
  rw [after0_6, Pipeline.eq_sum_fin_of_reset_step_apply_of_flush (fun n h => (outsAt0 m c n h).2.2) 32 (fun _ => 0)
    (fun t y => termV m c t (y 0) (y 1))
    (fun t h j => by
      rw [outsAt0_A m c t h]
      frame_out
      refine (pay2_eq (half0 (blkQ m c t)) (half0 (blkO m c t)) (blkK m c t) _ (half1 (blkQ m c t))
        (half1 (blkO m c t)) j).trans ?_
      rw [pay4_eq]
      exact congrArg (0 + ·) (termV_eq m c t (j 0) (j 1)))
    (fun t h j => by
      rw [outsAt0_B m c t h]
      frame_out
      refine (pay2_eq (half0 (blkQ m c t)) (half0 (blkO m c t)) (blkK m c t) _ (half1 (blkQ m c t))
        (half1 (blkO m c t)) j).trans ?_
      exact congrArg (_ + ·) (termV_eq m c t (j 0) (j 1)))
    t ((flush0_6 t).mp hf) y, zero_add]
  refine (points_eq (fun h g r => pr (argQ m c) (argK m c) h g r (y 0) * qrow (argO m c) h g r (y 1)) t _).trans ?_
  exact (dv_at _ _ _ _ (kh t) (y 0) (y 1) (by blk_simp [idx t]) (by blk_simp [idx t, kh])).symm

/-- The two halves of the block of the queries' gradient at a point. -/
theorem lower (t : Fin cfg0.N) (y : S256x128.Idx) (x : S128x128.Idx) (h0 : (y 0).val = (x 0).val) (h1 : (y 1).val = (x 1).val) :
    k0_pay18 (F := Ideal) (k0_pay5 (F := Ideal) (blkK m c t)) (k0_pay6 (F := Ideal) (blkV m c t))
      (k0_pay9 (F := Ideal) (half0 (blkO m c t))) (k0_pay11 (F := Ideal) (blkK m c t) (half0 (blkQ m c t)))
      (k0_pay13 (F := Ideal) (blkK m c t) (half0 (blkQ m c t))) x
      = ∑ j : Fin 2304, gp m c t (y 0) j * krow (argK m c) (kh t) j (y 1) := by
  have a0 : (⟨(x 0).val, by have := (x 0).isLt; change _ < 128 at this; omega⟩ : Fin 256) = y 0 := Fin.ext h0.symm
  have a1 : x 1 = y 1 := Fin.ext h1.symm
  refine (pay18_eq _ _ _ _ x).trans (Finset.sum_congr rfl fun j _ => ?_)
  rw [← rowsK]
  exact congrArg₂ (· * ·) ((gb_half0 m c t (x 0) j).trans (congrArg (gp m c t · j) a0)) (congrArg (rows (blkK m c t) j) a1)

theorem upper (t : Fin cfg0.N) (y : S256x128.Idx) (x : S128x128.Idx) (h0 : (y 0).val = 128 + (x 0).val)
    (h1 : (y 1).val = (x 1).val) :
    k0_pay19 (F := Ideal) (k0_pay5 (F := Ideal) (blkK m c t)) (k0_pay6 (F := Ideal) (blkV m c t))
      (k0_pay10 (F := Ideal) (half1 (blkO m c t))) (k0_pay12 (F := Ideal) (blkK m c t) (half1 (blkQ m c t))) x
      = ∑ j : Fin 2304, gp m c t (y 0) j * krow (argK m c) (kh t) j (y 1) := by
  have a0 : (⟨128 + (x 0).val, by have := (x 0).isLt; change _ < 128 at this; omega⟩ : Fin 256) = y 0 := Fin.ext h0.symm
  have a1 : x 1 = y 1 := Fin.ext h1.symm
  refine (pay19_eq _ _ _ _ x).trans (Finset.sum_congr rfl fun j _ => ?_)
  rw [← rowsK]
  exact congrArg₂ (· * ·) ((gb_half1 m c t (x 0) j).trans (congrArg (gp m c t · j) a0)) (congrArg (rows (blkK m c t) j) a1)

theorem blockQ (t : Fin cfg0.N) (y : S256x128.Idx) :
    (outsAt0 m c t.val t.isLt).1 y = ∑ j : Fin 2304, gp m c t (y 0) j * krow (argK m c) (kh t) j (y 1) := by
  by_cases h : t.val % 32 = 0
  · rw [outsAt0_A m c t h]
    frame_out
    canon_tiles x hx
    · exact upper m c t y x hx0 hx1
    · exact lower m c t y x hx0 hx1
  · rw [outsAt0_B m c t h]
    frame_out
    canon_tiles x hx
    · exact upper m c t y x hx0 hx1
    · exact lower m c t y x hx0 hx1

theorem finalQ : (dats m 0 c).arrAt 4 cfg0.N = dq (argQ m c) (argK m c) (argV m c) (argO m c) := by
  refine (dats m 0 c).arrAt_eq_of_covers 4 _ (by decide +kernel) fun t hf y => ?_
  blk_simp
  rw [after0_4]
  have ht := lt64 t
  have e1 : (((win0_4.blk t).view.emb y) 1).val = t.val / 8 * 128 + (y 1).val := by blk_simp [idx t]
  refine (blockQ m c t y).trans (dq_at _ _ _ _ _ (kh t) (hg t) (row t (y 0)) (y 1) (by blk_simp [idx t, row]) (e1.trans ?_)).symm
  show t.val / 8 * 128 + (y 1).val = t.val / 32 * 512 + t.val / 8 % 4 * 128 + (y 1).val
  omega

end Cert.KernelIdeal.Arrays
-- ==== Proof.RefVal.lean ====
/- The reference's three results, read element by element: each is a sum over the softmax rows of the attention, when
   the queries and the keys are finite. -/
module

public import proofs.«01_k».proof.Proof.Gen.ReferenceIdeal.Read
public import Idealize.ShloMosaic.Lib.Pointwise
public import proofs.«01_k».proof.Proof.Model

@[expose] public section

set_option maxRecDepth 16384

noncomputable section

namespace Cert.ReferenceIdeal.RefVal

open Cert.ReferenceIdeal Cert.ReferenceIdeal.Gen Cert.ReferenceIdeal.Read Cert.Rows Idealize.ShloMosaic
open Idealize.ShloMosaic.TcCoe Idealize.SL.Sem

variable (Q O : Wide) (K V : Tall)

theorem v6_eq (h : Fin 2) (g : Fin 4) (r : Fin 2048) (j : Fin 2304) :
    val_main_v6 Q K (ix4 h g r j) = score (qrow Q h g r) (krow K h) j := by
  pointwise [val_main_v6, val_main_v5, val_main_cst, val_main_v4, val_main_v3, val_main_v1, val_main_v0]
  unfold score sc
  exact congrArg (· * _) (Finset.sum_congr rfl fun d _ => mul_comm _ _)

/-- Minus infinity's bit pattern. -/
theorem ninf : Ideal.ofBits .f32 0xFF800000#32 = ⊥ := by
  simp [Ideal.ofBits, Ideal.ieee]

theorem v7_eq (h : Fin 2) (g : Fin 4) (r : Fin 2048) :
    val_main_v7 Q K (ix3 h g r) = top (score (qrow Q h g r) (krow K h)) := by
  have e : ∀ y : (⟨S2x4x2048x2304, .f32⟩ : BufTy).Contents (Elt Ideal),
      (Host.reduce (FloatOps.maximumf (F := Ideal) (φ := .f32)) y (val_main_cst_0 (F := Ideal))
        reducesTo_S2x4x2048x2304_S2x4x2048_d3 h_S_ : FVec Ideal S2x4x2048 .f32) (ix3 h g r)
        = Finset.fold max ⊥ (fun x : Fin 2304 => y (ix4 h g r x)) Finset.univ := by
    intro y
    pointwise [val_main_cst_0]
    rw [ninf]
  unfold val_main_v7
  exact (e _).trans (congrArg (fun s => Finset.fold max ⊥ s Finset.univ) (funext fun x => v6_eq Q K h g r x))

theorem v14_eq (h : Fin 2) (g : Fin 4) (r : Fin 2048) :
    val_main_v14 Q K (ix3 h g r) = top (score (qrow Q h g r) (krow K h)) := by
  rw [val_main_v14_apply, val_main_v13_apply, val_main_cst_2_apply, v7_eq]
  refine (congrArg (max · _) ninf).trans (max_eq_right bot_le)

theorem v27_eq (h : Fin 2) (g : Fin 4) (r : Fin 2048) (j : Fin 2304) :
    val_main_v27 Q K (ix4 h g r j) = ex (score (qrow Q h g r) (krow K h)) j := by
  pointwise [val_main_v27, val_main_v26, val_main_v25, val_main_v24]
  unfold ex
  rw [← v6_eq, ← v14_eq]

theorem v28_eq (h : Fin 2) (g : Fin 4) (r : Fin 2048) :
    val_main_v28 Q K (ix3 h g r) = ∑ j, ex (score (qrow Q h g r) (krow K h)) j := by
  pointwise [val_main_v28, val_main_cst_8]
  exact Finset.sum_congr rfl fun j _ => v27_eq Q K h g r j

theorem v31_eq (h : Fin 2) (g : Fin 4) (r : Fin 2048) (j : Fin 2304) :
    val_main_v31 Q K (ix4 h g r j) = Ideal.div (ex (score (qrow Q h g r) (krow K h)) j)
      (∑ i, ex (score (qrow Q h g r) (krow K h)) i) := by
  pointwise [val_main_v31, val_main_v30, val_main_v29]
  rw [← v27_eq, ← v28_eq]

theorem v40_eq (h : Fin 2) (g : Fin 4) (r : Fin 2048) (j : Fin 2304) :
    val_main_v40 V O (ix4 h g r j) = ∑ d, qrow O h g r d * krow V h j d := by
  pointwise [val_main_v40, val_main_v39, val_main_v38, val_main_v2]
  rfl

theorem v46_eq (h : Fin 2) (g : Fin 4) (r : Fin 2048) :
    val_main_v46 Q K V O (ix3 h g r) = ∑ j, (∑ d, qrow O h g r d * krow V h j d)
      * Ideal.div 1 ((∑ i, ex (score (qrow Q h g r) (krow K h)) i) * ∑ i, ex (score (qrow Q h g r) (krow K h)) i)
      * ex (score (qrow Q h g r) (krow K h)) j := by
  pointwise [val_main_v46, val_main_v45, val_main_v44, val_main_v43, val_main_v34, val_main_v33, val_main_v32,
    val_main_v29, val_main_cst_9, val_main_cst_10]
  refine Finset.sum_congr rfl fun j _ => ?_
  rw [← v27_eq, ← v28_eq, ← v40_eq]

theorem v56_eq (h : Fin 2) (g : Fin 4) (r : Fin 2048) (j : Fin 2304) :
    val_main_v56 Q K V O (ix4 h g r j) = (Ideal.div (∑ d, qrow O h g r d * krow V h j d)
      (∑ i, ex (score (qrow Q h g r) (krow K h)) i)
      + -(∑ j, (∑ d, qrow O h g r d * krow V h j d)
      * Ideal.div 1 ((∑ i, ex (score (qrow Q h g r) (krow K h)) i) * ∑ i, ex (score (qrow Q h g r) (krow K h)) i)
      * ex (score (qrow Q h g r) (krow K h)) j)) * ex (score (qrow Q h g r) (krow K h)) j * sc := by
  pointwise [val_main_v56, val_main_v55, val_main_v54, val_main_v53, val_main_v52, val_main_v51, val_main_v50,
    val_main_v49, val_main_v48, val_main_v47, val_main_v29, val_main_cst_11, val_main_cst_12]
  rw [← v46_eq, ← v27_eq, ← v28_eq, ← v40_eq, Fin.sum_univ_one]
  rfl

section

variable {Q K} (hQ : ∀ i, ∃ r : ℝ, Q i = (r : EReal)) (hK : ∀ i, ∃ r : ℝ, K i = (r : EReal))
include hQ hK

theorem score_rows (h : Fin 2) (g : Fin 4) (r : Fin 2048) :
    ∀ j, ∃ x : ℝ, score (qrow Q h g r) (krow K h) j = (x : EReal) :=
  score_real (fun _ => hQ _) (fun _ _ => hK _)

theorem v31_pr (h : Fin 2) (g : Fin 4) (r : Fin 2048) (j : Fin 2304) :
    val_main_v31 Q K (ix4 h g r j) = pr Q K h g r j :=
  (v31_eq Q K h g r j).trans (prob_eq (score_rows hQ hK h g r) j)

theorem v56_gs (h : Fin 2) (g : Fin 4) (r : Fin 2048) (j : Fin 2304) :
    val_main_v56 Q K V O (ix4 h g r j) = gs Q K V O h g r j := by
  rw [v56_eq]
  unfold gs gscore
  exact grad_eq (score_rows hQ hK h g r) (fun j => ∑ d, qrow O h g r d * krow V h j d) j

theorem v64_eq : val_main_v64 Q K V O = dq Q K V O := by
  funext i
  pointwise [val_main_v64, val_main_v59, val_main_v58, val_main_v57, val_main_v1]
  exact Finset.sum_congr rfl fun j _ => congrArg (· * _) (v56_gs O V hQ hK _ _ _ j)

theorem v60_eq (h : Fin 2) (j : Fin 2304) (d : Fin 128) : val_main_v60 Q K V O (ix3 h j d)
    = ∑ r : Fin 2048, ∑ g : Fin 4, gs Q K V O h g r j * qrow Q h g r d := by
  have e : ∀ y : (⟨S2x2304x2048x4, .f32⟩ : BufTy).Contents (Elt Ideal), (Host.dotGeneral (φ₁ := .f32) (φ₂ := .f32) dot_S2x2304x2048x4_S2048x2x4x128_S2x2304x128_23_02_1_3_0_1 none y
      (val_main_v0 (F := Ideal) Q) : FVec Ideal S2x2304x128 .f32) (ix3 h j d)
        = ∑ r : Fin 2048, ∑ g : Fin 4, y (ix4 h j r g) * val_main_v0 (F := Ideal) Q (ix4 r h g d) := by
    intro y
    generalize val_main_v0 (F := Ideal) Q = z
    pointwise []
  unfold val_main_v60
  refine (e _).trans (Finset.sum_congr rfl fun r _ => Finset.sum_congr rfl fun g _ => ?_)
  pointwise [val_main_v57, val_main_v0]
  exact congrArg (· * _) (v56_gs O V hQ hK h g r j)

theorem v63_eq : val_main_v63 Q K V O = dk Q K V O := by
  funext i
  pointwise [val_main_v63, val_main_v61]
  exact (v60_eq O V hQ hK _ _ _).trans Finset.sum_comm

theorem v41_eq (h : Fin 2) (j : Fin 2304) (d : Fin 128) : val_main_v41 Q K O (ix3 h d j)
    = ∑ g : Fin 4, ∑ r : Fin 2048, pr Q K h g r j * qrow O h g r d := by
  have e : ∀ (y : (⟨S2x128x4x2048, .f32⟩ : BufTy).Contents (Elt Ideal))
      (z : (⟨S2x4x2048x2304, .f32⟩ : BufTy).Contents (Elt Ideal)), (Host.dotGeneral (φ₁ := .f32) (φ₂ := .f32) dot_S2x128x4x2048_S2x4x2048x2304_S2x128x2304_23_12_1_3_0_0 none y z
      : FVec Ideal S2x128x2304 .f32) (ix3 h d j)
        = ∑ g : Fin 4, ∑ r : Fin 2048, (y (ix4 h d g r) * z (ix4 h g r j) : EReal) := by
    intro y z
    pointwise []
  unfold val_main_v41
  refine (e _ _).trans (Finset.sum_congr rfl fun g _ => Finset.sum_congr rfl fun r _ => ?_)
  rw [v31_pr hQ hK]
  pointwise [val_main_v39, val_main_v38]
  exact mul_comm _ _

theorem v62_eq : val_main_v62 Q K O = dv Q K O := by
  funext i
  pointwise [val_main_v62, val_main_v42]
  exact v41_eq O hQ hK _ _ _

end

end Cert.ReferenceIdeal.RefVal
-- ==== Proof.Finite.lean ====
/- What the precondition says: every query and every key is a real. -/
module

public import proofs.«01_k».proof.Pre_finite_qk
public import Idealize.ShloMosaic.Lib.ReduceAll
public import Idealize.ShloMosaic.Lib.StableHlo.Predicate
public import Idealize.ShloMosaic.Lib.Pointwise
public import proofs.«01_k».proof.Proof.Model

@[expose] public section

noncomputable section

namespace Cert.Pre_finite_qk

open Idealize.ShloMosaic Idealize.SL.Sem Cert.Rows

theorem facts : Facts where
  bcast_S_S2048x1024 := by decide
  reducesTo_S2048x1024_S_d0_1 := by decide
  h_S_ := by decide
  bcast_S_S2304x256 := by decide
  reducesTo_S2304x256_S_d0_1 := by decide

theorem pinf : Ideal.ofBits .f32 0x7F800000#32 = ⊤ := by
  simp [Ideal.ofBits, Ideal.ieee]

/-- An element that the comparison with infinity passes is a real. -/
theorem real_of_cmp {x : EReal} (h : Ideal.cmp .olt (max x (-x)) (Ideal.ofBits .f32 0x7F800000#32) = 1#1) :
    ∃ r : ℝ, x = (r : EReal) := by
  rw [pinf] at h
  exact real_of_abs_lt (of_decide_eq_true ((StableHlo.Predicate.ofBool_eq_one_iff _).mp h))

variable [Facts]
open Facts

theorem reals (Q : Wide) (K V : Tall) (O : Wide) (h : fn (F := Ideal) Q K V O = fun _ => 1#1) :
    (∀ i, ∃ r : ℝ, Q i = (r : EReal)) ∧ ∀ i, ∃ r : ℝ, K i = (r : EReal) := by
  have h0 := congrFun h (fun a => a.elim0)
  unfold fn at h0
  obtain ⟨hQ, hK⟩ := IntOp.andi_eq_one.mp h0
  haveI : Subsingleton S_.Idx := ⟨fun a b => funext fun k => k.elim0⟩
  exact ⟨fun i => real_of_cmp (Host.reduce_andi_all _ _ _ _ _ hQ i),
    fun i => real_of_cmp (Host.reduce_andi_all _ _ _ _ _ hK i)⟩

end Cert.Pre_finite_qk
-- ==== Proof.Attention.lean ====
/- The attention's backward pass: the reference's frame, and the kernel's three gradients against the reference's. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.RefVal
public import proofs.«01_k».proof.Proof.Finite
public import Idealize.ShloMosaic.Adequacy
public import Idealize.ShloMosaic.Init

@[expose] public section

noncomputable section

namespace Cert.ReferenceIdeal.Frame

open Idealize.ShloMosaic Idealize.SL.Sem

/-- The reference is host operations alone: its run ends at their composed terms, and no semaphore exists. -/
theorem frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run m g)

end Cert.ReferenceIdeal.Frame

namespace Cert.KernelIdeal.Claims

open Idealize.ShloMosaic Idealize.SL.Sem

/-- The kernel's gradients are the reference's, wherever the queries and the keys are finite. -/
theorem algebraic [Cert.Pre_finite_qk.Facts] : Cert.algebraic_KernelIdeal_ReferenceIdeal_pre_finite_qk
    (hKernelIdeal := Cert.KernelIdeal.Gen.facts) (hReferenceIdeal := Cert.ReferenceIdeal.Gen.facts) := by
  intro m g m' g' hpre hagree
  refine ⟨fun c => Cert.Rows.dq (Cert.KernelIdeal.Arrays.argQ m c) (Cert.KernelIdeal.Arrays.argK m c)
      (Cert.KernelIdeal.Arrays.argV m c) (Cert.KernelIdeal.Arrays.argO m c),
    fun c => Cert.Rows.dk (Cert.KernelIdeal.Arrays.argQ m c) (Cert.KernelIdeal.Arrays.argK m c)
      (Cert.KernelIdeal.Arrays.argV m c) (Cert.KernelIdeal.Arrays.argO m c),
    fun c => Cert.Rows.dv (Cert.KernelIdeal.Arrays.argQ m c) (Cert.KernelIdeal.Arrays.argK m c)
      (Cert.KernelIdeal.Arrays.argO m c), ?_, ?_⟩
  · refine (θ_run _ _ _).mono (fun r h c => ?_) (Cert.KernelIdeal.Value.run_blocks m g)
    obtain ⟨h0, h1, h2, hargs⟩ := h c
    exact ⟨h0.trans (Cert.KernelIdeal.Arrays.finalQ m c), h1.trans (Cert.KernelIdeal.Arrays.finalK m c),
      h2.trans (Cert.KernelIdeal.Arrays.finalV m c), hargs⟩
  · refine (θ_run _ _ _).mono (fun r h c => ?_) (Cert.ReferenceIdeal.Value.run m' g')
    obtain ⟨h0, h1, h2, hargs⟩ := h c
    obtain ⟨a0, a1, a2, a3⟩ := hagree c
    obtain ⟨hQ, hK⟩ := Cert.Pre_finite_qk.reals _ _ _ _ (hpre c)
    rw [Cert.ReferenceIdeal.Read.val_main_v64_eq, a0, a1, a2, a3, Cert.ReferenceIdeal.RefVal.v64_eq _ _ hQ hK] at h0
    rw [Cert.ReferenceIdeal.Read.val_main_v63_eq, a0, a1, a2, a3, Cert.ReferenceIdeal.RefVal.v63_eq _ _ hQ hK] at h1
    have h2' := h2.trans (Cert.ReferenceIdeal.Read.val_main_v62_eq _ _ _)
    rw [a0, a1, a3, Cert.ReferenceIdeal.RefVal.v62_eq _ hQ hK] at h2'
    exact ⟨h0, h1, h2', hargs⟩

end Cert.KernelIdeal.Claims

end
-- ==== Proof.InF.lean ====
/- The input projection: each block of output columns contracts all rows of the operand with a block of rows of the
   transposed weight. -/
module

public import proofs.«01_k».proof.Defs
public import proofs.«01_k».proof.Proof.Gen.KernelInF.Frame
public import proofs.«01_k».proof.Proof.Gen.KernelInFIdeal.Value
public import proofs.«01_k».proof.Proof.Gen.ReferenceInFIdeal.Run
public import proofs.«01_k».proof.Proof.Gen.ReferenceInFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInFIdeal.Claims

open Cert.KernelInFIdeal Cert.KernelInFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![t.val, 0] ∧ win0_2.index t = ![0, t.val] :=
  (by decide +kernel : ∀ t : Fin grid0.N, _)

/-- The kernel's result array is the reference's. -/
theorem final : (dats m 0 c).arrAt 2 cfg0.N = Cert.ReferenceInFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceInFIdeal.Read.val_main_v0]
  blk_point [iblk, V, idx t]

end Cert.KernelInFIdeal.Claims

namespace Cert.ReferenceInFIdeal.Frame

open Cert.ReferenceInFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInFIdeal.Frame

namespace Cert.KernelInFIdeal.Claims

open Idealize.ShloMosaic Idealize.SL.Sem

/-- The kernel and the reference leave the same array. -/
theorem algebraic : Cert.algebraic_KernelInFIdeal_ReferenceInFIdeal
    (hKernelInFIdeal := Cert.KernelInFIdeal.Gen.facts) (hReferenceInFIdeal := Cert.ReferenceInFIdeal.Gen.facts) := by
  intro m g m' g' _ hagree
  refine ⟨fun c => Cert.ReferenceInFIdeal.Read.val_main_v0 (m ((c.tc : Thread nD τ).loc main_arg0))
    (m ((c.tc : Thread nD τ).loc main_arg1)), ?_, ?_⟩
  · refine (θ_run _ _ _).mono (fun r h c => ?_) (Cert.KernelInFIdeal.Value.run_blocks m g)
    exact ⟨(h c).1.trans (final m c), (h c).2⟩
  · refine (θ_run _ _ _).mono (fun r h c => ?_) (Cert.ReferenceInFIdeal.Value.run m' g')
    obtain ⟨h0, hargs⟩ := h c
    obtain ⟨a0, a1⟩ := hagree c
    rw [Cert.ReferenceInFIdeal.Read.val_main_v0_eq, a0, a1] at h0
    exact ⟨h0, hargs⟩

end Cert.KernelInFIdeal.Claims
-- ==== Proof.InDa.lean ====
/- The gradient of the input projection's operand: the kernel adds three column blocks of the cotangent against the
   matching row blocks of the transposed weight, and the reference contracts all columns at once. -/
module

public import proofs.«01_k».proof.Defs
public import proofs.«01_k».proof.Proof.Gen.KernelInDa.Frame
public import proofs.«01_k».proof.Proof.Gen.KernelInDaIdeal.Value
public import proofs.«01_k».proof.Proof.Gen.ReferenceInDaIdeal.Run
public import proofs.«01_k».proof.Proof.Gen.ReferenceInDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInDaIdeal.Claims

open Cert.KernelInDaIdeal Cert.KernelInDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val / 3, t.val % 3] ∧ win0_1.index t = ![t.val % 3, 0] ∧ win0_2.index t = ![t.val / 3, 0] :=
  (by decide +kernel : ∀ t : Fin grid0.N, _)

/-- A point's product of its two blocks. -/
def part (a : Vec Ideal S768x2560 .f32) (b : Vec Ideal S2560x1024 .bf16) (j : S768x1024.Idx) : EReal :=
  ∑ k : Fin 2560, a (ix2 (j 0) k) * b (ix2 k (j 1))

theorem first (a : Vec Ideal S768x2560 .f32) (b : Vec Ideal S2560x1024 .bf16) (j : S768x1024.Idx) :
    k0_pay1 (F := Ideal) a b j = part a b j := by
  unfold part
  pointwise [k0_pay1]

theorem next (a : Vec Ideal S768x2560 .f32) (b : Vec Ideal S2560x1024 .bf16) (acc : Vec Ideal S768x1024 .f32) (j : S768x1024.Idx) :
    k0_pay2 (F := Ideal) a b acc j = acc j + part a b j := by
  unfold part
  pointwise [k0_pay2, k0_pay1]

/-- The kernel's result array is the reference's. -/
theorem final : (dats m 0 c).arrAt 2 cfg0.N = Cert.ReferenceInDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0)
    (fun p j => part (iblk m c 0 p) (iblk m c 1 p) j)
    (fun t h j => by
      rw [outsAt0_A m c t h (by omega)]
      frame_out
      rw [first, zero_add])
    (fun t h j => by
      rw [outsAt0_B m c t h (by omega)]
      frame_out
      exact next _ _ _ j)
    t ((flush0_2 t).mp hf) y, zero_add]
  pointwise [Cert.ReferenceInDaIdeal.Read.val_main_v2]
  refine Fin.sum_mul_add_congr fun s k hl => ?_
  blk_point [iblk, V, idx t, idx ⟨_, Pipeline.run_point_lt_of_flush t ((flush0_2 t).mp hf) s⟩]

end Cert.KernelInDaIdeal.Claims

namespace Cert.ReferenceInDaIdeal.Frame

open Cert.ReferenceInDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInDaIdeal.Frame

namespace Cert.KernelInDaIdeal.Claims

open Idealize.ShloMosaic Idealize.SL.Sem

/-- The kernel and the reference leave the same array. -/
theorem algebraic : Cert.algebraic_KernelInDaIdeal_ReferenceInDaIdeal
    (hKernelInDaIdeal := Cert.KernelInDaIdeal.Gen.facts) (hReferenceInDaIdeal := Cert.ReferenceInDaIdeal.Gen.facts) := by
  intro m g m' g' _ hagree
  refine ⟨fun c => Cert.ReferenceInDaIdeal.Read.val_main_v2 (m ((c.tc : Thread nD τ).loc main_arg0))
    (m ((c.tc : Thread nD τ).loc main_arg1)), ?_, ?_⟩
  · refine (θ_run _ _ _).mono (fun r h c => ?_) (Cert.KernelInDaIdeal.Value.run_blocks m g)
    exact ⟨(h c).1.trans (final m c), (h c).2⟩
  · refine (θ_run _ _ _).mono (fun r h c => ?_) (Cert.ReferenceInDaIdeal.Value.run m' g')
    obtain ⟨h0, hargs⟩ := h c
    obtain ⟨a0, a1⟩ := hagree c
    rw [Cert.ReferenceInDaIdeal.Read.val_main_v2_eq, a0, a1] at h0
    exact ⟨h0, hargs⟩

end Cert.KernelInDaIdeal.Claims
-- ==== Proof.InDw.lean ====
/- The gradient of the input projection's weight, in the transposed layout the kernel writes. -/
module

public import proofs.«01_k».proof.Defs
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.Gen.ReferenceInDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInDwIdeal.Claims

open Cert.KernelInDwIdeal Cert.KernelInDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val] ∧ win0_1.index t = ![0, 0] ∧ win0_2.index t = ![t.val, 0] :=
  (by decide +kernel : ∀ t : Fin grid0.N, _)

/-- The kernel's result array is the reference's. -/
theorem final : (dats m 0 c).arrAt 2 cfg0.N = Cert.ReferenceInDwIdeal.Read.val_main_v4
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceInDwIdeal.Read.val_main_v4, Cert.ReferenceInDwIdeal.Read.val_main_v3, Cert.ReferenceInDwIdeal.Read.val_main_v2]
  blk_point [iblk, V, idx t]

end Cert.KernelInDwIdeal.Claims

namespace Cert.ReferenceInDwIdeal.Frame

open Cert.ReferenceInDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInDwIdeal.Frame

namespace Cert.KernelInDwIdeal.Claims

open Idealize.ShloMosaic Idealize.SL.Sem

/-- The kernel and the reference leave the same array. -/
theorem algebraic : Cert.algebraic_KernelInDwIdeal_ReferenceInDwIdeal
    (hKernelInDwIdeal := Cert.KernelInDwIdeal.Gen.facts) (hReferenceInDwIdeal := Cert.ReferenceInDwIdeal.Gen.facts) := by
  intro m g m' g' _ hagree
  refine ⟨fun c => Cert.ReferenceInDwIdeal.Read.val_main_v4 (m ((c.tc : Thread nD τ).loc main_arg0))
    (m ((c.tc : Thread nD τ).loc main_arg1)), ?_, ?_⟩
  · refine (θ_run _ _ _).mono (fun r h c => ?_) (Cert.KernelInDwIdeal.Value.run_blocks m g)
    exact ⟨(h c).1.trans (final m c), (h c).2⟩
  · refine (θ_run _ _ _).mono (fun r h c => ?_) (Cert.ReferenceInDwIdeal.Value.run m' g')
    obtain ⟨h0, hargs⟩ := h c
    obtain ⟨a0, a1⟩ := hagree c
    rw [Cert.ReferenceInDwIdeal.Read.val_main_v4_eq, a0, a1] at h0
    exact ⟨h0, hargs⟩

end Cert.KernelInDwIdeal.Claims
-- ==== Proof.UpF.lean ====
/- The up projection: the weight arrives as the four chips' column shards. -/
module

public import proofs.«01_k».proof.Defs
public import proofs.«01_k».proof.Proof.Gen.KernelUpF.Frame
public import proofs.«01_k».proof.Proof.Gen.KernelUpFIdeal.Value
public import proofs.«01_k».proof.Proof.Gen.ReferenceUpFIdeal.Run
public import proofs.«01_k».proof.Proof.Gen.ReferenceUpFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelUpFIdeal.Claims

open Cert.KernelUpFIdeal Cert.KernelUpFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The kernel's result array is the reference's. -/
theorem final : (dats m 0 c).arrAt 2 cfg0.N = Cert.ReferenceUpFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceUpFIdeal.Read.val_main_v0]
  blk_point [iblk, V, idx t]

end Cert.KernelUpFIdeal.Claims

namespace Cert.ReferenceUpFIdeal.Frame

open Cert.ReferenceUpFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceUpFIdeal.Frame

namespace Cert.KernelUpFIdeal.Claims

open Idealize.ShloMosaic Idealize.SL.Sem

/-- The kernel and the reference leave the same array. -/
theorem algebraic : Cert.algebraic_KernelUpFIdeal_ReferenceUpFIdeal
    (hKernelUpFIdeal := Cert.KernelUpFIdeal.Gen.facts) (hReferenceUpFIdeal := Cert.ReferenceUpFIdeal.Gen.facts) := by
  intro m g m' g' _ hagree
  refine ⟨fun c => Cert.ReferenceUpFIdeal.Read.val_main_v0 (m ((c.tc : Thread nD τ).loc main_arg0))
    (m ((c.tc : Thread nD τ).loc main_arg1)), ?_, ?_⟩
  · refine (θ_run _ _ _).mono (fun r h c => ?_) (Cert.KernelUpFIdeal.Value.run_blocks m g)
    exact ⟨(h c).1.trans (final m c), (h c).2⟩
  · refine (θ_run _ _ _).mono (fun r h c => ?_) (Cert.ReferenceUpFIdeal.Value.run m' g')
    obtain ⟨h0, hargs⟩ := h c
    obtain ⟨a0, a1⟩ := hagree c
    rw [Cert.ReferenceUpFIdeal.Read.val_main_v0_eq, a0, a1] at h0
    exact ⟨h0, hargs⟩

end Cert.KernelUpFIdeal.Claims
-- ==== Proof.UpDa.lean ====
/- The gradient of the up projection's operand: the kernel adds the four chips' column shards one after another, and the
   reference contracts all columns at once. -/
module

public import proofs.«01_k».proof.Defs
public import proofs.«01_k».proof.Proof.Gen.KernelUpDa.Frame
public import proofs.«01_k».proof.Proof.Gen.KernelUpDaIdeal.Value
public import proofs.«01_k».proof.Proof.Gen.ReferenceUpDaIdeal.Run
public import proofs.«01_k».proof.Proof.Gen.ReferenceUpDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelUpDaIdeal.Claims

open Cert.KernelUpDaIdeal Cert.KernelUpDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- A point's product of its two blocks. -/
def part (a : Vec Ideal S1024x1408 .f32) (b : Vec Ideal S1x1024x1408 .bf16) (j : S1024x1024.Idx) : EReal :=
  ∑ k : Fin 1408, a (ix2 (j 0) k) * b (ix3 0 (j 1) k)

theorem first (a : Vec Ideal S1024x1408 .f32) (b : Vec Ideal S1x1024x1408 .bf16) (j : S1024x1024.Idx) :
    k0_pay1 (F := Ideal) a b j = part a b j := by
  unfold part
  pointwise [k0_pay1]

theorem next (a : Vec Ideal S1024x1408 .f32) (b : Vec Ideal S1x1024x1408 .bf16) (acc : Vec Ideal S1024x1024 .f32) (j : S1024x1024.Idx) :
    k0_pay2 (F := Ideal) a b acc j = acc j + part a b j := by
  unfold part
  pointwise [k0_pay2, k0_pay1]

/-- The kernel's result array is the reference's. -/
theorem final : (dats m 0 c).arrAt 2 cfg0.N = Cert.ReferenceUpDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (iblk m c 0 p) (iblk m c 1 p) j)
    (fun t h j => by
      rw [outsAt0_A m c t h (by omega)]
      frame_out
      rw [first, zero_add])
    (fun t h j => by
      rw [outsAt0_B m c t h (by omega)]
      frame_out
      exact next _ _ _ j)
    t ((flush0_2 t).mp hf) y, zero_add]
  pointwise [Cert.ReferenceUpDaIdeal.Read.val_main_v2]
  refine Fin.sum_mul_add_congr fun s k hl => ?_
  blk_point [iblk, V, idx t, idx ⟨_, Pipeline.run_point_lt_of_flush t ((flush0_2 t).mp hf) s⟩]

end Cert.KernelUpDaIdeal.Claims

namespace Cert.ReferenceUpDaIdeal.Frame

open Cert.ReferenceUpDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceUpDaIdeal.Frame

namespace Cert.KernelUpDaIdeal.Claims

open Idealize.ShloMosaic Idealize.SL.Sem

/-- The kernel and the reference leave the same array. -/
theorem algebraic : Cert.algebraic_KernelUpDaIdeal_ReferenceUpDaIdeal
    (hKernelUpDaIdeal := Cert.KernelUpDaIdeal.Gen.facts) (hReferenceUpDaIdeal := Cert.ReferenceUpDaIdeal.Gen.facts) := by
  intro m g m' g' _ hagree
  refine ⟨fun c => Cert.ReferenceUpDaIdeal.Read.val_main_v2 (m ((c.tc : Thread nD τ).loc main_arg0))
    (m ((c.tc : Thread nD τ).loc main_arg1)), ?_, ?_⟩
  · refine (θ_run _ _ _).mono (fun r h c => ?_) (Cert.KernelUpDaIdeal.Value.run_blocks m g)
    exact ⟨(h c).1.trans (final m c), (h c).2⟩
  · refine (θ_run _ _ _).mono (fun r h c => ?_) (Cert.ReferenceUpDaIdeal.Value.run m' g')
    obtain ⟨h0, hargs⟩ := h c
    obtain ⟨a0, a1⟩ := hagree c
    rw [Cert.ReferenceUpDaIdeal.Read.val_main_v2_eq, a0, a1] at h0
    exact ⟨h0, hargs⟩

end Cert.KernelUpDaIdeal.Claims
-- ==== Proof.UpDw.lean ====
/- The gradient of the up projection's weight, written as the four chips' column shards. -/
module

public import proofs.«01_k».proof.Defs
public import proofs.«01_k».proof.Proof.Gen.KernelUpDw.Frame
public import proofs.«01_k».proof.Proof.Gen.KernelUpDwIdeal.Value
public import proofs.«01_k».proof.Proof.Gen.ReferenceUpDwIdeal.Run
public import proofs.«01_k».proof.Proof.Gen.ReferenceUpDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelUpDwIdeal.Claims

open Cert.KernelUpDwIdeal Cert.KernelUpDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val % 4] ∧ win0_1.index t = ![0, t.val / 4] ∧ win0_2.index t = ![t.val / 4, t.val % 4, 0] :=
  (by decide +kernel : ∀ t : Fin grid0.N, _)

/-- The kernel's result array is the reference's. -/
theorem final : (dats m 0 c).arrAt 2 cfg0.N = Cert.ReferenceUpDwIdeal.Read.val_main_v5
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceUpDwIdeal.Read.val_main_v5, Cert.ReferenceUpDwIdeal.Read.val_main_v4, Cert.ReferenceUpDwIdeal.Read.val_main_v3, Cert.ReferenceUpDwIdeal.Read.val_main_v2]
  refine Fin.sum_fin_congr fun k => (mul_comm (G := EReal) _ _).trans ?_
  blk_point [iblk, V, idx t]

end Cert.KernelUpDwIdeal.Claims

namespace Cert.ReferenceUpDwIdeal.Frame

open Cert.ReferenceUpDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceUpDwIdeal.Frame

namespace Cert.KernelUpDwIdeal.Claims

open Idealize.ShloMosaic Idealize.SL.Sem

/-- The kernel and the reference leave the same array. -/
theorem algebraic : Cert.algebraic_KernelUpDwIdeal_ReferenceUpDwIdeal
    (hKernelUpDwIdeal := Cert.KernelUpDwIdeal.Gen.facts) (hReferenceUpDwIdeal := Cert.ReferenceUpDwIdeal.Gen.facts) := by
  intro m g m' g' _ hagree
  refine ⟨fun c => Cert.ReferenceUpDwIdeal.Read.val_main_v5 (m ((c.tc : Thread nD τ).loc main_arg0))
    (m ((c.tc : Thread nD τ).loc main_arg1)), ?_, ?_⟩
  · refine (θ_run _ _ _).mono (fun r h c => ?_) (Cert.KernelUpDwIdeal.Value.run_blocks m g)
    exact ⟨(h c).1.trans (final m c), (h c).2⟩
  · refine (θ_run _ _ _).mono (fun r h c => ?_) (Cert.ReferenceUpDwIdeal.Value.run m' g')
    obtain ⟨h0, hargs⟩ := h c
    obtain ⟨a0, a1⟩ := hagree c
    rw [Cert.ReferenceUpDwIdeal.Read.val_main_v5_eq, a0, a1] at h0
    exact ⟨h0, hargs⟩

end Cert.KernelUpDwIdeal.Claims
-- ==== Proof.DownF.lean ====
/- The down projection, four blocks of rows. -/
module

public import proofs.«01_k».proof.Defs
public import proofs.«01_k».proof.Proof.Gen.KernelDownF.Frame
public import proofs.«01_k».proof.Proof.Gen.KernelDownFIdeal.Value
public import proofs.«01_k».proof.Proof.Gen.ReferenceDownFIdeal.Run
public import proofs.«01_k».proof.Proof.Gen.ReferenceDownFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelDownFIdeal.Claims

open Cert.KernelDownFIdeal Cert.KernelDownFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0] ∧ win0_1.index t = ![0, 0] ∧ win0_2.index t = ![t.val, 0] :=
  (by decide +kernel : ∀ t : Fin grid0.N, _)

/-- The kernel's result array is the reference's. -/
theorem final : (dats m 0 c).arrAt 2 cfg0.N = Cert.ReferenceDownFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceDownFIdeal.Read.val_main_v0]
  blk_point [iblk, V, idx t]

end Cert.KernelDownFIdeal.Claims

namespace Cert.ReferenceDownFIdeal.Frame

open Cert.ReferenceDownFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceDownFIdeal.Frame

namespace Cert.KernelDownFIdeal.Claims

open Idealize.ShloMosaic Idealize.SL.Sem

/-- The kernel and the reference leave the same array. -/
theorem algebraic : Cert.algebraic_KernelDownFIdeal_ReferenceDownFIdeal
    (hKernelDownFIdeal := Cert.KernelDownFIdeal.Gen.facts) (hReferenceDownFIdeal := Cert.ReferenceDownFIdeal.Gen.facts) := by
  intro m g m' g' _ hagree
  refine ⟨fun c => Cert.ReferenceDownFIdeal.Read.val_main_v0 (m ((c.tc : Thread nD τ).loc main_arg0))
    (m ((c.tc : Thread nD τ).loc main_arg1)), ?_, ?_⟩
  · refine (θ_run _ _ _).mono (fun r h c => ?_) (Cert.KernelDownFIdeal.Value.run_blocks m g)
    exact ⟨(h c).1.trans (final m c), (h c).2⟩
  · refine (θ_run _ _ _).mono (fun r h c => ?_) (Cert.ReferenceDownFIdeal.Value.run m' g')
    obtain ⟨h0, hargs⟩ := h c
    obtain ⟨a0, a1⟩ := hagree c
    rw [Cert.ReferenceDownFIdeal.Read.val_main_v0_eq, a0, a1] at h0
    exact ⟨h0, hargs⟩

end Cert.KernelDownFIdeal.Claims
-- ==== Proof.DownDa.lean ====
/- The gradient of the down projection's operand, four blocks of rows. -/
module

public import proofs.«01_k».proof.Defs
public import proofs.«01_k».proof.Proof.Gen.KernelDownDa.Frame
public import proofs.«01_k».proof.Proof.Gen.KernelDownDaIdeal.Value
public import proofs.«01_k».proof.Proof.Gen.ReferenceDownDaIdeal.Run
public import proofs.«01_k».proof.Proof.Gen.ReferenceDownDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelDownDaIdeal.Claims

open Cert.KernelDownDaIdeal Cert.KernelDownDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0] ∧ win0_1.index t = ![0, 0] ∧ win0_2.index t = ![t.val, 0] :=
  (by decide +kernel : ∀ t : Fin grid0.N, _)

/-- The kernel's result array is the reference's. -/
theorem final : (dats m 0 c).arrAt 2 cfg0.N = Cert.ReferenceDownDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceDownDaIdeal.Read.val_main_v2]
  blk_point [iblk, V, idx t]

end Cert.KernelDownDaIdeal.Claims

namespace Cert.ReferenceDownDaIdeal.Frame

open Cert.ReferenceDownDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceDownDaIdeal.Frame

namespace Cert.KernelDownDaIdeal.Claims

open Idealize.ShloMosaic Idealize.SL.Sem

/-- The kernel and the reference leave the same array. -/
theorem algebraic : Cert.algebraic_KernelDownDaIdeal_ReferenceDownDaIdeal
    (hKernelDownDaIdeal := Cert.KernelDownDaIdeal.Gen.facts) (hReferenceDownDaIdeal := Cert.ReferenceDownDaIdeal.Gen.facts) := by
  intro m g m' g' _ hagree
  refine ⟨fun c => Cert.ReferenceDownDaIdeal.Read.val_main_v2 (m ((c.tc : Thread nD τ).loc main_arg0))
    (m ((c.tc : Thread nD τ).loc main_arg1)), ?_, ?_⟩
  · refine (θ_run _ _ _).mono (fun r h c => ?_) (Cert.KernelDownDaIdeal.Value.run_blocks m g)
    exact ⟨(h c).1.trans (final m c), (h c).2⟩
  · refine (θ_run _ _ _).mono (fun r h c => ?_) (Cert.ReferenceDownDaIdeal.Value.run m' g')
    obtain ⟨h0, hargs⟩ := h c
    obtain ⟨a0, a1⟩ := hagree c
    rw [Cert.ReferenceDownDaIdeal.Read.val_main_v2_eq, a0, a1] at h0
    exact ⟨h0, hargs⟩

end Cert.KernelDownDaIdeal.Claims
-- ==== Proof.DownDw.lean ====
/- The gradient of the down projection's weight, eleven blocks of rows. -/
module

public import proofs.«01_k».proof.Defs
public import proofs.«01_k».proof.Proof.Gen.KernelDownDw.Frame
public import proofs.«01_k».proof.Proof.Gen.KernelDownDwIdeal.Value
public import proofs.«01_k».proof.Proof.Gen.ReferenceDownDwIdeal.Run
public import proofs.«01_k».proof.Proof.Gen.ReferenceDownDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelDownDwIdeal.Claims

open Cert.KernelDownDwIdeal Cert.KernelDownDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val] ∧ win0_1.index t = ![0, 0] ∧ win0_2.index t = ![t.val, 0] :=
  (by decide +kernel : ∀ t : Fin grid0.N, _)

/-- The kernel's result array is the reference's. -/
theorem final : (dats m 0 c).arrAt 2 cfg0.N = Cert.ReferenceDownDwIdeal.Read.val_main_v3
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceDownDwIdeal.Read.val_main_v3, Cert.ReferenceDownDwIdeal.Read.val_main_v2]
  refine Fin.sum_fin_congr fun k => (mul_comm (G := EReal) _ _).trans ?_
  blk_point [iblk, V, idx t]

end Cert.KernelDownDwIdeal.Claims

namespace Cert.ReferenceDownDwIdeal.Frame

open Cert.ReferenceDownDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceDownDwIdeal.Frame

namespace Cert.KernelDownDwIdeal.Claims

open Idealize.ShloMosaic Idealize.SL.Sem

/-- The kernel and the reference leave the same array. -/
theorem algebraic : Cert.algebraic_KernelDownDwIdeal_ReferenceDownDwIdeal
    (hKernelDownDwIdeal := Cert.KernelDownDwIdeal.Gen.facts) (hReferenceDownDwIdeal := Cert.ReferenceDownDwIdeal.Gen.facts) := by
  intro m g m' g' _ hagree
  refine ⟨fun c => Cert.ReferenceDownDwIdeal.Read.val_main_v3 (m ((c.tc : Thread nD τ).loc main_arg0))
    (m ((c.tc : Thread nD τ).loc main_arg1)), ?_, ?_⟩
  · refine (θ_run _ _ _).mono (fun r h c => ?_) (Cert.KernelDownDwIdeal.Value.run_blocks m g)
    exact ⟨(h c).1.trans (final m c), (h c).2⟩
  · refine (θ_run _ _ _).mono (fun r h c => ?_) (Cert.ReferenceDownDwIdeal.Value.run m' g')
    obtain ⟨h0, hargs⟩ := h c
    obtain ⟨a0, a1⟩ := hagree c
    rw [Cert.ReferenceDownDwIdeal.Read.val_main_v3_eq, a0, a1] at h0
    exact ⟨h0, hargs⟩

end Cert.KernelDownDwIdeal.Claims
-- ==== Proof.OutF.lean ====
/- The output projection, two blocks of columns. -/
module

public import proofs.«01_k».proof.Defs
public import proofs.«01_k».proof.Proof.Gen.KernelOutF.Frame
public import proofs.«01_k».proof.Proof.Gen.KernelOutFIdeal.Value
public import proofs.«01_k».proof.Proof.Gen.ReferenceOutFIdeal.Run
public import proofs.«01_k».proof.Proof.Gen.ReferenceOutFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelOutFIdeal.Claims

open Cert.KernelOutFIdeal Cert.KernelOutFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, t.val] ∧ win0_2.index t = ![0, t.val] :=
  (by decide +kernel : ∀ t : Fin grid0.N, _)

/-- The kernel's result array is the reference's. -/
theorem final : (dats m 0 c).arrAt 2 cfg0.N = Cert.ReferenceOutFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceOutFIdeal.Read.val_main_v0]
  blk_point [iblk, V, idx t]

end Cert.KernelOutFIdeal.Claims

namespace Cert.ReferenceOutFIdeal.Frame

open Cert.ReferenceOutFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceOutFIdeal.Frame

namespace Cert.KernelOutFIdeal.Claims

open Idealize.ShloMosaic Idealize.SL.Sem

/-- The kernel and the reference leave the same array. -/
theorem algebraic : Cert.algebraic_KernelOutFIdeal_ReferenceOutFIdeal
    (hKernelOutFIdeal := Cert.KernelOutFIdeal.Gen.facts) (hReferenceOutFIdeal := Cert.ReferenceOutFIdeal.Gen.facts) := by
  intro m g m' g' _ hagree
  refine ⟨fun c => Cert.ReferenceOutFIdeal.Read.val_main_v0 (m ((c.tc : Thread nD τ).loc main_arg0))
    (m ((c.tc : Thread nD τ).loc main_arg1)), ?_, ?_⟩
  · refine (θ_run _ _ _).mono (fun r h c => ?_) (Cert.KernelOutFIdeal.Value.run_blocks m g)
    exact ⟨(h c).1.trans (final m c), (h c).2⟩
  · refine (θ_run _ _ _).mono (fun r h c => ?_) (Cert.ReferenceOutFIdeal.Value.run m' g')
    obtain ⟨h0, hargs⟩ := h c
    obtain ⟨a0, a1⟩ := hagree c
    rw [Cert.ReferenceOutFIdeal.Read.val_main_v0_eq, a0, a1] at h0
    exact ⟨h0, hargs⟩

end Cert.KernelOutFIdeal.Claims
-- ==== Proof.OutDa.lean ====
/- The gradient of the output projection's operand, two blocks of columns. -/
module

public import proofs.«01_k».proof.Defs
public import proofs.«01_k».proof.Proof.Gen.KernelOutDa.Frame
public import proofs.«01_k».proof.Proof.Gen.KernelOutDaIdeal.Value
public import proofs.«01_k».proof.Proof.Gen.ReferenceOutDaIdeal.Run
public import proofs.«01_k».proof.Proof.Gen.ReferenceOutDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelOutDaIdeal.Claims

open Cert.KernelOutDaIdeal Cert.KernelOutDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![t.val, 0] ∧ win0_2.index t = ![0, t.val] :=
  (by decide +kernel : ∀ t : Fin grid0.N, _)

/-- The kernel's result array is the reference's. -/
theorem final : (dats m 0 c).arrAt 2 cfg0.N = Cert.ReferenceOutDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceOutDaIdeal.Read.val_main_v2]
  blk_point [iblk, V, idx t]

end Cert.KernelOutDaIdeal.Claims

namespace Cert.ReferenceOutDaIdeal.Frame

open Cert.ReferenceOutDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceOutDaIdeal.Frame

namespace Cert.KernelOutDaIdeal.Claims

open Idealize.ShloMosaic Idealize.SL.Sem

/-- The kernel and the reference leave the same array. -/
theorem algebraic : Cert.algebraic_KernelOutDaIdeal_ReferenceOutDaIdeal
    (hKernelOutDaIdeal := Cert.KernelOutDaIdeal.Gen.facts) (hReferenceOutDaIdeal := Cert.ReferenceOutDaIdeal.Gen.facts) := by
  intro m g m' g' _ hagree
  refine ⟨fun c => Cert.ReferenceOutDaIdeal.Read.val_main_v2 (m ((c.tc : Thread nD τ).loc main_arg0))
    (m ((c.tc : Thread nD τ).loc main_arg1)), ?_, ?_⟩
  · refine (θ_run _ _ _).mono (fun r h c => ?_) (Cert.KernelOutDaIdeal.Value.run_blocks m g)
    exact ⟨(h c).1.trans (final m c), (h c).2⟩
  · refine (θ_run _ _ _).mono (fun r h c => ?_) (Cert.ReferenceOutDaIdeal.Value.run m' g')
    obtain ⟨h0, hargs⟩ := h c
    obtain ⟨a0, a1⟩ := hagree c
    rw [Cert.ReferenceOutDaIdeal.Read.val_main_v2_eq, a0, a1] at h0
    exact ⟨h0, hargs⟩

end Cert.KernelOutDaIdeal.Claims
-- ==== Proof.OutDw.lean ====
/- The gradient of the output projection's weight, two blocks of columns. -/
module

public import proofs.«01_k».proof.Defs
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.Gen.ReferenceOutDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelOutDwIdeal.Claims

open Cert.KernelOutDwIdeal Cert.KernelOutDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, t.val] ∧ win0_2.index t = ![0, t.val] :=
  (by decide +kernel : ∀ t : Fin grid0.N, _)

/-- The kernel's result array is the reference's. -/
theorem final : (dats m 0 c).arrAt 2 cfg0.N = Cert.ReferenceOutDwIdeal.Read.val_main_v3
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceOutDwIdeal.Read.val_main_v3, Cert.ReferenceOutDwIdeal.Read.val_main_v2]
  refine Fin.sum_fin_congr fun k => (mul_comm (G := EReal) _ _).trans ?_
  blk_point [iblk, V, idx t]

end Cert.KernelOutDwIdeal.Claims

namespace Cert.ReferenceOutDwIdeal.Frame

open Cert.ReferenceOutDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceOutDwIdeal.Frame

namespace Cert.KernelOutDwIdeal.Claims

open Idealize.ShloMosaic Idealize.SL.Sem

/-- The kernel and the reference leave the same array. -/
theorem algebraic : Cert.algebraic_KernelOutDwIdeal_ReferenceOutDwIdeal
    (hKernelOutDwIdeal := Cert.KernelOutDwIdeal.Gen.facts) (hReferenceOutDwIdeal := Cert.ReferenceOutDwIdeal.Gen.facts) := by
  intro m g m' g' _ hagree
  refine ⟨fun c => Cert.ReferenceOutDwIdeal.Read.val_main_v3 (m ((c.tc : Thread nD τ).loc main_arg0))
    (m ((c.tc : Thread nD τ).loc main_arg1)), ?_, ?_⟩
  · refine (θ_run _ _ _).mono (fun r h c => ?_) (Cert.KernelOutDwIdeal.Value.run_blocks m g)
    exact ⟨(h c).1.trans (final m c), (h c).2⟩
  · refine (θ_run _ _ _).mono (fun r h c => ?_) (Cert.ReferenceOutDwIdeal.Value.run m' g')
    obtain ⟨h0, hargs⟩ := h c
    obtain ⟨a0, a1⟩ := hagree c
    rw [Cert.ReferenceOutDwIdeal.Read.val_main_v3_eq, a0, a1] at h0
    exact ⟨h0, hargs⟩

end Cert.KernelOutDwIdeal.Claims
-- ==== Proof.FiniteF.lean ====
/- What the forward call's precondition says: every query and every key is a real. -/
module

public import proofs.«01_k».proof.Pre_finite_qk_f
public import proofs.«01_k».proof.Proof.Finite

@[expose] public section

noncomputable section

namespace Cert.Pre_finite_qk_f

open Idealize.ShloMosaic Idealize.SL.Sem Cert.Rows
open Cert.Pre_finite_qk (real_of_cmp)

theorem facts : Facts where
  bcast_S_S2048x1024 := by decide
  reducesTo_S2048x1024_S_d0_1 := by decide
  h_S_ := by decide
  bcast_S_S2304x256 := by decide
  reducesTo_S2304x256_S_d0_1 := by decide

variable [Facts]
open Facts

theorem reals (Q : Wide) (K V : Tall) (h : fn (F := Ideal) Q K V = fun _ => 1#1) :
    (∀ i, ∃ r : ℝ, Q i = (r : EReal)) ∧ ∀ i, ∃ r : ℝ, K i = (r : EReal) := by
  have h0 := congrFun h (fun a => a.elim0)
  unfold fn at h0
  obtain ⟨hQ, hK⟩ := IntOp.andi_eq_one.mp h0
  haveI : Subsingleton S_.Idx := ⟨fun a b => funext fun k => k.elim0⟩
  exact ⟨fun i => real_of_cmp (Host.reduce_andi_all _ _ _ _ _ hQ i),
    fun i => real_of_cmp (Host.reduce_andi_all _ _ _ _ _ hK i)⟩

end Cert.Pre_finite_qk_f
-- ==== Proof.AttnF.lean ====
/- The attention's forward pass: the softmax rows times the values. -/
module

public import proofs.«01_k».proof.Defs
public import proofs.«01_k».proof.Proof.Gen.KernelAttnF.Frame
public import proofs.«01_k».proof.Proof.Gen.KernelAttnFIdeal.Value
public import proofs.«01_k».proof.Proof.Gen.ReferenceAttnFIdeal.Run
public import proofs.«01_k».proof.Proof.Gen.ReferenceAttnFIdeal.Read
public import Idealize.ShloMosaic.Lib.Pipeline.ValueKit
public import Idealize.ShloMosaic.Lib.Pointwise
public import Idealize.ShloMosaic.Adequacy
public import Idealize.ShloMosaic.Init
public import proofs.«01_k».proof.Proof.Arrays
public import proofs.«01_k».proof.Proof.FiniteF

@[expose] public section

set_option maxRecDepth 16384

noncomputable section

namespace Cert.KernelAttnFIdeal.Claims

open Cert.KernelIdeal.Body (Half Head rows pb ninf)
open Cert.KernelIdeal.Arrays (rows_half0 rows_half1)
open Cert.KernelAttnFIdeal Cert.KernelAttnFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val % 8, t.val / 8]
    ∧ win0_1.index t = ![0, t.val / 32]
    ∧ win0_2.index t = ![0, t.val / 32]
    ∧ win0_3.index t = ![t.val % 8, t.val / 8] :=
  (by decide +kernel : ∀ t : Fin grid0.N, _)

open Cert.Rows

theorem lt64 (t : Fin cfg0.N) : t.val < 64 := lt_of_lt_of_eq t.isLt N_0

/-- A point's key head, its query head within the group, and the array's row of the block's row `r`. -/
def kh (t : Fin cfg0.N) : Fin 2 := ⟨t.val / 32, by have := lt64 t; omega⟩
def hg (t : Fin cfg0.N) : Fin 4 := ⟨t.val / 8 % 4, by omega⟩
def row (t : Fin cfg0.N) (r : Fin 256) : Fin 2048 := ⟨t.val % 8 * 256 + r.val, by omega⟩

/-- The three arguments on device `c`, and their blocks at a point. -/
abbrev argQ : Wide := m ((c.tc : Thread nD τ).loc main_arg0)
abbrev argK : Tall := m ((c.tc : Thread nD τ).loc main_arg1)
abbrev argV : Tall := m ((c.tc : Thread nD τ).loc main_arg2)
abbrev blkQ (t : Fin cfg0.N) : FVec Ideal S256x128 .f32 := iblk m c 0 t
abbrev blkK (t : Fin cfg0.N) : Head := iblk m c 1 t
abbrev blkV (t : Fin cfg0.N) : Head := iblk m c 2 t

theorem rowsQ (t : Fin cfg0.N) (r : Fin 256) : rows (blkQ m c t) r = qrow (argQ m c) (kh t) (hg t) (row t r) := by
  funext d
  have := lt64 t
  unfold rows qrow kh hg row
  blk_point [iblk, V, idx t]

theorem rowsK (t : Fin cfg0.N) : rows (blkK m c t) = krow (argK m c) (kh t) := by
  funext j d
  have := lt64 t
  unfold rows krow kh
  blk_point [iblk, V, idx t]

theorem rowsV (t : Fin cfg0.N) : rows (blkV m c t) = krow (argV m c) (kh t) := by
  funext j d
  have := lt64 t
  unfold rows krow kh
  blk_point [iblk, V, idx t]

/-- The softmax of the upper half's scores. -/
theorem pay4_eq (q : Half) (k : Head) (r : Fin 128) (j : Fin 2304) : k0_pay4 (F := Ideal) q k (ix2 r j) = pb q k r j := by
  pointwise [k0_pay4, k0_pay3]
  rw [ninf]
  rfl

/-- The weighted values of the upper half. -/
theorem pay1_eq (q : Half) (k v : Head) (y : S128x128.Idx) :
    k0_pay1 (F := Ideal) (k0_pay2 (F := Ideal) v) (k0_pay4 (F := Ideal) q k) y = ∑ j : Fin 2304, pb q k (y 0) j * rows v j (y 1) := by
  pointwise [k0_pay1, k0_pay2]
  exact Finset.sum_congr rfl fun j _ => congrArg (· * _) (pay4_eq q k (y 0) j)

/-- The weighted values of the lower half. -/
theorem pay5_eq (q : Half) (k v : Head) (y : S128x128.Idx) :
    k0_pay5 (F := Ideal) v q k y = ∑ j : Fin 2304, pb q k (y 0) j * rows v j (y 1) := by
  pointwise [k0_pay5, k0_pay2, k0_pay3]
  rw [ninf]
  rfl

/-- A point's block of the result. -/
theorem block (t : Fin cfg0.N) (y : S256x128.Idx) : out0_3 (F := Ideal) (blkQ m c t) (blkK m c t) (blkV m c t) y
    = ∑ j : Fin 2304, pr (argQ m c) (argK m c) (kh t) (hg t) (row t (y 0)) j * krow (argV m c) (kh t) j (y 1) := by
  have e : ∀ (q : Half) (r : Fin 128) (x : Fin 256), rows q r = rows (blkQ m c t) x → ∀ j,
      pb q (blkK m c t) r j = pr (argQ m c) (argK m c) (kh t) (hg t) (row t x) j := by
    intro q r x h j
    unfold pb pr
    rw [h, rowsQ, rowsK]
  frame_out
  canon_tiles x hx
  · refine (pay1_eq _ _ _ x).trans (Finset.sum_congr rfl fun j _ => ?_)
    rw [rowsV]
    refine congrArg₂ (· * ·) ((e _ _ _ (rows_half1 _ _) j).trans ?_) (congrArg (krow (argV m c) (kh t) j) (Fin.ext hx1.symm))
    exact congrArg (fun r => pr (argQ m c) (argK m c) (kh t) (hg t) (row t r) j) (Fin.ext hx0.symm)
  · refine (pay5_eq _ _ _ x).trans (Finset.sum_congr rfl fun j _ => ?_)
    rw [rowsV]
    refine congrArg₂ (· * ·) ((e _ _ _ (rows_half0 _ _) j).trans ?_) (congrArg (krow (argV m c) (kh t) j) (Fin.ext hx1.symm))
    exact congrArg (fun r => pr (argQ m c) (argK m c) (kh t) (hg t) (row t r) j) (Fin.ext hx0.symm)

/-- The kernel's result array. -/
theorem final : (dats m 0 c).arrAt 3 cfg0.N = attend (argQ m c) (argK m c) (argV m c) := by
  refine (dats m 0 c).arrAt_eq_of_covers 3 _ (by decide +kernel) fun t hf y => ?_
  blk_simp
  rw [after0_3]
  have ht := lt64 t
  have e1 : (((win0_3.blk t).view.emb y) 1).val = t.val / 8 * 128 + (y 1).val := by blk_simp [idx t]
  refine (block m c t y).trans (attend_at _ _ _ _ (kh t) (hg t) (row t (y 0)) (y 1) (by blk_simp [idx t, row]) (e1.trans ?_)).symm
  show t.val / 8 * 128 + (y 1).val = t.val / 32 * 512 + t.val / 8 % 4 * 128 + (y 1).val
  omega

end Cert.KernelAttnFIdeal.Claims

namespace Cert.ReferenceAttnFIdeal.Values

open Cert.ReferenceAttnFIdeal Cert.ReferenceAttnFIdeal.Gen Cert.ReferenceAttnFIdeal.Read Cert.Rows Idealize.ShloMosaic
open Idealize.ShloMosaic.TcCoe Idealize.SL.Sem

variable (Q : Wide) (K V : Tall)

theorem score_eq (h : Fin 2) (g : Fin 4) (r : Fin 2048) (j : Fin 2304) :
    val_main_v6 Q K (ix4 h g r j) = score (qrow Q h g r) (krow K h) j := by
  pointwise [val_main_v6, val_main_v5, val_main_cst, val_main_v4, val_main_v3, val_main_v1, val_main_v0]
  unfold score sc
  exact congrArg (· * _) (Finset.sum_congr rfl fun d _ => mul_comm _ _)

theorem top_eq (h : Fin 2) (g : Fin 4) (r : Fin 2048) :
    val_main_v9 Q K (ix3 h g r) = top (score (qrow Q h g r) (krow K h)) := by
  have e : ∀ y : (⟨S2x4x2048x2304, .f32⟩ : BufTy).Contents (Elt Ideal),
      (Host.reduce (FloatOps.maximumf (F := Ideal) (φ := .f32)) y (val_main_cst_0 (F := Ideal))
        reducesTo_S2x4x2048x2304_S2x4x2048_d3 h_S_ : FVec Ideal S2x4x2048 .f32) (ix3 h g r)
        = Finset.fold max ⊥ (fun x : Fin 2304 => y (ix4 h g r x)) Finset.univ := by
    intro y
    pointwise [val_main_cst_0]
    rw [Cert.KernelIdeal.Body.ninf]
  have e7 : val_main_v7 Q K (ix3 h g r) = top (score (qrow Q h g r) (krow K h)) := by
    unfold val_main_v7
    exact (e _).trans (congrArg (fun s => Finset.fold max ⊥ s Finset.univ) (funext fun x => score_eq Q K h g r x))
  rw [val_main_v9_apply, val_main_v8_apply, val_main_cst_1_apply, e7]
  exact (congrArg (max · _) Cert.KernelIdeal.Body.ninf).trans (max_eq_right bot_le)

theorem ex_eq (h : Fin 2) (g : Fin 4) (r : Fin 2048) (j : Fin 2304) :
    val_main_v13 Q K (ix4 h g r j) = ex (score (qrow Q h g r) (krow K h)) j := by
  pointwise [val_main_v13, val_main_v12, val_main_v11, val_main_v10]
  unfold ex
  rw [← score_eq, ← top_eq]

theorem sum_eq (h : Fin 2) (g : Fin 4) (r : Fin 2048) :
    val_main_v14 Q K (ix3 h g r) = ∑ j, ex (score (qrow Q h g r) (krow K h)) j := by
  pointwise [val_main_v14, val_main_cst_2]
  exact Finset.sum_congr rfl fun j _ => ex_eq Q K h g r j

variable {Q K} (hQ : ∀ i, ∃ r : ℝ, Q i = (r : EReal)) (hK : ∀ i, ∃ r : ℝ, K i = (r : EReal))
include hQ hK

theorem soft_eq (h : Fin 2) (g : Fin 4) (r : Fin 2048) (j : Fin 2304) :
    val_main_v17 Q K (ix4 h g r j) = pr Q K h g r j := by
  have e : val_main_v17 Q K (ix4 h g r j) = Ideal.div (ex (score (qrow Q h g r) (krow K h)) j)
      (∑ i, ex (score (qrow Q h g r) (krow K h)) i) := by
    pointwise [val_main_v17, val_main_v16, val_main_v15]
    rw [← ex_eq, ← sum_eq]
  exact e.trans (prob_eq (score_real (fun _ => hQ _) (fun _ _ => hK _)) j)

theorem result_eq : val_main_v20 Q K V = attend Q K V := by
  funext i
  have e : ∀ (a : (⟨S2304x2x128, .f32⟩ : BufTy).Contents (Elt Ideal)) (y : (⟨S2x4x2048x2304, .f32⟩ : BufTy).Contents (Elt Ideal))
      (h : Fin 2) (d : Fin 128) (g : Fin 4) (r : Fin 2048),
      (Host.dotGeneral (φ₁ := .f32) (φ₂ := .f32) dot_S2304x2x128_S2x4x2048x2304_S2x128x4x2048_0_3_2_12_1_0 none a y
        : FVec Ideal S2x128x4x2048 .f32) (ix4 h d g r) = ∑ j : Fin 2304, (a (ix3 j h d) * y (ix4 h g r j) : EReal) := by
    intro a y h d g r
    pointwise []
  pointwise [val_main_v20, val_main_v19]
  unfold val_main_v18
  refine (e _ _ _ _ _ _).trans (Finset.sum_congr rfl fun j _ => ?_)
  refine (mul_comm (G := EReal) _ _).trans (congrArg₂ (· * ·) (soft_eq hQ hK _ _ _ j) ?_)
  pointwise [val_main_v2]
  rfl

end Cert.ReferenceAttnFIdeal.Values

namespace Cert.ReferenceAttnFIdeal.Frame

open Cert.ReferenceAttnFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceAttnFIdeal.Frame

namespace Cert.KernelAttnFIdeal.Claims

open Idealize.ShloMosaic Idealize.SL.Sem

/-- The kernel's result is the reference's, wherever the queries and the keys are finite. -/
theorem algebraic [Cert.Pre_finite_qk_f.Facts] : Cert.algebraic_KernelAttnFIdeal_ReferenceAttnFIdeal_pre_finite_qk_f
    (hKernelAttnFIdeal := Cert.KernelAttnFIdeal.Gen.facts) (hReferenceAttnFIdeal := Cert.ReferenceAttnFIdeal.Gen.facts) := by
  intro m g m' g' hpre hagree
  refine ⟨fun c => Cert.Rows.attend (argQ m c) (argK m c) (argV m c), ?_, ?_⟩
  · refine (θ_run _ _ _).mono (fun r h c => ?_) (Cert.KernelAttnFIdeal.Value.run_blocks m g)
    exact ⟨(h c).1.trans (final m c), (h c).2⟩
  · refine (θ_run _ _ _).mono (fun r h c => ?_) (Cert.ReferenceAttnFIdeal.Value.run m' g')
    obtain ⟨h0, hargs⟩ := h c
    obtain ⟨a0, a1, a2⟩ := hagree c
    obtain ⟨hQ, hK⟩ := Cert.Pre_finite_qk_f.reals _ _ _ (hpre c)
    have e0 := h0.trans (Cert.ReferenceAttnFIdeal.Read.val_main_v20_eq _ _ _)
    rw [a0, a1, a2, Cert.ReferenceAttnFIdeal.Values.result_eq _ hQ hK] at e0
    exact ⟨e0, hargs⟩

end Cert.KernelAttnFIdeal.Claims

end
-- ==== Proof.MergeF.lean ====
/- The gated sum of the two mixers, forward. -/
module

public import proofs.«01_k».proof.Defs
public import proofs.«01_k».proof.Proof.Gen.KernelMergeF.Frame
public import proofs.«01_k».proof.Proof.Gen.KernelMergeFIdeal.Value
public import proofs.«01_k».proof.Proof.Gen.ReferenceMergeFIdeal.Run
public import proofs.«01_k».proof.Proof.Gen.ReferenceMergeFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelMergeFIdeal.Claims

open Cert.KernelMergeFIdeal Cert.KernelMergeFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0] :=
  (by decide +kernel : ∀ t : Fin grid0.N, _)

/-- The kernel leaves the array the reference leaves. -/
theorem final0 : (dats m 0 c).arrAt 3 cfg0.N = Cert.ReferenceMergeFIdeal.Read.val_main_v16 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  pointwise [k0_pay1, Cert.ReferenceMergeFIdeal.Read.val_main_v16, Cert.ReferenceMergeFIdeal.Read.val_main_v8, Cert.ReferenceMergeFIdeal.Read.val_main_v15, Cert.ReferenceMergeFIdeal.Read.val_main_v7, Cert.ReferenceMergeFIdeal.Read.val_main_v14, Cert.ReferenceMergeFIdeal.Read.val_main_v6, Cert.ReferenceMergeFIdeal.Read.val_main_v5, Cert.ReferenceMergeFIdeal.Read.val_main_v13, Cert.ReferenceMergeFIdeal.Read.val_main_v12, Cert.ReferenceMergeFIdeal.Read.val_main_cst_0, Cert.ReferenceMergeFIdeal.Read.val_main_v4, Cert.ReferenceMergeFIdeal.Read.val_main_v3, Cert.ReferenceMergeFIdeal.Read.val_main_cst_2, Cert.ReferenceMergeFIdeal.Read.val_main_v11, Cert.ReferenceMergeFIdeal.Read.val_main_v10, Cert.ReferenceMergeFIdeal.Read.val_main_cst, Cert.ReferenceMergeFIdeal.Read.val_main_v2, Cert.ReferenceMergeFIdeal.Read.val_main_cst_1, Cert.ReferenceMergeFIdeal.Read.val_main_v9, Cert.ReferenceMergeFIdeal.Read.val_main_v0, Cert.ReferenceMergeFIdeal.Read.val_main_v1]
  simp only [Ideal.logistic]
  blk_point [iblk, V, idx t]

end Cert.KernelMergeFIdeal.Claims

namespace Cert.ReferenceMergeFIdeal.Frame

open Cert.ReferenceMergeFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceMergeFIdeal.Frame

namespace Cert.KernelMergeFIdeal.Claims

open Idealize.ShloMosaic Idealize.SL.Sem

/-- The kernel and the reference leave the same arrays. -/
theorem algebraic : Cert.algebraic_KernelMergeFIdeal_ReferenceMergeFIdeal
    (hKernelMergeFIdeal := Cert.KernelMergeFIdeal.Gen.facts) (hReferenceMergeFIdeal := Cert.ReferenceMergeFIdeal.Gen.facts) := by
  intro m g m' g' _ hagree
  refine ⟨fun c => Cert.ReferenceMergeFIdeal.Read.val_main_v16 (m ((c.tc : Thread nD τ).loc main_arg0)) (m ((c.tc : Thread nD τ).loc main_arg1)) (m ((c.tc : Thread nD τ).loc main_arg2)), ?_, ?_⟩
  · refine (θ_run _ _ _).mono (fun r h c => ?_) (Cert.KernelMergeFIdeal.Value.run_blocks m g)
    obtain ⟨h0, hargs⟩ := h c
    exact ⟨h0.trans (final0 m c), hargs⟩
  · refine (θ_run _ _ _).mono (fun r h c => ?_) (Cert.ReferenceMergeFIdeal.Value.run m' g')
    obtain ⟨h0, hargs⟩ := h c
    obtain ⟨a0, a1, a2⟩ := hagree c
    have e0 := h0.trans (Cert.ReferenceMergeFIdeal.Read.val_main_v16_eq _ _ _)
    rw [a0, a1, a2] at e0
    exact ⟨e0, hargs⟩

end Cert.KernelMergeFIdeal.Claims

end
-- ==== Proof.MergeB.lean ====
/- The gated sum of the two mixers, backward. -/
module

public import proofs.«01_k».proof.Defs
public import proofs.«01_k».proof.Proof.Gen.KernelMergeB.Frame
public import proofs.«01_k».proof.Proof.Gen.KernelMergeBIdeal.Value
public import proofs.«01_k».proof.Proof.Gen.ReferenceMergeBIdeal.Run
public import proofs.«01_k».proof.Proof.Gen.ReferenceMergeBIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelMergeBIdeal.Claims

open Cert.KernelMergeBIdeal Cert.KernelMergeBIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The kernel leaves the array the reference leaves. -/
theorem final0 : (dats m 0 c).arrAt 4 cfg0.N = Cert.ReferenceMergeBIdeal.Read.val_main_v28 (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, k0_pay7, Cert.ReferenceMergeBIdeal.Read.val_main_v28, Cert.ReferenceMergeBIdeal.Read.val_main_v7, Cert.ReferenceMergeBIdeal.Read.val_main_v23, Cert.ReferenceMergeBIdeal.Read.val_main_v6, Cert.ReferenceMergeBIdeal.Read.val_main_v5, Cert.ReferenceMergeBIdeal.Read.val_main_cst_0, Cert.ReferenceMergeBIdeal.Read.val_main_v4, Cert.ReferenceMergeBIdeal.Read.val_main_v3, Cert.ReferenceMergeBIdeal.Read.val_main_cst, Cert.ReferenceMergeBIdeal.Read.val_main_v2, Cert.ReferenceMergeBIdeal.Read.val_main_v0]
  simp only [Ideal.logistic]
  blk_point [iblk, V, idx t]

/-- The kernel leaves the array the reference leaves. -/
theorem final1 : (dats m 0 c).arrAt 5 cfg0.N = Cert.ReferenceMergeBIdeal.Read.val_main_v25 (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, k0_pay7, Cert.ReferenceMergeBIdeal.Read.val_main_v25, Cert.ReferenceMergeBIdeal.Read.val_main_v17, Cert.ReferenceMergeBIdeal.Read.val_main_v24, Cert.ReferenceMergeBIdeal.Read.val_main_v16, Cert.ReferenceMergeBIdeal.Read.val_main_v15, Cert.ReferenceMergeBIdeal.Read.val_main_cst_3, Cert.ReferenceMergeBIdeal.Read.val_main_v14, Cert.ReferenceMergeBIdeal.Read.val_main_v13, Cert.ReferenceMergeBIdeal.Read.val_main_cst_2, Cert.ReferenceMergeBIdeal.Read.val_main_v12, Cert.ReferenceMergeBIdeal.Read.val_main_v1]
  simp only [Ideal.logistic]
  blk_point [iblk, V, idx t]

/-- The kernel leaves the array the reference leaves. -/
theorem final2 : (dats m 0 c).arrAt 6 cfg0.N = Cert.ReferenceMergeBIdeal.Read.val_main_v31 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, k0_pay7, Cert.ReferenceMergeBIdeal.Read.val_main_v31, Cert.ReferenceMergeBIdeal.Read.val_main_v30, Cert.ReferenceMergeBIdeal.Read.val_main_v27, Cert.ReferenceMergeBIdeal.Read.val_main_v29, Cert.ReferenceMergeBIdeal.Read.val_main_v10, Cert.ReferenceMergeBIdeal.Read.val_main_v26, Cert.ReferenceMergeBIdeal.Read.val_main_v20, Cert.ReferenceMergeBIdeal.Read.val_main_v23, Cert.ReferenceMergeBIdeal.Read.val_main_v7, Cert.ReferenceMergeBIdeal.Read.val_main_v9, Cert.ReferenceMergeBIdeal.Read.val_main_v24, Cert.ReferenceMergeBIdeal.Read.val_main_v17, Cert.ReferenceMergeBIdeal.Read.val_main_v19, Cert.ReferenceMergeBIdeal.Read.val_main_v6, Cert.ReferenceMergeBIdeal.Read.val_main_v5, Cert.ReferenceMergeBIdeal.Read.val_main_v8, Cert.ReferenceMergeBIdeal.Read.val_main_v16, Cert.ReferenceMergeBIdeal.Read.val_main_v15, Cert.ReferenceMergeBIdeal.Read.val_main_v18, Cert.ReferenceMergeBIdeal.Read.val_main_cst_0, Cert.ReferenceMergeBIdeal.Read.val_main_v4, Cert.ReferenceMergeBIdeal.Read.val_main_v3, Cert.ReferenceMergeBIdeal.Read.val_main_cst_1, Cert.ReferenceMergeBIdeal.Read.val_main_cst_3, Cert.ReferenceMergeBIdeal.Read.val_main_v14, Cert.ReferenceMergeBIdeal.Read.val_main_v13, Cert.ReferenceMergeBIdeal.Read.val_main_cst_4, Cert.ReferenceMergeBIdeal.Read.val_main_cst, Cert.ReferenceMergeBIdeal.Read.val_main_v2, Cert.ReferenceMergeBIdeal.Read.val_main_cst_2, Cert.ReferenceMergeBIdeal.Read.val_main_v12, Cert.ReferenceMergeBIdeal.Read.val_main_v0, Cert.ReferenceMergeBIdeal.Read.val_main_v1]
  simp only [Ideal.logistic]
  have e : (((View.whole main_v0_2).slice (win0_6.rect t)).emb y 1).val = (y 1).val := by blk_simp [idx t]
  simp only [e]
  by_cases h : (y 1).val < 1024 <;> simp only [h, dite_true, dite_false, zero_add, add_zero] <;> blk_point [iblk, V, idx t]

end Cert.KernelMergeBIdeal.Claims

namespace Cert.ReferenceMergeBIdeal.Frame

open Cert.ReferenceMergeBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2, sem_eq_zero_of_no_sems (by decide) r.2⟩) (Value.run m g)

end Cert.ReferenceMergeBIdeal.Frame

namespace Cert.KernelMergeBIdeal.Claims

open Idealize.ShloMosaic Idealize.SL.Sem

/-- The kernel and the reference leave the same arrays. -/
theorem algebraic : Cert.algebraic_KernelMergeBIdeal_ReferenceMergeBIdeal
    (hKernelMergeBIdeal := Cert.KernelMergeBIdeal.Gen.facts) (hReferenceMergeBIdeal := Cert.ReferenceMergeBIdeal.Gen.facts) := by
  intro m g m' g' _ hagree
  refine ⟨fun c => Cert.ReferenceMergeBIdeal.Read.val_main_v28 (m ((c.tc : Thread nD τ).loc main_arg2)) (m ((c.tc : Thread nD τ).loc main_arg3)),
    fun c => Cert.ReferenceMergeBIdeal.Read.val_main_v25 (m ((c.tc : Thread nD τ).loc main_arg2)) (m ((c.tc : Thread nD τ).loc main_arg3)),
    fun c => Cert.ReferenceMergeBIdeal.Read.val_main_v31 (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.KernelMergeBIdeal.Value.run_blocks m g)
    obtain ⟨h0, h1, h2, hargs⟩ := h c
    exact ⟨h0.trans (final0 m c), h1.trans (final1 m c), h2.trans (final2 m c), hargs⟩
  · refine (θ_run _ _ _).mono (fun r h c => ?_) (Cert.ReferenceMergeBIdeal.Value.run m' g')
    obtain ⟨h0, h1, h2, hargs⟩ := h c
    obtain ⟨a0, a1, a2, a3⟩ := hagree c
    have e0 := h0.trans (Cert.ReferenceMergeBIdeal.Read.val_main_v28_eq _ _)
    rw [a2, a3] at e0
    have e1 := h1.trans (Cert.ReferenceMergeBIdeal.Read.val_main_v25_eq _ _)
    rw [a2, a3] at e1
    have e2 := h2.trans (Cert.ReferenceMergeBIdeal.Read.val_main_v31_eq _ _ _ _)
    rw [a0, a1, a2, a3] at e2
    exact ⟨e0, e1, e2, hargs⟩

end Cert.KernelMergeBIdeal.Claims

end
-- ==== Proof.NormF.lean ====
/- The modulated norm, forward. -/
module

public import proofs.«01_k».proof.Defs
public import proofs.«01_k».proof.Proof.Gen.KernelNormF.Frame
public import proofs.«01_k».proof.Proof.Gen.KernelNormFIdeal.Value
public import proofs.«01_k».proof.Proof.Gen.ReferenceNormFIdeal.Run
public import proofs.«01_k».proof.Proof.Gen.ReferenceNormFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelNormFIdeal.Claims

open Cert.KernelNormFIdeal Cert.KernelNormFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The kernel leaves the array the reference leaves. -/
theorem final0 : (dats m 0 c).arrAt 3 cfg0.N = Cert.ReferenceNormFIdeal.Read.val_main_v15 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  pointwise [k0_pay1, Cert.ReferenceNormFIdeal.Read.val_main_v15, Cert.ReferenceNormFIdeal.Read.val_main_v13, Cert.ReferenceNormFIdeal.Read.val_main_v14, Cert.ReferenceNormFIdeal.Read.val_main_v9, Cert.ReferenceNormFIdeal.Read.val_main_v12, Cert.ReferenceNormFIdeal.Read.val_main_v8, Cert.ReferenceNormFIdeal.Read.val_main_v11, Cert.ReferenceNormFIdeal.Read.val_main_v7, Cert.ReferenceNormFIdeal.Read.val_main_v10, Cert.ReferenceNormFIdeal.Read.val_main_v6, Cert.ReferenceNormFIdeal.Read.val_main_cst_2, Cert.ReferenceNormFIdeal.Read.val_main_v4, Cert.ReferenceNormFIdeal.Read.val_main_v5, Cert.ReferenceNormFIdeal.Read.val_main_v2, Cert.ReferenceNormFIdeal.Read.val_main_v3, Cert.ReferenceNormFIdeal.Read.val_main_cst_1, Cert.ReferenceNormFIdeal.Read.val_main_v1, Cert.ReferenceNormFIdeal.Read.val_main_cst_0, Cert.ReferenceNormFIdeal.Read.val_main_v0, Cert.ReferenceNormFIdeal.Read.val_main_cst]
  blk_point [iblk, V, idx t]

end Cert.KernelNormFIdeal.Claims

namespace Cert.ReferenceNormFIdeal.Frame

open Cert.ReferenceNormFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceNormFIdeal.Frame

namespace Cert.KernelNormFIdeal.Claims

open Idealize.ShloMosaic Idealize.SL.Sem

/-- The kernel and the reference leave the same arrays. -/
theorem algebraic : Cert.algebraic_KernelNormFIdeal_ReferenceNormFIdeal
    (hKernelNormFIdeal := Cert.KernelNormFIdeal.Gen.facts) (hReferenceNormFIdeal := Cert.ReferenceNormFIdeal.Gen.facts) := by
  intro m g m' g' _ hagree
  refine ⟨fun c => Cert.ReferenceNormFIdeal.Read.val_main_v15 (m ((c.tc : Thread nD τ).loc main_arg0)) (m ((c.tc : Thread nD τ).loc main_arg1)) (m ((c.tc : Thread nD τ).loc main_arg2)), ?_, ?_⟩
  · refine (θ_run _ _ _).mono (fun r h c => ?_) (Cert.KernelNormFIdeal.Value.run_blocks m g)
    obtain ⟨h0, hargs⟩ := h c
    exact ⟨h0.trans (final0 m c), hargs⟩
  · refine (θ_run _ _ _).mono (fun r h c => ?_) (Cert.ReferenceNormFIdeal.Value.run m' g')
    obtain ⟨h0, hargs⟩ := h c
    obtain ⟨a0, a1, a2⟩ := hagree c
    have e0 := h0.trans (Cert.ReferenceNormFIdeal.Read.val_main_v15_eq _ _ _)
    rw [a0, a1, a2] at e0
    exact ⟨e0, hargs⟩

end Cert.KernelNormFIdeal.Claims

end
-- ==== Proof.NormB.lean ====
/- The modulated norm, backward. -/
module

public import proofs.«01_k».proof.Defs
public import proofs.«01_k».proof.Proof.Gen.KernelNormB.Frame
public import proofs.«01_k».proof.Proof.Gen.KernelNormBIdeal.Value
public import proofs.«01_k».proof.Proof.Gen.ReferenceNormBIdeal.Run
public import proofs.«01_k».proof.Proof.Gen.ReferenceNormBIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelNormBIdeal.Claims

open Cert.KernelNormBIdeal Cert.KernelNormBIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] :=
  (by decide +kernel : ∀ t : Fin grid0.N, _)

/-- The kernel leaves the array the reference leaves. -/
theorem final0 : (dats m 0 c).arrAt 4 cfg0.N = Cert.ReferenceNormBIdeal.Read.val_main_v40 (m ((c.tc : Thread nD τ).loc main_arg0)) (m ((c.tc : Thread nD τ).loc main_arg2)) (m ((c.tc : Thread nD τ).loc main_arg3)) := by
  refine (dats m 0 c).arrAt_eq_of_covers 4 _ (by decide +kernel) fun t hf y => ?_
  blk_simp
  rw [after0_4]
  by_cases h : t.val % 8 = 0
  · rw [outsAt0_A m c t h]
    frame_out
    pointwise [k0_pay1, k0_pay2, k0_pay3, k0_pay4, k0_pay5, k0_pay6, k0_pay7, k0_pay8, k0_pay9, k0_pay10, Cert.ReferenceNormBIdeal.Read.val_main_v40, Cert.ReferenceNormBIdeal.Read.val_main_v38, Cert.ReferenceNormBIdeal.Read.val_main_v39, Cert.ReferenceNormBIdeal.Read.val_main_v31, Cert.ReferenceNormBIdeal.Read.val_main_v37, Cert.ReferenceNormBIdeal.Read.val_main_v36, Cert.ReferenceNormBIdeal.Read.val_main_v26, Cert.ReferenceNormBIdeal.Read.val_main_v30, Cert.ReferenceNormBIdeal.Read.val_main_v35, Cert.ReferenceNormBIdeal.Read.val_main_v19, Cert.ReferenceNormBIdeal.Read.val_main_v25, Cert.ReferenceNormBIdeal.Read.val_main_v7, Cert.ReferenceNormBIdeal.Read.val_main_v34, Cert.ReferenceNormBIdeal.Read.val_main_cst_8, Cert.ReferenceNormBIdeal.Read.val_main_v14, Cert.ReferenceNormBIdeal.Read.val_main_v6, Cert.ReferenceNormBIdeal.Read.val_main_v32, Cert.ReferenceNormBIdeal.Read.val_main_v33, Cert.ReferenceNormBIdeal.Read.val_main_v13, Cert.ReferenceNormBIdeal.Read.val_main_v4, Cert.ReferenceNormBIdeal.Read.val_main_v5, Cert.ReferenceNormBIdeal.Read.val_main_v29, Cert.ReferenceNormBIdeal.Read.val_main_v10, Cert.ReferenceNormBIdeal.Read.val_main_cst_7, Cert.ReferenceNormBIdeal.Read.val_main_cst_3, Cert.ReferenceNormBIdeal.Read.val_main_v2, Cert.ReferenceNormBIdeal.Read.val_main_v3, Cert.ReferenceNormBIdeal.Read.val_main_cst_1, Cert.ReferenceNormBIdeal.Read.val_main_v28, Cert.ReferenceNormBIdeal.Read.val_main_v9, Cert.ReferenceNormBIdeal.Read.val_main_v8, Cert.ReferenceNormBIdeal.Read.val_main_v1, Cert.ReferenceNormBIdeal.Read.val_main_cst_0, Cert.ReferenceNormBIdeal.Read.val_main_v27, Cert.ReferenceNormBIdeal.Read.val_main_cst_6, Cert.ReferenceNormBIdeal.Read.val_main_cst_2, Cert.ReferenceNormBIdeal.Read.val_main_v0, Cert.ReferenceNormBIdeal.Read.val_main_cst]
    blk_point [iblk, V, idx t]
  · rw [outsAt0_B m c t h]
    frame_out
    pointwise [k0_pay1, k0_pay2, k0_pay3, k0_pay4, k0_pay5, k0_pay6, k0_pay7, k0_pay8, k0_pay9, k0_pay10, Cert.ReferenceNormBIdeal.Read.val_main_v40, Cert.ReferenceNormBIdeal.Read.val_main_v38, Cert.ReferenceNormBIdeal.Read.val_main_v39, Cert.ReferenceNormBIdeal.Read.val_main_v31, Cert.ReferenceNormBIdeal.Read.val_main_v37, Cert.ReferenceNormBIdeal.Read.val_main_v36, Cert.ReferenceNormBIdeal.Read.val_main_v26, Cert.ReferenceNormBIdeal.Read.val_main_v30, Cert.ReferenceNormBIdeal.Read.val_main_v35, Cert.ReferenceNormBIdeal.Read.val_main_v19, Cert.ReferenceNormBIdeal.Read.val_main_v25, Cert.ReferenceNormBIdeal.Read.val_main_v7, Cert.ReferenceNormBIdeal.Read.val_main_v34, Cert.ReferenceNormBIdeal.Read.val_main_cst_8, Cert.ReferenceNormBIdeal.Read.val_main_v14, Cert.ReferenceNormBIdeal.Read.val_main_v6, Cert.ReferenceNormBIdeal.Read.val_main_v32, Cert.ReferenceNormBIdeal.Read.val_main_v33, Cert.ReferenceNormBIdeal.Read.val_main_v13, Cert.ReferenceNormBIdeal.Read.val_main_v4, Cert.ReferenceNormBIdeal.Read.val_main_v5, Cert.ReferenceNormBIdeal.Read.val_main_v29, Cert.ReferenceNormBIdeal.Read.val_main_v10, Cert.ReferenceNormBIdeal.Read.val_main_cst_7, Cert.ReferenceNormBIdeal.Read.val_main_cst_3, Cert.ReferenceNormBIdeal.Read.val_main_v2, Cert.ReferenceNormBIdeal.Read.val_main_v3, Cert.ReferenceNormBIdeal.Read.val_main_cst_1, Cert.ReferenceNormBIdeal.Read.val_main_v28, Cert.ReferenceNormBIdeal.Read.val_main_v9, Cert.ReferenceNormBIdeal.Read.val_main_v8, Cert.ReferenceNormBIdeal.Read.val_main_v1, Cert.ReferenceNormBIdeal.Read.val_main_cst_0, Cert.ReferenceNormBIdeal.Read.val_main_v27, Cert.ReferenceNormBIdeal.Read.val_main_cst_6, Cert.ReferenceNormBIdeal.Read.val_main_cst_2, Cert.ReferenceNormBIdeal.Read.val_main_v0, Cert.ReferenceNormBIdeal.Read.val_main_cst]
    blk_point [iblk, V, idx t]

/-- The kernel leaves the array the reference leaves. -/
theorem final1 : (dats m 0 c).arrAt 5 cfg0.N = Cert.ReferenceNormBIdeal.Read.val_main_v21 (m ((c.tc : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2.1) 8 (fun _ => 0)
    (fun t y => ∑ l : Fin 256, (m ((c.tc : Thread nD τ).loc main_arg3))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10]
      blk_point [iblk, V, idx t])
    t ((flush0_5 t).mp hf) y, zero_add]
  pointwise [Cert.ReferenceNormBIdeal.Read.val_main_v21, Cert.ReferenceNormBIdeal.Read.val_main_v20, Cert.ReferenceNormBIdeal.Read.val_main_cst_4]
  refine Fin.sum_mul_add_congr fun s l hl => ?_
  blk_point [iblk, V, idx t]

/-- The kernel leaves the array the reference leaves. -/
theorem final2 : (dats m 0 c).arrAt 6 cfg0.N = Cert.ReferenceNormBIdeal.Read.val_main_v24 (m ((c.tc : Thread nD τ).loc main_arg0)) (m ((c.tc : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun t y => ∑ l : Fin 256, (Cert.ReferenceNormBIdeal.Read.val_main_v22 (m ((c.tc : Thread nD τ).loc main_arg0)) (m ((c.tc : Thread nD τ).loc main_arg3)))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, Cert.ReferenceNormBIdeal.Read.val_main_v22, Cert.ReferenceNormBIdeal.Read.val_main_v12, Cert.ReferenceNormBIdeal.Read.val_main_v19, Cert.ReferenceNormBIdeal.Read.val_main_v11, Cert.ReferenceNormBIdeal.Read.val_main_v7, Cert.ReferenceNormBIdeal.Read.val_main_v6, Cert.ReferenceNormBIdeal.Read.val_main_v4, Cert.ReferenceNormBIdeal.Read.val_main_v5, Cert.ReferenceNormBIdeal.Read.val_main_v2, Cert.ReferenceNormBIdeal.Read.val_main_v3, Cert.ReferenceNormBIdeal.Read.val_main_cst_1, Cert.ReferenceNormBIdeal.Read.val_main_v1, Cert.ReferenceNormBIdeal.Read.val_main_cst_0, Cert.ReferenceNormBIdeal.Read.val_main_v0, Cert.ReferenceNormBIdeal.Read.val_main_cst]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, Cert.ReferenceNormBIdeal.Read.val_main_v22, Cert.ReferenceNormBIdeal.Read.val_main_v12, Cert.ReferenceNormBIdeal.Read.val_main_v19, Cert.ReferenceNormBIdeal.Read.val_main_v11, Cert.ReferenceNormBIdeal.Read.val_main_v7, Cert.ReferenceNormBIdeal.Read.val_main_v6, Cert.ReferenceNormBIdeal.Read.val_main_v4, Cert.ReferenceNormBIdeal.Read.val_main_v5, Cert.ReferenceNormBIdeal.Read.val_main_v2, Cert.ReferenceNormBIdeal.Read.val_main_v3, Cert.ReferenceNormBIdeal.Read.val_main_cst_1, Cert.ReferenceNormBIdeal.Read.val_main_v1, Cert.ReferenceNormBIdeal.Read.val_main_cst_0, Cert.ReferenceNormBIdeal.Read.val_main_v0, Cert.ReferenceNormBIdeal.Read.val_main_cst]
      blk_point [iblk, V, idx t])
    t ((flush0_6 t).mp hf) y, zero_add]
  pointwise [Cert.ReferenceNormBIdeal.Read.val_main_v24, Cert.ReferenceNormBIdeal.Read.val_main_v23, Cert.ReferenceNormBIdeal.Read.val_main_cst_5]
  refine Fin.sum_mul_add_congr fun s l hl => ?_
  blk_point [iblk, V, idx t]

end Cert.KernelNormBIdeal.Claims

namespace Cert.ReferenceNormBIdeal.Frame

open Cert.ReferenceNormBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2, sem_eq_zero_of_no_sems (by decide) r.2⟩) (Value.run m g)

end Cert.ReferenceNormBIdeal.Frame

namespace Cert.KernelNormBIdeal.Claims

open Idealize.ShloMosaic Idealize.SL.Sem

/-- The kernel and the reference leave the same arrays. -/
theorem algebraic : Cert.algebraic_KernelNormBIdeal_ReferenceNormBIdeal
    (hKernelNormBIdeal := Cert.KernelNormBIdeal.Gen.facts) (hReferenceNormBIdeal := Cert.ReferenceNormBIdeal.Gen.facts) := by
  intro m g m' g' _ hagree
  refine ⟨fun c => Cert.ReferenceNormBIdeal.Read.val_main_v40 (m ((c.tc : Thread nD τ).loc main_arg0)) (m ((c.tc : Thread nD τ).loc main_arg2)) (m ((c.tc : Thread nD τ).loc main_arg3)),
    fun c => Cert.ReferenceNormBIdeal.Read.val_main_v21 (m ((c.tc : Thread nD τ).loc main_arg3)),
    fun c => Cert.ReferenceNormBIdeal.Read.val_main_v24 (m ((c.tc : Thread nD τ).loc main_arg0)) (m ((c.tc : Thread nD τ).loc main_arg3)), ?_, ?_⟩
  · refine (θ_run _ _ _).mono (fun r h c => ?_) (Cert.KernelNormBIdeal.Value.run_blocks m g)
    obtain ⟨h0, h1, h2, hargs⟩ := h c
    exact ⟨h0.trans (final0 m c), h1.trans (final1 m c), h2.trans (final2 m c), hargs⟩
  · refine (θ_run _ _ _).mono (fun r h c => ?_) (Cert.ReferenceNormBIdeal.Value.run m' g')
    obtain ⟨h0, h1, h2, hargs⟩ := h c
    obtain ⟨a0, a1, a2, a3⟩ := hagree c
    have e0 := h0.trans (Cert.ReferenceNormBIdeal.Read.val_main_v40_eq _ _)
    rw [a0, a2, a3] at e0
    have e1 := h1.trans (Cert.ReferenceNormBIdeal.Read.val_main_v21_eq _)
    rw [a3] at e1
    have e2 := h2.trans (Cert.ReferenceNormBIdeal.Read.val_main_v24_eq _ _)
    rw [a0, a3] at e2
    exact ⟨e0, e1, e2, hargs⟩

end Cert.KernelNormBIdeal.Claims

end
-- ==== Proof.ResF.lean ====
/- The residual and the modulated norm, forward. -/
module

public import proofs.«01_k».proof.Defs
public import proofs.«01_k».proof.Proof.Gen.KernelResF.Frame
public import proofs.«01_k».proof.Proof.Gen.KernelResFIdeal.Value
public import proofs.«01_k».proof.Proof.Gen.ReferenceResFIdeal.Run
public import proofs.«01_k».proof.Proof.Gen.ReferenceResFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelResFIdeal.Claims

open Cert.KernelResFIdeal Cert.KernelResFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0] :=
  (by decide +kernel : ∀ t : Fin grid0.N, _)

/-- The kernel leaves the array the reference leaves. -/
theorem final0 : (dats m 0 c).arrAt 5 cfg0.N = Cert.ReferenceResFIdeal.Read.val_main_v2 (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  pointwise [k0_pay1, k0_pay2, Cert.ReferenceResFIdeal.Read.val_main_v2, Cert.ReferenceResFIdeal.Read.val_main_v1, Cert.ReferenceResFIdeal.Read.val_main_v0]
  blk_point [iblk, V, idx t]

/-- The kernel leaves the array the reference leaves. -/
theorem final1 : (dats m 0 c).arrAt 6 cfg0.N = Cert.ReferenceResFIdeal.Read.val_main_v18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  frame_out
  pointwise [k0_pay1, k0_pay2, Cert.ReferenceResFIdeal.Read.val_main_v18, Cert.ReferenceResFIdeal.Read.val_main_v16, Cert.ReferenceResFIdeal.Read.val_main_v17, Cert.ReferenceResFIdeal.Read.val_main_v12, Cert.ReferenceResFIdeal.Read.val_main_v15, Cert.ReferenceResFIdeal.Read.val_main_v2, Cert.ReferenceResFIdeal.Read.val_main_v11, Cert.ReferenceResFIdeal.Read.val_main_v14, Cert.ReferenceResFIdeal.Read.val_main_v1, Cert.ReferenceResFIdeal.Read.val_main_v10, Cert.ReferenceResFIdeal.Read.val_main_v13, Cert.ReferenceResFIdeal.Read.val_main_v0, Cert.ReferenceResFIdeal.Read.val_main_v9, Cert.ReferenceResFIdeal.Read.val_main_cst_2, Cert.ReferenceResFIdeal.Read.val_main_v7, Cert.ReferenceResFIdeal.Read.val_main_v8, Cert.ReferenceResFIdeal.Read.val_main_v5, Cert.ReferenceResFIdeal.Read.val_main_v6, Cert.ReferenceResFIdeal.Read.val_main_cst_1, Cert.ReferenceResFIdeal.Read.val_main_v4, Cert.ReferenceResFIdeal.Read.val_main_cst_0, Cert.ReferenceResFIdeal.Read.val_main_v3, Cert.ReferenceResFIdeal.Read.val_main_cst]
  blk_point [iblk, V, idx t]

end Cert.KernelResFIdeal.Claims

namespace Cert.ReferenceResFIdeal.Frame

open Cert.ReferenceResFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2.2, sem_eq_zero_of_no_sems (by decide) r.2⟩) (Value.run m g)

end Cert.ReferenceResFIdeal.Frame

namespace Cert.KernelResFIdeal.Claims

open Idealize.ShloMosaic Idealize.SL.Sem

/-- The kernel and the reference leave the same arrays. -/
theorem algebraic : Cert.algebraic_KernelResFIdeal_ReferenceResFIdeal
    (hKernelResFIdeal := Cert.KernelResFIdeal.Gen.facts) (hReferenceResFIdeal := Cert.ReferenceResFIdeal.Gen.facts) := by
  intro m g m' g' _ hagree
  refine ⟨fun c => Cert.ReferenceResFIdeal.Read.val_main_v2 (m ((c.tc : Thread nD τ).loc main_arg0)) (m ((c.tc : Thread nD τ).loc main_arg1)) (m ((c.tc : Thread nD τ).loc main_arg2)),
    fun c => Cert.ReferenceResFIdeal.Read.val_main_v18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run _ _ _).mono (fun r h c => ?_) (Cert.KernelResFIdeal.Value.run_blocks m g)
    obtain ⟨h0, h1, hargs⟩ := h c
    exact ⟨h0.trans (final0 m c), h1.trans (final1 m c), hargs⟩
  · refine (θ_run _ _ _).mono (fun r h c => ?_) (Cert.ReferenceResFIdeal.Value.run m' g')
    obtain ⟨h0, h1, hargs⟩ := h c
    obtain ⟨a0, a1, a2, a3, a4⟩ := hagree c
    have e0 := h0.trans (Cert.ReferenceResFIdeal.Read.val_main_v2_eq _ _ _)
    rw [a0, a1, a2] at e0
    have e1 := h1.trans (Cert.ReferenceResFIdeal.Read.val_main_v18_eq _ _ _ _ _)
    rw [a0, a1, a2, a3, a4] at e1
    exact ⟨e0, e1, hargs⟩

end Cert.KernelResFIdeal.Claims

end
-- ==== Proof.ResB.lean ====
/- The residual and the modulated norm, backward. -/
module

public import proofs.«01_k».proof.Defs
public import proofs.«01_k».proof.Proof.Gen.KernelResB.Frame
public import proofs.«01_k».proof.Proof.Gen.KernelResBIdeal.Value
public import proofs.«01_k».proof.Proof.Gen.ReferenceResBIdeal.Run
public import proofs.«01_k».proof.Proof.Gen.ReferenceResBIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelResBIdeal.Claims

open Cert.KernelResBIdeal Cert.KernelResBIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0] :=
  (by decide +kernel : ∀ t : Fin grid0.N, _)

/-- The kernel leaves the array the reference leaves. -/
theorem final0 : (dats m 0 c).arrAt 7 cfg0.N = Cert.ReferenceResBIdeal.Read.val_main_v44 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  by_cases h : t.val % 8 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
    blk_point [iblk, V, idx t]
  · rw [outsAt0_B m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
    blk_point [iblk, V, idx t]

/-- The kernel leaves the array the reference leaves. -/
theorem final1 : (dats m 0 c).arrAt 8 cfg0.N = Cert.ReferenceResBIdeal.Read.val_main_v47 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  by_cases h : t.val % 8 = 0
  · rw [outsAt0_A m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v47, Cert.ReferenceResBIdeal.Read.val_main_v46, Cert.ReferenceResBIdeal.Read.val_main_v45, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
    blk_point [iblk, V, idx t]
  · rw [outsAt0_B m c t h]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v47, Cert.ReferenceResBIdeal.Read.val_main_v46, Cert.ReferenceResBIdeal.Read.val_main_v45, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
    blk_point [iblk, V, idx t]

/-- The kernel leaves the array the reference leaves. -/
theorem final2 : (dats m 0 c).arrAt 9 cfg0.N = Cert.ReferenceResBIdeal.Read.val_main_v50 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9, Pipeline.eq_sum_fin_of_reset_step_apply_of_flush (fun n h => (outsAt0 m c n h).2.2.1) 8 (fun _ => 0)
    (fun t y => ∑ l : Fin 256, (Cert.ReferenceResBIdeal.Read.val_main_v48 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v48, Cert.ReferenceResBIdeal.Read.val_main_v45, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v48, Cert.ReferenceResBIdeal.Read.val_main_v45, Cert.ReferenceResBIdeal.Read.val_main_v44, Cert.ReferenceResBIdeal.Read.val_main_v42, Cert.ReferenceResBIdeal.Read.val_main_v43, Cert.ReferenceResBIdeal.Read.val_main_v35, Cert.ReferenceResBIdeal.Read.val_main_v41, Cert.ReferenceResBIdeal.Read.val_main_v40, Cert.ReferenceResBIdeal.Read.val_main_v2, Cert.ReferenceResBIdeal.Read.val_main_v34, Cert.ReferenceResBIdeal.Read.val_main_v39, Cert.ReferenceResBIdeal.Read.val_main_v1, Cert.ReferenceResBIdeal.Read.val_main_v29, Cert.ReferenceResBIdeal.Read.val_main_v33, Cert.ReferenceResBIdeal.Read.val_main_v38, Cert.ReferenceResBIdeal.Read.val_main_cst_8, Cert.ReferenceResBIdeal.Read.val_main_v0, Cert.ReferenceResBIdeal.Read.val_main_v22, Cert.ReferenceResBIdeal.Read.val_main_v28, Cert.ReferenceResBIdeal.Read.val_main_v10, Cert.ReferenceResBIdeal.Read.val_main_v36, Cert.ReferenceResBIdeal.Read.val_main_v37, Cert.ReferenceResBIdeal.Read.val_main_v17, Cert.ReferenceResBIdeal.Read.val_main_v9, Cert.ReferenceResBIdeal.Read.val_main_v32, Cert.ReferenceResBIdeal.Read.val_main_v13, Cert.ReferenceResBIdeal.Read.val_main_cst_7, Cert.ReferenceResBIdeal.Read.val_main_v16, Cert.ReferenceResBIdeal.Read.val_main_v7, Cert.ReferenceResBIdeal.Read.val_main_v8, Cert.ReferenceResBIdeal.Read.val_main_v31, Cert.ReferenceResBIdeal.Read.val_main_v12, Cert.ReferenceResBIdeal.Read.val_main_v11, Cert.ReferenceResBIdeal.Read.val_main_cst_3, Cert.ReferenceResBIdeal.Read.val_main_v5, Cert.ReferenceResBIdeal.Read.val_main_v6, Cert.ReferenceResBIdeal.Read.val_main_cst_1, Cert.ReferenceResBIdeal.Read.val_main_v30, Cert.ReferenceResBIdeal.Read.val_main_cst_6, Cert.ReferenceResBIdeal.Read.val_main_cst_2, Cert.ReferenceResBIdeal.Read.val_main_v4, Cert.ReferenceResBIdeal.Read.val_main_cst_0, Cert.ReferenceResBIdeal.Read.val_main_v3, Cert.ReferenceResBIdeal.Read.val_main_cst]
      blk_point [iblk, V, idx t])
    t ((flush0_9 t).mp hf) y, zero_add]
  pointwise [Cert.ReferenceResBIdeal.Read.val_main_v50, Cert.ReferenceResBIdeal.Read.val_main_v49, Cert.ReferenceResBIdeal.Read.val_main_cst_9]
  refine Fin.sum_mul_add_congr fun s l hl => ?_
  blk_point [iblk, V, idx t]

/-- The kernel leaves the array the reference leaves. -/
theorem final3 : (dats m 0 c).arrAt 10 cfg0.N = Cert.ReferenceResBIdeal.Read.val_main_v24 (m ((c.tc : Thread nD τ).loc main_arg6)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 8 (fun _ => 0)
    (fun t y => ∑ l : Fin 256, (m ((c.tc : Thread nD τ).loc main_arg6))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
      blk_point [iblk, V, idx t])
    t ((flush0_10 t).mp hf) y, zero_add]
  pointwise [Cert.ReferenceResBIdeal.Read.val_main_v24, Cert.ReferenceResBIdeal.Read.val_main_v23, Cert.ReferenceResBIdeal.Read.val_main_cst_4]
  refine Fin.sum_mul_add_congr fun s l hl => ?_
  blk_point [iblk, V, idx t]

/-- The kernel leaves the array the reference leaves. -/
theorem final4 : (dats m 0 c).arrAt 11 cfg0.N = Cert.ReferenceResBIdeal.Read.val_main_v27 (m ((c.tc : Thread nD τ).loc main_arg0)) (m ((c.tc : Thread nD τ).loc main_arg1)) (m ((c.tc : Thread nD τ).loc main_arg2)) (m ((c.tc : Thread nD τ).loc main_arg6)) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 8 (fun _ => 0)
    (fun t y => ∑ l : Fin 256, (Cert.ReferenceResBIdeal.Read.val_main_v25 (m ((c.tc : Thread nD τ).loc main_arg0)) (m ((c.tc : Thread nD τ).loc main_arg1)) (m ((c.tc : Thread nD τ).loc main_arg2)) (m ((c.tc : Thread nD τ).loc main_arg6)))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v25, Cert.ReferenceResBIdeal.Read.val_main_v15, Cert.ReferenceResBIdeal.Read.val_main_v22, Cert.ReferenceResBIdeal.Read.val_main_v2, Cert.ReferenceResBIdeal.Read.val_main_v14, Cert.ReferenceResBIdeal.Read.val_main_v1, Cert.ReferenceResBIdeal.Read.val_main_v10, Cert.ReferenceResBIdeal.Read.val_main_v0, Cert.ReferenceResBIdeal.Read.val_main_v9, Cert.ReferenceResBIdeal.Read.val_main_v7, Cert.ReferenceResBIdeal.Read.val_main_v8, Cert.ReferenceResBIdeal.Read.val_main_v5, Cert.ReferenceResBIdeal.Read.val_main_v6, Cert.ReferenceResBIdeal.Read.val_main_cst_1, Cert.ReferenceResBIdeal.Read.val_main_v4, Cert.ReferenceResBIdeal.Read.val_main_cst_0, Cert.ReferenceResBIdeal.Read.val_main_v3, Cert.ReferenceResBIdeal.Read.val_main_cst]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Cert.ReferenceResBIdeal.Read.val_main_v25, Cert.ReferenceResBIdeal.Read.val_main_v15, Cert.ReferenceResBIdeal.Read.val_main_v22, Cert.ReferenceResBIdeal.Read.val_main_v2, Cert.ReferenceResBIdeal.Read.val_main_v14, Cert.ReferenceResBIdeal.Read.val_main_v1, Cert.ReferenceResBIdeal.Read.val_main_v10, Cert.ReferenceResBIdeal.Read.val_main_v0, Cert.ReferenceResBIdeal.Read.val_main_v9, Cert.ReferenceResBIdeal.Read.val_main_v7, Cert.ReferenceResBIdeal.Read.val_main_v8, Cert.ReferenceResBIdeal.Read.val_main_v5, Cert.ReferenceResBIdeal.Read.val_main_v6, Cert.ReferenceResBIdeal.Read.val_main_cst_1, Cert.ReferenceResBIdeal.Read.val_main_v4, Cert.ReferenceResBIdeal.Read.val_main_cst_0, Cert.ReferenceResBIdeal.Read.val_main_v3, Cert.ReferenceResBIdeal.Read.val_main_cst]
      blk_point [iblk, V, idx t])
    t ((flush0_11 t).mp hf) y, zero_add]
  pointwise [Cert.ReferenceResBIdeal.Read.val_main_v27, Cert.ReferenceResBIdeal.Read.val_main_v26, Cert.ReferenceResBIdeal.Read.val_main_cst_5]
  refine Fin.sum_mul_add_congr fun s l hl => ?_
  blk_point [iblk, V, idx t]

end Cert.KernelResBIdeal.Claims

namespace Cert.ReferenceResBIdeal.Frame

open Cert.ReferenceResBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  (θ_run defs _ _).mono (fun r h => ⟨fun c => (h c).2.2.2.2.2, sem_eq_zero_of_no_sems (by decide) r.2⟩) (Value.run m g)

end Cert.ReferenceResBIdeal.Frame

namespace Cert.KernelResBIdeal.Claims

open Idealize.ShloMosaic Idealize.SL.Sem

/-- The kernel and the reference leave the same arrays. -/
theorem algebraic : Cert.algebraic_KernelResBIdeal_ReferenceResBIdeal
    (hKernelResBIdeal := Cert.KernelResBIdeal.Gen.facts) (hReferenceResBIdeal := Cert.ReferenceResBIdeal.Gen.facts) := by
  intro m g m' g' _ hagree
  refine ⟨fun c => Cert.ReferenceResBIdeal.Read.val_main_v44 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)),
    fun c => Cert.ReferenceResBIdeal.Read.val_main_v47 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)),
    fun c => Cert.ReferenceResBIdeal.Read.val_main_v50 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)),
    fun c => Cert.ReferenceResBIdeal.Read.val_main_v24 (m ((c.tc : Thread nD τ).loc main_arg6)),
    fun c => Cert.ReferenceResBIdeal.Read.val_main_v27 (m ((c.tc : Thread nD τ).loc main_arg0)) (m ((c.tc : Thread nD τ).loc main_arg1)) (m ((c.tc : Thread nD τ).loc main_arg2)) (m ((c.tc : Thread nD τ).loc main_arg6)), ?_, ?_⟩
  · refine (θ_run _ _ _).mono (fun r h c => ?_) (Cert.KernelResBIdeal.Value.run_blocks m g)
    obtain ⟨h0, h1, h2, h3, h4, hargs⟩ := h c
    exact ⟨h0.trans (final0 m c), h1.trans (final1 m c), h2.trans (final2 m c), h3.trans (final3 m c), h4.trans (final4 m c), hargs⟩
  · refine (θ_run _ _ _).mono (fun r h c => ?_) (Cert.ReferenceResBIdeal.Value.run m' g')
    obtain ⟨h0, h1, h2, h3, h4, hargs⟩ := h c
    obtain ⟨a0, a1, a2, a3, a4, a5, a6⟩ := hagree c
    have e0 := h0.trans (Cert.ReferenceResBIdeal.Read.val_main_v44_eq _ _)
    rw [a0, a1, a2, a4, a5, a6] at e0
    have e1 := h1.trans (Cert.ReferenceResBIdeal.Read.val_main_v47_eq _ _)
    rw [a0, a1, a2, a4, a5, a6] at e1
    have e2 := h2.trans (Cert.ReferenceResBIdeal.Read.val_main_v50_eq _ _)
    rw [a0, a1, a2, a4, a5, a6] at e2
    have e3 := h3.trans (Cert.ReferenceResBIdeal.Read.val_main_v24_eq _)
    rw [a6] at e3
    have e4 := h4.trans (Cert.ReferenceResBIdeal.Read.val_main_v27_eq _ _ _ _)
    rw [a0, a1, a2, a6] at e4
    exact ⟨e0, e1, e2, e3, e4, hargs⟩

end Cert.KernelResBIdeal.Claims

end
-- ==== Proof.HeadF.lean ====
/- The final norm and the per-token loss, forward. -/
module

public import proofs.«01_k».proof.Defs
public import proofs.«01_k».proof.Proof.Gen.KernelHeadF.Frame
public import proofs.«01_k».proof.Proof.Gen.KernelHeadFIdeal.Value
public import proofs.«01_k».proof.Proof.Gen.ReferenceHeadFIdeal.Run
public import proofs.«01_k».proof.Proof.Gen.ReferenceHeadFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelHeadFIdeal.Claims

open Cert.KernelHeadFIdeal Cert.KernelHeadFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The kernel leaves the array the reference leaves. -/
theorem final0 : (dats m 0 c).arrAt 5 cfg0.N = Cert.ReferenceHeadFIdeal.Read.val_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  frame_out
  pointwise [k0_pay1, Cert.ReferenceHeadFIdeal.Read.val_main_v23, Cert.ReferenceHeadFIdeal.Read.val_main_v22, Cert.ReferenceHeadFIdeal.Read.val_main_v21, Cert.ReferenceHeadFIdeal.Read.val_main_v20, Cert.ReferenceHeadFIdeal.Read.val_main_v19, Cert.ReferenceHeadFIdeal.Read.val_main_cst_4, Cert.ReferenceHeadFIdeal.Read.val_main_v17, Cert.ReferenceHeadFIdeal.Read.val_main_v18, Cert.ReferenceHeadFIdeal.Read.val_main_v16, Cert.ReferenceHeadFIdeal.Read.val_main_cst_2, Cert.ReferenceHeadFIdeal.Read.val_main_cst_3, Cert.ReferenceHeadFIdeal.Read.val_main_v15, Cert.ReferenceHeadFIdeal.Read.val_main_v14, Cert.ReferenceHeadFIdeal.Read.val_main_v12, Cert.ReferenceHeadFIdeal.Read.val_main_v13, Cert.ReferenceHeadFIdeal.Read.val_main_v2, Cert.ReferenceHeadFIdeal.Read.val_main_v11, Cert.ReferenceHeadFIdeal.Read.val_main_v1, Cert.ReferenceHeadFIdeal.Read.val_main_v10, Cert.ReferenceHeadFIdeal.Read.val_main_v0, Cert.ReferenceHeadFIdeal.Read.val_main_v9, Cert.ReferenceHeadFIdeal.Read.val_main_v7, Cert.ReferenceHeadFIdeal.Read.val_main_v8, Cert.ReferenceHeadFIdeal.Read.val_main_v5, Cert.ReferenceHeadFIdeal.Read.val_main_v6, Cert.ReferenceHeadFIdeal.Read.val_main_cst_1, Cert.ReferenceHeadFIdeal.Read.val_main_v4, Cert.ReferenceHeadFIdeal.Read.val_main_cst_0, Cert.ReferenceHeadFIdeal.Read.val_main_v3, Cert.ReferenceHeadFIdeal.Read.val_main_cst]
  blk_point [iblk, V, idx t]

end Cert.KernelHeadFIdeal.Claims

namespace Cert.ReferenceHeadFIdeal.Frame

open Cert.ReferenceHeadFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2, sem_eq_zero_of_no_sems (by decide) r.2⟩) (Value.run m g)

end Cert.ReferenceHeadFIdeal.Frame

namespace Cert.KernelHeadFIdeal.Claims

open Idealize.ShloMosaic Idealize.SL.Sem

/-- The kernel and the reference leave the same arrays. -/
theorem algebraic : Cert.algebraic_KernelHeadFIdeal_ReferenceHeadFIdeal
    (hKernelHeadFIdeal := Cert.KernelHeadFIdeal.Gen.facts) (hReferenceHeadFIdeal := Cert.ReferenceHeadFIdeal.Gen.facts) := by
  intro m g m' g' _ hagree
  refine ⟨fun c => Cert.ReferenceHeadFIdeal.Read.val_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run _ _ _).mono (fun r h c => ?_) (Cert.KernelHeadFIdeal.Value.run_blocks m g)
    obtain ⟨h0, hargs⟩ := h c
    exact ⟨h0.trans (final0 m c), hargs⟩
  · refine (θ_run _ _ _).mono (fun r h c => ?_) (Cert.ReferenceHeadFIdeal.Value.run m' g')
    obtain ⟨h0, hargs⟩ := h c
    obtain ⟨a0, a1, a2, a3, a4⟩ := hagree c
    have e0 := h0.trans (Cert.ReferenceHeadFIdeal.Read.val_main_v23_eq _ _ _ _ _)
    rw [a0, a1, a2, a3, a4] at e0
    exact ⟨e0, hargs⟩

end Cert.KernelHeadFIdeal.Claims

end
-- ==== Proof.HeadB.lean ====
/- The final norm and the loss, backward. -/
module

public import proofs.«01_k».proof.Defs
public import proofs.«01_k».proof.Proof.Gen.KernelHeadB.Frame
public import proofs.«01_k».proof.Proof.Gen.KernelHeadBIdeal.Value
public import proofs.«01_k».proof.Proof.Gen.ReferenceHeadBIdeal.Run
public import proofs.«01_k».proof.Proof.Gen.ReferenceHeadBIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelHeadBIdeal.Claims

open Cert.KernelHeadBIdeal Cert.KernelHeadBIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The cotangent the host prepares: one in the first lane, zero in the others. -/
theorem lane (t : Fin cfg0.N) (x : Fin 256) (l : Fin 128) :
    @Eq EReal (iblk m c 5 t (ix2 x l)) (if l = 0 then 1 else 0) := by
  have e : (((win0_5.blk t).view.emb (ix2 x l)) 1).val = l.val := by blk_simp [idx t]
  show @Eq EReal (V m c main_v6 ((win0_5.blk t).view.emb (ix2 x l))) _
  entry_read
  pointwise
  by_cases h : l = 0
  · rw [if_pos h, dif_pos (by rw [show (((View.whole main_v6).slice (win0_5.rect t)).emb (ix2 x l) 1).val = l.val from e, h]; decide)]
  · rw [if_neg h, dif_neg (by
      rw [show (((View.whole main_v6).slice (win0_5.rect t)).emb (ix2 x l) 1).val = l.val from e]
      exact fun k => h (Fin.ext (Nat.lt_one_iff.mp k)))]

/-- Its lanes sum to one. -/
theorem lanes : (∑ l : Fin 128, (if l = 0 then 1 else 0 : EReal)) = 1 := by
  rw [Finset.sum_ite_eq' Finset.univ (0 : Fin 128) fun _ => (1 : EReal)]
  exact if_pos (Finset.mem_univ _)

/-- The kernel leaves the array the reference leaves. -/
theorem final0 : (dats m 0 c).arrAt 6 cfg0.N = Cert.ReferenceHeadBIdeal.Read.val_main_v51 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  by_cases h : t.val % 8 = 0
  · rw [outsAt0_A m c t h]
    frame_out
    pointwise [k0_pay1, k0_pay2, k0_pay3, k0_pay4, k0_pay5, k0_pay6, k0_pay7, k0_pay8, k0_pay9, k0_pay10, k0_pay11, k0_pay12, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
    simp only [lane, lanes, mul_one, Finset.univ_unique, Finset.sum_singleton]
    blk_point [iblk, V, idx t]
    exact congrArg (Ideal.div · _) ((congrArg (_ * ·) ((Fin.sum_fin_congr fun l => lane m c t (y 0) l).trans lanes)).trans (mul_one _))
  · rw [outsAt0_B m c t h]
    frame_out
    pointwise [k0_pay1, k0_pay2, k0_pay3, k0_pay4, k0_pay5, k0_pay6, k0_pay7, k0_pay8, k0_pay9, k0_pay10, k0_pay11, k0_pay12, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
    simp only [lane, lanes, mul_one, Finset.univ_unique, Finset.sum_singleton]
    blk_point [iblk, V, idx t]
    exact congrArg (Ideal.div · _) ((congrArg (_ * ·) ((Fin.sum_fin_congr fun l => lane m c t (y 0) l).trans lanes)).trans (mul_one _))

/-- The kernel leaves the array the reference leaves. -/
theorem final1 : (dats m 0 c).arrAt 7 cfg0.N = Cert.ReferenceHeadBIdeal.Read.val_main_v53 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  by_cases h : t.val % 8 = 0
  · rw [outsAt0_A m c t h]
    frame_out
    pointwise [k0_pay1, k0_pay2, k0_pay3, k0_pay4, k0_pay5, k0_pay6, k0_pay7, k0_pay8, k0_pay9, k0_pay10, k0_pay11, k0_pay12, Cert.ReferenceHeadBIdeal.Read.val_main_v53, Cert.ReferenceHeadBIdeal.Read.val_main_v52, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
    simp only [lane, lanes, mul_one, Finset.univ_unique, Finset.sum_singleton]
    blk_point [iblk, V, idx t]
    exact congrArg (Ideal.div · _) ((congrArg (_ * ·) ((Fin.sum_fin_congr fun l => lane m c t (y 0) l).trans lanes)).trans (mul_one _))
  · rw [outsAt0_B m c t h]
    frame_out
    pointwise [k0_pay1, k0_pay2, k0_pay3, k0_pay4, k0_pay5, k0_pay6, k0_pay7, k0_pay8, k0_pay9, k0_pay10, k0_pay11, k0_pay12, Cert.ReferenceHeadBIdeal.Read.val_main_v53, Cert.ReferenceHeadBIdeal.Read.val_main_v52, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
    simp only [lane, lanes, mul_one, Finset.univ_unique, Finset.sum_singleton]
    blk_point [iblk, V, idx t]
    exact congrArg (Ideal.div · _) ((congrArg (_ * ·) ((Fin.sum_fin_congr fun l => lane m c t (y 0) l).trans lanes)).trans (mul_one _))

/-- The kernel leaves the array the reference leaves. -/
theorem final2 : (dats m 0 c).arrAt 8 cfg0.N = Cert.ReferenceHeadBIdeal.Read.val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0)
    (fun t y => ∑ l : Fin 256, (Cert.ReferenceHeadBIdeal.Read.val_main_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, k0_pay11, k0_pay12, Cert.ReferenceHeadBIdeal.Read.val_main_v54, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
      simp only [lane, lanes, mul_one, Finset.univ_unique, Finset.sum_singleton]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, k0_pay11, k0_pay12, Cert.ReferenceHeadBIdeal.Read.val_main_v54, Cert.ReferenceHeadBIdeal.Read.val_main_v51, Cert.ReferenceHeadBIdeal.Read.val_main_v49, Cert.ReferenceHeadBIdeal.Read.val_main_v50, Cert.ReferenceHeadBIdeal.Read.val_main_v42, Cert.ReferenceHeadBIdeal.Read.val_main_v48, Cert.ReferenceHeadBIdeal.Read.val_main_v47, Cert.ReferenceHeadBIdeal.Read.val_main_v2, Cert.ReferenceHeadBIdeal.Read.val_main_v37, Cert.ReferenceHeadBIdeal.Read.val_main_v41, Cert.ReferenceHeadBIdeal.Read.val_main_v46, Cert.ReferenceHeadBIdeal.Read.val_main_v1, Cert.ReferenceHeadBIdeal.Read.val_main_v32, Cert.ReferenceHeadBIdeal.Read.val_main_v36, Cert.ReferenceHeadBIdeal.Read.val_main_v10, Cert.ReferenceHeadBIdeal.Read.val_main_v45, Cert.ReferenceHeadBIdeal.Read.val_main_cst_14, Cert.ReferenceHeadBIdeal.Read.val_main_v0, Cert.ReferenceHeadBIdeal.Read.val_main_v31, Cert.ReferenceHeadBIdeal.Read.val_main_v21, Cert.ReferenceHeadBIdeal.Read.val_main_v9, Cert.ReferenceHeadBIdeal.Read.val_main_v43, Cert.ReferenceHeadBIdeal.Read.val_main_v44, Cert.ReferenceHeadBIdeal.Read.val_main_v30, Cert.ReferenceHeadBIdeal.Read.val_main_v20, Cert.ReferenceHeadBIdeal.Read.val_main_v18, Cert.ReferenceHeadBIdeal.Read.val_main_v7, Cert.ReferenceHeadBIdeal.Read.val_main_v8, Cert.ReferenceHeadBIdeal.Read.val_main_v40, Cert.ReferenceHeadBIdeal.Read.val_main_v13, Cert.ReferenceHeadBIdeal.Read.val_main_cst_13, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v5, Cert.ReferenceHeadBIdeal.Read.val_main_v6, Cert.ReferenceHeadBIdeal.Read.val_main_cst_1, Cert.ReferenceHeadBIdeal.Read.val_main_v39, Cert.ReferenceHeadBIdeal.Read.val_main_v12, Cert.ReferenceHeadBIdeal.Read.val_main_v11, Cert.ReferenceHeadBIdeal.Read.val_main_v27, Cert.ReferenceHeadBIdeal.Read.val_main_cst_10, Cert.ReferenceHeadBIdeal.Read.val_main_v15, Cert.ReferenceHeadBIdeal.Read.val_main_v16, Cert.ReferenceHeadBIdeal.Read.val_main_v4, Cert.ReferenceHeadBIdeal.Read.val_main_cst_0, Cert.ReferenceHeadBIdeal.Read.val_main_v38, Cert.ReferenceHeadBIdeal.Read.val_main_cst_12, Cert.ReferenceHeadBIdeal.Read.val_main_cst_2, Cert.ReferenceHeadBIdeal.Read.val_main_cst_8, Cert.ReferenceHeadBIdeal.Read.val_main_cst_9, Cert.ReferenceHeadBIdeal.Read.val_main_v14, Cert.ReferenceHeadBIdeal.Read.val_main_v3, Cert.ReferenceHeadBIdeal.Read.val_main_cst]
      simp only [lane, lanes, mul_one, Finset.univ_unique, Finset.sum_singleton]
      blk_point [iblk, V, idx t])
    t ((flush0_8 t).mp hf) y, zero_add]
  pointwise [Cert.ReferenceHeadBIdeal.Read.val_main_v56, Cert.ReferenceHeadBIdeal.Read.val_main_v55, Cert.ReferenceHeadBIdeal.Read.val_main_cst_15]
  refine Fin.sum_mul_add_congr fun s l hl => ?_
  blk_point [iblk, V, idx t]

/-- The kernel leaves the array the reference leaves. -/
theorem final3 : (dats m 0 c).arrAt 9 cfg0.N = Cert.ReferenceHeadBIdeal.Read.val_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0)
    (fun t y => ∑ l : Fin 256, (Cert.ReferenceHeadBIdeal.Read.val_main_v33 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (ix2 ⟨t.val * 256 + l.val, by have := t.isLt; change t.val < 8 at this; omega⟩ (y 1)))
    (fun t h y => by
      rw [outsAt0_A m c t h]
      frame_out
      pointwise [k0_pay1, k0_pay2, k0_pay3, k0_pay4, k0_pay5, k0_pay6, k0_pay7, k0_pay8, k0_pay9, k0_pay10, k0_pay11, k0_pay12, Cert.ReferenceHeadBIdeal.Read.val_main_v33, Cert.ReferenceHeadBIdeal.Read.val_main_v15, Cert.ReferenceHeadBIdeal.Read.val_main_v32, Cert.ReferenceHeadBIdeal.Read.val_main_v2, Cert.ReferenceHeadBIdeal.Read.val_main_v14, Cert.ReferenceHeadBIdeal.Read.val_main_v31, Cert.ReferenceHeadBIdeal.Read.val_main_v21, Cert.ReferenceHeadBIdeal.Read.val_main_v1, Cert.ReferenceHeadBIdeal.Read.val_main_v10, Cert.ReferenceHeadBIdeal.Read.val_main_v30, Cert.ReferenceHeadBIdeal.Read.val_main_v20, Cert.ReferenceHeadBIdeal.Read.val_main_v18, Cert.ReferenceHeadBIdeal.Read.val_main_v0, Cert.ReferenceHeadBIdeal.Read.val_main_v9, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v7, Cert.ReferenceHeadBIdeal.Read.val_main_v8, Cert.ReferenceHeadBIdeal.Read.val_main_v27, Cert.ReferenceHeadBIdeal.Read.val_main_cst_10, Cert.ReferenceHeadBIdeal.Read.val_main_v16, Cert.ReferenceHeadBIdeal.Read.val_main_v5, Cert.ReferenceHeadBIdeal.Read.val_main_v6, Cert.ReferenceHeadBIdeal.Read.val_main_cst_1, Cert.ReferenceHeadBIdeal.Read.val_main_cst_8, Cert.ReferenceHeadBIdeal.Read.val_main_cst_9, Cert.ReferenceHeadBIdeal.Read.val_main_v4, Cert.ReferenceHeadBIdeal.Read.val_main_cst_0, Cert.ReferenceHeadBIdeal.Read.val_main_v3, Cert.ReferenceHeadBIdeal.Read.val_main_cst]
      simp only [lane, lanes, mul_one, Finset.univ_unique, Finset.sum_singleton]
      blk_point [iblk, V, idx t])
    (fun t h y => by
      rw [outsAt0_B m c t h]
      frame_out
      pointwise [k0_pay1, k0_pay2, k0_pay3, k0_pay4, k0_pay5, k0_pay6, k0_pay7, k0_pay8, k0_pay9, k0_pay10, k0_pay11, k0_pay12, Cert.ReferenceHeadBIdeal.Read.val_main_v33, Cert.ReferenceHeadBIdeal.Read.val_main_v15, Cert.ReferenceHeadBIdeal.Read.val_main_v32, Cert.ReferenceHeadBIdeal.Read.val_main_v2, Cert.ReferenceHeadBIdeal.Read.val_main_v14, Cert.ReferenceHeadBIdeal.Read.val_main_v31, Cert.ReferenceHeadBIdeal.Read.val_main_v21, Cert.ReferenceHeadBIdeal.Read.val_main_v1, Cert.ReferenceHeadBIdeal.Read.val_main_v10, Cert.ReferenceHeadBIdeal.Read.val_main_v30, Cert.ReferenceHeadBIdeal.Read.val_main_v20, Cert.ReferenceHeadBIdeal.Read.val_main_v18, Cert.ReferenceHeadBIdeal.Read.val_main_v0, Cert.ReferenceHeadBIdeal.Read.val_main_v9, Cert.ReferenceHeadBIdeal.Read.val_main_v28, Cert.ReferenceHeadBIdeal.Read.val_main_v29, Cert.ReferenceHeadBIdeal.Read.val_main_cst_3, Cert.ReferenceHeadBIdeal.Read.val_main_v17, Cert.ReferenceHeadBIdeal.Read.val_main_v7, Cert.ReferenceHeadBIdeal.Read.val_main_v8, Cert.ReferenceHeadBIdeal.Read.val_main_v27, Cert.ReferenceHeadBIdeal.Read.val_main_cst_10, Cert.ReferenceHeadBIdeal.Read.val_main_v16, Cert.ReferenceHeadBIdeal.Read.val_main_v5, Cert.ReferenceHeadBIdeal.Read.val_main_v6, Cert.ReferenceHeadBIdeal.Read.val_main_cst_1, Cert.ReferenceHeadBIdeal.Read.val_main_cst_8, Cert.ReferenceHeadBIdeal.Read.val_main_cst_9, Cert.ReferenceHeadBIdeal.Read.val_main_v4, Cert.ReferenceHeadBIdeal.Read.val_main_cst_0, Cert.ReferenceHeadBIdeal.Read.val_main_v3, Cert.ReferenceHeadBIdeal.Read.val_main_cst]
      simp only [lane, lanes, mul_one, Finset.univ_unique, Finset.sum_singleton]
      blk_point [iblk, V, idx t])
    t ((flush0_9 t).mp hf) y, zero_add]
  pointwise [Cert.ReferenceHeadBIdeal.Read.val_main_v35, Cert.ReferenceHeadBIdeal.Read.val_main_v34, Cert.ReferenceHeadBIdeal.Read.val_main_cst_11]
  refine Fin.sum_mul_add_congr fun s l hl => ?_
  blk_point [iblk, V, idx t]

end Cert.KernelHeadBIdeal.Claims

namespace Cert.ReferenceHeadBIdeal.Frame

open Cert.ReferenceHeadBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2.2.2.2, sem_eq_zero_of_no_sems (by decide) r.2⟩) (Value.run m g)

end Cert.ReferenceHeadBIdeal.Frame

namespace Cert.KernelHeadBIdeal.Claims

open Idealize.ShloMosaic Idealize.SL.Sem

/-- The kernel and the reference leave the same arrays. -/
theorem algebraic : Cert.algebraic_KernelHeadBIdeal_ReferenceHeadBIdeal
    (hKernelHeadBIdeal := Cert.KernelHeadBIdeal.Gen.facts) (hReferenceHeadBIdeal := Cert.ReferenceHeadBIdeal.Gen.facts) := by
  intro m g m' g' _ hagree
  refine ⟨fun c => Cert.ReferenceHeadBIdeal.Read.val_main_v51 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.ReferenceHeadBIdeal.Read.val_main_v53 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.ReferenceHeadBIdeal.Read.val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.ReferenceHeadBIdeal.Read.val_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run _ _ _).mono (fun r h c => ?_) (Cert.KernelHeadBIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceHeadBIdeal.Value.run m' g')
    obtain ⟨h0, h1, h2, h3, hargs⟩ := h c
    obtain ⟨a0, a1, a2, a3, a4⟩ := hagree c
    have e0 := h0.trans (Cert.ReferenceHeadBIdeal.Read.val_main_v51_eq _ _)
    rw [a0, a1, a2, a3, a4] at e0
    have e1 := h1.trans (Cert.ReferenceHeadBIdeal.Read.val_main_v53_eq _ _)
    rw [a0, a1, a2, a3, a4] at e1
    have e2 := h2.trans (Cert.ReferenceHeadBIdeal.Read.val_main_v56_eq _ _)
    rw [a0, a1, a2, a3, a4] at e2
    have e3 := h3.trans (Cert.ReferenceHeadBIdeal.Read.val_main_v35_eq _ _ _ _ _)
    rw [a0, a1, a2, a3, a4] at e3
    exact ⟨e0, e1, e2, e3, hargs⟩

end Cert.KernelHeadBIdeal.Claims

end
-- ==== Proof.GoutF.lean ====
/- The gated normed output of the recurrent mixer, forward. -/
module

public import proofs.«01_k».proof.Defs
public import proofs.«01_k».proof.Proof.Gen.KernelGoutF.Frame
public import proofs.«01_k».proof.Proof.Gen.KernelGoutFIdeal.Value
public import proofs.«01_k».proof.Proof.Gen.ReferenceGoutFIdeal.Run
public import proofs.«01_k».proof.Proof.Gen.ReferenceGoutFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelGoutFIdeal.Claims

open Cert.KernelGoutFIdeal Cert.KernelGoutFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The kernel leaves the array the reference leaves. -/
theorem final0 : (dats m 0 c).arrAt 3 cfg0.N = Cert.ReferenceGoutFIdeal.Read.val_main_v17 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, Cert.ReferenceGoutFIdeal.Read.val_main_v17, Cert.ReferenceGoutFIdeal.Read.val_main_v16, Cert.ReferenceGoutFIdeal.Read.val_main_v13, Cert.ReferenceGoutFIdeal.Read.val_main_v15, Cert.ReferenceGoutFIdeal.Read.val_main_v10, Cert.ReferenceGoutFIdeal.Read.val_main_v12, Cert.ReferenceGoutFIdeal.Read.val_main_v14, Cert.ReferenceGoutFIdeal.Read.val_main_call0_v5, Cert.ReferenceGoutFIdeal.Read.val_main_v0, Cert.ReferenceGoutFIdeal.Read.val_main_v9, Cert.ReferenceGoutFIdeal.Read.val_main_v11, Cert.ReferenceGoutFIdeal.Read.val_main_call0_v4, Cert.ReferenceGoutFIdeal.Read.val_main_call0_v3, Cert.ReferenceGoutFIdeal.Read.val_main_v8, Cert.ReferenceGoutFIdeal.Read.val_main_call0_cst_0, Cert.ReferenceGoutFIdeal.Read.val_main_call0_v2, Cert.ReferenceGoutFIdeal.Read.val_main_call0_v1, Cert.ReferenceGoutFIdeal.Read.val_main_v7, Cert.ReferenceGoutFIdeal.Read.val_main_call0_cst, Cert.ReferenceGoutFIdeal.Read.val_main_call0_v0, Cert.ReferenceGoutFIdeal.Read.val_main_v5, Cert.ReferenceGoutFIdeal.Read.val_main_v6, Cert.ReferenceGoutFIdeal.Read.val_main_v3, Cert.ReferenceGoutFIdeal.Read.val_main_v4, Cert.ReferenceGoutFIdeal.Read.val_main_cst_1, Cert.ReferenceGoutFIdeal.Read.val_main_v2, Cert.ReferenceGoutFIdeal.Read.val_main_cst_0, Cert.ReferenceGoutFIdeal.Read.val_main_v1, Cert.ReferenceGoutFIdeal.Read.val_main_cst]
  simp only [Ideal.logistic]
  blk_point [iblk, V, idx t]

end Cert.KernelGoutFIdeal.Claims

namespace Cert.ReferenceGoutFIdeal.Frame

open Cert.ReferenceGoutFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceGoutFIdeal.Frame

namespace Cert.KernelGoutFIdeal.Claims

open Idealize.ShloMosaic Idealize.SL.Sem

/-- The kernel and the reference leave the same arrays. -/
theorem algebraic : Cert.algebraic_KernelGoutFIdeal_ReferenceGoutFIdeal
    (hKernelGoutFIdeal := Cert.KernelGoutFIdeal.Gen.facts) (hReferenceGoutFIdeal := Cert.ReferenceGoutFIdeal.Gen.facts) := by
  intro m g m' g' _ hagree
  refine ⟨fun c => Cert.ReferenceGoutFIdeal.Read.val_main_v17 (m ((c.tc : Thread nD τ).loc main_arg0)) (m ((c.tc : Thread nD τ).loc main_arg1)) (m ((c.tc : Thread nD τ).loc main_arg2)), ?_, ?_⟩
  · refine (θ_run _ _ _).mono (fun r h c => ?_) (Cert.KernelGoutFIdeal.Value.run_blocks m g)
    obtain ⟨h0, hargs⟩ := h c
    exact ⟨h0.trans (final0 m c), hargs⟩
  · refine (θ_run _ _ _).mono (fun r h c => ?_) (Cert.ReferenceGoutFIdeal.Value.run m' g')
    obtain ⟨h0, hargs⟩ := h c
    obtain ⟨a0, a1, a2⟩ := hagree c
    have e0 := h0.trans (Cert.ReferenceGoutFIdeal.Read.val_main_v17_eq _ _ _)
    rw [a0, a1, a2] at e0
    exact ⟨e0, hargs⟩

end Cert.KernelGoutFIdeal.Claims

end
-- ==== Proof.NormcF.lean ====
/- The modulated norm of the context rows, forward. -/
module

public import proofs.«01_k».proof.Defs
public import proofs.«01_k».proof.Proof.Gen.KernelNormcF.Frame
public import proofs.«01_k».proof.Proof.Gen.KernelNormcFIdeal.Value
public import proofs.«01_k».proof.Proof.Gen.ReferenceNormcFIdeal.Run
public import proofs.«01_k».proof.Proof.Gen.ReferenceNormcFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelNormcFIdeal.Claims

open Cert.KernelNormcFIdeal Cert.KernelNormcFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The kernel leaves the array the reference leaves. -/
theorem final0 : (dats m 0 c).arrAt 3 cfg0.N = Cert.ReferenceNormcFIdeal.Read.val_main_v15 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  pointwise [k0_pay1, Cert.ReferenceNormcFIdeal.Read.val_main_v15, Cert.ReferenceNormcFIdeal.Read.val_main_v13, Cert.ReferenceNormcFIdeal.Read.val_main_v14, Cert.ReferenceNormcFIdeal.Read.val_main_v9, Cert.ReferenceNormcFIdeal.Read.val_main_v12, Cert.ReferenceNormcFIdeal.Read.val_main_v8, Cert.ReferenceNormcFIdeal.Read.val_main_v11, Cert.ReferenceNormcFIdeal.Read.val_main_v7, Cert.ReferenceNormcFIdeal.Read.val_main_v10, Cert.ReferenceNormcFIdeal.Read.val_main_v6, Cert.ReferenceNormcFIdeal.Read.val_main_cst_2, Cert.ReferenceNormcFIdeal.Read.val_main_v4, Cert.ReferenceNormcFIdeal.Read.val_main_v5, Cert.ReferenceNormcFIdeal.Read.val_main_v2, Cert.ReferenceNormcFIdeal.Read.val_main_v3, Cert.ReferenceNormcFIdeal.Read.val_main_cst_1, Cert.ReferenceNormcFIdeal.Read.val_main_v1, Cert.ReferenceNormcFIdeal.Read.val_main_cst_0, Cert.ReferenceNormcFIdeal.Read.val_main_v0, Cert.ReferenceNormcFIdeal.Read.val_main_cst]
  blk_point [iblk, V, idx t]

end Cert.KernelNormcFIdeal.Claims

namespace Cert.ReferenceNormcFIdeal.Frame

open Cert.ReferenceNormcFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceNormcFIdeal.Frame

namespace Cert.KernelNormcFIdeal.Claims

open Idealize.ShloMosaic Idealize.SL.Sem

/-- The kernel and the reference leave the same arrays. -/
theorem algebraic : Cert.algebraic_KernelNormcFIdeal_ReferenceNormcFIdeal
    (hKernelNormcFIdeal := Cert.KernelNormcFIdeal.Gen.facts) (hReferenceNormcFIdeal := Cert.ReferenceNormcFIdeal.Gen.facts) := by
  intro m g m' g' _ hagree
  refine ⟨fun c => Cert.ReferenceNormcFIdeal.Read.val_main_v15 (m ((c.tc : Thread nD τ).loc main_arg0)) (m ((c.tc : Thread nD τ).loc main_arg1)) (m ((c.tc : Thread nD τ).loc main_arg2)), ?_, ?_⟩
  · refine (θ_run _ _ _).mono (fun r h c => ?_) (Cert.KernelNormcFIdeal.Value.run_blocks m g)
    obtain ⟨h0, hargs⟩ := h c
    exact ⟨h0.trans (final0 m c), hargs⟩
  · refine (θ_run _ _ _).mono (fun r h c => ?_) (Cert.ReferenceNormcFIdeal.Value.run m' g')
    obtain ⟨h0, hargs⟩ := h c
    obtain ⟨a0, a1, a2⟩ := hagree c
    have e0 := h0.trans (Cert.ReferenceNormcFIdeal.Read.val_main_v15_eq _ _ _)
    rw [a0, a1, a2] at e0
    exact ⟨e0, hargs⟩

end Cert.KernelNormcFIdeal.Claims

end
-- ==== Proof.NormcB.lean ====
/- The modulated norm of the context, backward. -/
module

public import proofs.«01_k».proof.Defs
public import proofs.«01_k».proof.Proof.Gen.KernelNormcB.Frame
public import proofs.«01_k».proof.Proof.Gen.KernelNormcBIdeal.Value
public import proofs.«01_k».proof.Proof.Gen.ReferenceNormcBIdeal.Run
public import proofs.«01_k».proof.Proof.Gen.ReferenceNormcBIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelNormcBIdeal.Claims

open Cert.KernelNormcBIdeal Cert.KernelNormcBIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] :=
  (by decide +kernel : ∀ t : Fin grid0.N, _)

/-- The kernel leaves the array the reference leaves. -/
theorem final0 : (dats m 0 c).arrAt 4 cfg0.N = Cert.ReferenceNormcBIdeal.Read.val_main_v40 (m ((c.tc : Thread nD τ).loc main_arg0)) (m ((c.tc : Thread nD τ).loc main_arg2)) (m ((c.tc : Thread nD τ).loc main_arg3)) := by
  refine (dats m 0 c).arrAt_eq_of_covers 4 _ (by decide +kernel) fun t hf y => ?_
  blk_simp
  rw [after0_4]
  unfold outsAt0
  frame_out
  pointwise [k0_pay1, k0_pay2, k0_pay3, k0_pay4, k0_pay5, k0_pay6, k0_pay7, k0_pay8, k0_pay9, k0_pay10, Cert.ReferenceNormcBIdeal.Read.val_main_v40, Cert.ReferenceNormcBIdeal.Read.val_main_v38, Cert.ReferenceNormcBIdeal.Read.val_main_v39, Cert.ReferenceNormcBIdeal.Read.val_main_v31, Cert.ReferenceNormcBIdeal.Read.val_main_v37, Cert.ReferenceNormcBIdeal.Read.val_main_v36, Cert.ReferenceNormcBIdeal.Read.val_main_v26, Cert.ReferenceNormcBIdeal.Read.val_main_v30, Cert.ReferenceNormcBIdeal.Read.val_main_v35, Cert.ReferenceNormcBIdeal.Read.val_main_v19, Cert.ReferenceNormcBIdeal.Read.val_main_v25, Cert.ReferenceNormcBIdeal.Read.val_main_v7, Cert.ReferenceNormcBIdeal.Read.val_main_v34, Cert.ReferenceNormcBIdeal.Read.val_main_cst_8, Cert.ReferenceNormcBIdeal.Read.val_main_v14, Cert.ReferenceNormcBIdeal.Read.val_main_v6, Cert.ReferenceNormcBIdeal.Read.val_main_v32, Cert.ReferenceNormcBIdeal.Read.val_main_v33, Cert.ReferenceNormcBIdeal.Read.val_main_v13, Cert.ReferenceNormcBIdeal.Read.val_main_v4, Cert.ReferenceNormcBIdeal.Read.val_main_v5, Cert.ReferenceNormcBIdeal.Read.val_main_v29, Cert.ReferenceNormcBIdeal.Read.val_main_v10, Cert.ReferenceNormcBIdeal.Read.val_main_cst_7, Cert.ReferenceNormcBIdeal.Read.val_main_cst_3, Cert.ReferenceNormcBIdeal.Read.val_main_v2, Cert.ReferenceNormcBIdeal.Read.val_main_v3, Cert.ReferenceNormcBIdeal.Read.val_main_cst_1, Cert.ReferenceNormcBIdeal.Read.val_main_v28, Cert.ReferenceNormcBIdeal.Read.val_main_v9, Cert.ReferenceNormcBIdeal.Read.val_main_v8, Cert.ReferenceNormcBIdeal.Read.val_main_v1, Cert.ReferenceNormcBIdeal.Read.val_main_cst_0, Cert.ReferenceNormcBIdeal.Read.val_main_v27, Cert.ReferenceNormcBIdeal.Read.val_main_cst_6, Cert.ReferenceNormcBIdeal.Read.val_main_cst_2, Cert.ReferenceNormcBIdeal.Read.val_main_v0, Cert.ReferenceNormcBIdeal.Read.val_main_cst]
  blk_point [iblk, V, idx t]

/-- The kernel leaves the array the reference leaves. -/
theorem final1 : (dats m 0 c).arrAt 5 cfg0.N = Cert.ReferenceNormcBIdeal.Read.val_main_v21 (m ((c.tc : Thread nD τ).loc main_arg3)) := by
  refine (dats m 0 c).arrAt_eq_of_covers 5 _ (by decide +kernel) fun t hf y => ?_
  blk_simp
  rw [after0_5]
  unfold outsAt0
  frame_out
  pointwise [k0_pay1, k0_pay2, k0_pay3, k0_pay4, k0_pay5, k0_pay6, k0_pay7, k0_pay8, k0_pay9, k0_pay10, Cert.ReferenceNormcBIdeal.Read.val_main_v21, Cert.ReferenceNormcBIdeal.Read.val_main_v20, Cert.ReferenceNormcBIdeal.Read.val_main_cst_4]
  blk_point [iblk, V, idx t]

/-- The kernel leaves the array the reference leaves. -/
theorem final2 : (dats m 0 c).arrAt 6 cfg0.N = Cert.ReferenceNormcBIdeal.Read.val_main_v24 (m ((c.tc : Thread nD τ).loc main_arg0)) (m ((c.tc : Thread nD τ).loc main_arg3)) := by
  refine (dats m 0 c).arrAt_eq_of_covers 6 _ (by decide +kernel) fun t hf y => ?_
  blk_simp
  rw [after0_6]
  unfold outsAt0
  frame_out
  pointwise [k0_pay1, k0_pay2, k0_pay3, k0_pay4, k0_pay5, k0_pay6, k0_pay7, k0_pay8, k0_pay9, k0_pay10, Cert.ReferenceNormcBIdeal.Read.val_main_v24, Cert.ReferenceNormcBIdeal.Read.val_main_v23, Cert.ReferenceNormcBIdeal.Read.val_main_v22, Cert.ReferenceNormcBIdeal.Read.val_main_cst_5, Cert.ReferenceNormcBIdeal.Read.val_main_v12, Cert.ReferenceNormcBIdeal.Read.val_main_v19, Cert.ReferenceNormcBIdeal.Read.val_main_v11, Cert.ReferenceNormcBIdeal.Read.val_main_v7, Cert.ReferenceNormcBIdeal.Read.val_main_v6, Cert.ReferenceNormcBIdeal.Read.val_main_v4, Cert.ReferenceNormcBIdeal.Read.val_main_v5, Cert.ReferenceNormcBIdeal.Read.val_main_v2, Cert.ReferenceNormcBIdeal.Read.val_main_v3, Cert.ReferenceNormcBIdeal.Read.val_main_cst_1, Cert.ReferenceNormcBIdeal.Read.val_main_v1, Cert.ReferenceNormcBIdeal.Read.val_main_cst_0, Cert.ReferenceNormcBIdeal.Read.val_main_v0, Cert.ReferenceNormcBIdeal.Read.val_main_cst]
  blk_point [iblk, V, idx t]

end Cert.KernelNormcBIdeal.Claims

namespace Cert.ReferenceNormcBIdeal.Frame

open Cert.ReferenceNormcBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2, sem_eq_zero_of_no_sems (by decide) r.2⟩) (Value.run m g)

end Cert.ReferenceNormcBIdeal.Frame

namespace Cert.KernelNormcBIdeal.Claims

open Idealize.ShloMosaic Idealize.SL.Sem

/-- The kernel and the reference leave the same arrays. -/
theorem algebraic : Cert.algebraic_KernelNormcBIdeal_ReferenceNormcBIdeal
    (hKernelNormcBIdeal := Cert.KernelNormcBIdeal.Gen.facts) (hReferenceNormcBIdeal := Cert.ReferenceNormcBIdeal.Gen.facts) := by
  intro m g m' g' _ hagree
  refine ⟨fun c => Cert.ReferenceNormcBIdeal.Read.val_main_v40 (m ((c.tc : Thread nD τ).loc main_arg0)) (m ((c.tc : Thread nD τ).loc main_arg2)) (m ((c.tc : Thread nD τ).loc main_arg3)),
    fun c => Cert.ReferenceNormcBIdeal.Read.val_main_v21 (m ((c.tc : Thread nD τ).loc main_arg3)),
    fun c => Cert.ReferenceNormcBIdeal.Read.val_main_v24 (m ((c.tc : Thread nD τ).loc main_arg0)) (m ((c.tc : Thread nD τ).loc main_arg3)), ?_, ?_⟩
  · refine (θ_run _ _ _).mono (fun r h c => ?_) (Cert.KernelNormcBIdeal.Value.run_blocks m g)
    obtain ⟨h0, h1, h2, hargs⟩ := h c
    exact ⟨h0.trans (final0 m c), h1.trans (final1 m c), h2.trans (final2 m c), hargs⟩
  · refine (θ_run _ _ _).mono (fun r h c => ?_) (Cert.ReferenceNormcBIdeal.Value.run m' g')
    obtain ⟨h0, h1, h2, hargs⟩ := h c
    obtain ⟨a0, a1, a2, a3⟩ := hagree c
    have e0 := h0.trans (Cert.ReferenceNormcBIdeal.Read.val_main_v40_eq _ _)
    rw [a0, a2, a3] at e0
    have e1 := h1.trans (Cert.ReferenceNormcBIdeal.Read.val_main_v21_eq _)
    rw [a3] at e1
    have e2 := h2.trans (Cert.ReferenceNormcBIdeal.Read.val_main_v24_eq _ _)
    rw [a0, a3] at e2
    exact ⟨e0, e1, e2, hargs⟩

end Cert.KernelNormcBIdeal.Claims

end
-- ==== Proof.Select.lean ====
/- The row a mask of a shifted column picks. -/
module

public import Idealize.ShloMosaic.Lib.Pointwise
public import Idealize.ShloMosaic.Lib.WordCmp
public import Idealize.ShloMosaic.Init

@[expose] public section

namespace Cert.Select

open Idealize.ShloMosaic

/-- The mask of one row: the first value at that row, the second elsewhere. -/
theorem at_row {α : Type} (n k : ℕ) (a b : α) (hn : n < 4096) (hk : k < 4096) :
    Scalar.select (IntOp.cmpi .eq (BitVec.ofNat 32 n) (BitVec.ofNat 32 k)) a b = if n = k then a else b := by
  rw [WordCmp.cmpi_eq_ofNat (by omega) (by omega)]
  by_cases h : n = k <;> simp [Scalar.select, h]

/-- The mask of two rows. -/
theorem at_rows {α : Type} (n k l : ℕ) (a b : α) (hn : n < 4096) (hk : k < 4096) (hl : l < 4096) :
    Scalar.select (IntOp.ori (IntOp.cmpi .eq (BitVec.ofNat 32 n) (BitVec.ofNat 32 k))
      (IntOp.cmpi .eq (BitVec.ofNat 32 n) (BitVec.ofNat 32 l))) a b = if n = k ∨ n = l then a else b := by
  rw [WordCmp.cmpi_eq_ofNat (by omega) (by omega), WordCmp.cmpi_eq_ofNat (by omega) (by omega)]
  have e : ∀ p q : Bool, Scalar.select (IntOp.ori (BitVec.ofBool p) (BitVec.ofBool q)) a b
      = if (p || q) = true then a else b := by
    intro p q; cases p <;> cases q <;> rfl
  rw [e]
  by_cases h : n = k <;> by_cases h' : n = l <;> simp only [h, h', decide_true, decide_false, Bool.or_true, Bool.or_false, Bool.true_or, Bool.false_or, true_or, or_true, or_self, if_true, if_false, Bool.false_eq_true]

end Cert.Select
-- ==== Proof.FfnF.lean ====
/- The convolution and the gated activation, forward. -/
module

public import proofs.«01_k».proof.Defs
public import proofs.«01_k».proof.Proof.Gen.KernelFfnF.Frame
public import proofs.«01_k».proof.Proof.Gen.KernelFfnFIdeal.Value
public import proofs.«01_k».proof.Proof.Gen.ReferenceFfnFIdeal.Run
public import proofs.«01_k».proof.Proof.Gen.ReferenceFfnFIdeal.Read
public import Idealize.ShloMosaic.Lib.Pipeline.ValueKit
public import Idealize.ShloMosaic.Lib.Pointwise
public import Idealize.ShloMosaic.Adequacy
public import Idealize.ShloMosaic.Init
public import proofs.«01_k».proof.Proof.Select

@[expose] public section

set_option maxRecDepth 16384
set_option maxHeartbeats 2000000

noncomputable section

namespace Cert.KernelFfnFIdeal.Claims

open Cert Cert.KernelFfnFIdeal Cert.KernelFfnFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val]
    ∧ win0_1.index t = ![0, 22 + t.val]
    ∧ win0_2.index t = ![0, t.val]
    ∧ win0_3.index t = ![0, 22 + t.val]
    ∧ win0_4.index t = ![0, t.val]
    ∧ win0_5.index t = ![0, 22 + t.val]
    ∧ win0_6.index t = ![0, t.val]
    ∧ win0_7.index t = ![0, 22 + t.val]
    ∧ win0_8.index t = ![0, t.val]
    ∧ win0_9.index t = ![0, 22 + t.val]
    ∧ win0_10.index t = ![0, t.val] :=
  (by decide +kernel : ∀ t : Fin grid0.N, _)

/-- The kernel leaves the array the reference leaves. -/
theorem final0 : (dats m 0 c).arrAt 10 cfg0.N = Cert.ReferenceFfnFIdeal.Read.val_main_v27 (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, Cert.ReferenceFfnFIdeal.Read.val_main_v27, Cert.ReferenceFfnFIdeal.Read.val_main_v26, Cert.ReferenceFfnFIdeal.Read.val_main_v25, Cert.ReferenceFfnFIdeal.Read.val_main_v24, Cert.ReferenceFfnFIdeal.Read.val_main_call0_v5, Cert.ReferenceFfnFIdeal.Read.val_main_v23, Cert.ReferenceFfnFIdeal.Read.val_main_call0_v4, Cert.ReferenceFfnFIdeal.Read.val_main_call0_v3, Cert.ReferenceFfnFIdeal.Read.val_main_v21, Cert.ReferenceFfnFIdeal.Read.val_main_v22, Cert.ReferenceFfnFIdeal.Read.val_main_call0_cst_0, Cert.ReferenceFfnFIdeal.Read.val_main_call0_v2, Cert.ReferenceFfnFIdeal.Read.val_main_call0_v1, Cert.ReferenceFfnFIdeal.Read.val_main_v14, Cert.ReferenceFfnFIdeal.Read.val_main_v20, Cert.ReferenceFfnFIdeal.Read.val_main_call0_cst, Cert.ReferenceFfnFIdeal.Read.val_main_call0_v0, Cert.ReferenceFfnFIdeal.Read.val_main_v7, Cert.ReferenceFfnFIdeal.Read.val_main_v13, Cert.ReferenceFfnFIdeal.Read.val_main_v15, Cert.ReferenceFfnFIdeal.Read.val_main_v19, Cert.ReferenceFfnFIdeal.Read.val_main_v2, Cert.ReferenceFfnFIdeal.Read.val_main_v6, Cert.ReferenceFfnFIdeal.Read.val_main_v8, Cert.ReferenceFfnFIdeal.Read.val_main_v12, Cert.ReferenceFfnFIdeal.Read.val_main_v1, Cert.ReferenceFfnFIdeal.Read.val_main_v18, Cert.ReferenceFfnFIdeal.Read.val_main_v5, Cert.ReferenceFfnFIdeal.Read.val_main_v11, Cert.ReferenceFfnFIdeal.Read.val_main_v0, Cert.ReferenceFfnFIdeal.Read.val_main_v17, Cert.ReferenceFfnFIdeal.Read.val_main_v4, Cert.ReferenceFfnFIdeal.Read.val_main_v10, Cert.ReferenceFfnFIdeal.Read.val_main_cst, Cert.ReferenceFfnFIdeal.Read.val_main_v16, Cert.ReferenceFfnFIdeal.Read.val_main_v3, Cert.ReferenceFfnFIdeal.Read.val_main_v9]
  have e0 : (((View.whole main_v3).slice (win0_10.rect t)).emb y 0).val = (y 0).val := by blk_simp [idx t]
  have l : (y 0).val < 2048 := by idx_bounds; omega
  simp (disch := omega) only [Ideal.logistic, e0, Select.at_row]
  obtain h | h | h : (y 0).val = 0 ∨ (y 0).val = 2047 ∨ (0 < (y 0).val ∧ (y 0).val < 2047) := by omega
  all_goals
    simp (disch := omega) only [if_pos, if_neg, dif_pos, dif_neg, zero_add, add_zero, zero_mul]
    blk_point [iblk, V, idx t]

end Cert.KernelFfnFIdeal.Claims

namespace Cert.ReferenceFfnFIdeal.Frame

open Cert.ReferenceFfnFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩) (Value.run m g)

end Cert.ReferenceFfnFIdeal.Frame

namespace Cert.KernelFfnFIdeal.Claims

open Idealize.ShloMosaic Idealize.SL.Sem

/-- The kernel and the reference leave the same arrays. -/
theorem algebraic : Cert.algebraic_KernelFfnFIdeal_ReferenceFfnFIdeal
    (hKernelFfnFIdeal := Cert.KernelFfnFIdeal.Gen.facts) (hReferenceFfnFIdeal := Cert.ReferenceFfnFIdeal.Gen.facts) := by
  intro m g m' g' _ hagree
  refine ⟨fun c => Cert.ReferenceFfnFIdeal.Read.val_main_v27 (m ((c.tc : Thread nD τ).loc main_arg0)) (m ((c.tc : Thread nD τ).loc main_arg1)) (m ((c.tc : Thread nD τ).loc main_arg2)), ?_, ?_⟩
  · refine (θ_run _ _ _).mono (fun r h c => ?_) (Cert.KernelFfnFIdeal.Value.run_blocks m g)
    obtain ⟨h0, hargs⟩ := h c
    exact ⟨h0.trans (final0 m c), hargs⟩
  · refine (θ_run _ _ _).mono (fun r h c => ?_) (Cert.ReferenceFfnFIdeal.Value.run m' g')
    obtain ⟨h0, hargs⟩ := h c
    obtain ⟨a0, a1, a2⟩ := hagree c
    have e0 := h0.trans (Cert.ReferenceFfnFIdeal.Read.val_main_v27_eq _ _)
    rw [a0, a1, a2] at e0
    exact ⟨e0, hargs⟩

end Cert.KernelFfnFIdeal.Claims

end
-- ==== Proof.FfnB.lean ====
/- The convolution and the gated activation, backward. -/
module

public import proofs.«01_k».proof.Defs
public import proofs.«01_k».proof.Proof.Gen.KernelFfnB.Frame
public import proofs.«01_k».proof.Proof.Gen.KernelFfnBIdeal.Value
public import proofs.«01_k».proof.Proof.Gen.ReferenceFfnBIdeal.Run
public import proofs.«01_k».proof.Proof.Gen.ReferenceFfnBIdeal.Read
public import Idealize.ShloMosaic.Lib.Pipeline.ValueKit
public import Idealize.ShloMosaic.Lib.Pointwise
public import Idealize.ShloMosaic.Adequacy
public import Idealize.ShloMosaic.Init
public import proofs.«01_k».proof.Proof.Select

@[expose] public section

set_option maxRecDepth 16384
set_option maxHeartbeats 2000000

noncomputable section

namespace Cert.KernelFfnBIdeal.Claims

open Cert.KernelFfnBIdeal Cert.KernelFfnBIdeal.Gen Idealize.ShloMosaic Idealize.ShloMosaic.TcCoe Idealize.SL.Sem Cert

variable (m : (ℓ : Loc nD τ sig) → Buf (Elt Ideal) ℓ) (c : Dev nD)

/-- The block each window holds at each grid point. -/
theorem idx : ∀ t : Fin cfg0.N, win0_0.index t = ![0, t.val]
    ∧ win0_1.index t = ![0, 22 + t.val]
    ∧ win0_2.index t = ![0, t.val]
    ∧ win0_3.index t = ![0, 22 + t.val]
    ∧ win0_4.index t = ![0, t.val]
    ∧ win0_5.index t = ![0, 22 + t.val]
    ∧ win0_6.index t = ![0, t.val]
    ∧ win0_7.index t = ![0, 22 + t.val]
    ∧ win0_8.index t = ![0, t.val]
    ∧ win0_9.index t = ![0, 22 + t.val]
    ∧ win0_10.index t = ![0, t.val]
    ∧ win0_11.index t = ![0, t.val]
    ∧ win0_12.index t = ![0, t.val]
    ∧ win0_13.index t = ![0, t.val]
    ∧ win0_14.index t = ![0, t.val]
    ∧ win0_15.index t = ![0, t.val]
    ∧ win0_16.index t = ![0, t.val]
    ∧ win0_17.index t = ![0, t.val]
    ∧ win0_18.index t = ![0, t.val]
    ∧ win0_19.index t = ![0, t.val]
    ∧ win0_20.index t = ![0, t.val] :=
  (by decide +kernel : ∀ t : Fin grid0.N, _)

/-- The convolved columns of a block, the bias added. -/
def conv (a : FVec Ideal S2048x128 .f32) (w0 w1 w2 b : FVec Ideal S1x128 .f32) : FVec Ideal S2048x128 .f32 :=
  k0_pay13 b (k0_pay10 a) (k0_pay11 a w0 w1) (k0_pay12 w2)

/-- The gradient of the gate's columns `p`, from the value's columns `v` and the cotangent. -/
def gateGrad (p v ct : FVec Ideal S2048x128 .f32) : FVec Ideal S2048x128 .f32 :=
  addf (mulf (mulf ct v) (logistic p))
    (mulf (mulf p (mulf ct v))
      (mulf (logistic p) (subf (broadcast S2048x128 (Scalar.ofBits .f32 0x3F800000#32 : Ideal .f32)) (logistic p))))

/-- The gate columns of a grid point are columns of the reference's convolution. -/
theorem gate_at (t : Fin cfg0.N) (r : Fin 2048) (l : Fin 128) :
    conv (iblk m c 0 t) (iblk m c 2 t) (iblk m c 4 t) (iblk m c 6 t) (iblk m c 8 t) (ix2 r l)
    = Cert.ReferenceFfnBIdeal.Read.val_main_v25 (m ((c.tc : Thread nD τ).loc main_arg0)) (m ((c.tc : Thread nD τ).loc main_arg1)) (m ((c.tc : Thread nD τ).loc main_arg2))
      (ix2 r ⟨t.val * 128 + l.val, by have := t.isLt; change t.val < 22 at this; omega⟩) := by
  have ht : t.val < 22 := t.isLt
  have hr := r.isLt
  have hl := l.isLt
  pointwise [conv, k0_pay1, k0_pay2, k0_pay3, k0_pay4, k0_pay5, k0_pay6, k0_pay7, k0_pay8, k0_pay9, k0_pay10, k0_pay11, k0_pay12, k0_pay13, Cert.ReferenceFfnBIdeal.Read.val_main_v25, Cert.ReferenceFfnBIdeal.Read.val_main_v23, Cert.ReferenceFfnBIdeal.Read.val_main_v24, Cert.ReferenceFfnBIdeal.Read.val_main_v16, Cert.ReferenceFfnBIdeal.Read.val_main_v22, Cert.ReferenceFfnBIdeal.Read.val_main_v9, Cert.ReferenceFfnBIdeal.Read.val_main_v15, Cert.ReferenceFfnBIdeal.Read.val_main_v17, Cert.ReferenceFfnBIdeal.Read.val_main_v21, Cert.ReferenceFfnBIdeal.Read.val_main_v4, Cert.ReferenceFfnBIdeal.Read.val_main_v8, Cert.ReferenceFfnBIdeal.Read.val_main_v10, Cert.ReferenceFfnBIdeal.Read.val_main_v14, Cert.ReferenceFfnBIdeal.Read.val_main_v1, Cert.ReferenceFfnBIdeal.Read.val_main_v20, Cert.ReferenceFfnBIdeal.Read.val_main_v7, Cert.ReferenceFfnBIdeal.Read.val_main_v13, Cert.ReferenceFfnBIdeal.Read.val_main_v0, Cert.ReferenceFfnBIdeal.Read.val_main_v19, Cert.ReferenceFfnBIdeal.Read.val_main_v6, Cert.ReferenceFfnBIdeal.Read.val_main_v12, Cert.ReferenceFfnBIdeal.Read.val_main_cst, Cert.ReferenceFfnBIdeal.Read.val_main_v18, Cert.ReferenceFfnBIdeal.Read.val_main_v5, Cert.ReferenceFfnBIdeal.Read.val_main_v11]
  simp (disch := omega) only [Select.at_row]
  obtain h | h | h : r.val = 0 ∨ r.val = 2047 ∨ (0 < r.val ∧ r.val < 2047) := by omega
  all_goals
    simp (disch := omega) only [if_pos, if_neg, dif_pos, dif_neg, zero_add, add_zero, zero_mul]
    blk_point [iblk, V, idx t]

/-- The value columns of a grid point are columns of the reference's convolution. -/
theorem value_at (t : Fin cfg0.N) (r : Fin 2048) (l : Fin 128) :
    conv (iblk m c 1 t) (iblk m c 3 t) (iblk m c 5 t) (iblk m c 7 t) (iblk m c 9 t) (ix2 r l)
    = Cert.ReferenceFfnBIdeal.Read.val_main_v25 (m ((c.tc : Thread nD τ).loc main_arg0)) (m ((c.tc : Thread nD τ).loc main_arg1)) (m ((c.tc : Thread nD τ).loc main_arg2))
      (ix2 r ⟨2816 + (t.val * 128 + l.val), by have := t.isLt; change t.val < 22 at this; omega⟩) := by
  have ht : t.val < 22 := t.isLt
  have hr := r.isLt
  have hl := l.isLt
  pointwise [conv, k0_pay1, k0_pay2, k0_pay3, k0_pay4, k0_pay5, k0_pay6, k0_pay7, k0_pay8, k0_pay9, k0_pay10, k0_pay11, k0_pay12, k0_pay13, Cert.ReferenceFfnBIdeal.Read.val_main_v25, Cert.ReferenceFfnBIdeal.Read.val_main_v23, Cert.ReferenceFfnBIdeal.Read.val_main_v24, Cert.ReferenceFfnBIdeal.Read.val_main_v16, Cert.ReferenceFfnBIdeal.Read.val_main_v22, Cert.ReferenceFfnBIdeal.Read.val_main_v9, Cert.ReferenceFfnBIdeal.Read.val_main_v15, Cert.ReferenceFfnBIdeal.Read.val_main_v17, Cert.ReferenceFfnBIdeal.Read.val_main_v21, Cert.ReferenceFfnBIdeal.Read.val_main_v4, Cert.ReferenceFfnBIdeal.Read.val_main_v8, Cert.ReferenceFfnBIdeal.Read.val_main_v10, Cert.ReferenceFfnBIdeal.Read.val_main_v14, Cert.ReferenceFfnBIdeal.Read.val_main_v1, Cert.ReferenceFfnBIdeal.Read.val_main_v20, Cert.ReferenceFfnBIdeal.Read.val_main_v7, Cert.ReferenceFfnBIdeal.Read.val_main_v13, Cert.ReferenceFfnBIdeal.Read.val_main_v0, Cert.ReferenceFfnBIdeal.Read.val_main_v19, Cert.ReferenceFfnBIdeal.Read.val_main_v6, Cert.ReferenceFfnBIdeal.Read.val_main_v12, Cert.ReferenceFfnBIdeal.Read.val_main_cst, Cert.ReferenceFfnBIdeal.Read.val_main_v18, Cert.ReferenceFfnBIdeal.Read.val_main_v5, Cert.ReferenceFfnBIdeal.Read.val_main_v11]
  simp (disch := omega) only [Select.at_row]
  obtain h | h | h : r.val = 0 ∨ r.val = 2047 ∨ (0 < r.val ∧ r.val < 2047) := by omega
  all_goals
    simp (disch := omega) only [if_pos, if_neg, dif_pos, dif_neg, zero_add, add_zero, zero_mul]
    blk_point [iblk, V, idx t]

/-- The gradient of the convolved gate columns at a grid point, as the kernel computes it. -/
def dgate (t : Fin cfg0.N) : FVec Ideal S2048x128 .f32 :=
  k0_pay20 (iblk m c 1 t) (k0_pay2 (iblk m c 3 t)) (k0_pay4 (iblk m c 5 t)) (k0_pay6 (iblk m c 7 t)) (iblk m c 8 t) (iblk m c 9 t) (k0_pay10 (iblk m c 0 t)) (k0_pay11 (iblk m c 0 t) (iblk m c 2 t) (iblk m c 4 t)) (k0_pay12 (iblk m c 6 t)) (iblk m c 10 t)

/-- It is the gradient of the reference's convolved columns. -/
theorem dgate_at (t : Fin cfg0.N) (r : Fin 2048) (l : Fin 128) : dgate m c t (ix2 r l)
    = Cert.ReferenceFfnBIdeal.Read.val_main_v33 (m ((c.tc : Thread nD τ).loc main_arg0)) (m ((c.tc : Thread nD τ).loc main_arg1)) (m ((c.tc : Thread nD τ).loc main_arg2)) (m ((c.tc : Thread nD τ).loc main_arg3))
      (ix2 r ⟨t.val * 128 + l.val, by have := t.isLt; change t.val < 22 at this; omega⟩) := by
  have ht : t.val < 22 := t.isLt
  have hl := l.isLt
  have e : dgate m c t = gateGrad (conv (iblk m c 0 t) (iblk m c 2 t) (iblk m c 4 t) (iblk m c 6 t) (iblk m c 8 t)) (conv (iblk m c 1 t) (iblk m c 3 t) (iblk m c 5 t) (iblk m c 7 t) (iblk m c 9 t)) (iblk m c 10 t) := rfl
  rw [e]
  pointwise [gateGrad, Cert.ReferenceFfnBIdeal.Read.val_main_v33, Cert.ReferenceFfnBIdeal.Read.val_main_v32, Cert.ReferenceFfnBIdeal.Read.val_main_v30, Cert.ReferenceFfnBIdeal.Read.val_main_call1_v1, Cert.ReferenceFfnBIdeal.Read.val_main_call1_v2, Cert.ReferenceFfnBIdeal.Read.val_main_v28_0, Cert.ReferenceFfnBIdeal.Read.val_main_v31, Cert.ReferenceFfnBIdeal.Read.val_main_v28_2, Cert.ReferenceFfnBIdeal.Read.val_main_call1_v0, Cert.ReferenceFfnBIdeal.Read.val_main_v28_1, Cert.ReferenceFfnBIdeal.Read.val_main_v26, Cert.ReferenceFfnBIdeal.Read.val_main_v27, Cert.ReferenceFfnBIdeal.Read.val_main_call0_v4, Cert.ReferenceFfnBIdeal.Read.val_main_call0_v3, Cert.ReferenceFfnBIdeal.Read.val_main_call0_v7, Cert.ReferenceFfnBIdeal.Read.val_main_call0_cst_0, Cert.ReferenceFfnBIdeal.Read.val_main_call0_v2, Cert.ReferenceFfnBIdeal.Read.val_main_call0_v1, Cert.ReferenceFfnBIdeal.Read.val_main_call0_v6, Cert.ReferenceFfnBIdeal.Read.val_main_call0_cst, Cert.ReferenceFfnBIdeal.Read.val_main_call0_v0, Cert.ReferenceFfnBIdeal.Read.val_main_call0_cst_1]
  simp (disch := omega) only [Ideal.logistic, gate_at, value_at, dif_pos, dif_neg]
  blk_point [iblk, V, idx t]

/-- The same at an index of the block. -/
theorem dgate_at' (t : Fin cfg0.N) (y : S2048x128.Idx) : dgate m c t y
    = Cert.ReferenceFfnBIdeal.Read.val_main_v33 (m ((c.tc : Thread nD τ).loc main_arg0)) (m ((c.tc : Thread nD τ).loc main_arg1)) (m ((c.tc : Thread nD τ).loc main_arg2)) (m ((c.tc : Thread nD τ).loc main_arg3))
      (ix2 (y 0) ⟨t.val * 128 + (y 1).val, by have := (y 1).isLt; change (y 1).val < 128 at this; have := t.isLt; change t.val < 22 at this; omega⟩) := by
  rw [show y = ix2 (y 0) (y 1) from by funext a; fin_cases a <;> rfl]
  exact dgate_at m c t (y 0) (y 1)

/-- The gradient of the convolved value columns at a grid point, as the kernel computes it. -/
def dvalue (t : Fin cfg0.N) : FVec Ideal S2048x128 .f32 :=
  k0_pay19 (iblk m c 8 t) (k0_pay10 (iblk m c 0 t)) (k0_pay11 (iblk m c 0 t) (iblk m c 2 t) (iblk m c 4 t)) (k0_pay12 (iblk m c 6 t)) (iblk m c 10 t)

/-- It is the gradient of the reference's convolved columns. -/
theorem dvalue_at (t : Fin cfg0.N) (r : Fin 2048) (l : Fin 128) : dvalue m c t (ix2 r l)
    = Cert.ReferenceFfnBIdeal.Read.val_main_v33 (m ((c.tc : Thread nD τ).loc main_arg0)) (m ((c.tc : Thread nD τ).loc main_arg1)) (m ((c.tc : Thread nD τ).loc main_arg2)) (m ((c.tc : Thread nD τ).loc main_arg3))
      (ix2 r ⟨2816 + (t.val * 128 + l.val), by have := t.isLt; change t.val < 22 at this; omega⟩) := by
  have ht : t.val < 22 := t.isLt
  have hl := l.isLt
  have e : dvalue m c t = mulf (mulf (conv (iblk m c 0 t) (iblk m c 2 t) (iblk m c 4 t) (iblk m c 6 t) (iblk m c 8 t)) (logistic (conv (iblk m c 0 t) (iblk m c 2 t) (iblk m c 4 t) (iblk m c 6 t) (iblk m c 8 t)))) (iblk m c 10 t) := rfl
  rw [e]
  pointwise [Cert.ReferenceFfnBIdeal.Read.val_main_v33, Cert.ReferenceFfnBIdeal.Read.val_main_v32, Cert.ReferenceFfnBIdeal.Read.val_main_v30, Cert.ReferenceFfnBIdeal.Read.val_main_call1_v1, Cert.ReferenceFfnBIdeal.Read.val_main_call1_v2, Cert.ReferenceFfnBIdeal.Read.val_main_v28_0, Cert.ReferenceFfnBIdeal.Read.val_main_v31, Cert.ReferenceFfnBIdeal.Read.val_main_v28_2, Cert.ReferenceFfnBIdeal.Read.val_main_call1_v0, Cert.ReferenceFfnBIdeal.Read.val_main_v28_1, Cert.ReferenceFfnBIdeal.Read.val_main_v26, Cert.ReferenceFfnBIdeal.Read.val_main_v27, Cert.ReferenceFfnBIdeal.Read.val_main_call0_v4, Cert.ReferenceFfnBIdeal.Read.val_main_call0_v3, Cert.ReferenceFfnBIdeal.Read.val_main_call0_v7, Cert.ReferenceFfnBIdeal.Read.val_main_call0_cst_0, Cert.ReferenceFfnBIdeal.Read.val_main_call0_v2, Cert.ReferenceFfnBIdeal.Read.val_main_call0_v1, Cert.ReferenceFfnBIdeal.Read.val_main_call0_v6, Cert.ReferenceFfnBIdeal.Read.val_main_call0_cst, Cert.ReferenceFfnBIdeal.Read.val_main_call0_v0, Cert.ReferenceFfnBIdeal.Read.val_main_call0_cst_1]
  simp (disch := omega) only [Ideal.logistic, gate_at, value_at, dif_pos, dif_neg]
  blk_point [iblk, V, idx t]

/-- The same at an index of the block. -/
theorem dvalue_at' (t : Fin cfg0.N) (y : S2048x128.Idx) : dvalue m c t y
    = Cert.ReferenceFfnBIdeal.Read.val_main_v33 (m ((c.tc : Thread nD τ).loc main_arg0)) (m ((c.tc : Thread nD τ).loc main_arg1)) (m ((c.tc : Thread nD τ).loc main_arg2)) (m ((c.tc : Thread nD τ).loc main_arg3))
      (ix2 (y 0) ⟨2816 + (t.val * 128 + (y 1).val), by have := (y 1).isLt; change (y 1).val < 128 at this; have := t.isLt; change t.val < 22 at this; omega⟩) := by
  rw [show y = ix2 (y 0) (y 1) from by funext a; fin_cases a <;> rfl]
  exact dvalue_at m c t (y 0) (y 1)

variable (x0 : Vec Ideal S2048x128 .f32) (x1 : Vec Ideal S2048x128 .f32) (x2 : Vec Ideal S1x128 .f32) (x3 : Vec Ideal S1x128 .f32) (x4 : Vec Ideal S1x128 .f32) (x5 : Vec Ideal S1x128 .f32) (x6 : Vec Ideal S1x128 .f32) (x7 : Vec Ideal S1x128 .f32) (x8 : Vec Ideal S1x128 .f32) (x9 : Vec Ideal S1x128 .f32) (x10 : Vec Ideal S2048x128 .f32)

theorem pay33 : k0_pay33 (F := Ideal) x0 x1 x2 x3 x4 x5 x6 x7 x8 x9 x10 = k0_pay2 x3 := by
  unfold k0_pay33
  simp (disch := decide) only [View.ld_unit_lit']

theorem pay34 : k0_pay34 (F := Ideal) x0 x1 x2 x3 x4 x5 x6 x7 x8 x9 x10 = k0_pay4 x5 := by
  unfold k0_pay34
  simp (disch := decide) only [View.ld_unit_lit']

theorem pay35 : k0_pay35 (F := Ideal) x0 x1 x2 x3 x4 x5 x6 x7 x8 x9 x10 = k0_pay6 x7 := by
  unfold k0_pay35
  simp (disch := decide) only [View.ld_unit_lit']

theorem pay36 : k0_pay36 (F := Ideal) x0 x1 x2 x3 x4 x5 x6 x7 x8 x9 x10 = k0_pay10 x0 := by
  unfold k0_pay36
  simp (disch := decide) only [View.ld_unit_lit']

theorem pay37 : k0_pay37 (F := Ideal) x0 x1 x2 x3 x4 x5 x6 x7 x8 x9 x10 = k0_pay11 x0 x2 x4 := by
  unfold k0_pay37
  simp (disch := decide) only [View.ld_unit_lit']

theorem pay38 : k0_pay38 (F := Ideal) x0 x1 x2 x3 x4 x5 x6 x7 x8 x9 x10 = k0_pay12 x6 := by
  unfold k0_pay38
  simp (disch := decide) only [View.ld_unit_lit']

/-- The kernel's values over a grid point's blocks. -/
theorem dgate_eq (t : Fin cfg0.N) : k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) = dgate m c t := by
  unfold k0_pay40
  simp (disch := decide) only [pay33, pay34, pay35, pay36, pay37, pay38, View.ld_unit_lit']
  rfl

theorem dvalue_eq (t : Fin cfg0.N) : k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) = dvalue m c t := by
  unfold k0_pay39
  simp (disch := decide) only [pay33, pay34, pay35, pay36, pay37, pay38, View.ld_unit_lit']
  rfl

theorem dvalue_eq' (t : Fin cfg0.N) : k0_pay19 (iblk m c 8 t) (k0_pay10 (iblk m c 0 t)) (k0_pay11 (iblk m c 0 t) (iblk m c 2 t) (iblk m c 4 t)) (k0_pay12 (iblk m c 6 t)) (iblk m c 10 t) = dvalue m c t := rfl

/-- The columns read. -/
theorem gateIn_at (t : Fin cfg0.N) (r : Fin 2048) (l : Fin 128) : iblk m c 0 t (ix2 r l)
    = (m ((c.tc : Thread nD τ).loc main_arg0)) (ix2 r ⟨t.val * 128 + l.val, by have := t.isLt; change t.val < 22 at this; omega⟩) := by
  blk_point [iblk, V, idx t]

theorem gateIn_at' (t : Fin cfg0.N) (y : S2048x128.Idx) : iblk m c 0 t y
    = (m ((c.tc : Thread nD τ).loc main_arg0)) (ix2 (y 0) ⟨t.val * 128 + (y 1).val, by have := (y 1).isLt; change (y 1).val < 128 at this; have := t.isLt; change t.val < 22 at this; omega⟩) := by
  rw [show y = ix2 (y 0) (y 1) from by funext a; fin_cases a <;> rfl]
  exact gateIn_at m c t (y 0) (y 1)

/-- The columns read. -/
theorem valueIn_at (t : Fin cfg0.N) (r : Fin 2048) (l : Fin 128) : iblk m c 1 t (ix2 r l)
    = (m ((c.tc : Thread nD τ).loc main_arg0)) (ix2 r ⟨2816 + (t.val * 128 + l.val), by have := t.isLt; change t.val < 22 at this; omega⟩) := by
  blk_point [iblk, V, idx t]

theorem valueIn_at' (t : Fin cfg0.N) (y : S2048x128.Idx) : iblk m c 1 t y
    = (m ((c.tc : Thread nD τ).loc main_arg0)) (ix2 (y 0) ⟨2816 + (t.val * 128 + (y 1).val), by have := (y 1).isLt; change (y 1).val < 128 at this; have := t.isLt; change t.val < 22 at this; omega⟩) := by
  rw [show y = ix2 (y 0) (y 1) from by funext a; fin_cases a <;> rfl]
  exact valueIn_at m c t (y 0) (y 1)

theorem row_before (n : ℕ) (h : 0 < n) (h' : n < 2048) : (n + 2048 - 1) % 2048 = n - 1 := by omega
theorem row_after (n : ℕ) (h' : n < 2047) : (n + 2048 - 2047) % 2048 = n + 1 := by omega
theorem two_add_sub (n : ℕ) : 2 + n - 1 = n + 1 := by omega

/-- A row times the row before it. -/
theorem before_term (X D : FVec Ideal S2048x5632 .f32) (i : Fin 2048) (j : Fin 5632) :
    (if i.val = 0 then (0 : EReal)
      else X (ix2 ⟨(i.val + 2048 - 1) % 2048, by omega⟩ j) * D (ix2 i j))
    = (if h : i.val < 1 then (0 : EReal) else if h : i.val - 1 < 2048 then X (ix2 ⟨i.val - 1, h⟩ j) else 0)
      * D (ix2 i j) := by
  have hi := i.isLt
  obtain h | h : i.val = 0 ∨ 0 < i.val := by omega
  · simp (disch := omega) only [if_pos, dif_pos, zero_mul]
  · simp (disch := omega) only [if_neg, dif_neg, dif_pos, row_before]

/-- A row times the row after it. -/
theorem after_term (X D : FVec Ideal S2048x5632 .f32) (i : Fin 2048) (j : Fin 5632) :
    (if i.val = 2047 then (0 : EReal)
      else X (ix2 ⟨(i.val + 2048 - 2047) % 2048, by omega⟩ j) * D (ix2 i j))
    = (if h : 2 + i.val < 1 then (0 : EReal)
        else if h : 2 + i.val - 1 < 2048 then X (ix2 ⟨2 + i.val - 1, h⟩ j) else 0)
      * D (ix2 i j) := by
  have hi := i.isLt
  obtain h | h : i.val = 2047 ∨ i.val < 2047 := by omega
  · simp (disch := omega) only [if_pos, dif_neg, zero_mul]
  · simp (disch := omega) only [if_neg, dif_neg, dif_pos, row_after, two_add_sub]

theorem gateW0 (t : Fin cfg0.N) (l : Fin 128) : iblk m c 2 t (ix2 0 l)
    = (m ((c.tc : Thread nD τ).loc main_arg1)) (ix2 0 ⟨t.val * 128 + l.val, by have := t.isLt; change t.val < 22 at this; omega⟩) := by
  blk_point [iblk, V, idx t]

theorem gateW0' (t : Fin cfg0.N) (z : S1x128.Idx) : iblk m c 2 t z
    = (m ((c.tc : Thread nD τ).loc main_arg1)) (ix2 0 ⟨t.val * 128 + (z 1).val, by have := (z 1).isLt; change (z 1).val < 128 at this; have := t.isLt; change t.val < 22 at this; omega⟩) := by
  rw [show z = ix2 0 (z 1) from by funext a; fin_cases a; exact Subsingleton.elim (α := Fin 1) _ _; rfl]
  exact gateW0 m c t (z 1)

theorem valueW0 (t : Fin cfg0.N) (l : Fin 128) : iblk m c 3 t (ix2 0 l)
    = (m ((c.tc : Thread nD τ).loc main_arg1)) (ix2 0 ⟨2816 + (t.val * 128 + l.val), by have := t.isLt; change t.val < 22 at this; omega⟩) := by
  blk_point [iblk, V, idx t]

theorem valueW0' (t : Fin cfg0.N) (z : S1x128.Idx) : iblk m c 3 t z
    = (m ((c.tc : Thread nD τ).loc main_arg1)) (ix2 0 ⟨2816 + (t.val * 128 + (z 1).val), by have := (z 1).isLt; change (z 1).val < 128 at this; have := t.isLt; change t.val < 22 at this; omega⟩) := by
  rw [show z = ix2 0 (z 1) from by funext a; fin_cases a; exact Subsingleton.elim (α := Fin 1) _ _; rfl]
  exact valueW0 m c t (z 1)

theorem gateW1 (t : Fin cfg0.N) (l : Fin 128) : iblk m c 4 t (ix2 0 l)
    = (m ((c.tc : Thread nD τ).loc main_arg1)) (ix2 1 ⟨t.val * 128 + l.val, by have := t.isLt; change t.val < 22 at this; omega⟩) := by
  blk_point [iblk, V, idx t]

theorem gateW1' (t : Fin cfg0.N) (z : S1x128.Idx) : iblk m c 4 t z
    = (m ((c.tc : Thread nD τ).loc main_arg1)) (ix2 1 ⟨t.val * 128 + (z 1).val, by have := (z 1).isLt; change (z 1).val < 128 at this; have := t.isLt; change t.val < 22 at this; omega⟩) := by
  rw [show z = ix2 0 (z 1) from by funext a; fin_cases a; exact Subsingleton.elim (α := Fin 1) _ _; rfl]
  exact gateW1 m c t (z 1)

theorem valueW1 (t : Fin cfg0.N) (l : Fin 128) : iblk m c 5 t (ix2 0 l)
    = (m ((c.tc : Thread nD τ).loc main_arg1)) (ix2 1 ⟨2816 + (t.val * 128 + l.val), by have := t.isLt; change t.val < 22 at this; omega⟩) := by
  blk_point [iblk, V, idx t]

theorem valueW1' (t : Fin cfg0.N) (z : S1x128.Idx) : iblk m c 5 t z
    = (m ((c.tc : Thread nD τ).loc main_arg1)) (ix2 1 ⟨2816 + (t.val * 128 + (z 1).val), by have := (z 1).isLt; change (z 1).val < 128 at this; have := t.isLt; change t.val < 22 at this; omega⟩) := by
  rw [show z = ix2 0 (z 1) from by funext a; fin_cases a; exact Subsingleton.elim (α := Fin 1) _ _; rfl]
  exact valueW1 m c t (z 1)

theorem gateW2 (t : Fin cfg0.N) (l : Fin 128) : iblk m c 6 t (ix2 0 l)
    = (m ((c.tc : Thread nD τ).loc main_arg1)) (ix2 2 ⟨t.val * 128 + l.val, by have := t.isLt; change t.val < 22 at this; omega⟩) := by
  blk_point [iblk, V, idx t]

theorem gateW2' (t : Fin cfg0.N) (z : S1x128.Idx) : iblk m c 6 t z
    = (m ((c.tc : Thread nD τ).loc main_arg1)) (ix2 2 ⟨t.val * 128 + (z 1).val, by have := (z 1).isLt; change (z 1).val < 128 at this; have := t.isLt; change t.val < 22 at this; omega⟩) := by
  rw [show z = ix2 0 (z 1) from by funext a; fin_cases a; exact Subsingleton.elim (α := Fin 1) _ _; rfl]
  exact gateW2 m c t (z 1)

theorem valueW2 (t : Fin cfg0.N) (l : Fin 128) : iblk m c 7 t (ix2 0 l)
    = (m ((c.tc : Thread nD τ).loc main_arg1)) (ix2 2 ⟨2816 + (t.val * 128 + l.val), by have := t.isLt; change t.val < 22 at this; omega⟩) := by
  blk_point [iblk, V, idx t]

theorem valueW2' (t : Fin cfg0.N) (z : S1x128.Idx) : iblk m c 7 t z
    = (m ((c.tc : Thread nD τ).loc main_arg1)) (ix2 2 ⟨2816 + (t.val * 128 + (z 1).val), by have := (z 1).isLt; change (z 1).val < 128 at this; have := t.isLt; change t.val < 22 at this; omega⟩) := by
  rw [show z = ix2 0 (z 1) from by funext a; fin_cases a; exact Subsingleton.elim (α := Fin 1) _ _; rfl]
  exact valueW2 m c t (z 1)

/-- The middle weight's gradient has no part in the last row. -/
theorem middle_row2 (j : Fin 5632) : Cert.ReferenceFfnBIdeal.Read.val_main_v52 (m ((c.tc : Thread nD τ).loc main_arg0)) (m ((c.tc : Thread nD τ).loc main_arg1)) (m ((c.tc : Thread nD τ).loc main_arg2)) (m ((c.tc : Thread nD τ).loc main_arg3)) (ix2 2 j) = 0 := by
  rw [Cert.ReferenceFfnBIdeal.Read.val_main_v52]
  refine (dif_neg fun h => absurd (h 0).2.2 (by show ¬ (2 - 1) / (0 + 1) < 1; decide)).trans ?_
  pointwise [Cert.ReferenceFfnBIdeal.Read.val_main_cst_9]

/-- Nor has the first weight's. -/
theorem first_row2 (j : Fin 5632) : Cert.ReferenceFfnBIdeal.Read.val_main_v63 (m ((c.tc : Thread nD τ).loc main_arg0)) (m ((c.tc : Thread nD τ).loc main_arg1)) (m ((c.tc : Thread nD τ).loc main_arg2)) (m ((c.tc : Thread nD τ).loc main_arg3)) (ix2 2 j) = 0 := by
  rw [Cert.ReferenceFfnBIdeal.Read.val_main_v63]
  refine (dif_neg fun h => absurd (h 0).2.2 (by show ¬ 2 / (0 + 1) < 1; decide)).trans ?_
  pointwise [Cert.ReferenceFfnBIdeal.Read.val_main_cst_13]

/-- Nor has the first weight's in the middle one. -/
theorem first_row1 (j : Fin 5632) : Cert.ReferenceFfnBIdeal.Read.val_main_v63 (m ((c.tc : Thread nD τ).loc main_arg0)) (m ((c.tc : Thread nD τ).loc main_arg1)) (m ((c.tc : Thread nD τ).loc main_arg2)) (m ((c.tc : Thread nD τ).loc main_arg3)) (ix2 1 j) = 0 := by
  rw [Cert.ReferenceFfnBIdeal.Read.val_main_v63]
  refine (dif_neg fun h => absurd (h 0).2.2 (by show ¬ 1 / (0 + 1) < 1; decide)).trans ?_
  pointwise [Cert.ReferenceFfnBIdeal.Read.val_main_cst_13]

theorem at_mod {α} (n k : ℕ) (a b : α) (hk : k < 4096) :
    Scalar.select (IntOp.cmpi .eq (BitVec.ofNat 32 (n % 2048)) (BitVec.ofNat 32 k)) a b
      = if n % 2048 = k then a else b :=
  Select.at_row _ _ _ _ (Nat.lt_trans (Nat.mod_lt _ (by decide)) (by decide)) hk

/-- A row of the gradient of the convolution's input. -/
theorem input_row (D : FVec Ideal S2048x5632 .f32) (u v w : EReal) (i : Fin 2048) (j : Fin 5632) :
    D (ix2 i j) * v
      + (if (i.val + 2048 - 1) % 2048 = 2047 then (0 : EReal)
          else D (ix2 ⟨(i.val + 2048 - 1) % 2048, by omega⟩ j) * w)
      + (if (i.val + 2048 - 2047) % 2048 = 0 then (0 : EReal)
          else D (ix2 ⟨(i.val + 2048 - 2047) % 2048, by omega⟩ j) * u)
    = ((if h : (2 ≤ 1 + i.val ∧ 1 + i.val - 2 < 2048) ∧ j.val < 5632
          then D (ix2 ⟨1 + i.val - 2, h.1.2⟩ ⟨j.val, h.2⟩) * w else (0 : EReal))
        + if h : j.val < 5632 then D (ix2 i ⟨j.val, h⟩) * v else (0 : EReal))
      + if h : 1 + i.val < 2048 ∧ j.val < 5632
          then D (ix2 ⟨1 + i.val, h.1⟩ ⟨j.val, h.2⟩) * u else (0 : EReal) := by
  have hi := i.isLt
  have hj := j.isLt
  obtain h | h | h : i.val = 0 ∨ i.val = 2047 ∨ (0 < i.val ∧ i.val < 2047) := by omega
  · simp (disch := omega) only [if_pos, if_neg, dif_pos, dif_neg, row_after, add_comm 1, zero_add, add_zero]
  · simp (disch := omega) only [if_pos, if_neg, dif_pos, dif_neg, row_before, add_comm 1, Nat.add_sub_add_right, add_zero]
    rw [add_comm]
    rfl
  · simp (disch := omega) only [if_neg, dif_pos, row_before, row_after, add_comm 1]
    rw [add_comm (D (ix2 i j) * v)]
    rfl

/-- The kernel leaves the array the reference leaves. -/
theorem final0 : (dats m 0 c).arrAt 11 cfg0.N = Cert.ReferenceFfnBIdeal.Read.val_main_v73 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t hf y => ?_
  have ht : t.val < 22 := t.isLt
  blk_simp
  rw [after0_11]
  frame_out
  simp only [pay33, pay34, pay35, pay36, pay37, pay38, dgate_eq, dvalue_eq, dvalue_eq']
  have e0 : (((View.whole main_v3_0).slice (win0_11.rect t)).emb y 0).val = (y 0).val := by blk_simp [idx t]
  have e1 : (((View.whole main_v3_0).slice (win0_11.rect t)).emb y 1).val = t.val * 128 + (y 1).val := by blk_simp [idx t]
  pointwise [k0_pay32, k0_pay1, k0_pay3, k0_pay5, k0_pay7, k0_pay8, Cert.ReferenceFfnBIdeal.Read.val_main_v73, Cert.ReferenceFfnBIdeal.Read.val_main_v68, Cert.ReferenceFfnBIdeal.Read.val_main_v66, Cert.ReferenceFfnBIdeal.Read.val_main_v55, Cert.ReferenceFfnBIdeal.Read.val_main_v65, Cert.ReferenceFfnBIdeal.Read.val_main_v44, Cert.ReferenceFfnBIdeal.Read.val_main_v54, Cert.ReferenceFfnBIdeal.Read.val_main_v60, Cert.ReferenceFfnBIdeal.Read.val_main_cst_14, Cert.ReferenceFfnBIdeal.Read.val_main_v40, Cert.ReferenceFfnBIdeal.Read.val_main_cst_6, Cert.ReferenceFfnBIdeal.Read.val_main_v49, Cert.ReferenceFfnBIdeal.Read.val_main_cst_10, Cert.ReferenceFfnBIdeal.Read.val_main_v59, Cert.ReferenceFfnBIdeal.Read.val_main_v39, Cert.ReferenceFfnBIdeal.Read.val_main_v48, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [Fin.ext e0, e1, dgate_at', at_mod _ 2047 _ _ (by decide), at_mod _ 0 _ _ (by decide), gateW0', gateW1', gateW2', valueW0', valueW1', valueW2']
  exact input_row _ _ _ _ (y 0) _

/-- The kernel leaves the array the reference leaves. -/
theorem final1 : (dats m 0 c).arrAt 12 cfg0.N = Cert.ReferenceFfnBIdeal.Read.val_main_v74 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 12 _ (by decide +kernel) fun t hf y => ?_
  have ht : t.val < 22 := t.isLt
  blk_simp
  rw [after0_12]
  frame_out
  unfold k0_pay23
  simp only [pay33, pay34, pay35, pay36, pay37, pay38, dgate_eq, dvalue_eq, dvalue_eq']
  have e0 : (((View.whole main_v3_1).slice (win0_12.rect t)).emb y 0).val = (y 0).val := by blk_simp [idx t]
  have e1 : (((View.whole main_v3_1).slice (win0_12.rect t)).emb y 1).val = t.val * 128 + (y 1).val := by blk_simp [idx t]
  pointwise [k0_pay27, k0_pay2, k0_pay14, k0_pay15, k0_pay25, k0_pay4, k0_pay6, k0_pay23, k0_pay33, k0_pay34, k0_pay35, Cert.ReferenceFfnBIdeal.Read.val_main_v74, Cert.ReferenceFfnBIdeal.Read.val_main_v68, Cert.ReferenceFfnBIdeal.Read.val_main_v66, Cert.ReferenceFfnBIdeal.Read.val_main_v55, Cert.ReferenceFfnBIdeal.Read.val_main_v65, Cert.ReferenceFfnBIdeal.Read.val_main_v44, Cert.ReferenceFfnBIdeal.Read.val_main_v54, Cert.ReferenceFfnBIdeal.Read.val_main_v60, Cert.ReferenceFfnBIdeal.Read.val_main_cst_14, Cert.ReferenceFfnBIdeal.Read.val_main_v40, Cert.ReferenceFfnBIdeal.Read.val_main_cst_6, Cert.ReferenceFfnBIdeal.Read.val_main_v49, Cert.ReferenceFfnBIdeal.Read.val_main_cst_10, Cert.ReferenceFfnBIdeal.Read.val_main_v59, Cert.ReferenceFfnBIdeal.Read.val_main_v39, Cert.ReferenceFfnBIdeal.Read.val_main_v48, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [Fin.ext e0, e1, dvalue_at', at_mod _ 2047 _ _ (by decide), at_mod _ 0 _ _ (by decide), gateW0', gateW1', gateW2', valueW0', valueW1', valueW2']
  exact input_row _ _ _ _ (y 0) _

/-- The kernel leaves the array the reference leaves. -/
theorem final2 : (dats m 0 c).arrAt 13 cfg0.N = Cert.ReferenceFfnBIdeal.Read.val_main_v75 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 13 _ (by decide +kernel) fun t hf y => ?_
  have ht : t.val < 22 := t.isLt
  blk_simp
  rw [after0_13]
  frame_out
  simp only [pay33, pay34, pay35, pay36, pay37, pay38, dgate_eq, dvalue_eq, dvalue_eq']
  have hc : (((View.whole main_v3_2).slice (win0_13.rect t)).emb y 1).val < 5632 := by
    blk_simp [idx t]
    idx_bounds
    omega
  pointwise [k0_pay31, k0_pay9, k0_pay7, Cert.ReferenceFfnBIdeal.Read.val_main_v75, Cert.ReferenceFfnBIdeal.Read.val_main_v70, Cert.ReferenceFfnBIdeal.Read.val_main_v64, Cert.ReferenceFfnBIdeal.Read.val_main_v53, Cert.ReferenceFfnBIdeal.Read.val_main_v63, Cert.ReferenceFfnBIdeal.Read.val_main_v43, Cert.ReferenceFfnBIdeal.Read.val_main_v52, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [false_and, true_and, dif_pos hc, dite_false, zero_add, add_zero, Fin.sum_univ_one]
  refine @Fin.sum_fin_congr EReal _ _ _ _ fun i => ?_
  have l := i.isLt
  simp (disch := omega) only [Select.at_row, dgate_at']
  have e1 : (((View.whole main_v3_2).slice (win0_13.rect t)).emb y 1).val = t.val * 128 + (y 1).val := by blk_simp [idx t]
  simp only [e1, gateIn_at', valueIn_at']
  exact before_term _ _ i _

/-- The kernel leaves the array the reference leaves. -/
theorem final3 : (dats m 0 c).arrAt 14 cfg0.N = Cert.ReferenceFfnBIdeal.Read.val_main_v76 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 14 _ (by decide +kernel) fun t hf y => ?_
  have ht : t.val < 22 := t.isLt
  blk_simp
  rw [after0_14]
  frame_out
  simp only [pay33, pay34, pay35, pay36, pay37, pay38, dgate_eq, dvalue_eq, dvalue_eq']
  have hc : 2816 + (((View.whole main_v3_3).slice (win0_14.rect t)).emb y 1).val < 5632 := by
    blk_simp [idx t]
    idx_bounds
    omega
  pointwise [k0_pay26, k0_pay16, k0_pay14, Cert.ReferenceFfnBIdeal.Read.val_main_v76, Cert.ReferenceFfnBIdeal.Read.val_main_v70, Cert.ReferenceFfnBIdeal.Read.val_main_v64, Cert.ReferenceFfnBIdeal.Read.val_main_v53, Cert.ReferenceFfnBIdeal.Read.val_main_v63, Cert.ReferenceFfnBIdeal.Read.val_main_v43, Cert.ReferenceFfnBIdeal.Read.val_main_v52, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [false_and, true_and, dif_pos hc, dite_false, zero_add, add_zero, Fin.sum_univ_one]
  refine @Fin.sum_fin_congr EReal _ _ _ _ fun i => ?_
  have l := i.isLt
  simp (disch := omega) only [Select.at_row, dvalue_at']
  have e1 : (((View.whole main_v3_3).slice (win0_14.rect t)).emb y 1).val = t.val * 128 + (y 1).val := by blk_simp [idx t]
  simp only [e1, gateIn_at', valueIn_at']
  exact before_term _ _ i _

/-- The kernel leaves the array the reference leaves. -/
theorem final4 : (dats m 0 c).arrAt 15 cfg0.N = Cert.ReferenceFfnBIdeal.Read.val_main_v77 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  have ht : t.val < 22 := t.isLt
  blk_simp
  rw [after0_15]
  frame_out
  simp only [pay33, pay34, pay35, pay36, pay37, pay38, dgate_eq, dvalue_eq, dvalue_eq']
  have hc : (((View.whole main_v3_4).slice (win0_15.rect t)).emb y 1).val < 5632 := by
    blk_simp [idx t]
    idx_bounds
    omega
  pointwise [k0_pay30, Cert.ReferenceFfnBIdeal.Read.val_main_v77, Cert.ReferenceFfnBIdeal.Read.val_main_v71, Cert.ReferenceFfnBIdeal.Read.val_main_v64, Cert.ReferenceFfnBIdeal.Read.val_main_v53, Cert.ReferenceFfnBIdeal.Read.val_main_v43, Cert.ReferenceFfnBIdeal.Read.val_main_v52, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [first_row1, false_and, true_and, dif_pos hc, dite_false, zero_add, add_zero, Fin.sum_univ_one]
  refine @Fin.sum_fin_congr EReal _ _ _ _ fun i => ?_
  have l := i.isLt
  simp (disch := omega) only [Select.at_row, dgate_at']
  have e1 : (((View.whole main_v3_4).slice (win0_15.rect t)).emb y 1).val = t.val * 128 + (y 1).val := by blk_simp [idx t]
  simp only [e1, gateIn_at', valueIn_at']
  exact rfl

/-- The kernel leaves the array the reference leaves. -/
theorem final5 : (dats m 0 c).arrAt 16 cfg0.N = Cert.ReferenceFfnBIdeal.Read.val_main_v78 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 16 _ (by decide +kernel) fun t hf y => ?_
  have ht : t.val < 22 := t.isLt
  blk_simp
  rw [after0_16]
  frame_out
  unfold k0_pay24
  simp only [pay33, pay34, pay35, pay36, pay37, pay38, dgate_eq, dvalue_eq, dvalue_eq']
  have hc : 2816 + (((View.whole main_v3_5).slice (win0_16.rect t)).emb y 1).val < 5632 := by
    blk_simp [idx t]
    idx_bounds
    omega
  pointwise [k0_pay24, Cert.ReferenceFfnBIdeal.Read.val_main_v78, Cert.ReferenceFfnBIdeal.Read.val_main_v71, Cert.ReferenceFfnBIdeal.Read.val_main_v64, Cert.ReferenceFfnBIdeal.Read.val_main_v53, Cert.ReferenceFfnBIdeal.Read.val_main_v43, Cert.ReferenceFfnBIdeal.Read.val_main_v52, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [first_row1, false_and, true_and, dif_pos hc, dite_false, zero_add, add_zero, Fin.sum_univ_one]
  refine @Fin.sum_fin_congr EReal _ _ _ _ fun i => ?_
  have l := i.isLt
  simp (disch := omega) only [Select.at_row, dvalue_at']
  have e1 : (((View.whole main_v3_5).slice (win0_16.rect t)).emb y 1).val = t.val * 128 + (y 1).val := by blk_simp [idx t]
  simp only [e1, gateIn_at', valueIn_at']
  exact rfl

/-- The kernel leaves the array the reference leaves. -/
theorem final6 : (dats m 0 c).arrAt 17 cfg0.N = Cert.ReferenceFfnBIdeal.Read.val_main_v79 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 17 _ (by decide +kernel) fun t hf y => ?_
  have ht : t.val < 22 := t.isLt
  blk_simp
  rw [after0_17]
  frame_out
  simp only [pay33, pay34, pay35, pay36, pay37, pay38, dgate_eq, dvalue_eq, dvalue_eq']
  have hc : (((View.whole main_v3_6).slice (win0_17.rect t)).emb y 1).val < 5632 := by
    blk_simp [idx t]
    idx_bounds
    omega
  pointwise [k0_pay29, k0_pay36, k0_pay10, k0_pay8, Cert.ReferenceFfnBIdeal.Read.val_main_v79, Cert.ReferenceFfnBIdeal.Read.val_main_v72, Cert.ReferenceFfnBIdeal.Read.val_main_v64, Cert.ReferenceFfnBIdeal.Read.val_main_v53, Cert.ReferenceFfnBIdeal.Read.val_main_v43, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [middle_row2, first_row2, false_and, true_and, dif_pos hc, dite_false, zero_add, add_zero, Fin.sum_univ_one]
  refine @Fin.sum_fin_congr EReal _ _ _ _ fun i => ?_
  have l := i.isLt
  simp (disch := omega) only [Select.at_row, dgate_at']
  have e1 : (((View.whole main_v3_6).slice (win0_17.rect t)).emb y 1).val = t.val * 128 + (y 1).val := by blk_simp [idx t]
  simp only [e1, gateIn_at', valueIn_at']
  exact after_term _ _ i _

/-- The kernel leaves the array the reference leaves. -/
theorem final7 : (dats m 0 c).arrAt 18 cfg0.N = Cert.ReferenceFfnBIdeal.Read.val_main_v80 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 18 _ (by decide +kernel) fun t hf y => ?_
  have ht : t.val < 22 := t.isLt
  blk_simp
  rw [after0_18]
  frame_out
  unfold k0_pay22
  simp only [pay33, pay34, pay35, pay36, pay37, pay38, dgate_eq, dvalue_eq, dvalue_eq']
  have hc : 2816 + (((View.whole main_v3_7).slice (win0_18.rect t)).emb y 1).val < 5632 := by
    blk_simp [idx t]
    idx_bounds
    omega
  pointwise [k0_pay22, k0_pay17, k0_pay15, Cert.ReferenceFfnBIdeal.Read.val_main_v80, Cert.ReferenceFfnBIdeal.Read.val_main_v72, Cert.ReferenceFfnBIdeal.Read.val_main_v64, Cert.ReferenceFfnBIdeal.Read.val_main_v53, Cert.ReferenceFfnBIdeal.Read.val_main_v43, Cert.ReferenceFfnBIdeal.Read.val_main_v62, Cert.ReferenceFfnBIdeal.Read.val_main_cst_13, Cert.ReferenceFfnBIdeal.Read.val_main_v42, Cert.ReferenceFfnBIdeal.Read.val_main_cst_5, Cert.ReferenceFfnBIdeal.Read.val_main_v51, Cert.ReferenceFfnBIdeal.Read.val_main_cst_9, Cert.ReferenceFfnBIdeal.Read.val_main_v61, Cert.ReferenceFfnBIdeal.Read.val_main_v41, Cert.ReferenceFfnBIdeal.Read.val_main_v50, Cert.ReferenceFfnBIdeal.Read.val_main_v58, Cert.ReferenceFfnBIdeal.Read.val_main_cst_12, Cert.ReferenceFfnBIdeal.Read.val_main_v38, Cert.ReferenceFfnBIdeal.Read.val_main_cst_4, Cert.ReferenceFfnBIdeal.Read.val_main_v47, Cert.ReferenceFfnBIdeal.Read.val_main_cst_8, Cert.ReferenceFfnBIdeal.Read.val_main_v57, Cert.ReferenceFfnBIdeal.Read.val_main_v37, Cert.ReferenceFfnBIdeal.Read.val_main_v46, Cert.ReferenceFfnBIdeal.Read.val_main_v56, Cert.ReferenceFfnBIdeal.Read.val_main_cst_11, Cert.ReferenceFfnBIdeal.Read.val_main_v36, Cert.ReferenceFfnBIdeal.Read.val_main_cst_3, Cert.ReferenceFfnBIdeal.Read.val_main_v45, Cert.ReferenceFfnBIdeal.Read.val_main_cst_7, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [middle_row2, first_row2, false_and, true_and, dif_pos hc, dite_false, zero_add, add_zero, Fin.sum_univ_one]
  refine @Fin.sum_fin_congr EReal _ _ _ _ fun i => ?_
  have l := i.isLt
  simp (disch := omega) only [Select.at_row, dvalue_at']
  have e1 : (((View.whole main_v3_7).slice (win0_18.rect t)).emb y 1).val = t.val * 128 + (y 1).val := by blk_simp [idx t]
  simp only [e1, gateIn_at', valueIn_at']
  exact after_term _ _ i _

/-- The kernel leaves the array the reference leaves. -/
theorem final8 : (dats m 0 c).arrAt 19 cfg0.N = Cert.ReferenceFfnBIdeal.Read.val_main_v81 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 19 _ (by decide +kernel) fun t hf y => ?_
  have ht : t.val < 22 := t.isLt
  blk_simp
  rw [after0_19]
  frame_out
  simp only [pay33, pay34, pay35, pay36, pay37, pay38, dgate_eq, dvalue_eq, dvalue_eq']
  pointwise [k0_pay28, Cert.ReferenceFfnBIdeal.Read.val_main_v81, Cert.ReferenceFfnBIdeal.Read.val_main_v35, Cert.ReferenceFfnBIdeal.Read.val_main_v34, Cert.ReferenceFfnBIdeal.Read.val_main_cst_2, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [dgate_at']
  refine @Fin.sum_fin_congr EReal _ _ _ _ fun i => ?_
  blk_point [iblk, V, idx t]

/-- The kernel leaves the array the reference leaves. -/
theorem final9 : (dats m 0 c).arrAt 20 cfg0.N = Cert.ReferenceFfnBIdeal.Read.val_main_v82 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 20 _ (by decide +kernel) fun t hf y => ?_
  have ht : t.val < 22 := t.isLt
  blk_simp
  rw [after0_20]
  frame_out
  unfold k0_pay21
  simp only [pay33, pay34, pay35, pay36, pay37, pay38, dgate_eq, dvalue_eq, dvalue_eq']
  pointwise [k0_pay21, Cert.ReferenceFfnBIdeal.Read.val_main_v82, Cert.ReferenceFfnBIdeal.Read.val_main_v35, Cert.ReferenceFfnBIdeal.Read.val_main_v34, Cert.ReferenceFfnBIdeal.Read.val_main_cst_2, Cert.ReferenceFfnBIdeal.Read.val_main_v4, Cert.ReferenceFfnBIdeal.Read.val_main_v1, Cert.ReferenceFfnBIdeal.Read.val_main_v0, Cert.ReferenceFfnBIdeal.Read.val_main_cst, Cert.ReferenceFfnBIdeal.Read.val_main_v10, Cert.ReferenceFfnBIdeal.Read.val_main_v17, Cert.ReferenceFfnBIdeal.Read.val_main_v7, Cert.ReferenceFfnBIdeal.Read.val_main_v6, Cert.ReferenceFfnBIdeal.Read.val_main_v5, Cert.ReferenceFfnBIdeal.Read.val_main_v13, Cert.ReferenceFfnBIdeal.Read.val_main_v12, Cert.ReferenceFfnBIdeal.Read.val_main_v11, Cert.ReferenceFfnBIdeal.Read.val_main_v20, Cert.ReferenceFfnBIdeal.Read.val_main_v19, Cert.ReferenceFfnBIdeal.Read.val_main_v18]
  simp only [dvalue_at']
  refine @Fin.sum_fin_congr EReal _ _ _ _ fun i => ?_
  blk_point [iblk, V, idx t]

end Cert.KernelFfnBIdeal.Claims

namespace Cert.ReferenceFfnBIdeal.Frame

open Cert.ReferenceFfnBIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2.2.2.2.2.2.2, sem_eq_zero_of_no_sems (by decide) r.2⟩) (Value.run m g)

end Cert.ReferenceFfnBIdeal.Frame

namespace Cert.KernelFfnBIdeal.Claims

open Idealize.ShloMosaic Idealize.SL.Sem

/-- The kernel and the reference leave the same arrays. -/
theorem algebraic : Cert.algebraic_KernelFfnBIdeal_ReferenceFfnBIdeal
    (hKernelFfnBIdeal := Cert.KernelFfnBIdeal.Gen.facts) (hReferenceFfnBIdeal := Cert.ReferenceFfnBIdeal.Gen.facts) := by
  intro m g m' g' _ hagree
  refine ⟨fun c => Cert.ReferenceFfnBIdeal.Read.val_main_v73 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v74 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v75 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v76 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v77 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v78 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v79 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v80 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v81 (m ((c.tc : Thread nD τ).loc main_arg0)) (m ((c.tc : Thread nD τ).loc main_arg1)) (m ((c.tc : Thread nD τ).loc main_arg2)) (m ((c.tc : Thread nD τ).loc main_arg3)),
    fun c => Cert.ReferenceFfnBIdeal.Read.val_main_v82 (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.KernelFfnBIdeal.Value.run_blocks m g)
    obtain ⟨h0, h1, h2, h3, h4, h5, h6, h7, h8, h9, hargs⟩ := h c
    exact ⟨h0.trans (final0 m c), h1.trans (final1 m c), h2.trans (final2 m c), h3.trans (final3 m c), h4.trans (final4 m c), h5.trans (final5 m c), h6.trans (final6 m c), h7.trans (final7 m c), h8.trans (final8 m c), h9.trans (final9 m c), hargs⟩
  · refine (θ_run _ _ _).mono (fun r h c => ?_) (Cert.ReferenceFfnBIdeal.Value.run m' g')
    obtain ⟨h0, h1, h2, h3, h4, h5, h6, h7, h8, h9, hargs⟩ := h c
    obtain ⟨a0, a1, a2, a3⟩ := hagree c
    have e0 := h0.trans (Cert.ReferenceFfnBIdeal.Read.val_main_v73_eq _ _)
    rw [a0, a1, a2, a3] at e0
    have e1 := h1.trans (Cert.ReferenceFfnBIdeal.Read.val_main_v74_eq _ _)
    rw [a0, a1, a2, a3] at e1
    have e2 := h2.trans (Cert.ReferenceFfnBIdeal.Read.val_main_v75_eq _ _)
    rw [a0, a1, a2, a3] at e2
    have e3 := h3.trans (Cert.ReferenceFfnBIdeal.Read.val_main_v76_eq _ _)
    rw [a0, a1, a2, a3] at e3
    have e4 := h4.trans (Cert.ReferenceFfnBIdeal.Read.val_main_v77_eq _ _)
    rw [a0, a1, a2, a3] at e4
    have e5 := h5.trans (Cert.ReferenceFfnBIdeal.Read.val_main_v78_eq _ _)
    rw [a0, a1, a2, a3] at e5
    have e6 := h6.trans (Cert.ReferenceFfnBIdeal.Read.val_main_v79_eq _ _)
    rw [a0, a1, a2, a3] at e6
    have e7 := h7.trans (Cert.ReferenceFfnBIdeal.Read.val_main_v80_eq _ _)
    rw [a0, a1, a2, a3] at e7
    have e8 := h8.trans (Cert.ReferenceFfnBIdeal.Read.val_main_v81_eq _ _)
    rw [a0, a1, a2, a3] at e8
    have e9 := h9.trans (Cert.ReferenceFfnBIdeal.Read.val_main_v82_eq _ _)
    rw [a0, a1, a2, a3] at e9
    exact ⟨e0, e1, e2, e3, e4, e5, e6, e7, e8, e9, hargs⟩

end Cert.KernelFfnBIdeal.Claims

end
-- ==== Proof.PrepF.lean ====
/- The convolution, the activation and the norm of the recurrence's queries, keys and values, forward. -/
module

public import proofs.«01_k».proof.Defs
public import proofs.«01_k».proof.Proof.Gen.KernelPrepF.Frame
public import proofs.«01_k».proof.Proof.Gen.KernelPrepFIdeal.Value
public import proofs.«01_k».proof.Proof.Gen.ReferencePrepFIdeal.Run
public import proofs.«01_k».proof.Proof.Gen.ReferencePrepFIdeal.Read
public import Idealize.ShloMosaic.Lib.Pipeline.ValueKit
public import Idealize.ShloMosaic.Lib.Pointwise
public import Idealize.ShloMosaic.Adequacy
public import Idealize.ShloMosaic.Init
public import proofs.«01_k».proof.Proof.Select

@[expose] public section

set_option maxRecDepth 16384
set_option maxHeartbeats 2000000

noncomputable section

namespace Cert.KernelPrepFIdeal.Claims

open Cert.KernelPrepFIdeal Cert.KernelPrepFIdeal.Gen Idealize.ShloMosaic Idealize.ShloMosaic.TcCoe Idealize.SL.Sem Cert

variable (m : (ℓ : Loc nD τ sig) → Buf (Elt Ideal) ℓ) (c : Dev nD)

/-- The block each window holds at each grid point. -/
theorem idx : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val] :=
  (by decide +kernel : ∀ t : Fin grid0.N, _)

/-- The activations at the context's rows. -/
theorem act_ctx (t : Fin cfg0.N) (r : Fin 256) (l : Fin 128) : k0_pay4 (iblk m c 0 t) (iblk m c 1 t) (iblk m c 2 t) (iblk m c 3 t) (ix2 ⟨r.val, by omega⟩ l)
    = Cert.ReferencePrepFIdeal.Read.val_main_v23 (m ((c.tc : Thread nD τ).loc main_arg0)) (m ((c.tc : Thread nD τ).loc main_arg1)) (ix2 r ⟨t.val * 128 + l.val, by have := t.isLt; change t.val < 24 at this; omega⟩) := by
  have ht : t.val < 24 := t.isLt
  have hr := r.isLt
  have hl := l.isLt
  pointwise [k0_pay4, Cert.ReferencePrepFIdeal.Read.val_main_v23, Cert.ReferencePrepFIdeal.Read.val_main_v22, Cert.ReferencePrepFIdeal.Read.val_main_call0_v5, Cert.ReferencePrepFIdeal.Read.val_main_v15, Cert.ReferencePrepFIdeal.Read.val_main_v21, Cert.ReferencePrepFIdeal.Read.val_main_call0_v4, Cert.ReferencePrepFIdeal.Read.val_main_call0_v3, Cert.ReferencePrepFIdeal.Read.val_main_v8, Cert.ReferencePrepFIdeal.Read.val_main_v14, Cert.ReferencePrepFIdeal.Read.val_main_v16, Cert.ReferencePrepFIdeal.Read.val_main_v20, Cert.ReferencePrepFIdeal.Read.val_main_call0_cst_0, Cert.ReferencePrepFIdeal.Read.val_main_call0_v2, Cert.ReferencePrepFIdeal.Read.val_main_call0_v1, Cert.ReferencePrepFIdeal.Read.val_main_v3, Cert.ReferencePrepFIdeal.Read.val_main_v7, Cert.ReferencePrepFIdeal.Read.val_main_v9, Cert.ReferencePrepFIdeal.Read.val_main_v13, Cert.ReferencePrepFIdeal.Read.val_main_v2, Cert.ReferencePrepFIdeal.Read.val_main_v19, Cert.ReferencePrepFIdeal.Read.val_main_call0_cst, Cert.ReferencePrepFIdeal.Read.val_main_call0_v0, Cert.ReferencePrepFIdeal.Read.val_main_v6, Cert.ReferencePrepFIdeal.Read.val_main_v12, Cert.ReferencePrepFIdeal.Read.val_main_v1, Cert.ReferencePrepFIdeal.Read.val_main_v0, Cert.ReferencePrepFIdeal.Read.val_main_v18, Cert.ReferencePrepFIdeal.Read.val_main_v5, Cert.ReferencePrepFIdeal.Read.val_main_v11, Cert.ReferencePrepFIdeal.Read.val_main_cst, Cert.ReferencePrepFIdeal.Read.val_main_v17, Cert.ReferencePrepFIdeal.Read.val_main_v4, Cert.ReferencePrepFIdeal.Read.val_main_v10]
  simp (disch := omega) only [Ideal.logistic, Select.at_rows]
  obtain h | h | h : r.val = 0 ∨ r.val = 255 ∨ (0 < r.val ∧ r.val < 255) := by omega
  all_goals
    simp (disch := omega) only [if_pos, if_neg, dif_pos, dif_neg, zero_add, add_zero, zero_mul]
    blk_point [iblk, V, idx t]

/-- The activations at the other rows. -/
theorem act_main (t : Fin cfg0.N) (r : Fin 2048) (l : Fin 128) : k0_pay4 (iblk m c 0 t) (iblk m c 1 t) (iblk m c 2 t) (iblk m c 3 t) (ix2 ⟨256 + r.val, by omega⟩ l)
    = Cert.ReferencePrepFIdeal.Read.val_main_v73 (m ((c.tc : Thread nD τ).loc main_arg0)) (m ((c.tc : Thread nD τ).loc main_arg1)) (ix2 r ⟨t.val * 128 + l.val, by have := t.isLt; change t.val < 24 at this; omega⟩) := by
  have ht : t.val < 24 := t.isLt
  have hr := r.isLt
  have hl := l.isLt
  pointwise [k0_pay4, Cert.ReferencePrepFIdeal.Read.val_main_v73, Cert.ReferencePrepFIdeal.Read.val_main_v72, Cert.ReferencePrepFIdeal.Read.val_main_call1_v5, Cert.ReferencePrepFIdeal.Read.val_main_v65, Cert.ReferencePrepFIdeal.Read.val_main_v71, Cert.ReferencePrepFIdeal.Read.val_main_call1_v4, Cert.ReferencePrepFIdeal.Read.val_main_call1_v3, Cert.ReferencePrepFIdeal.Read.val_main_v58, Cert.ReferencePrepFIdeal.Read.val_main_v64, Cert.ReferencePrepFIdeal.Read.val_main_v66, Cert.ReferencePrepFIdeal.Read.val_main_v70, Cert.ReferencePrepFIdeal.Read.val_main_call1_cst_0, Cert.ReferencePrepFIdeal.Read.val_main_call1_v2, Cert.ReferencePrepFIdeal.Read.val_main_call1_v1, Cert.ReferencePrepFIdeal.Read.val_main_v53, Cert.ReferencePrepFIdeal.Read.val_main_v57, Cert.ReferencePrepFIdeal.Read.val_main_v59, Cert.ReferencePrepFIdeal.Read.val_main_v63, Cert.ReferencePrepFIdeal.Read.val_main_v52, Cert.ReferencePrepFIdeal.Read.val_main_v69, Cert.ReferencePrepFIdeal.Read.val_main_call1_cst, Cert.ReferencePrepFIdeal.Read.val_main_call1_v0, Cert.ReferencePrepFIdeal.Read.val_main_v56, Cert.ReferencePrepFIdeal.Read.val_main_v62, Cert.ReferencePrepFIdeal.Read.val_main_v51, Cert.ReferencePrepFIdeal.Read.val_main_v50, Cert.ReferencePrepFIdeal.Read.val_main_v68, Cert.ReferencePrepFIdeal.Read.val_main_v55, Cert.ReferencePrepFIdeal.Read.val_main_v61, Cert.ReferencePrepFIdeal.Read.val_main_cst_5, Cert.ReferencePrepFIdeal.Read.val_main_v67, Cert.ReferencePrepFIdeal.Read.val_main_v54, Cert.ReferencePrepFIdeal.Read.val_main_v60]
  simp (disch := omega) only [Ideal.logistic, Select.at_rows]
  obtain h | h | h : r.val = 0 ∨ r.val = 2047 ∨ (0 < r.val ∧ r.val < 2047) := by omega
  all_goals
    simp (disch := omega) only [if_pos, if_neg, dif_pos, dif_neg, zero_add, add_zero, zero_mul]
    blk_point [iblk, V, idx t]

/-- Which columns are normed, as the host lays them out. -/
theorem normed_apply (y : S1x3072.Idx) : @Eq EReal (V m c main_v2 y) (if (y 1).val < 2048 then 1 else 0) := by
  refine (congrFun (show V m c main_v2 = concatenate S1x3072 1 [⟨S1x1024, (broadcastInDim S1x1024 ![] bcast_S_S1x1024 (constant (F := Ideal) S_ .f32 0x3F800000#32) : S1x1024.Idx → Ideal .f32)⟩, ⟨S1x1024, (broadcastInDim S1x1024 ![] bcast_S_S1x1024 (constant (F := Ideal) S_ .f32 0x3F800000#32) : S1x1024.Idx → Ideal .f32)⟩, ⟨S1x1024, (broadcastInDim S1x1024 ![] bcast_S_S1x1024 (constant (F := Ideal) S_ .f32 0x00000000#32) : S1x1024.Idx → Ideal .f32)⟩] concatenates_S1x1024_S1x1024_S1x1024_S1x3072_d1 from rfl) y).trans ?_
  pointwise
  obtain h | h | h : (y 1).val < 1024 ∨ (1024 ≤ (y 1).val ∧ (y 1).val < 2048) ∨ 2048 ≤ (y 1).val := by omega
  all_goals simp (disch := omega) only [dif_pos, dif_neg, if_pos, if_neg]

/-- The scale of the normed columns, as the host lays it out. -/
theorem scale_apply (y : S1x3072.Idx) : @Eq EReal (V m c main_v4 y)
    (if (y 1).val < 1024 then (Scalar.ofBits .f32 0x3DB504F3#32 : Ideal .f32) else (1 : EReal)) := by
  refine (congrFun (show V m c main_v4 = concatenate S1x3072 1 [⟨S1x1024, (broadcastInDim S1x1024 ![] bcast_S_S1x1024 (constant (F := Ideal) S_ .f32 0x3DB504F3#32) : S1x1024.Idx → Ideal .f32)⟩, ⟨S1x1024, (broadcastInDim S1x1024 ![] bcast_S_S1x1024 (constant (F := Ideal) S_ .f32 0x3F800000#32) : S1x1024.Idx → Ideal .f32)⟩, ⟨S1x1024, (broadcastInDim S1x1024 ![] bcast_S_S1x1024 (constant (F := Ideal) S_ .f32 0x3F800000#32) : S1x1024.Idx → Ideal .f32)⟩] concatenates_S1x1024_S1x1024_S1x1024_S1x3072_d1 from rfl) y).trans ?_
  pointwise
  obtain h | h | h : (y 1).val < 1024 ∨ (1024 ≤ (y 1).val ∧ (y 1).val < 2048) ∨ 2048 ≤ (y 1).val := by omega
  all_goals simp (disch := omega) only [dif_pos, dif_neg, if_pos, if_neg]

/-- Which columns are normed. -/
theorem normed_at (t : Fin cfg0.N) (l : Fin 128) : @Eq EReal (iblk m c 4 t (ix2 0 l)) (if t.val < 16 then 1 else 0) := by
  have hl := l.isLt
  have e : (((win0_4.blk t).view.emb (ix2 0 l)) 1).val = t.val * 128 + l.val := by blk_simp [idx t]
  refine (normed_apply m c _).trans ?_
  rw [e]
  simp only [show t.val * 128 + l.val < 2048 ↔ t.val < 16 by omega]

/-- The scale of the normed columns. -/
theorem scale_at (t : Fin cfg0.N) (l : Fin 128) : @Eq EReal (iblk m c 5 t (ix2 0 l))
    (if t.val < 8 then (Scalar.ofBits .f32 0x3DB504F3#32 : Ideal .f32) else (1 : EReal)) := by
  have hl := l.isLt
  have e : (((win0_5.blk t).view.emb (ix2 0 l)) 1).val = t.val * 128 + l.val := by blk_simp [idx t]
  refine (scale_apply m c _).trans ?_
  rw [e]
  simp only [show t.val * 128 + l.val < 1024 ↔ t.val < 8 by omega]

/-- The results at the context's rows. -/
theorem out_ctx (t : Fin cfg0.N) (r : Fin 256) (l : Fin 128) :
    k0_pay1 (k0_pay2 (iblk m c 4 t)) (k0_pay3 (iblk m c 5 t)) (k0_pay4 (iblk m c 0 t) (iblk m c 1 t) (iblk m c 2 t) (iblk m c 3 t)) (k0_pay5 (iblk m c 0 t) (iblk m c 1 t) (iblk m c 2 t) (iblk m c 3 t)) (ix2 ⟨r.val, by omega⟩ l)
    = Cert.ReferencePrepFIdeal.Read.val_main_v100 (m ((c.tc : Thread nD τ).loc main_arg0)) (m ((c.tc : Thread nD τ).loc main_arg1)) (ix2 ⟨r.val, by omega⟩ ⟨t.val * 128 + l.val, by have := t.isLt; change t.val < 24 at this; omega⟩) := by
  have ht : t.val < 24 := t.isLt
  have hr := r.isLt
  have hl := l.isLt
  obtain h | h | h : t.val < 8 ∨ (8 ≤ t.val ∧ t.val < 16) ∨ 16 ≤ t.val := by omega
  all_goals
    pointwise [k0_pay1, k0_pay2, k0_pay3, k0_pay5, Cert.ReferencePrepFIdeal.Read.val_main_v100, Cert.ReferencePrepFIdeal.Read.val_main_v49, Cert.ReferencePrepFIdeal.Read.val_main_v99, Cert.ReferencePrepFIdeal.Read.val_main_v47, Cert.ReferencePrepFIdeal.Read.val_main_v48, Cert.ReferencePrepFIdeal.Read.val_main_v26, Cert.ReferencePrepFIdeal.Read.val_main_v97, Cert.ReferencePrepFIdeal.Read.val_main_v98, Cert.ReferencePrepFIdeal.Read.val_main_v76, Cert.ReferencePrepFIdeal.Read.val_main_v37, Cert.ReferencePrepFIdeal.Read.val_main_v46, Cert.ReferencePrepFIdeal.Read.val_main_v87, Cert.ReferencePrepFIdeal.Read.val_main_v96, Cert.ReferencePrepFIdeal.Read.val_main_v35, Cert.ReferencePrepFIdeal.Read.val_main_v36, Cert.ReferencePrepFIdeal.Read.val_main_v38, Cert.ReferencePrepFIdeal.Read.val_main_v45, Cert.ReferencePrepFIdeal.Read.val_main_v85, Cert.ReferencePrepFIdeal.Read.val_main_v86, Cert.ReferencePrepFIdeal.Read.val_main_v88, Cert.ReferencePrepFIdeal.Read.val_main_v95, Cert.ReferencePrepFIdeal.Read.val_main_v27, Cert.ReferencePrepFIdeal.Read.val_main_v34, Cert.ReferencePrepFIdeal.Read.val_main_cst_2, Cert.ReferencePrepFIdeal.Read.val_main_v25, Cert.ReferencePrepFIdeal.Read.val_main_v44, Cert.ReferencePrepFIdeal.Read.val_main_v77, Cert.ReferencePrepFIdeal.Read.val_main_v84, Cert.ReferencePrepFIdeal.Read.val_main_cst_8, Cert.ReferencePrepFIdeal.Read.val_main_v75, Cert.ReferencePrepFIdeal.Read.val_main_v94, Cert.ReferencePrepFIdeal.Read.val_main_v24, Cert.ReferencePrepFIdeal.Read.val_main_v33, Cert.ReferencePrepFIdeal.Read.val_main_v43, Cert.ReferencePrepFIdeal.Read.val_main_v74, Cert.ReferencePrepFIdeal.Read.val_main_v83, Cert.ReferencePrepFIdeal.Read.val_main_v93, Cert.ReferencePrepFIdeal.Read.val_main_v32, Cert.ReferencePrepFIdeal.Read.val_main_v41, Cert.ReferencePrepFIdeal.Read.val_main_v42, Cert.ReferencePrepFIdeal.Read.val_main_v82, Cert.ReferencePrepFIdeal.Read.val_main_v91, Cert.ReferencePrepFIdeal.Read.val_main_v92, Cert.ReferencePrepFIdeal.Read.val_main_v30, Cert.ReferencePrepFIdeal.Read.val_main_v31, Cert.ReferencePrepFIdeal.Read.val_main_v40, Cert.ReferencePrepFIdeal.Read.val_main_cst_4, Cert.ReferencePrepFIdeal.Read.val_main_v80, Cert.ReferencePrepFIdeal.Read.val_main_v81, Cert.ReferencePrepFIdeal.Read.val_main_v90, Cert.ReferencePrepFIdeal.Read.val_main_cst_10, Cert.ReferencePrepFIdeal.Read.val_main_v29, Cert.ReferencePrepFIdeal.Read.val_main_cst_1, Cert.ReferencePrepFIdeal.Read.val_main_v39, Cert.ReferencePrepFIdeal.Read.val_main_cst_3, Cert.ReferencePrepFIdeal.Read.val_main_v79, Cert.ReferencePrepFIdeal.Read.val_main_cst_7, Cert.ReferencePrepFIdeal.Read.val_main_v89, Cert.ReferencePrepFIdeal.Read.val_main_cst_9, Cert.ReferencePrepFIdeal.Read.val_main_v28, Cert.ReferencePrepFIdeal.Read.val_main_cst_0, Cert.ReferencePrepFIdeal.Read.val_main_v78, Cert.ReferencePrepFIdeal.Read.val_main_cst_6]
    simp (disch := omega) only [act_ctx, normed_at, scale_at, if_pos, if_neg, dif_pos, dif_neg]
    first
    | rw [if_pos (zero_lt_one (α := EReal))]
    | rw [if_neg (lt_irrefl (0 : EReal))]
    simp only [mul_one, ← mul_assoc, show (t.val * 128 + l.val) / 128 = t.val by omega]
  · rfl
  · simp only [show (t.val * 128 + l.val - 1024) / 128 = t.val - 8 by omega, show (t.val * 128 + l.val - 1024) % 128 = l.val by omega, show ∀ x, 1024 + ((t.val - 8) * 128 + x) = t.val * 128 + x by omega]
  · simp only [show 2048 + (t.val * 128 + l.val - 1024 - 1024) = t.val * 128 + l.val by omega]

/-- The results at the other rows. -/
theorem out_main (t : Fin cfg0.N) (r : Fin 2048) (l : Fin 128) :
    k0_pay1 (k0_pay2 (iblk m c 4 t)) (k0_pay3 (iblk m c 5 t)) (k0_pay4 (iblk m c 0 t) (iblk m c 1 t) (iblk m c 2 t) (iblk m c 3 t)) (k0_pay5 (iblk m c 0 t) (iblk m c 1 t) (iblk m c 2 t) (iblk m c 3 t)) (ix2 ⟨256 + r.val, by omega⟩ l)
    = Cert.ReferencePrepFIdeal.Read.val_main_v100 (m ((c.tc : Thread nD τ).loc main_arg0)) (m ((c.tc : Thread nD τ).loc main_arg1)) (ix2 ⟨256 + r.val, by omega⟩ ⟨t.val * 128 + l.val, by have := t.isLt; change t.val < 24 at this; omega⟩) := by
  have ht : t.val < 24 := t.isLt
  have hr := r.isLt
  have hl := l.isLt
  obtain h | h | h : t.val < 8 ∨ (8 ≤ t.val ∧ t.val < 16) ∨ 16 ≤ t.val := by omega
  all_goals
    pointwise [k0_pay1, k0_pay2, k0_pay3, k0_pay5, Cert.ReferencePrepFIdeal.Read.val_main_v100, Cert.ReferencePrepFIdeal.Read.val_main_v49, Cert.ReferencePrepFIdeal.Read.val_main_v99, Cert.ReferencePrepFIdeal.Read.val_main_v47, Cert.ReferencePrepFIdeal.Read.val_main_v48, Cert.ReferencePrepFIdeal.Read.val_main_v26, Cert.ReferencePrepFIdeal.Read.val_main_v97, Cert.ReferencePrepFIdeal.Read.val_main_v98, Cert.ReferencePrepFIdeal.Read.val_main_v76, Cert.ReferencePrepFIdeal.Read.val_main_v37, Cert.ReferencePrepFIdeal.Read.val_main_v46, Cert.ReferencePrepFIdeal.Read.val_main_v87, Cert.ReferencePrepFIdeal.Read.val_main_v96, Cert.ReferencePrepFIdeal.Read.val_main_v35, Cert.ReferencePrepFIdeal.Read.val_main_v36, Cert.ReferencePrepFIdeal.Read.val_main_v38, Cert.ReferencePrepFIdeal.Read.val_main_v45, Cert.ReferencePrepFIdeal.Read.val_main_v85, Cert.ReferencePrepFIdeal.Read.val_main_v86, Cert.ReferencePrepFIdeal.Read.val_main_v88, Cert.ReferencePrepFIdeal.Read.val_main_v95, Cert.ReferencePrepFIdeal.Read.val_main_v27, Cert.ReferencePrepFIdeal.Read.val_main_v34, Cert.ReferencePrepFIdeal.Read.val_main_cst_2, Cert.ReferencePrepFIdeal.Read.val_main_v25, Cert.ReferencePrepFIdeal.Read.val_main_v44, Cert.ReferencePrepFIdeal.Read.val_main_v77, Cert.ReferencePrepFIdeal.Read.val_main_v84, Cert.ReferencePrepFIdeal.Read.val_main_cst_8, Cert.ReferencePrepFIdeal.Read.val_main_v75, Cert.ReferencePrepFIdeal.Read.val_main_v94, Cert.ReferencePrepFIdeal.Read.val_main_v24, Cert.ReferencePrepFIdeal.Read.val_main_v33, Cert.ReferencePrepFIdeal.Read.val_main_v43, Cert.ReferencePrepFIdeal.Read.val_main_v74, Cert.ReferencePrepFIdeal.Read.val_main_v83, Cert.ReferencePrepFIdeal.Read.val_main_v93, Cert.ReferencePrepFIdeal.Read.val_main_v32, Cert.ReferencePrepFIdeal.Read.val_main_v41, Cert.ReferencePrepFIdeal.Read.val_main_v42, Cert.ReferencePrepFIdeal.Read.val_main_v82, Cert.ReferencePrepFIdeal.Read.val_main_v91, Cert.ReferencePrepFIdeal.Read.val_main_v92, Cert.ReferencePrepFIdeal.Read.val_main_v30, Cert.ReferencePrepFIdeal.Read.val_main_v31, Cert.ReferencePrepFIdeal.Read.val_main_v40, Cert.ReferencePrepFIdeal.Read.val_main_cst_4, Cert.ReferencePrepFIdeal.Read.val_main_v80, Cert.ReferencePrepFIdeal.Read.val_main_v81, Cert.ReferencePrepFIdeal.Read.val_main_v90, Cert.ReferencePrepFIdeal.Read.val_main_cst_10, Cert.ReferencePrepFIdeal.Read.val_main_v29, Cert.ReferencePrepFIdeal.Read.val_main_cst_1, Cert.ReferencePrepFIdeal.Read.val_main_v39, Cert.ReferencePrepFIdeal.Read.val_main_cst_3, Cert.ReferencePrepFIdeal.Read.val_main_v79, Cert.ReferencePrepFIdeal.Read.val_main_cst_7, Cert.ReferencePrepFIdeal.Read.val_main_v89, Cert.ReferencePrepFIdeal.Read.val_main_cst_9, Cert.ReferencePrepFIdeal.Read.val_main_v28, Cert.ReferencePrepFIdeal.Read.val_main_cst_0, Cert.ReferencePrepFIdeal.Read.val_main_v78, Cert.ReferencePrepFIdeal.Read.val_main_cst_6]
    simp (disch := omega) only [act_main, normed_at, scale_at, if_pos, if_neg, dif_pos, dif_neg]
    first
    | rw [if_pos (zero_lt_one (α := EReal))]
    | rw [if_neg (lt_irrefl (0 : EReal))]
    simp only [mul_one, ← mul_assoc, show (t.val * 128 + l.val) / 128 = t.val by omega]
  · rfl
  · simp only [show (t.val * 128 + l.val - 1024) / 128 = t.val - 8 by omega, show (t.val * 128 + l.val - 1024) % 128 = l.val by omega, show ∀ x, 1024 + ((t.val - 8) * 128 + x) = t.val * 128 + x by omega]
  · simp only [show 2048 + (t.val * 128 + l.val - 1024 - 1024) = t.val * 128 + l.val by omega]

/-- The results at every row. -/
theorem out_at (t : Fin cfg0.N) (y : S2304x128.Idx) :
    k0_pay1 (k0_pay2 (iblk m c 4 t)) (k0_pay3 (iblk m c 5 t)) (k0_pay4 (iblk m c 0 t) (iblk m c 1 t) (iblk m c 2 t) (iblk m c 3 t)) (k0_pay5 (iblk m c 0 t) (iblk m c 1 t) (iblk m c 2 t) (iblk m c 3 t)) y
    = Cert.ReferencePrepFIdeal.Read.val_main_v100 (m ((c.tc : Thread nD τ).loc main_arg0)) (m ((c.tc : Thread nD τ).loc main_arg1))
      (ix2 ⟨(y 0).val, (y 0).isLt⟩ ⟨t.val * 128 + (y 1).val, by have h := (y 1).isLt; change (y 1).val < 128 at h; have := t.isLt; change t.val < 24 at this; omega⟩) := by
  have h1 := (y 1).isLt
  change (y 1).val < 128 at h1
  have h0 := (y 0).isLt
  change (y 0).val < 2304 at h0
  rw [show y = ix2 (y 0) (y 1) from by funext a; fin_cases a <;> rfl]
  by_cases h : (y 0).val < 256
  · exact out_ctx m c t ⟨(y 0).val, h⟩ (y 1)
  · have q := out_main m c t ⟨(y 0).val - 256, by omega⟩ (y 1)
    simp only [show 256 + ((y 0).val - 256) = (y 0).val by omega] at q
    exact q

/-- The kernel leaves the array the reference leaves. -/
theorem final0 : (dats m 0 c).arrAt 6 cfg0.N = Cert.ReferencePrepFIdeal.Read.val_main_v100 (m ((c.tc : Thread nD τ).loc main_arg0)) (m ((c.tc : Thread nD τ).loc main_arg1)) := by
  refine (dats m 0 c).arrAt_eq_of_covers 6 _ (by decide +kernel) fun t hf y => ?_
  blk_simp
  rw [after0_6]
  frame_out
  refine (out_at m c t y).trans (congrArg _ (Eq.symm ?_))
  blk_ext [idx t]

end Cert.KernelPrepFIdeal.Claims

namespace Cert.ReferencePrepFIdeal.Frame

open Cert.ReferencePrepFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferencePrepFIdeal.Frame

namespace Cert.KernelPrepFIdeal.Claims

open Idealize.ShloMosaic Idealize.SL.Sem

/-- The kernel and the reference leave the same arrays. -/
theorem algebraic : Cert.algebraic_KernelPrepFIdeal_ReferencePrepFIdeal
    (hKernelPrepFIdeal := Cert.KernelPrepFIdeal.Gen.facts) (hReferencePrepFIdeal := Cert.ReferencePrepFIdeal.Gen.facts) := by
  intro m g m' g' _ hagree
  refine ⟨fun c => Cert.ReferencePrepFIdeal.Read.val_main_v100 (m ((c.tc : Thread nD τ).loc main_arg0)) (m ((c.tc : Thread nD τ).loc main_arg1)), ?_, ?_⟩
  · refine (θ_run _ _ _).mono (fun r h c => ?_) (Cert.KernelPrepFIdeal.Value.run_blocks m g)
    obtain ⟨h0, hargs⟩ := h c
    exact ⟨h0.trans (final0 m c), hargs⟩
  · refine (θ_run _ _ _).mono (fun r h c => ?_) (Cert.ReferencePrepFIdeal.Value.run m' g')
    obtain ⟨h0, hargs⟩ := h c
    obtain ⟨a0, a1⟩ := hagree c
    have e0 := h0.trans (Cert.ReferencePrepFIdeal.Read.val_main_v100_eq _ _)
    rw [a0, a1] at e0
    exact ⟨e0, hargs⟩

end Cert.KernelPrepFIdeal.Claims

end
-- ==== Proof.QF.lean ====
/- The queries of the attention, normed and rotated, forward. -/
module

public import proofs.«01_k».proof.Defs
public import proofs.«01_k».proof.Proof.Gen.KernelQF.Frame
public import proofs.«01_k».proof.Proof.Gen.KernelQFIdeal.Value
public import proofs.«01_k».proof.Proof.Gen.ReferenceQFIdeal.Run
public import proofs.«01_k».proof.Proof.Gen.ReferenceQFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384
set_option maxHeartbeats 2000000

noncomputable section

namespace Cert.KernelQFIdeal.Claims

open Cert.KernelQFIdeal Cert.KernelQFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0] :=
  (by decide +kernel : ∀ t : Fin grid0.N, _)

/-- The block the kernel leaves at a point. -/
def out (t : Fin cfg0.N) : S256x1024.Idx → Ideal .f32 := k0_pay1 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay13 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay12 (iblk m c 0 t))) (k0_pay14 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay5 (iblk m c 0 t))) (k0_pay15 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay6 (iblk m c 0 t))) (k0_pay17 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay16 (k0_pay7 (iblk m c 0 t)))) (k0_pay18 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay8 (iblk m c 0 t))) (k0_pay19 (iblk m c 1 t) (k0_pay21 (iblk m c 0 t) (iblk m c 1 t) (iblk m c 2 t) (iblk m c 3 t) (iblk m c 4 t)) (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t)) (k0_pay9 (iblk m c 0 t))) (k0_pay20 (k0_pay10 (iblk m c 0 t)))

/-- The lane a lane is rotated with. -/
def partner (l : Fin 128) : Fin 128 := if h : l.val % 64 < 32 then ⟨l.val + 32, by omega⟩ else ⟨l.val - 32, by omega⟩

/-- A sum against the indicator of one index. -/
theorem sum_indicator (f p : Fin 128 → EReal) (i : Fin 128) (hp : ∀ k, p k = if k = i then 1 else 0) : ∑ k, f k * p k = f i := by
  simp only [hp, mul_ite, mul_one, mul_zero, Finset.sum_ite_eq', Finset.mem_univ, if_true]

/-- The bits of the two lane numbers agree exactly at the partner. -/
theorem partner_bits : ∀ k l : Fin 128, IntOp.cmpi CmpIPredicate.eq (BitVec.ofNat 32 k.val) (IntOp.xori (BitVec.ofNat 32 l.val) 32#32)
    = if k = partner l then 1#1 else 0#1 := by decide +kernel

/-- The matrix that swaps the lanes. -/
theorem perm_at (t : Fin cfg0.N) (k l : Fin 128) : @Eq EReal (iblk m c 4 t (ix2 k l)) (if k = partner l then 1 else 0) := by
  have e : ((win0_4.blk t).view.emb (ix2 k l)) = (ix2 k l : S128x128.Idx) := by blk_ext [idx t]
  show @Eq EReal (V m c main_v17 ((win0_4.blk t).view.emb (ix2 k l))) _
  rw [e]
  entry_read
  pointwise
  rw [partner_bits k l]
  split
  · exact (congrArg (fun n : ℝ => (n : EReal)) Nat.cast_one).trans rfl
  · exact (congrArg (fun n : ℝ => (n : EReal)) Nat.cast_zero).trans rfl

/-- The rows the call reads. -/
theorem a_at (t : Fin cfg0.N) (r : Fin 256) (l : Fin 1024) : @Eq EReal (iblk m c 0 t (ix2 r l)) (m ((c.tc : Thread nD τ).loc main_arg0) (ix2 ⟨t.val * 256 + r.val, by have := t.isLt; change t.val < 8 at this; omega⟩ l)) := by
  blk_point [iblk, V, idx t]

/-- The norm's weight. -/
theorem w_at (t : Fin cfg0.N) (l : Fin 128) : @Eq EReal (iblk m c 1 t (ix2 0 l)) (m ((c.tc : Thread nD τ).loc main_arg1) (ix2 0 l)) := by
  blk_point [iblk, V, idx t]

/-- The table of the cosines, at the lower lanes of a pair. -/
theorem cos_lo (t : Fin cfg0.N) (r : Fin 256) (g : Fin 2) (j : Fin 32) : @Eq EReal (iblk m c 2 t (ix2 r ⟨g.val * 64 + j.val, by omega⟩))
    (m ((c.tc : Thread nD τ).loc main_arg2) (ix3 ⟨t.val * 256 + r.val, by have := t.isLt; change t.val < 8 at this; omega⟩ g j)) := by
  have e : ((win0_2.blk t).view.emb (ix2 r ⟨g.val * 64 + j.val, by omega⟩)) = (ix2 ⟨t.val * 256 + r.val, by have := t.isLt; change t.val < 8 at this; omega⟩ ⟨g.val * 64 + j.val, by omega⟩ : S2048x128.Idx) := by blk_ext [idx t]
  show @Eq EReal (V m c main_v8 ((win0_2.blk t).view.emb (ix2 r ⟨g.val * 64 + j.val, by omega⟩))) _
  rw [e]
  refine (congrFun (show V m c main_v8 = concatenate S2048x128 1 [⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩] concatenates_S2048x32_S2048x32_S2048x32_S2048x32_S2048x128_d1 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the cosines, at the upper lanes of a pair. -/
theorem cos_hi (t : Fin cfg0.N) (r : Fin 256) (g : Fin 2) (j : Fin 32) : @Eq EReal (iblk m c 2 t (ix2 r ⟨g.val * 64 + 32 + j.val, by omega⟩))
    (m ((c.tc : Thread nD τ).loc main_arg2) (ix3 ⟨t.val * 256 + r.val, by have := t.isLt; change t.val < 8 at this; omega⟩ g j)) := by
  have e : ((win0_2.blk t).view.emb (ix2 r ⟨g.val * 64 + 32 + j.val, by omega⟩)) = (ix2 ⟨t.val * 256 + r.val, by have := t.isLt; change t.val < 8 at this; omega⟩ ⟨g.val * 64 + 32 + j.val, by omega⟩ : S2048x128.Idx) := by blk_ext [idx t]
  show @Eq EReal (V m c main_v8 ((win0_2.blk t).view.emb (ix2 r ⟨g.val * 64 + 32 + j.val, by omega⟩))) _
  rw [e]
  refine (congrFun (show V m c main_v8 = concatenate S2048x128 1 [⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩] concatenates_S2048x32_S2048x32_S2048x32_S2048x32_S2048x128_d1 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the sines, at the lower lanes of a pair. -/
theorem sin_lo (t : Fin cfg0.N) (r : Fin 256) (g : Fin 2) (j : Fin 32) : @Eq EReal (iblk m c 3 t (ix2 r ⟨g.val * 64 + j.val, by omega⟩))
    (-(show EReal from m ((c.tc : Thread nD τ).loc main_arg3) (ix3 ⟨t.val * 256 + r.val, by have := t.isLt; change t.val < 8 at this; omega⟩ g j))) := by
  have e : ((win0_3.blk t).view.emb (ix2 r ⟨g.val * 64 + j.val, by omega⟩)) = (ix2 ⟨t.val * 256 + r.val, by have := t.isLt; change t.val < 8 at this; omega⟩ ⟨g.val * 64 + j.val, by omega⟩ : S2048x128.Idx) := by blk_ext [idx t]
  show @Eq EReal (V m c main_v11 ((win0_3.blk t).view.emb (ix2 r ⟨g.val * 64 + j.val, by omega⟩))) _
  rw [e]
  refine (congrFun (show V m c main_v11 = concatenate S2048x128 1 [⟨S2048x32, (Host.negf (F := Ideal) (φ := .f32) (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32))⟩, ⟨S2048x32, (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32)⟩, ⟨S2048x32, (Host.negf (F := Ideal) (φ := .f32) (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32))⟩, ⟨S2048x32, (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32)⟩] concatenates_S2048x32_S2048x32_S2048x32_S2048x32_S2048x128_d1 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the sines, at the upper lanes of a pair. -/
theorem sin_hi (t : Fin cfg0.N) (r : Fin 256) (g : Fin 2) (j : Fin 32) : @Eq EReal (iblk m c 3 t (ix2 r ⟨g.val * 64 + 32 + j.val, by omega⟩))
    (m ((c.tc : Thread nD τ).loc main_arg3) (ix3 ⟨t.val * 256 + r.val, by have := t.isLt; change t.val < 8 at this; omega⟩ g j)) := by
  have e : ((win0_3.blk t).view.emb (ix2 r ⟨g.val * 64 + 32 + j.val, by omega⟩)) = (ix2 ⟨t.val * 256 + r.val, by have := t.isLt; change t.val < 8 at this; omega⟩ ⟨g.val * 64 + 32 + j.val, by omega⟩ : S2048x128.Idx) := by blk_ext [idx t]
  show @Eq EReal (V m c main_v11 ((win0_3.blk t).view.emb (ix2 r ⟨g.val * 64 + 32 + j.val, by omega⟩))) _
  rw [e]
  refine (congrFun (show V m c main_v11 = concatenate S2048x128 1 [⟨S2048x32, (Host.negf (F := Ideal) (φ := .f32) (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32))⟩, ⟨S2048x32, (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32)⟩, ⟨S2048x32, (Host.negf (F := Ideal) (φ := .f32) (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32))⟩, ⟨S2048x32, (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32)⟩] concatenates_S2048x32_S2048x32_S2048x32_S2048x32_S2048x128_d1 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- One head of the kernel's result. -/
theorem head_at (t : Fin cfg0.N) (r : Fin 256) (hd : Fin 8) (l : Fin 128) : @Eq EReal (out m c t (ix2 r ⟨hd.val * 128 + l.val, by omega⟩))
    (Cert.ReferenceQFIdeal.Read.val_main_v13 (m ((c.tc : Thread nD τ).loc main_arg0)) (m ((c.tc : Thread nD τ).loc main_arg1)) (ix3 ⟨t.val * 256 + r.val, by have := t.isLt; change t.val < 8 at this; omega⟩ hd l) * (iblk m c 2 t) (ix2 r l) + Cert.ReferenceQFIdeal.Read.val_main_v13 (m ((c.tc : Thread nD τ).loc main_arg0)) (m ((c.tc : Thread nD τ).loc main_arg1)) (ix3 ⟨t.val * 256 + r.val, by have := t.isLt; change t.val < 8 at this; omega⟩ hd (partner l)) * (iblk m c 3 t) (ix2 r l)) := by
  have dot : ∀ f : Fin 128 → EReal, ∑ k : Fin 128, f k * iblk m c 4 t (ix2 k l) = f (partner l) := fun f =>
    sum_indicator f _ _ fun k => perm_at m c t k l
  have ht : t.val < 8 := t.isLt
  have hl := l.isLt
  fin_cases hd
  all_goals
    pointwise [out, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, Cert.ReferenceQFIdeal.Read.val_main_v13, Cert.ReferenceQFIdeal.Read.val_main_v10, Cert.ReferenceQFIdeal.Read.val_main_v12, Cert.ReferenceQFIdeal.Read.val_main_v0, Cert.ReferenceQFIdeal.Read.val_main_v9, Cert.ReferenceQFIdeal.Read.val_main_v11, Cert.ReferenceQFIdeal.Read.val_main_v8, Cert.ReferenceQFIdeal.Read.val_main_v7, Cert.ReferenceQFIdeal.Read.val_main_v5, Cert.ReferenceQFIdeal.Read.val_main_v6, Cert.ReferenceQFIdeal.Read.val_main_v3, Cert.ReferenceQFIdeal.Read.val_main_v4, Cert.ReferenceQFIdeal.Read.val_main_cst_1, Cert.ReferenceQFIdeal.Read.val_main_v2, Cert.ReferenceQFIdeal.Read.val_main_cst_0, Cert.ReferenceQFIdeal.Read.val_main_v1, Cert.ReferenceQFIdeal.Read.val_main_cst]
    try simp (disch := omega) only [dif_pos, dif_neg]
    simp only [dot, a_at, w_at]
    try simp only [show 128 + l.val - 128 = l.val by omega, show 256 + l.val - 128 - 128 = l.val by omega,
      show 384 + l.val - 128 - 128 - 128 = l.val by omega, show 512 + l.val - 128 - 128 - 128 - 128 = l.val by omega,
      show 640 + l.val - 128 - 128 - 128 - 128 - 128 = l.val by omega, show 768 + l.val - 128 - 128 - 128 - 128 - 128 - 128 = l.val by omega,
      show 896 + l.val - 128 - 128 - 128 - 128 - 128 - 128 - 128 = l.val by omega, dot]

/-- The reference's result at the lower lanes of a pair. -/
theorem ref_lo (x0 : S2048x1024.Idx → Ideal .f32) (x1 : S1x128.Idx → Ideal .f32) (x2 x3 : S2048x2x32.Idx → Ideal .f32) (R : Fin 2048) (hd : Fin 8) (g : Fin 2) (j : Fin 32) :
    @Eq EReal (Cert.ReferenceQFIdeal.Read.val_main_v35 (F := Ideal) x0 x1 x2 x3 (ix2 R ⟨hd.val * 128 + (g.val * 64 + j.val), by omega⟩))
    (Cert.ReferenceQFIdeal.Read.val_main_v13 (F := Ideal) x0 x1 (ix3 R hd ⟨g.val * 64 + j.val, by omega⟩) * x2 (ix3 R g j)
      - Cert.ReferenceQFIdeal.Read.val_main_v13 (F := Ideal) x0 x1 (ix3 R hd ⟨g.val * 64 + 32 + j.val, by omega⟩) * x3 (ix3 R g j)) := by
  have hj := j.isLt
  have hg := g.isLt
  pointwise [Cert.ReferenceQFIdeal.Read.val_main_v35, Cert.ReferenceQFIdeal.Read.val_main_v34, Cert.ReferenceQFIdeal.Read.val_main_v33, Cert.ReferenceQFIdeal.Read.val_main_v31, Cert.ReferenceQFIdeal.Read.val_main_v32, Cert.ReferenceQFIdeal.Read.val_main_v25, Cert.ReferenceQFIdeal.Read.val_main_v30, Cert.ReferenceQFIdeal.Read.val_main_v22, Cert.ReferenceQFIdeal.Read.val_main_v24, Cert.ReferenceQFIdeal.Read.val_main_v27, Cert.ReferenceQFIdeal.Read.val_main_v29, Cert.ReferenceQFIdeal.Read.val_main_v16, Cert.ReferenceQFIdeal.Read.val_main_v21, Cert.ReferenceQFIdeal.Read.val_main_v18, Cert.ReferenceQFIdeal.Read.val_main_v23, Cert.ReferenceQFIdeal.Read.val_main_v26, Cert.ReferenceQFIdeal.Read.val_main_v28, Cert.ReferenceQFIdeal.Read.val_main_v15, Cert.ReferenceQFIdeal.Read.val_main_v19, Cert.ReferenceQFIdeal.Read.val_main_v17, Cert.ReferenceQFIdeal.Read.val_main_v20, Cert.ReferenceQFIdeal.Read.val_main_v14]
  exact dif_pos (by omega)

/-- The reference's result at the upper lanes of a pair. -/
theorem ref_hi (x0 : S2048x1024.Idx → Ideal .f32) (x1 : S1x128.Idx → Ideal .f32) (x2 x3 : S2048x2x32.Idx → Ideal .f32) (R : Fin 2048) (hd : Fin 8) (g : Fin 2) (j : Fin 32) :
    @Eq EReal (Cert.ReferenceQFIdeal.Read.val_main_v35 (F := Ideal) x0 x1 x2 x3 (ix2 R ⟨hd.val * 128 + (g.val * 64 + 32 + j.val), by omega⟩))
    (Cert.ReferenceQFIdeal.Read.val_main_v13 (F := Ideal) x0 x1 (ix3 R hd ⟨g.val * 64 + 32 + j.val, by omega⟩) * x2 (ix3 R g j)
      + Cert.ReferenceQFIdeal.Read.val_main_v13 (F := Ideal) x0 x1 (ix3 R hd ⟨g.val * 64 + j.val, by omega⟩) * x3 (ix3 R g j)) := by
  have hj := j.isLt
  have hg := g.isLt
  pointwise [Cert.ReferenceQFIdeal.Read.val_main_v35, Cert.ReferenceQFIdeal.Read.val_main_v34, Cert.ReferenceQFIdeal.Read.val_main_v33, Cert.ReferenceQFIdeal.Read.val_main_v31, Cert.ReferenceQFIdeal.Read.val_main_v32, Cert.ReferenceQFIdeal.Read.val_main_v25, Cert.ReferenceQFIdeal.Read.val_main_v30, Cert.ReferenceQFIdeal.Read.val_main_v22, Cert.ReferenceQFIdeal.Read.val_main_v24, Cert.ReferenceQFIdeal.Read.val_main_v27, Cert.ReferenceQFIdeal.Read.val_main_v29, Cert.ReferenceQFIdeal.Read.val_main_v16, Cert.ReferenceQFIdeal.Read.val_main_v21, Cert.ReferenceQFIdeal.Read.val_main_v18, Cert.ReferenceQFIdeal.Read.val_main_v23, Cert.ReferenceQFIdeal.Read.val_main_v26, Cert.ReferenceQFIdeal.Read.val_main_v28, Cert.ReferenceQFIdeal.Read.val_main_v15, Cert.ReferenceQFIdeal.Read.val_main_v19, Cert.ReferenceQFIdeal.Read.val_main_v17, Cert.ReferenceQFIdeal.Read.val_main_v20, Cert.ReferenceQFIdeal.Read.val_main_v14]
  exact dif_neg (by omega)

/-- The result at the lower lanes of a pair. -/
theorem out_lo (t : Fin cfg0.N) (r : Fin 256) (hd : Fin 8) (g : Fin 2) (j : Fin 32) : @Eq EReal (out m c t (ix2 r ⟨hd.val * 128 + (g.val * 64 + j.val), by omega⟩))
    (Cert.ReferenceQFIdeal.Read.val_main_v35 (m ((c.tc : Thread nD τ).loc main_arg0)) (m ((c.tc : Thread nD τ).loc main_arg1)) (m ((c.tc : Thread nD τ).loc main_arg2)) (m ((c.tc : Thread nD τ).loc main_arg3)) (ix2 ⟨t.val * 256 + r.val, by have := t.isLt; change t.val < 8 at this; omega⟩ ⟨hd.val * 128 + (g.val * 64 + j.val), by omega⟩)) := by
  refine (head_at m c t r hd ⟨g.val * 64 + j.val, by omega⟩).trans ?_
  have p : partner ⟨g.val * 64 + j.val, by omega⟩ = ⟨g.val * 64 + 32 + j.val, by omega⟩ := by
    have hj := j.isLt
    exact (dif_pos (by show (g.val * 64 + j.val) % 64 < 32; omega)).trans (Fin.ext (by show g.val * 64 + j.val + 32 = g.val * 64 + 32 + j.val; omega))
  rw [p, cos_lo, sin_lo, mul_neg, ← sub_eq_add_neg]
  exact (ref_lo _ _ _ _ _ hd g j).symm

/-- The result at the upper lanes of a pair. -/
theorem out_hi (t : Fin cfg0.N) (r : Fin 256) (hd : Fin 8) (g : Fin 2) (j : Fin 32) : @Eq EReal (out m c t (ix2 r ⟨hd.val * 128 + (g.val * 64 + 32 + j.val), by omega⟩))
    (Cert.ReferenceQFIdeal.Read.val_main_v35 (m ((c.tc : Thread nD τ).loc main_arg0)) (m ((c.tc : Thread nD τ).loc main_arg1)) (m ((c.tc : Thread nD τ).loc main_arg2)) (m ((c.tc : Thread nD τ).loc main_arg3)) (ix2 ⟨t.val * 256 + r.val, by have := t.isLt; change t.val < 8 at this; omega⟩ ⟨hd.val * 128 + (g.val * 64 + 32 + j.val), by omega⟩)) := by
  refine (head_at m c t r hd ⟨g.val * 64 + 32 + j.val, by omega⟩).trans ?_
  have p : partner ⟨g.val * 64 + 32 + j.val, by omega⟩ = ⟨g.val * 64 + j.val, by omega⟩ := by
    have hj := j.isLt
    exact (dif_neg (by show ¬ (g.val * 64 + 32 + j.val) % 64 < 32; omega)).trans (Fin.ext (by show g.val * 64 + 32 + j.val - 32 = g.val * 64 + j.val; omega))
  rw [p, cos_hi, sin_hi]
  exact (ref_hi _ _ _ _ _ hd g j).symm

/-- The result everywhere. -/
theorem out_at (t : Fin cfg0.N) (y : S256x1024.Idx) : @Eq EReal (out m c t y)
    (Cert.ReferenceQFIdeal.Read.val_main_v35 (m ((c.tc : Thread nD τ).loc main_arg0)) (m ((c.tc : Thread nD τ).loc main_arg1)) (m ((c.tc : Thread nD τ).loc main_arg2)) (m ((c.tc : Thread nD τ).loc main_arg3)) (ix2 ⟨t.val * 256 + (y 0).val, by have h := (y 0).isLt; change (y 0).val < 256 at h; have := t.isLt; change t.val < 8 at this; omega⟩ ⟨(y 1).val, (y 1).isLt⟩)) := by
  have h0 := (y 0).isLt
  change (y 0).val < 256 at h0
  have h1 := (y 1).isLt
  change (y 1).val < 1024 at h1
  rw [show y = ix2 ⟨(y 0).val, h0⟩ ⟨(y 1).val, h1⟩ from by funext a; fin_cases a <;> rfl]
  generalize (y 0).val = r at h0
  generalize (y 1).val = q at h1
  by_cases h : q % 64 < 32
  · have o := out_lo m c t ⟨r, h0⟩ ⟨q / 128, by omega⟩ ⟨q % 128 / 64, by omega⟩ ⟨q % 32, by omega⟩
    simp only [show q / 128 * 128 + (q % 128 / 64 * 64 + q % 32) = q by omega] at o
    exact o
  · have o := out_hi m c t ⟨r, h0⟩ ⟨q / 128, by omega⟩ ⟨q % 128 / 64, by omega⟩ ⟨q % 32, by omega⟩
    simp only [show q / 128 * 128 + (q % 128 / 64 * 64 + 32 + q % 32) = q by omega] at o
    exact o

/-- The kernel leaves the array the reference leaves. -/
theorem final0 : (dats m 0 c).arrAt 5 cfg0.N = Cert.ReferenceQFIdeal.Read.val_main_v35 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  exact (out_at m c t y).trans (congrArg _ (Eq.symm (by blk_ext [idx t])))

end Cert.KernelQFIdeal.Claims

namespace Cert.ReferenceQFIdeal.Frame

open Cert.ReferenceQFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2, sem_eq_zero_of_no_sems (by decide) r.2⟩) (Value.run m g)

end Cert.ReferenceQFIdeal.Frame

namespace Cert.KernelQFIdeal.Claims

open Idealize.ShloMosaic Idealize.SL.Sem

/-- The kernel and the reference leave the same arrays. -/
theorem algebraic : Cert.algebraic_KernelQFIdeal_ReferenceQFIdeal
    (hKernelQFIdeal := Cert.KernelQFIdeal.Gen.facts) (hReferenceQFIdeal := Cert.ReferenceQFIdeal.Gen.facts) := by
  intro m g m' g' _ hagree
  refine ⟨fun c => Cert.ReferenceQFIdeal.Read.val_main_v35 (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.KernelQFIdeal.Value.run_blocks m g)
    obtain ⟨h0, hargs⟩ := h c
    exact ⟨h0.trans (final0 m c), hargs⟩
  · refine (θ_run _ _ _).mono (fun r h c => ?_) (Cert.ReferenceQFIdeal.Value.run m' g')
    obtain ⟨h0, hargs⟩ := h c
    obtain ⟨a0, a1, a2, a3⟩ := hagree c
    have e0 := h0.trans (Cert.ReferenceQFIdeal.Read.val_main_v35_eq _ _)
    rw [a0, a1, a2, a3] at e0
    exact ⟨e0, hargs⟩

end Cert.KernelQFIdeal.Claims

end
-- ==== Proof.KF.lean ====
/- The keys of the attention, normed and rotated, forward. -/
module

public import proofs.«01_k».proof.Defs
public import proofs.«01_k».proof.Proof.Gen.KernelKF.Frame
public import proofs.«01_k».proof.Proof.Gen.KernelKFIdeal.Value
public import proofs.«01_k».proof.Proof.Gen.ReferenceKFIdeal.Run
public import proofs.«01_k».proof.Proof.Gen.ReferenceKFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384
set_option maxHeartbeats 2000000

noncomputable section

namespace Cert.KernelKFIdeal.Claims

open Cert.KernelKFIdeal Cert.KernelKFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0] :=
  (by decide +kernel : ∀ t : Fin grid0.N, _)

/-- The block the kernel leaves at a point. -/
def out (t : Fin cfg0.N) : S256x256.Idx → Ideal .f32 := k0_pay1 (k0_pay5 (iblk m c 0 t) (iblk m c 1 t) (iblk m c 2 t) (iblk m c 3 t) (iblk m c 4 t)) (k0_pay7 (iblk m c 0 t) (iblk m c 1 t) (iblk m c 2 t)) (k0_pay8 (iblk m c 0 t) (iblk m c 1 t) (iblk m c 3 t) (iblk m c 4 t))

/-- The lane a lane is rotated with. -/
def partner (l : Fin 128) : Fin 128 := if h : l.val % 64 < 32 then ⟨l.val + 32, by omega⟩ else ⟨l.val - 32, by omega⟩

/-- A sum against the indicator of one index. -/
theorem sum_indicator (f p : Fin 128 → EReal) (i : Fin 128) (hp : ∀ k, p k = if k = i then 1 else 0) : ∑ k, f k * p k = f i := by
  simp only [hp, mul_ite, mul_one, mul_zero, Finset.sum_ite_eq', Finset.mem_univ, if_true]

/-- The bits of the two lane numbers agree exactly at the partner. -/
theorem partner_bits : ∀ k l : Fin 128, IntOp.cmpi CmpIPredicate.eq (BitVec.ofNat 32 k.val) (IntOp.xori (BitVec.ofNat 32 l.val) 32#32)
    = if k = partner l then 1#1 else 0#1 := by decide +kernel

/-- The matrix that swaps the lanes. -/
theorem perm_at (t : Fin cfg0.N) (k l : Fin 128) : @Eq EReal (iblk m c 4 t (ix2 k l)) (if k = partner l then 1 else 0) := by
  have e : ((win0_4.blk t).view.emb (ix2 k l)) = (ix2 k l : S128x128.Idx) := by blk_ext [idx t]
  show @Eq EReal (V m c main_v21 ((win0_4.blk t).view.emb (ix2 k l))) _
  rw [e]
  entry_read
  pointwise
  rw [partner_bits k l]
  split
  · exact (congrArg (fun n : ℝ => (n : EReal)) Nat.cast_one).trans rfl
  · exact (congrArg (fun n : ℝ => (n : EReal)) Nat.cast_zero).trans rfl

/-- The rows the call reads. -/
theorem a_at (t : Fin cfg0.N) (r : Fin 256) (l : Fin 256) : @Eq EReal (iblk m c 0 t (ix2 r l)) (m ((c.tc : Thread nD τ).loc main_arg0) (ix2 ⟨t.val * 256 + r.val, by have := t.isLt; change t.val < 9 at this; omega⟩ l)) := by
  blk_point [iblk, V, idx t]

/-- The norm's weight. -/
theorem w_at (t : Fin cfg0.N) (l : Fin 128) : @Eq EReal (iblk m c 1 t (ix2 0 l)) (m ((c.tc : Thread nD τ).loc main_arg1) (ix2 0 l)) := by
  blk_point [iblk, V, idx t]

/-- A key's normed entry. -/
def normed (x0 : S2304x256.Idx → Ideal .f32) (x1 : S1x128.Idx → Ideal .f32) (i : Fin 2304) (hd : Fin 2) (l : Fin 128) : EReal :=
  x0 (ix2 i ⟨hd.val * 128 + l.val, by omega⟩) * Ideal.rsqrt (Ideal.div (∑ x : Fin 128, x0 (ix2 i ⟨hd.val * 128 + x.val, by omega⟩) * x0 (ix2 i ⟨hd.val * 128 + x.val, by omega⟩))
    (Ideal.ofBits .f32 0x43000000#32) + Ideal.ofBits .f32 0x358637BD#32) * x1 (ix2 0 l)

/-- The table of the cosines, at the context's rows. -/
theorem cos_ctx (t : Fin cfg0.N) (h0 : t.val = 0) (r : Fin 256) (l : Fin 128) : @Eq EReal (iblk m c 2 t (ix2 r l)) 1 := by
  have e : ((win0_2.blk t).view.emb (ix2 r l)) = (ix2 ⟨r.val, by omega⟩ l : S2304x128.Idx) := by blk_ext [idx t]
  show @Eq EReal (V m c main_v13 ((win0_2.blk t).view.emb (ix2 r l))) _
  rw [e]
  refine (congrFun (show V m c main_v13 = concatenate S2304x128 0 [⟨S256x128, (broadcastInDim S256x128 ![] bcast_S_S256x128 (constant (F := Ideal) S_ .f32 0x3F800000#32) : S256x128.Idx → Ideal .f32)⟩, ⟨S2048x128, concatenate S2048x128 1 [⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  pointwise

/-- The table of the cosines, at the lower lanes of a pair. -/
theorem cos_lo (t : Fin cfg0.N) (r : Fin 256) (i : Fin 2048) (hi : t.val * 256 + r.val = 256 + i.val) (g : Fin 2) (j : Fin 32) :
    @Eq EReal (iblk m c 2 t (ix2 r ⟨g.val * 64 + j.val, by omega⟩)) (m ((c.tc : Thread nD τ).loc main_arg2) (ix3 i g j)) := by
  have e : ((win0_2.blk t).view.emb (ix2 r ⟨g.val * 64 + j.val, by omega⟩)) = (ix2 ⟨256 + i.val, by omega⟩ ⟨g.val * 64 + j.val, by omega⟩ : S2304x128.Idx) := by blk_ext [idx t]
  show @Eq EReal (V m c main_v13 ((win0_2.blk t).view.emb (ix2 r ⟨g.val * 64 + j.val, by omega⟩))) _
  rw [e]
  refine (congrFun (show V m c main_v13 = concatenate S2304x128 0 [⟨S256x128, (broadcastInDim S256x128 ![] bcast_S_S256x128 (constant (F := Ideal) S_ .f32 0x3F800000#32) : S256x128.Idx → Ideal .f32)⟩, ⟨S2048x128, concatenate S2048x128 1 [⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the cosines, at the upper lanes of a pair. -/
theorem cos_hi (t : Fin cfg0.N) (r : Fin 256) (i : Fin 2048) (hi : t.val * 256 + r.val = 256 + i.val) (g : Fin 2) (j : Fin 32) :
    @Eq EReal (iblk m c 2 t (ix2 r ⟨g.val * 64 + 32 + j.val, by omega⟩)) (m ((c.tc : Thread nD τ).loc main_arg2) (ix3 i g j)) := by
  have e : ((win0_2.blk t).view.emb (ix2 r ⟨g.val * 64 + 32 + j.val, by omega⟩)) = (ix2 ⟨256 + i.val, by omega⟩ ⟨g.val * 64 + 32 + j.val, by omega⟩ : S2304x128.Idx) := by blk_ext [idx t]
  show @Eq EReal (V m c main_v13 ((win0_2.blk t).view.emb (ix2 r ⟨g.val * 64 + 32 + j.val, by omega⟩))) _
  rw [e]
  refine (congrFun (show V m c main_v13 = concatenate S2304x128 0 [⟨S256x128, (broadcastInDim S256x128 ![] bcast_S_S256x128 (constant (F := Ideal) S_ .f32 0x3F800000#32) : S256x128.Idx → Ideal .f32)⟩, ⟨S2048x128, concatenate S2048x128 1 [⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 0, 0] (m ((c.tc : Thread nD τ).loc main_arg2)) slices_S2048x2x32_S2048x1x32_0_0_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩, ⟨S2048x32, (shapeCast S2048x32 (extractStridedSlice S2048x1x32 ![0, 1, 0] (m ((c.tc : Thread nD τ).loc main_arg2)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the sines, at the context's rows. -/
theorem sin_ctx (t : Fin cfg0.N) (h0 : t.val = 0) (r : Fin 256) (l : Fin 128) : @Eq EReal (iblk m c 3 t (ix2 r l)) 0 := by
  have e : ((win0_3.blk t).view.emb (ix2 r l)) = (ix2 ⟨r.val, by omega⟩ l : S2304x128.Idx) := by blk_ext [idx t]
  show @Eq EReal (V m c main_v15 ((win0_3.blk t).view.emb (ix2 r l))) _
  rw [e]
  refine (congrFun (show V m c main_v15 = concatenate S2304x128 0 [⟨S256x128, (broadcastInDim S256x128 ![] bcast_S_S256x128 (constant (F := Ideal) S_ .f32 0x00000000#32) : S256x128.Idx → Ideal .f32)⟩, ⟨S2048x128, concatenate S2048x128 1 [⟨S2048x32, (Host.negf (F := Ideal) (φ := .f32) (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32))⟩, ⟨S2048x32, (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32)⟩, ⟨S2048x32, (Host.negf (F := Ideal) (φ := .f32) (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32))⟩, ⟨S2048x32, (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  pointwise

/-- The table of the sines, at the lower lanes of a pair. -/
theorem sin_lo (t : Fin cfg0.N) (r : Fin 256) (i : Fin 2048) (hi : t.val * 256 + r.val = 256 + i.val) (g : Fin 2) (j : Fin 32) :
    @Eq EReal (iblk m c 3 t (ix2 r ⟨g.val * 64 + j.val, by omega⟩)) (-(show EReal from m ((c.tc : Thread nD τ).loc main_arg3) (ix3 i g j))) := by
  have e : ((win0_3.blk t).view.emb (ix2 r ⟨g.val * 64 + j.val, by omega⟩)) = (ix2 ⟨256 + i.val, by omega⟩ ⟨g.val * 64 + j.val, by omega⟩ : S2304x128.Idx) := by blk_ext [idx t]
  show @Eq EReal (V m c main_v15 ((win0_3.blk t).view.emb (ix2 r ⟨g.val * 64 + j.val, by omega⟩))) _
  rw [e]
  refine (congrFun (show V m c main_v15 = concatenate S2304x128 0 [⟨S256x128, (broadcastInDim S256x128 ![] bcast_S_S256x128 (constant (F := Ideal) S_ .f32 0x00000000#32) : S256x128.Idx → Ideal .f32)⟩, ⟨S2048x128, concatenate S2048x128 1 [⟨S2048x32, (Host.negf (F := Ideal) (φ := .f32) (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32))⟩, ⟨S2048x32, (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32)⟩, ⟨S2048x32, (Host.negf (F := Ideal) (φ := .f32) (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32))⟩, ⟨S2048x32, (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- The table of the sines, at the upper lanes of a pair. -/
theorem sin_hi (t : Fin cfg0.N) (r : Fin 256) (i : Fin 2048) (hi : t.val * 256 + r.val = 256 + i.val) (g : Fin 2) (j : Fin 32) :
    @Eq EReal (iblk m c 3 t (ix2 r ⟨g.val * 64 + 32 + j.val, by omega⟩)) (m ((c.tc : Thread nD τ).loc main_arg3) (ix3 i g j)) := by
  have e : ((win0_3.blk t).view.emb (ix2 r ⟨g.val * 64 + 32 + j.val, by omega⟩)) = (ix2 ⟨256 + i.val, by omega⟩ ⟨g.val * 64 + 32 + j.val, by omega⟩ : S2304x128.Idx) := by blk_ext [idx t]
  show @Eq EReal (V m c main_v15 ((win0_3.blk t).view.emb (ix2 r ⟨g.val * 64 + 32 + j.val, by omega⟩))) _
  rw [e]
  refine (congrFun (show V m c main_v15 = concatenate S2304x128 0 [⟨S256x128, (broadcastInDim S256x128 ![] bcast_S_S256x128 (constant (F := Ideal) S_ .f32 0x00000000#32) : S256x128.Idx → Ideal .f32)⟩, ⟨S2048x128, concatenate S2048x128 1 [⟨S2048x32, (Host.negf (F := Ideal) (φ := .f32) (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32))⟩, ⟨S2048x32, (shapeCast S2048x32 (extractStridedSlice S2048x1x32 ![0, 0, 0] (m ((c.tc : Thread nD τ).loc main_arg3)) slices_S2048x2x32_S2048x1x32_0_0_0) shapeCasts_S2048x1x32_S2048x32 : S2048x32.Idx → Ideal .f32)⟩, ⟨S2048x32, (Host.negf (F := Ideal) (φ := .f32) (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32))⟩, ⟨S2048x32, (shapeCast S2048x32 (extractStridedSlice S2048x1x32 ![0, 1, 0] (m ((c.tc : Thread nD τ).loc main_arg3)) slices_S2048x2x32_S2048x1x32_0_1_0) shapeCasts_S2048x1x32_S2048x32 : S2048x32.Idx → Ideal .f32)⟩] concatenates_S2048x32_S2048x32_S2048x32_S2048x32_S2048x128_d1⟩] concatenates_S256x128_S2048x128_S2304x128_d0 from rfl) _).trans ?_
  have hj := j.isLt
  fin_cases g <;> (pointwise; try simp (disch := omega) only [dif_pos, dif_neg]; try simp only [show 64 + j.val - 32 - 32 = j.val by omega, show 96 + j.val - 32 - 32 - 32 = j.val by omega]; try rfl)

/-- One head of the kernel's result. -/
theorem head_at (t : Fin cfg0.N) (r : Fin 256) (hd : Fin 2) (l : Fin 128) : @Eq EReal (out m c t (ix2 r ⟨hd.val * 128 + l.val, by omega⟩))
    (normed (m ((c.tc : Thread nD τ).loc main_arg0)) (m ((c.tc : Thread nD τ).loc main_arg1)) ⟨t.val * 256 + r.val, by have := t.isLt; change t.val < 9 at this; omega⟩ hd l * (iblk m c 2 t) (ix2 r l) + normed (m ((c.tc : Thread nD τ).loc main_arg0)) (m ((c.tc : Thread nD τ).loc main_arg1)) ⟨t.val * 256 + r.val, by have := t.isLt; change t.val < 9 at this; omega⟩ hd (partner l) * (iblk m c 3 t) (ix2 r l)) := by
  have dot : ∀ f : Fin 128 → EReal, ∑ k : Fin 128, f k * iblk m c 4 t (ix2 k l) = f (partner l) := fun f =>
    sum_indicator f _ _ fun k => perm_at m c t k l
  have ht : t.val < 9 := t.isLt
  have hl := l.isLt
  fin_cases hd
  all_goals
    pointwise [out, k0_pay1, k0_pay2, k0_pay3, k0_pay4, k0_pay5, k0_pay6, k0_pay7, k0_pay8, normed]
    try simp (disch := omega) only [dif_pos, dif_neg]
    simp only [dot, a_at, w_at]
    try simp only [show 128 + l.val - 128 = l.val by omega, dot]

/-- The reference's result at the context's rows. -/
theorem ref_ctx (x0 : S2304x256.Idx → Ideal .f32) (x1 : S1x128.Idx → Ideal .f32) (x2 x3 : S2048x2x32.Idx → Ideal .f32) (i : Fin 256) (hd : Fin 2) (l : Fin 128) :
    @Eq EReal (Cert.ReferenceKFIdeal.Read.val_main_v52 (F := Ideal) x0 x1 x2 x3 (ix2 ⟨i.val, by omega⟩ ⟨hd.val * 128 + l.val, by omega⟩)) (normed x0 x1 ⟨i.val, by omega⟩ hd l) := by
  have hl := l.isLt
  have hi := i.isLt
  pointwise [normed, Cert.ReferenceKFIdeal.Read.val_main_v52, Cert.ReferenceKFIdeal.Read.val_main_v51, Cert.ReferenceKFIdeal.Read.val_main_v14, Cert.ReferenceKFIdeal.Read.val_main_v11, Cert.ReferenceKFIdeal.Read.val_main_v13, Cert.ReferenceKFIdeal.Read.val_main_v1, Cert.ReferenceKFIdeal.Read.val_main_v10, Cert.ReferenceKFIdeal.Read.val_main_v12, Cert.ReferenceKFIdeal.Read.val_main_v0, Cert.ReferenceKFIdeal.Read.val_main_v9, Cert.ReferenceKFIdeal.Read.val_main_v8, Cert.ReferenceKFIdeal.Read.val_main_v6, Cert.ReferenceKFIdeal.Read.val_main_v7, Cert.ReferenceKFIdeal.Read.val_main_v4, Cert.ReferenceKFIdeal.Read.val_main_v5, Cert.ReferenceKFIdeal.Read.val_main_cst_1, Cert.ReferenceKFIdeal.Read.val_main_v3, Cert.ReferenceKFIdeal.Read.val_main_cst_0, Cert.ReferenceKFIdeal.Read.val_main_v2, Cert.ReferenceKFIdeal.Read.val_main_cst]

/-- The reference's normed keys at the other rows. -/
theorem ref_normed (x0 : S2304x256.Idx → Ideal .f32) (x1 : S1x128.Idx → Ideal .f32) (i : Fin 2048) (hd : Fin 2) (l : Fin 128) :
    @Eq EReal (Cert.ReferenceKFIdeal.Read.val_main_v29 (F := Ideal) x0 x1 (ix3 i hd l)) (normed x0 x1 ⟨256 + i.val, by omega⟩ hd l) := by
  pointwise [normed, Cert.ReferenceKFIdeal.Read.val_main_v29, Cert.ReferenceKFIdeal.Read.val_main_v26, Cert.ReferenceKFIdeal.Read.val_main_v28, Cert.ReferenceKFIdeal.Read.val_main_v16, Cert.ReferenceKFIdeal.Read.val_main_v25, Cert.ReferenceKFIdeal.Read.val_main_v27, Cert.ReferenceKFIdeal.Read.val_main_v15, Cert.ReferenceKFIdeal.Read.val_main_v24, Cert.ReferenceKFIdeal.Read.val_main_v23, Cert.ReferenceKFIdeal.Read.val_main_v21, Cert.ReferenceKFIdeal.Read.val_main_v22, Cert.ReferenceKFIdeal.Read.val_main_v19, Cert.ReferenceKFIdeal.Read.val_main_v20, Cert.ReferenceKFIdeal.Read.val_main_cst_4, Cert.ReferenceKFIdeal.Read.val_main_v18, Cert.ReferenceKFIdeal.Read.val_main_cst_3, Cert.ReferenceKFIdeal.Read.val_main_v17, Cert.ReferenceKFIdeal.Read.val_main_cst_2]

/-- The reference's result at the lower lanes of a pair. -/
theorem ref_lo (x0 : S2304x256.Idx → Ideal .f32) (x1 : S1x128.Idx → Ideal .f32) (x2 x3 : S2048x2x32.Idx → Ideal .f32) (i : Fin 2048) (hd g : Fin 2) (j : Fin 32) :
    @Eq EReal (Cert.ReferenceKFIdeal.Read.val_main_v52 (F := Ideal) x0 x1 x2 x3 (ix2 ⟨256 + i.val, by omega⟩ ⟨hd.val * 128 + (g.val * 64 + j.val), by omega⟩))
    (normed x0 x1 ⟨256 + i.val, by omega⟩ hd ⟨g.val * 64 + j.val, by omega⟩ * x2 (ix3 i g j)
      - normed x0 x1 ⟨256 + i.val, by omega⟩ hd ⟨g.val * 64 + 32 + j.val, by omega⟩ * x3 (ix3 i g j)) := by
  have hj := j.isLt
  have hg := g.isLt
  simp only [← ref_normed]
  pointwise [Cert.ReferenceKFIdeal.Read.val_main_v52, Cert.ReferenceKFIdeal.Read.val_main_v51, Cert.ReferenceKFIdeal.Read.val_main_v50, Cert.ReferenceKFIdeal.Read.val_main_v49, Cert.ReferenceKFIdeal.Read.val_main_v47, Cert.ReferenceKFIdeal.Read.val_main_v48, Cert.ReferenceKFIdeal.Read.val_main_v41, Cert.ReferenceKFIdeal.Read.val_main_v46, Cert.ReferenceKFIdeal.Read.val_main_v38, Cert.ReferenceKFIdeal.Read.val_main_v40, Cert.ReferenceKFIdeal.Read.val_main_v43, Cert.ReferenceKFIdeal.Read.val_main_v45, Cert.ReferenceKFIdeal.Read.val_main_v32, Cert.ReferenceKFIdeal.Read.val_main_v37, Cert.ReferenceKFIdeal.Read.val_main_v34, Cert.ReferenceKFIdeal.Read.val_main_v39, Cert.ReferenceKFIdeal.Read.val_main_v42, Cert.ReferenceKFIdeal.Read.val_main_v44, Cert.ReferenceKFIdeal.Read.val_main_v31, Cert.ReferenceKFIdeal.Read.val_main_v35, Cert.ReferenceKFIdeal.Read.val_main_v33, Cert.ReferenceKFIdeal.Read.val_main_v36, Cert.ReferenceKFIdeal.Read.val_main_v30]
  exact dif_pos (by omega)

/-- The reference's result at the upper lanes of a pair. -/
theorem ref_hi (x0 : S2304x256.Idx → Ideal .f32) (x1 : S1x128.Idx → Ideal .f32) (x2 x3 : S2048x2x32.Idx → Ideal .f32) (i : Fin 2048) (hd g : Fin 2) (j : Fin 32) :
    @Eq EReal (Cert.ReferenceKFIdeal.Read.val_main_v52 (F := Ideal) x0 x1 x2 x3 (ix2 ⟨256 + i.val, by omega⟩ ⟨hd.val * 128 + (g.val * 64 + 32 + j.val), by omega⟩))
    (normed x0 x1 ⟨256 + i.val, by omega⟩ hd ⟨g.val * 64 + 32 + j.val, by omega⟩ * x2 (ix3 i g j)
      + normed x0 x1 ⟨256 + i.val, by omega⟩ hd ⟨g.val * 64 + j.val, by omega⟩ * x3 (ix3 i g j)) := by
  have hj := j.isLt
  have hg := g.isLt
  simp only [← ref_normed]
  pointwise [Cert.ReferenceKFIdeal.Read.val_main_v52, Cert.ReferenceKFIdeal.Read.val_main_v51, Cert.ReferenceKFIdeal.Read.val_main_v50, Cert.ReferenceKFIdeal.Read.val_main_v49, Cert.ReferenceKFIdeal.Read.val_main_v47, Cert.ReferenceKFIdeal.Read.val_main_v48, Cert.ReferenceKFIdeal.Read.val_main_v41, Cert.ReferenceKFIdeal.Read.val_main_v46, Cert.ReferenceKFIdeal.Read.val_main_v38, Cert.ReferenceKFIdeal.Read.val_main_v40, Cert.ReferenceKFIdeal.Read.val_main_v43, Cert.ReferenceKFIdeal.Read.val_main_v45, Cert.ReferenceKFIdeal.Read.val_main_v32, Cert.ReferenceKFIdeal.Read.val_main_v37, Cert.ReferenceKFIdeal.Read.val_main_v34, Cert.ReferenceKFIdeal.Read.val_main_v39, Cert.ReferenceKFIdeal.Read.val_main_v42, Cert.ReferenceKFIdeal.Read.val_main_v44, Cert.ReferenceKFIdeal.Read.val_main_v31, Cert.ReferenceKFIdeal.Read.val_main_v35, Cert.ReferenceKFIdeal.Read.val_main_v33, Cert.ReferenceKFIdeal.Read.val_main_v36, Cert.ReferenceKFIdeal.Read.val_main_v30]
  exact dif_neg (by omega)

/-- The result at the context's rows. -/
theorem out_ctx (t : Fin cfg0.N) (h0 : t.val = 0) (r : Fin 256) (hd : Fin 2) (l : Fin 128) : @Eq EReal (out m c t (ix2 r ⟨hd.val * 128 + l.val, by omega⟩))
    (Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)) (ix2 ⟨t.val * 256 + r.val, by have := t.isLt; change t.val < 9 at this; omega⟩ ⟨hd.val * 128 + l.val, by omega⟩)) := by
  refine (head_at m c t r hd l).trans ?_
  have e : (⟨t.val * 256 + r.val, by have := t.isLt; change t.val < 9 at this; omega⟩ : Fin 2304) = ⟨r.val, by omega⟩ := Fin.ext (by show t.val * 256 + r.val = r.val; omega)
  rw [cos_ctx m c t h0, sin_ctx m c t h0, mul_one, mul_zero, add_zero, e]
  exact (ref_ctx _ _ _ _ r hd l).symm

/-- The result at the lower lanes of a pair. -/
theorem out_lo (t : Fin cfg0.N) (r : Fin 256) (i : Fin 2048) (hi : t.val * 256 + r.val = 256 + i.val) (hd g : Fin 2) (j : Fin 32) :
    @Eq EReal (out m c t (ix2 r ⟨hd.val * 128 + (g.val * 64 + j.val), by omega⟩))
    (Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)) (ix2 ⟨t.val * 256 + r.val, by have := t.isLt; change t.val < 9 at this; omega⟩ ⟨hd.val * 128 + (g.val * 64 + j.val), by omega⟩)) := by
  refine (head_at m c t r hd ⟨g.val * 64 + j.val, by omega⟩).trans ?_
  have hj := j.isLt
  have p : partner ⟨g.val * 64 + j.val, by omega⟩ = ⟨g.val * 64 + 32 + j.val, by omega⟩ :=
    (dif_pos (by show (g.val * 64 + j.val) % 64 < 32; omega)).trans (Fin.ext (by show g.val * 64 + j.val + 32 = g.val * 64 + 32 + j.val; omega))
  have e : (⟨t.val * 256 + r.val, by have := t.isLt; change t.val < 9 at this; omega⟩ : Fin 2304) = ⟨256 + i.val, by omega⟩ := Fin.ext hi
  rw [p, cos_lo m c t r i hi, sin_lo m c t r i hi, e, mul_neg, ← sub_eq_add_neg]
  exact (ref_lo _ _ _ _ i hd g j).symm

/-- The result at the upper lanes of a pair. -/
theorem out_hi (t : Fin cfg0.N) (r : Fin 256) (i : Fin 2048) (hi : t.val * 256 + r.val = 256 + i.val) (hd g : Fin 2) (j : Fin 32) :
    @Eq EReal (out m c t (ix2 r ⟨hd.val * 128 + (g.val * 64 + 32 + j.val), by omega⟩))
    (Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)) (ix2 ⟨t.val * 256 + r.val, by have := t.isLt; change t.val < 9 at this; omega⟩ ⟨hd.val * 128 + (g.val * 64 + 32 + j.val), by omega⟩)) := by
  refine (head_at m c t r hd ⟨g.val * 64 + 32 + j.val, by omega⟩).trans ?_
  have hj := j.isLt
  have p : partner ⟨g.val * 64 + 32 + j.val, by omega⟩ = ⟨g.val * 64 + j.val, by omega⟩ :=
    (dif_neg (by show ¬ (g.val * 64 + 32 + j.val) % 64 < 32; omega)).trans (Fin.ext (by show g.val * 64 + 32 + j.val - 32 = g.val * 64 + j.val; omega))
  have e : (⟨t.val * 256 + r.val, by have := t.isLt; change t.val < 9 at this; omega⟩ : Fin 2304) = ⟨256 + i.val, by omega⟩ := Fin.ext hi
  rw [p, cos_hi m c t r i hi, sin_hi m c t r i hi, e]
  exact (ref_hi _ _ _ _ i hd g j).symm

/-- The result everywhere. -/
theorem out_at (t : Fin cfg0.N) (y : S256x256.Idx) : @Eq EReal (out m c t y)
    (Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)) (ix2 ⟨t.val * 256 + (y 0).val, by have h := (y 0).isLt; change (y 0).val < 256 at h; have := t.isLt; change t.val < 9 at this; omega⟩ ⟨(y 1).val, (y 1).isLt⟩)) := by
  have h0 := (y 0).isLt
  change (y 0).val < 256 at h0
  have h1 := (y 1).isLt
  change (y 1).val < 256 at h1
  have ht : t.val < 9 := t.isLt
  rw [show y = ix2 ⟨(y 0).val, h0⟩ ⟨(y 1).val, h1⟩ from by funext a; fin_cases a <;> rfl]
  generalize (y 0).val = r at h0
  generalize (y 1).val = q at h1
  by_cases h : t.val = 0
  · have o := out_ctx m c t h ⟨r, h0⟩ ⟨q / 128, by omega⟩ ⟨q % 128, by omega⟩
    simp only [show q / 128 * 128 + q % 128 = q by omega] at o
    exact o
  by_cases h : q % 64 < 32
  · have o := out_lo m c t ⟨r, h0⟩ ⟨t.val * 256 + r - 256, by omega⟩ (by show t.val * 256 + r = 256 + (t.val * 256 + r - 256); omega) ⟨q / 128, by omega⟩ ⟨q % 128 / 64, by omega⟩ ⟨q % 32, by omega⟩
    simp only [show q / 128 * 128 + (q % 128 / 64 * 64 + q % 32) = q by omega] at o
    exact o
  · have o := out_hi m c t ⟨r, h0⟩ ⟨t.val * 256 + r - 256, by omega⟩ (by show t.val * 256 + r = 256 + (t.val * 256 + r - 256); omega) ⟨q / 128, by omega⟩ ⟨q % 128 / 64, by omega⟩ ⟨q % 32, by omega⟩
    simp only [show q / 128 * 128 + (q % 128 / 64 * 64 + 32 + q % 32) = q by omega] at o
    exact o

/-- The kernel leaves the array the reference leaves. -/
theorem final0 : (dats m 0 c).arrAt 5 cfg0.N = Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  exact (out_at m c t y).trans (congrArg _ (Eq.symm (by blk_ext [idx t])))

end Cert.KernelKFIdeal.Claims

namespace Cert.ReferenceKFIdeal.Frame

open Cert.ReferenceKFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2, sem_eq_zero_of_no_sems (by decide) r.2⟩) (Value.run m g)

end Cert.ReferenceKFIdeal.Frame

namespace Cert.KernelKFIdeal.Claims

open Idealize.ShloMosaic Idealize.SL.Sem

/-- The kernel and the reference leave the same arrays. -/
theorem algebraic : Cert.algebraic_KernelKFIdeal_ReferenceKFIdeal
    (hKernelKFIdeal := Cert.KernelKFIdeal.Gen.facts) (hReferenceKFIdeal := Cert.ReferenceKFIdeal.Gen.facts) := by
  intro m g m' g' _ hagree
  refine ⟨fun c => Cert.ReferenceKFIdeal.Read.val_main_v52 (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.KernelKFIdeal.Value.run_blocks m g)
    obtain ⟨h0, hargs⟩ := h c
    exact ⟨h0.trans (final0 m c), hargs⟩
  · refine (θ_run _ _ _).mono (fun r h c => ?_) (Cert.ReferenceKFIdeal.Value.run m' g')
    obtain ⟨h0, hargs⟩ := h c
    obtain ⟨a0, a1, a2, a3⟩ := hagree c
    have e0 := h0.trans (Cert.ReferenceKFIdeal.Read.val_main_v52_eq _ _)
    rw [a0, a1, a2, a3] at e0
    exact ⟨e0, hargs⟩

end Cert.KernelKFIdeal.Claims

end
-- ==== Proof.InsF.lean ====
/- The gate columns of the input projection, in one grid point. -/
module

public import proofs.«01_k».proof.Defs
public import proofs.«01_k».proof.Proof.Gen.KernelInsF.Frame
public import proofs.«01_k».proof.Proof.Gen.KernelInsFIdeal.Value
public import proofs.«01_k».proof.Proof.Gen.ReferenceInsFIdeal.Run
public import proofs.«01_k».proof.Proof.Gen.ReferenceInsFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInsFIdeal.Claims

open Cert.KernelInsFIdeal Cert.KernelInsFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, 0] ∧ win0_2.index t = ![0, 0] :=
  (by decide +kernel : ∀ t : Fin grid0.N, _)

/-- The kernel's result array is the reference's. -/
theorem final : (dats m 0 c).arrAt 2 cfg0.N = Cert.ReferenceInsFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceInsFIdeal.Read.val_main_v0]
  blk_point [iblk, V, idx t]

end Cert.KernelInsFIdeal.Claims

namespace Cert.ReferenceInsFIdeal.Frame

open Cert.ReferenceInsFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInsFIdeal.Frame

namespace Cert.KernelInsFIdeal.Claims

open Idealize.ShloMosaic Idealize.SL.Sem

/-- The kernel and the reference leave the same array. -/
theorem algebraic : Cert.algebraic_KernelInsFIdeal_ReferenceInsFIdeal
    (hKernelInsFIdeal := Cert.KernelInsFIdeal.Gen.facts) (hReferenceInsFIdeal := Cert.ReferenceInsFIdeal.Gen.facts) := by
  intro m g m' g' _ hagree
  refine ⟨fun c => Cert.ReferenceInsFIdeal.Read.val_main_v0 (m ((c.tc : Thread nD τ).loc main_arg0))
    (m ((c.tc : Thread nD τ).loc main_arg1)), ?_, ?_⟩
  · refine (θ_run _ _ _).mono (fun r h c => ?_) (Cert.KernelInsFIdeal.Value.run_blocks m g)
    exact ⟨(h c).1.trans (final m c), (h c).2⟩
  · refine (θ_run _ _ _).mono (fun r h c => ?_) (Cert.ReferenceInsFIdeal.Value.run m' g')
    obtain ⟨h0, hargs⟩ := h c
    obtain ⟨a0, a1⟩ := hagree c
    rw [Cert.ReferenceInsFIdeal.Read.val_main_v0_eq, a0, a1] at h0
    exact ⟨h0, hargs⟩

end Cert.KernelInsFIdeal.Claims
-- ==== Proof.InsDa.lean ====
/- The gradient of the gate columns' operand, in one grid point. -/
module

public import proofs.«01_k».proof.Defs
public import proofs.«01_k».proof.Proof.Gen.KernelInsDa.Frame
public import proofs.«01_k».proof.Proof.Gen.KernelInsDaIdeal.Value
public import proofs.«01_k».proof.Proof.Gen.ReferenceInsDaIdeal.Run
public import proofs.«01_k».proof.Proof.Gen.ReferenceInsDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInsDaIdeal.Claims

open Cert.KernelInsDaIdeal Cert.KernelInsDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, 0] ∧ win0_2.index t = ![0, 0] :=
  (by decide +kernel : ∀ t : Fin grid0.N, _)

/-- The kernel's result array is the reference's. -/
theorem final : (dats m 0 c).arrAt 2 cfg0.N = Cert.ReferenceInsDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceInsDaIdeal.Read.val_main_v2]
  blk_point [iblk, V, idx t]

end Cert.KernelInsDaIdeal.Claims

namespace Cert.ReferenceInsDaIdeal.Frame

open Cert.ReferenceInsDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInsDaIdeal.Frame

namespace Cert.KernelInsDaIdeal.Claims

open Idealize.ShloMosaic Idealize.SL.Sem

/-- The kernel and the reference leave the same array. -/
theorem algebraic : Cert.algebraic_KernelInsDaIdeal_ReferenceInsDaIdeal
    (hKernelInsDaIdeal := Cert.KernelInsDaIdeal.Gen.facts) (hReferenceInsDaIdeal := Cert.ReferenceInsDaIdeal.Gen.facts) := by
  intro m g m' g' _ hagree
  refine ⟨fun c => Cert.ReferenceInsDaIdeal.Read.val_main_v2 (m ((c.tc : Thread nD τ).loc main_arg0))
    (m ((c.tc : Thread nD τ).loc main_arg1)), ?_, ?_⟩
  · refine (θ_run _ _ _).mono (fun r h c => ?_) (Cert.KernelInsDaIdeal.Value.run_blocks m g)
    exact ⟨(h c).1.trans (final m c), (h c).2⟩
  · refine (θ_run _ _ _).mono (fun r h c => ?_) (Cert.ReferenceInsDaIdeal.Value.run m' g')
    obtain ⟨h0, hargs⟩ := h c
    obtain ⟨a0, a1⟩ := hagree c
    rw [Cert.ReferenceInsDaIdeal.Read.val_main_v2_eq, a0, a1] at h0
    exact ⟨h0, hargs⟩

end Cert.KernelInsDaIdeal.Claims
-- ==== Proof.InsDw.lean ====
/- The gradient of the gate columns' weight, in the transposed layout the kernel writes. -/
module

public import proofs.«01_k».proof.Defs
public import proofs.«01_k».proof.Proof.Gen.KernelInsDw.Frame
public import proofs.«01_k».proof.Proof.Gen.KernelInsDwIdeal.Value
public import proofs.«01_k».proof.Proof.Gen.ReferenceInsDwIdeal.Run
public import proofs.«01_k».proof.Proof.Gen.ReferenceInsDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelInsDwIdeal.Claims

open Cert.KernelInsDwIdeal Cert.KernelInsDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, 0] ∧ win0_2.index t = ![0, 0] :=
  (by decide +kernel : ∀ t : Fin grid0.N, _)

/-- The kernel's result array is the reference's. -/
theorem final : (dats m 0 c).arrAt 2 cfg0.N = Cert.ReferenceInsDwIdeal.Read.val_main_v4
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceInsDwIdeal.Read.val_main_v4, Cert.ReferenceInsDwIdeal.Read.val_main_v3, Cert.ReferenceInsDwIdeal.Read.val_main_v2]
  blk_point [iblk, V, idx t]

end Cert.KernelInsDwIdeal.Claims

namespace Cert.ReferenceInsDwIdeal.Frame

open Cert.ReferenceInsDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceInsDwIdeal.Frame

namespace Cert.KernelInsDwIdeal.Claims

open Idealize.ShloMosaic Idealize.SL.Sem

/-- The kernel and the reference leave the same array. -/
theorem algebraic : Cert.algebraic_KernelInsDwIdeal_ReferenceInsDwIdeal
    (hKernelInsDwIdeal := Cert.KernelInsDwIdeal.Gen.facts) (hReferenceInsDwIdeal := Cert.ReferenceInsDwIdeal.Gen.facts) := by
  intro m g m' g' _ hagree
  refine ⟨fun c => Cert.ReferenceInsDwIdeal.Read.val_main_v4 (m ((c.tc : Thread nD τ).loc main_arg0))
    (m ((c.tc : Thread nD τ).loc main_arg1)), ?_, ?_⟩
  · refine (θ_run _ _ _).mono (fun r h c => ?_) (Cert.KernelInsDwIdeal.Value.run_blocks m g)
    exact ⟨(h c).1.trans (final m c), (h c).2⟩
  · refine (θ_run _ _ _).mono (fun r h c => ?_) (Cert.ReferenceInsDwIdeal.Value.run m' g')
    obtain ⟨h0, hargs⟩ := h c
    obtain ⟨a0, a1⟩ := hagree c
    rw [Cert.ReferenceInsDwIdeal.Read.val_main_v4_eq, a0, a1] at h0
    exact ⟨h0, hargs⟩

end Cert.KernelInsDwIdeal.Claims
-- ==== Proof.ModF.lean ====
/- The modulation's product: the weight arrives as the four chips' column shards. -/
module

public import proofs.«01_k».proof.Defs
public import proofs.«01_k».proof.Proof.Gen.KernelModF.Frame
public import proofs.«01_k».proof.Proof.Gen.KernelModFIdeal.Value
public import proofs.«01_k».proof.Proof.Gen.ReferenceModFIdeal.Run
public import proofs.«01_k».proof.Proof.Gen.ReferenceModFIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelModFIdeal.Claims

open Cert.KernelModFIdeal Cert.KernelModFIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![t.val, 0, 0] ∧ win0_2.index t = ![0, t.val] :=
  (by decide +kernel : ∀ t : Fin grid0.N, _)

/-- The kernel's result array is the reference's. -/
theorem final : (dats m 0 c).arrAt 2 cfg0.N = Cert.ReferenceModFIdeal.Read.val_main_v0
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceModFIdeal.Read.val_main_v0]
  blk_point [iblk, V, idx t]

end Cert.KernelModFIdeal.Claims

namespace Cert.ReferenceModFIdeal.Frame

open Cert.ReferenceModFIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceModFIdeal.Frame

namespace Cert.KernelModFIdeal.Claims

open Idealize.ShloMosaic Idealize.SL.Sem

/-- The kernel and the reference leave the same array. -/
theorem algebraic : Cert.algebraic_KernelModFIdeal_ReferenceModFIdeal
    (hKernelModFIdeal := Cert.KernelModFIdeal.Gen.facts) (hReferenceModFIdeal := Cert.ReferenceModFIdeal.Gen.facts) := by
  intro m g m' g' _ hagree
  refine ⟨fun c => Cert.ReferenceModFIdeal.Read.val_main_v0 (m ((c.tc : Thread nD τ).loc main_arg0))
    (m ((c.tc : Thread nD τ).loc main_arg1)), ?_, ?_⟩
  · refine (θ_run _ _ _).mono (fun r h c => ?_) (Cert.KernelModFIdeal.Value.run_blocks m g)
    exact ⟨(h c).1.trans (final m c), (h c).2⟩
  · refine (θ_run _ _ _).mono (fun r h c => ?_) (Cert.ReferenceModFIdeal.Value.run m' g')
    obtain ⟨h0, hargs⟩ := h c
    obtain ⟨a0, a1⟩ := hagree c
    rw [Cert.ReferenceModFIdeal.Read.val_main_v0_eq, a0, a1] at h0
    exact ⟨h0, hargs⟩

end Cert.KernelModFIdeal.Claims
-- ==== Proof.ModDa.lean ====
/- The gradient of the modulation's operand: the kernel adds eight column blocks, two of each chip's shard, and the
   reference contracts all columns at once. -/
module

public import proofs.«01_k».proof.Defs
public import proofs.«01_k».proof.Proof.Gen.KernelModDa.Frame
public import proofs.«01_k».proof.Proof.Gen.KernelModDaIdeal.Value
public import proofs.«01_k».proof.Proof.Gen.ReferenceModDaIdeal.Run
public import proofs.«01_k».proof.Proof.Gen.ReferenceModDaIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelModDaIdeal.Claims

open Cert.KernelModDaIdeal Cert.KernelModDaIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val] ∧ win0_1.index t = ![t.val / 2, 0, t.val % 2] ∧ win0_2.index t = ![0, 0] :=
  (by decide +kernel : ∀ t : Fin grid0.N, _)

/-- A point's product of its two blocks. -/
def part (a : Vec Ideal S16x768 .f32) (b : Vec Ideal S1x1024x768 .bf16) (j : S16x1024.Idx) : EReal :=
  ∑ k : Fin 768, a (ix2 (j 0) k) * b (ix3 0 (j 1) k)

theorem first (a : Vec Ideal S16x768 .f32) (b : Vec Ideal S1x1024x768 .bf16) (j : S16x1024.Idx) :
    k0_pay1 (F := Ideal) a b j = part a b j := by
  unfold part
  pointwise [k0_pay1]

theorem next (a : Vec Ideal S16x768 .f32) (b : Vec Ideal S1x1024x768 .bf16) (acc : Vec Ideal S16x1024 .f32) (j : S16x1024.Idx) :
    k0_pay2 (F := Ideal) a b acc j = acc j + part a b j := by
  unfold part
  pointwise [k0_pay2, k0_pay1]

/-- The kernel's result array is the reference's. -/
theorem final : (dats m 0 c).arrAt 2 cfg0.N = Cert.ReferenceModDaIdeal.Read.val_main_v2
    (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun p j => part (iblk m c 0 p) (iblk m c 1 p) j)
    (fun t h j => by
      rw [outsAt0_A m c t h (by have := t.isLt; change t.val < 8 at this; omega)]
      frame_out
      rw [first, zero_add])
    (fun t h j => by
      rw [outsAt0_B m c t h (by have := t.isLt; change t.val < 8 at this; omega)]
      frame_out
      exact next _ _ _ j)
    t ((flush0_2 t).mp hf) y, zero_add]
  pointwise [Cert.ReferenceModDaIdeal.Read.val_main_v2]
  refine Fin.sum_mul_add_congr fun s k hl => ?_
  blk_point [iblk, V, idx t, idx ⟨_, Pipeline.run_point_lt_of_flush t ((flush0_2 t).mp hf) s⟩]

end Cert.KernelModDaIdeal.Claims

namespace Cert.ReferenceModDaIdeal.Frame

open Cert.ReferenceModDaIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceModDaIdeal.Frame

namespace Cert.KernelModDaIdeal.Claims

open Idealize.ShloMosaic Idealize.SL.Sem

/-- The kernel and the reference leave the same array. -/
theorem algebraic : Cert.algebraic_KernelModDaIdeal_ReferenceModDaIdeal
    (hKernelModDaIdeal := Cert.KernelModDaIdeal.Gen.facts) (hReferenceModDaIdeal := Cert.ReferenceModDaIdeal.Gen.facts) := by
  intro m g m' g' _ hagree
  refine ⟨fun c => Cert.ReferenceModDaIdeal.Read.val_main_v2 (m ((c.tc : Thread nD τ).loc main_arg0))
    (m ((c.tc : Thread nD τ).loc main_arg1)), ?_, ?_⟩
  · refine (θ_run _ _ _).mono (fun r h c => ?_) (Cert.KernelModDaIdeal.Value.run_blocks m g)
    exact ⟨(h c).1.trans (final m c), (h c).2⟩
  · refine (θ_run _ _ _).mono (fun r h c => ?_) (Cert.ReferenceModDaIdeal.Value.run m' g')
    obtain ⟨h0, hargs⟩ := h c
    obtain ⟨a0, a1⟩ := hagree c
    rw [Cert.ReferenceModDaIdeal.Read.val_main_v2_eq, a0, a1] at h0
    exact ⟨h0, hargs⟩

end Cert.KernelModDaIdeal.Claims
-- ==== Proof.ModDw.lean ====
/- The gradient of the modulation's weight, written as the four chips' column shards. The kernel contracts 128 rows,
   of which all but sixteen are zero. -/
module

public import proofs.«01_k».proof.Defs
public import proofs.«01_k».proof.Proof.Gen.KernelModDw.Frame
public import proofs.«01_k».proof.Proof.Gen.KernelModDwIdeal.Value
public import proofs.«01_k».proof.Proof.Gen.ReferenceModDwIdeal.Run
public import proofs.«01_k».proof.Proof.Gen.ReferenceModDwIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelModDwIdeal.Claims

open Cert.KernelModDwIdeal Cert.KernelModDwIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, 0] ∧ win0_1.index t = ![0, t.val] ∧ win0_2.index t = ![t.val, 0, 0] :=
  (by decide +kernel : ∀ t : Fin grid0.N, _)

/-- The first operand the host prepares: the sixteen columns, then zeros. -/
theorem left_apply (y : S1024x128.Idx) : @Eq EReal (V m c main_v1 y)
    (if h : (y 1).val < 16 then m ((c.tc : Thread nD τ).loc main_arg0) (ix2 ⟨(y 1).val, h⟩ (y 0)) else 0) := by
  entry_read
  pointwise

/-- The second operand the host prepares: the sixteen rows, then zeros. -/
theorem right_apply (y : S128x6144.Idx) : @Eq EReal (V m c main_v2 y)
    (if h : (y 0).val < 16 then m ((c.tc : Thread nD τ).loc main_arg1) (ix2 ⟨(y 0).val, h⟩ (y 1)) else 0) := by
  entry_read
  pointwise

/-- The first operand's sixteen columns. -/
theorem left_low (t : Fin cfg0.N) (r : Fin 1024) (i : Fin 16) : @Eq EReal (iblk m c 0 t (ix2 r ⟨i.val, by omega⟩))
    (m ((c.tc : Thread nD τ).loc main_arg0) (ix2 i r)) := by
  have e : ((win0_0.blk t).view.emb (ix2 r (⟨i.val, by omega⟩ : Fin 128))) = (ix2 r ⟨i.val, by omega⟩ : S1024x128.Idx) := by
    blk_ext [idx t]
  refine (left_apply m c _).trans ?_
  rw [e]
  exact dif_pos i.isLt

/-- Its other columns are zero. -/
theorem left_high (t : Fin cfg0.N) (r : Fin 1024) (i : Fin 112) : @Eq EReal (iblk m c 0 t (ix2 r ⟨16 + i.val, by omega⟩)) 0 := by
  have e : ((win0_0.blk t).view.emb (ix2 r (⟨16 + i.val, by omega⟩ : Fin 128))) = (ix2 r ⟨16 + i.val, by omega⟩ : S1024x128.Idx) := by
    blk_ext [idx t]
  refine (left_apply m c _).trans ?_
  rw [e]
  exact dif_neg (show ¬ 16 + i.val < 16 by omega)

/-- The second operand's sixteen rows. -/
theorem right_low (t : Fin cfg0.N) (i : Fin 16) (l : Fin 1536) : @Eq EReal (iblk m c 1 t (ix2 ⟨i.val, by omega⟩ l))
    (m ((c.tc : Thread nD τ).loc main_arg1) (ix2 i ⟨t.val * 1536 + l.val, by have := t.isLt; change t.val < 4 at this; omega⟩)) := by
  have e : ((win0_1.blk t).view.emb (ix2 (⟨i.val, by omega⟩ : Fin 128) l)) = (ix2 ⟨i.val, by omega⟩ ⟨t.val * 1536 + l.val, by have := t.isLt; change t.val < 4 at this; omega⟩ : S128x6144.Idx) := by
    blk_ext [idx t]
  refine (right_apply m c _).trans ?_
  rw [e]
  exact dif_pos i.isLt

/-- The kernel's result array is the reference's. -/
theorem final : (dats m 0 c).arrAt 2 cfg0.N = Cert.ReferenceModDwIdeal.Read.val_main_v5
    (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, Cert.ReferenceModDwIdeal.Read.val_main_v5, Cert.ReferenceModDwIdeal.Read.val_main_v4, Cert.ReferenceModDwIdeal.Read.val_main_v3, Cert.ReferenceModDwIdeal.Read.val_main_v2]
  refine (@Fin.sum_univ_two_halves EReal _ 128 16 112 rfl _).trans ?_
  refine (congrArg₂ (fun a b : EReal => a + b)
    (Fin.sum_fin_congr fun k => congrArg₂ (fun a b : EReal => a * b) (left_low m c t (y 1) k) (right_low m c t k (y 2)))
    ((Fin.sum_fin_congr fun k => (congrArg (fun a : EReal => a * _) (left_high m c t (y 1) k)).trans (zero_mul _)).trans Finset.sum_const_zero)).trans ?_
  rw [add_zero]
  refine Fin.sum_fin_congr fun k => (mul_comm (G := EReal) _ _).trans ?_
  blk_point [iblk, V, idx t]

end Cert.KernelModDwIdeal.Claims

namespace Cert.ReferenceModDwIdeal.Frame

open Cert.ReferenceModDwIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩) (Value.run m g)

end Cert.ReferenceModDwIdeal.Frame

namespace Cert.KernelModDwIdeal.Claims

open Idealize.ShloMosaic Idealize.SL.Sem

/-- The kernel and the reference leave the same array. -/
theorem algebraic : Cert.algebraic_KernelModDwIdeal_ReferenceModDwIdeal
    (hKernelModDwIdeal := Cert.KernelModDwIdeal.Gen.facts) (hReferenceModDwIdeal := Cert.ReferenceModDwIdeal.Gen.facts) := by
  intro m g m' g' _ hagree
  refine ⟨fun c => Cert.ReferenceModDwIdeal.Read.val_main_v5 (m ((c.tc : Thread nD τ).loc main_arg0))
    (m ((c.tc : Thread nD τ).loc main_arg1)), ?_, ?_⟩
  · refine (θ_run _ _ _).mono (fun r h c => ?_) (Cert.KernelModDwIdeal.Value.run_blocks m g)
    exact ⟨(h c).1.trans (final m c), (h c).2⟩
  · refine (θ_run _ _ _).mono (fun r h c => ?_) (Cert.ReferenceModDwIdeal.Value.run m' g')
    obtain ⟨h0, hargs⟩ := h c
    obtain ⟨a0, a1⟩ := hagree c
    rw [Cert.ReferenceModDwIdeal.Read.val_main_v5_eq, a0, a1] at h0
    exact ⟨h0, hargs⟩

end Cert.KernelModDwIdeal.Claims
-- ==== Proof.AdamMod.lean ====
/- The optimiser step of the modulation weight. -/
module

public import proofs.«01_k».proof.Defs
public import proofs.«01_k».proof.Proof.Gen.KernelAdamMod.Frame
public import proofs.«01_k».proof.Proof.Gen.KernelAdamModIdeal.Value
public import proofs.«01_k».proof.Proof.Gen.ReferenceAdamModIdeal.Run
public import proofs.«01_k».proof.Proof.Gen.ReferenceAdamModIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamModIdeal.Claims

open Cert.KernelAdamModIdeal Cert.KernelAdamModIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The kernel leaves the array the reference leaves. -/
theorem final0 : (dats m 0 c).arrAt 4 cfg0.N = m ((c.tc : Thread nD τ).loc main_arg1) := by
  refine (dats m 0 c).arrAt_eq_of_covers 4 _ (by decide +kernel) fun t hf y => ?_
  blk_simp
  rw [after0_4]
  frame_out
  pointwise [k0_pay1, k0_pay2, k0_pay3]
  blk_point [iblk, V, idx t]

/-- The kernel leaves the array the reference leaves. -/
theorem final1 : (dats m 0 c).arrAt 5 cfg0.N = Cert.ReferenceAdamModIdeal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamModIdeal.Read.val_main_v23, Cert.ReferenceAdamModIdeal.Read.val_main_v22, Cert.ReferenceAdamModIdeal.Read.val_main_v21, Cert.ReferenceAdamModIdeal.Read.val_main_cst_7, Cert.ReferenceAdamModIdeal.Read.val_main_v18, Cert.ReferenceAdamModIdeal.Read.val_main_v20, Cert.ReferenceAdamModIdeal.Read.val_main_v12, Cert.ReferenceAdamModIdeal.Read.val_main_v17, Cert.ReferenceAdamModIdeal.Read.val_main_v19, Cert.ReferenceAdamModIdeal.Read.val_main_v4, Cert.ReferenceAdamModIdeal.Read.val_main_v11, Cert.ReferenceAdamModIdeal.Read.val_main_v15, Cert.ReferenceAdamModIdeal.Read.val_main_v16, Cert.ReferenceAdamModIdeal.Read.val_main_cst_6, Cert.ReferenceAdamModIdeal.Read.val_main_v1, Cert.ReferenceAdamModIdeal.Read.val_main_v3, Cert.ReferenceAdamModIdeal.Read.val_main_cst_3, Cert.ReferenceAdamModIdeal.Read.val_main_v14, Cert.ReferenceAdamModIdeal.Read.val_main_cst_5, Cert.ReferenceAdamModIdeal.Read.val_main_v0, Cert.ReferenceAdamModIdeal.Read.val_main_v2, Cert.ReferenceAdamModIdeal.Read.val_main_v10, Cert.ReferenceAdamModIdeal.Read.val_main_v13, Cert.ReferenceAdamModIdeal.Read.val_main_cst, Cert.ReferenceAdamModIdeal.Read.val_main_cst_0, Cert.ReferenceAdamModIdeal.Read.val_main_v6, Cert.ReferenceAdamModIdeal.Read.val_main_v9, Cert.ReferenceAdamModIdeal.Read.val_main_cst_4, Cert.ReferenceAdamModIdeal.Read.val_main_v5, Cert.ReferenceAdamModIdeal.Read.val_main_v8, Cert.ReferenceAdamModIdeal.Read.val_main_v7, Cert.ReferenceAdamModIdeal.Read.val_main_cst_1, Cert.ReferenceAdamModIdeal.Read.val_main_cst_2]
  blk_point [iblk, V, idx t]

/-- The kernel leaves the array the reference leaves. -/
theorem final2 : (dats m 0 c).arrAt 6 cfg0.N = Cert.ReferenceAdamModIdeal.Read.val_main_v4 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamModIdeal.Read.val_main_v4, Cert.ReferenceAdamModIdeal.Read.val_main_v1, Cert.ReferenceAdamModIdeal.Read.val_main_v3, Cert.ReferenceAdamModIdeal.Read.val_main_v0, Cert.ReferenceAdamModIdeal.Read.val_main_v2, Cert.ReferenceAdamModIdeal.Read.val_main_cst, Cert.ReferenceAdamModIdeal.Read.val_main_cst_0]
  blk_point [iblk, V, idx t]

/-- The kernel leaves the array the reference leaves. -/
theorem final3 : (dats m 0 c).arrAt 7 cfg0.N = Cert.ReferenceAdamModIdeal.Read.val_main_v10 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamModIdeal.Read.val_main_v10, Cert.ReferenceAdamModIdeal.Read.val_main_v6, Cert.ReferenceAdamModIdeal.Read.val_main_v9, Cert.ReferenceAdamModIdeal.Read.val_main_v5, Cert.ReferenceAdamModIdeal.Read.val_main_v8, Cert.ReferenceAdamModIdeal.Read.val_main_v7, Cert.ReferenceAdamModIdeal.Read.val_main_cst_1, Cert.ReferenceAdamModIdeal.Read.val_main_cst_2]
  blk_point [iblk, V, idx t]

end Cert.KernelAdamModIdeal.Claims

namespace Cert.ReferenceAdamModIdeal.Frame

open Cert.ReferenceAdamModIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamModIdeal.Frame

namespace Cert.KernelAdamModIdeal.Claims

open Idealize.ShloMosaic Idealize.SL.Sem

/-- The kernel and the reference leave the same arrays. -/
theorem algebraic : Cert.algebraic_KernelAdamModIdeal_ReferenceAdamModIdeal
    (hKernelAdamModIdeal := Cert.KernelAdamModIdeal.Gen.facts) (hReferenceAdamModIdeal := Cert.ReferenceAdamModIdeal.Gen.facts) := by
  intro m g m' g' _ hagree
  refine ⟨fun c => m ((c.tc : Thread nD τ).loc main_arg1),
    fun c => Cert.ReferenceAdamModIdeal.Read.val_main_v23 (m ((c.tc : Thread nD τ).loc main_arg0)) (m ((c.tc : Thread nD τ).loc main_arg1)) (m ((c.tc : Thread nD τ).loc main_arg2)) (m ((c.tc : Thread nD τ).loc main_arg3)),
    fun c => Cert.ReferenceAdamModIdeal.Read.val_main_v4 (m ((c.tc : Thread nD τ).loc main_arg1)) (m ((c.tc : Thread nD τ).loc main_arg2)),
    fun c => Cert.ReferenceAdamModIdeal.Read.val_main_v10 (m ((c.tc : Thread nD τ).loc main_arg1)) (m ((c.tc : Thread nD τ).loc main_arg3)), ?_, ?_⟩
  · refine (θ_run _ _ _).mono (fun r h c => ?_) (Cert.KernelAdamModIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamModIdeal.Value.run m' g')
    obtain ⟨h0, h1, h2, h3, hargs⟩ := h c
    obtain ⟨a0, a1, a2, a3⟩ := hagree c
    have e0 := h0.trans a1
    have e1 := h1.trans (Cert.ReferenceAdamModIdeal.Read.val_main_v23_eq _ _ _ _)
    rw [a0, a1, a2, a3] at e1
    have e2 := h2.trans (Cert.ReferenceAdamModIdeal.Read.val_main_v4_eq _ _)
    rw [a1, a2] at e2
    have e3 := h3.trans (Cert.ReferenceAdamModIdeal.Read.val_main_v10_eq _ _)
    rw [a1, a3] at e3
    exact ⟨e0, e1, e2, e3, hargs⟩

end Cert.KernelAdamModIdeal.Claims

end
-- ==== Proof.AdamSq.lean ====
/- The optimiser step of the three square projections. -/
module

public import proofs.«01_k».proof.Defs
public import proofs.«01_k».proof.Proof.Gen.KernelAdamSq.Frame
public import proofs.«01_k».proof.Proof.Gen.KernelAdamSqIdeal.Value
public import proofs.«01_k».proof.Proof.Gen.ReferenceAdamSqIdeal.Run
public import proofs.«01_k».proof.Proof.Gen.ReferenceAdamSqIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamSqIdeal.Claims

open Cert.KernelAdamSqIdeal Cert.KernelAdamSqIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The kernel leaves the array the reference leaves. -/
theorem final0 : (dats m 0 c).arrAt 4 cfg0.N = m ((c.tc : Thread nD τ).loc main_arg1) := by
  refine (dats m 0 c).arrAt_eq_of_covers 4 _ (by decide +kernel) fun t hf y => ?_
  blk_simp
  rw [after0_4]
  frame_out
  pointwise [k0_pay1, k0_pay2, k0_pay3]
  blk_point [iblk, V, idx t]

/-- The kernel leaves the array the reference leaves. -/
theorem final1 : (dats m 0 c).arrAt 5 cfg0.N = Cert.ReferenceAdamSqIdeal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamSqIdeal.Read.val_main_v23, Cert.ReferenceAdamSqIdeal.Read.val_main_v22, Cert.ReferenceAdamSqIdeal.Read.val_main_v21, Cert.ReferenceAdamSqIdeal.Read.val_main_cst_7, Cert.ReferenceAdamSqIdeal.Read.val_main_v18, Cert.ReferenceAdamSqIdeal.Read.val_main_v20, Cert.ReferenceAdamSqIdeal.Read.val_main_v12, Cert.ReferenceAdamSqIdeal.Read.val_main_v17, Cert.ReferenceAdamSqIdeal.Read.val_main_v19, Cert.ReferenceAdamSqIdeal.Read.val_main_v4, Cert.ReferenceAdamSqIdeal.Read.val_main_v11, Cert.ReferenceAdamSqIdeal.Read.val_main_v15, Cert.ReferenceAdamSqIdeal.Read.val_main_v16, Cert.ReferenceAdamSqIdeal.Read.val_main_cst_6, Cert.ReferenceAdamSqIdeal.Read.val_main_v1, Cert.ReferenceAdamSqIdeal.Read.val_main_v3, Cert.ReferenceAdamSqIdeal.Read.val_main_cst_3, Cert.ReferenceAdamSqIdeal.Read.val_main_v14, Cert.ReferenceAdamSqIdeal.Read.val_main_cst_5, Cert.ReferenceAdamSqIdeal.Read.val_main_v0, Cert.ReferenceAdamSqIdeal.Read.val_main_v2, Cert.ReferenceAdamSqIdeal.Read.val_main_v10, Cert.ReferenceAdamSqIdeal.Read.val_main_v13, Cert.ReferenceAdamSqIdeal.Read.val_main_cst, Cert.ReferenceAdamSqIdeal.Read.val_main_cst_0, Cert.ReferenceAdamSqIdeal.Read.val_main_v6, Cert.ReferenceAdamSqIdeal.Read.val_main_v9, Cert.ReferenceAdamSqIdeal.Read.val_main_cst_4, Cert.ReferenceAdamSqIdeal.Read.val_main_v5, Cert.ReferenceAdamSqIdeal.Read.val_main_v8, Cert.ReferenceAdamSqIdeal.Read.val_main_v7, Cert.ReferenceAdamSqIdeal.Read.val_main_cst_1, Cert.ReferenceAdamSqIdeal.Read.val_main_cst_2]
  blk_point [iblk, V, idx t]

/-- The kernel leaves the array the reference leaves. -/
theorem final2 : (dats m 0 c).arrAt 6 cfg0.N = Cert.ReferenceAdamSqIdeal.Read.val_main_v4 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamSqIdeal.Read.val_main_v4, Cert.ReferenceAdamSqIdeal.Read.val_main_v1, Cert.ReferenceAdamSqIdeal.Read.val_main_v3, Cert.ReferenceAdamSqIdeal.Read.val_main_v0, Cert.ReferenceAdamSqIdeal.Read.val_main_v2, Cert.ReferenceAdamSqIdeal.Read.val_main_cst, Cert.ReferenceAdamSqIdeal.Read.val_main_cst_0]
  blk_point [iblk, V, idx t]

/-- The kernel leaves the array the reference leaves. -/
theorem final3 : (dats m 0 c).arrAt 7 cfg0.N = Cert.ReferenceAdamSqIdeal.Read.val_main_v10 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamSqIdeal.Read.val_main_v10, Cert.ReferenceAdamSqIdeal.Read.val_main_v6, Cert.ReferenceAdamSqIdeal.Read.val_main_v9, Cert.ReferenceAdamSqIdeal.Read.val_main_v5, Cert.ReferenceAdamSqIdeal.Read.val_main_v8, Cert.ReferenceAdamSqIdeal.Read.val_main_v7, Cert.ReferenceAdamSqIdeal.Read.val_main_cst_1, Cert.ReferenceAdamSqIdeal.Read.val_main_cst_2]
  blk_point [iblk, V, idx t]

end Cert.KernelAdamSqIdeal.Claims

namespace Cert.ReferenceAdamSqIdeal.Frame

open Cert.ReferenceAdamSqIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamSqIdeal.Frame

namespace Cert.KernelAdamSqIdeal.Claims

open Idealize.ShloMosaic Idealize.SL.Sem

/-- The kernel and the reference leave the same arrays. -/
theorem algebraic : Cert.algebraic_KernelAdamSqIdeal_ReferenceAdamSqIdeal
    (hKernelAdamSqIdeal := Cert.KernelAdamSqIdeal.Gen.facts) (hReferenceAdamSqIdeal := Cert.ReferenceAdamSqIdeal.Gen.facts) := by
  intro m g m' g' _ hagree
  refine ⟨fun c => m ((c.tc : Thread nD τ).loc main_arg1),
    fun c => Cert.ReferenceAdamSqIdeal.Read.val_main_v23 (m ((c.tc : Thread nD τ).loc main_arg0)) (m ((c.tc : Thread nD τ).loc main_arg1)) (m ((c.tc : Thread nD τ).loc main_arg2)) (m ((c.tc : Thread nD τ).loc main_arg3)),
    fun c => Cert.ReferenceAdamSqIdeal.Read.val_main_v4 (m ((c.tc : Thread nD τ).loc main_arg1)) (m ((c.tc : Thread nD τ).loc main_arg2)),
    fun c => Cert.ReferenceAdamSqIdeal.Read.val_main_v10 (m ((c.tc : Thread nD τ).loc main_arg1)) (m ((c.tc : Thread nD τ).loc main_arg3)), ?_, ?_⟩
  · refine (θ_run _ _ _).mono (fun r h c => ?_) (Cert.KernelAdamSqIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamSqIdeal.Value.run m' g')
    obtain ⟨h0, h1, h2, h3, hargs⟩ := h c
    obtain ⟨a0, a1, a2, a3⟩ := hagree c
    have e0 := h0.trans a1
    have e1 := h1.trans (Cert.ReferenceAdamSqIdeal.Read.val_main_v23_eq _ _ _ _)
    rw [a0, a1, a2, a3] at e1
    have e2 := h2.trans (Cert.ReferenceAdamSqIdeal.Read.val_main_v4_eq _ _)
    rw [a1, a2] at e2
    have e3 := h3.trans (Cert.ReferenceAdamSqIdeal.Read.val_main_v10_eq _ _)
    rw [a1, a3] at e3
    exact ⟨e0, e1, e2, e3, hargs⟩

end Cert.KernelAdamSqIdeal.Claims

end
-- ==== Proof.AdamUp.lean ====
/- The optimiser step of the up projection. -/
module

public import proofs.«01_k».proof.Defs
public import proofs.«01_k».proof.Proof.Gen.KernelAdamUp.Frame
public import proofs.«01_k».proof.Proof.Gen.KernelAdamUpIdeal.Value
public import proofs.«01_k».proof.Proof.Gen.ReferenceAdamUpIdeal.Run
public import proofs.«01_k».proof.Proof.Gen.ReferenceAdamUpIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamUpIdeal.Claims

open Cert.KernelAdamUpIdeal Cert.KernelAdamUpIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The kernel leaves the array the reference leaves. -/
theorem final0 : (dats m 0 c).arrAt 4 cfg0.N = m ((c.tc : Thread nD τ).loc main_arg1) := by
  refine (dats m 0 c).arrAt_eq_of_covers 4 _ (by decide +kernel) fun t hf y => ?_
  blk_simp
  rw [after0_4]
  frame_out
  pointwise [k0_pay1, k0_pay2, k0_pay3]
  blk_point [iblk, V, idx t]

/-- The kernel leaves the array the reference leaves. -/
theorem final1 : (dats m 0 c).arrAt 5 cfg0.N = Cert.ReferenceAdamUpIdeal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamUpIdeal.Read.val_main_v23, Cert.ReferenceAdamUpIdeal.Read.val_main_v22, Cert.ReferenceAdamUpIdeal.Read.val_main_v21, Cert.ReferenceAdamUpIdeal.Read.val_main_cst_7, Cert.ReferenceAdamUpIdeal.Read.val_main_v18, Cert.ReferenceAdamUpIdeal.Read.val_main_v20, Cert.ReferenceAdamUpIdeal.Read.val_main_v12, Cert.ReferenceAdamUpIdeal.Read.val_main_v17, Cert.ReferenceAdamUpIdeal.Read.val_main_v19, Cert.ReferenceAdamUpIdeal.Read.val_main_v4, Cert.ReferenceAdamUpIdeal.Read.val_main_v11, Cert.ReferenceAdamUpIdeal.Read.val_main_v15, Cert.ReferenceAdamUpIdeal.Read.val_main_v16, Cert.ReferenceAdamUpIdeal.Read.val_main_cst_6, Cert.ReferenceAdamUpIdeal.Read.val_main_v1, Cert.ReferenceAdamUpIdeal.Read.val_main_v3, Cert.ReferenceAdamUpIdeal.Read.val_main_cst_3, Cert.ReferenceAdamUpIdeal.Read.val_main_v14, Cert.ReferenceAdamUpIdeal.Read.val_main_cst_5, Cert.ReferenceAdamUpIdeal.Read.val_main_v0, Cert.ReferenceAdamUpIdeal.Read.val_main_v2, Cert.ReferenceAdamUpIdeal.Read.val_main_v10, Cert.ReferenceAdamUpIdeal.Read.val_main_v13, Cert.ReferenceAdamUpIdeal.Read.val_main_cst, Cert.ReferenceAdamUpIdeal.Read.val_main_cst_0, Cert.ReferenceAdamUpIdeal.Read.val_main_v6, Cert.ReferenceAdamUpIdeal.Read.val_main_v9, Cert.ReferenceAdamUpIdeal.Read.val_main_cst_4, Cert.ReferenceAdamUpIdeal.Read.val_main_v5, Cert.ReferenceAdamUpIdeal.Read.val_main_v8, Cert.ReferenceAdamUpIdeal.Read.val_main_v7, Cert.ReferenceAdamUpIdeal.Read.val_main_cst_1, Cert.ReferenceAdamUpIdeal.Read.val_main_cst_2]
  blk_point [iblk, V, idx t]

/-- The kernel leaves the array the reference leaves. -/
theorem final2 : (dats m 0 c).arrAt 6 cfg0.N = Cert.ReferenceAdamUpIdeal.Read.val_main_v4 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamUpIdeal.Read.val_main_v4, Cert.ReferenceAdamUpIdeal.Read.val_main_v1, Cert.ReferenceAdamUpIdeal.Read.val_main_v3, Cert.ReferenceAdamUpIdeal.Read.val_main_v0, Cert.ReferenceAdamUpIdeal.Read.val_main_v2, Cert.ReferenceAdamUpIdeal.Read.val_main_cst, Cert.ReferenceAdamUpIdeal.Read.val_main_cst_0]
  blk_point [iblk, V, idx t]

/-- The kernel leaves the array the reference leaves. -/
theorem final3 : (dats m 0 c).arrAt 7 cfg0.N = Cert.ReferenceAdamUpIdeal.Read.val_main_v10 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamUpIdeal.Read.val_main_v10, Cert.ReferenceAdamUpIdeal.Read.val_main_v6, Cert.ReferenceAdamUpIdeal.Read.val_main_v9, Cert.ReferenceAdamUpIdeal.Read.val_main_v5, Cert.ReferenceAdamUpIdeal.Read.val_main_v8, Cert.ReferenceAdamUpIdeal.Read.val_main_v7, Cert.ReferenceAdamUpIdeal.Read.val_main_cst_1, Cert.ReferenceAdamUpIdeal.Read.val_main_cst_2]
  blk_point [iblk, V, idx t]

end Cert.KernelAdamUpIdeal.Claims

namespace Cert.ReferenceAdamUpIdeal.Frame

open Cert.ReferenceAdamUpIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamUpIdeal.Frame

namespace Cert.KernelAdamUpIdeal.Claims

open Idealize.ShloMosaic Idealize.SL.Sem

/-- The kernel and the reference leave the same arrays. -/
theorem algebraic : Cert.algebraic_KernelAdamUpIdeal_ReferenceAdamUpIdeal
    (hKernelAdamUpIdeal := Cert.KernelAdamUpIdeal.Gen.facts) (hReferenceAdamUpIdeal := Cert.ReferenceAdamUpIdeal.Gen.facts) := by
  intro m g m' g' _ hagree
  refine ⟨fun c => m ((c.tc : Thread nD τ).loc main_arg1),
    fun c => Cert.ReferenceAdamUpIdeal.Read.val_main_v23 (m ((c.tc : Thread nD τ).loc main_arg0)) (m ((c.tc : Thread nD τ).loc main_arg1)) (m ((c.tc : Thread nD τ).loc main_arg2)) (m ((c.tc : Thread nD τ).loc main_arg3)),
    fun c => Cert.ReferenceAdamUpIdeal.Read.val_main_v4 (m ((c.tc : Thread nD τ).loc main_arg1)) (m ((c.tc : Thread nD τ).loc main_arg2)),
    fun c => Cert.ReferenceAdamUpIdeal.Read.val_main_v10 (m ((c.tc : Thread nD τ).loc main_arg1)) (m ((c.tc : Thread nD τ).loc main_arg3)), ?_, ?_⟩
  · refine (θ_run _ _ _).mono (fun r h c => ?_) (Cert.KernelAdamUpIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamUpIdeal.Value.run m' g')
    obtain ⟨h0, h1, h2, h3, hargs⟩ := h c
    obtain ⟨a0, a1, a2, a3⟩ := hagree c
    have e0 := h0.trans a1
    have e1 := h1.trans (Cert.ReferenceAdamUpIdeal.Read.val_main_v23_eq _ _ _ _)
    rw [a0, a1, a2, a3] at e1
    have e2 := h2.trans (Cert.ReferenceAdamUpIdeal.Read.val_main_v4_eq _ _)
    rw [a1, a2] at e2
    have e3 := h3.trans (Cert.ReferenceAdamUpIdeal.Read.val_main_v10_eq _ _)
    rw [a1, a3] at e3
    exact ⟨e0, e1, e2, e3, hargs⟩

end Cert.KernelAdamUpIdeal.Claims

end
-- ==== Proof.AdamDown.lean ====
/- The optimiser step of the down projection. -/
module

public import proofs.«01_k».proof.Defs
public import proofs.«01_k».proof.Proof.Gen.KernelAdamDown.Frame
public import proofs.«01_k».proof.Proof.Gen.KernelAdamDownIdeal.Value
public import proofs.«01_k».proof.Proof.Gen.ReferenceAdamDownIdeal.Run
public import proofs.«01_k».proof.Proof.Gen.ReferenceAdamDownIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamDownIdeal.Claims

open Cert.KernelAdamDownIdeal Cert.KernelAdamDownIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The kernel leaves the array the reference leaves. -/
theorem final0 : (dats m 0 c).arrAt 4 cfg0.N = m ((c.tc : Thread nD τ).loc main_arg1) := by
  refine (dats m 0 c).arrAt_eq_of_covers 4 _ (by decide +kernel) fun t hf y => ?_
  blk_simp
  rw [after0_4]
  frame_out
  pointwise [k0_pay1, k0_pay2, k0_pay3]
  blk_point [iblk, V, idx t]

/-- The kernel leaves the array the reference leaves. -/
theorem final1 : (dats m 0 c).arrAt 5 cfg0.N = Cert.ReferenceAdamDownIdeal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamDownIdeal.Read.val_main_v23, Cert.ReferenceAdamDownIdeal.Read.val_main_v22, Cert.ReferenceAdamDownIdeal.Read.val_main_v21, Cert.ReferenceAdamDownIdeal.Read.val_main_cst_7, Cert.ReferenceAdamDownIdeal.Read.val_main_v18, Cert.ReferenceAdamDownIdeal.Read.val_main_v20, Cert.ReferenceAdamDownIdeal.Read.val_main_v12, Cert.ReferenceAdamDownIdeal.Read.val_main_v17, Cert.ReferenceAdamDownIdeal.Read.val_main_v19, Cert.ReferenceAdamDownIdeal.Read.val_main_v4, Cert.ReferenceAdamDownIdeal.Read.val_main_v11, Cert.ReferenceAdamDownIdeal.Read.val_main_v15, Cert.ReferenceAdamDownIdeal.Read.val_main_v16, Cert.ReferenceAdamDownIdeal.Read.val_main_cst_6, Cert.ReferenceAdamDownIdeal.Read.val_main_v1, Cert.ReferenceAdamDownIdeal.Read.val_main_v3, Cert.ReferenceAdamDownIdeal.Read.val_main_cst_3, Cert.ReferenceAdamDownIdeal.Read.val_main_v14, Cert.ReferenceAdamDownIdeal.Read.val_main_cst_5, Cert.ReferenceAdamDownIdeal.Read.val_main_v0, Cert.ReferenceAdamDownIdeal.Read.val_main_v2, Cert.ReferenceAdamDownIdeal.Read.val_main_v10, Cert.ReferenceAdamDownIdeal.Read.val_main_v13, Cert.ReferenceAdamDownIdeal.Read.val_main_cst, Cert.ReferenceAdamDownIdeal.Read.val_main_cst_0, Cert.ReferenceAdamDownIdeal.Read.val_main_v6, Cert.ReferenceAdamDownIdeal.Read.val_main_v9, Cert.ReferenceAdamDownIdeal.Read.val_main_cst_4, Cert.ReferenceAdamDownIdeal.Read.val_main_v5, Cert.ReferenceAdamDownIdeal.Read.val_main_v8, Cert.ReferenceAdamDownIdeal.Read.val_main_v7, Cert.ReferenceAdamDownIdeal.Read.val_main_cst_1, Cert.ReferenceAdamDownIdeal.Read.val_main_cst_2]
  blk_point [iblk, V, idx t]

/-- The kernel leaves the array the reference leaves. -/
theorem final2 : (dats m 0 c).arrAt 6 cfg0.N = Cert.ReferenceAdamDownIdeal.Read.val_main_v4 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamDownIdeal.Read.val_main_v4, Cert.ReferenceAdamDownIdeal.Read.val_main_v1, Cert.ReferenceAdamDownIdeal.Read.val_main_v3, Cert.ReferenceAdamDownIdeal.Read.val_main_v0, Cert.ReferenceAdamDownIdeal.Read.val_main_v2, Cert.ReferenceAdamDownIdeal.Read.val_main_cst, Cert.ReferenceAdamDownIdeal.Read.val_main_cst_0]
  blk_point [iblk, V, idx t]

/-- The kernel leaves the array the reference leaves. -/
theorem final3 : (dats m 0 c).arrAt 7 cfg0.N = Cert.ReferenceAdamDownIdeal.Read.val_main_v10 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamDownIdeal.Read.val_main_v10, Cert.ReferenceAdamDownIdeal.Read.val_main_v6, Cert.ReferenceAdamDownIdeal.Read.val_main_v9, Cert.ReferenceAdamDownIdeal.Read.val_main_v5, Cert.ReferenceAdamDownIdeal.Read.val_main_v8, Cert.ReferenceAdamDownIdeal.Read.val_main_v7, Cert.ReferenceAdamDownIdeal.Read.val_main_cst_1, Cert.ReferenceAdamDownIdeal.Read.val_main_cst_2]
  blk_point [iblk, V, idx t]

end Cert.KernelAdamDownIdeal.Claims

namespace Cert.ReferenceAdamDownIdeal.Frame

open Cert.ReferenceAdamDownIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamDownIdeal.Frame

namespace Cert.KernelAdamDownIdeal.Claims

open Idealize.ShloMosaic Idealize.SL.Sem

/-- The kernel and the reference leave the same arrays. -/
theorem algebraic : Cert.algebraic_KernelAdamDownIdeal_ReferenceAdamDownIdeal
    (hKernelAdamDownIdeal := Cert.KernelAdamDownIdeal.Gen.facts) (hReferenceAdamDownIdeal := Cert.ReferenceAdamDownIdeal.Gen.facts) := by
  intro m g m' g' _ hagree
  refine ⟨fun c => m ((c.tc : Thread nD τ).loc main_arg1),
    fun c => Cert.ReferenceAdamDownIdeal.Read.val_main_v23 (m ((c.tc : Thread nD τ).loc main_arg0)) (m ((c.tc : Thread nD τ).loc main_arg1)) (m ((c.tc : Thread nD τ).loc main_arg2)) (m ((c.tc : Thread nD τ).loc main_arg3)),
    fun c => Cert.ReferenceAdamDownIdeal.Read.val_main_v4 (m ((c.tc : Thread nD τ).loc main_arg1)) (m ((c.tc : Thread nD τ).loc main_arg2)),
    fun c => Cert.ReferenceAdamDownIdeal.Read.val_main_v10 (m ((c.tc : Thread nD τ).loc main_arg1)) (m ((c.tc : Thread nD τ).loc main_arg3)), ?_, ?_⟩
  · refine (θ_run _ _ _).mono (fun r h c => ?_) (Cert.KernelAdamDownIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamDownIdeal.Value.run m' g')
    obtain ⟨h0, h1, h2, h3, hargs⟩ := h c
    obtain ⟨a0, a1, a2, a3⟩ := hagree c
    have e0 := h0.trans a1
    have e1 := h1.trans (Cert.ReferenceAdamDownIdeal.Read.val_main_v23_eq _ _ _ _)
    rw [a0, a1, a2, a3] at e1
    have e2 := h2.trans (Cert.ReferenceAdamDownIdeal.Read.val_main_v4_eq _ _)
    rw [a1, a2] at e2
    have e3 := h3.trans (Cert.ReferenceAdamDownIdeal.Read.val_main_v10_eq _ _)
    rw [a1, a3] at e3
    exact ⟨e0, e1, e2, e3, hargs⟩

end Cert.KernelAdamDownIdeal.Claims

end
-- ==== Proof.AdamSmall.lean ====
/- The optimiser step of the eleven small weights, packed. -/
module

public import proofs.«01_k».proof.Defs
public import proofs.«01_k».proof.Proof.Gen.KernelAdamSmall.Frame
public import proofs.«01_k».proof.Proof.Gen.KernelAdamSmallIdeal.Value
public import proofs.«01_k».proof.Proof.Gen.ReferenceAdamSmallIdeal.Run
public import proofs.«01_k».proof.Proof.Gen.ReferenceAdamSmallIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamSmallIdeal.Claims

open Cert.KernelAdamSmallIdeal Cert.KernelAdamSmallIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The kernel leaves the array the reference leaves. -/
theorem final0 : (dats m 0 c).arrAt 4 cfg0.N = m ((c.tc : Thread nD τ).loc main_arg1) := by
  refine (dats m 0 c).arrAt_eq_of_covers 4 _ (by decide +kernel) fun t hf y => ?_
  blk_simp
  rw [after0_4]
  frame_out
  pointwise [k0_pay1, k0_pay2, k0_pay3]
  blk_point [iblk, V, idx t]

/-- The kernel leaves the array the reference leaves. -/
theorem final1 : (dats m 0 c).arrAt 5 cfg0.N = Cert.ReferenceAdamSmallIdeal.Read.val_main_v23 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamSmallIdeal.Read.val_main_v23, Cert.ReferenceAdamSmallIdeal.Read.val_main_v22, Cert.ReferenceAdamSmallIdeal.Read.val_main_v21, Cert.ReferenceAdamSmallIdeal.Read.val_main_cst_7, Cert.ReferenceAdamSmallIdeal.Read.val_main_v18, Cert.ReferenceAdamSmallIdeal.Read.val_main_v20, Cert.ReferenceAdamSmallIdeal.Read.val_main_v12, Cert.ReferenceAdamSmallIdeal.Read.val_main_v17, Cert.ReferenceAdamSmallIdeal.Read.val_main_v19, Cert.ReferenceAdamSmallIdeal.Read.val_main_v4, Cert.ReferenceAdamSmallIdeal.Read.val_main_v11, Cert.ReferenceAdamSmallIdeal.Read.val_main_v15, Cert.ReferenceAdamSmallIdeal.Read.val_main_v16, Cert.ReferenceAdamSmallIdeal.Read.val_main_cst_6, Cert.ReferenceAdamSmallIdeal.Read.val_main_v1, Cert.ReferenceAdamSmallIdeal.Read.val_main_v3, Cert.ReferenceAdamSmallIdeal.Read.val_main_cst_3, Cert.ReferenceAdamSmallIdeal.Read.val_main_v14, Cert.ReferenceAdamSmallIdeal.Read.val_main_cst_5, Cert.ReferenceAdamSmallIdeal.Read.val_main_v0, Cert.ReferenceAdamSmallIdeal.Read.val_main_v2, Cert.ReferenceAdamSmallIdeal.Read.val_main_v10, Cert.ReferenceAdamSmallIdeal.Read.val_main_v13, Cert.ReferenceAdamSmallIdeal.Read.val_main_cst, Cert.ReferenceAdamSmallIdeal.Read.val_main_cst_0, Cert.ReferenceAdamSmallIdeal.Read.val_main_v6, Cert.ReferenceAdamSmallIdeal.Read.val_main_v9, Cert.ReferenceAdamSmallIdeal.Read.val_main_cst_4, Cert.ReferenceAdamSmallIdeal.Read.val_main_v5, Cert.ReferenceAdamSmallIdeal.Read.val_main_v8, Cert.ReferenceAdamSmallIdeal.Read.val_main_v7, Cert.ReferenceAdamSmallIdeal.Read.val_main_cst_1, Cert.ReferenceAdamSmallIdeal.Read.val_main_cst_2]
  blk_point [iblk, V, idx t]

/-- The kernel leaves the array the reference leaves. -/
theorem final2 : (dats m 0 c).arrAt 6 cfg0.N = Cert.ReferenceAdamSmallIdeal.Read.val_main_v4 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamSmallIdeal.Read.val_main_v4, Cert.ReferenceAdamSmallIdeal.Read.val_main_v1, Cert.ReferenceAdamSmallIdeal.Read.val_main_v3, Cert.ReferenceAdamSmallIdeal.Read.val_main_v0, Cert.ReferenceAdamSmallIdeal.Read.val_main_v2, Cert.ReferenceAdamSmallIdeal.Read.val_main_cst, Cert.ReferenceAdamSmallIdeal.Read.val_main_cst_0]
  blk_point [iblk, V, idx t]

/-- The kernel leaves the array the reference leaves. -/
theorem final3 : (dats m 0 c).arrAt 7 cfg0.N = Cert.ReferenceAdamSmallIdeal.Read.val_main_v10 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamSmallIdeal.Read.val_main_v10, Cert.ReferenceAdamSmallIdeal.Read.val_main_v6, Cert.ReferenceAdamSmallIdeal.Read.val_main_v9, Cert.ReferenceAdamSmallIdeal.Read.val_main_v5, Cert.ReferenceAdamSmallIdeal.Read.val_main_v8, Cert.ReferenceAdamSmallIdeal.Read.val_main_v7, Cert.ReferenceAdamSmallIdeal.Read.val_main_cst_1, Cert.ReferenceAdamSmallIdeal.Read.val_main_cst_2]
  blk_point [iblk, V, idx t]

end Cert.KernelAdamSmallIdeal.Claims

namespace Cert.ReferenceAdamSmallIdeal.Frame

open Cert.ReferenceAdamSmallIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamSmallIdeal.Frame

namespace Cert.KernelAdamSmallIdeal.Claims

open Idealize.ShloMosaic Idealize.SL.Sem

/-- The kernel and the reference leave the same arrays. -/
theorem algebraic : Cert.algebraic_KernelAdamSmallIdeal_ReferenceAdamSmallIdeal
    (hKernelAdamSmallIdeal := Cert.KernelAdamSmallIdeal.Gen.facts) (hReferenceAdamSmallIdeal := Cert.ReferenceAdamSmallIdeal.Gen.facts) := by
  intro m g m' g' _ hagree
  refine ⟨fun c => m ((c.tc : Thread nD τ).loc main_arg1),
    fun c => Cert.ReferenceAdamSmallIdeal.Read.val_main_v23 (m ((c.tc : Thread nD τ).loc main_arg0)) (m ((c.tc : Thread nD τ).loc main_arg1)) (m ((c.tc : Thread nD τ).loc main_arg2)) (m ((c.tc : Thread nD τ).loc main_arg3)),
    fun c => Cert.ReferenceAdamSmallIdeal.Read.val_main_v4 (m ((c.tc : Thread nD τ).loc main_arg1)) (m ((c.tc : Thread nD τ).loc main_arg2)),
    fun c => Cert.ReferenceAdamSmallIdeal.Read.val_main_v10 (m ((c.tc : Thread nD τ).loc main_arg1)) (m ((c.tc : Thread nD τ).loc main_arg3)), ?_, ?_⟩
  · refine (θ_run _ _ _).mono (fun r h c => ?_) (Cert.KernelAdamSmallIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamSmallIdeal.Value.run m' g')
    obtain ⟨h0, h1, h2, h3, hargs⟩ := h c
    obtain ⟨a0, a1, a2, a3⟩ := hagree c
    have e0 := h0.trans a1
    have e1 := h1.trans (Cert.ReferenceAdamSmallIdeal.Read.val_main_v23_eq _ _ _ _)
    rw [a0, a1, a2, a3] at e1
    have e2 := h2.trans (Cert.ReferenceAdamSmallIdeal.Read.val_main_v4_eq _ _)
    rw [a1, a2] at e2
    have e3 := h3.trans (Cert.ReferenceAdamSmallIdeal.Read.val_main_v10_eq _ _)
    rw [a1, a3] at e3
    exact ⟨e0, e1, e2, e3, hargs⟩

end Cert.KernelAdamSmallIdeal.Claims

end
-- ==== Proof.AdamIn.lean ====
/- The optimiser step of the input projection, transposed. -/
module

public import proofs.«01_k».proof.Defs
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.ReferenceAdamInIdeal.Read
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.KernelAdamInIdeal.Claims

open Cert.KernelAdamInIdeal Cert.KernelAdamInIdeal.Gen Idealize.ShloMosaic Idealize.ShloMosaic.TcCoe Idealize.SL.Sem

variable (m : (ℓ : Loc nD τ sig) → Buf (Elt Ideal) ℓ) (c : Dev nD)

/-- The block each window holds at each grid point. -/
theorem idx : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val]
    ∧ win0_7.index t = ![0, t.val] :=
  (by decide +kernel : ∀ t : Fin grid0.N, _)

/-- The kernel leaves the array the reference leaves. -/
theorem final0 : (dats m 0 c).arrAt 4 cfg0.N = Cert.ReferenceAdamInIdeal.Read.val_main_v25 (m ((c.tc : Thread nD τ).loc main_arg1)) := by
  refine (dats m 0 c).arrAt_eq_of_covers 4 _ (by decide +kernel) fun t hf y => ?_
  blk_simp
  rw [after0_4]
  frame_out
  pointwise [k0_pay1, k0_pay2, k0_pay3, Cert.ReferenceAdamInIdeal.Read.val_main_v25, Cert.ReferenceAdamInIdeal.Read.val_main_v0]
  blk_point [iblk, V, idx t]

/-- The kernel leaves the array the reference leaves. -/
theorem final1 : (dats m 0 c).arrAt 5 cfg0.N = Cert.ReferenceAdamInIdeal.Read.val_main_v26 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  pointwise [k0_pay1, k0_pay2, k0_pay3, Cert.ReferenceAdamInIdeal.Read.val_main_v26, Cert.ReferenceAdamInIdeal.Read.val_main_v24, Cert.ReferenceAdamInIdeal.Read.val_main_v23, Cert.ReferenceAdamInIdeal.Read.val_main_v22, Cert.ReferenceAdamInIdeal.Read.val_main_cst_7, Cert.ReferenceAdamInIdeal.Read.val_main_v19, Cert.ReferenceAdamInIdeal.Read.val_main_v21, Cert.ReferenceAdamInIdeal.Read.val_main_v13, Cert.ReferenceAdamInIdeal.Read.val_main_v18, Cert.ReferenceAdamInIdeal.Read.val_main_v20, Cert.ReferenceAdamInIdeal.Read.val_main_v5, Cert.ReferenceAdamInIdeal.Read.val_main_v12, Cert.ReferenceAdamInIdeal.Read.val_main_v16, Cert.ReferenceAdamInIdeal.Read.val_main_v17, Cert.ReferenceAdamInIdeal.Read.val_main_cst_6, Cert.ReferenceAdamInIdeal.Read.val_main_v2, Cert.ReferenceAdamInIdeal.Read.val_main_v4, Cert.ReferenceAdamInIdeal.Read.val_main_cst_3, Cert.ReferenceAdamInIdeal.Read.val_main_v15, Cert.ReferenceAdamInIdeal.Read.val_main_cst_5, Cert.ReferenceAdamInIdeal.Read.val_main_v1, Cert.ReferenceAdamInIdeal.Read.val_main_v3, Cert.ReferenceAdamInIdeal.Read.val_main_v0, Cert.ReferenceAdamInIdeal.Read.val_main_v11, Cert.ReferenceAdamInIdeal.Read.val_main_v14, Cert.ReferenceAdamInIdeal.Read.val_main_cst, Cert.ReferenceAdamInIdeal.Read.val_main_cst_0, Cert.ReferenceAdamInIdeal.Read.val_main_v7, Cert.ReferenceAdamInIdeal.Read.val_main_v10, Cert.ReferenceAdamInIdeal.Read.val_main_cst_4, Cert.ReferenceAdamInIdeal.Read.val_main_v6, Cert.ReferenceAdamInIdeal.Read.val_main_v9, Cert.ReferenceAdamInIdeal.Read.val_main_v8, Cert.ReferenceAdamInIdeal.Read.val_main_cst_1, Cert.ReferenceAdamInIdeal.Read.val_main_cst_2]
  blk_point [iblk, V, idx t]

/-- The kernel leaves the array the reference leaves. -/
theorem final2 : (dats m 0 c).arrAt 6 cfg0.N = Cert.ReferenceAdamInIdeal.Read.val_main_v27 (m ((c.tc : Thread nD τ).loc main_arg1)) (m ((c.tc : Thread nD τ).loc main_arg2)) := by
  refine (dats m 0 c).arrAt_eq_of_covers 6 _ (by decide +kernel) fun t hf y => ?_
  blk_simp
  rw [after0_6]
  frame_out
  pointwise [k0_pay1, k0_pay2, k0_pay3, Cert.ReferenceAdamInIdeal.Read.val_main_v27, Cert.ReferenceAdamInIdeal.Read.val_main_v5, Cert.ReferenceAdamInIdeal.Read.val_main_v2, Cert.ReferenceAdamInIdeal.Read.val_main_v4, Cert.ReferenceAdamInIdeal.Read.val_main_v1, Cert.ReferenceAdamInIdeal.Read.val_main_v3, Cert.ReferenceAdamInIdeal.Read.val_main_v0, Cert.ReferenceAdamInIdeal.Read.val_main_cst, Cert.ReferenceAdamInIdeal.Read.val_main_cst_0]
  blk_point [iblk, V, idx t]

/-- The kernel leaves the array the reference leaves. -/
theorem final3 : (dats m 0 c).arrAt 7 cfg0.N = Cert.ReferenceAdamInIdeal.Read.val_main_v28 (m ((c.tc : Thread nD τ).loc main_arg1)) (m ((c.tc : Thread nD τ).loc main_arg3)) := by
  refine (dats m 0 c).arrAt_eq_of_covers 7 _ (by decide +kernel) fun t hf y => ?_
  blk_simp
  rw [after0_7]
  frame_out
  pointwise [k0_pay1, k0_pay2, k0_pay3, Cert.ReferenceAdamInIdeal.Read.val_main_v28, Cert.ReferenceAdamInIdeal.Read.val_main_v11, Cert.ReferenceAdamInIdeal.Read.val_main_v7, Cert.ReferenceAdamInIdeal.Read.val_main_v10, Cert.ReferenceAdamInIdeal.Read.val_main_v6, Cert.ReferenceAdamInIdeal.Read.val_main_v9, Cert.ReferenceAdamInIdeal.Read.val_main_v8, Cert.ReferenceAdamInIdeal.Read.val_main_cst_1, Cert.ReferenceAdamInIdeal.Read.val_main_cst_2, Cert.ReferenceAdamInIdeal.Read.val_main_v0]
  blk_point [iblk, V, idx t]

end Cert.KernelAdamInIdeal.Claims

namespace Cert.ReferenceAdamInIdeal.Frame

open Cert.ReferenceAdamInIdeal Idealize.ShloMosaic Idealize.SL.Sem

/-- The reference is host operations alone: its run ends at their composed terms, and no semaphore exists. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2, sem_eq_zero_of_no_sems (by decide) r.2⟩) (Value.run m g)

end Cert.ReferenceAdamInIdeal.Frame

namespace Cert.KernelAdamInIdeal.Claims

open Idealize.ShloMosaic Idealize.SL.Sem

/-- The kernel and the reference leave the same arrays. -/
theorem algebraic : Cert.algebraic_KernelAdamInIdeal_ReferenceAdamInIdeal
    (hKernelAdamInIdeal := Cert.KernelAdamInIdeal.Gen.facts) (hReferenceAdamInIdeal := Cert.ReferenceAdamInIdeal.Gen.facts) := by
  intro m g m' g' _ hagree
  refine ⟨fun c => Cert.ReferenceAdamInIdeal.Read.val_main_v25 (m ((c.tc : Thread nD τ).loc main_arg1)),
    fun c => Cert.ReferenceAdamInIdeal.Read.val_main_v26 (m ((c.tc : Thread nD τ).loc main_arg0)) (m ((c.tc : Thread nD τ).loc main_arg1)) (m ((c.tc : Thread nD τ).loc main_arg2)) (m ((c.tc : Thread nD τ).loc main_arg3)),
    fun c => Cert.ReferenceAdamInIdeal.Read.val_main_v27 (m ((c.tc : Thread nD τ).loc main_arg1)) (m ((c.tc : Thread nD τ).loc main_arg2)),
    fun c => Cert.ReferenceAdamInIdeal.Read.val_main_v28 (m ((c.tc : Thread nD τ).loc main_arg1)) (m ((c.tc : Thread nD τ).loc main_arg3)), ?_, ?_⟩
  · refine (θ_run _ _ _).mono (fun r h c => ?_) (Cert.KernelAdamInIdeal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.ReferenceAdamInIdeal.Value.run m' g')
    obtain ⟨h0, h1, h2, h3, hargs⟩ := h c
    obtain ⟨a0, a1, a2, a3⟩ := hagree c
    have e0 := h0.trans (Cert.ReferenceAdamInIdeal.Read.val_main_v25_eq _)
    rw [a1] at e0
    have e1 := h1.trans (Cert.ReferenceAdamInIdeal.Read.val_main_v26_eq _ _ _ _)
    rw [a0, a1, a2, a3] at e1
    have e2 := h2.trans (Cert.ReferenceAdamInIdeal.Read.val_main_v27_eq _ _)
    rw [a1, a2] at e2
    have e3 := h3.trans (Cert.ReferenceAdamInIdeal.Read.val_main_v28_eq _ _)
    rw [a1, a3] at e3
    exact ⟨e0, e1, e2, e3, hargs⟩

end Cert.KernelAdamInIdeal.Claims

end
-- ==== Proof.lean ====
module

public import proofs.«01_k».proof.Defs
public import proofs.«01_k».proof.Proof.Attention
public import proofs.«01_k».proof.Proof.InF
public import proofs.«01_k».proof.Proof.InDa
public import proofs.«01_k».proof.Proof.InDw
public import proofs.«01_k».proof.Proof.UpF
public import proofs.«01_k».proof.Proof.UpDa
public import proofs.«01_k».proof.Proof.UpDw
public import proofs.«01_k».proof.Proof.DownF
public import proofs.«01_k».proof.Proof.DownDa
public import proofs.«01_k».proof.Proof.DownDw
public import proofs.«01_k».proof.Proof.OutF
public import proofs.«01_k».proof.Proof.OutDa
public import proofs.«01_k».proof.Proof.OutDw
public import proofs.«01_k».proof.Proof.AttnF
public import proofs.«01_k».proof.Proof.MergeF
public import proofs.«01_k».proof.Proof.MergeB
public import proofs.«01_k».proof.Proof.NormF
public import proofs.«01_k».proof.Proof.NormB
public import proofs.«01_k».proof.Proof.ResF
public import proofs.«01_k».proof.Proof.ResB
public import proofs.«01_k».proof.Proof.HeadF
public import proofs.«01_k».proof.Proof.HeadB
public import proofs.«01_k».proof.Proof.GoutF
public import proofs.«01_k».proof.Proof.NormcF
public import proofs.«01_k».proof.Proof.NormcB
public import proofs.«01_k».proof.Proof.FfnF
public import proofs.«01_k».proof.Proof.FfnB
public import proofs.«01_k».proof.Proof.PrepF
public import proofs.«01_k».proof.Proof.QF
public import proofs.«01_k».proof.Proof.KF
public import proofs.«01_k».proof.Proof.InsF
public import proofs.«01_k».proof.Proof.InsDa
public import proofs.«01_k».proof.Proof.InsDw
public import proofs.«01_k».proof.Proof.ModF
public import proofs.«01_k».proof.Proof.ModDa
public import proofs.«01_k».proof.Proof.ModDw
public import proofs.«01_k».proof.Proof.AdamMod
public import proofs.«01_k».proof.Proof.AdamSq
public import proofs.«01_k».proof.Proof.AdamUp
public import proofs.«01_k».proof.Proof.AdamDown
public import proofs.«01_k».proof.Proof.AdamSmall
public import proofs.«01_k».proof.Proof.AdamIn

@[expose] public section

noncomputable section

namespace Cert.Proof

theorem claim : Cert.Claim := ⟨
  Cert.Kernel.Gen.facts,
  Cert.KernelIdeal.Gen.facts,
  Cert.ReferenceIdeal.Gen.facts,
  Cert.KernelInF.Gen.facts,
  Cert.KernelInFIdeal.Gen.facts,
  Cert.ReferenceInFIdeal.Gen.facts,
  Cert.KernelInDa.Gen.facts,
  Cert.KernelInDaIdeal.Gen.facts,
  Cert.ReferenceInDaIdeal.Gen.facts,
  Cert.KernelInDw.Gen.facts,
  Cert.KernelInDwIdeal.Gen.facts,
  Cert.ReferenceInDwIdeal.Gen.facts,
  Cert.KernelUpF.Gen.facts,
  Cert.KernelUpFIdeal.Gen.facts,
  Cert.ReferenceUpFIdeal.Gen.facts,
  Cert.KernelUpDa.Gen.facts,
  Cert.KernelUpDaIdeal.Gen.facts,
  Cert.ReferenceUpDaIdeal.Gen.facts,
  Cert.KernelUpDw.Gen.facts,
  Cert.KernelUpDwIdeal.Gen.facts,
  Cert.ReferenceUpDwIdeal.Gen.facts,
  Cert.KernelDownF.Gen.facts,
  Cert.KernelDownFIdeal.Gen.facts,
  Cert.ReferenceDownFIdeal.Gen.facts,
  Cert.KernelDownDa.Gen.facts,
  Cert.KernelDownDaIdeal.Gen.facts,
  Cert.ReferenceDownDaIdeal.Gen.facts,
  Cert.KernelDownDw.Gen.facts,
  Cert.KernelDownDwIdeal.Gen.facts,
  Cert.ReferenceDownDwIdeal.Gen.facts,
  Cert.KernelOutF.Gen.facts,
  Cert.KernelOutFIdeal.Gen.facts,
  Cert.ReferenceOutFIdeal.Gen.facts,
  Cert.KernelOutDa.Gen.facts,
  Cert.KernelOutDaIdeal.Gen.facts,
  Cert.ReferenceOutDaIdeal.Gen.facts,
  Cert.KernelOutDw.Gen.facts,
  Cert.KernelOutDwIdeal.Gen.facts,
  Cert.ReferenceOutDwIdeal.Gen.facts,
  Cert.KernelAttnF.Gen.facts,
  Cert.KernelAttnFIdeal.Gen.facts,
  Cert.ReferenceAttnFIdeal.Gen.facts,
  Cert.KernelMergeF.Gen.facts,
  Cert.KernelMergeFIdeal.Gen.facts,
  Cert.ReferenceMergeFIdeal.Gen.facts,
  Cert.KernelMergeB.Gen.facts,
  Cert.KernelMergeBIdeal.Gen.facts,
  Cert.ReferenceMergeBIdeal.Gen.facts,
  Cert.KernelNormF.Gen.facts,
  Cert.KernelNormFIdeal.Gen.facts,
  Cert.ReferenceNormFIdeal.Gen.facts,
  Cert.KernelNormB.Gen.facts,
  Cert.KernelNormBIdeal.Gen.facts,
  Cert.ReferenceNormBIdeal.Gen.facts,
  Cert.KernelResF.Gen.facts,
  Cert.KernelResFIdeal.Gen.facts,
  Cert.ReferenceResFIdeal.Gen.facts,
  Cert.KernelResB.Gen.facts,
  Cert.KernelResBIdeal.Gen.facts,
  Cert.ReferenceResBIdeal.Gen.facts,
  Cert.KernelHeadF.Gen.facts,
  Cert.KernelHeadFIdeal.Gen.facts,
  Cert.ReferenceHeadFIdeal.Gen.facts,
  Cert.KernelHeadB.Gen.facts,
  Cert.KernelHeadBIdeal.Gen.facts,
  Cert.ReferenceHeadBIdeal.Gen.facts,
  Cert.KernelGoutF.Gen.facts,
  Cert.KernelGoutFIdeal.Gen.facts,
  Cert.ReferenceGoutFIdeal.Gen.facts,
  Cert.KernelNormcF.Gen.facts,
  Cert.KernelNormcFIdeal.Gen.facts,
  Cert.ReferenceNormcFIdeal.Gen.facts,
  Cert.KernelNormcB.Gen.facts,
  Cert.KernelNormcBIdeal.Gen.facts,
  Cert.ReferenceNormcBIdeal.Gen.facts,
  Cert.KernelFfnF.Gen.facts,
  Cert.KernelFfnFIdeal.Gen.facts,
  Cert.ReferenceFfnFIdeal.Gen.facts,
  Cert.KernelFfnB.Gen.facts,
  Cert.KernelFfnBIdeal.Gen.facts,
  Cert.ReferenceFfnBIdeal.Gen.facts,
  Cert.KernelPrepF.Gen.facts,
  Cert.KernelPrepFIdeal.Gen.facts,
  Cert.ReferencePrepFIdeal.Gen.facts,
  Cert.KernelQF.Gen.facts,
  Cert.KernelQFIdeal.Gen.facts,
  Cert.ReferenceQFIdeal.Gen.facts,
  Cert.KernelKF.Gen.facts,
  Cert.KernelKFIdeal.Gen.facts,
  Cert.ReferenceKFIdeal.Gen.facts,
  Cert.KernelInsF.Gen.facts,
  Cert.KernelInsFIdeal.Gen.facts,
  Cert.ReferenceInsFIdeal.Gen.facts,
  Cert.KernelInsDa.Gen.facts,
  Cert.KernelInsDaIdeal.Gen.facts,
  Cert.ReferenceInsDaIdeal.Gen.facts,
  Cert.KernelInsDw.Gen.facts,
  Cert.KernelInsDwIdeal.Gen.facts,
  Cert.ReferenceInsDwIdeal.Gen.facts,
  Cert.KernelModF.Gen.facts,
  Cert.KernelModFIdeal.Gen.facts,
  Cert.ReferenceModFIdeal.Gen.facts,
  Cert.KernelModDa.Gen.facts,
  Cert.KernelModDaIdeal.Gen.facts,
  Cert.ReferenceModDaIdeal.Gen.facts,
  Cert.KernelModDw.Gen.facts,
  Cert.KernelModDwIdeal.Gen.facts,
  Cert.ReferenceModDwIdeal.Gen.facts,
  Cert.KernelAdamMod.Gen.facts,
  Cert.KernelAdamModIdeal.Gen.facts,
  Cert.ReferenceAdamModIdeal.Gen.facts,
  Cert.KernelAdamSq.Gen.facts,
  Cert.KernelAdamSqIdeal.Gen.facts,
  Cert.ReferenceAdamSqIdeal.Gen.facts,
  Cert.KernelAdamUp.Gen.facts,
  Cert.KernelAdamUpIdeal.Gen.facts,
  Cert.ReferenceAdamUpIdeal.Gen.facts,
  Cert.KernelAdamDown.Gen.facts,
  Cert.KernelAdamDownIdeal.Gen.facts,
  Cert.ReferenceAdamDownIdeal.Gen.facts,
  Cert.KernelAdamSmall.Gen.facts,
  Cert.KernelAdamSmallIdeal.Gen.facts,
  Cert.ReferenceAdamSmallIdeal.Gen.facts,
  Cert.KernelAdamIn.Gen.facts,
  Cert.KernelAdamInIdeal.Gen.facts,
  Cert.ReferenceAdamInIdeal.Gen.facts,
  Cert.Pre_finite_qk.facts,
  Cert.Pre_finite_qk_f.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Frame.frame m ρ,
  fun m ρ _ => Cert.ReferenceIdeal.Frame.frame m ρ,
  fun m ρ _ => Cert.KernelInF.Gen.frame m ρ,
  fun m ρ _ => Cert.KernelInFIdeal.Gen.frame m ρ,
  fun m ρ _ => Cert.ReferenceInFIdeal.Frame.frame m ρ,
  fun m ρ _ => Cert.KernelInDa.Gen.frame m ρ,
  fun m ρ _ => Cert.KernelInDaIdeal.Gen.frame m ρ,
  fun m ρ _ => Cert.ReferenceInDaIdeal.Frame.frame m ρ,
  fun m ρ _ => Cert.KernelInDw.Gen.frame m ρ,
  fun m ρ _ => Cert.KernelInDwIdeal.Gen.frame m ρ,
  fun m ρ _ => Cert.ReferenceInDwIdeal.Frame.frame m ρ,
  fun m ρ _ => Cert.KernelUpF.Gen.frame m ρ,
  fun m ρ _ => Cert.KernelUpFIdeal.Gen.frame m ρ,
  fun m ρ _ => Cert.ReferenceUpFIdeal.Frame.frame m ρ,
  fun m ρ _ => Cert.KernelUpDa.Gen.frame m ρ,
  fun m ρ _ => Cert.KernelUpDaIdeal.Gen.frame m ρ,
  fun m ρ _ => Cert.ReferenceUpDaIdeal.Frame.frame m ρ,
  fun m ρ _ => Cert.KernelUpDw.Gen.frame m ρ,
  fun m ρ _ => Cert.KernelUpDwIdeal.Gen.frame m ρ,
  fun m ρ _ => Cert.ReferenceUpDwIdeal.Frame.frame m ρ,
  fun m ρ _ => Cert.KernelDownF.Gen.frame m ρ,
  fun m ρ _ => Cert.KernelDownFIdeal.Gen.frame m ρ,
  fun m ρ _ => Cert.ReferenceDownFIdeal.Frame.frame m ρ,
  fun m ρ _ => Cert.KernelDownDa.Gen.frame m ρ,
  fun m ρ _ => Cert.KernelDownDaIdeal.Gen.frame m ρ,
  fun m ρ _ => Cert.ReferenceDownDaIdeal.Frame.frame m ρ,
  fun m ρ _ => Cert.KernelDownDw.Gen.frame m ρ,
  fun m ρ _ => Cert.KernelDownDwIdeal.Gen.frame m ρ,
  fun m ρ _ => Cert.ReferenceDownDwIdeal.Frame.frame m ρ,
  fun m ρ _ => Cert.KernelOutF.Gen.frame m ρ,
  fun m ρ _ => Cert.KernelOutFIdeal.Gen.frame m ρ,
  fun m ρ _ => Cert.ReferenceOutFIdeal.Frame.frame m ρ,
  fun m ρ _ => Cert.KernelOutDa.Gen.frame m ρ,
  fun m ρ _ => Cert.KernelOutDaIdeal.Gen.frame m ρ,
  fun m ρ _ => Cert.ReferenceOutDaIdeal.Frame.frame m ρ,
  fun m ρ _ => Cert.KernelOutDw.Gen.frame m ρ,
  fun m ρ _ => Cert.KernelOutDwIdeal.Gen.frame m ρ,
  fun m ρ _ => Cert.ReferenceOutDwIdeal.Frame.frame m ρ,
  fun m ρ _ => Cert.KernelAttnF.Gen.frame m ρ,
  fun m ρ _ => Cert.KernelAttnFIdeal.Gen.frame m ρ,
  fun m ρ _ => Cert.KernelAttnFIdeal.Gen.frame m ρ,
  fun m ρ _ => Cert.ReferenceAttnFIdeal.Frame.frame m ρ,
  fun m ρ _ => Cert.ReferenceAttnFIdeal.Frame.frame m ρ,
  fun m ρ _ => Cert.KernelMergeF.Gen.frame m ρ,
  fun m ρ _ => Cert.KernelMergeFIdeal.Gen.frame m ρ,
  fun m ρ _ => Cert.ReferenceMergeFIdeal.Frame.frame m ρ,
  fun m ρ _ => Cert.KernelMergeB.Gen.frame m ρ,
  fun m ρ _ => Cert.KernelMergeBIdeal.Gen.frame m ρ,
  fun m ρ _ => Cert.ReferenceMergeBIdeal.Frame.frame m ρ,
  fun m ρ _ => Cert.KernelNormF.Gen.frame m ρ,
  fun m ρ _ => Cert.KernelNormFIdeal.Gen.frame m ρ,
  fun m ρ _ => Cert.ReferenceNormFIdeal.Frame.frame m ρ,
  fun m ρ _ => Cert.KernelNormB.Gen.frame m ρ,
  fun m ρ _ => Cert.KernelNormBIdeal.Gen.frame m ρ,
  fun m ρ _ => Cert.ReferenceNormBIdeal.Frame.frame m ρ,
  fun m ρ _ => Cert.KernelResF.Gen.frame m ρ,
  fun m ρ _ => Cert.KernelResFIdeal.Gen.frame m ρ,
  fun m ρ _ => Cert.ReferenceResFIdeal.Frame.frame m ρ,
  fun m ρ _ => Cert.KernelResB.Gen.frame m ρ,
  fun m ρ _ => Cert.KernelResBIdeal.Gen.frame m ρ,
  fun m ρ _ => Cert.ReferenceResBIdeal.Frame.frame m ρ,
  fun m ρ _ => Cert.KernelHeadF.Gen.frame m ρ,
  fun m ρ _ => Cert.KernelHeadFIdeal.Gen.frame m ρ,
  fun m ρ _ => Cert.ReferenceHeadFIdeal.Frame.frame m ρ,
  fun m ρ _ => Cert.KernelHeadB.Gen.frame m ρ,
  fun m ρ _ => Cert.KernelHeadBIdeal.Gen.frame m ρ,
  fun m ρ _ => Cert.ReferenceHeadBIdeal.Frame.frame m ρ,
  fun m ρ _ => Cert.KernelGoutF.Gen.frame m ρ,
  fun m ρ _ => Cert.KernelGoutFIdeal.Gen.frame m ρ,
  fun m ρ _ => Cert.ReferenceGoutFIdeal.Frame.frame m ρ,
  fun m ρ _ => Cert.KernelNormcF.Gen.frame m ρ,
  fun m ρ _ => Cert.KernelNormcFIdeal.Gen.frame m ρ,
  fun m ρ _ => Cert.ReferenceNormcFIdeal.Frame.frame m ρ,
  fun m ρ _ => Cert.KernelNormcB.Gen.frame m ρ,
  fun m ρ _ => Cert.KernelNormcBIdeal.Gen.frame m ρ,
  fun m ρ _ => Cert.ReferenceNormcBIdeal.Frame.frame m ρ,
  fun m ρ _ => Cert.KernelFfnF.Gen.frame m ρ,
  fun m ρ _ => Cert.KernelFfnFIdeal.Gen.frame m ρ,
  fun m ρ _ => Cert.ReferenceFfnFIdeal.Frame.frame m ρ,
  fun m ρ _ => Cert.KernelFfnB.Gen.frame m ρ,
  fun m ρ _ => Cert.KernelFfnBIdeal.Gen.frame m ρ,
  fun m ρ _ => Cert.ReferenceFfnBIdeal.Frame.frame m ρ,
  fun m ρ _ => Cert.KernelPrepF.Gen.frame m ρ,
  fun m ρ _ => Cert.KernelPrepFIdeal.Gen.frame m ρ,
  fun m ρ _ => Cert.ReferencePrepFIdeal.Frame.frame m ρ,
  fun m ρ _ => Cert.KernelQF.Gen.frame m ρ,
  fun m ρ _ => Cert.KernelQFIdeal.Gen.frame m ρ,
  fun m ρ _ => Cert.ReferenceQFIdeal.Frame.frame m ρ,
  fun m ρ _ => Cert.KernelKF.Gen.frame m ρ,
  fun m ρ _ => Cert.KernelKFIdeal.Gen.frame m ρ,
  fun m ρ _ => Cert.ReferenceKFIdeal.Frame.frame m ρ,
  fun m ρ _ => Cert.KernelInsF.Gen.frame m ρ,
  fun m ρ _ => Cert.KernelInsFIdeal.Gen.frame m ρ,
  fun m ρ _ => Cert.ReferenceInsFIdeal.Frame.frame m ρ,
  fun m ρ _ => Cert.KernelInsDa.Gen.frame m ρ,
  fun m ρ _ => Cert.KernelInsDaIdeal.Gen.frame m ρ,
  fun m ρ _ => Cert.ReferenceInsDaIdeal.Frame.frame m ρ,
  fun m ρ _ => Cert.KernelInsDw.Gen.frame m ρ,
  fun m ρ _ => Cert.KernelInsDwIdeal.Gen.frame m ρ,
  fun m ρ _ => Cert.ReferenceInsDwIdeal.Frame.frame m ρ,
  fun m ρ _ => Cert.KernelModF.Gen.frame m ρ,
  fun m ρ _ => Cert.KernelModFIdeal.Gen.frame m ρ,
  fun m ρ _ => Cert.ReferenceModFIdeal.Frame.frame m ρ,
  fun m ρ _ => Cert.KernelModDa.Gen.frame m ρ,
  fun m ρ _ => Cert.KernelModDaIdeal.Gen.frame m ρ,
  fun m ρ _ => Cert.ReferenceModDaIdeal.Frame.frame m ρ,
  fun m ρ _ => Cert.KernelModDw.Gen.frame m ρ,
  fun m ρ _ => Cert.KernelModDwIdeal.Gen.frame m ρ,
  fun m ρ _ => Cert.ReferenceModDwIdeal.Frame.frame m ρ,
  fun m ρ _ => Cert.KernelAdamMod.Gen.frame m ρ,
  fun m ρ _ => Cert.KernelAdamModIdeal.Gen.frame m ρ,
  fun m ρ _ => Cert.ReferenceAdamModIdeal.Frame.frame m ρ,
  fun m ρ _ => Cert.KernelAdamSq.Gen.frame m ρ,
  fun m ρ _ => Cert.KernelAdamSqIdeal.Gen.frame m ρ,
  fun m ρ _ => Cert.ReferenceAdamSqIdeal.Frame.frame m ρ,
  fun m ρ _ => Cert.KernelAdamUp.Gen.frame m ρ,
  fun m ρ _ => Cert.KernelAdamUpIdeal.Gen.frame m ρ,
  fun m ρ _ => Cert.ReferenceAdamUpIdeal.Frame.frame m ρ,
  fun m ρ _ => Cert.KernelAdamDown.Gen.frame m ρ,
  fun m ρ _ => Cert.KernelAdamDownIdeal.Gen.frame m ρ,
  fun m ρ _ => Cert.ReferenceAdamDownIdeal.Frame.frame m ρ,
  fun m ρ _ => Cert.KernelAdamSmall.Gen.frame m ρ,
  fun m ρ _ => Cert.KernelAdamSmallIdeal.Gen.frame m ρ,
  fun m ρ _ => Cert.ReferenceAdamSmallIdeal.Frame.frame m ρ,
  fun m ρ _ => Cert.KernelAdamIn.Gen.frame m ρ,
  fun m ρ _ => Cert.KernelAdamInIdeal.Gen.frame m ρ,
  fun m ρ _ => Cert.ReferenceAdamInIdeal.Frame.frame m ρ,
  trivial,
  @Cert.KernelIdeal.Claims.algebraic Cert.Pre_finite_qk.facts,
  trivial,
  Cert.KernelInFIdeal.Claims.algebraic,
  trivial,
  Cert.KernelInDaIdeal.Claims.algebraic,
  trivial,
  Cert.KernelInDwIdeal.Claims.algebraic,
  trivial,
  Cert.KernelUpFIdeal.Claims.algebraic,
  trivial,
  Cert.KernelUpDaIdeal.Claims.algebraic,
  trivial,
  Cert.KernelUpDwIdeal.Claims.algebraic,
  trivial,
  Cert.KernelDownFIdeal.Claims.algebraic,
  trivial,
  Cert.KernelDownDaIdeal.Claims.algebraic,
  trivial,
  Cert.KernelDownDwIdeal.Claims.algebraic,
  trivial,
  Cert.KernelOutFIdeal.Claims.algebraic,
  trivial,
  Cert.KernelOutDaIdeal.Claims.algebraic,
  trivial,
  Cert.KernelOutDwIdeal.Claims.algebraic,
  trivial,
  @Cert.KernelAttnFIdeal.Claims.algebraic Cert.Pre_finite_qk_f.facts,
  trivial,
  Cert.KernelMergeFIdeal.Claims.algebraic,
  trivial,
  Cert.KernelMergeBIdeal.Claims.algebraic,
  trivial,
  Cert.KernelNormFIdeal.Claims.algebraic,
  trivial,
  Cert.KernelNormBIdeal.Claims.algebraic,
  trivial,
  Cert.KernelResFIdeal.Claims.algebraic,
  trivial,
  Cert.KernelResBIdeal.Claims.algebraic,
  trivial,
  Cert.KernelHeadFIdeal.Claims.algebraic,
  trivial,
  Cert.KernelHeadBIdeal.Claims.algebraic,
  trivial,
  Cert.KernelGoutFIdeal.Claims.algebraic,
  trivial,
  Cert.KernelNormcFIdeal.Claims.algebraic,
  trivial,
  Cert.KernelNormcBIdeal.Claims.algebraic,
  trivial,
  Cert.KernelFfnFIdeal.Claims.algebraic,
  trivial,
  Cert.KernelFfnBIdeal.Claims.algebraic,
  trivial,
  Cert.KernelPrepFIdeal.Claims.algebraic,
  trivial,
  Cert.KernelQFIdeal.Claims.algebraic,
  trivial,
  Cert.KernelKFIdeal.Claims.algebraic,
  trivial,
  Cert.KernelInsFIdeal.Claims.algebraic,
  trivial,
  Cert.KernelInsDaIdeal.Claims.algebraic,
  trivial,
  Cert.KernelInsDwIdeal.Claims.algebraic,
  trivial,
  Cert.KernelModFIdeal.Claims.algebraic,
  trivial,
  Cert.KernelModDaIdeal.Claims.algebraic,
  trivial,
  Cert.KernelModDwIdeal.Claims.algebraic,
  trivial,
  Cert.KernelAdamModIdeal.Claims.algebraic,
  trivial,
  Cert.KernelAdamSqIdeal.Claims.algebraic,
  trivial,
  Cert.KernelAdamUpIdeal.Claims.algebraic,
  trivial,
  Cert.KernelAdamDownIdeal.Claims.algebraic,
  trivial,
  Cert.KernelAdamSmallIdeal.Claims.algebraic,
  trivial,
  Cert.KernelAdamInIdeal.Claims.algebraic⟩

end Cert.Proof

end
